-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_representable [hPre_representable : Cert.Pre_representable.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_representable.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_representable [hPre_representable : Cert.Pre_representable.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_representable.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite [hPre_finite : Cert.Pre_finite.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite [hPre_finite : Cert.Pre_finite.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3))) = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_representable [hKernel2Ideal : Cert.Kernel2Ideal.Facts] [hPre_representable : Cert.Pre_representable.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_representable m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_representable [hReference2Ideal : Cert.Reference2Ideal.Facts] [hPre_representable : Cert.Pre_representable.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_representable m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Kernel20Ideal_pre_finite [hKernel20Ideal : Cert.Kernel20Ideal.Facts] [hPre_finite : Cert.Pre_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Reference20Ideal_pre_finite [hReference20Ideal : Cert.Reference20Ideal.Facts] [hPre_finite : Cert.Pre_finite.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3)
      ∧ r.2.mem ((c.tc : Thread Cert.Kernel33.nD Cert.Kernel33.τ).loc Cert.Kernel33.main_arg4) = m ((c.tc : Thread Cert.Kernel33.nD Cert.Kernel33.τ).loc Cert.Kernel33.main_arg4)
      ∧ r.2.mem ((c.tc : Thread Cert.Kernel33.nD Cert.Kernel33.τ).loc Cert.Kernel33.main_arg5) = m ((c.tc : Thread Cert.Kernel33.nD Cert.Kernel33.τ).loc Cert.Kernel33.main_arg5)
      ∧ r.2.mem ((c.tc : Thread Cert.Kernel33.nD Cert.Kernel33.τ).loc Cert.Kernel33.main_arg6) = m ((c.tc : Thread Cert.Kernel33.nD Cert.Kernel33.τ).loc Cert.Kernel33.main_arg6)
      ∧ r.2.mem ((c.tc : Thread Cert.Kernel33.nD Cert.Kernel33.τ).loc Cert.Kernel33.main_arg7) = m ((c.tc : Thread Cert.Kernel33.nD Cert.Kernel33.τ).loc Cert.Kernel33.main_arg7)
      ∧ r.2.mem ((c.tc : Thread Cert.Kernel33.nD Cert.Kernel33.τ).loc Cert.Kernel33.main_arg8) = m ((c.tc : Thread Cert.Kernel33.nD Cert.Kernel33.τ).loc Cert.Kernel33.main_arg8)
      ∧ r.2.mem ((c.tc : Thread Cert.Kernel33.nD Cert.Kernel33.τ).loc Cert.Kernel33.main_arg9) = m ((c.tc : Thread Cert.Kernel33.nD Cert.Kernel33.τ).loc Cert.Kernel33.main_arg9))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
      ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
      ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
      ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
      ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
      ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
      ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3)
      ∧ r.2.mem ((c.tc : Thread Cert.Reference33Ideal.nD Cert.Reference33Ideal.τ).loc Cert.Reference33Ideal.main_arg4) = m ((c.tc : Thread Cert.Reference33Ideal.nD Cert.Reference33Ideal.τ).loc Cert.Reference33Ideal.main_arg4)
      ∧ r.2.mem ((c.tc : Thread Cert.Reference33Ideal.nD Cert.Reference33Ideal.τ).loc Cert.Reference33Ideal.main_arg5) = m ((c.tc : Thread Cert.Reference33Ideal.nD Cert.Reference33Ideal.τ).loc Cert.Reference33Ideal.main_arg5)
      ∧ r.2.mem ((c.tc : Thread Cert.Reference33Ideal.nD Cert.Reference33Ideal.τ).loc Cert.Reference33Ideal.main_arg6) = m ((c.tc : Thread Cert.Reference33Ideal.nD Cert.Reference33Ideal.τ).loc Cert.Reference33Ideal.main_arg6)
      ∧ r.2.mem ((c.tc : Thread Cert.Reference33Ideal.nD Cert.Reference33Ideal.τ).loc Cert.Reference33Ideal.main_arg7) = m ((c.tc : Thread Cert.Reference33Ideal.nD Cert.Reference33Ideal.τ).loc Cert.Reference33Ideal.main_arg7)
      ∧ r.2.mem ((c.tc : Thread Cert.Reference33Ideal.nD Cert.Reference33Ideal.τ).loc Cert.Reference33Ideal.main_arg8) = m ((c.tc : Thread Cert.Reference33Ideal.nD Cert.Reference33Ideal.τ).loc Cert.Reference33Ideal.main_arg8)
      ∧ r.2.mem ((c.tc : Thread Cert.Reference33Ideal.nD Cert.Reference33Ideal.τ).loc Cert.Reference33Ideal.main_arg9) = m ((c.tc : Thread Cert.Reference33Ideal.nD Cert.Reference33Ideal.τ).loc Cert.Reference33Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v476) = v0 c
          ∧ r.2.mem ((c.tc : Thread Cert.ReferenceIdeal.nD Cert.ReferenceIdeal.τ).loc Cert.ReferenceIdeal.main_v477) = v1 c
          ∧ r.2.mem ((c.tc : Thread Cert.ReferenceIdeal.nD Cert.ReferenceIdeal.τ).loc Cert.ReferenceIdeal.main_v478) = v2 c
          ∧ r.2.mem ((c.tc : Thread Cert.ReferenceIdeal.nD Cert.ReferenceIdeal.τ).loc Cert.ReferenceIdeal.main_v479) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_representable [hKernel2Ideal : Cert.Kernel2Ideal.Facts] [hReference2Ideal : Cert.Reference2Ideal.Facts] [hPre_representable : Cert.Pre_representable.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_representable m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v36) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v19) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v14)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v14)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v14) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v14)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v14) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_pre_finite [hKernel20Ideal : Cert.Kernel20Ideal.Facts] [hReference20Ideal : Cert.Reference20Ideal.Facts] [hPre_finite : Cert.Pre_finite.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v77) = v0 c
          ∧ r.2.mem ((c.tc : Thread Cert.Reference20Ideal.nD Cert.Reference20Ideal.τ).loc Cert.Reference20Ideal.main_v78) = v1 c
          ∧ r.2.mem ((c.tc : Thread Cert.Reference20Ideal.nD Cert.Reference20Ideal.τ).loc Cert.Reference20Ideal.main_v79) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v1_0)) (v1 : (c : Dev Cert.Kernel21Ideal.nD) → Buf (Elt Ideal) ((c.tc : Thread Cert.Kernel21Ideal.nD Cert.Kernel21Ideal.τ).loc Cert.Kernel21Ideal.main_v1_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1_0) = v0 c
          ∧ r.2.mem ((c.tc : Thread Cert.Kernel21Ideal.nD Cert.Kernel21Ideal.τ).loc Cert.Kernel21Ideal.main_v1_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v169) = v0 c
          ∧ r.2.mem ((c.tc : Thread Cert.Reference21Ideal.nD Cert.Reference21Ideal.τ).loc Cert.Reference21Ideal.main_v199) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v12) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v16) = v0 c
          ∧ r.2.mem ((c.tc : Thread Cert.Reference23Ideal.nD Cert.Reference23Ideal.τ).loc Cert.Reference23Ideal.main_v17) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v2_0)) (v1 : (c : Dev Cert.Kernel25Ideal.nD) → Buf (Elt Ideal) ((c.tc : Thread Cert.Kernel25Ideal.nD Cert.Kernel25Ideal.τ).loc Cert.Kernel25Ideal.main_v2_1)) (v2 : (c : Dev Cert.Kernel25Ideal.nD) → Buf (Elt Ideal) ((c.tc : Thread Cert.Kernel25Ideal.nD Cert.Kernel25Ideal.τ).loc Cert.Kernel25Ideal.main_v2_2)) (v3 : (c : Dev Cert.Kernel25Ideal.nD) → Buf (Elt Ideal) ((c.tc : Thread Cert.Kernel25Ideal.nD Cert.Kernel25Ideal.τ).loc Cert.Kernel25Ideal.main_v2_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2_0) = v0 c
          ∧ r.2.mem ((c.tc : Thread Cert.Kernel25Ideal.nD Cert.Kernel25Ideal.τ).loc Cert.Kernel25Ideal.main_v2_1) = v1 c
          ∧ r.2.mem ((c.tc : Thread Cert.Kernel25Ideal.nD Cert.Kernel25Ideal.τ).loc Cert.Kernel25Ideal.main_v2_2) = v2 c
          ∧ r.2.mem ((c.tc : Thread Cert.Kernel25Ideal.nD Cert.Kernel25Ideal.τ).loc Cert.Kernel25Ideal.main_v2_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v8) = v0 c
          ∧ r.2.mem ((c.tc : Thread Cert.Reference25Ideal.nD Cert.Reference25Ideal.τ).loc Cert.Reference25Ideal.main_v32) = v1 c
          ∧ r.2.mem ((c.tc : Thread Cert.Reference25Ideal.nD Cert.Reference25Ideal.τ).loc Cert.Reference25Ideal.main_v13) = v2 c
          ∧ r.2.mem ((c.tc : Thread Cert.Reference25Ideal.nD Cert.Reference25Ideal.τ).loc Cert.Reference25Ideal.main_v19) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v2_0)) (v1 : (c : Dev Cert.Kernel26Ideal.nD) → Buf (Elt Ideal) ((c.tc : Thread Cert.Kernel26Ideal.nD Cert.Kernel26Ideal.τ).loc Cert.Kernel26Ideal.main_v2_1)) (v2 : (c : Dev Cert.Kernel26Ideal.nD) → Buf (Elt Ideal) ((c.tc : Thread Cert.Kernel26Ideal.nD Cert.Kernel26Ideal.τ).loc Cert.Kernel26Ideal.main_v2_2)) (v3 : (c : Dev Cert.Kernel26Ideal.nD) → Buf (Elt Ideal) ((c.tc : Thread Cert.Kernel26Ideal.nD Cert.Kernel26Ideal.τ).loc Cert.Kernel26Ideal.main_v2_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2_0) = v0 c
          ∧ r.2.mem ((c.tc : Thread Cert.Kernel26Ideal.nD Cert.Kernel26Ideal.τ).loc Cert.Kernel26Ideal.main_v2_1) = v1 c
          ∧ r.2.mem ((c.tc : Thread Cert.Kernel26Ideal.nD Cert.Kernel26Ideal.τ).loc Cert.Kernel26Ideal.main_v2_2) = v2 c
          ∧ r.2.mem ((c.tc : Thread Cert.Kernel26Ideal.nD Cert.Kernel26Ideal.τ).loc Cert.Kernel26Ideal.main_v2_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_v32) = v1 c
          ∧ r.2.mem ((c.tc : Thread Cert.Reference26Ideal.nD Cert.Reference26Ideal.τ).loc Cert.Reference26Ideal.main_v13) = v2 c
          ∧ r.2.mem ((c.tc : Thread Cert.Reference26Ideal.nD Cert.Reference26Ideal.τ).loc Cert.Reference26Ideal.main_v19) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v2_0)) (v1 : (c : Dev Cert.Kernel27Ideal.nD) → Buf (Elt Ideal) ((c.tc : Thread Cert.Kernel27Ideal.nD Cert.Kernel27Ideal.τ).loc Cert.Kernel27Ideal.main_v2_1)) (v2 : (c : Dev Cert.Kernel27Ideal.nD) → Buf (Elt Ideal) ((c.tc : Thread Cert.Kernel27Ideal.nD Cert.Kernel27Ideal.τ).loc Cert.Kernel27Ideal.main_v2_2)) (v3 : (c : Dev Cert.Kernel27Ideal.nD) → Buf (Elt Ideal) ((c.tc : Thread Cert.Kernel27Ideal.nD Cert.Kernel27Ideal.τ).loc Cert.Kernel27Ideal.main_v2_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2_0) = v0 c
          ∧ r.2.mem ((c.tc : Thread Cert.Kernel27Ideal.nD Cert.Kernel27Ideal.τ).loc Cert.Kernel27Ideal.main_v2_1) = v1 c
          ∧ r.2.mem ((c.tc : Thread Cert.Kernel27Ideal.nD Cert.Kernel27Ideal.τ).loc Cert.Kernel27Ideal.main_v2_2) = v2 c
          ∧ r.2.mem ((c.tc : Thread Cert.Kernel27Ideal.nD Cert.Kernel27Ideal.τ).loc Cert.Kernel27Ideal.main_v2_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_v32) = v1 c
          ∧ r.2.mem ((c.tc : Thread Cert.Reference27Ideal.nD Cert.Reference27Ideal.τ).loc Cert.Reference27Ideal.main_v13) = v2 c
          ∧ r.2.mem ((c.tc : Thread Cert.Reference27Ideal.nD Cert.Reference27Ideal.τ).loc Cert.Reference27Ideal.main_v19) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v2_0)) (v1 : (c : Dev Cert.Kernel28Ideal.nD) → Buf (Elt Ideal) ((c.tc : Thread Cert.Kernel28Ideal.nD Cert.Kernel28Ideal.τ).loc Cert.Kernel28Ideal.main_v2_1)) (v2 : (c : Dev Cert.Kernel28Ideal.nD) → Buf (Elt Ideal) ((c.tc : Thread Cert.Kernel28Ideal.nD Cert.Kernel28Ideal.τ).loc Cert.Kernel28Ideal.main_v2_2)) (v3 : (c : Dev Cert.Kernel28Ideal.nD) → Buf (Elt Ideal) ((c.tc : Thread Cert.Kernel28Ideal.nD Cert.Kernel28Ideal.τ).loc Cert.Kernel28Ideal.main_v2_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2_0) = v0 c
          ∧ r.2.mem ((c.tc : Thread Cert.Kernel28Ideal.nD Cert.Kernel28Ideal.τ).loc Cert.Kernel28Ideal.main_v2_1) = v1 c
          ∧ r.2.mem ((c.tc : Thread Cert.Kernel28Ideal.nD Cert.Kernel28Ideal.τ).loc Cert.Kernel28Ideal.main_v2_2) = v2 c
          ∧ r.2.mem ((c.tc : Thread Cert.Kernel28Ideal.nD Cert.Kernel28Ideal.τ).loc Cert.Kernel28Ideal.main_v2_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v8) = v0 c
          ∧ r.2.mem ((c.tc : Thread Cert.Reference28Ideal.nD Cert.Reference28Ideal.τ).loc Cert.Reference28Ideal.main_v32) = v1 c
          ∧ r.2.mem ((c.tc : Thread Cert.Reference28Ideal.nD Cert.Reference28Ideal.τ).loc Cert.Reference28Ideal.main_v13) = v2 c
          ∧ r.2.mem ((c.tc : Thread Cert.Reference28Ideal.nD Cert.Reference28Ideal.τ).loc Cert.Reference28Ideal.main_v19) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)) (v3 : (c : Dev Cert.Kernel29Ideal.nD) → Buf (Elt Ideal) ((c.tc : Thread Cert.Kernel29Ideal.nD Cert.Kernel29Ideal.τ).loc Cert.Kernel29Ideal.main_v4_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_v4_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v16) = v0 c
          ∧ r.2.mem ((c.tc : Thread Cert.Reference29Ideal.nD Cert.Reference29Ideal.τ).loc Cert.Reference29Ideal.main_v40) = v1 c
          ∧ r.2.mem ((c.tc : Thread Cert.Reference29Ideal.nD Cert.Reference29Ideal.τ).loc Cert.Reference29Ideal.main_v21) = v2 c
          ∧ r.2.mem ((c.tc : Thread Cert.Reference29Ideal.nD Cert.Reference29Ideal.τ).loc Cert.Reference29Ideal.main_v27) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)) (v3 : (c : Dev Cert.Kernel30Ideal.nD) → Buf (Elt Ideal) ((c.tc : Thread Cert.Kernel30Ideal.nD Cert.Kernel30Ideal.τ).loc Cert.Kernel30Ideal.main_v4_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_v4_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v16) = v0 c
          ∧ r.2.mem ((c.tc : Thread Cert.Reference30Ideal.nD Cert.Reference30Ideal.τ).loc Cert.Reference30Ideal.main_v40) = v1 c
          ∧ r.2.mem ((c.tc : Thread Cert.Reference30Ideal.nD Cert.Reference30Ideal.τ).loc Cert.Reference30Ideal.main_v21) = v2 c
          ∧ r.2.mem ((c.tc : Thread Cert.Reference30Ideal.nD Cert.Reference30Ideal.τ).loc Cert.Reference30Ideal.main_v27) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_v25) = v1 c
          ∧ r.2.mem ((c.tc : Thread Cert.Reference31Ideal.nD Cert.Reference31Ideal.τ).loc Cert.Reference31Ideal.main_v6) = v2 c
          ∧ r.2.mem ((c.tc : Thread Cert.Reference31Ideal.nD Cert.Reference31Ideal.τ).loc Cert.Reference31Ideal.main_v12) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)
      ∧ m' ((c.tc : Thread Cert.Reference33Ideal.nD Cert.Reference33Ideal.τ).loc Cert.Reference33Ideal.main_arg4) = m ((c.tc : Thread Cert.Kernel33Ideal.nD Cert.Kernel33Ideal.τ).loc Cert.Kernel33Ideal.main_arg4)
      ∧ m' ((c.tc : Thread Cert.Reference33Ideal.nD Cert.Reference33Ideal.τ).loc Cert.Reference33Ideal.main_arg5) = m ((c.tc : Thread Cert.Kernel33Ideal.nD Cert.Kernel33Ideal.τ).loc Cert.Kernel33Ideal.main_arg5)
      ∧ m' ((c.tc : Thread Cert.Reference33Ideal.nD Cert.Reference33Ideal.τ).loc Cert.Reference33Ideal.main_arg6) = m ((c.tc : Thread Cert.Kernel33Ideal.nD Cert.Kernel33Ideal.τ).loc Cert.Kernel33Ideal.main_arg6)
      ∧ m' ((c.tc : Thread Cert.Reference33Ideal.nD Cert.Reference33Ideal.τ).loc Cert.Reference33Ideal.main_arg7) = m ((c.tc : Thread Cert.Kernel33Ideal.nD Cert.Kernel33Ideal.τ).loc Cert.Kernel33Ideal.main_arg7)
      ∧ m' ((c.tc : Thread Cert.Reference33Ideal.nD Cert.Reference33Ideal.τ).loc Cert.Reference33Ideal.main_arg8) = m ((c.tc : Thread Cert.Kernel33Ideal.nD Cert.Kernel33Ideal.τ).loc Cert.Kernel33Ideal.main_arg8)
      ∧ m' ((c.tc : Thread Cert.Reference33Ideal.nD Cert.Reference33Ideal.τ).loc Cert.Reference33Ideal.main_arg9) = m ((c.tc : Thread Cert.Kernel33Ideal.nD Cert.Kernel33Ideal.τ).loc Cert.Kernel33Ideal.main_arg9)) →
    ∃ (v0 : (c : Dev Cert.Kernel33Ideal.nD) → Buf (Elt Ideal) ((c.tc : Thread Cert.Kernel33Ideal.nD Cert.Kernel33Ideal.τ).loc Cert.Kernel33Ideal.main_v11_1)) (v1 : (c : Dev Cert.Kernel33Ideal.nD) → Buf (Elt Ideal) ((c.tc : Thread Cert.Kernel33Ideal.nD Cert.Kernel33Ideal.τ).loc Cert.Kernel33Ideal.main_v11_2)) (v2 : (c : Dev Cert.Kernel33Ideal.nD) → Buf (Elt Ideal) ((c.tc : Thread Cert.Kernel33Ideal.nD Cert.Kernel33Ideal.τ).loc Cert.Kernel33Ideal.main_v11_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v11_1) = v0 c
          ∧ r.2.mem ((c.tc : Thread Cert.Kernel33Ideal.nD Cert.Kernel33Ideal.τ).loc Cert.Kernel33Ideal.main_v11_2) = v1 c
          ∧ r.2.mem ((c.tc : Thread Cert.Kernel33Ideal.nD Cert.Kernel33Ideal.τ).loc Cert.Kernel33Ideal.main_v11_3) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3)
          ∧ r.2.mem ((c.tc : Thread Cert.Kernel33Ideal.nD Cert.Kernel33Ideal.τ).loc Cert.Kernel33Ideal.main_arg4) = m ((c.tc : Thread Cert.Kernel33Ideal.nD Cert.Kernel33Ideal.τ).loc Cert.Kernel33Ideal.main_arg4)
          ∧ r.2.mem ((c.tc : Thread Cert.Kernel33Ideal.nD Cert.Kernel33Ideal.τ).loc Cert.Kernel33Ideal.main_arg5) = m ((c.tc : Thread Cert.Kernel33Ideal.nD Cert.Kernel33Ideal.τ).loc Cert.Kernel33Ideal.main_arg5)
          ∧ r.2.mem ((c.tc : Thread Cert.Kernel33Ideal.nD Cert.Kernel33Ideal.τ).loc Cert.Kernel33Ideal.main_arg6) = m ((c.tc : Thread Cert.Kernel33Ideal.nD Cert.Kernel33Ideal.τ).loc Cert.Kernel33Ideal.main_arg6)
          ∧ r.2.mem ((c.tc : Thread Cert.Kernel33Ideal.nD Cert.Kernel33Ideal.τ).loc Cert.Kernel33Ideal.main_arg7) = m ((c.tc : Thread Cert.Kernel33Ideal.nD Cert.Kernel33Ideal.τ).loc Cert.Kernel33Ideal.main_arg7)
          ∧ r.2.mem ((c.tc : Thread Cert.Kernel33Ideal.nD Cert.Kernel33Ideal.τ).loc Cert.Kernel33Ideal.main_arg8) = m ((c.tc : Thread Cert.Kernel33Ideal.nD Cert.Kernel33Ideal.τ).loc Cert.Kernel33Ideal.main_arg8)
          ∧ r.2.mem ((c.tc : Thread Cert.Kernel33Ideal.nD Cert.Kernel33Ideal.τ).loc Cert.Kernel33Ideal.main_arg9) = m ((c.tc : Thread Cert.Kernel33Ideal.nD Cert.Kernel33Ideal.τ).loc Cert.Kernel33Ideal.main_arg9))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v30) = v0 c
          ∧ r.2.mem ((c.tc : Thread Cert.Reference33Ideal.nD Cert.Reference33Ideal.τ).loc Cert.Reference33Ideal.main_v61) = v1 c
          ∧ r.2.mem ((c.tc : Thread Cert.Reference33Ideal.nD Cert.Reference33Ideal.τ).loc Cert.Reference33Ideal.main_v83) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3)
          ∧ r.2.mem ((c.tc : Thread Cert.Reference33Ideal.nD Cert.Reference33Ideal.τ).loc Cert.Reference33Ideal.main_arg4) = m' ((c.tc : Thread Cert.Reference33Ideal.nD Cert.Reference33Ideal.τ).loc Cert.Reference33Ideal.main_arg4)
          ∧ r.2.mem ((c.tc : Thread Cert.Reference33Ideal.nD Cert.Reference33Ideal.τ).loc Cert.Reference33Ideal.main_arg5) = m' ((c.tc : Thread Cert.Reference33Ideal.nD Cert.Reference33Ideal.τ).loc Cert.Reference33Ideal.main_arg5)
          ∧ r.2.mem ((c.tc : Thread Cert.Reference33Ideal.nD Cert.Reference33Ideal.τ).loc Cert.Reference33Ideal.main_arg6) = m' ((c.tc : Thread Cert.Reference33Ideal.nD Cert.Reference33Ideal.τ).loc Cert.Reference33Ideal.main_arg6)
          ∧ r.2.mem ((c.tc : Thread Cert.Reference33Ideal.nD Cert.Reference33Ideal.τ).loc Cert.Reference33Ideal.main_arg7) = m' ((c.tc : Thread Cert.Reference33Ideal.nD Cert.Reference33Ideal.τ).loc Cert.Reference33Ideal.main_arg7)
          ∧ r.2.mem ((c.tc : Thread Cert.Reference33Ideal.nD Cert.Reference33Ideal.τ).loc Cert.Reference33Ideal.main_arg8) = m' ((c.tc : Thread Cert.Reference33Ideal.nD Cert.Reference33Ideal.τ).loc Cert.Reference33Ideal.main_arg8)
          ∧ r.2.mem ((c.tc : Thread Cert.Reference33Ideal.nD Cert.Reference33Ideal.τ).loc Cert.Reference33Ideal.main_arg9) = m' ((c.tc : Thread Cert.Reference33Ideal.nD Cert.Reference33Ideal.τ).loc Cert.Reference33Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hKernel33 : Cert.Kernel33.Facts) (hKernel33Ideal : Cert.Kernel33Ideal.Facts) (hReference33Ideal : Cert.Reference33Ideal.Facts) (hPre_representable : Cert.Pre_representable.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_representable (hKernel2Ideal := hKernel2Ideal) (hPre_representable := hPre_representable)
    ∧ quiescent_Reference2Ideal (hReference2Ideal := hReference2Ideal)
    ∧ quiescent_Reference2Ideal_pre_representable (hReference2Ideal := hReference2Ideal) (hPre_representable := hPre_representable)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite (hKernel20Ideal := hKernel20Ideal) (hPre_finite := hPre_finite)
    ∧ quiescent_Reference20Ideal (hReference20Ideal := hReference20Ideal)
    ∧ quiescent_Reference20Ideal_pre_finite (hReference20Ideal := hReference20Ideal) (hPre_finite := hPre_finite)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_representable (hKernel2Ideal := hKernel2Ideal) (hReference2Ideal := hReference2Ideal) (hPre_representable := hPre_representable)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite (hKernel20Ideal := hKernel20Ideal) (hReference20Ideal := hReference20Ideal) (hPre_finite := hPre_finite)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ preserves_Kernel33_Kernel33Ideal
    ∧ algebraic_Kernel33Ideal_Reference33Ideal (hKernel33Ideal := hKernel33Ideal) (hReference33Ideal := hReference33Ideal)
-- ==== Pre_finite.lean ====
abbrev S8320x1024 : Shape := ⟨2, ![8320, 1024]⟩
abbrev S1x1024 : Shape := ⟨2, ![1, 1024]⟩
abbrev S_ : Shape := ⟨0, ![]⟩

class Facts : Prop where
  bcast_S_S8320x1024 : S_.BroadcastsInDim S8320x1024 (![] : Fin 0 → Fin S8320x1024.rank)
  bcast_S_S1x1024 : S_.BroadcastsInDim S1x1024 (![] : Fin 0 → Fin S1x1024.rank)
  bcast_S1x1024_S8320x1024_0_1 : S1x1024.BroadcastsInDim S8320x1024 (![0, 1] : Fin 2 → Fin S8320x1024.rank)

variable [Facts]

def fn {F : FTy → Type} [FloatOps F] (main_arg0 : FVec F S8320x1024 .f32) (main_arg1 : FVec F S8320x1024 .f32) (main_arg2 : FVec F S1x1024 .f32) (main_arg3 : FVec F S1x1024 .f32) : IVec S8320x1024 1 :=
  let main_v0 : FVec F S8320x1024 .f32 := subf main_arg0 main_arg0
  let main_cst : FVec F S_ .f32 := constant S_ .f32 0x00000000#32
  let main_v1 : FVec F S8320x1024 .f32 := broadcastInDim S8320x1024 ![] bcast_S_S8320x1024 main_cst
  let main_v2 : IVec S8320x1024 1 := cmpf .oeq main_v0 main_v1
  let main_v3 : FVec F S1x1024 .f32 := subf main_arg2 main_arg2
  let main_cst_0 : FVec F S_ .f32 := constant S_ .f32 0x00000000#32
  let main_v4 : FVec F S1x1024 .f32 := broadcastInDim S1x1024 ![] bcast_S_S1x1024 main_cst_0
  let main_v5 : IVec S1x1024 1 := cmpf .oeq main_v3 main_v4
  let main_v6 : IVec S8320x1024 1 := broadcastInDim S8320x1024 ![0, 1] bcast_S1x1024_S8320x1024_0_1 main_v5
  let main_v7 : IVec S8320x1024 1 := andi main_v2 main_v6
  main_v7
-- ==== Pre_representable.lean ====
abbrev S8320x1024 : Shape := ⟨2, ![8320, 1024]⟩
abbrev S4096x1024 : Shape := ⟨2, ![4096, 1024]⟩
abbrev S8320x4096 : Shape := ⟨2, ![8320, 4096]⟩
abbrev S_ : Shape := ⟨0, ![]⟩

class Facts : Prop where
  bcast_S_S8320x4096 : S_.BroadcastsInDim S8320x4096 (![] : Fin 0 → Fin S8320x4096.rank)

variable [Facts]

def fn {F : FTy → Type} [FloatOps F] (main_arg0 : FVec F S8320x1024 .f32) (main_arg1 : FVec F S4096x1024 .f32) (main_arg2 : FVec F S8320x4096 .f32) : IVec S8320x4096 1 :=
  let main_cst : FVec F S_ .f32 := constant S_ .f32 0x00000000#32
  let main_v0 : FVec F S8320x4096 .f32 := broadcastInDim S8320x4096 ![] bcast_S_S8320x4096 main_cst
  let main_v1 : IVec S8320x4096 1 := cmpf .ole main_arg2 main_v0
  let main_cst_0 : FVec F S_ .f32 := constant S_ .f32 0x20000000#32
  let main_v2 : FVec F S8320x4096 .f32 := broadcastInDim S8320x4096 ![] bcast_S_S8320x4096 main_cst_0
  let main_v3 : IVec S8320x4096 1 := cmpf .oge main_arg2 main_v2
  let main_cst_1 : FVec F S_ .f32 := constant S_ .f32 0x7F800000#32
  let main_v4 : FVec F S8320x4096 .f32 := broadcastInDim S8320x4096 ![] bcast_S_S8320x4096 main_cst_1
  let main_v5 : IVec S8320x4096 1 := cmpf .olt main_arg2 main_v4
  let main_v6 : IVec S8320x4096 1 := andi main_v3 main_v5
  let main_v7 : IVec S8320x4096 1 := ori main_v1 main_v6
  main_v7
-- ==== Kernel.lean ====
abbrev S8320x1024 : Shape := ⟨2, ![8320, 1024]⟩
abbrev S8320x2048 : Shape := ⟨2, ![8320, 2048]⟩
abbrev S31x1024 : Shape := ⟨2, ![31, 1024]⟩
abbrev S_ : Shape := ⟨0, ![]⟩
abbrev S32x1024 : Shape := ⟨2, ![32, 1024]⟩
abbrev S1x1024 : Shape := ⟨2, ![1, 1024]⟩
abbrev S1x2048 : Shape := ⟨2, ![1, 2048]⟩
abbrev S128x1024 : Shape := ⟨2, ![128, 1024]⟩
abbrev S128x2048 : Shape := ⟨2, ![128, 2048]⟩
abbrev S160x1024 : Shape := ⟨2, ![160, 1024]⟩
abbrev S32x2048 : Shape := ⟨2, ![32, 2048]⟩
abbrev S1024 : Shape := ⟨1, ![1024]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8320x1024, .f32⟩
  | .hbm, ⟨1, _⟩ => ⟨S8320x2048, .f32⟩
  | .hbm, ⟨2, _⟩ => ⟨S31x1024, .f32⟩
  | .hbm, ⟨3, _⟩ => ⟨S_, .i32⟩
  | .hbm, ⟨4, _⟩ => ⟨S_, .f32⟩
  | .hbm, ⟨5, _⟩ => ⟨S32x1024, .f32⟩
  | .hbm, ⟨6, _⟩ => ⟨S8320x2048, .bf16⟩
  | .hbm, ⟨7, _⟩ => ⟨S32x1024, .f32⟩
  | .hbm, ⟨8, _⟩ => ⟨S1x1024, .f32⟩
  | .hbm, ⟨9, _⟩ => ⟨S1x2048, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S32x1024, .f32⟩
  | .local _ .vmem, ⟨9, _⟩ => ⟨S128x2048, .bf16⟩
  | .local _ .vmem, ⟨10, _⟩ => ⟨S128x2048, .bf16⟩
  | .local _ .vmem, ⟨11, _⟩ => ⟨S32x1024, .f32⟩
  | .local _ .vmem, ⟨12, _⟩ => ⟨S1x1024, .f32⟩
  | .local _ .vmem, ⟨13, _⟩ => ⟨S1x2048, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.minsi v0 c64_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8320x1024 : Shape := ⟨2, ![8320, 1024]⟩
abbrev S8320x2048 : Shape := ⟨2, ![8320, 2048]⟩
abbrev S31x1024 : Shape := ⟨2, ![31, 1024]⟩
abbrev S_ : Shape := ⟨0, ![]⟩
abbrev S2048 : Shape := ⟨1, ![2048]⟩
abbrev S1024 : Shape := ⟨1, ![1024]⟩
abbrev S8208x2048 : Shape := ⟨2, ![8208, 2048]⟩
abbrev S1x2048 : Shape := ⟨2, ![1, 2048]⟩
abbrev S8208x1024 : Shape := ⟨2, ![8208, 1024]⟩
abbrev S112x1024 : Shape := ⟨2, ![112, 1024]⟩
abbrev S30x1024 : Shape := ⟨2, ![30, 1024]⟩
abbrev S8350x1024 : Shape := ⟨2, ![8350, 1024]⟩
abbrev S1x1024 : Shape := ⟨2, ![1, 1024]⟩
abbrev S32x1024 : Shape := ⟨2, ![32, 1024]⟩

abbrev nBuf : Space → Nat
  | .hbm => 594
  | .vmem => 0
  | .smem => 0
  | _ => 0

abbrev hbmTy0_0 (i : Nat) : BufTy := match i % 128 with
  | 0 => ⟨S8320x1024, .f32⟩
  | 1 => ⟨S8320x2048, .f32⟩
  | 2 => ⟨S31x1024, .f32⟩
  | 3 => ⟨S_, .f32⟩
  | 4 => ⟨S2048, .f32⟩
  | 5 => ⟨S_, .f32⟩
  | 6 => ⟨S1024, .f32⟩
  | 7 => ⟨S8208x2048, .f32⟩
  | 8 => ⟨S1x2048, .f32⟩
  | 9 => ⟨S8208x2048, .f32⟩
  | 10 => ⟨S8208x2048, .f32⟩
  | 11 => ⟨S8208x1024, .f32⟩
  | 12 => ⟨S8208x1024, .f32⟩
  | 13 => ⟨S8208x1024, .f32⟩
  | 14 => ⟨S8208x1024, .f32⟩
  | 15 => ⟨S_, .f32⟩
  | 16 => ⟨S8208x1024, .f32⟩
  | 17 => ⟨S8208x1024, .f32⟩
  | 18 => ⟨S_, .f32⟩
  | 19 => ⟨S8208x1024, .f32⟩
  | 20 => ⟨S8208x1024, .f32⟩
  | 21 => ⟨S_, .f32⟩
  | 22 => ⟨S8208x1024, .f32⟩
  | 23 => ⟨S8208x1024, .f32⟩
  | 24 => ⟨S8208x1024, .f32⟩
  | 25 => ⟨S8208x1024, .f32⟩
  | 26 => ⟨S_, .f32⟩
  | 27 => ⟨S112x1024, .f32⟩
  | 28 => ⟨S8320x1024, .f32⟩
  | 29 => ⟨S_, .f32⟩
  | 30 => ⟨S112x1024, .f32⟩
  | 31 => ⟨S_, .f32⟩
  | 32 => ⟨S30x1024, .f32⟩
  | 33 => ⟨S8350x1024, .f32⟩
  | 34 => ⟨S_, .f32⟩
  | 35 => ⟨S30x1024, .f32⟩
  | 36 => ⟨S1x1024, .f32⟩
  | 37 => ⟨S8320x1024, .f32⟩
  | 38 => ⟨S8320x1024, .f32⟩
  | 39 => ⟨S8320x1024, .f32⟩
  | 40 => ⟨S1x1024, .f32⟩
  | 41 => ⟨S8320x1024, .f32⟩
  | 42 => ⟨S8320x1024, .f32⟩
  | 43 => ⟨S8320x1024, .f32⟩
  | 44 => ⟨S8320x1024, .f32⟩
  | 45 => ⟨S1x1024, .f32⟩
  | 46 => ⟨S8320x1024, .f32⟩
  | 47 => ⟨S8320x1024, .f32⟩
  | 48 => ⟨S8320x1024, .f32⟩
  | 49 => ⟨S8320x1024, .f32⟩
  | 50 => ⟨S1x1024, .f32⟩
  | 51 => ⟨S8320x1024, .f32⟩
  | 52 => ⟨S8320x1024, .f32⟩
  | 53 => ⟨S8320x1024, .f32⟩
  | 54 => ⟨S8320x1024, .f32⟩
  | 55 => ⟨S1x1024, .f32⟩
  | 56 => ⟨S8320x1024, .f32⟩
  | 57 => ⟨S8320x1024, .f32⟩
  | 58 => ⟨S8320x1024, .f32⟩
  | 59 => ⟨S8320x1024, .f32⟩
  | 60 => ⟨S1x1024, .f32⟩
  | 61 => ⟨S8320x1024, .f32⟩
  | 62 => ⟨S8320x1024, .f32⟩
  | 63 => ⟨S8320x1024, .f32⟩
  | 64 => ⟨S8320x1024, .f32⟩
  | 65 => ⟨S1x1024, .f32⟩
  | 66 => ⟨S8320x1024, .f32⟩
  | 67 => ⟨S8320x1024, .f32⟩
  | 68 => ⟨S8320x1024, .f32⟩
  | 69 => ⟨S8320x1024, .f32⟩
  | 70 => ⟨S1x1024, .f32⟩
  | 71 => ⟨S8320x1024, .f32⟩
  | 72 => ⟨S8320x1024, .f32⟩
  | 73 => ⟨S8320x1024, .f32⟩
  | 74 => ⟨S8320x1024, .f32⟩
  | 75 => ⟨S1x1024, .f32⟩
  | 76 => ⟨S8320x1024, .f32⟩
  | 77 => ⟨S8320x1024, .f32⟩
  | 78 => ⟨S8320x1024, .f32⟩
  | 79 => ⟨S8320x1024, .f32⟩
  | 80 => ⟨S1x1024, .f32⟩
  | 81 => ⟨S8320x1024, .f32⟩
  | 82 => ⟨S8320x1024, .f32⟩
  | 83 => ⟨S8320x1024, .f32⟩
  | 84 => ⟨S8320x1024, .f32⟩
  | 85 => ⟨S1x1024, .f32⟩
  | 86 => ⟨S8320x1024, .f32⟩
  | 87 => ⟨S8320x1024, .f32⟩
  | 88 => ⟨S8320x1024, .f32⟩
  | 89 => ⟨S8320x1024, .f32⟩
  | 90 => ⟨S1x1024, .f32⟩
  | 91 => ⟨S8320x1024, .f32⟩
  | 92 => ⟨S8320x1024, .f32⟩
  | 93 => ⟨S8320x1024, .f32⟩
  | 94 => ⟨S8320x1024, .f32⟩
  | 95 => ⟨S1x1024, .f32⟩
  | 96 => ⟨S8320x1024, .f32⟩
  | 97 => ⟨S8320x1024, .f32⟩
  | 98 => ⟨S8320x1024, .f32⟩
  | 99 => ⟨S8320x1024, .f32⟩
  | 100 => ⟨S1x1024, .f32⟩
  | 101 => ⟨S8320x1024, .f32⟩
  | 102 => ⟨S8320x1024, .f32⟩
  | 103 => ⟨S8320x1024, .f32⟩
  | 104 => ⟨S8320x1024, .f32⟩
  | 105 => ⟨S1x1024, .f32⟩
  | 106 => ⟨S8320x1024, .f32⟩
  | 107 => ⟨S8320x1024, .f32⟩
  | 108 => ⟨S8320x1024, .f32⟩
  | 109 => ⟨S8320x1024, .f32⟩
  | 110 => ⟨S1x1024, .f32⟩
  | 111 => ⟨S8320x1024, .f32⟩
  | 112 => ⟨S8320x1024, .f32⟩
  | 113 => ⟨S8320x1024, .f32⟩
  | 114 => ⟨S8320x1024, .f32⟩
  | 115 => ⟨S1x1024, .f32⟩
  | 116 => ⟨S8320x1024, .f32⟩
  | 117 => ⟨S8320x1024, .f32⟩
  | 118 => ⟨S8320x1024, .f32⟩
  | 119 => ⟨S8320x1024, .f32⟩
  | 120 => ⟨S1x1024, .f32⟩
  | 121 => ⟨S8320x1024, .f32⟩
  | 122 => ⟨S8320x1024, .f32⟩
  | 123 => ⟨S8320x1024, .f32⟩
  | 124 => ⟨S8320x1024, .f32⟩
  | 125 => ⟨S1x1024, .f32⟩
  | 126 => ⟨S8320x1024, .f32⟩
  | 127 => ⟨S8320x1024, .f32⟩
  | _ => ⟨S8320x1024, .f32⟩

abbrev hbmTy0_1 (i : Nat) : BufTy := match i % 128 with
  | 0 => ⟨S8320x1024, .f32⟩
  | 1 => ⟨S8320x1024, .f32⟩
  | 2 => ⟨S1x1024, .f32⟩
  | 3 => ⟨S8320x1024, .f32⟩
  | 4 => ⟨S8320x1024, .f32⟩
  | 5 => ⟨S8320x1024, .f32⟩
  | 6 => ⟨S8320x1024, .f32⟩
  | 7 => ⟨S1x1024, .f32⟩
  | 8 => ⟨S8320x1024, .f32⟩
  | 9 => ⟨S8320x1024, .f32⟩
  | 10 => ⟨S8320x1024, .f32⟩
  | 11 => ⟨S8320x1024, .f32⟩
  | 12 => ⟨S1x1024, .f32⟩
  | 13 => ⟨S8320x1024, .f32⟩
  | 14 => ⟨S8320x1024, .f32⟩
  | 15 => ⟨S8320x1024, .f32⟩
  | 16 => ⟨S8320x1024, .f32⟩
  | 17 => ⟨S1x1024, .f32⟩
  | 18 => ⟨S8320x1024, .f32⟩
  | 19 => ⟨S8320x1024, .f32⟩
  | 20 => ⟨S8320x1024, .f32⟩
  | 21 => ⟨S8320x1024, .f32⟩
  | 22 => ⟨S1x1024, .f32⟩
  | 23 => ⟨S8320x1024, .f32⟩
  | 24 => ⟨S8320x1024, .f32⟩
  | 25 => ⟨S8320x1024, .f32⟩
  | 26 => ⟨S8320x1024, .f32⟩
  | 27 => ⟨S1x1024, .f32⟩
  | 28 => ⟨S8320x1024, .f32⟩
  | 29 => ⟨S8320x1024, .f32⟩
  | 30 => ⟨S8320x1024, .f32⟩
  | 31 => ⟨S8320x1024, .f32⟩
  | 32 => ⟨S1x1024, .f32⟩
  | 33 => ⟨S8320x1024, .f32⟩
  | 34 => ⟨S8320x1024, .f32⟩
  | 35 => ⟨S8320x1024, .f32⟩
  | 36 => ⟨S8320x1024, .f32⟩
  | 37 => ⟨S1x1024, .f32⟩
  | 38 => ⟨S8320x1024, .f32⟩
  | 39 => ⟨S8320x1024, .f32⟩
  | 40 => ⟨S8320x1024, .f32⟩
  | 41 => ⟨S8320x1024, .f32⟩
  | 42 => ⟨S1x1024, .f32⟩
  | 43 => ⟨S8320x1024, .f32⟩
  | 44 => ⟨S8320x1024, .f32⟩
  | 45 => ⟨S8320x1024, .f32⟩
  | 46 => ⟨S8320x1024, .f32⟩
  | 47 => ⟨S1x1024, .f32⟩
  | 48 => ⟨S8320x1024, .f32⟩
  | 49 => ⟨S8320x1024, .f32⟩
  | 50 => ⟨S8320x1024, .f32⟩
  | 51 => ⟨S8320x1024, .f32⟩
  | 52 => ⟨S1x1024, .f32⟩
  | 53 => ⟨S8320x1024, .f32⟩
  | 54 => ⟨S8320x1024, .f32⟩
  | 55 => ⟨S8320x1024, .f32⟩
  | 56 => ⟨S8320x1024, .f32⟩
  | 57 => ⟨S1x1024, .f32⟩
  | 58 => ⟨S8320x1024, .f32⟩
  | 59 => ⟨S8320x1024, .f32⟩
  | 60 => ⟨S8320x1024, .f32⟩
  | 61 => ⟨S8320x1024, .f32⟩
  | 62 => ⟨S1x1024, .f32⟩
  | 63 => ⟨S8320x1024, .f32⟩
  | 64 => ⟨S8320x1024, .f32⟩
  | 65 => ⟨S8320x1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S8320x1024, .f32⟩
  | 72 => ⟨S8320x1024, .f32⟩
  | 73 => ⟨S8320x1024, .f32⟩
  | 74 => ⟨S_, .f32⟩
  | 75 => ⟨S1024, .f32⟩
  | 76 => ⟨S1x1024, .f32⟩
  | 77 => ⟨S_, .f32⟩
  | 78 => ⟨S8350x1024, .f32⟩
  | 79 => ⟨S_, .f32⟩
  | 80 => ⟨S31x1024, .f32⟩
  | 81 => ⟨S8320x1024, .f32⟩
  | 82 => ⟨S8320x1024, .f32⟩
  | 83 => ⟨S8320x1024, .f32⟩
  | 84 => ⟨S_, .f32⟩
  | 85 => ⟨S1024, .f32⟩
  | 86 => ⟨S1x1024, .f32⟩
  | 87 => ⟨S_, .f32⟩
  | 88 => ⟨S8350x1024, .f32⟩
  | 89 => ⟨S8350x1024, .f32⟩
  | 90 => ⟨S_, .f32⟩
  | 91 => ⟨S31x1024, .f32⟩
  | 92 => ⟨S31x1024, .f32⟩
  | 93 => ⟨S8320x1024, .f32⟩
  | 94 => ⟨S8320x1024, .f32⟩
  | 95 => ⟨S8320x1024, .f32⟩
  | 96 => ⟨S_, .f32⟩
  | 97 => ⟨S1024, .f32⟩
  | 98 => ⟨S1x1024, .f32⟩
  | 99 => ⟨S_, .f32⟩
  | 100 => ⟨S8350x1024, .f32⟩
  | 101 => ⟨S8350x1024, .f32⟩
  | 102 => ⟨S_, .f32⟩
  | 103 => ⟨S31x1024, .f32⟩
  | 104 => ⟨S31x1024, .f32⟩
  | 105 => ⟨S8320x1024, .f32⟩
  | 106 => ⟨S8320x1024, .f32⟩
  | 107 => ⟨S8320x1024, .f32⟩
  | 108 => ⟨S_, .f32⟩
  | 109 => ⟨S1024, .f32⟩
  | 110 => ⟨S1x1024, .f32⟩
  | 111 => ⟨S_, .f32⟩
  | 112 => ⟨S8350x1024, .f32⟩
  | 113 => ⟨S8350x1024, .f32⟩
  | 114 => ⟨S_, .f32⟩
  | 115 => ⟨S31x1024, .f32⟩
  | 116 => ⟨S31x1024, .f32⟩
  | 117 => ⟨S8320x1024, .f32⟩
  | 118 => ⟨S8320x1024, .f32⟩
  | 119 => ⟨S8320x1024, .f32⟩
  | 120 => ⟨S_, .f32⟩
  | 121 => ⟨S1024, .f32⟩
  | 122 => ⟨S1x1024, .f32⟩
  | 123 => ⟨S_, .f32⟩
  | 124 => ⟨S8350x1024, .f32⟩
  | 125 => ⟨S8350x1024, .f32⟩
  | 126 => ⟨S_, .f32⟩
  | 127 => ⟨S31x1024, .f32⟩
  | _ => ⟨S8320x1024, .f32⟩

abbrev hbmTy0_2 (i : Nat) : BufTy := match i % 128 with
  | 0 => ⟨S31x1024, .f32⟩
  | 1 => ⟨S8320x1024, .f32⟩
  | 2 => ⟨S8320x1024, .f32⟩
  | 3 => ⟨S8320x1024, .f32⟩
  | 4 => ⟨S_, .f32⟩
  | 5 => ⟨S1024, .f32⟩
  | 6 => ⟨S1x1024, .f32⟩
  | 7 => ⟨S_, .f32⟩
  | 8 => ⟨S8350x1024, .f32⟩
  | 9 => ⟨S8350x1024, .f32⟩
  | 10 => ⟨S_, .f32⟩
  | 11 => ⟨S31x1024, .f32⟩
  | 12 => ⟨S31x1024, .f32⟩
  | 13 => ⟨S8320x1024, .f32⟩
  | 14 => ⟨S8320x1024, .f32⟩
  | 15 => ⟨S8320x1024, .f32⟩
  | 16 => ⟨S_, .f32⟩
  | 17 => ⟨S1024, .f32⟩
  | 18 => ⟨S1x1024, .f32⟩
  | 19 => ⟨S_, .f32⟩
  | 20 => ⟨S8350x1024, .f32⟩
  | 21 => ⟨S8350x1024, .f32⟩
  | 22 => ⟨S_, .f32⟩
  | 23 => ⟨S31x1024, .f32⟩
  | 24 => ⟨S31x1024, .f32⟩
  | 25 => ⟨S8320x1024, .f32⟩
  | 26 => ⟨S8320x1024, .f32⟩
  | 27 => ⟨S8320x1024, .f32⟩
  | 28 => ⟨S_, .f32⟩
  | 29 => ⟨S1024, .f32⟩
  | 30 => ⟨S1x1024, .f32⟩
  | 31 => ⟨S_, .f32⟩
  | 32 => ⟨S8350x1024, .f32⟩
  | 33 => ⟨S8350x1024, .f32⟩
  | 34 => ⟨S_, .f32⟩
  | 35 => ⟨S31x1024, .f32⟩
  | 36 => ⟨S31x1024, .f32⟩
  | 37 => ⟨S8320x1024, .f32⟩
  | 38 => ⟨S8320x1024, .f32⟩
  | 39 => ⟨S8320x1024, .f32⟩
  | 40 => ⟨S_, .f32⟩
  | 41 => ⟨S1024, .f32⟩
  | 42 => ⟨S1x1024, .f32⟩
  | 43 => ⟨S_, .f32⟩
  | 44 => ⟨S8350x1024, .f32⟩
  | 45 => ⟨S8350x1024, .f32⟩
  | 46 => ⟨S_, .f32⟩
  | 47 => ⟨S31x1024, .f32⟩
  | 48 => ⟨S31x1024, .f32⟩
  | 49 => ⟨S8320x1024, .f32⟩
  | 50 => ⟨S8320x1024, .f32⟩
  | 51 => ⟨S8320x1024, .f32⟩
  | 52 => ⟨S_, .f32⟩
  | 53 => ⟨S1024, .f32⟩
  | 54 => ⟨S1x1024, .f32⟩
  | 55 => ⟨S_, .f32⟩
  | 56 => ⟨S8350x1024, .f32⟩
  | 57 => ⟨S8350x1024, .f32⟩
  | 58 => ⟨S_, .f32⟩
  | 59 => ⟨S31x1024, .f32⟩
  | 60 => ⟨S31x1024, .f32⟩
  | 61 => ⟨S8320x1024, .f32⟩
  | 62 => ⟨S8320x1024, .f32⟩
  | 63 => ⟨S8320x1024, .f32⟩
  | 64 => ⟨S_, .f32⟩
  | 65 => ⟨S1024, .f32⟩
  | 66 => ⟨S1x1024, .f32⟩
  | 67 => ⟨S_, .f32⟩
  | 68 => ⟨S8350x1024, .f32⟩
  | 69 => ⟨S8350x1024, .f32⟩
  | 70 => ⟨S_, .f32⟩
  | 71 => ⟨S31x1024, .f32⟩
  | 72 => ⟨S31x1024, .f32⟩
  | 73 => ⟨S8320x1024, .f32⟩
  | 74 => ⟨S8320x1024, .f32⟩
  | 75 => ⟨S8320x1024, .f32⟩
  | 76 => ⟨S_, .f32⟩
  | 77 => ⟨S1024, .f32⟩
  | 78 => ⟨S1x1024, .f32⟩
  | 79 => ⟨S_, .f32⟩
  | 80 => ⟨S8350x1024, .f32⟩
  | 81 => ⟨S8350x1024, .f32⟩
  | 82 => ⟨S_, .f32⟩
  | 83 => ⟨S31x1024, .f32⟩
  | 84 => ⟨S31x1024, .f32⟩
  | 85 => ⟨S8320x1024, .f32⟩
  | 86 => ⟨S8320x1024, .f32⟩
  | 87 => ⟨S8320x1024, .f32⟩
  | 88 => ⟨S_, .f32⟩
  | 89 => ⟨S1024, .f32⟩
  | 90 => ⟨S1x1024, .f32⟩
  | 91 => ⟨S_, .f32⟩
  | 92 => ⟨S8350x1024, .f32⟩
  | 93 => ⟨S8350x1024, .f32⟩
  | 94 => ⟨S_, .f32⟩
  | 95 => ⟨S31x1024, .f32⟩
  | 96 => ⟨S31x1024, .f32⟩
  | 97 => ⟨S8320x1024, .f32⟩
  | 98 => ⟨S8320x1024, .f32⟩
  | 99 => ⟨S8320x1024, .f32⟩
  | 100 => ⟨S_, .f32⟩
  | 101 => ⟨S1024, .f32⟩
  | 102 => ⟨S1x1024, .f32⟩
  | 103 => ⟨S_, .f32⟩
  | 104 => ⟨S8350x1024, .f32⟩
  | 105 => ⟨S8350x1024, .f32⟩
  | 106 => ⟨S_, .f32⟩
  | 107 => ⟨S31x1024, .f32⟩
  | 108 => ⟨S31x1024, .f32⟩
  | 109 => ⟨S8320x1024, .f32⟩
  | 110 => ⟨S8320x1024, .f32⟩
  | 111 => ⟨S8320x1024, .f32⟩
  | 112 => ⟨S_, .f32⟩
  | 113 => ⟨S1024, .f32⟩
  | 114 => ⟨S1x1024, .f32⟩
  | 115 => ⟨S_, .f32⟩
  | 116 => ⟨S8350x1024, .f32⟩
  | 117 => ⟨S8350x1024, .f32⟩
  | 118 => ⟨S_, .f32⟩
  | 119 => ⟨S31x1024, .f32⟩
  | 120 => ⟨S31x1024, .f32⟩
  | 121 => ⟨S8320x1024, .f32⟩
  | 122 => ⟨S8320x1024, .f32⟩
  | 123 => ⟨S8320x1024, .f32⟩
  | 124 => ⟨S_, .f32⟩
  | 125 => ⟨S1024, .f32⟩
  | 126 => ⟨S1x1024, .f32⟩
  | 127 => ⟨S_, .f32⟩
  | _ => ⟨S8320x1024, .f32⟩

abbrev hbmTy0_3 (i : Nat) : BufTy := match i % 128 with
  | 0 => ⟨S8350x1024, .f32⟩
  | 1 => ⟨S8350x1024, .f32⟩
  | 2 => ⟨S_, .f32⟩
  | 3 => ⟨S31x1024, .f32⟩
  | 4 => ⟨S31x1024, .f32⟩
  | 5 => ⟨S8320x1024, .f32⟩
  | 6 => ⟨S8320x1024, .f32⟩
  | 7 => ⟨S8320x1024, .f32⟩
  | 8 => ⟨S_, .f32⟩
  | 9 => ⟨S1024, .f32⟩
  | 10 => ⟨S1x1024, .f32⟩
  | 11 => ⟨S_, .f32⟩
  | 12 => ⟨S8350x1024, .f32⟩
  | 13 => ⟨S8350x1024, .f32⟩
  | 14 => ⟨S_, .f32⟩
  | 15 => ⟨S31x1024, .f32⟩
  | 16 => ⟨S31x1024, .f32⟩
  | 17 => ⟨S8320x1024, .f32⟩
  | 18 => ⟨S8320x1024, .f32⟩
  | 19 => ⟨S8320x1024, .f32⟩
  | 20 => ⟨S_, .f32⟩
  | 21 => ⟨S1024, .f32⟩
  | 22 => ⟨S1x1024, .f32⟩
  | 23 => ⟨S_, .f32⟩
  | 24 => ⟨S8350x1024, .f32⟩
  | 25 => ⟨S8350x1024, .f32⟩
  | 26 => ⟨S_, .f32⟩
  | 27 => ⟨S31x1024, .f32⟩
  | 28 => ⟨S31x1024, .f32⟩
  | 29 => ⟨S8320x1024, .f32⟩
  | 30 => ⟨S8320x1024, .f32⟩
  | 31 => ⟨S8320x1024, .f32⟩
  | 32 => ⟨S_, .f32⟩
  | 33 => ⟨S1024, .f32⟩
  | 34 => ⟨S1x1024, .f32⟩
  | 35 => ⟨S_, .f32⟩
  | 36 => ⟨S8350x1024, .f32⟩
  | 37 => ⟨S8350x1024, .f32⟩
  | 38 => ⟨S_, .f32⟩
  | 39 => ⟨S31x1024, .f32⟩
  | 40 => ⟨S31x1024, .f32⟩
  | 41 => ⟨S8320x1024, .f32⟩
  | 42 => ⟨S8320x1024, .f32⟩
  | 43 => ⟨S8320x1024, .f32⟩
  | 44 => ⟨S_, .f32⟩
  | 45 => ⟨S1024, .f32⟩
  | 46 => ⟨S1x1024, .f32⟩
  | 47 => ⟨S_, .f32⟩
  | 48 => ⟨S8350x1024, .f32⟩
  | 49 => ⟨S8350x1024, .f32⟩
  | 50 => ⟨S_, .f32⟩
  | 51 => ⟨S31x1024, .f32⟩
  | 52 => ⟨S31x1024, .f32⟩
  | 53 => ⟨S8320x1024, .f32⟩
  | 54 => ⟨S8320x1024, .f32⟩
  | 55 => ⟨S8320x1024, .f32⟩
  | 56 => ⟨S_, .f32⟩
  | 57 => ⟨S1024, .f32⟩
  | 58 => ⟨S1x1024, .f32⟩
  | 59 => ⟨S_, .f32⟩
  | 60 => ⟨S8350x1024, .f32⟩
  | 61 => ⟨S8350x1024, .f32⟩
  | 62 => ⟨S_, .f32⟩
  | 63 => ⟨S31x1024, .f32⟩
  | 64 => ⟨S31x1024, .f32⟩
  | 65 => ⟨S8320x1024, .f32⟩
  | 66 => ⟨S8320x1024, .f32⟩
  | 67 => ⟨S8320x1024, .f32⟩
  | 68 => ⟨S_, .f32⟩
  | 69 => ⟨S1024, .f32⟩
  | 70 => ⟨S1x1024, .f32⟩
  | 71 => ⟨S_, .f32⟩
  | 72 => ⟨S8350x1024, .f32⟩
  | 73 => ⟨S8350x1024, .f32⟩
  | 74 => ⟨S_, .f32⟩
  | 75 => ⟨S31x1024, .f32⟩
  | 76 => ⟨S31x1024, .f32⟩
  | 77 => ⟨S8320x1024, .f32⟩
  | 78 => ⟨S8320x1024, .f32⟩
  | 79 => ⟨S8320x1024, .f32⟩
  | 80 => ⟨S_, .f32⟩
  | 81 => ⟨S1024, .f32⟩
  | 82 => ⟨S1x1024, .f32⟩
  | 83 => ⟨S_, .f32⟩
  | 84 => ⟨S8350x1024, .f32⟩
  | 85 => ⟨S8350x1024, .f32⟩
  | 86 => ⟨S_, .f32⟩
  | 87 => ⟨S31x1024, .f32⟩
  | 88 => ⟨S31x1024, .f32⟩
  | 89 => ⟨S8320x1024, .f32⟩
  | 90 => ⟨S8320x1024, .f32⟩
  | 91 => ⟨S8320x1024, .f32⟩
  | 92 => ⟨S_, .f32⟩
  | 93 => ⟨S1024, .f32⟩
  | 94 => ⟨S1x1024, .f32⟩
  | 95 => ⟨S_, .f32⟩
  | 96 => ⟨S8350x1024, .f32⟩
  | 97 => ⟨S8350x1024, .f32⟩
  | 98 => ⟨S_, .f32⟩
  | 99 => ⟨S31x1024, .f32⟩
  | 100 => ⟨S31x1024, .f32⟩
  | 101 => ⟨S8320x1024, .f32⟩
  | 102 => ⟨S8320x1024, .f32⟩
  | 103 => ⟨S8320x1024, .f32⟩
  | 104 => ⟨S_, .f32⟩
  | 105 => ⟨S1024, .f32⟩
  | 106 => ⟨S1x1024, .f32⟩
  | 107 => ⟨S_, .f32⟩
  | 108 => ⟨S8350x1024, .f32⟩
  | 109 => ⟨S8350x1024, .f32⟩
  | 110 => ⟨S_, .f32⟩
  | 111 => ⟨S31x1024, .f32⟩
  | 112 => ⟨S31x1024, .f32⟩
  | 113 => ⟨S8320x1024, .f32⟩
  | 114 => ⟨S8320x1024, .f32⟩
  | 115 => ⟨S8320x1024, .f32⟩
  | 116 => ⟨S_, .f32⟩
  | 117 => ⟨S1024, .f32⟩
  | 118 => ⟨S1x1024, .f32⟩
  | 119 => ⟨S_, .f32⟩
  | 120 => ⟨S8350x1024, .f32⟩
  | 121 => ⟨S8350x1024, .f32⟩
  | 122 => ⟨S_, .f32⟩
  | 123 => ⟨S31x1024, .f32⟩
  | 124 => ⟨S31x1024, .f32⟩
  | 125 => ⟨S8320x1024, .f32⟩
  | 126 => ⟨S8320x1024, .f32⟩
  | 127 => ⟨S8320x1024, .f32⟩
  | _ => ⟨S8320x1024, .f32⟩

abbrev hbmTy0_4 (i : Nat) : BufTy := match i % 128 with
  | 0 => ⟨S_, .f32⟩
  | 1 => ⟨S1024, .f32⟩
  | 2 => ⟨S1x1024, .f32⟩
  | 3 => ⟨S_, .f32⟩
  | 4 => ⟨S8350x1024, .f32⟩
  | 5 => ⟨S8350x1024, .f32⟩
  | 6 => ⟨S_, .f32⟩
  | 7 => ⟨S31x1024, .f32⟩
  | 8 => ⟨S31x1024, .f32⟩
  | 9 => ⟨S8320x1024, .f32⟩
  | 10 => ⟨S8320x1024, .f32⟩
  | 11 => ⟨S8320x1024, .f32⟩
  | 12 => ⟨S_, .f32⟩
  | 13 => ⟨S1024, .f32⟩
  | 14 => ⟨S1x1024, .f32⟩
  | 15 => ⟨S_, .f32⟩
  | 16 => ⟨S8350x1024, .f32⟩
  | 17 => ⟨S8350x1024, .f32⟩
  | 18 => ⟨S_, .f32⟩
  | 19 => ⟨S31x1024, .f32⟩
  | 20 => ⟨S31x1024, .f32⟩
  | 21 => ⟨S8320x1024, .f32⟩
  | 22 => ⟨S8320x1024, .f32⟩
  | 23 => ⟨S8320x1024, .f32⟩
  | 24 => ⟨S_, .f32⟩
  | 25 => ⟨S1024, .f32⟩
  | 26 => ⟨S1x1024, .f32⟩
  | 27 => ⟨S_, .f32⟩
  | 28 => ⟨S8350x1024, .f32⟩
  | 29 => ⟨S8350x1024, .f32⟩
  | 30 => ⟨S_, .f32⟩
  | 31 => ⟨S31x1024, .f32⟩
  | 32 => ⟨S31x1024, .f32⟩
  | 33 => ⟨S8320x1024, .f32⟩
  | 34 => ⟨S8320x1024, .f32⟩
  | 35 => ⟨S8320x1024, .f32⟩
  | 36 => ⟨S_, .f32⟩
  | 37 => ⟨S1024, .f32⟩
  | 38 => ⟨S1x1024, .f32⟩
  | 39 => ⟨S_, .f32⟩
  | 40 => ⟨S8350x1024, .f32⟩
  | 41 => ⟨S8350x1024, .f32⟩
  | 42 => ⟨S_, .f32⟩
  | 43 => ⟨S31x1024, .f32⟩
  | 44 => ⟨S31x1024, .f32⟩
  | 45 => ⟨S8320x1024, .f32⟩
  | 46 => ⟨S8320x1024, .f32⟩
  | 47 => ⟨S8320x1024, .f32⟩
  | 48 => ⟨S_, .f32⟩
  | 49 => ⟨S1024, .f32⟩
  | 50 => ⟨S1x1024, .f32⟩
  | 51 => ⟨S_, .f32⟩
  | 52 => ⟨S8350x1024, .f32⟩
  | 53 => ⟨S8350x1024, .f32⟩
  | 54 => ⟨S_, .f32⟩
  | 55 => ⟨S31x1024, .f32⟩
  | 56 => ⟨S31x1024, .f32⟩
  | 57 => ⟨S30x1024, .f32⟩
  | 58 => ⟨S8320x1024, .f32⟩
  | 59 => ⟨S112x1024, .f32⟩
  | 60 => ⟨S8208x1024, .f32⟩
  | 61 => ⟨S8208x1024, .f32⟩
  | 62 => ⟨S8208x1024, .f32⟩
  | 63 => ⟨S8208x1024, .f32⟩
  | 64 => ⟨S_, .f32⟩
  | 65 => ⟨S8208x2048, .f32⟩
  | 66 => ⟨S_, .f32⟩
  | 67 => ⟨S8208x2048, .f32⟩
  | 68 => ⟨S8208x2048, .f32⟩
  | 69 => ⟨S_, .f32⟩
  | 70 => ⟨S2048, .f32⟩
  | 71 => ⟨S1x2048, .f32⟩
  | 72 => ⟨S_, .f32⟩
  | 73 => ⟨S2048, .f32⟩
  | 74 => ⟨S_, .f32⟩
  | 75 => ⟨S8320x2048, .f32⟩
  | 76 => ⟨S8320x2048, .bf16⟩
  | 77 => ⟨S_, .i32⟩
  | 78 => ⟨S_, .f32⟩
  | 79 => ⟨S32x1024, .f32⟩
  | 80 => ⟨S1x1024, .f32⟩
  | 81 => ⟨S1x2048, .f32⟩
  | _ => ⟨S8320x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_cst_8 : Ref sig .tc := ⟨.hbm, 194, rfl⟩
abbrev main_v182 : Ref sig .tc := ⟨.hbm, 195, rfl⟩
abbrev main_v183 : Ref sig .tc := ⟨.hbm, 196, rfl⟩
abbrev main_cst_9 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_cst_10 : Ref sig .tc := ⟨.hbm, 202, rfl⟩
abbrev main_v188 : Ref sig .tc := ⟨.hbm, 203, rfl⟩
abbrev main_v189 : Ref sig .tc := ⟨.hbm, 204, rfl⟩
abbrev main_cst_11 : Ref sig .tc := ⟨.hbm, 205, rfl⟩
abbrev main_v190 : Ref sig .tc := ⟨.hbm, 206, rfl⟩
abbrev main_cst_12 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_cst_13 : Ref sig .tc := ⟨.hbm, 212, rfl⟩
abbrev main_v195 : Ref sig .tc := ⟨.hbm, 213, rfl⟩
abbrev main_v196 : Ref sig .tc := ⟨.hbm, 214, rfl⟩
abbrev main_cst_14 : Ref sig .tc := ⟨.hbm, 215, rfl⟩
abbrev main_v197 : Ref sig .tc := ⟨.hbm, 216, rfl⟩
abbrev main_v198 : Ref sig .tc := ⟨.hbm, 217, rfl⟩
abbrev main_cst_15 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_cst_16 : Ref sig .tc := ⟨.hbm, 224, rfl⟩
abbrev main_v204 : Ref sig .tc := ⟨.hbm, 225, rfl⟩
abbrev main_v205 : Ref sig .tc := ⟨.hbm, 226, rfl⟩
abbrev main_cst_17 : Ref sig .tc := ⟨.hbm, 227, rfl⟩
abbrev main_v206 : Ref sig .tc := ⟨.hbm, 228, rfl⟩
abbrev main_v207 : Ref sig .tc := ⟨.hbm, 229, rfl⟩
abbrev main_cst_18 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_cst_19 : Ref sig .tc := ⟨.hbm, 236, rfl⟩
abbrev main_v213 : Ref sig .tc := ⟨.hbm, 237, rfl⟩
abbrev main_v214 : Ref sig .tc := ⟨.hbm, 238, rfl⟩
abbrev main_cst_20 : Ref sig .tc := ⟨.hbm, 239, rfl⟩
abbrev main_v215 : Ref sig .tc := ⟨.hbm, 240, rfl⟩
abbrev main_v216 : Ref sig .tc := ⟨.hbm, 241, rfl⟩
abbrev main_cst_21 : Ref sig .tc := ⟨.hbm, 242, rfl⟩
abbrev main_v217 : Ref sig .tc := ⟨.hbm, 243, rfl⟩
abbrev main_v218 : Ref sig .tc := ⟨.hbm, 244, rfl⟩
abbrev main_v219 : Ref sig .tc := ⟨.hbm, 245, rfl⟩
abbrev main_v220 : Ref sig .tc := ⟨.hbm, 246, rfl⟩
abbrev main_v221 : Ref sig .tc := ⟨.hbm, 247, rfl⟩
abbrev main_cst_22 : Ref sig .tc := ⟨.hbm, 248, rfl⟩
abbrev main_v222 : Ref sig .tc := ⟨.hbm, 249, rfl⟩
abbrev main_v223 : Ref sig .tc := ⟨.hbm, 250, rfl⟩
abbrev main_cst_23 : Ref sig .tc := ⟨.hbm, 251, rfl⟩
abbrev main_v224 : Ref sig .tc := ⟨.hbm, 252, rfl⟩
abbrev main_v225 : Ref sig .tc := ⟨.hbm, 253, rfl⟩
abbrev main_cst_24 : Ref sig .tc := ⟨.hbm, 254, rfl⟩
abbrev main_v226 : Ref sig .tc := ⟨.hbm, 255, rfl⟩
abbrev main_v227 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_cst_25 : Ref sig .tc := ⟨.hbm, 260, rfl⟩
abbrev main_v231 : Ref sig .tc := ⟨.hbm, 261, rfl⟩
abbrev main_v232 : Ref sig .tc := ⟨.hbm, 262, rfl⟩
abbrev main_cst_26 : Ref sig .tc := ⟨.hbm, 263, rfl⟩
abbrev main_v233 : Ref sig .tc := ⟨.hbm, 264, rfl⟩
abbrev main_v234 : Ref sig .tc := ⟨.hbm, 265, rfl⟩
abbrev main_cst_27 : Ref sig .tc := ⟨.hbm, 266, rfl⟩
abbrev main_v235 : Ref sig .tc := ⟨.hbm, 267, rfl⟩
abbrev main_v236 : Ref sig .tc := ⟨.hbm, 268, rfl⟩
abbrev main_v237 : Ref sig .tc := ⟨.hbm, 269, rfl⟩
abbrev main_v238 : Ref sig .tc := ⟨.hbm, 270, rfl⟩
abbrev main_v239 : Ref sig .tc := ⟨.hbm, 271, rfl⟩
abbrev main_cst_28 : Ref sig .tc := ⟨.hbm, 272, rfl⟩
abbrev main_v240 : Ref sig .tc := ⟨.hbm, 273, rfl⟩
abbrev main_v241 : Ref sig .tc := ⟨.hbm, 274, rfl⟩
abbrev main_cst_29 : Ref sig .tc := ⟨.hbm, 275, rfl⟩
abbrev main_v242 : Ref sig .tc := ⟨.hbm, 276, rfl⟩
abbrev main_v243 : Ref sig .tc := ⟨.hbm, 277, rfl⟩
abbrev main_cst_30 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩
abbrev main_v248 : Ref sig .tc := ⟨.hbm, 283, rfl⟩
abbrev main_cst_31 : Ref sig .tc := ⟨.hbm, 284, rfl⟩
abbrev main_v249 : Ref sig .tc := ⟨.hbm, 285, rfl⟩
abbrev main_v250 : Ref sig .tc := ⟨.hbm, 286, rfl⟩
abbrev main_cst_32 : Ref sig .tc := ⟨.hbm, 287, rfl⟩
abbrev main_v251 : Ref sig .tc := ⟨.hbm, 288, rfl⟩
abbrev main_v252 : Ref sig .tc := ⟨.hbm, 289, rfl⟩
abbrev main_cst_33 : Ref sig .tc := ⟨.hbm, 290, rfl⟩
abbrev main_v253 : Ref sig .tc := ⟨.hbm, 291, rfl⟩
abbrev main_v254 : Ref sig .tc := ⟨.hbm, 292, rfl⟩
abbrev main_v255 : Ref sig .tc := ⟨.hbm, 293, rfl⟩
abbrev main_v256 : Ref sig .tc := ⟨.hbm, 294, rfl⟩
abbrev main_v257 : Ref sig .tc := ⟨.hbm, 295, rfl⟩
abbrev main_cst_34 : Ref sig .tc := ⟨.hbm, 296, rfl⟩
abbrev main_v258 : Ref sig .tc := ⟨.hbm, 297, rfl⟩
abbrev main_v259 : Ref sig .tc := ⟨.hbm, 298, rfl⟩
abbrev main_cst_35 : Ref sig .tc := ⟨.hbm, 299, rfl⟩
abbrev main_v260 : Ref sig .tc := ⟨.hbm, 300, rfl⟩
abbrev main_v261 : Ref sig .tc := ⟨.hbm, 301, rfl⟩
abbrev main_cst_36 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_cst_37 : Ref sig .tc := ⟨.hbm, 308, rfl⟩
abbrev main_v267 : Ref sig .tc := ⟨.hbm, 309, rfl⟩
abbrev main_v268 : Ref sig .tc := ⟨.hbm, 310, rfl⟩
abbrev main_cst_38 : Ref sig .tc := ⟨.hbm, 311, rfl⟩
abbrev main_v269 : Ref sig .tc := ⟨.hbm, 312, rfl⟩
abbrev main_v270 : Ref sig .tc := ⟨.hbm, 313, rfl⟩
abbrev main_cst_39 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_cst_40 : Ref sig .tc := ⟨.hbm, 320, rfl⟩
abbrev main_v276 : Ref sig .tc := ⟨.hbm, 321, rfl⟩
abbrev main_v277 : Ref sig .tc := ⟨.hbm, 322, rfl⟩
abbrev main_cst_41 : Ref sig .tc := ⟨.hbm, 323, rfl⟩
abbrev main_v278 : Ref sig .tc := ⟨.hbm, 324, rfl⟩
abbrev main_v279 : Ref sig .tc := ⟨.hbm, 325, rfl⟩
abbrev main_cst_42 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_cst_43 : Ref sig .tc := ⟨.hbm, 332, rfl⟩
abbrev main_v285 : Ref sig .tc := ⟨.hbm, 333, rfl⟩
abbrev main_v286 : Ref sig .tc := ⟨.hbm, 334, rfl⟩
abbrev main_cst_44 : Ref sig .tc := ⟨.hbm, 335, rfl⟩
abbrev main_v287 : Ref sig .tc := ⟨.hbm, 336, rfl⟩
abbrev main_v288 : Ref sig .tc := ⟨.hbm, 337, rfl⟩
abbrev main_cst_45 : Ref sig .tc := ⟨.hbm, 338, rfl⟩
abbrev main_v289 : Ref sig .tc := ⟨.hbm, 339, rfl⟩
abbrev main_v290 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_cst_46 : Ref sig .tc := ⟨.hbm, 344, rfl⟩
abbrev main_v294 : Ref sig .tc := ⟨.hbm, 345, rfl⟩
abbrev main_v295 : Ref sig .tc := ⟨.hbm, 346, rfl⟩
abbrev main_cst_47 : Ref sig .tc := ⟨.hbm, 347, rfl⟩
abbrev main_v296 : Ref sig .tc := ⟨.hbm, 348, rfl⟩
abbrev main_v297 : Ref sig .tc := ⟨.hbm, 349, rfl⟩
abbrev main_cst_48 : Ref sig .tc := ⟨.hbm, 350, rfl⟩
abbrev main_v298 : Ref sig .tc := ⟨.hbm, 351, rfl⟩
abbrev main_v299 : Ref sig .tc := ⟨.hbm, 352, rfl⟩
abbrev main_v300 : Ref sig .tc := ⟨.hbm, 353, rfl⟩
abbrev main_v301 : Ref sig .tc := ⟨.hbm, 354, rfl⟩
abbrev main_v302 : Ref sig .tc := ⟨.hbm, 355, rfl⟩
abbrev main_cst_49 : Ref sig .tc := ⟨.hbm, 356, rfl⟩
abbrev main_v303 : Ref sig .tc := ⟨.hbm, 357, rfl⟩
abbrev main_v304 : Ref sig .tc := ⟨.hbm, 358, rfl⟩
abbrev main_cst_50 : Ref sig .tc := ⟨.hbm, 359, rfl⟩
abbrev main_v305 : Ref sig .tc := ⟨.hbm, 360, rfl⟩
abbrev main_v306 : Ref sig .tc := ⟨.hbm, 361, rfl⟩
abbrev main_cst_51 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_cst_52 : Ref sig .tc := ⟨.hbm, 368, rfl⟩
abbrev main_v312 : Ref sig .tc := ⟨.hbm, 369, rfl⟩
abbrev main_v313 : Ref sig .tc := ⟨.hbm, 370, rfl⟩
abbrev main_cst_53 : Ref sig .tc := ⟨.hbm, 371, rfl⟩
abbrev main_v314 : Ref sig .tc := ⟨.hbm, 372, rfl⟩
abbrev main_v315 : Ref sig .tc := ⟨.hbm, 373, rfl⟩
abbrev main_cst_54 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_cst_55 : Ref sig .tc := ⟨.hbm, 380, rfl⟩
abbrev main_v321 : Ref sig .tc := ⟨.hbm, 381, rfl⟩
abbrev main_v322 : Ref sig .tc := ⟨.hbm, 382, rfl⟩
abbrev main_cst_56 : Ref sig .tc := ⟨.hbm, 383, rfl⟩
abbrev main_v323 : Ref sig .tc := ⟨.hbm, 384, rfl⟩
abbrev main_v324 : Ref sig .tc := ⟨.hbm, 385, rfl⟩
abbrev main_cst_57 : Ref sig .tc := ⟨.hbm, 386, rfl⟩
abbrev main_v325 : Ref sig .tc := ⟨.hbm, 387, rfl⟩
abbrev main_v326 : Ref sig .tc := ⟨.hbm, 388, rfl⟩
abbrev main_v327 : Ref sig .tc := ⟨.hbm, 389, rfl⟩
abbrev main_v328 : Ref sig .tc := ⟨.hbm, 390, rfl⟩
abbrev main_v329 : Ref sig .tc := ⟨.hbm, 391, rfl⟩
abbrev main_cst_58 : Ref sig .tc := ⟨.hbm, 392, rfl⟩
abbrev main_v330 : Ref sig .tc := ⟨.hbm, 393, rfl⟩
abbrev main_v331 : Ref sig .tc := ⟨.hbm, 394, rfl⟩
abbrev main_cst_59 : Ref sig .tc := ⟨.hbm, 395, rfl⟩
abbrev main_v332 : Ref sig .tc := ⟨.hbm, 396, rfl⟩
abbrev main_v333 : Ref sig .tc := ⟨.hbm, 397, rfl⟩
abbrev main_cst_60 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_cst_61 : Ref sig .tc := ⟨.hbm, 404, rfl⟩
abbrev main_v339 : Ref sig .tc := ⟨.hbm, 405, rfl⟩
abbrev main_v340 : Ref sig .tc := ⟨.hbm, 406, rfl⟩
abbrev main_cst_62 : Ref sig .tc := ⟨.hbm, 407, rfl⟩
abbrev main_v341 : Ref sig .tc := ⟨.hbm, 408, rfl⟩
abbrev main_v342 : Ref sig .tc := ⟨.hbm, 409, rfl⟩
abbrev main_cst_63 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_cst_64 : Ref sig .tc := ⟨.hbm, 416, rfl⟩
abbrev main_v348 : Ref sig .tc := ⟨.hbm, 417, rfl⟩
abbrev main_v349 : Ref sig .tc := ⟨.hbm, 418, rfl⟩
abbrev main_cst_65 : Ref sig .tc := ⟨.hbm, 419, rfl⟩
abbrev main_v350 : Ref sig .tc := ⟨.hbm, 420, rfl⟩
abbrev main_v351 : Ref sig .tc := ⟨.hbm, 421, rfl⟩
abbrev main_cst_66 : Ref sig .tc := ⟨.hbm, 422, rfl⟩
abbrev main_v352 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_cst_67 : Ref sig .tc := ⟨.hbm, 428, rfl⟩
abbrev main_v357 : Ref sig .tc := ⟨.hbm, 429, rfl⟩
abbrev main_v358 : Ref sig .tc := ⟨.hbm, 430, rfl⟩
abbrev main_cst_68 : Ref sig .tc := ⟨.hbm, 431, rfl⟩
abbrev main_v359 : Ref sig .tc := ⟨.hbm, 432, rfl⟩
abbrev main_v360 : Ref sig .tc := ⟨.hbm, 433, rfl⟩
abbrev main_cst_69 : Ref sig .tc := ⟨.hbm, 434, rfl⟩
abbrev main_v361 : Ref sig .tc := ⟨.hbm, 435, rfl⟩
abbrev main_v362 : Ref sig .tc := ⟨.hbm, 436, rfl⟩
abbrev main_v363 : Ref sig .tc := ⟨.hbm, 437, rfl⟩
abbrev main_v364 : Ref sig .tc := ⟨.hbm, 438, rfl⟩
abbrev main_v365 : Ref sig .tc := ⟨.hbm, 439, rfl⟩
abbrev main_cst_70 : Ref sig .tc := ⟨.hbm, 440, rfl⟩
abbrev main_v366 : Ref sig .tc := ⟨.hbm, 441, rfl⟩
abbrev main_v367 : Ref sig .tc := ⟨.hbm, 442, rfl⟩
abbrev main_cst_71 : Ref sig .tc := ⟨.hbm, 443, rfl⟩
abbrev main_v368 : Ref sig .tc := ⟨.hbm, 444, rfl⟩
abbrev main_v369 : Ref sig .tc := ⟨.hbm, 445, rfl⟩
abbrev main_cst_72 : Ref sig .tc := ⟨.hbm, 446, rfl⟩
abbrev main_v370 : Ref sig .tc := ⟨.hbm, 447, rfl⟩
abbrev main_v371 : Ref sig .tc := ⟨.hbm, 448, rfl⟩
abbrev main_v372 : Ref sig .tc := ⟨.hbm, 449, rfl⟩
abbrev main_v373 : Ref sig .tc := ⟨.hbm, 450, rfl⟩
abbrev main_v374 : Ref sig .tc := ⟨.hbm, 451, rfl⟩
abbrev main_cst_73 : Ref sig .tc := ⟨.hbm, 452, rfl⟩
abbrev main_v375 : Ref sig .tc := ⟨.hbm, 453, rfl⟩
abbrev main_v376 : Ref sig .tc := ⟨.hbm, 454, rfl⟩
abbrev main_cst_74 : Ref sig .tc := ⟨.hbm, 455, rfl⟩
abbrev main_v377 : Ref sig .tc := ⟨.hbm, 456, rfl⟩
abbrev main_v378 : Ref sig .tc := ⟨.hbm, 457, rfl⟩
abbrev main_cst_75 : Ref sig .tc := ⟨.hbm, 458, rfl⟩
abbrev main_v379 : Ref sig .tc := ⟨.hbm, 459, rfl⟩
abbrev main_v380 : Ref sig .tc := ⟨.hbm, 460, rfl⟩
abbrev main_v381 : Ref sig .tc := ⟨.hbm, 461, rfl⟩
abbrev main_v382 : Ref sig .tc := ⟨.hbm, 462, rfl⟩
abbrev main_v383 : Ref sig .tc := ⟨.hbm, 463, rfl⟩
abbrev main_cst_76 : Ref sig .tc := ⟨.hbm, 464, rfl⟩
abbrev main_v384 : Ref sig .tc := ⟨.hbm, 465, rfl⟩
abbrev main_v385 : Ref sig .tc := ⟨.hbm, 466, rfl⟩
abbrev main_cst_77 : Ref sig .tc := ⟨.hbm, 467, rfl⟩
abbrev main_v386 : Ref sig .tc := ⟨.hbm, 468, rfl⟩
abbrev main_v387 : Ref sig .tc := ⟨.hbm, 469, rfl⟩
abbrev main_cst_78 : Ref sig .tc := ⟨.hbm, 470, rfl⟩
abbrev main_v388 : Ref sig .tc := ⟨.hbm, 471, rfl⟩
abbrev main_v389 : Ref sig .tc := ⟨.hbm, 472, rfl⟩
abbrev main_v390 : Ref sig .tc := ⟨.hbm, 473, rfl⟩
abbrev main_v391 : Ref sig .tc := ⟨.hbm, 474, rfl⟩
abbrev main_v392 : Ref sig .tc := ⟨.hbm, 475, rfl⟩
abbrev main_cst_79 : Ref sig .tc := ⟨.hbm, 476, rfl⟩
abbrev main_v393 : Ref sig .tc := ⟨.hbm, 477, rfl⟩
abbrev main_v394 : Ref sig .tc := ⟨.hbm, 478, rfl⟩
abbrev main_cst_80 : Ref sig .tc := ⟨.hbm, 479, rfl⟩
abbrev main_v395 : Ref sig .tc := ⟨.hbm, 480, rfl⟩
abbrev main_v396 : Ref sig .tc := ⟨.hbm, 481, rfl⟩
abbrev main_cst_81 : Ref sig .tc := ⟨.hbm, 482, rfl⟩
abbrev main_v397 : Ref sig .tc := ⟨.hbm, 483, rfl⟩
abbrev main_v398 : Ref sig .tc := ⟨.hbm, 484, rfl⟩
abbrev main_v399 : Ref sig .tc := ⟨.hbm, 485, rfl⟩
abbrev main_v400 : Ref sig .tc := ⟨.hbm, 486, rfl⟩
abbrev main_v401 : Ref sig .tc := ⟨.hbm, 487, rfl⟩
abbrev main_cst_82 : Ref sig .tc := ⟨.hbm, 488, rfl⟩
abbrev main_v402 : Ref sig .tc := ⟨.hbm, 489, rfl⟩
abbrev main_v403 : Ref sig .tc := ⟨.hbm, 490, rfl⟩
abbrev main_cst_83 : Ref sig .tc := ⟨.hbm, 491, rfl⟩
abbrev main_v404 : Ref sig .tc := ⟨.hbm, 492, rfl⟩
abbrev main_v405 : Ref sig .tc := ⟨.hbm, 493, rfl⟩
abbrev main_cst_84 : Ref sig .tc := ⟨.hbm, 494, rfl⟩
abbrev main_v406 : Ref sig .tc := ⟨.hbm, 495, rfl⟩
abbrev main_v407 : Ref sig .tc := ⟨.hbm, 496, rfl⟩
abbrev main_v408 : Ref sig .tc := ⟨.hbm, 497, rfl⟩
abbrev main_v409 : Ref sig .tc := ⟨.hbm, 498, rfl⟩
abbrev main_v410 : Ref sig .tc := ⟨.hbm, 499, rfl⟩
abbrev main_cst_85 : Ref sig .tc := ⟨.hbm, 500, rfl⟩
abbrev main_v411 : Ref sig .tc := ⟨.hbm, 501, rfl⟩
abbrev main_v412 : Ref sig .tc := ⟨.hbm, 502, rfl⟩
abbrev main_cst_86 : Ref sig .tc := ⟨.hbm, 503, rfl⟩
abbrev main_v413 : Ref sig .tc := ⟨.hbm, 504, rfl⟩
abbrev main_v414 : Ref sig .tc := ⟨.hbm, 505, rfl⟩
abbrev main_cst_87 : Ref sig .tc := ⟨.hbm, 506, rfl⟩
abbrev main_v415 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_v419 : Ref sig .tc := ⟨.hbm, 511, rfl⟩
abbrev main_cst_88 : Ref sig .tc := ⟨.hbm, 512, rfl⟩
abbrev main_v420 : Ref sig .tc := ⟨.hbm, 513, rfl⟩
abbrev main_v421 : Ref sig .tc := ⟨.hbm, 514, rfl⟩
abbrev main_cst_89 : Ref sig .tc := ⟨.hbm, 515, rfl⟩
abbrev main_v422 : Ref sig .tc := ⟨.hbm, 516, rfl⟩
abbrev main_v423 : Ref sig .tc := ⟨.hbm, 517, rfl⟩
abbrev main_cst_90 : Ref sig .tc := ⟨.hbm, 518, rfl⟩
abbrev main_v424 : Ref sig .tc := ⟨.hbm, 519, rfl⟩
abbrev main_v425 : Ref sig .tc := ⟨.hbm, 520, rfl⟩
abbrev main_v426 : Ref sig .tc := ⟨.hbm, 521, rfl⟩
abbrev main_v427 : Ref sig .tc := ⟨.hbm, 522, rfl⟩
abbrev main_v428 : Ref sig .tc := ⟨.hbm, 523, rfl⟩
abbrev main_cst_91 : Ref sig .tc := ⟨.hbm, 524, rfl⟩
abbrev main_v429 : Ref sig .tc := ⟨.hbm, 525, rfl⟩
abbrev main_v430 : Ref sig .tc := ⟨.hbm, 526, rfl⟩
abbrev main_cst_92 : Ref sig .tc := ⟨.hbm, 527, rfl⟩
abbrev main_v431 : Ref sig .tc := ⟨.hbm, 528, rfl⟩
abbrev main_v432 : Ref sig .tc := ⟨.hbm, 529, rfl⟩
abbrev main_cst_93 : Ref sig .tc := ⟨.hbm, 530, rfl⟩
abbrev main_v433 : Ref sig .tc := ⟨.hbm, 531, rfl⟩
abbrev main_v434 : Ref sig .tc := ⟨.hbm, 532, rfl⟩
abbrev main_v435 : Ref sig .tc := ⟨.hbm, 533, rfl⟩
abbrev main_v436 : Ref sig .tc := ⟨.hbm, 534, rfl⟩
abbrev main_v437 : Ref sig .tc := ⟨.hbm, 535, rfl⟩
abbrev main_cst_94 : Ref sig .tc := ⟨.hbm, 536, rfl⟩
abbrev main_v438 : Ref sig .tc := ⟨.hbm, 537, rfl⟩
abbrev main_v439 : Ref sig .tc := ⟨.hbm, 538, rfl⟩
abbrev main_cst_95 : Ref sig .tc := ⟨.hbm, 539, rfl⟩
abbrev main_v440 : Ref sig .tc := ⟨.hbm, 540, rfl⟩
abbrev main_v441 : Ref sig .tc := ⟨.hbm, 541, rfl⟩
abbrev main_cst_96 : Ref sig .tc := ⟨.hbm, 542, rfl⟩
abbrev main_v442 : Ref sig .tc := ⟨.hbm, 543, rfl⟩
abbrev main_v443 : Ref sig .tc := ⟨.hbm, 544, rfl⟩
abbrev main_v444 : Ref sig .tc := ⟨.hbm, 545, rfl⟩
abbrev main_v445 : Ref sig .tc := ⟨.hbm, 546, rfl⟩
abbrev main_v446 : Ref sig .tc := ⟨.hbm, 547, rfl⟩
abbrev main_cst_97 : Ref sig .tc := ⟨.hbm, 548, rfl⟩
abbrev main_v447 : Ref sig .tc := ⟨.hbm, 549, rfl⟩
abbrev main_v448 : Ref sig .tc := ⟨.hbm, 550, rfl⟩
abbrev main_cst_98 : Ref sig .tc := ⟨.hbm, 551, rfl⟩
abbrev main_v449 : Ref sig .tc := ⟨.hbm, 552, rfl⟩
abbrev main_v450 : Ref sig .tc := ⟨.hbm, 553, rfl⟩
abbrev main_cst_99 : Ref sig .tc := ⟨.hbm, 554, rfl⟩
abbrev main_v451 : Ref sig .tc := ⟨.hbm, 555, rfl⟩
abbrev main_v452 : Ref sig .tc := ⟨.hbm, 556, rfl⟩
abbrev main_v453 : Ref sig .tc := ⟨.hbm, 557, rfl⟩
abbrev main_v454 : Ref sig .tc := ⟨.hbm, 558, rfl⟩
abbrev main_v455 : Ref sig .tc := ⟨.hbm, 559, rfl⟩
abbrev main_cst_100 : Ref sig .tc := ⟨.hbm, 560, rfl⟩
abbrev main_v456 : Ref sig .tc := ⟨.hbm, 561, rfl⟩
abbrev main_v457 : Ref sig .tc := ⟨.hbm, 562, rfl⟩
abbrev main_cst_101 : Ref sig .tc := ⟨.hbm, 563, rfl⟩
abbrev main_v458 : Ref sig .tc := ⟨.hbm, 564, rfl⟩
abbrev main_v459 : Ref sig .tc := ⟨.hbm, 565, rfl⟩
abbrev main_cst_102 : Ref sig .tc := ⟨.hbm, 566, rfl⟩
abbrev main_v460 : Ref sig .tc := ⟨.hbm, 567, rfl⟩
abbrev main_v461 : Ref sig .tc := ⟨.hbm, 568, rfl⟩
abbrev main_v462 : Ref sig .tc := ⟨.hbm, 569, rfl⟩
abbrev main_v463 : Ref sig .tc := ⟨.hbm, 570, rfl⟩
abbrev main_v464 : Ref sig .tc := ⟨.hbm, 571, rfl⟩
abbrev main_v465 : Ref sig .tc := ⟨.hbm, 572, rfl⟩
abbrev main_v466 : Ref sig .tc := ⟨.hbm, 573, rfl⟩
abbrev main_v467 : Ref sig .tc := ⟨.hbm, 574, rfl⟩
abbrev main_v468 : Ref sig .tc := ⟨.hbm, 575, rfl⟩
abbrev main_cst_103 : Ref sig .tc := ⟨.hbm, 576, rfl⟩
abbrev main_v469 : Ref sig .tc := ⟨.hbm, 577, rfl⟩
abbrev main_cst_104 : Ref sig .tc := ⟨.hbm, 578, rfl⟩
abbrev main_v470 : Ref sig .tc := ⟨.hbm, 579, rfl⟩
abbrev main_v471 : Ref sig .tc := ⟨.hbm, 580, rfl⟩
abbrev main_cst_105 : Ref sig .tc := ⟨.hbm, 581, rfl⟩
abbrev main_v472 : Ref sig .tc := ⟨.hbm, 582, rfl⟩
abbrev main_v473 : Ref sig .tc := ⟨.hbm, 583, rfl⟩
abbrev main_cst_106 : Ref sig .tc := ⟨.hbm, 584, rfl⟩
abbrev main_v474 : Ref sig .tc := ⟨.hbm, 585, rfl⟩
abbrev main_cst_107 : Ref sig .tc := ⟨.hbm, 586, rfl⟩
abbrev main_v475 : Ref sig .tc := ⟨.hbm, 587, rfl⟩
abbrev main_v476 : Ref sig .tc := ⟨.hbm, 588, rfl⟩
abbrev main_c : Ref sig .tc := ⟨.hbm, 589, rfl⟩
abbrev main_call0_v0 : Ref sig .tc := ⟨.hbm, 590, rfl⟩
abbrev main_v477 : Ref sig .tc := ⟨.hbm, 591, rfl⟩
abbrev main_v478 : Ref sig .tc := ⟨.hbm, 592, rfl⟩
abbrev main_v479 : Ref sig .tc := ⟨.hbm, 593, rfl⟩

abbrev nD : Nat := 1
abbrev τ : Topo := Topo.v7x

variable {F : FTy → Type} [FloatOps F]
-- ==== Kernel2.lean ====
abbrev S8320x1024 : Shape := ⟨2, ![8320, 1024]⟩
abbrev S4096x1024 : Shape := ⟨2, ![4096, 1024]⟩
abbrev S8320x4096 : Shape := ⟨2, ![8320, 4096]⟩
abbrev S8x1x512x1024 : Shape := ⟨4, ![8, 1, 512, 1024]⟩
abbrev S_ : Shape := ⟨0, ![]⟩
abbrev S640x1024 : Shape := ⟨2, ![640, 1024]⟩
abbrev S640x4096 : Shape := ⟨2, ![640, 4096]⟩
abbrev S640x512 : Shape := ⟨2, ![640, 512]⟩
abbrev S1x1x512x1024 : Shape := ⟨4, ![1, 1, 512, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S4096x1024, .f32⟩
  | .hbm, ⟨2, _⟩ => ⟨S8320x4096, .f32⟩
  | .hbm, ⟨3, _⟩ => ⟨S4096x1024, .bf16⟩
  | .hbm, ⟨4, _⟩ => ⟨S8x1x512x1024, .bf16⟩
  | .hbm, ⟨5, _⟩ => ⟨S_, .f32⟩
  | .hbm, ⟨6, _⟩ => ⟨S8320x4096, .f32⟩
  | .hbm, ⟨7, _⟩ => ⟨S8320x4096, .f32⟩
  | .hbm, ⟨8, _⟩ => ⟨S8320x4096, .f32⟩
  | .hbm, ⟨9, _⟩ => ⟨S8320x4096, .bf16⟩
  | .hbm, ⟨10, _⟩ => ⟨S8320x4096, .bf16⟩
  | .local _ .vmem, ⟨0, _⟩ => ⟨S640x1024, .f32⟩
  | .local _ .vmem, ⟨1, _⟩ => ⟨S640x1024, .f32⟩
  | .local _ .vmem, ⟨2, _⟩ => ⟨S8x1x512x1024, .bf16⟩
  | .local _ .vmem, ⟨3, _⟩ => ⟨S640x4096, .bf16⟩
  | .local _ .vmem, ⟨4, _⟩ => ⟨S640x4096, .bf16⟩
  | .local _ .vmem, ⟨5, _⟩ => ⟨S640x4096, .bf16⟩
  | .local _ .vmem, ⟨6, _⟩ => ⟨S640x4096, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8320x1024 : Shape := ⟨2, ![8320, 1024]⟩
abbrev S4096x1024 : Shape := ⟨2, ![4096, 1024]⟩
abbrev S8320x4096 : Shape := ⟨2, ![8320, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S4096x1024, .f32⟩
  | .hbm, ⟨2, _⟩ => ⟨S8320x4096, .f32⟩
  | .hbm, ⟨3, _⟩ => ⟨S_, .f32⟩
  | .hbm, ⟨4, _⟩ => ⟨S8320x4096, .f32⟩
  | .hbm, ⟨5, _⟩ => ⟨S8320x4096, .f32⟩
  | .hbm, ⟨6, _⟩ => ⟨S_, .f32⟩
  | .hbm, ⟨7, _⟩ => ⟨S8320x4096, .f32⟩
  | .hbm, ⟨8, _⟩ => ⟨S8320x4096, .i1⟩
  | .hbm, ⟨9, _⟩ => ⟨S_, .f32⟩
  | .hbm, ⟨10, _⟩ => ⟨S8320x4096, .f32⟩
  | .hbm, ⟨11, _⟩ => ⟨S8320x4096, .f32⟩
  | .hbm, ⟨12, _⟩ => ⟨S_, .f32⟩
  | .hbm, ⟨13, _⟩ => ⟨S8320x4096, .f32⟩
  | .hbm, ⟨14, _⟩ => ⟨S8320x4096, .f32⟩
  | .hbm, ⟨15, _⟩ => ⟨S8320x1024, .f32⟩
  | .hbm, ⟨16, _⟩ => ⟨S8320x4096, .f32⟩
  | .hbm, ⟨17, _⟩ => ⟨S8320x4096, .f32⟩
  | .hbm, ⟨18, _⟩ => ⟨S_, .f32⟩
  | .hbm, ⟨19, _⟩ => ⟨S8320x4096, .f32⟩
  | .hbm, ⟨20, _⟩ => ⟨S8320x4096, .f32⟩
  | .hbm, ⟨21, _⟩ => ⟨S8320x4096, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Kernel3.lean ====
abbrev S8320x1024 : Shape := ⟨2, ![8320, 1024]⟩
abbrev S8320x4096 : Shape := ⟨2, ![8320, 4096]⟩
abbrev S_ : Shape := ⟨0, ![]⟩
abbrev S4096x1024 : Shape := ⟨2, ![4096, 1024]⟩
abbrev S1664x2048 : Shape := ⟨2, ![1664, 2048]⟩
abbrev S1664x1024 : Shape := ⟨2, ![1664, 1024]⟩
abbrev S2048x1024 : Shape := ⟨2, ![2048, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8320x4096, .f32⟩
  | .hbm, ⟨2, _⟩ => ⟨S_, .f32⟩
  | .hbm, ⟨3, _⟩ => ⟨S8320x4096, .f32⟩
  | .hbm, ⟨4, _⟩ => ⟨S8320x4096, .f32⟩
  | .hbm, ⟨5, _⟩ => ⟨S8320x4096, .f32⟩
  | .hbm, ⟨6, _⟩ => ⟨S8320x4096, .bf16⟩
  | .hbm, ⟨7, _⟩ => ⟨S4096x1024, .bf16⟩
  | .local _ .vmem, ⟨0, _⟩ => ⟨S1664x2048, .bf16⟩
  | .local _ .vmem, ⟨1, _⟩ => ⟨S1664x2048, .bf16⟩
  | .local _ .vmem, ⟨2, _⟩ => ⟨S1664x1024, .f32⟩
  | .local _ .vmem, ⟨3, _⟩ => ⟨S1664x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1664x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8320x1024 : Shape := ⟨2, ![8320, 1024]⟩
abbrev S8320x4096 : Shape := ⟨2, ![8320, 4096]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x4096, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8320x4096, .f32⟩
  | .hbm, ⟨6, _⟩ => ⟨S8320x4096, .f32⟩
  | .hbm, ⟨7, _⟩ => ⟨S8320x4096, .f32⟩
  | .hbm, ⟨8, _⟩ => ⟨S8320x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S8320x4096 : Shape := ⟨2, ![8320, 4096]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S8x1024x512 : Shape := ⟨3, ![8, 1024, 512]⟩
abbrev S1664x1024 : Shape := ⟨2, ![1664, 1024]⟩
abbrev S1664x2048 : Shape := ⟨2, ![1664, 2048]⟩
abbrev S4x1024x512 : Shape := ⟨3, ![4, 1024, 512]⟩
abbrev S1024x2048 : Shape := ⟨2, ![1024, 2048]⟩
abbrev S1024x512 : Shape := ⟨2, ![1024, 512]⟩
abbrev S1x1024x512 : Shape := ⟨3, ![1, 1024, 512]⟩

abbrev nBuf : Space → Nat
  | .hbm => 21
  | .vmem => 7
  | .smem => 0
  | _ => 0

abbrev bufTy : (tb : Table) → Fin (tcTables nBuf tb) → BufTy
  | .hbm, ⟨0, _⟩ => ⟨S8320x4096, .f32⟩
  | .hbm, ⟨1, _⟩ => ⟨S8320x1024, .f32⟩
  | .hbm, ⟨2, _⟩ => ⟨S1x1024, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .bf16⟩
  | .hbm, ⟨19, _⟩ => ⟨S8320x4096, .bf16⟩
  | .hbm, ⟨20, _⟩ => ⟨S8x1024x512, .bf16⟩
  | .local _ .vmem, ⟨0, _⟩ => ⟨S1664x1024, .bf16⟩
  | .local _ .vmem, ⟨1, _⟩ => ⟨S1664x1024, .bf16⟩
  | .local _ .vmem, ⟨2, _⟩ => ⟨S1664x2048, .bf16⟩
  | .local _ .vmem, ⟨3, _⟩ => ⟨S1664x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S1024x2048, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8320x4096 : Shape := ⟨2, ![8320, 4096]⟩
abbrev S8320x1024 : Shape := ⟨2, ![8320, 1024]⟩
abbrev S1x1024 : Shape := ⟨2, ![1, 1024]⟩
abbrev S_ : Shape := ⟨0, ![]⟩
abbrev S1024x4096 : Shape := ⟨2, ![1024, 4096]⟩
abbrev S8320 : Shape := ⟨1, ![8320]⟩
abbrev S8320x1 : Shape := ⟨2, ![8320, 1]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 26
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S8320x1024, .f32⟩
  | .hbm, ⟨2, _⟩ => ⟨S1x1024, .f32⟩
  | .hbm, ⟨3, _⟩ => ⟨S_, .f32⟩
  | .hbm, ⟨4, _⟩ => ⟨S1024x4096, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x4096, .f32⟩
  | .hbm, ⟨21, _⟩ => ⟨S4096x1024, .f32⟩
  | .hbm, ⟨22, _⟩ => ⟨S1024x4096, .f32⟩
  | .hbm, ⟨23, _⟩ => ⟨S1024x8x512, .f32⟩
  | .hbm, ⟨24, _⟩ => ⟨S8x1024x512, .f32⟩
  | .hbm, ⟨25, _⟩ => ⟨S8x1024x512, .bf16⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel5.lean ====
abbrev S8320x4096 : Shape := ⟨2, ![8320, 4096]⟩
abbrev S1024x4096 : Shape := ⟨2, ![1024, 4096]⟩
abbrev S8320x1024 : Shape := ⟨2, ![8320, 1024]⟩
abbrev S1x1024 : Shape := ⟨2, ![1, 1024]⟩
abbrev S1024x8x512 : Shape := ⟨3, ![1024, 8, 512]⟩
abbrev S8x1024x512 : Shape := ⟨3, ![8, 1024, 512]⟩
abbrev S8x1x1024x512 : Shape := ⟨4, ![8, 1, 1024, 512]⟩
abbrev S640x4096 : Shape := ⟨2, ![640, 4096]⟩
abbrev S640x1024 : Shape := ⟨2, ![640, 1024]⟩
abbrev S640x512 : Shape := ⟨2, ![640, 512]⟩
abbrev S1x1x1024x512 : Shape := ⟨4, ![1, 1, 1024, 512]⟩
abbrev S1024x512 : Shape := ⟨2, ![1024, 512]⟩
abbrev S640 : Shape := ⟨1, ![640]⟩
abbrev S640x1 : Shape := ⟨2, ![640, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S8320x4096, .f32⟩
  | .hbm, ⟨1, _⟩ => ⟨S1024x4096, .f32⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x4096, .bf16⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S8x1x1024x512, .bf16⟩
  | .hbm, ⟨10, _⟩ => ⟨S8320x1024, .f32⟩
  | .hbm, ⟨11, _⟩ => ⟨S1x1024, .f32⟩
  | .local _ .vmem, ⟨0, _⟩ => ⟨S640x4096, .bf16⟩
  | .local _ .vmem, ⟨1, _⟩ => ⟨S640x4096, .bf16⟩
  | .local _ .vmem, ⟨2, _⟩ => ⟨S8x1x1024x512, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S1x1024, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8320x4096 : Shape := ⟨2, ![8320, 4096]⟩
abbrev S1024x4096 : Shape := ⟨2, ![1024, 4096]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S1024x4096, .f32⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x4096, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S_, .f32⟩
  | .hbm, ⟨34, _⟩ => ⟨S8320, .f32⟩
  | .hbm, ⟨35, _⟩ => ⟨S8320x1, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S8320x1, .f32⟩
  | .hbm, ⟨40, _⟩ => ⟨S_, .f32⟩
  | .hbm, ⟨41, _⟩ => ⟨S8320x1, .f32⟩
  | .hbm, ⟨42, _⟩ => ⟨S8320x1, .f32⟩
  | .hbm, ⟨43, _⟩ => ⟨S_, .f32⟩
  | .hbm, ⟨44, _⟩ => ⟨S8320, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel6.lean ====
abbrev S8320x1024 : Shape := ⟨2, ![8320, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S8x1x1024x512 : Shape := ⟨4, ![8, 1, 1024, 512]⟩
abbrev S8320x4096 : Shape := ⟨2, ![8320, 4096]⟩
abbrev S640x1024 : Shape := ⟨2, ![640, 1024]⟩
abbrev S640x4096 : Shape := ⟨2, ![640, 4096]⟩
abbrev S640 : Shape := ⟨1, ![640]⟩
abbrev S640x1 : Shape := ⟨2, ![640, 1]⟩
abbrev S1x1x1024x512 : Shape := ⟨4, ![1, 1, 1024, 512]⟩
abbrev S1024x512 : Shape := ⟨2, ![1024, 512]⟩
abbrev S640x512 : Shape := ⟨2, ![640, 512]⟩

abbrev nBuf : Space → Nat
  | .hbm => 9
  | .vmem => 8
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x4096, .f32⟩
  | .hbm, ⟨3, _⟩ => ⟨S1024x4096, .bf16⟩
  | .hbm, ⟨4, _⟩ => ⟨S1024x8x512, .bf16⟩
  | .hbm, ⟨5, _⟩ => ⟨S8x1024x512, .bf16⟩
  | .hbm, ⟨6, _⟩ => ⟨S8x1x1024x512, .bf16⟩
  | .hbm, ⟨7, _⟩ => ⟨S8320x4096, .bf16⟩
  | .hbm, ⟨8, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S8x1x1024x512, .bf16⟩
  | .local _ .vmem, ⟨4, _⟩ => ⟨S640x4096, .bf16⟩
  | .local _ .vmem, ⟨5, _⟩ => ⟨S640x4096, .bf16⟩
  | .local _ .vmem, ⟨6, _⟩ => ⟨S640x1024, .bf16⟩
  | .local _ .vmem, ⟨7, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S8320x1024 : Shape := ⟨2, ![8320, 1024]⟩
abbrev S1x1024 : Shape := ⟨2, ![1, 1024]⟩
abbrev S1024x4096 : Shape := ⟨2, ![1024, 4096]⟩
abbrev S_ : Shape := ⟨0, ![]⟩
abbrev S8320 : Shape := ⟨1, ![8320]⟩
abbrev S8320x1 : Shape := ⟨2, ![8320, 1]⟩
abbrev S8320x4096 : Shape := ⟨2, ![8320, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x4096, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x4096, .f32⟩
  | .hbm, ⟨19, _⟩ => ⟨S_, .f32⟩
  | .hbm, ⟨20, _⟩ => ⟨S8320x4096, .f32⟩
  | .hbm, ⟨21, _⟩ => ⟨S8320x4096, .f32⟩
  | .hbm, ⟨22, _⟩ => ⟨S8320x4096, .f32⟩
  | .hbm, ⟨23, _⟩ => ⟨S8320x4096, .bf16⟩
  | .hbm, ⟨24, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_cst : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel7.lean ====
abbrev S8320x4096 : Shape := ⟨2, ![8320, 4096]⟩
abbrev S4096x1024 : Shape := ⟨2, ![4096, 1024]⟩
abbrev S8320x1024 : Shape := ⟨2, ![8320, 1024]⟩
abbrev S_ : Shape := ⟨0, ![]⟩
abbrev S8x1x512x1024 : Shape := ⟨4, ![8, 1, 512, 1024]⟩
abbrev S640x4096 : Shape := ⟨2, ![640, 4096]⟩
abbrev S640x1024 : Shape := ⟨2, ![640, 1024]⟩
abbrev S8x512x1024 : Shape := ⟨3, ![8, 512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8320x4096, .f32⟩
  | .hbm, ⟨1, _⟩ => ⟨S4096x1024, .f32⟩
  | .hbm, ⟨2, _⟩ => ⟨S8320x1024, .f32⟩
  | .hbm, ⟨3, _⟩ => ⟨S_, .f32⟩
  | .hbm, ⟨4, _⟩ => ⟨S8320x4096, .f32⟩
  | .hbm, ⟨5, _⟩ => ⟨S8320x4096, .f32⟩
  | .hbm, ⟨6, _⟩ => ⟨S8320x4096, .f32⟩
  | .hbm, ⟨7, _⟩ => ⟨S8320x4096, .bf16⟩
  | .hbm, ⟨8, _⟩ => ⟨S4096x1024, .bf16⟩
  | .hbm, ⟨9, _⟩ => ⟨S8x1x512x1024, .bf16⟩
  | .hbm, ⟨10, _⟩ => ⟨S8320x1024, .f32⟩
  | .local _ .vmem, ⟨0, _⟩ => ⟨S640x4096, .bf16⟩
  | .local _ .vmem, ⟨1, _⟩ => ⟨S640x4096, .bf16⟩
  | .local _ .vmem, ⟨2, _⟩ => ⟨S8x1x512x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8320x4096 : Shape := ⟨2, ![8320, 4096]⟩
abbrev S4096x1024 : Shape := ⟨2, ![4096, 1024]⟩
abbrev S8320x1024 : Shape := ⟨2, ![8320, 1024]⟩
abbrev S_ : Shape := ⟨0, ![]⟩
abbrev S8320 : Shape := ⟨1, ![8320]⟩
abbrev S8320x1 : Shape := ⟨2, ![8320, 1]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096x1024, .f32⟩
  | .hbm, ⟨2, _⟩ => ⟨S8320x1024, .f32⟩
  | .hbm, ⟨3, _⟩ => ⟨S_, .f32⟩
  | .hbm, ⟨4, _⟩ => ⟨S8320x4096, .f32⟩
  | .hbm, ⟨5, _⟩ => ⟨S8320x4096, .f32⟩
  | .hbm, ⟨6, _⟩ => ⟨S8320x4096, .f32⟩
  | .hbm, ⟨7, _⟩ => ⟨S8320x1024, .f32⟩
  | .hbm, ⟨8, _⟩ => ⟨S8320, .i32⟩
  | .hbm, ⟨9, _⟩ => ⟨S8320x1, .i32⟩
  | .hbm, ⟨10, _⟩ => ⟨S_, .i32⟩
  | .hbm, ⟨11, _⟩ => ⟨S8320x1, .i32⟩
  | .hbm, ⟨12, _⟩ => ⟨S8320x1, .i1⟩
  | .hbm, ⟨13, _⟩ => ⟨S_, .f32⟩
  | .hbm, ⟨14, _⟩ => ⟨S_, .f32⟩
  | .hbm, ⟨15, _⟩ => ⟨S8320x1024, .i1⟩
  | .hbm, ⟨16, _⟩ => ⟨S8320x1024, .f32⟩
  | .hbm, ⟨17, _⟩ => ⟨S8320x1024, .f32⟩
  | .hbm, ⟨18, _⟩ => ⟨S8320x1024, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel8.lean ====
abbrev S8320x3200 : Shape := ⟨2, ![8320, 3200]⟩
abbrev S1024x3200 : Shape := ⟨2, ![1024, 3200]⟩
abbrev S8320x1024 : Shape := ⟨2, ![8320, 1024]⟩
abbrev S1x1024 : Shape := ⟨2, ![1, 1024]⟩
abbrev S640x3200 : Shape := ⟨2, ![640, 3200]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8320x3200, .f32⟩
  | .hbm, ⟨1, _⟩ => ⟨S1024x3200, .f32⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x3200, .bf16⟩
  | .hbm, ⟨6, _⟩ => ⟨S1024x3200, .bf16⟩
  | .hbm, ⟨7, _⟩ => ⟨S8320x1024, .f32⟩
  | .hbm, ⟨8, _⟩ => ⟨S1x1024, .f32⟩
  | .local _ .vmem, ⟨0, _⟩ => ⟨S640x3200, .bf16⟩
  | .local _ .vmem, ⟨1, _⟩ => ⟨S640x3200, .bf16⟩
  | .local _ .vmem, ⟨2, _⟩ => ⟨S1024x3200, .bf16⟩
  | .local _ .vmem, ⟨3, _⟩ => ⟨S1x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S1x1024, .f32⟩
  | _, _ => ⟨S8320x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference8Ideal.lean ====
abbrev S8320x3200 : Shape := ⟨2, ![8320, 3200]⟩
abbrev S1024x3200 : Shape := ⟨2, ![1024, 3200]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8320x3200, .f32⟩
  | .hbm, ⟨1, _⟩ => ⟨S1024x3200, .f32⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x3200, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S_, .f32⟩
  | .hbm, ⟨34, _⟩ => ⟨S8320, .f32⟩
  | .hbm, ⟨35, _⟩ => ⟨S8320x1, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S8320x1, .f32⟩
  | .hbm, ⟨40, _⟩ => ⟨S_, .f32⟩
  | .hbm, ⟨41, _⟩ => ⟨S8320x1, .f32⟩
  | .hbm, ⟨42, _⟩ => ⟨S8320x1, .f32⟩
  | .hbm, ⟨43, _⟩ => ⟨S_, .f32⟩
  | .hbm, ⟨44, _⟩ => ⟨S8320, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | _, _ => ⟨S8320x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel9.lean ====
abbrev S8320x3200 : Shape := ⟨2, ![8320, 3200]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024x3200 : Shape := ⟨2, ![1024, 3200]⟩
abbrev S1664x512 : Shape := ⟨2, ![1664, 512]⟩
abbrev S1664x3200 : Shape := ⟨2, ![1664, 3200]⟩
abbrev S512x3200 : Shape := ⟨2, ![512, 3200]⟩

abbrev nBuf : Space → Nat
  | .hbm => 21
  | .vmem => 7
  | .smem => 0
  | _ => 0

abbrev bufTy : (tb : Table) → Fin (tcTables nBuf tb) → BufTy
  | .hbm, ⟨0, _⟩ => ⟨S8320x3200, .f32⟩
  | .hbm, ⟨1, _⟩ => ⟨S8320x1024, .f32⟩
  | .hbm, ⟨2, _⟩ => ⟨S1x1024, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .bf16⟩
  | .hbm, ⟨19, _⟩ => ⟨S8320x3200, .bf16⟩
  | .hbm, ⟨20, _⟩ => ⟨S1024x3200, .f32⟩
  | .local _ .vmem, ⟨0, _⟩ => ⟨S1664x512, .bf16⟩
  | .local _ .vmem, ⟨1, _⟩ => ⟨S1664x512, .bf16⟩
  | .local _ .vmem, ⟨2, _⟩ => ⟨S1664x3200, .bf16⟩
  | .local _ .vmem, ⟨3, _⟩ => ⟨S1664x3200, .bf16⟩
  | .local _ .vmem, ⟨4, _⟩ => ⟨S512x3200, .f32⟩
  | .local _ .vmem, ⟨5, _⟩ => ⟨S512x3200, .f32⟩
  | .local _ .vmem, ⟨6, _⟩ => ⟨S512x3200, .f32⟩
  | _, _ => ⟨S8320x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8320x3200 : Shape := ⟨2, ![8320, 3200]⟩
abbrev S8320x1024 : Shape := ⟨2, ![8320, 1024]⟩
abbrev S1x1024 : Shape := ⟨2, ![1, 1024]⟩
abbrev S_ : Shape := ⟨0, ![]⟩
abbrev S1024x3200 : Shape := ⟨2, ![1024, 3200]⟩
abbrev S8320 : Shape := ⟨1, ![8320]⟩
abbrev S8320x1 : Shape := ⟨2, ![8320, 1]⟩
abbrev S3200x1024 : Shape := ⟨2, ![3200, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8320x3200, .f32⟩
  | .hbm, ⟨1, _⟩ => ⟨S8320x1024, .f32⟩
  | .hbm, ⟨2, _⟩ => ⟨S1x1024, .f32⟩
  | .hbm, ⟨3, _⟩ => ⟨S_, .f32⟩
  | .hbm, ⟨4, _⟩ => ⟨S1024x3200, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x3200, .f32⟩
  | .hbm, ⟨21, _⟩ => ⟨S3200x1024, .f32⟩
  | .hbm, ⟨22, _⟩ => ⟨S1024x3200, .f32⟩
  | _, _ => ⟨S8320x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel10.lean ====
abbrev S8320x1024 : Shape := ⟨2, ![8320, 1024]⟩
abbrev S1x1024 : Shape := ⟨2, ![1, 1024]⟩
abbrev S1024x3200 : Shape := ⟨2, ![1024, 3200]⟩
abbrev S_ : Shape := ⟨0, ![]⟩
abbrev S8320 : Shape := ⟨1, ![8320]⟩
abbrev S8320x1 : Shape := ⟨2, ![8320, 1]⟩
abbrev S8320x3200 : Shape := ⟨2, ![8320, 3200]⟩
abbrev S640x1024 : Shape := ⟨2, ![640, 1024]⟩
abbrev S640x3200 : Shape := ⟨2, ![640, 3200]⟩

abbrev nBuf : Space → Nat
  | .hbm => 21
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x3200, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .bf16⟩
  | .hbm, ⟨19, _⟩ => ⟨S1024x3200, .bf16⟩
  | .hbm, ⟨20, _⟩ => ⟨S8320x3200, .f32⟩
  | .local _ .vmem, ⟨0, _⟩ => ⟨S640x1024, .bf16⟩
  | .local _ .vmem, ⟨1, _⟩ => ⟨S640x1024, .bf16⟩
  | .local _ .vmem, ⟨2, _⟩ => ⟨S1024x3200, .bf16⟩
  | .local _ .vmem, ⟨3, _⟩ => ⟨S640x3200, .f32⟩
  | .local _ .vmem, ⟨4, _⟩ => ⟨S640x3200, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S640x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8320x1024 : Shape := ⟨2, ![8320, 1024]⟩
abbrev S1x1024 : Shape := ⟨2, ![1, 1024]⟩
abbrev S1024x3200 : Shape := ⟨2, ![1024, 3200]⟩
abbrev S_ : Shape := ⟨0, ![]⟩
abbrev S8320 : Shape := ⟨1, ![8320]⟩
abbrev S8320x1 : Shape := ⟨2, ![8320, 1]⟩
abbrev S8320x3200 : Shape := ⟨2, ![8320, 3200]⟩

abbrev nBuf : Space → Nat
  | .hbm => 19
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x3200, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x3200, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel11.lean ====
abbrev S8320x2048 : Shape := ⟨2, ![8320, 2048]⟩
abbrev S1024x2048 : Shape := ⟨2, ![1024, 2048]⟩
abbrev S8320x1024 : Shape := ⟨2, ![8320, 1024]⟩
abbrev S1x1024 : Shape := ⟨2, ![1, 1024]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S640x2048 : Shape := ⟨2, ![640, 2048]⟩
abbrev S640x1024 : Shape := ⟨2, ![640, 1024]⟩
abbrev S640x256 : Shape := ⟨2, ![640, 256]⟩
abbrev S1x1x1024x256 : Shape := ⟨4, ![1, 1, 1024, 256]⟩
abbrev S1024x256 : Shape := ⟨2, ![1024, 256]⟩
abbrev S640 : Shape := ⟨1, ![640]⟩
abbrev S640x1 : Shape := ⟨2, ![640, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S8320x2048, .f32⟩
  | .hbm, ⟨1, _⟩ => ⟨S1024x2048, .f32⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x2048, .bf16⟩
  | .hbm, ⟨6, _⟩ => ⟨S1024x2048, .bf16⟩
  | .hbm, ⟨7, _⟩ => ⟨S1024x8x256, .bf16⟩
  | .hbm, ⟨8, _⟩ => ⟨S8x1024x256, .bf16⟩
  | .hbm, ⟨9, _⟩ => ⟨S8x1x1024x256, .bf16⟩
  | .hbm, ⟨10, _⟩ => ⟨S8320x1024, .f32⟩
  | .hbm, ⟨11, _⟩ => ⟨S1x1024, .f32⟩
  | .local _ .vmem, ⟨0, _⟩ => ⟨S640x2048, .bf16⟩
  | .local _ .vmem, ⟨1, _⟩ => ⟨S640x2048, .bf16⟩
  | .local _ .vmem, ⟨2, _⟩ => ⟨S8x1x1024x256, .bf16⟩
  | .local _ .vmem, ⟨3, _⟩ => ⟨S640x1024, .f32⟩
  | .local _ .vmem, ⟨4, _⟩ => ⟨S640x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S1x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S8320x2048 : Shape := ⟨2, ![8320, 2048]⟩
abbrev S1024x2048 : Shape := ⟨2, ![1024, 2048]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S1024x2048, .f32⟩
  | .hbm, ⟨2, _⟩ => ⟨S8320x1024, .f32⟩
  | .hbm, ⟨3, _⟩ => ⟨S1x1024, .f32⟩
  | .hbm, ⟨4, _⟩ => ⟨S8320x1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1, .f32⟩
  | .hbm, ⟨17, _⟩ => ⟨S_, .f32⟩
  | .hbm, ⟨18, _⟩ => ⟨S8320x1, .f32⟩
  | .hbm, ⟨19, _⟩ => ⟨S8320x1, .f32⟩
  | .hbm, ⟨20, _⟩ => ⟨S8320x1024, .f32⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x2048, .f32⟩
  | .hbm, ⟨25, _⟩ => ⟨S8320x1024, .f32⟩
  | .hbm, ⟨26, _⟩ => ⟨S8320x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S_, .f32⟩
  | .hbm, ⟨34, _⟩ => ⟨S8320, .f32⟩
  | .hbm, ⟨35, _⟩ => ⟨S8320x1, .f32⟩
  | .hbm, ⟨36, _⟩ => ⟨S8320x1024, .f32⟩
  | .hbm, ⟨37, _⟩ => ⟨S8320x1024, .f32⟩
  | .hbm, ⟨38, _⟩ => ⟨S8320x1024, .f32⟩
  | .hbm, ⟨39, _⟩ => ⟨S8320x1, .f32⟩
  | .hbm, ⟨40, _⟩ => ⟨S_, .f32⟩
  | .hbm, ⟨41, _⟩ => ⟨S8320x1, .f32⟩
  | .hbm, ⟨42, _⟩ => ⟨S8320x1, .f32⟩
  | .hbm, ⟨43, _⟩ => ⟨S_, .f32⟩
  | .hbm, ⟨44, _⟩ => ⟨S8320, .f32⟩
  | .hbm, ⟨45, _⟩ => ⟨S8320x1024, .f32⟩
  | .hbm, ⟨46, _⟩ => ⟨S8320x1024, .f32⟩
  | .hbm, ⟨47, _⟩ => ⟨S8320x1024, .f32⟩
  | .hbm, ⟨48, _⟩ => ⟨S8320x1024, .f32⟩
  | .hbm, ⟨49, _⟩ => ⟨S8320x1024, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel12.lean ====
abbrev S8320x2048 : Shape := ⟨2, ![8320, 2048]⟩
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩
abbrev S8x1024x256 : Shape := ⟨3, ![8, 1024, 256]⟩
abbrev S1664x1024 : Shape := ⟨2, ![1664, 1024]⟩
abbrev S1664x2048 : Shape := ⟨2, ![1664, 2048]⟩
abbrev S1024x2048 : Shape := ⟨2, ![1024, 2048]⟩
abbrev S1024x256 : Shape := ⟨2, ![1024, 256]⟩
abbrev S1x1024x256 : Shape := ⟨3, ![1, 1024, 256]⟩

abbrev nBuf : Space → Nat
  | .hbm => 21
  | .vmem => 6
  | .smem => 0
  | _ => 0

abbrev bufTy : (tb : Table) → Fin (tcTables nBuf tb) → BufTy
  | .hbm, ⟨0, _⟩ => ⟨S8320x2048, .f32⟩
  | .hbm, ⟨1, _⟩ => ⟨S8320x1024, .f32⟩
  | .hbm, ⟨2, _⟩ => ⟨S1x1024, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .bf16⟩
  | .hbm, ⟨19, _⟩ => ⟨S8320x2048, .bf16⟩
  | .hbm, ⟨20, _⟩ => ⟨S8x1024x256, .bf16⟩
  | .local _ .vmem, ⟨0, _⟩ => ⟨S1664x1024, .bf16⟩
  | .local _ .vmem, ⟨1, _⟩ => ⟨S1664x1024, .bf16⟩
  | .local _ .vmem, ⟨2, _⟩ => ⟨S1664x2048, .bf16⟩
  | .local _ .vmem, ⟨3, _⟩ => ⟨S1664x2048, .bf16⟩
  | .local _ .vmem, ⟨4, _⟩ => ⟨S8x1024x256, .bf16⟩
  | .local _ .vmem, ⟨5, _⟩ => ⟨S1024x2048, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 5], ![false, false]⟩

def k0_cond2 (i : grid0.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1664x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference12Ideal.lean ====
abbrev S8320x2048 : Shape := ⟨2, ![8320, 2048]⟩
abbrev S8320x1024 : Shape := ⟨2, ![8320, 1024]⟩
abbrev S1x1024 : Shape := ⟨2, ![1, 1024]⟩
abbrev S_ : Shape := ⟨0, ![]⟩
abbrev S1024x2048 : Shape := ⟨2, ![1024, 2048]⟩
abbrev S8320 : Shape := ⟨1, ![8320]⟩
abbrev S8320x1 : Shape := ⟨2, ![8320, 1]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 26
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x1024, .f32⟩
  | .hbm, ⟨2, _⟩ => ⟨S1x1024, .f32⟩
  | .hbm, ⟨3, _⟩ => ⟨S_, .f32⟩
  | .hbm, ⟨4, _⟩ => ⟨S1024x2048, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x2048, .f32⟩
  | .hbm, ⟨21, _⟩ => ⟨S2048x1024, .f32⟩
  | .hbm, ⟨22, _⟩ => ⟨S1024x2048, .f32⟩
  | .hbm, ⟨23, _⟩ => ⟨S1024x8x256, .f32⟩
  | .hbm, ⟨24, _⟩ => ⟨S8x1024x256, .f32⟩
  | .hbm, ⟨25, _⟩ => ⟨S8x1024x256, .bf16⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel13.lean ====
abbrev S8320x1024 : Shape := ⟨2, ![8320, 1024]⟩
abbrev S1x1024 : Shape := ⟨2, ![1, 1024]⟩
abbrev S1024x2048 : Shape := ⟨2, ![1024, 2048]⟩
abbrev S1x2048 : Shape := ⟨2, ![1, 2048]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S8320x2048 : Shape := ⟨2, ![8320, 2048]⟩
abbrev S640x1024 : Shape := ⟨2, ![640, 1024]⟩
abbrev S640x2048 : Shape := ⟨2, ![640, 2048]⟩
abbrev S640 : Shape := ⟨1, ![640]⟩
abbrev S640x1 : Shape := ⟨2, ![640, 1]⟩
abbrev S1x1x1024x256 : Shape := ⟨4, ![1, 1, 1024, 256]⟩
abbrev S1024x256 : Shape := ⟨2, ![1024, 256]⟩
abbrev S640x256 : Shape := ⟨2, ![640, 256]⟩
abbrev S1x256 : Shape := ⟨2, ![1, 256]⟩

abbrev nBuf : Space → Nat
  | .hbm => 10
  | .vmem => 9
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S1024x2048, .bf16⟩
  | .hbm, ⟨5, _⟩ => ⟨S1024x8x256, .bf16⟩
  | .hbm, ⟨6, _⟩ => ⟨S8x1024x256, .bf16⟩
  | .hbm, ⟨7, _⟩ => ⟨S8x1x1024x256, .bf16⟩
  | .hbm, ⟨8, _⟩ => ⟨S8320x2048, .f32⟩
  | .hbm, ⟨9, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S8x1x1024x256, .bf16⟩
  | .local _ .vmem, ⟨4, _⟩ => ⟨S1x2048, .f32⟩
  | .local _ .vmem, ⟨5, _⟩ => ⟨S640x2048, .f32⟩
  | .local _ .vmem, ⟨6, _⟩ => ⟨S640x2048, .f32⟩
  | .local _ .vmem, ⟨7, _⟩ => ⟨S640x1024, .bf16⟩
  | .local _ .vmem, ⟨8, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S8320x1024 : Shape := ⟨2, ![8320, 1024]⟩
abbrev S1x1024 : Shape := ⟨2, ![1, 1024]⟩
abbrev S1024x2048 : Shape := ⟨2, ![1024, 2048]⟩
abbrev S1x2048 : Shape := ⟨2, ![1, 2048]⟩
abbrev S_ : Shape := ⟨0, ![]⟩
abbrev S8320 : Shape := ⟨1, ![8320]⟩
abbrev S8320x1 : Shape := ⟨2, ![8320, 1]⟩
abbrev S8320x2048 : Shape := ⟨2, ![8320, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x2048, .f32⟩
  | .hbm, ⟨3, _⟩ => ⟨S1x2048, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x2048, .f32⟩
  | .hbm, ⟨20, _⟩ => ⟨S8320x2048, .f32⟩
  | .hbm, ⟨21, _⟩ => ⟨S8320x2048, .f32⟩
  | .hbm, ⟨22, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel14.lean ====
abbrev S8320x1024 : Shape := ⟨2, ![8320, 1024]⟩
abbrev S1536x1024 : Shape := ⟨2, ![1536, 1024]⟩
abbrev S8x1x192x1024 : Shape := ⟨4, ![8, 1, 192, 1024]⟩
abbrev S8320x1536 : Shape := ⟨2, ![8320, 1536]⟩
abbrev S640x1024 : Shape := ⟨2, ![640, 1024]⟩
abbrev S640x1536 : Shape := ⟨2, ![640, 1536]⟩
abbrev S8x192x1024 : Shape := ⟨3, ![8, 192, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1536x1024, .f32⟩
  | .hbm, ⟨2, _⟩ => ⟨S1536x1024, .bf16⟩
  | .hbm, ⟨3, _⟩ => ⟨S8x1x192x1024, .bf16⟩
  | .hbm, ⟨4, _⟩ => ⟨S8320x1536, .f32⟩
  | .local _ .vmem, ⟨0, _⟩ => ⟨S640x1024, .f32⟩
  | .local _ .vmem, ⟨1, _⟩ => ⟨S640x1024, .f32⟩
  | .local _ .vmem, ⟨2, _⟩ => ⟨S8x1x192x1024, .bf16⟩
  | .local _ .vmem, ⟨3, _⟩ => ⟨S640x1536, .f32⟩
  | .local _ .vmem, ⟨4, _⟩ => ⟨S640x1536, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S8320x1024 : Shape := ⟨2, ![8320, 1024]⟩
abbrev S1536x1024 : Shape := ⟨2, ![1536, 1024]⟩
abbrev S_ : Shape := ⟨0, ![]⟩
abbrev S8320x1536 : Shape := ⟨2, ![8320, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1536x1024, .f32⟩
  | .hbm, ⟨2, _⟩ => ⟨S_, .f32⟩
  | .hbm, ⟨3, _⟩ => ⟨S8320x1536, .f32⟩
  | .hbm, ⟨4, _⟩ => ⟨S8320x1024, .f32⟩
  | .hbm, ⟨5, _⟩ => ⟨S8320x1536, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S8320x1536 : Shape := ⟨2, ![8320, 1536]⟩
abbrev S8320x1024 : Shape := ⟨2, ![8320, 1024]⟩
abbrev S1536x1024 : Shape := ⟨2, ![1536, 1024]⟩
abbrev S1664x512 : Shape := ⟨2, ![1664, 512]⟩
abbrev S1664x1024 : Shape := ⟨2, ![1664, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8320x1536, .f32⟩
  | .hbm, ⟨1, _⟩ => ⟨S8320x1024, .f32⟩
  | .hbm, ⟨2, _⟩ => ⟨S8320x1536, .bf16⟩
  | .hbm, ⟨3, _⟩ => ⟨S1536x1024, .bf16⟩
  | .local _ .vmem, ⟨0, _⟩ => ⟨S1664x512, .bf16⟩
  | .local _ .vmem, ⟨1, _⟩ => ⟨S1664x512, .bf16⟩
  | .local _ .vmem, ⟨2, _⟩ => ⟨S1664x1024, .f32⟩
  | .local _ .vmem, ⟨3, _⟩ => ⟨S1664x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8320x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8320x1536 : Shape := ⟨2, ![8320, 1536]⟩
abbrev S8320x1024 : Shape := ⟨2, ![8320, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8320x1536, .f32⟩
  | .hbm, ⟨1, _⟩ => ⟨S8320x1024, .f32⟩
  | .hbm, ⟨2, _⟩ => ⟨S_, .f32⟩
  | .hbm, ⟨3, _⟩ => ⟨S1536x1024, .f32⟩
  | .hbm, ⟨4, _⟩ => ⟨S8320x1024, .f32⟩
  | .hbm, ⟨5, _⟩ => ⟨S1024x1536, .f32⟩
  | .hbm, ⟨6, _⟩ => ⟨S1536x1024, .f32⟩
  | .hbm, ⟨7, _⟩ => ⟨S1536x1024, .bf16⟩
  | _, _ => ⟨S8320x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8320x1536 : Shape := ⟨2, ![8320, 1536]⟩
abbrev S1536x1024 : Shape := ⟨2, ![1536, 1024]⟩
abbrev S8320x1024 : Shape := ⟨2, ![8320, 1024]⟩
abbrev S8x1x192x1024 : Shape := ⟨4, ![8, 1, 192, 1024]⟩
abbrev S640x1536 : Shape := ⟨2, ![640, 1536]⟩
abbrev S640x1024 : Shape := ⟨2, ![640, 1024]⟩
abbrev S8x192x1024 : Shape := ⟨3, ![8, 192, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8320x1536, .f32⟩
  | .hbm, ⟨1, _⟩ => ⟨S1536x1024, .f32⟩
  | .hbm, ⟨2, _⟩ => ⟨S8320x1024, .f32⟩
  | .hbm, ⟨3, _⟩ => ⟨S8320x1536, .bf16⟩
  | .hbm, ⟨4, _⟩ => ⟨S1536x1024, .bf16⟩
  | .hbm, ⟨5, _⟩ => ⟨S8x1x192x1024, .bf16⟩
  | .hbm, ⟨6, _⟩ => ⟨S8320x1024, .f32⟩
  | .local _ .vmem, ⟨0, _⟩ => ⟨S640x1536, .bf16⟩
  | .local _ .vmem, ⟨1, _⟩ => ⟨S640x1536, .bf16⟩
  | .local _ .vmem, ⟨2, _⟩ => ⟨S8x1x192x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S8320x1536 : Shape := ⟨2, ![8320, 1536]⟩
abbrev S1536x1024 : Shape := ⟨2, ![1536, 1024]⟩
abbrev S8320x1024 : Shape := ⟨2, ![8320, 1024]⟩
abbrev S8320 : Shape := ⟨1, ![8320]⟩
abbrev S8320x1 : Shape := ⟨2, ![8320, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8320x1536, .f32⟩
  | .hbm, ⟨1, _⟩ => ⟨S1536x1024, .f32⟩
  | .hbm, ⟨2, _⟩ => ⟨S8320x1024, .f32⟩
  | .hbm, ⟨3, _⟩ => ⟨S8320x1024, .f32⟩
  | .hbm, ⟨4, _⟩ => ⟨S8320, .i32⟩
  | .hbm, ⟨5, _⟩ => ⟨S8320x1, .i32⟩
  | .hbm, ⟨6, _⟩ => ⟨S_, .i32⟩
  | .hbm, ⟨7, _⟩ => ⟨S8320x1, .i32⟩
  | .hbm, ⟨8, _⟩ => ⟨S8320x1, .i1⟩
  | .hbm, ⟨9, _⟩ => ⟨S_, .f32⟩
  | .hbm, ⟨10, _⟩ => ⟨S_, .f32⟩
  | .hbm, ⟨11, _⟩ => ⟨S8320x1024, .i1⟩
  | .hbm, ⟨12, _⟩ => ⟨S8320x1024, .f32⟩
  | .hbm, ⟨13, _⟩ => ⟨S8320x1024, .f32⟩
  | .hbm, ⟨14, _⟩ => ⟨S8320x1024, .f32⟩
  | _, _ => ⟨S8320x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Kernel17.lean ====
abbrev S8320x1024 : Shape := ⟨2, ![8320, 1024]⟩
abbrev S1024x1024 : Shape := ⟨2, ![1024, 1024]⟩
abbrev S8x1x128x1024 : Shape := ⟨4, ![8, 1, 128, 1024]⟩
abbrev S640x1024 : Shape := ⟨2, ![640, 1024]⟩
abbrev S8x128x1024 : Shape := ⟨3, ![8, 128, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S1024x1024, .bf16⟩
  | .hbm, ⟨3, _⟩ => ⟨S8x1x128x1024, .bf16⟩
  | .hbm, ⟨4, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S8x1x128x1024, .bf16⟩
  | .local _ .vmem, ⟨3, _⟩ => ⟨S640x1024, .f32⟩
  | .local _ .vmem, ⟨4, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S_, .f32⟩
  | .hbm, ⟨3, _⟩ => ⟨S8320x1024, .f32⟩
  | .hbm, ⟨4, _⟩ => ⟨S8320x1024, .f32⟩
  | .hbm, ⟨5, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .bf16⟩
  | .hbm, ⟨3, _⟩ => ⟨S1024x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .bf16⟩
  | .local _ .vmem, ⟨5, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond2 (i : grid0.Coords) : BitVec 1 :=
  let arg2 : BitVec 32 := BitVec.ofNat 32 (i 2).val
  let c4_i32 : BitVec 32 := 4#32
  let v13 : BitVec 1 := Scalar.cmpi .eq arg2 c4_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8320x1024 : Shape := ⟨2, ![8320, 1024]⟩
abbrev S1024x1024 : Shape := ⟨2, ![1024, 1024]⟩
abbrev S1x1024 : Shape := ⟨2, ![1, 1024]⟩
abbrev S8x1x128x1024 : Shape := ⟨4, ![8, 1, 128, 1024]⟩
abbrev S640x1024 : Shape := ⟨2, ![640, 1024]⟩
abbrev S8x128x1024 : Shape := ⟨3, ![8, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S1x1024, .f32⟩
  | .hbm, ⟨3, _⟩ => ⟨S8320x1024, .f32⟩
  | .hbm, ⟨4, _⟩ => ⟨S8320x1024, .bf16⟩
  | .hbm, ⟨5, _⟩ => ⟨S1024x1024, .bf16⟩
  | .hbm, ⟨6, _⟩ => ⟨S8x1x128x1024, .bf16⟩
  | .hbm, ⟨7, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S8x1x128x1024, .bf16⟩
  | .local _ .vmem, ⟨3, _⟩ => ⟨S1x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference19Ideal.lean ====
abbrev S8320x1024 : Shape := ⟨2, ![8320, 1024]⟩
abbrev S1024x1024 : Shape := ⟨2, ![1024, 1024]⟩
abbrev S1x1024 : Shape := ⟨2, ![1, 1024]⟩
abbrev S8320 : Shape := ⟨1, ![8320]⟩
abbrev S8320x1 : Shape := ⟨2, ![8320, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .f32⟩
  | .hbm, ⟨2, _⟩ => ⟨S1x1024, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S8320x1024, .f32⟩
  | .hbm, ⟨7, _⟩ => ⟨S8320, .i32⟩
  | .hbm, ⟨8, _⟩ => ⟨S8320x1, .i32⟩
  | .hbm, ⟨9, _⟩ => ⟨S_, .i32⟩
  | .hbm, ⟨10, _⟩ => ⟨S8320x1, .i32⟩
  | .hbm, ⟨11, _⟩ => ⟨S8320x1, .i1⟩
  | .hbm, ⟨12, _⟩ => ⟨S_, .f32⟩
  | .hbm, ⟨13, _⟩ => ⟨S_, .f32⟩
  | .hbm, ⟨14, _⟩ => ⟨S8320x1024, .i1⟩
  | .hbm, ⟨15, _⟩ => ⟨S8320x1024, .f32⟩
  | .hbm, ⟨16, _⟩ => ⟨S8320x1024, .f32⟩
  | .hbm, ⟨17, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Kernel20.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S1x1024, .f32⟩
  | .hbm, ⟨4, _⟩ => ⟨S8320x1024, .f32⟩
  | .hbm, ⟨5, _⟩ => ⟨S1x1024, .f32⟩
  | .hbm, ⟨6, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S640x1024, .f32⟩
  | .local _ .vmem, ⟨3, _⟩ => ⟨S640x1024, .f32⟩
  | .local _ .vmem, ⟨4, _⟩ => ⟨S1x1024, .f32⟩
  | .local _ .vmem, ⟨5, _⟩ => ⟨S1x1024, .f32⟩
  | .local _ .vmem, ⟨6, _⟩ => ⟨S640x1024, .f32⟩
  | .local _ .vmem, ⟨7, _⟩ => ⟨S640x1024, .f32⟩
  | .local _ .vmem, ⟨8, _⟩ => ⟨S1x1024, .f32⟩
  | .local _ .vmem, ⟨9, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S8320x1024 : Shape := ⟨2, ![8320, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩

abbrev nBuf : Space → Nat
  | .hbm => 105
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S_, .f32⟩
  | .hbm, ⟨16, _⟩ => ⟨S8320x1024, .f32⟩
  | .hbm, ⟨17, _⟩ => ⟨S8320x1024, .f32⟩
  | .hbm, ⟨18, _⟩ => ⟨S_, .f32⟩
  | .hbm, ⟨19, _⟩ => ⟨S8320, .f32⟩
  | .hbm, ⟨20, _⟩ => ⟨S8320x1, .f32⟩
  | .hbm, ⟨21, _⟩ => ⟨S_, .f32⟩
  | .hbm, ⟨22, _⟩ => ⟨S8320x1, .f32⟩
  | .hbm, ⟨23, _⟩ => ⟨S8320x1, .f32⟩
  | .hbm, ⟨24, _⟩ => ⟨S8320x1024, .f32⟩
  | .hbm, ⟨25, _⟩ => ⟨S8320x1024, .f32⟩
  | .hbm, ⟨26, _⟩ => ⟨S_, .f32⟩
  | .hbm, ⟨27, _⟩ => ⟨S8320x1, .f32⟩
  | .hbm, ⟨28, _⟩ => ⟨S8320x1, .f32⟩
  | .hbm, ⟨29, _⟩ => ⟨S8320x1, .f32⟩
  | .hbm, ⟨30, _⟩ => ⟨S8320x1, .f32⟩
  | .hbm, ⟨31, _⟩ => ⟨S_, .f32⟩
  | .hbm, ⟨32, _⟩ => ⟨S8320x1, .f32⟩
  | .hbm, ⟨33, _⟩ => ⟨S8320x1, .f32⟩
  | .hbm, ⟨34, _⟩ => ⟨S8320x1024, .f32⟩
  | .hbm, ⟨35, _⟩ => ⟨S8320x1024, .f32⟩
  | .hbm, ⟨36, _⟩ => ⟨S1x1024, .f32⟩
  | .hbm, ⟨37, _⟩ => ⟨S8320x1024, .f32⟩
  | .hbm, ⟨38, _⟩ => ⟨S8320x1024, .f32⟩
  | .hbm, ⟨39, _⟩ => ⟨S1x1024, .f32⟩
  | .hbm, ⟨40, _⟩ => ⟨S8320x1024, .f32⟩
  | .hbm, ⟨41, _⟩ => ⟨S8320x1024, .f32⟩
  | .hbm, ⟨42, _⟩ => ⟨S8320x1024, .f32⟩
  | .hbm, ⟨43, _⟩ => ⟨S8320x1024, .f32⟩
  | .hbm, ⟨44, _⟩ => ⟨S_, .f32⟩
  | .hbm, ⟨45, _⟩ => ⟨S8320x1024, .f32⟩
  | .hbm, ⟨46, _⟩ => ⟨S8320x1024, .f32⟩
  | .hbm, ⟨47, _⟩ => ⟨S_, .f32⟩
  | .hbm, ⟨48, _⟩ => ⟨S8320x1024, .f32⟩
  | .hbm, ⟨49, _⟩ => ⟨S8320x1024, .f32⟩
  | .hbm, ⟨50, _⟩ => ⟨S_, .f32⟩
  | .hbm, ⟨51, _⟩ => ⟨S8320x1024, .f32⟩
  | .hbm, ⟨52, _⟩ => ⟨S8320x1024, .f32⟩
  | .hbm, ⟨53, _⟩ => ⟨S8320x1024, .f32⟩
  | .hbm, ⟨54, _⟩ => ⟨S8320x1024, .f32⟩
  | .hbm, ⟨55, _⟩ => ⟨S8320x1024, .f32⟩
  | .hbm, ⟨56, _⟩ => ⟨S8320x1024, .f32⟩
  | .hbm, ⟨57, _⟩ => ⟨S8320x1024, .f32⟩
  | .hbm, ⟨58, _⟩ => ⟨S8320x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S1024, .f32⟩
  | .hbm, ⟨64, _⟩ => ⟨S8320x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8320x1024, .f32⟩
  | .hbm, ⟨69, _⟩ => ⟨S8320x1024, .f32⟩
  | .hbm, ⟨70, _⟩ => ⟨S_, .f32⟩
  | .hbm, ⟨71, _⟩ => ⟨S1024, .f32⟩
  | .hbm, ⟨72, _⟩ => ⟨S8320x1024, .f32⟩
  | .hbm, ⟨73, _⟩ => ⟨S_, .f32⟩
  | .hbm, ⟨74, _⟩ => ⟨S8320, .f32⟩
  | .hbm, ⟨75, _⟩ => ⟨S8320x1, .f32⟩
  | .hbm, ⟨76, _⟩ => ⟨S8320x1024, .f32⟩
  | .hbm, ⟨77, _⟩ => ⟨S8320x1024, .f32⟩
  | .hbm, ⟨78, _⟩ => ⟨S8320x1, .f32⟩
  | .hbm, ⟨79, _⟩ => ⟨S8320x1024, .f32⟩
  | .hbm, ⟨80, _⟩ => ⟨S_, .f32⟩
  | .hbm, ⟨81, _⟩ => ⟨S8320, .f32⟩
  | .hbm, ⟨82, _⟩ => ⟨S8320x1, .f32⟩
  | .hbm, ⟨83, _⟩ => ⟨S_, .f32⟩
  | .hbm, ⟨84, _⟩ => ⟨S8320x1, .f32⟩
  | .hbm, ⟨85, _⟩ => ⟨S8320x1, .f32⟩
  | .hbm, ⟨86, _⟩ => ⟨S_, .f32⟩
  | .hbm, ⟨87, _⟩ => ⟨S8320, .f32⟩
  | .hbm, ⟨88, _⟩ => ⟨S8320x1024, .f32⟩
  | .hbm, ⟨89, _⟩ => ⟨S8320x1024, .f32⟩
  | .hbm, ⟨90, _⟩ => ⟨S8320x1024, .f32⟩
  | .hbm, ⟨91, _⟩ => ⟨S_, .f32⟩
  | .hbm, ⟨92, _⟩ => ⟨S8320, .f32⟩
  | .hbm, ⟨93, _⟩ => ⟨S8320x1, .f32⟩
  | .hbm, ⟨94, _⟩ => ⟨S8320x1024, .f32⟩
  | .hbm, ⟨95, _⟩ => ⟨S8320x1, .f32⟩
  | .hbm, ⟨96, _⟩ => ⟨S_, .f32⟩
  | .hbm, ⟨97, _⟩ => ⟨S8320x1, .f32⟩
  | .hbm, ⟨98, _⟩ => ⟨S8320x1, .f32⟩
  | .hbm, ⟨99, _⟩ => ⟨S_, .f32⟩
  | .hbm, ⟨100, _⟩ => ⟨S8320, .f32⟩
  | .hbm, ⟨101, _⟩ => ⟨S8320x1024, .f32⟩
  | .hbm, ⟨102, _⟩ => ⟨S8320x1024, .f32⟩
  | .hbm, ⟨103, _⟩ => ⟨S1x1024, .f32⟩
  | .hbm, ⟨104, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_v64 : Ref sig .tc := ⟨.hbm, 85, rfl⟩
abbrev main_cst_16 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_17 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_18 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Kernel21.lean ====
abbrev S8320x2048 : Shape := ⟨2, ![8320, 2048]⟩
abbrev S31x1024 : Shape := ⟨2, ![31, 1024]⟩
abbrev S1x1024 : Shape := ⟨2, ![1, 1024]⟩
abbrev S_ : Shape := ⟨0, ![]⟩
abbrev S32x1024 : Shape := ⟨2, ![32, 1024]⟩
abbrev S8320x1024 : Shape := ⟨2, ![8320, 1024]⟩
abbrev S128x2048 : Shape := ⟨2, ![128, 2048]⟩
abbrev S128x1024 : Shape := ⟨2, ![128, 1024]⟩
abbrev S32x2048 : Shape := ⟨2, ![32, 2048]⟩
abbrev S160x1024 : Shape := ⟨2, ![160, 1024]⟩
abbrev S128 : Shape := ⟨1, ![128]⟩
abbrev S128x1 : Shape := ⟨2, ![128, 1]⟩

abbrev nBuf : Space → Nat
  | .hbm => 10
  | .vmem => 12
  | .smem => 0
  | _ => 0

abbrev bufTy : (tb : Table) → Fin (tcTables nBuf tb) → BufTy
  | .hbm, ⟨0, _⟩ => ⟨S8320x2048, .f32⟩
  | .hbm, ⟨1, _⟩ => ⟨S31x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S8320x1024, .f32⟩
  | .hbm, ⟨9, _⟩ => ⟨S8320x1024, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .bf16⟩
  | .local _ .vmem, ⟨11, _⟩ => ⟨S128x1024, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S8320x2048 : Shape := ⟨2, ![8320, 2048]⟩
abbrev S31x1024 : Shape := ⟨2, ![31, 1024]⟩
abbrev S1x1024 : Shape := ⟨2, ![1, 1024]⟩
abbrev S8208x2048 : Shape := ⟨2, ![8208, 2048]⟩
abbrev S8208x1024 : Shape := ⟨2, ![8208, 1024]⟩
abbrev S_ : Shape := ⟨0, ![]⟩
abbrev S112x1024 : Shape := ⟨2, ![112, 1024]⟩
abbrev S8320x1024 : Shape := ⟨2, ![8320, 1024]⟩
abbrev S30x1024 : Shape := ⟨2, ![30, 1024]⟩
abbrev S8350x1024 : Shape := ⟨2, ![8350, 1024]⟩
abbrev S8320 : Shape := ⟨1, ![8320]⟩
abbrev S8320x1 : Shape := ⟨2, ![8320, 1]⟩

abbrev nBuf : Space → Nat
  | .hbm => 216
  | .vmem => 0
  | .smem => 0
  | _ => 0

abbrev hbmTy0_0 (i : Nat) : BufTy := match i % 128 with
  | 0 => ⟨S8320x2048, .f32⟩
  | 1 => ⟨S31x1024, .f32⟩
  | 2 => ⟨S1x1024, .f32⟩
  | 3 => ⟨S1x1024, .f32⟩
  | 4 => ⟨S1x1024, .f32⟩
  | 5 => ⟨S8208x2048, .f32⟩
  | 6 => ⟨S8208x1024, .f32⟩
  | 7 => ⟨S8208x1024, .f32⟩
  | 8 => ⟨S8208x1024, .f32⟩
  | 9 => ⟨S8208x1024, .f32⟩
  | 10 => ⟨S_, .f32⟩
  | 11 => ⟨S8208x1024, .f32⟩
  | 12 => ⟨S8208x1024, .f32⟩
  | 13 => ⟨S_, .f32⟩
  | 14 => ⟨S8208x1024, .f32⟩
  | 15 => ⟨S8208x1024, .f32⟩
  | 16 => ⟨S8208x1024, .f32⟩
  | 17 => ⟨S_, .f32⟩
  | 18 => ⟨S112x1024, .f32⟩
  | 19 => ⟨S8320x1024, .f32⟩
  | 20 => ⟨S_, .f32⟩
  | 21 => ⟨S30x1024, .f32⟩
  | 22 => ⟨S8350x1024, .f32⟩
  | 23 => ⟨S1x1024, .f32⟩
  | 24 => ⟨S8320x1024, .f32⟩
  | 25 => ⟨S8320x1024, .f32⟩
  | 26 => ⟨S8320x1024, .f32⟩
  | 27 => ⟨S1x1024, .f32⟩
  | 28 => ⟨S8320x1024, .f32⟩
  | 29 => ⟨S8320x1024, .f32⟩
  | 30 => ⟨S8320x1024, .f32⟩
  | 31 => ⟨S8320x1024, .f32⟩
  | 32 => ⟨S1x1024, .f32⟩
  | 33 => ⟨S8320x1024, .f32⟩
  | 34 => ⟨S8320x1024, .f32⟩
  | 35 => ⟨S8320x1024, .f32⟩
  | 36 => ⟨S8320x1024, .f32⟩
  | 37 => ⟨S1x1024, .f32⟩
  | 38 => ⟨S8320x1024, .f32⟩
  | 39 => ⟨S8320x1024, .f32⟩
  | 40 => ⟨S8320x1024, .f32⟩
  | 41 => ⟨S8320x1024, .f32⟩
  | 42 => ⟨S1x1024, .f32⟩
  | 43 => ⟨S8320x1024, .f32⟩
  | 44 => ⟨S8320x1024, .f32⟩
  | 45 => ⟨S8320x1024, .f32⟩
  | 46 => ⟨S8320x1024, .f32⟩
  | 47 => ⟨S1x1024, .f32⟩
  | 48 => ⟨S8320x1024, .f32⟩
  | 49 => ⟨S8320x1024, .f32⟩
  | 50 => ⟨S8320x1024, .f32⟩
  | 51 => ⟨S8320x1024, .f32⟩
  | 52 => ⟨S1x1024, .f32⟩
  | 53 => ⟨S8320x1024, .f32⟩
  | 54 => ⟨S8320x1024, .f32⟩
  | 55 => ⟨S8320x1024, .f32⟩
  | 56 => ⟨S8320x1024, .f32⟩
  | 57 => ⟨S1x1024, .f32⟩
  | 58 => ⟨S8320x1024, .f32⟩
  | 59 => ⟨S8320x1024, .f32⟩
  | 60 => ⟨S8320x1024, .f32⟩
  | 61 => ⟨S8320x1024, .f32⟩
  | 62 => ⟨S1x1024, .f32⟩
  | 63 => ⟨S8320x1024, .f32⟩
  | 64 => ⟨S8320x1024, .f32⟩
  | 65 => ⟨S8320x1024, .f32⟩
  | 66 => ⟨S8320x1024, .f32⟩
  | 67 => ⟨S1x1024, .f32⟩
  | 68 => ⟨S8320x1024, .f32⟩
  | 69 => ⟨S8320x1024, .f32⟩
  | 70 => ⟨S8320x1024, .f32⟩
  | 71 => ⟨S8320x1024, .f32⟩
  | 72 => ⟨S1x1024, .f32⟩
  | 73 => ⟨S8320x1024, .f32⟩
  | 74 => ⟨S8320x1024, .f32⟩
  | 75 => ⟨S8320x1024, .f32⟩
  | 76 => ⟨S8320x1024, .f32⟩
  | 77 => ⟨S1x1024, .f32⟩
  | 78 => ⟨S8320x1024, .f32⟩
  | 79 => ⟨S8320x1024, .f32⟩
  | 80 => ⟨S8320x1024, .f32⟩
  | 81 => ⟨S8320x1024, .f32⟩
  | 82 => ⟨S1x1024, .f32⟩
  | 83 => ⟨S8320x1024, .f32⟩
  | 84 => ⟨S8320x1024, .f32⟩
  | 85 => ⟨S8320x1024, .f32⟩
  | 86 => ⟨S8320x1024, .f32⟩
  | 87 => ⟨S1x1024, .f32⟩
  | 88 => ⟨S8320x1024, .f32⟩
  | 89 => ⟨S8320x1024, .f32⟩
  | 90 => ⟨S8320x1024, .f32⟩
  | 91 => ⟨S8320x1024, .f32⟩
  | 92 => ⟨S1x1024, .f32⟩
  | 93 => ⟨S8320x1024, .f32⟩
  | 94 => ⟨S8320x1024, .f32⟩
  | 95 => ⟨S8320x1024, .f32⟩
  | 96 => ⟨S8320x1024, .f32⟩
  | 97 => ⟨S1x1024, .f32⟩
  | 98 => ⟨S8320x1024, .f32⟩
  | 99 => ⟨S8320x1024, .f32⟩
  | 100 => ⟨S8320x1024, .f32⟩
  | 101 => ⟨S8320x1024, .f32⟩
  | 102 => ⟨S1x1024, .f32⟩
  | 103 => ⟨S8320x1024, .f32⟩
  | 104 => ⟨S8320x1024, .f32⟩
  | 105 => ⟨S8320x1024, .f32⟩
  | 106 => ⟨S8320x1024, .f32⟩
  | 107 => ⟨S1x1024, .f32⟩
  | 108 => ⟨S8320x1024, .f32⟩
  | 109 => ⟨S8320x1024, .f32⟩
  | 110 => ⟨S8320x1024, .f32⟩
  | 111 => ⟨S8320x1024, .f32⟩
  | 112 => ⟨S1x1024, .f32⟩
  | 113 => ⟨S8320x1024, .f32⟩
  | 114 => ⟨S8320x1024, .f32⟩
  | 115 => ⟨S8320x1024, .f32⟩
  | 116 => ⟨S8320x1024, .f32⟩
  | 117 => ⟨S1x1024, .f32⟩
  | 118 => ⟨S8320x1024, .f32⟩
  | 119 => ⟨S8320x1024, .f32⟩
  | 120 => ⟨S8320x1024, .f32⟩
  | 121 => ⟨S8320x1024, .f32⟩
  | 122 => ⟨S1x1024, .f32⟩
  | 123 => ⟨S8320x1024, .f32⟩
  | 124 => ⟨S8320x1024, .f32⟩
  | 125 => ⟨S8320x1024, .f32⟩
  | 126 => ⟨S8320x1024, .f32⟩
  | 127 => ⟨S1x1024, .f32⟩
  | _ => ⟨S8320x2048, .f32⟩

abbrev hbmTy0_1 (i : Nat) : BufTy := match i % 128 with
  | 0 => ⟨S8320x1024, .f32⟩
  | 1 => ⟨S8320x1024, .f32⟩
  | 2 => ⟨S8320x1024, .f32⟩
  | 3 => ⟨S8320x1024, .f32⟩
  | 4 => ⟨S1x1024, .f32⟩
  | 5 => ⟨S8320x1024, .f32⟩
  | 6 => ⟨S8320x1024, .f32⟩
  | 7 => ⟨S8320x1024, .f32⟩
  | 8 => ⟨S8320x1024, .f32⟩
  | 9 => ⟨S1x1024, .f32⟩
  | 10 => ⟨S8320x1024, .f32⟩
  | 11 => ⟨S8320x1024, .f32⟩
  | 12 => ⟨S8320x1024, .f32⟩
  | 13 => ⟨S8320x1024, .f32⟩
  | 14 => ⟨S1x1024, .f32⟩
  | 15 => ⟨S8320x1024, .f32⟩
  | 16 => ⟨S8320x1024, .f32⟩
  | 17 => ⟨S8320x1024, .f32⟩
  | 18 => ⟨S8320x1024, .f32⟩
  | 19 => ⟨S1x1024, .f32⟩
  | 20 => ⟨S8320x1024, .f32⟩
  | 21 => ⟨S8320x1024, .f32⟩
  | 22 => ⟨S8320x1024, .f32⟩
  | 23 => ⟨S8320x1024, .f32⟩
  | 24 => ⟨S1x1024, .f32⟩
  | 25 => ⟨S8320x1024, .f32⟩
  | 26 => ⟨S8320x1024, .f32⟩
  | 27 => ⟨S8320x1024, .f32⟩
  | 28 => ⟨S8320x1024, .f32⟩
  | 29 => ⟨S1x1024, .f32⟩
  | 30 => ⟨S8320x1024, .f32⟩
  | 31 => ⟨S8320x1024, .f32⟩
  | 32 => ⟨S8320x1024, .f32⟩
  | 33 => ⟨S8320x1024, .f32⟩
  | 34 => ⟨S1x1024, .f32⟩
  | 35 => ⟨S8320x1024, .f32⟩
  | 36 => ⟨S8320x1024, .f32⟩
  | 37 => ⟨S8320x1024, .f32⟩
  | 38 => ⟨S8320x1024, .f32⟩
  | 39 => ⟨S1x1024, .f32⟩
  | 40 => ⟨S8320x1024, .f32⟩
  | 41 => ⟨S8320x1024, .f32⟩
  | 42 => ⟨S8320x1024, .f32⟩
  | 43 => ⟨S8320x1024, .f32⟩
  | 44 => ⟨S1x1024, .f32⟩
  | 45 => ⟨S8320x1024, .f32⟩
  | 46 => ⟨S8320x1024, .f32⟩
  | 47 => ⟨S8320x1024, .f32⟩
  | 48 => ⟨S8320x1024, .f32⟩
  | 49 => ⟨S8320x1024, .f32⟩
  | 50 => ⟨S8320x1024, .f32⟩
  | 51 => ⟨S_, .f32⟩
  | 52 => ⟨S8320, .f32⟩
  | 53 => ⟨S8320x1, .f32⟩
  | 54 => ⟨S_, .f32⟩
  | 55 => ⟨S8320x1, .f32⟩
  | 56 => ⟨S8320x1, .f32⟩
  | 57 => ⟨S8320x1024, .f32⟩
  | 58 => ⟨S8320x1024, .f32⟩
  | 59 => ⟨S8320x1024, .f32⟩
  | 60 => ⟨S_, .f32⟩
  | 61 => ⟨S8320, .f32⟩
  | 62 => ⟨S8320x1, .f32⟩
  | 63 => ⟨S_, .f32⟩
  | 64 => ⟨S8320x1, .f32⟩
  | 65 => ⟨S8320x1, .f32⟩
  | 66 => ⟨S8320x1024, .f32⟩
  | 67 => ⟨S8320x1024, .f32⟩
  | 68 => ⟨S_, .f32⟩
  | 69 => ⟨S8320x1, .f32⟩
  | 70 => ⟨S8320x1, .f32⟩
  | 71 => ⟨S8320x1, .f32⟩
  | 72 => ⟨S8320x1024, .f32⟩
  | 73 => ⟨S8320x1024, .f32⟩
  | 74 => ⟨S8320x1024, .f32⟩
  | 75 => ⟨S8320x1024, .f32⟩
  | 76 => ⟨S8320x1024, .f32⟩
  | 77 => ⟨S8320x1024, .f32⟩
  | 78 => ⟨S8320x1024, .f32⟩
  | 79 => ⟨S8320x1024, .f32⟩
  | 80 => ⟨S_, .f32⟩
  | 81 => ⟨S8320x1024, .f32⟩
  | 82 => ⟨S8320x1024, .f32⟩
  | 83 => ⟨S_, .f32⟩
  | 84 => ⟨S8320x1024, .f32⟩
  | 85 => ⟨S8320x1024, .f32⟩
  | 86 => ⟨S8320x1024, .f32⟩
  | 87 => ⟨S8320x1024, .bf16⟩
  | _ => ⟨S8320x2048, .f32⟩

abbrev hbmTy (i : Nat) : BufTy := match i / 128 with
  | 0 => hbmTy0_0 i
  | 1 => hbmTy0_1 i
  | _ => ⟨S8320x2048, .f32⟩

abbrev bufTy : (tb : Table) → Fin (tcTables nBuf tb) → BufTy
  | .hbm, ⟨i, _⟩ => hbmTy i
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_cst_3 : Ref sig .tc := ⟨.hbm, 179, rfl⟩
abbrev main_v170 : Ref sig .tc := ⟨.hbm, 180, rfl⟩
abbrev main_v171 : Ref sig .tc := ⟨.hbm, 181, rfl⟩
abbrev main_cst_4 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_cst_5 : Ref sig .tc := ⟨.hbm, 188, rfl⟩
abbrev main_v177 : Ref sig .tc := ⟨.hbm, 189, rfl⟩
abbrev main_v178 : Ref sig .tc := ⟨.hbm, 190, rfl⟩
abbrev main_cst_6 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_cst_7 : Ref sig .tc := ⟨.hbm, 196, rfl⟩
abbrev main_v183 : Ref sig .tc := ⟨.hbm, 197, rfl⟩
abbrev main_v184 : Ref sig .tc := ⟨.hbm, 198, rfl⟩
abbrev main_v185 : Ref sig .tc := ⟨.hbm, 199, rfl⟩
abbrev main_v186 : Ref sig .tc := ⟨.hbm, 200, rfl⟩
abbrev main_v187 : Ref sig .tc := ⟨.hbm, 201, rfl⟩
abbrev main_v188 : Ref sig .tc := ⟨.hbm, 202, rfl⟩
abbrev main_v189 : Ref sig .tc := ⟨.hbm, 203, rfl⟩
abbrev main_v190 : Ref sig .tc := ⟨.hbm, 204, rfl⟩
abbrev main_v191 : Ref sig .tc := ⟨.hbm, 205, rfl⟩
abbrev main_v192 : Ref sig .tc := ⟨.hbm, 206, rfl⟩
abbrev main_v193 : Ref sig .tc := ⟨.hbm, 207, rfl⟩
abbrev main_cst_8 : Ref sig .tc := ⟨.hbm, 208, rfl⟩
abbrev main_v194 : Ref sig .tc := ⟨.hbm, 209, rfl⟩
abbrev main_v195 : Ref sig .tc := ⟨.hbm, 210, rfl⟩
abbrev main_cst_9 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩

abbrev nD : Nat := 1
abbrev τ : Topo := Topo.v7x

variable {F : FTy → Type} [FloatOps F]
-- ==== Kernel22.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S8320x1024 : Shape := ⟨2, ![8320, 1024]⟩
abbrev S1x1024 : Shape := ⟨2, ![1, 1024]⟩
abbrev S_ : Shape := ⟨0, ![]⟩
abbrev S8320 : Shape := ⟨1, ![8320]⟩
abbrev S8320x1 : Shape := ⟨2, ![8320, 1]⟩

abbrev nBuf : Space → Nat
  | .hbm => 18
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .f32⟩
  | .hbm, ⟨17, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel23.lean ====
abbrev S8320x1024 : Shape := ⟨2, ![8320, 1024]⟩
abbrev S8192x1024 : Shape := ⟨2, ![8192, 1024]⟩
abbrev S1x128 : Shape := ⟨2, ![1, 128]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 4
  | .vmem => 7
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S8320x1024, .f32⟩
  | .hbm, ⟨3, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference23Ideal.lean ====
abbrev S8320x1024 : Shape := ⟨2, ![8320, 1024]⟩
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8320x1024, .f32⟩
  | .hbm, ⟨28, _⟩ => ⟨S1x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel24.lean ====
abbrev S8320x1024 : Shape := ⟨2, ![8320, 1024]⟩
abbrev S1x1024 : Shape := ⟨2, ![1, 1024]⟩
abbrev S640x1024 : Shape := ⟨2, ![640, 1024]⟩
abbrev S1024 : Shape := ⟨1, ![1024]⟩

abbrev nBuf : Space → Nat
  | .hbm => 2
  | .vmem => 3
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference24Ideal.lean ====
abbrev S8320x1024 : Shape := ⟨2, ![8320, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S_, .f32⟩
  | .hbm, ⟨2, _⟩ => ⟨S1024, .f32⟩
  | .hbm, ⟨3, _⟩ => ⟨S8320x1024, .f32⟩
  | .hbm, ⟨4, _⟩ => ⟨S_, .f32⟩
  | .hbm, ⟨5, _⟩ => ⟨S1024, .f32⟩
  | .hbm, ⟨6, _⟩ => ⟨S1x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S8x1024x386 : Shape := ⟨3, ![8, 1024, 386]⟩
abbrev S2x1024x386 : Shape := ⟨3, ![2, 1024, 386]⟩
abbrev S8x256x386 : Shape := ⟨3, ![8, 256, 386]⟩
abbrev S1x256x386 : Shape := ⟨3, ![1, 256, 386]⟩
abbrev S256x386 : Shape := ⟨2, ![256, 386]⟩

abbrev nBuf : Space → Nat
  | .hbm => 11
  | .vmem => 19
  | .smem => 0
  | _ => 0

abbrev bufTy : (tb : Table) → Fin (tcTables nBuf tb) → BufTy
  | .hbm, ⟨0, _⟩ => ⟨S8x1024x386, .f32⟩
  | .hbm, ⟨1, _⟩ => ⟨S8x1024x386, .f32⟩
  | .hbm, ⟨2, _⟩ => ⟨S2x1024x386, .f32⟩
  | .hbm, ⟨3, _⟩ => ⟨S2x1024x386, .f32⟩
  | .hbm, ⟨4, _⟩ => ⟨S2x1024x386, .f32⟩
  | .hbm, ⟨5, _⟩ => ⟨S8x1024x386, .bf16⟩
  | .hbm, ⟨6, _⟩ => ⟨S8x1024x386, .bf16⟩
  | .hbm, ⟨7, _⟩ => ⟨S2x1024x386, .f32⟩
  | .hbm, ⟨8, _⟩ => ⟨S2x1024x386, .f32⟩
  | .hbm, ⟨9, _⟩ => ⟨S2x1024x386, .f32⟩
  | .hbm, ⟨10, _⟩ => ⟨S2x1024x386, .f32⟩
  | .local _ .vmem, ⟨0, _⟩ => ⟨S8x256x386, .bf16⟩
  | .local _ .vmem, ⟨1, _⟩ => ⟨S8x256x386, .bf16⟩
  | .local _ .vmem, ⟨2, _⟩ => ⟨S8x256x386, .bf16⟩
  | .local _ .vmem, ⟨3, _⟩ => ⟨S8x256x386, .bf16⟩
  | .local _ .vmem, ⟨4, _⟩ => ⟨S1x256x386, .f32⟩
  | .local _ .vmem, ⟨5, _⟩ => ⟨S1x256x386, .f32⟩
  | .local _ .vmem, ⟨6, _⟩ => ⟨S1x256x386, .f32⟩
  | .local _ .vmem, ⟨7, _⟩ => ⟨S1x256x386, .f32⟩
  | .local _ .vmem, ⟨8, _⟩ => ⟨S1x256x386, .f32⟩
  | .local _ .vmem, ⟨9, _⟩ => ⟨S1x256x386, .f32⟩
  | .local _ .vmem, ⟨10, _⟩ => ⟨S1x256x386, .f32⟩
  | .local _ .vmem, ⟨11, _⟩ => ⟨S1x256x386, .f32⟩
  | .local _ .vmem, ⟨12, _⟩ => ⟨S1x256x386, .f32⟩
  | .local _ .vmem, ⟨13, _⟩ => ⟨S1x256x386, .f32⟩
  | .local _ .vmem, ⟨14, _⟩ => ⟨S1x256x386, .f32⟩
  | .local _ .vmem, ⟨15, _⟩ => ⟨S1x256x386, .f32⟩
  | .local _ .vmem, ⟨16, _⟩ => ⟨S1x256x386, .f32⟩
  | .local _ .vmem, ⟨17, _⟩ => ⟨S1x256x386, .f32⟩
  | .local _ .vmem, ⟨18, _⟩ => ⟨S256x386, .f32⟩
  | _, _ => ⟨S8x1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x386 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x386 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel25Ideal.lean ====
abbrev S8x1024x386 : Shape := ⟨3, ![8, 1024, 386]⟩
abbrev S2x1024x386 : Shape := ⟨3, ![2, 1024, 386]⟩
abbrev S8x256x386 : Shape := ⟨3, ![8, 256, 386]⟩
abbrev S1x256x386 : Shape := ⟨3, ![1, 256, 386]⟩
abbrev S256x386 : Shape := ⟨2, ![256, 386]⟩

abbrev nBuf : Space → Nat
  | .hbm => 11
  | .vmem => 19
  | .smem => 0
  | _ => 0

abbrev bufTy : (tb : Table) → Fin (tcTables nBuf tb) → BufTy
  | .hbm, ⟨0, _⟩ => ⟨S8x1024x386, .f32⟩
  | .hbm, ⟨1, _⟩ => ⟨S8x1024x386, .f32⟩
  | .hbm, ⟨2, _⟩ => ⟨S2x1024x386, .f32⟩
  | .hbm, ⟨3, _⟩ => ⟨S2x1024x386, .f32⟩
  | .hbm, ⟨4, _⟩ => ⟨S2x1024x386, .f32⟩
  | .hbm, ⟨5, _⟩ => ⟨S8x1024x386, .bf16⟩
  | .hbm, ⟨6, _⟩ => ⟨S8x1024x386, .bf16⟩
  | .hbm, ⟨7, _⟩ => ⟨S2x1024x386, .f32⟩
  | .hbm, ⟨8, _⟩ => ⟨S2x1024x386, .f32⟩
  | .hbm, ⟨9, _⟩ => ⟨S2x1024x386, .f32⟩
  | .hbm, ⟨10, _⟩ => ⟨S2x1024x386, .f32⟩
  | .local _ .vmem, ⟨0, _⟩ => ⟨S8x256x386, .bf16⟩
  | .local _ .vmem, ⟨1, _⟩ => ⟨S8x256x386, .bf16⟩
  | .local _ .vmem, ⟨2, _⟩ => ⟨S8x256x386, .bf16⟩
  | .local _ .vmem, ⟨3, _⟩ => ⟨S8x256x386, .bf16⟩
  | .local _ .vmem, ⟨4, _⟩ => ⟨S1x256x386, .f32⟩
  | .local _ .vmem, ⟨5, _⟩ => ⟨S1x256x386, .f32⟩
  | .local _ .vmem, ⟨6, _⟩ => ⟨S1x256x386, .f32⟩
  | .local _ .vmem, ⟨7, _⟩ => ⟨S1x256x386, .f32⟩
  | .local _ .vmem, ⟨8, _⟩ => ⟨S1x256x386, .f32⟩
  | .local _ .vmem, ⟨9, _⟩ => ⟨S1x256x386, .f32⟩
  | .local _ .vmem, ⟨10, _⟩ => ⟨S1x256x386, .f32⟩
  | .local _ .vmem, ⟨11, _⟩ => ⟨S1x256x386, .f32⟩
  | .local _ .vmem, ⟨12, _⟩ => ⟨S1x256x386, .f32⟩
  | .local _ .vmem, ⟨13, _⟩ => ⟨S1x256x386, .f32⟩
  | .local _ .vmem, ⟨14, _⟩ => ⟨S1x256x386, .f32⟩
  | .local _ .vmem, ⟨15, _⟩ => ⟨S1x256x386, .f32⟩
  | .local _ .vmem, ⟨16, _⟩ => ⟨S1x256x386, .f32⟩
  | .local _ .vmem, ⟨17, _⟩ => ⟨S1x256x386, .f32⟩
  | .local _ .vmem, ⟨18, _⟩ => ⟨S256x386, .f32⟩
  | _, _ => ⟨S8x1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x386 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x386 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x386 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x386 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x386 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x386 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x386 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x386 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference25Ideal.lean ====
abbrev S8x1024x386 : Shape := ⟨3, ![8, 1024, 386]⟩
abbrev S2x1024x386 : Shape := ⟨3, ![2, 1024, 386]⟩
abbrev S_ : Shape := ⟨0, ![]⟩
abbrev S1024x386 : Shape := ⟨2, ![1024, 386]⟩
abbrev S1x1024x386 : Shape := ⟨3, ![1, 1024, 386]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x386, .f32⟩
  | .hbm, ⟨1, _⟩ => ⟨S8x1024x386, .f32⟩
  | .hbm, ⟨2, _⟩ => ⟨S2x1024x386, .f32⟩
  | .hbm, ⟨3, _⟩ => ⟨S2x1024x386, .f32⟩
  | .hbm, ⟨4, _⟩ => ⟨S2x1024x386, .f32⟩
  | .hbm, ⟨5, _⟩ => ⟨S8x1024x386, .bf16⟩
  | .hbm, ⟨6, _⟩ => ⟨S8x1024x386, .f32⟩
  | .hbm, ⟨7, _⟩ => ⟨S_, .f32⟩
  | .hbm, ⟨8, _⟩ => ⟨S1024x386, .f32⟩
  | .hbm, ⟨9, _⟩ => ⟨S8x1024x386, .bf16⟩
  | .hbm, ⟨10, _⟩ => ⟨S8x1024x386, .f32⟩
  | .hbm, ⟨11, _⟩ => ⟨S_, .f32⟩
  | .hbm, ⟨12, _⟩ => ⟨S1024x386, .f32⟩
  | .hbm, ⟨13, _⟩ => ⟨S1x1024x386, .f32⟩
  | .hbm, ⟨14, _⟩ => ⟨S1x1024x386, .f32⟩
  | .hbm, ⟨15, _⟩ => ⟨S2x1024x386, .f32⟩
  | .hbm, ⟨16, _⟩ => ⟨S_, .f32⟩
  | .hbm, ⟨17, _⟩ => ⟨S2x1024x386, .f32⟩
  | .hbm, ⟨18, _⟩ => ⟨S2x1024x386, .f32⟩
  | .hbm, ⟨19, _⟩ => ⟨S_, .f32⟩
  | .hbm, ⟨20, _⟩ => ⟨S2x1024x386, .f32⟩
  | .hbm, ⟨21, _⟩ => ⟨S2x1024x386, .f32⟩
  | .hbm, ⟨22, _⟩ => ⟨S2x1024x386, .f32⟩
  | .hbm, ⟨23, _⟩ => ⟨S_, .f32⟩
  | .hbm, ⟨24, _⟩ => ⟨S2x1024x386, .f32⟩
  | .hbm, ⟨25, _⟩ => ⟨S2x1024x386, .f32⟩
  | .hbm, ⟨26, _⟩ => ⟨S2x1024x386, .f32⟩
  | .hbm, ⟨27, _⟩ => ⟨S_, .f32⟩
  | .hbm, ⟨28, _⟩ => ⟨S2x1024x386, .f32⟩
  | .hbm, ⟨29, _⟩ => ⟨S2x1024x386, .f32⟩
  | .hbm, ⟨30, _⟩ => ⟨S2x1024x386, .f32⟩
  | .hbm, ⟨31, _⟩ => ⟨S_, .f32⟩
  | .hbm, ⟨32, _⟩ => ⟨S2x1024x386, .f32⟩
  | .hbm, ⟨33, _⟩ => ⟨S2x1024x386, .f32⟩
  | .hbm, ⟨34, _⟩ => ⟨S_, .f32⟩
  | .hbm, ⟨35, _⟩ => ⟨S2x1024x386, .f32⟩
  | .hbm, ⟨36, _⟩ => ⟨S2x1024x386, .f32⟩
  | .hbm, ⟨37, _⟩ => ⟨S2x1024x386, .f32⟩
  | .hbm, ⟨38, _⟩ => ⟨S_, .f32⟩
  | .hbm, ⟨39, _⟩ => ⟨S2x1024x386, .f32⟩
  | .hbm, ⟨40, _⟩ => ⟨S2x1024x386, .f32⟩
  | .hbm, ⟨41, _⟩ => ⟨S2x1024x386, .f32⟩
  | .hbm, ⟨42, _⟩ => ⟨S_, .f32⟩
  | .hbm, ⟨43, _⟩ => ⟨S2x1024x386, .f32⟩
  | .hbm, ⟨44, _⟩ => ⟨S2x1024x386, .f32⟩
  | .hbm, ⟨45, _⟩ => ⟨S2x1024x386, .f32⟩
  | .hbm, ⟨46, _⟩ => ⟨S_, .f32⟩
  | .hbm, ⟨47, _⟩ => ⟨S2x1024x386, .f32⟩
  | .hbm, ⟨48, _⟩ => ⟨S2x1024x386, .f32⟩
  | _, _ => ⟨S8x1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel26.lean ====
abbrev S8x192x1024 : Shape := ⟨3, ![8, 192, 1024]⟩
abbrev S2x192x1024 : Shape := ⟨3, ![2, 192, 1024]⟩
abbrev S8x96x1024 : Shape := ⟨3, ![8, 96, 1024]⟩
abbrev S1x96x1024 : Shape := ⟨3, ![1, 96, 1024]⟩
abbrev S96x1024 : Shape := ⟨2, ![96, 1024]⟩

abbrev nBuf : Space → Nat
  | .hbm => 11
  | .vmem => 19
  | .smem => 0
  | _ => 0

abbrev bufTy : (tb : Table) → Fin (tcTables nBuf tb) → BufTy
  | .hbm, ⟨0, _⟩ => ⟨S8x192x1024, .f32⟩
  | .hbm, ⟨1, _⟩ => ⟨S8x192x1024, .f32⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S8x192x1024, .bf16⟩
  | .hbm, ⟨6, _⟩ => ⟨S8x192x1024, .bf16⟩
  | .hbm, ⟨7, _⟩ => ⟨S2x192x1024, .f32⟩
  | .hbm, ⟨8, _⟩ => ⟨S2x192x1024, .f32⟩
  | .hbm, ⟨9, _⟩ => ⟨S2x192x1024, .f32⟩
  | .hbm, ⟨10, _⟩ => ⟨S2x192x1024, .f32⟩
  | .local _ .vmem, ⟨0, _⟩ => ⟨S8x96x1024, .bf16⟩
  | .local _ .vmem, ⟨1, _⟩ => ⟨S8x96x1024, .bf16⟩
  | .local _ .vmem, ⟨2, _⟩ => ⟨S8x96x1024, .bf16⟩
  | .local _ .vmem, ⟨3, _⟩ => ⟨S8x96x1024, .bf16⟩
  | .local _ .vmem, ⟨4, _⟩ => ⟨S1x96x1024, .f32⟩
  | .local _ .vmem, ⟨5, _⟩ => ⟨S1x96x1024, .f32⟩
  | .local _ .vmem, ⟨6, _⟩ => ⟨S1x96x1024, .f32⟩
  | .local _ .vmem, ⟨7, _⟩ => ⟨S1x96x1024, .f32⟩
  | .local _ .vmem, ⟨8, _⟩ => ⟨S1x96x1024, .f32⟩
  | .local _ .vmem, ⟨9, _⟩ => ⟨S1x96x1024, .f32⟩
  | .local _ .vmem, ⟨10, _⟩ => ⟨S1x96x1024, .f32⟩
  | .local _ .vmem, ⟨11, _⟩ => ⟨S1x96x1024, .f32⟩
  | .local _ .vmem, ⟨12, _⟩ => ⟨S1x96x1024, .f32⟩
  | .local _ .vmem, ⟨13, _⟩ => ⟨S1x96x1024, .f32⟩
  | .local _ .vmem, ⟨14, _⟩ => ⟨S1x96x1024, .f32⟩
  | .local _ .vmem, ⟨15, _⟩ => ⟨S1x96x1024, .f32⟩
  | .local _ .vmem, ⟨16, _⟩ => ⟨S1x96x1024, .f32⟩
  | .local _ .vmem, ⟨17, _⟩ => ⟨S1x96x1024, .f32⟩
  | .local _ .vmem, ⟨18, _⟩ => ⟨S96x1024, .f32⟩
  | _, _ => ⟨S8x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x96x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x96x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel26Ideal.lean ====
abbrev S8x192x1024 : Shape := ⟨3, ![8, 192, 1024]⟩
abbrev S2x192x1024 : Shape := ⟨3, ![2, 192, 1024]⟩
abbrev S8x96x1024 : Shape := ⟨3, ![8, 96, 1024]⟩
abbrev S1x96x1024 : Shape := ⟨3, ![1, 96, 1024]⟩
abbrev S96x1024 : Shape := ⟨2, ![96, 1024]⟩

abbrev nBuf : Space → Nat
  | .hbm => 11
  | .vmem => 19
  | .smem => 0
  | _ => 0

abbrev bufTy : (tb : Table) → Fin (tcTables nBuf tb) → BufTy
  | .hbm, ⟨0, _⟩ => ⟨S8x192x1024, .f32⟩
  | .hbm, ⟨1, _⟩ => ⟨S8x192x1024, .f32⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S8x192x1024, .bf16⟩
  | .hbm, ⟨6, _⟩ => ⟨S8x192x1024, .bf16⟩
  | .hbm, ⟨7, _⟩ => ⟨S2x192x1024, .f32⟩
  | .hbm, ⟨8, _⟩ => ⟨S2x192x1024, .f32⟩
  | .hbm, ⟨9, _⟩ => ⟨S2x192x1024, .f32⟩
  | .hbm, ⟨10, _⟩ => ⟨S2x192x1024, .f32⟩
  | .local _ .vmem, ⟨0, _⟩ => ⟨S8x96x1024, .bf16⟩
  | .local _ .vmem, ⟨1, _⟩ => ⟨S8x96x1024, .bf16⟩
  | .local _ .vmem, ⟨2, _⟩ => ⟨S8x96x1024, .bf16⟩
  | .local _ .vmem, ⟨3, _⟩ => ⟨S8x96x1024, .bf16⟩
  | .local _ .vmem, ⟨4, _⟩ => ⟨S1x96x1024, .f32⟩
  | .local _ .vmem, ⟨5, _⟩ => ⟨S1x96x1024, .f32⟩
  | .local _ .vmem, ⟨6, _⟩ => ⟨S1x96x1024, .f32⟩
  | .local _ .vmem, ⟨7, _⟩ => ⟨S1x96x1024, .f32⟩
  | .local _ .vmem, ⟨8, _⟩ => ⟨S1x96x1024, .f32⟩
  | .local _ .vmem, ⟨9, _⟩ => ⟨S1x96x1024, .f32⟩
  | .local _ .vmem, ⟨10, _⟩ => ⟨S1x96x1024, .f32⟩
  | .local _ .vmem, ⟨11, _⟩ => ⟨S1x96x1024, .f32⟩
  | .local _ .vmem, ⟨12, _⟩ => ⟨S1x96x1024, .f32⟩
  | .local _ .vmem, ⟨13, _⟩ => ⟨S1x96x1024, .f32⟩
  | .local _ .vmem, ⟨14, _⟩ => ⟨S1x96x1024, .f32⟩
  | .local _ .vmem, ⟨15, _⟩ => ⟨S1x96x1024, .f32⟩
  | .local _ .vmem, ⟨16, _⟩ => ⟨S1x96x1024, .f32⟩
  | .local _ .vmem, ⟨17, _⟩ => ⟨S1x96x1024, .f32⟩
  | .local _ .vmem, ⟨18, _⟩ => ⟨S96x1024, .f32⟩
  | _, _ => ⟨S8x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x96x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x96x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference26Ideal.lean ====
abbrev S8x192x1024 : Shape := ⟨3, ![8, 192, 1024]⟩
abbrev S2x192x1024 : Shape := ⟨3, ![2, 192, 1024]⟩
abbrev S_ : Shape := ⟨0, ![]⟩
abbrev S192x1024 : Shape := ⟨2, ![192, 1024]⟩
abbrev S1x192x1024 : Shape := ⟨3, ![1, 192, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x192x1024, .f32⟩
  | .hbm, ⟨1, _⟩ => ⟨S8x192x1024, .f32⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S8x192x1024, .bf16⟩
  | .hbm, ⟨6, _⟩ => ⟨S8x192x1024, .f32⟩
  | .hbm, ⟨7, _⟩ => ⟨S_, .f32⟩
  | .hbm, ⟨8, _⟩ => ⟨S192x1024, .f32⟩
  | .hbm, ⟨9, _⟩ => ⟨S8x192x1024, .bf16⟩
  | .hbm, ⟨10, _⟩ => ⟨S8x192x1024, .f32⟩
  | .hbm, ⟨11, _⟩ => ⟨S_, .f32⟩
  | .hbm, ⟨12, _⟩ => ⟨S192x1024, .f32⟩
  | .hbm, ⟨13, _⟩ => ⟨S1x192x1024, .f32⟩
  | .hbm, ⟨14, _⟩ => ⟨S1x192x1024, .f32⟩
  | .hbm, ⟨15, _⟩ => ⟨S2x192x1024, .f32⟩
  | .hbm, ⟨16, _⟩ => ⟨S_, .f32⟩
  | .hbm, ⟨17, _⟩ => ⟨S2x192x1024, .f32⟩
  | .hbm, ⟨18, _⟩ => ⟨S2x192x1024, .f32⟩
  | .hbm, ⟨19, _⟩ => ⟨S_, .f32⟩
  | .hbm, ⟨20, _⟩ => ⟨S2x192x1024, .f32⟩
  | .hbm, ⟨21, _⟩ => ⟨S2x192x1024, .f32⟩
  | .hbm, ⟨22, _⟩ => ⟨S2x192x1024, .f32⟩
  | .hbm, ⟨23, _⟩ => ⟨S_, .f32⟩
  | .hbm, ⟨24, _⟩ => ⟨S2x192x1024, .f32⟩
  | .hbm, ⟨25, _⟩ => ⟨S2x192x1024, .f32⟩
  | .hbm, ⟨26, _⟩ => ⟨S2x192x1024, .f32⟩
  | .hbm, ⟨27, _⟩ => ⟨S_, .f32⟩
  | .hbm, ⟨28, _⟩ => ⟨S2x192x1024, .f32⟩
  | .hbm, ⟨29, _⟩ => ⟨S2x192x1024, .f32⟩
  | .hbm, ⟨30, _⟩ => ⟨S2x192x1024, .f32⟩
  | .hbm, ⟨31, _⟩ => ⟨S_, .f32⟩
  | .hbm, ⟨32, _⟩ => ⟨S2x192x1024, .f32⟩
  | .hbm, ⟨33, _⟩ => ⟨S2x192x1024, .f32⟩
  | .hbm, ⟨34, _⟩ => ⟨S_, .f32⟩
  | .hbm, ⟨35, _⟩ => ⟨S2x192x1024, .f32⟩
  | .hbm, ⟨36, _⟩ => ⟨S2x192x1024, .f32⟩
  | .hbm, ⟨37, _⟩ => ⟨S2x192x1024, .f32⟩
  | .hbm, ⟨38, _⟩ => ⟨S_, .f32⟩
  | .hbm, ⟨39, _⟩ => ⟨S2x192x1024, .f32⟩
  | .hbm, ⟨40, _⟩ => ⟨S2x192x1024, .f32⟩
  | .hbm, ⟨41, _⟩ => ⟨S2x192x1024, .f32⟩
  | .hbm, ⟨42, _⟩ => ⟨S_, .f32⟩
  | .hbm, ⟨43, _⟩ => ⟨S2x192x1024, .f32⟩
  | .hbm, ⟨44, _⟩ => ⟨S2x192x1024, .f32⟩
  | .hbm, ⟨45, _⟩ => ⟨S2x192x1024, .f32⟩
  | .hbm, ⟨46, _⟩ => ⟨S_, .f32⟩
  | .hbm, ⟨47, _⟩ => ⟨S2x192x1024, .f32⟩
  | .hbm, ⟨48, _⟩ => ⟨S2x192x1024, .f32⟩
  | _, _ => ⟨S8x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel27.lean ====
abbrev S8x1024x256 : Shape := ⟨3, ![8, 1024, 256]⟩
abbrev S2x1024x256 : Shape := ⟨3, ![2, 1024, 256]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 11
  | .vmem => 19
  | .smem => 0
  | _ => 0

abbrev bufTy : (tb : Table) → Fin (tcTables nBuf tb) → BufTy
  | .hbm, ⟨0, _⟩ => ⟨S8x1024x256, .f32⟩
  | .hbm, ⟨1, _⟩ => ⟨S8x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x1024x256, .bf16⟩
  | .hbm, ⟨6, _⟩ => ⟨S8x1024x256, .bf16⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S512x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel27Ideal.lean ====
abbrev S8x1024x256 : Shape := ⟨3, ![8, 1024, 256]⟩
abbrev S2x1024x256 : Shape := ⟨3, ![2, 1024, 256]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 11
  | .vmem => 19
  | .smem => 0
  | _ => 0

abbrev bufTy : (tb : Table) → Fin (tcTables nBuf tb) → BufTy
  | .hbm, ⟨0, _⟩ => ⟨S8x1024x256, .f32⟩
  | .hbm, ⟨1, _⟩ => ⟨S8x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x1024x256, .bf16⟩
  | .hbm, ⟨6, _⟩ => ⟨S8x1024x256, .bf16⟩
  | .hbm, ⟨7, _⟩ => ⟨S2x1024x256, .f32⟩
  | .hbm, ⟨8, _⟩ => ⟨S2x1024x256, .f32⟩
  | .hbm, ⟨9, _⟩ => ⟨S2x1024x256, .f32⟩
  | .hbm, ⟨10, _⟩ => ⟨S2x1024x256, .f32⟩
  | .local _ .vmem, ⟨0, _⟩ => ⟨S8x512x256, .bf16⟩
  | .local _ .vmem, ⟨1, _⟩ => ⟨S8x512x256, .bf16⟩
  | .local _ .vmem, ⟨2, _⟩ => ⟨S8x512x256, .bf16⟩
  | .local _ .vmem, ⟨3, _⟩ => ⟨S8x512x256, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S512x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c1_i32 : BitVec 32 := 1#32
  let v2 : BitVec 32 := Scalar.select v1 c0_i32_1 c1_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c1_i32_1 : BitVec 32 := 1#32
  let v2 : BitVec 32 := Scalar.select v1 c0_i32 c1_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference27Ideal.lean ====
abbrev S8x1024x256 : Shape := ⟨3, ![8, 1024, 256]⟩
abbrev S2x1024x256 : Shape := ⟨3, ![2, 1024, 256]⟩
abbrev S_ : Shape := ⟨0, ![]⟩
abbrev S1024x256 : Shape := ⟨2, ![1024, 256]⟩
abbrev S1x1024x256 : Shape := ⟨3, ![1, 1024, 256]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S8x1024x256, .f32⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x1024x256, .bf16⟩
  | .hbm, ⟨6, _⟩ => ⟨S8x1024x256, .f32⟩
  | .hbm, ⟨7, _⟩ => ⟨S_, .f32⟩
  | .hbm, ⟨8, _⟩ => ⟨S1024x256, .f32⟩
  | .hbm, ⟨9, _⟩ => ⟨S8x1024x256, .bf16⟩
  | .hbm, ⟨10, _⟩ => ⟨S8x1024x256, .f32⟩
  | .hbm, ⟨11, _⟩ => ⟨S_, .f32⟩
  | .hbm, ⟨12, _⟩ => ⟨S1024x256, .f32⟩
  | .hbm, ⟨13, _⟩ => ⟨S1x1024x256, .f32⟩
  | .hbm, ⟨14, _⟩ => ⟨S1x1024x256, .f32⟩
  | .hbm, ⟨15, _⟩ => ⟨S2x1024x256, .f32⟩
  | .hbm, ⟨16, _⟩ => ⟨S_, .f32⟩
  | .hbm, ⟨17, _⟩ => ⟨S2x1024x256, .f32⟩
  | .hbm, ⟨18, _⟩ => ⟨S2x1024x256, .f32⟩
  | .hbm, ⟨19, _⟩ => ⟨S_, .f32⟩
  | .hbm, ⟨20, _⟩ => ⟨S2x1024x256, .f32⟩
  | .hbm, ⟨21, _⟩ => ⟨S2x1024x256, .f32⟩
  | .hbm, ⟨22, _⟩ => ⟨S2x1024x256, .f32⟩
  | .hbm, ⟨23, _⟩ => ⟨S_, .f32⟩
  | .hbm, ⟨24, _⟩ => ⟨S2x1024x256, .f32⟩
  | .hbm, ⟨25, _⟩ => ⟨S2x1024x256, .f32⟩
  | .hbm, ⟨26, _⟩ => ⟨S2x1024x256, .f32⟩
  | .hbm, ⟨27, _⟩ => ⟨S_, .f32⟩
  | .hbm, ⟨28, _⟩ => ⟨S2x1024x256, .f32⟩
  | .hbm, ⟨29, _⟩ => ⟨S2x1024x256, .f32⟩
  | .hbm, ⟨30, _⟩ => ⟨S2x1024x256, .f32⟩
  | .hbm, ⟨31, _⟩ => ⟨S_, .f32⟩
  | .hbm, ⟨32, _⟩ => ⟨S2x1024x256, .f32⟩
  | .hbm, ⟨33, _⟩ => ⟨S2x1024x256, .f32⟩
  | .hbm, ⟨34, _⟩ => ⟨S_, .f32⟩
  | .hbm, ⟨35, _⟩ => ⟨S2x1024x256, .f32⟩
  | .hbm, ⟨36, _⟩ => ⟨S2x1024x256, .f32⟩
  | .hbm, ⟨37, _⟩ => ⟨S2x1024x256, .f32⟩
  | .hbm, ⟨38, _⟩ => ⟨S_, .f32⟩
  | .hbm, ⟨39, _⟩ => ⟨S2x1024x256, .f32⟩
  | .hbm, ⟨40, _⟩ => ⟨S2x1024x256, .f32⟩
  | .hbm, ⟨41, _⟩ => ⟨S2x1024x256, .f32⟩
  | .hbm, ⟨42, _⟩ => ⟨S_, .f32⟩
  | .hbm, ⟨43, _⟩ => ⟨S2x1024x256, .f32⟩
  | .hbm, ⟨44, _⟩ => ⟨S2x1024x256, .f32⟩
  | .hbm, ⟨45, _⟩ => ⟨S2x1024x256, .f32⟩
  | .hbm, ⟨46, _⟩ => ⟨S_, .f32⟩
  | .hbm, ⟨47, _⟩ => ⟨S2x1024x256, .f32⟩
  | .hbm, ⟨48, _⟩ => ⟨S2x1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel28.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 11
  | .vmem => 19
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .bf16⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel28Ideal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 11
  | .vmem => 19
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .bf16⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c0_i32_1 : BitVec 32 := 0#32
  let v2 : BitVec 32 := Scalar.select v1 c0_i32 c0_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference28Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S8x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .bf16⟩
  | .hbm, ⟨6, _⟩ => ⟨S8x128x1024, .f32⟩
  | .hbm, ⟨7, _⟩ => ⟨S_, .f32⟩
  | .hbm, ⟨8, _⟩ => ⟨S128x1024, .f32⟩
  | .hbm, ⟨9, _⟩ => ⟨S8x128x1024, .bf16⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S1x128x1024, .f32⟩
  | .hbm, ⟨14, _⟩ => ⟨S1x128x1024, .f32⟩
  | .hbm, ⟨15, _⟩ => ⟨S2x128x1024, .f32⟩
  | .hbm, ⟨16, _⟩ => ⟨S_, .f32⟩
  | .hbm, ⟨17, _⟩ => ⟨S2x128x1024, .f32⟩
  | .hbm, ⟨18, _⟩ => ⟨S2x128x1024, .f32⟩
  | .hbm, ⟨19, _⟩ => ⟨S_, .f32⟩
  | .hbm, ⟨20, _⟩ => ⟨S2x128x1024, .f32⟩
  | .hbm, ⟨21, _⟩ => ⟨S2x128x1024, .f32⟩
  | .hbm, ⟨22, _⟩ => ⟨S2x128x1024, .f32⟩
  | .hbm, ⟨23, _⟩ => ⟨S_, .f32⟩
  | .hbm, ⟨24, _⟩ => ⟨S2x128x1024, .f32⟩
  | .hbm, ⟨25, _⟩ => ⟨S2x128x1024, .f32⟩
  | .hbm, ⟨26, _⟩ => ⟨S2x128x1024, .f32⟩
  | .hbm, ⟨27, _⟩ => ⟨S_, .f32⟩
  | .hbm, ⟨28, _⟩ => ⟨S2x128x1024, .f32⟩
  | .hbm, ⟨29, _⟩ => ⟨S2x128x1024, .f32⟩
  | .hbm, ⟨30, _⟩ => ⟨S2x128x1024, .f32⟩
  | .hbm, ⟨31, _⟩ => ⟨S_, .f32⟩
  | .hbm, ⟨32, _⟩ => ⟨S2x128x1024, .f32⟩
  | .hbm, ⟨33, _⟩ => ⟨S2x128x1024, .f32⟩
  | .hbm, ⟨34, _⟩ => ⟨S_, .f32⟩
  | .hbm, ⟨35, _⟩ => ⟨S2x128x1024, .f32⟩
  | .hbm, ⟨36, _⟩ => ⟨S2x128x1024, .f32⟩
  | .hbm, ⟨37, _⟩ => ⟨S2x128x1024, .f32⟩
  | .hbm, ⟨38, _⟩ => ⟨S_, .f32⟩
  | .hbm, ⟨39, _⟩ => ⟨S2x128x1024, .f32⟩
  | .hbm, ⟨40, _⟩ => ⟨S2x128x1024, .f32⟩
  | .hbm, ⟨41, _⟩ => ⟨S2x128x1024, .f32⟩
  | .hbm, ⟨42, _⟩ => ⟨S_, .f32⟩
  | .hbm, ⟨43, _⟩ => ⟨S2x128x1024, .f32⟩
  | .hbm, ⟨44, _⟩ => ⟨S2x128x1024, .f32⟩
  | .hbm, ⟨45, _⟩ => ⟨S2x128x1024, .f32⟩
  | .hbm, ⟨46, _⟩ => ⟨S_, .f32⟩
  | .hbm, ⟨47, _⟩ => ⟨S2x128x1024, .f32⟩
  | .hbm, ⟨48, _⟩ => ⟨S2x128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel29.lean ====
abbrev S8x1024x512 : Shape := ⟨3, ![8, 1024, 512]⟩
abbrev S4x1024x512 : Shape := ⟨3, ![4, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 15
  | .vmem => 23
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x512, .f32⟩
  | .hbm, ⟨3, _⟩ => ⟨S8x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S8x1024x512, .bf16⟩
  | .hbm, ⟨8, _⟩ => ⟨S8x1024x512, .bf16⟩
  | .hbm, ⟨9, _⟩ => ⟨S8x1024x512, .bf16⟩
  | .hbm, ⟨10, _⟩ => ⟨S8x1024x512, .bf16⟩
  | .hbm, ⟨11, _⟩ => ⟨S4x1024x512, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S256x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c3_i32_1 : BitVec 32 := 3#32
  let v2 : BitVec 32 := Scalar.select v1 c0_i32 c3_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Kernel29Ideal.lean ====
abbrev S8x1024x512 : Shape := ⟨3, ![8, 1024, 512]⟩
abbrev S4x1024x512 : Shape := ⟨3, ![4, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 15
  | .vmem => 23
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x512, .f32⟩
  | .hbm, ⟨3, _⟩ => ⟨S8x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S8x1024x512, .bf16⟩
  | .hbm, ⟨8, _⟩ => ⟨S8x1024x512, .bf16⟩
  | .hbm, ⟨9, _⟩ => ⟨S8x1024x512, .bf16⟩
  | .hbm, ⟨10, _⟩ => ⟨S8x1024x512, .bf16⟩
  | .hbm, ⟨11, _⟩ => ⟨S4x1024x512, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S256x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c3_i32_1 : BitVec 32 := 3#32
  let v2 : BitVec 32 := Scalar.select v1 c0_i32 c3_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference29Ideal.lean ====
abbrev S8x1024x512 : Shape := ⟨3, ![8, 1024, 512]⟩
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S8x1024x512, .f32⟩
  | .hbm, ⟨2, _⟩ => ⟨S8x1024x512, .f32⟩
  | .hbm, ⟨3, _⟩ => ⟨S8x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S8x1024x512, .bf16⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S8x1024x512, .bf16⟩
  | .hbm, ⟨12, _⟩ => ⟨S8x1024x512, .f32⟩
  | .hbm, ⟨13, _⟩ => ⟨S_, .f32⟩
  | .hbm, ⟨14, _⟩ => ⟨S1024x512, .f32⟩
  | .hbm, ⟨15, _⟩ => ⟨S8x1024x512, .bf16⟩
  | .hbm, ⟨16, _⟩ => ⟨S8x1024x512, .f32⟩
  | .hbm, ⟨17, _⟩ => ⟨S_, .f32⟩
  | .hbm, ⟨18, _⟩ => ⟨S1024x512, .f32⟩
  | .hbm, ⟨19, _⟩ => ⟨S8x1024x512, .bf16⟩
  | .hbm, ⟨20, _⟩ => ⟨S8x1024x512, .f32⟩
  | .hbm, ⟨21, _⟩ => ⟨S_, .f32⟩
  | .hbm, ⟨22, _⟩ => ⟨S1024x512, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S4x1024x512, .f32⟩
  | .hbm, ⟨28, _⟩ => ⟨S_, .f32⟩
  | .hbm, ⟨29, _⟩ => ⟨S4x1024x512, .f32⟩
  | .hbm, ⟨30, _⟩ => ⟨S4x1024x512, .f32⟩
  | .hbm, ⟨31, _⟩ => ⟨S_, .f32⟩
  | .hbm, ⟨32, _⟩ => ⟨S4x1024x512, .f32⟩
  | .hbm, ⟨33, _⟩ => ⟨S4x1024x512, .f32⟩
  | .hbm, ⟨34, _⟩ => ⟨S4x1024x512, .f32⟩
  | .hbm, ⟨35, _⟩ => ⟨S_, .f32⟩
  | .hbm, ⟨36, _⟩ => ⟨S4x1024x512, .f32⟩
  | .hbm, ⟨37, _⟩ => ⟨S4x1024x512, .f32⟩
  | .hbm, ⟨38, _⟩ => ⟨S4x1024x512, .f32⟩
  | .hbm, ⟨39, _⟩ => ⟨S_, .f32⟩
  | .hbm, ⟨40, _⟩ => ⟨S4x1024x512, .f32⟩
  | .hbm, ⟨41, _⟩ => ⟨S4x1024x512, .f32⟩
  | .hbm, ⟨42, _⟩ => ⟨S4x1024x512, .f32⟩
  | .hbm, ⟨43, _⟩ => ⟨S_, .f32⟩
  | .hbm, ⟨44, _⟩ => ⟨S4x1024x512, .f32⟩
  | .hbm, ⟨45, _⟩ => ⟨S4x1024x512, .f32⟩
  | .hbm, ⟨46, _⟩ => ⟨S_, .f32⟩
  | .hbm, ⟨47, _⟩ => ⟨S4x1024x512, .f32⟩
  | .hbm, ⟨48, _⟩ => ⟨S4x1024x512, .f32⟩
  | .hbm, ⟨49, _⟩ => ⟨S4x1024x512, .f32⟩
  | .hbm, ⟨50, _⟩ => ⟨S_, .f32⟩
  | .hbm, ⟨51, _⟩ => ⟨S4x1024x512, .f32⟩
  | .hbm, ⟨52, _⟩ => ⟨S4x1024x512, .f32⟩
  | .hbm, ⟨53, _⟩ => ⟨S4x1024x512, .f32⟩
  | .hbm, ⟨54, _⟩ => ⟨S_, .f32⟩
  | .hbm, ⟨55, _⟩ => ⟨S4x1024x512, .f32⟩
  | .hbm, ⟨56, _⟩ => ⟨S4x1024x512, .f32⟩
  | .hbm, ⟨57, _⟩ => ⟨S4x1024x512, .f32⟩
  | .hbm, ⟨58, _⟩ => ⟨S_, .f32⟩
  | .hbm, ⟨59, _⟩ => ⟨S4x1024x512, .f32⟩
  | .hbm, ⟨60, _⟩ => ⟨S4x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel30.lean ====
abbrev S8x512x1024 : Shape := ⟨3, ![8, 512, 1024]⟩
abbrev S4x512x1024 : Shape := ⟨3, ![4, 512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 15
  | .vmem => 23
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S8x512x1024, .f32⟩
  | .hbm, ⟨3, _⟩ => ⟨S8x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S8x512x1024, .bf16⟩
  | .hbm, ⟨8, _⟩ => ⟨S8x512x1024, .bf16⟩
  | .hbm, ⟨9, _⟩ => ⟨S8x512x1024, .bf16⟩
  | .hbm, ⟨10, _⟩ => ⟨S8x512x1024, .bf16⟩
  | .hbm, ⟨11, _⟩ => ⟨S4x512x1024, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | .local _ .vmem, ⟨22, _⟩ => ⟨S128x1024, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c3_i32 : BitVec 32 := 3#32
  let v2 : BitVec 32 := Scalar.select v1 c0_i32_1 c3_i32
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c1_i32_0 : BitVec 32 := 1#32
  let v1 : BitVec 1 := Scalar.cmpi .slt arg0 c1_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c2_i32_0 : BitVec 32 := 2#32
  let v1 : BitVec 1 := Scalar.cmpi .slt arg0 c2_i32_0
  let c0_i32 : BitVec 32 := 0#32
  let c3_i32 : BitVec 32 := 3#32
  let v2 : BitVec 32 := Scalar.select v1 c0_i32 c3_i32
  let v3 : BitVec 32 := Scalar.select v0 arg1 v2
  let c0_i32_1 : BitVec 32 := 0#32
  let c0_i32_2 : BitVec 32 := 0#32
  let c0_i32_3 : BitVec 32 := 0#32
  ![c0_i32_1.toNat, v3.toNat, c0_i32_2.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c3_i32_0 : BitVec 32 := 3#32
  let v1 : BitVec 1 := Scalar.cmpi .slt arg0 c3_i32_0
  let c0_i32 : BitVec 32 := 0#32
  let c3_i32_1 : BitVec 32 := 3#32
  let v2 : BitVec 32 := Scalar.select v1 c0_i32 c3_i32_1
  let v3 : BitVec 32 := Scalar.select v0 arg1 v2
  let c0_i32_2 : BitVec 32 := 0#32
  let c0_i32_3 : BitVec 32 := 0#32
  let c0_i32_4 : BitVec 32 := 0#32
  ![c0_i32_2.toNat, v3.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference30Ideal.lean ====
abbrev S8x512x1024 : Shape := ⟨3, ![8, 512, 1024]⟩
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x512x1024, .f32⟩
  | .hbm, ⟨2, _⟩ => ⟨S8x512x1024, .f32⟩
  | .hbm, ⟨3, _⟩ => ⟨S8x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S8x512x1024, .bf16⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S8x512x1024, .bf16⟩
  | .hbm, ⟨12, _⟩ => ⟨S8x512x1024, .f32⟩
  | .hbm, ⟨13, _⟩ => ⟨S_, .f32⟩
  | .hbm, ⟨14, _⟩ => ⟨S512x1024, .f32⟩
  | .hbm, ⟨15, _⟩ => ⟨S8x512x1024, .bf16⟩
  | .hbm, ⟨16, _⟩ => ⟨S8x512x1024, .f32⟩
  | .hbm, ⟨17, _⟩ => ⟨S_, .f32⟩
  | .hbm, ⟨18, _⟩ => ⟨S512x1024, .f32⟩
  | .hbm, ⟨19, _⟩ => ⟨S8x512x1024, .bf16⟩
  | .hbm, ⟨20, _⟩ => ⟨S8x512x1024, .f32⟩
  | .hbm, ⟨21, _⟩ => ⟨S_, .f32⟩
  | .hbm, ⟨22, _⟩ => ⟨S512x1024, .f32⟩
  | .hbm, ⟨23, _⟩ => ⟨S1x512x1024, .f32⟩
  | .hbm, ⟨24, _⟩ => ⟨S1x512x1024, .f32⟩
  | .hbm, ⟨25, _⟩ => ⟨S1x512x1024, .f32⟩
  | .hbm, ⟨26, _⟩ => ⟨S1x512x1024, .f32⟩
  | .hbm, ⟨27, _⟩ => ⟨S4x512x1024, .f32⟩
  | .hbm, ⟨28, _⟩ => ⟨S_, .f32⟩
  | .hbm, ⟨29, _⟩ => ⟨S4x512x1024, .f32⟩
  | .hbm, ⟨30, _⟩ => ⟨S4x512x1024, .f32⟩
  | .hbm, ⟨31, _⟩ => ⟨S_, .f32⟩
  | .hbm, ⟨32, _⟩ => ⟨S4x512x1024, .f32⟩
  | .hbm, ⟨33, _⟩ => ⟨S4x512x1024, .f32⟩
  | .hbm, ⟨34, _⟩ => ⟨S4x512x1024, .f32⟩
  | .hbm, ⟨35, _⟩ => ⟨S_, .f32⟩
  | .hbm, ⟨36, _⟩ => ⟨S4x512x1024, .f32⟩
  | .hbm, ⟨37, _⟩ => ⟨S4x512x1024, .f32⟩
  | .hbm, ⟨38, _⟩ => ⟨S4x512x1024, .f32⟩
  | .hbm, ⟨39, _⟩ => ⟨S_, .f32⟩
  | .hbm, ⟨40, _⟩ => ⟨S4x512x1024, .f32⟩
  | .hbm, ⟨41, _⟩ => ⟨S4x512x1024, .f32⟩
  | .hbm, ⟨42, _⟩ => ⟨S4x512x1024, .f32⟩
  | .hbm, ⟨43, _⟩ => ⟨S_, .f32⟩
  | .hbm, ⟨44, _⟩ => ⟨S4x512x1024, .f32⟩
  | .hbm, ⟨45, _⟩ => ⟨S4x512x1024, .f32⟩
  | .hbm, ⟨46, _⟩ => ⟨S_, .f32⟩
  | .hbm, ⟨47, _⟩ => ⟨S4x512x1024, .f32⟩
  | .hbm, ⟨48, _⟩ => ⟨S4x512x1024, .f32⟩
  | .hbm, ⟨49, _⟩ => ⟨S4x512x1024, .f32⟩
  | .hbm, ⟨50, _⟩ => ⟨S_, .f32⟩
  | .hbm, ⟨51, _⟩ => ⟨S4x512x1024, .f32⟩
  | .hbm, ⟨52, _⟩ => ⟨S4x512x1024, .f32⟩
  | .hbm, ⟨53, _⟩ => ⟨S4x512x1024, .f32⟩
  | .hbm, ⟨54, _⟩ => ⟨S_, .f32⟩
  | .hbm, ⟨55, _⟩ => ⟨S4x512x1024, .f32⟩
  | .hbm, ⟨56, _⟩ => ⟨S4x512x1024, .f32⟩
  | .hbm, ⟨57, _⟩ => ⟨S4x512x1024, .f32⟩
  | .hbm, ⟨58, _⟩ => ⟨S_, .f32⟩
  | .hbm, ⟨59, _⟩ => ⟨S4x512x1024, .f32⟩
  | .hbm, ⟨60, _⟩ => ⟨S4x512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel31.lean ====
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8x32x1024, .f32⟩
  | .hbm, ⟨1, _⟩ => ⟨S1x32x1024, .f32⟩
  | .hbm, ⟨2, _⟩ => ⟨S1x32x1024, .f32⟩
  | .hbm, ⟨3, _⟩ => ⟨S1x32x1024, .f32⟩
  | .hbm, ⟨4, _⟩ => ⟨S1x32x1024, .f32⟩
  | .hbm, ⟨5, _⟩ => ⟨S1x32x1024, .f32⟩
  | .hbm, ⟨6, _⟩ => ⟨S1x32x1024, .f32⟩
  | .hbm, ⟨7, _⟩ => ⟨S1x32x1024, .f32⟩
  | .local _ .vmem, ⟨0, _⟩ => ⟨S8x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S32x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .slt arg0 c0_i32_0
  let c0_i32_1 : BitVec 32 := 0#32
  let c0_i32_2 : BitVec 32 := 0#32
  let v2 : BitVec 32 := Scalar.select v1 c0_i32_1 c0_i32_2
  let v3 : BitVec 32 := Scalar.select v0 arg1 v2
  let c0_i32_3 : BitVec 32 := 0#32
  let c0_i32_4 : BitVec 32 := 0#32
  let c0_i32_5 : BitVec 32 := 0#32
  ![c0_i32_3.toNat, v3.toNat, c0_i32_4.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S8x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== Reference31Ideal.lean ====
abbrev S8x32x1024 : Shape := ⟨3, ![8, 32, 1024]⟩
abbrev S1x32x1024 : Shape := ⟨3, ![1, 32, 1024]⟩
abbrev S_ : Shape := ⟨0, ![]⟩
abbrev S32x1024 : Shape := ⟨2, ![32, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1x32x1024, .f32⟩
  | .hbm, ⟨2, _⟩ => ⟨S1x32x1024, .f32⟩
  | .hbm, ⟨3, _⟩ => ⟨S1x32x1024, .f32⟩
  | .hbm, ⟨4, _⟩ => ⟨S_, .f32⟩
  | .hbm, ⟨5, _⟩ => ⟨S32x1024, .f32⟩
  | .hbm, ⟨6, _⟩ => ⟨S1x32x1024, .f32⟩
  | .hbm, ⟨7, _⟩ => ⟨S_, .f32⟩
  | .hbm, ⟨8, _⟩ => ⟨S1x32x1024, .f32⟩
  | .hbm, ⟨9, _⟩ => ⟨S1x32x1024, .f32⟩
  | .hbm, ⟨10, _⟩ => ⟨S_, .f32⟩
  | .hbm, ⟨11, _⟩ => ⟨S1x32x1024, .f32⟩
  | .hbm, ⟨12, _⟩ => ⟨S1x32x1024, .f32⟩
  | .hbm, ⟨13, _⟩ => ⟨S1x32x1024, .f32⟩
  | .hbm, ⟨14, _⟩ => ⟨S_, .f32⟩
  | .hbm, ⟨15, _⟩ => ⟨S1x32x1024, .f32⟩
  | .hbm, ⟨16, _⟩ => ⟨S1x32x1024, .f32⟩
  | .hbm, ⟨17, _⟩ => ⟨S1x32x1024, .f32⟩
  | .hbm, ⟨18, _⟩ => ⟨S_, .f32⟩
  | .hbm, ⟨19, _⟩ => ⟨S1x32x1024, .f32⟩
  | .hbm, ⟨20, _⟩ => ⟨S1x32x1024, .f32⟩
  | .hbm, ⟨21, _⟩ => ⟨S1x32x1024, .f32⟩
  | .hbm, ⟨22, _⟩ => ⟨S_, .f32⟩
  | .hbm, ⟨23, _⟩ => ⟨S1x32x1024, .f32⟩
  | .hbm, ⟨24, _⟩ => ⟨S1x32x1024, .f32⟩
  | .hbm, ⟨25, _⟩ => ⟨S_, .f32⟩
  | .hbm, ⟨26, _⟩ => ⟨S1x32x1024, .f32⟩
  | .hbm, ⟨27, _⟩ => ⟨S1x32x1024, .f32⟩
  | .hbm, ⟨28, _⟩ => ⟨S1x32x1024, .f32⟩
  | .hbm, ⟨29, _⟩ => ⟨S_, .f32⟩
  | .hbm, ⟨30, _⟩ => ⟨S1x32x1024, .f32⟩
  | .hbm, ⟨31, _⟩ => ⟨S1x32x1024, .f32⟩
  | .hbm, ⟨32, _⟩ => ⟨S1x32x1024, .f32⟩
  | .hbm, ⟨33, _⟩ => ⟨S_, .f32⟩
  | .hbm, ⟨34, _⟩ => ⟨S1x32x1024, .f32⟩
  | .hbm, ⟨35, _⟩ => ⟨S1x32x1024, .f32⟩
  | .hbm, ⟨36, _⟩ => ⟨S1x32x1024, .f32⟩
  | .hbm, ⟨37, _⟩ => ⟨S_, .f32⟩
  | .hbm, ⟨38, _⟩ => ⟨S1x32x1024, .f32⟩
  | .hbm, ⟨39, _⟩ => ⟨S1x32x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel32.lean ====
abbrev S8320x3200 : Shape := ⟨2, ![8320, 3200]⟩
abbrev S1x512 : Shape := ⟨2, ![1, 512]⟩
abbrev S1x128 : Shape := ⟨2, ![1, 128]⟩
abbrev S8 : Shape := ⟨1, ![8]⟩
abbrev S512 : Shape := ⟨1, ![512]⟩
abbrev S512x1 : Shape := ⟨2, ![512, 1]⟩
abbrev S128 : Shape := ⟨1, ![128]⟩
abbrev S_ : Shape := ⟨0, ![]⟩
abbrev S512x128 : Shape := ⟨2, ![512, 128]⟩
abbrev S128x1 : Shape := ⟨2, ![128, 1]⟩
abbrev S128x128 : Shape := ⟨2, ![128, 128]⟩
abbrev S128x512 : Shape := ⟨2, ![128, 512]⟩
abbrev S8320x512 : Shape := ⟨2, ![8320, 512]⟩
abbrev S512x384 : Shape := ⟨2, ![512, 384]⟩
abbrev S384x128 : Shape := ⟨2, ![384, 128]⟩
abbrev S1 : Shape := ⟨1, ![1]⟩

abbrev nBuf : Space → Nat
  | .hbm => 59
  | .vmem => 19
  | .smem => 1
  | _ => 0

abbrev bufTy : (tb : Table) → Fin (tcTables nBuf tb) → BufTy
  | .hbm, ⟨0, _⟩ => ⟨S8320x3200, .f32⟩
  | .hbm, ⟨1, _⟩ => ⟨S1x512, .f32⟩
  | .hbm, ⟨2, _⟩ => ⟨S1x128, .f32⟩
  | .hbm, ⟨3, _⟩ => ⟨S8, .f32⟩
  | .hbm, ⟨4, _⟩ => ⟨S512, .i32⟩
  | .hbm, ⟨5, _⟩ => ⟨S512x1, .i32⟩
  | .hbm, ⟨6, _⟩ => ⟨S128, .i32⟩
  | .hbm, ⟨7, _⟩ => ⟨S1x128, .i32⟩
  | .hbm, ⟨8, _⟩ => ⟨S_, .i32⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S512x1, .i32⟩
  | .hbm, ⟨17, _⟩ => ⟨S512x1, .i32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i32⟩
  | .hbm, ⟨25, _⟩ => ⟨S512x1, .i32⟩
  | .hbm, ⟨26, _⟩ => ⟨S512x128, .i32⟩
  | .hbm, ⟨27, _⟩ => ⟨S512x128, .i32⟩
  | .hbm, ⟨28, _⟩ => ⟨S512x128, .i1⟩
  | .hbm, ⟨29, _⟩ => ⟨S512x128, .f32⟩
  | .hbm, ⟨30, _⟩ => ⟨S128, .i32⟩
  | .hbm, ⟨31, _⟩ => ⟨S128x1, .i32⟩
  | .hbm, ⟨32, _⟩ => ⟨S128, .i32⟩
  | .hbm, ⟨33, _⟩ => ⟨S1x128, .i32⟩
  | .hbm, ⟨34, _⟩ => ⟨S_, .i32⟩
  | .hbm, ⟨35, _⟩ => ⟨S_, .i32⟩
  | .hbm, ⟨36, _⟩ => ⟨S128x1, .i32⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S128x1, .i32⟩
  | .hbm, ⟨43, _⟩ => ⟨S128x1, .i32⟩
  | .hbm, ⟨44, _⟩ => ⟨S_, .i32⟩
  | .hbm, ⟨45, _⟩ => ⟨S128x1, .i32⟩
  | .hbm, ⟨46, _⟩ => ⟨S128x1, .i1⟩
  | .hbm, ⟨47, _⟩ => ⟨S128x1, .i1⟩
  | .hbm, ⟨48, _⟩ => ⟨S_, .i32⟩
  | .hbm, ⟨49, _⟩ => ⟨S128x1, .i32⟩
  | .hbm, ⟨50, _⟩ => ⟨S128x1, .i32⟩
  | .hbm, ⟨51, _⟩ => ⟨S128x1, .i32⟩
  | .hbm, ⟨52, _⟩ => ⟨S128x128, .i32⟩
  | .hbm, ⟨53, _⟩ => ⟨S128x128, .i32⟩
  | .hbm, ⟨54, _⟩ => ⟨S128x128, .i1⟩
  | .hbm, ⟨55, _⟩ => ⟨S128x128, .f32⟩
  | .hbm, ⟨56, _⟩ => ⟨S128x512, .f32⟩
  | .hbm, ⟨57, _⟩ => ⟨S128x128, .f32⟩
  | .hbm, ⟨58, _⟩ => ⟨S8320x512, .bf16⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x512, .f32⟩
  | .local _ .vmem, ⟨10, _⟩ => ⟨S1x128, .f32⟩
  | .local _ .vmem, ⟨11, _⟩ => ⟨S512x128, .f32⟩
  | .local _ .vmem, ⟨12, _⟩ => ⟨S128x512, .f32⟩
  | .local _ .vmem, ⟨13, _⟩ => ⟨S128x128, .f32⟩
  | .local _ .vmem, ⟨14, _⟩ => ⟨S128x128, .f32⟩
  | .local _ .vmem, ⟨15, _⟩ => ⟨S128x512, .bf16⟩
  | .local _ .vmem, ⟨16, _⟩ => ⟨S128x512, .bf16⟩
  | .local _ .vmem, ⟨17, _⟩ => ⟨S128x128, .f32⟩
  | .local _ .vmem, ⟨18, _⟩ => ⟨S128x128, .f32⟩
  | .local _ .smem, ⟨0, _⟩ => ⟨S8, .f32⟩
  | _, _ => ⟨S8320x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c23_i32 : BitVec 32 := 23#32
  let c0_i32_0 : BitVec 32 := 0#32
  ![v1.toNat, c23_i32.toNat]

def cc0_transform_4 (i : grid0.Coords) : Fin 2 → Nat :=
  let arg0 : BitVec 32 := BitVec.ofNat 32 (i 0).val
  let c0_i32 : BitVec 32 := 0#32
  let c23_i32 : BitVec 32 := 23#32
  let c0_i32_0 : BitVec 32 := 0#32
  ![c0_i32.toNat, c23_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel33.lean ====
abbrev S8320x3200 : Shape := ⟨2, ![8320, 3200]⟩
abbrev S8320x512 : Shape := ⟨2, ![8320, 512]⟩
abbrev S4x1024 : Shape := ⟨2, ![4, 1024]⟩
abbrev S4x256 : Shape := ⟨2, ![4, 256]⟩
abbrev S1x1024 : Shape := ⟨2, ![1, 1024]⟩
abbrev S1x256 : Shape := ⟨2, ![1, 256]⟩
abbrev S1x128 : Shape := ⟨2, ![1, 128]⟩
abbrev S128 : Shape := ⟨1, ![128]⟩
abbrev S128x1 : Shape := ⟨2, ![128, 1]⟩
abbrev S1024 : Shape := ⟨1, ![1024]⟩
abbrev S_ : Shape := ⟨0, ![]⟩
abbrev S128x1024 : Shape := ⟨2, ![128, 1024]⟩
abbrev S1024x128 : Shape := ⟨2, ![1024, 128]⟩
abbrev S8320x1536 : Shape := ⟨2, ![8320, 1536]⟩
abbrev S8320x1024 : Shape := ⟨2, ![8320, 1024]⟩
abbrev S8320x256 : Shape := ⟨2, ![8320, 256]⟩
abbrev S8320x128 : Shape := ⟨2, ![8320, 128]⟩
abbrev S65x1024x64 : Shape := ⟨3, ![65, 1024, 64]⟩
abbrev S128x256 : Shape := ⟨2, ![128, 256]⟩
abbrev S128x128 : Shape := ⟨2, ![128, 128]⟩
abbrev S128x512 : Shape := ⟨2, ![128, 512]⟩
abbrev S128x1536 : Shape := ⟨2, ![128, 1536]⟩
abbrev S1x1024x64 : Shape := ⟨3, ![1, 1024, 64]⟩
abbrev S136x1024 : Shape := ⟨2, ![136, 1024]⟩
abbrev S136x256 : Shape := ⟨2, ![136, 256]⟩
abbrev S1024x64 : Shape := ⟨2, ![1024, 64]⟩
abbrev S8x1024 : Shape := ⟨2, ![8, 1024]⟩
abbrev S8x256 : Shape := ⟨2, ![8, 256]⟩
abbrev S128x64 : Shape := ⟨2, ![128, 64]⟩
abbrev S512x64 : Shape := ⟨2, ![512, 64]⟩

abbrev nBuf : Space → Nat
  | .hbm => 44
  | .vmem => 35
  | .smem => 0
  | _ => 0

abbrev bufTy : (tb : Table) → Fin (tcTables nBuf tb) → BufTy
  | .hbm, ⟨0, _⟩ => ⟨S8320x3200, .f32⟩
  | .hbm, ⟨1, _⟩ => ⟨S8320x512, .f32⟩
  | .hbm, ⟨2, _⟩ => ⟨S4x1024, .f32⟩
  | .hbm, ⟨3, _⟩ => ⟨S4x256, .f32⟩
  | .hbm, ⟨4, _⟩ => ⟨S1x1024, .f32⟩
  | .hbm, ⟨5, _⟩ => ⟨S1x256, .f32⟩
  | .hbm, ⟨6, _⟩ => ⟨S1x128, .f32⟩
  | .hbm, ⟨7, _⟩ => ⟨S1x128, .f32⟩
  | .hbm, ⟨8, _⟩ => ⟨S1x1024, .f32⟩
  | .hbm, ⟨9, _⟩ => ⟨S1x1024, .f32⟩
  | .hbm, ⟨10, _⟩ => ⟨S8320x512, .bf16⟩
  | .hbm, ⟨11, _⟩ => ⟨S128, .i32⟩
  | .hbm, ⟨12, _⟩ => ⟨S128x1, .i32⟩
  | .hbm, ⟨13, _⟩ => ⟨S1024, .i32⟩
  | .hbm, ⟨14, _⟩ => ⟨S1x1024, .i32⟩
  | .hbm, ⟨15, _⟩ => ⟨S_, .i32⟩
  | .hbm, ⟨16, _⟩ => ⟨S_, .i32⟩
  | .hbm, ⟨17, _⟩ => ⟨S1x1024, .i32⟩
  | .hbm, ⟨18, _⟩ => ⟨S1x1024, .i32⟩
  | .hbm, ⟨19, _⟩ => ⟨S1x1024, .i32⟩
  | .hbm, ⟨20, _⟩ => ⟨S_, .i32⟩
  | .hbm, ⟨21, _⟩ => ⟨S1x1024, .i32⟩
  | .hbm, ⟨22, _⟩ => ⟨S1x1024, .i1⟩
  | .hbm, ⟨23, _⟩ => ⟨S1x1024, .i32⟩
  | .hbm, ⟨24, _⟩ => ⟨S1x1024, .i32⟩
  | .hbm, ⟨25, _⟩ => ⟨S_, .i32⟩
  | .hbm, ⟨26, _⟩ => ⟨S1x1024, .i32⟩
  | .hbm, ⟨27, _⟩ => ⟨S1x1024, .i1⟩
  | .hbm, ⟨28, _⟩ => ⟨S1x1024, .i1⟩
  | .hbm, ⟨29, _⟩ => ⟨S_, .i32⟩
  | .hbm, ⟨30, _⟩ => ⟨S1x1024, .i32⟩
  | .hbm, ⟨31, _⟩ => ⟨S1x1024, .i32⟩
  | .hbm, ⟨32, _⟩ => ⟨S1x1024, .i32⟩
  | .hbm, ⟨33, _⟩ => ⟨S128x1024, .i32⟩
  | .hbm, ⟨34, _⟩ => ⟨S128x1024, .i32⟩
  | .hbm, ⟨35, _⟩ => ⟨S128x1024, .i1⟩
  | .hbm, ⟨36, _⟩ => ⟨S128x1024, .f32⟩
  | .hbm, ⟨37, _⟩ => ⟨S1024x128, .f32⟩
  | .hbm, ⟨38, _⟩ => ⟨S8320x1536, .bf16⟩
  | .hbm, ⟨39, _⟩ => ⟨S8320x1024, .f32⟩
  | .hbm, ⟨40, _⟩ => ⟨S8320x256, .f32⟩
  | .hbm, ⟨41, _⟩ => ⟨S8320x128, .f32⟩
  | .hbm, ⟨42, _⟩ => ⟨S8320x1024, .f32⟩
  | .hbm, ⟨43, _⟩ => ⟨S65x1024x64, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x256, .f32⟩
  | .local _ .vmem, ⟨5, _⟩ => ⟨S128x256, .f32⟩
  | .local _ .vmem, ⟨6, _⟩ => ⟨S128x128, .f32⟩
  | .local _ .vmem, ⟨7, _⟩ => ⟨S128x128, .f32⟩
  | .local _ .vmem, ⟨8, _⟩ => ⟨S128x512, .bf16⟩
  | .local _ .vmem, ⟨9, _⟩ => ⟨S128x512, .bf16⟩
  | .local _ .vmem, ⟨10, _⟩ => ⟨S4x1024, .f32⟩
  | .local _ .vmem, ⟨11, _⟩ => ⟨S4x256, .f32⟩
  | .local _ .vmem, ⟨12, _⟩ => ⟨S1x1024, .f32⟩
  | .local _ .vmem, ⟨13, _⟩ => ⟨S1x256, .f32⟩
  | .local _ .vmem, ⟨14, _⟩ => ⟨S1x128, .f32⟩
  | .local _ .vmem, ⟨15, _⟩ => ⟨S1x128, .f32⟩
  | .local _ .vmem, ⟨16, _⟩ => ⟨S1x1024, .f32⟩
  | .local _ .vmem, ⟨17, _⟩ => ⟨S1x1024, .f32⟩
  | .local _ .vmem, ⟨18, _⟩ => ⟨S128x1024, .f32⟩
  | .local _ .vmem, ⟨19, _⟩ => ⟨S1024x128, .f32⟩
  | .local _ .vmem, ⟨20, _⟩ => ⟨S128x1536, .bf16⟩
  | .local _ .vmem, ⟨21, _⟩ => ⟨S128x1536, .bf16⟩
  | .local _ .vmem, ⟨22, _⟩ => ⟨S128x1024, .f32⟩
  | .local _ .vmem, ⟨23, _⟩ => ⟨S128x1024, .f32⟩
  | .local _ .vmem, ⟨24, _⟩ => ⟨S128x256, .f32⟩
  | .local _ .vmem, ⟨25, _⟩ => ⟨S128x256, .f32⟩
  | .local _ .vmem, ⟨26, _⟩ => ⟨S128x128, .f32⟩
  | .local _ .vmem, ⟨27, _⟩ => ⟨S128x128, .f32⟩
  | .local _ .vmem, ⟨28, _⟩ => ⟨S128x1024, .f32⟩
  | .local _ .vmem, ⟨29, _⟩ => ⟨S128x1024, .f32⟩
  | .local _ .vmem, ⟨30, _⟩ => ⟨S1x1024x64, .f32⟩
  | .local _ .vmem, ⟨31, _⟩ => ⟨S1x1024x64, .f32⟩
  | .local _ .vmem, ⟨32, _⟩ => ⟨S136x1024, .f32⟩
  | .local _ .vmem, ⟨33, _⟩ => ⟨S136x256, .f32⟩
  | .local _ .vmem, ⟨34, _⟩ => ⟨S1024x64, .f32⟩
  | _, _ => ⟨S8320x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11_0 : Ref sig .tc := ⟨.hbm, 38, rfl⟩
abbrev main_v11_1 : Ref sig .tc := ⟨.hbm, 39, rfl⟩
abbrev main_v11_2 : Ref sig .tc := ⟨.hbm, 40, rfl⟩
abbrev main_v11_3 : Ref sig .tc := ⟨.hbm, 41, rfl⟩
abbrev main_v11_4 : Ref sig .tc := ⟨.hbm, 42, rfl⟩
abbrev main_v11_5 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x1536 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1024x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference33Ideal.lean ====
abbrev S8320x3200 : Shape := ⟨2, ![8320, 3200]⟩
abbrev S8320x512 : Shape := ⟨2, ![8320, 512]⟩
abbrev S4x1024 : Shape := ⟨2, ![4, 1024]⟩
abbrev S4x256 : Shape := ⟨2, ![4, 256]⟩
abbrev S1x1024 : Shape := ⟨2, ![1, 1024]⟩
abbrev S1x256 : Shape := ⟨2, ![1, 256]⟩
abbrev S1x128 : Shape := ⟨2, ![1, 128]⟩
abbrev S8320x1024 : Shape := ⟨2, ![8320, 1024]⟩
abbrev S_ : Shape := ⟨0, ![]⟩
abbrev S8323x1024 : Shape := ⟨2, ![8323, 1024]⟩
abbrev S1024 : Shape := ⟨1, ![1024]⟩
abbrev S8320x256 : Shape := ⟨2, ![8320, 256]⟩
abbrev S8323x256 : Shape := ⟨2, ![8323, 256]⟩
abbrev S256 : Shape := ⟨1, ![256]⟩
abbrev S8320x128 : Shape := ⟨2, ![8320, 128]⟩
abbrev S8320 : Shape := ⟨1, ![8320]⟩
abbrev S8320x1 : Shape := ⟨2, ![8320, 1]⟩
abbrev S128 : Shape := ⟨1, ![128]⟩

abbrev nBuf : Space → Nat
  | .hbm => 104
  | .vmem => 0
  | .smem => 0
  | _ => 0

abbrev bufTy : (tb : Table) → Fin (tcTables nBuf tb) → BufTy
  | .hbm, ⟨0, _⟩ => ⟨S8320x3200, .f32⟩
  | .hbm, ⟨1, _⟩ => ⟨S8320x512, .f32⟩
  | .hbm, ⟨2, _⟩ => ⟨S4x1024, .f32⟩
  | .hbm, ⟨3, _⟩ => ⟨S4x256, .f32⟩
  | .hbm, ⟨4, _⟩ => ⟨S1x1024, .f32⟩
  | .hbm, ⟨5, _⟩ => ⟨S1x256, .f32⟩
  | .hbm, ⟨6, _⟩ => ⟨S1x128, .f32⟩
  | .hbm, ⟨7, _⟩ => ⟨S1x128, .f32⟩
  | .hbm, ⟨8, _⟩ => ⟨S1x1024, .f32⟩
  | .hbm, ⟨9, _⟩ => ⟨S1x1024, .f32⟩
  | .hbm, ⟨10, _⟩ => ⟨S8320x1024, .f32⟩
  | .hbm, ⟨11, _⟩ => ⟨S_, .i32⟩
  | .hbm, ⟨12, _⟩ => ⟨S_, .f32⟩
  | .hbm, ⟨13, _⟩ => ⟨S8323x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S8320x1024, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S8320x1024, .f32⟩
  | .hbm, ⟨31, _⟩ => ⟨S8320x1024, .f32⟩
  | .hbm, ⟨32, _⟩ => ⟨S8320x1024, .f32⟩
  | .hbm, ⟨33, _⟩ => ⟨S8320x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S8320x1024, .f32⟩
  | .hbm, ⟨38, _⟩ => ⟨S8320x1024, .f32⟩
  | .hbm, ⟨39, _⟩ => ⟨S8320x1024, .f32⟩
  | .hbm, ⟨40, _⟩ => ⟨S8320x1024, .f32⟩
  | .hbm, ⟨41, _⟩ => ⟨S8320x1024, .f32⟩
  | .hbm, ⟨42, _⟩ => ⟨S8320x1024, .f32⟩
  | .hbm, ⟨43, _⟩ => ⟨S8320x256, .f32⟩
  | .hbm, ⟨44, _⟩ => ⟨S_, .i32⟩
  | .hbm, ⟨45, _⟩ => ⟨S_, .f32⟩
  | .hbm, ⟨46, _⟩ => ⟨S8323x256, .f32⟩
  | .hbm, ⟨47, _⟩ => ⟨S1x256, .f32⟩
  | .hbm, ⟨48, _⟩ => ⟨S256, .f32⟩
  | .hbm, ⟨49, _⟩ => ⟨S1x256, .f32⟩
  | .hbm, ⟨50, _⟩ => ⟨S8320x256, .f32⟩
  | .hbm, ⟨51, _⟩ => ⟨S8320x256, .f32⟩
  | .hbm, ⟨52, _⟩ => ⟨S8320x256, .f32⟩
  | .hbm, ⟨53, _⟩ => ⟨S1x256, .f32⟩
  | .hbm, ⟨54, _⟩ => ⟨S256, .f32⟩
  | .hbm, ⟨55, _⟩ => ⟨S1x256, .f32⟩
  | .hbm, ⟨56, _⟩ => ⟨S8320x256, .f32⟩
  | .hbm, ⟨57, _⟩ => ⟨S8320x256, .f32⟩
  | .hbm, ⟨58, _⟩ => ⟨S8320x256, .f32⟩
  | .hbm, ⟨59, _⟩ => ⟨S8320x256, .f32⟩
  | .hbm, ⟨60, _⟩ => ⟨S1x256, .f32⟩
  | .hbm, ⟨61, _⟩ => ⟨S256, .f32⟩
  | .hbm, ⟨62, _⟩ => ⟨S1x256, .f32⟩
  | .hbm, ⟨63, _⟩ => ⟨S8320x256, .f32⟩
  | .hbm, ⟨64, _⟩ => ⟨S8320x256, .f32⟩
  | .hbm, ⟨65, _⟩ => ⟨S8320x256, .f32⟩
  | .hbm, ⟨66, _⟩ => ⟨S8320x256, .f32⟩
  | .hbm, ⟨67, _⟩ => ⟨S1x256, .f32⟩
  | .hbm, ⟨68, _⟩ => ⟨S256, .f32⟩
  | .hbm, ⟨69, _⟩ => ⟨S1x256, .f32⟩
  | .hbm, ⟨70, _⟩ => ⟨S8320x256, .f32⟩
  | .hbm, ⟨71, _⟩ => ⟨S8320x256, .f32⟩
  | .hbm, ⟨72, _⟩ => ⟨S8320x256, .f32⟩
  | .hbm, ⟨73, _⟩ => ⟨S8320x256, .f32⟩
  | .hbm, ⟨74, _⟩ => ⟨S8320x256, .f32⟩
  | .hbm, ⟨75, _⟩ => ⟨S8320x256, .f32⟩
  | .hbm, ⟨76, _⟩ => ⟨S8320x128, .f32⟩
  | .hbm, ⟨77, _⟩ => ⟨S8320x128, .f32⟩
  | .hbm, ⟨78, _⟩ => ⟨S8320x128, .f32⟩
  | .hbm, ⟨79, _⟩ => ⟨S_, .f32⟩
  | .hbm, ⟨80, _⟩ => ⟨S8320x128, .f32⟩
  | .hbm, ⟨81, _⟩ => ⟨S8320x128, .f32⟩
  | .hbm, ⟨82, _⟩ => ⟨S8320x128, .f32⟩
  | .hbm, ⟨83, _⟩ => ⟨S8320x128, .f32⟩
  | .hbm, ⟨84, _⟩ => ⟨S8320x128, .f32⟩
  | .hbm, ⟨85, _⟩ => ⟨S8320x128, .f32⟩
  | .hbm, ⟨86, _⟩ => ⟨S8320x128, .f32⟩
  | .hbm, ⟨87, _⟩ => ⟨S8320, .i32⟩
  | .hbm, ⟨88, _⟩ => ⟨S8320x1, .i32⟩
  | .hbm, ⟨89, _⟩ => ⟨S_, .i32⟩
  | .hbm, ⟨90, _⟩ => ⟨S8320x1, .i32⟩
  | .hbm, ⟨91, _⟩ => ⟨S8320x1, .i1⟩
  | .hbm, ⟨92, _⟩ => ⟨S128, .i32⟩
  | .hbm, ⟨93, _⟩ => ⟨S1x128, .i32⟩
  | .hbm, ⟨94, _⟩ => ⟨S_, .i32⟩
  | .hbm, ⟨95, _⟩ => ⟨S1x128, .i32⟩
  | .hbm, ⟨96, _⟩ => ⟨S1x128, .i1⟩
  | .hbm, ⟨97, _⟩ => ⟨S8320x128, .i1⟩
  | .hbm, ⟨98, _⟩ => ⟨S8320x128, .i1⟩
  | .hbm, ⟨99, _⟩ => ⟨S8320x128, .i1⟩
  | .hbm, ⟨100, _⟩ => ⟨S_, .f32⟩
  | .hbm, ⟨101, _⟩ => ⟨S_, .f32⟩
  | .hbm, ⟨102, _⟩ => ⟨S8320x128, .f32⟩
  | .hbm, ⟨103, _⟩ => ⟨S8320x128, .f32⟩
  | _, _ => ⟨S8320x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_0 : Ref sig .tc := ⟨.hbm, 44, rfl⟩
abbrev main_call1_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_c_1 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_c_2 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_3 : Ref sig .tc := ⟨.hbm, 100, rfl⟩
abbrev main_call2_v0 : Ref sig .tc := ⟨.hbm, 101, rfl⟩
abbrev main_call2_v1 : Ref sig .tc := ⟨.hbm, 102, rfl⟩
abbrev main_v83 : Ref sig .tc := ⟨.hbm, 103, rfl⟩

abbrev nD : Nat := 1
abbrev τ : Topo := Topo.v7x

variable {F : FTy → Type} [FloatOps F]
-- ==== Proof.ConvSpec.lean ====
/- The gradient of the gated depthwise convolution, as functions of a row number and a channel. -/
module
public import Idealize.ShloMosaic.Lib.Pointwise
@[expose] public section
noncomputable section
namespace ConvBwd
open Idealize.ShloMosaic

/-- The logistic function, as both programs write it. -/
def sg (x : EReal) : EReal := Ideal.div 1 (1 + Ideal.exp (0 - x))

/-- Channel `l` of the second half of the gate's input. -/
abbrev hi (l : Fin 1024) : Fin 2048 := ⟨1024 + l.val, by omega⟩
/-- Channel `l` of the first half. -/
abbrev lo (l : Fin 1024) : Fin 2048 := ⟨l.val, by omega⟩

variable (DC : (⟨2, ![8320, 1024]⟩ : Shape).Idx → EReal) (V : (⟨2, ![8320, 2048]⟩ : Shape).Idx → EReal)
  (W : (⟨2, ![31, 1024]⟩ : Shape).Idx → EReal)

/-- Row `r` of the convolution's output gradient, zero below the last row. -/
def dcN (l : Fin 1024) (r : ℕ) : EReal := if h : r < 8320 then DC (ix2 ⟨r, h⟩ l) else 0
/-- Row `r` of the gated half. -/
def aN (l : Fin 1024) (r : ℕ) : EReal := if h : r < 8320 then V (ix2 ⟨r, h⟩ (lo l)) else 0
/-- Row `r` of the gate. -/
def sN (l : Fin 1024) (r : ℕ) : EReal := if h : r < 8320 then sg (V (ix2 ⟨r, h⟩ (hi l))) else 0
/-- The gated value 32 rows above row `m`; the first 112 rows carry none. -/
def gN (l : Fin 1024) (m : ℕ) : EReal := if 144 ≤ m then aN V l (m - 32) * sN V l (m - 32) else 0
/-- The gradient of the gated value at row `r`: the output gradients of the 31 rows from `r` on, each with its tap. -/
def dgN (l : Fin 1024) (r : ℕ) : EReal :=
  if 112 ≤ r then ∑ k : Fin 31, W (ix2 ⟨30 - k.val, by omega⟩ l) * dcN DC l (r + k.val) else 0
/-- The gradient of the gate's input at row `r`: by the product rule, in its first and its second half. -/
def dvN (l : Fin 2048) (r : ℕ) : EReal :=
  if h : l.val < 1024 then dgN DC W ⟨l.val, h⟩ r * sN V ⟨l.val, h⟩ r
  else dgN DC W ⟨l.val - 1024, by omega⟩ r * aN V ⟨l.val - 1024, by omega⟩ r
    * (sN V ⟨l.val - 1024, by omega⟩ r * (1 - sN V ⟨l.val - 1024, by omega⟩ r))
/-- The summand at row `r` of the gradient of tap `j`. -/
def dwN (j : ℕ) (l : Fin 1024) (r : ℕ) : EReal := dcN DC l r * gN V l (r + (j + 2))

end ConvBwd
-- ==== Proof.ConvBody.lean ====
/- What one grid point of the convolution's gradient kernel computes from its input blocks. -/
module
public import proofs.«01_k».proof.Proof.Gen.KernelIdeal.Value
public import proofs.«01_k».proof.Proof.ConvSpec
public import Idealize.ShloMosaic.Lib.Pointwise
public import Idealize.ShloMosaic.Lib.WholeRead
public import Idealize.ShloMosaic.Lib.WordCmp
@[expose] public section
set_option maxRecDepth 16384
noncomputable section
namespace Cert.KernelIdeal.Gen
open Idealize.ShloMosaic Idealize.ShloMosaic.TcCoe Idealize.SL.Sem Idealize.ShloMosaic.WordCmp ConvBwd

/-- A load of a rectangle of a whole matrix reads the matrix at the shifted index. -/
theorem rect_load {sig : RefSig} {κ : Kind} {sp : Space} {m n h w : ℕ} (v : Memref sig κ sp ⟨2, ![m, n]⟩ .f32) (hv : v.IsWhole)
    (X : (⟨2, ![m, n]⟩ : Shape).Idx → Elt Ideal .f32) (o : ℕ) (inb) (a : Fin h) (b : Fin w) (ho : o + a.val < m) (hb : b.val < n) :
    View.readAt (Elt Ideal) v.view (Rect.unit (s := ⟨2, ![m, n]⟩) ![o, 0] ![h, w] inb).toLoadRect (hv.unread X) (ix2 a b)
      = X (ix2 ⟨o + a.val, ho⟩ ⟨b.val, hb⟩) := by
  rw [Memref.IsWhole.readAt_unread]
  congr 1
  funext x
  apply Fin.ext
  match x with
  | 0 => simp [LoadRect.idx, Rect.toLoadRect, Rect.unit, ix2]; rfl
  | 1 => simp [LoadRect.idx, Rect.toLoadRect, Rect.unit, ix2]; rfl

theorem lt64 (t : ℕ) (ht : t < 65) : (((Scalar.extui (Scalar.cmpi .slt (BitVec.ofNat 32 t) 64#32)).toInt : ℝ) : EReal) = if t < 64 then 1 else 0 := by
  have h : ∀ t : Fin 65, (Scalar.extui (Scalar.cmpi .slt (BitVec.ofNat 32 t.val) 64#32)).toInt = if t.val < 64 then 1 else 0 := by decide
  rw [show (Scalar.extui (Scalar.cmpi .slt (BitVec.ofNat 32 t) 64#32)).toInt = _ from h ⟨t, ht⟩]
  split <;> simp

theorem gt0 (t : ℕ) (ht : t < 65) : (((Scalar.extui (Scalar.cmpi .sgt (BitVec.ofNat 32 t) 0#32)).toInt : ℝ) : EReal) = if 0 < t then 1 else 0 := by
  have h : ∀ t : Fin 65, (Scalar.extui (Scalar.cmpi .sgt (BitVec.ofNat 32 t.val) 0#32)).toInt = if 0 < t.val then 1 else 0 := by decide
  rw [show (Scalar.extui (Scalar.cmpi .sgt (BitVec.ofNat 32 t) 0#32)).toInt = _ from h ⟨t, ht⟩]
  split <;> simp

/-- The mask of the rows at or after the padding, inside block `t`. -/
theorem mask_cur (t n : ℕ) (ht : t < 65) (hn : n < 128) :
    IntOp.cmpi .sge (IntOp.addi (Scalar.muli (BitVec.ofNat 32 t) 128#32) (BitVec.ofNat 32 n)) 112#32 = BitVec.ofBool (decide (112 ≤ 128 * t + n)) := by
  have e : IntOp.addi (Scalar.muli (BitVec.ofNat 32 t) 128#32) (BitVec.ofNat 32 n) = BitVec.ofNat 32 (128 * t + n) := by
    apply BitVec.eq_of_toNat_eq
    simp only [IntOp.addi, Scalar.muli, IntOp.muli, BitVec.toNat_add, BitVec.toNat_mul, BitVec.toNat_ofNat]
    omega
  rw [e]
  exact cmpi_sge_ofNat (by omega) (by omega)

/-- The mask of the rows at or after the padding, in the last 32 rows of the block before block `t`. -/
theorem mask_prev (t n : ℕ) (ht : t < 65) (h0 : 0 < t) (hn : n < 32) :
    IntOp.cmpi .sge (IntOp.addi (Scalar.subi (Scalar.addi (Scalar.muli (Scalar.subi (BitVec.ofNat 32 t) 1#32) 128#32) 128#32) 32#32)
      (BitVec.ofNat 32 n)) 112#32 = BitVec.ofBool (decide (144 ≤ 128 * t + n)) := by
  have e : IntOp.addi (Scalar.subi (Scalar.addi (Scalar.muli (Scalar.subi (BitVec.ofNat 32 t) 1#32) 128#32) 128#32) 32#32)
      (BitVec.ofNat 32 n) = BitVec.ofNat 32 (128 * t + n - 32) := by
    apply BitVec.eq_of_toNat_eq
    simp only [IntOp.addi, Scalar.muli, IntOp.muli, Scalar.subi, IntOp.subi, Scalar.addi, BitVec.toNat_add, BitVec.toNat_mul, BitVec.toNat_sub, BitVec.toNat_ofNat]
    omega
  rw [e]
  rw [show (112#32) = BitVec.ofNat 32 112 from rfl, cmpi_sge_ofNat (by omega) (by omega)]
  congr 1
  simp only [decide_eq_decide]
  omega

variable (c : Dev nD) (i : grid0.Coords) (arg1 : Memref sig .tc .vmem S128x1024 .f32) (harg1 : arg1.IsWhole)
  (arg2 : Memref sig .tc .vmem S128x1024 .f32) (harg2 : arg2.IsWhole) (arg3 : Memref sig .tc .vmem S128x2048 .f32) (harg3 : arg3.IsWhole)
  (arg4 : Memref sig .tc .vmem S128x2048 .f32) (harg4 : arg4.IsWhole) (arg5 : Memref sig .tc .vmem S32x1024 .f32) (harg5 : arg5.IsWhole)
  (x0 : Vec Ideal S128x1024 .f32) (x1 : Vec Ideal S128x1024 .f32) (x2 : Vec Ideal S128x2048 .f32) (x3 : Vec Ideal S128x2048 .f32) (x4 : Vec Ideal S32x1024 .f32)
  (DC : (⟨2, ![8320, 1024]⟩ : Shape).Idx → EReal) (V : (⟨2, ![8320, 2048]⟩ : Shape).Idx → EReal) (W : (⟨2, ![31, 1024]⟩ : Shape).Idx → EReal)
  (t : ℕ)

/-- The input blocks of grid point `t` are the rows of `DC`, `V` and `W` that its index maps name. -/
structure Blocks : Prop where
  point : (i 0).val = t
  dc_cur : ∀ (p : Fin 128) (l : Fin 1024), x0 (ix2 p l) = dcN DC l (128 * t + p.val)
  dc_next : t < 64 → ∀ (p : Fin 128) (l : Fin 1024), x1 (ix2 p l) = dcN DC l (128 * (t + 1) + p.val)
  a_cur : ∀ (p : Fin 128) (l : Fin 1024), x2 (ix2 p (lo l)) = aN V l (128 * t + p.val)
  s_cur : ∀ (p : Fin 128) (l : Fin 1024), sg (x2 (ix2 p (hi l))) = sN V l (128 * t + p.val)
  a_prev : 0 < t → ∀ (p : Fin 128) (l : Fin 1024), x3 (ix2 p (lo l)) = aN V l (128 * (t - 1) + p.val)
  s_prev : 0 < t → ∀ (p : Fin 128) (l : Fin 1024), sg (x3 (ix2 p (hi l))) = sN V l (128 * (t - 1) + p.val)
  taps : ∀ (j : Fin 31) (l : Fin 1024), x4 (ix2 ⟨j.val, by omega⟩ l) = W (ix2 j l)

variable {i x0 x1 x2 x3 x4 DC V W t}

theorem Blocks.lt (B : Blocks i x0 x1 x2 x3 x4 DC V W t) : t < 65 := by
  have h : (i 0).val < 65 := (i 0).isLt
  have := B.point
  omega

/-- The 160 rows of output gradient that a point's taps read: its own block and the next one's first 32 rows. -/
theorem tg_apply (B : Blocks i x0 x1 x2 x3 x4 DC V W t) (n : Fin 160) (l : Fin 1024) :
    kernelRun0_B.sl.r_1 c i arg1 harg1 arg2 harg2 x0 x1 (ix2 n l) = dcN DC l (128 * t + n.val) := by
  unfold kernelRun0_B.sl.r_1
  pointwise [k0_pay5]
  rw [B.point, lt64 t B.lt]
  split
  · rw [rect_load _ _ _ _ _ _ _ (by simp; omega) (by omega)]
    simpa using B.dc_cur ⟨n.val, by omega⟩ l
  · split
    · rename_i h h'
      rw [mul_one, rect_load _ _ _ _ _ _ _ (by simp; omega) (by omega)]
      have := B.dc_next h' ⟨n.val - 128, by omega⟩ l
      simp only [Nat.zero_add, Fin.eta]
      rw [this]
      congr 1
      simp only
      omega
    · rename_i h h'
      rw [mul_zero, dcN, dif_neg (by omega)]

/-- The 160 rows of gated value that a point's tap gradients read: the last 32 rows of the block before and its own. -/
theorem sg_apply (B : Blocks i x0 x1 x2 x3 x4 DC V W t) (n : Fin 160) (l : Fin 1024) :
    kernelRun0_B.sl.r_6 c i arg3 harg3 arg4 harg4 x2 x3 (ix2 n l) = gN V l (128 * t + n.val) := by
  unfold kernelRun0_B.sl.r_6 kernelRun0_B.sl.r_2 kernelRun0_B.sl.r_3 kernelRun0_B.sl.r_4 kernelRun0_B.sl.v34
  pointwise [k0_pay6, k0_pay7, k0_pay8, k0_pay9, k0_pay10]
  have ht := B.lt
  rw [B.point, gt0 t B.lt]
  split
  · rename_i h
    by_cases h0 : 0 < t
    · rw [mask_prev t n ht h0 h, if_pos h0, mul_one, select_ofBool]
      rw [rect_load _ _ _ _ _ _ _ (by simp; omega) (by simp; omega), rect_load _ _ _ _ _ _ _ (by simp; omega) (by simp; omega)]
      have h1 := B.a_prev h0 ⟨96 + n.val, by omega⟩ l
      have h2 := B.s_prev h0 ⟨96 + n.val, by omega⟩ l
      have e : 128 * (t - 1) + (96 + n.val) = 128 * t + n.val - 32 := by omega
      simp only [e] at h1 h2
      simp only [gN, decide_eq_true_eq, ← h1, ← h2, sg, hi, lo]
    · rw [if_neg h0, mul_zero, Scalar.select, ite_self, gN, if_neg (by omega)]
  · rename_i h
    rw [mask_cur t _ ht (by omega), select_ofBool]
    rw [rect_load _ _ _ _ _ _ _ (by simp; omega) (by simp; omega), rect_load _ _ _ _ _ _ _ (by simp; omega) (by simp; omega)]
    have h1 := B.a_cur ⟨n.val - 32, by omega⟩ l
    have h2 := B.s_cur ⟨n.val - 32, by omega⟩ l
    have e : 128 * t + (n.val - 32) = 128 * t + n.val - 32 := by omega
    have e' : 112 ≤ 128 * t + n.val - 32 ↔ 144 ≤ 128 * t + n.val := by omega
    simp only [e] at h1 h2
    simp only [gN, decide_eq_true_eq, ← h1, ← h2, sg, hi, lo, Nat.zero_add, e, e']

/-- A tower of 31 taps: the sum over the taps of the tap times the row that far below. -/
theorem taps_apply (B : Blocks i x0 x1 x2 x3 x4 DC V W t) (p : Fin 128) (l : Fin 1024) :
    kernelRun0_B.sl.r_21 c i arg1 harg1 arg2 harg2 arg5 harg5 x0 x1 x4 (ix2 p l) =
      ∑ k : Fin 31, W (ix2 ⟨30 - k.val, by omega⟩ l) * dcN DC l (128 * t + p.val + k.val) := by
  have hT : ∀ n h, kernelRun0_B.sl.r_1 c i arg1 harg1 arg2 harg2 x0 x1 (ix2 ⟨n, h⟩ l) = dcN DC l (128 * t + n) := fun n h =>
    tg_apply c arg1 harg1 arg2 harg2 B ⟨n, h⟩ l
  have hW : ∀ (o : ℕ) (ho : o < 31) (inb), View.readAt (Elt Ideal) arg5.view (Rect.unit (s := S32x1024) ![o, 0] ![1, 1024] inb).toLoadRect
      (harg5.unread x4) (ix2 (0 : Fin 1) l) = W (ix2 ⟨o, ho⟩ l) := fun o ho inb => by
    rw [rect_load arg5 harg5 x4 o inb 0 l (by simp; omega) l.isLt]
    exact B.taps ⟨o, ho⟩ l
  have e : ∀ a s, a ≤ 24 → 152 < s → s ≤ 160 → (a + p.val + 160 - s) % 160 = p.val + (a + 160 - s) := fun a s _ _ _ => by omega
  have e0 : ∀ s, 152 < s → s ≤ 160 → (p.val + 160 - s) % 160 = p.val + (160 - s) := fun s _ _ => by omega
  have ea : ∀ k, 128 * t + (p.val + k) = 128 * t + p.val + k := fun k => by omega
  unfold kernelRun0_B.sl.r_21 kernelRun0_B.sl.r_20 kernelRun0_B.sl.r_19 kernelRun0_B.sl.r_18 kernelRun0_B.sl.r_17
    kernelRun0_B.sl.r_16 kernelRun0_B.sl.r_15 kernelRun0_B.sl.r_14 kernelRun0_B.sl.r_13 kernelRun0_B.sl.r_12
    kernelRun0_B.sl.r_11 kernelRun0_B.sl.r_10 kernelRun0_B.sl.r_9 kernelRun0_B.sl.r_8 kernelRun0_B.sl.r_7
  generalize kernelRun0_B.sl.r_1 c i arg1 harg1 arg2 harg2 x0 x1 = tg at hT ⊢
  pointwise [k0_pay12, k0_pay13, k0_pay14, k0_pay15, k0_pay16, k0_pay17, k0_pay18, k0_pay19, k0_pay20, k0_pay21, k0_pay22, k0_pay23, k0_pay24, k0_pay25, k0_pay26, k0_pay27, k0_pay28]
  simp (disch := decide) only [hT, hW, e, e0]
  simp only [Fin.sum_univ_succ, Fin.val_zero, Fin.val_succ, Finset.univ_eq_empty, Finset.sum_empty, Nat.reduceSub, Nat.reduceAdd, Nat.zero_add, Nat.add_comm _ p.val, ea, Nat.sub_zero, Nat.add_zero, add_zero]
  abel
-- ==== Proof.ConvRest.lean ====
/- What one grid point of the convolution's gradient kernel leaves in each output block. -/
module
public import proofs.«01_k».proof.Proof.ConvBody
public import Idealize.ShloMosaic.Lib.WritesUnit
@[expose] public section
set_option maxRecDepth 16384
noncomputable section
namespace Cert.KernelIdeal.Gen
open Idealize.ShloMosaic Idealize.ShloMosaic.TcCoe Idealize.SL.Sem Idealize.ShloMosaic.WordCmp Idealize.ShloMosaic.View ConvBwd

variable (c : Dev nD) (i : grid0.Coords) (arg1 : Memref sig .tc .vmem S128x1024 .f32) (harg1 : arg1.IsWhole)
  (arg2 : Memref sig .tc .vmem S128x1024 .f32) (harg2 : arg2.IsWhole) (arg3 : Memref sig .tc .vmem S128x2048 .f32) (harg3 : arg3.IsWhole)
  (arg4 : Memref sig .tc .vmem S128x2048 .f32) (harg4 : arg4.IsWhole) (arg5 : Memref sig .tc .vmem S32x1024 .f32) (harg5 : arg5.IsWhole)
  (arg6 : Memref sig .tc .vmem S128x2048 .bf16) (harg6 : arg6.IsWhole) (arg7 : Memref sig .tc .vmem S32x1024 .f32) (harg7 : arg7.IsWhole)
  (arg8 : Memref sig .tc .vmem S1x1024 .f32) (harg8 : arg8.IsWhole) (arg9 : Memref sig .tc .vmem S1x2048 .f32) (harg9 : arg9.IsWhole)
  (x0 : Vec Ideal S128x1024 .f32) (x1 : Vec Ideal S128x1024 .f32) (x2 : Vec Ideal S128x2048 .f32) (x3 : Vec Ideal S128x2048 .f32) (x4 : Vec Ideal S32x1024 .f32)
  (xo6 : Vec Ideal S32x1024 .f32) (xo7 : Vec Ideal S1x1024 .f32) (xo8 : Vec Ideal S1x2048 .f32)
  (DC : (⟨2, ![8320, 1024]⟩ : Shape).Idx → EReal) (V : (⟨2, ![8320, 2048]⟩ : Shape).Idx → EReal) (W : (⟨2, ![31, 1024]⟩ : Shape).Idx → EReal)
  (t : ℕ)

variable {i x0 x1 x2 x3 x4 DC V W t}

/-- Reading any row after one store of the whole matrix. -/
theorem whole_read {sig : RefSig} {κ : Kind} {sp : Space} {m n : ℕ} {e : EltTy} (v : View sig κ sp ⟨2, ![m, n]⟩ e) (f : v.ty.Contents (Elt Ideal))
    (inb : ∀ a : Fin 2, (![0, 0] : Fin 2 → ℕ) a + (![m, n] : Fin 2 → ℕ) a ≤ (![m, n] : Fin 2 → ℕ) a)
    (w : (⟨2, ![m, n]⟩ : Shape).Idx → Elt Ideal e) (L : List (Piece (Elt Ideal) (⟨2, ![m, n]⟩ : Shape) e)) (r : Fin m) (l : Fin n) :
    v.read (Elt Ideal) (v.writes (Elt Ideal) f ((⟨Rect.unit (s := ⟨2, ![m, n]⟩) ![0, 0] ![m, n] inb, w⟩ : Piece (Elt Ideal) (⟨2, ![m, n]⟩ : Shape) e) :: L)) (ix2 r l) = w (ix2 r l) :=
  View.read_writes_cons_rows_of_mem v f inb w L (ix2 r l) (ix2 r l) rfl (by simp) rfl

/-- The gradient of the gate's input in a point's block. -/
theorem dv_apply (B : Blocks i x0 x1 x2 x3 x4 DC V W t) (p : Fin 128) (l : Fin 2048) :
   kernelRun0_B.sl.r_37 c i arg1 harg1 arg2 harg2 arg3 harg3 arg5 harg5 x0 x1 x2 x4 (ix2 p l) = dvN DC V W l (128 * t + p.val) := by
  have ht := B.lt
  unfold kernelRun0_B.sl.r_37 kernelRun0_B.sl.r_3 kernelRun0_B.sl.r_5 kernelRun0_B.sl.r_4
  pointwise [k0_pay7, k0_pay8, k0_pay9, k0_pay73, k0_pay74, k0_pay75]
  rw [B.point, mask_cur t p.val ht p.isLt]
  simp only [select_ofBool, taps_apply c arg1 harg1 arg2 harg2 arg5 harg5 B]
  have hld : ∀ l' : Fin 2048, View.readAt (Elt Ideal) arg3.view (Rect.unit (s := S128x2048) ![0, 0] ![128, 2048] inb_S128x2048_S128x2048_0_0).toLoadRect (harg3.unread x2) (ix2 p l') = x2 (ix2 p l') := fun l' => by
    rw [rect_load arg3 harg3 x2 0 _ p l' (by omega) l'.isLt]
    simp
  simp only [hld]
  by_cases h : l.val < 1024
  · rw [dif_pos h, dvN, dif_pos h, ← B.s_cur]
    by_cases hm : 112 ≤ 128 * t + p.val
    · simp [dgN, hm, sg, hi]
    · simp [dgN, hm]
  · have hb := B.a_cur p ⟨l.val - 1024, by omega⟩
    rw [dif_neg h, dvN, dif_neg h, ← B.s_cur, ← hb]
    by_cases hm : 112 ≤ 128 * t + p.val
    · simp [dgN, hm, sg, hi, lo]
    · simp [dgN, hm]

/-- A load of a whole matrix just stored. -/
theorem cov_whole {sig : RefSig} {κ : Kind} {sp : Space} {m n : ℕ} (v : View sig κ sp ⟨2, ![m, n]⟩ .f32)
    (inb inb') (w : (⟨2, ![m, n]⟩ : Shape).Idx → Elt Ideal .f32) (L : List (Piece (Elt Ideal) (⟨2, ![m, n]⟩ : Shape) .f32)) (a : Fin m) (b : Fin n) :
    v.readCov ((⟨Rect.unit (s := ⟨2, ![m, n]⟩) ![0, 0] ![m, n] inb', w⟩ : Piece (Elt Ideal) (⟨2, ![m, n]⟩ : Shape) .f32) :: L)
      (Rect.unit (s := ⟨2, ![m, n]⟩) ![0, 0] ![m, n] inb).toLoadRect (ix2 a b) = w (ix2 a b) := by
  rw [← whole_read v v.junk inb' w L a b]
  unfold View.readCov View.readAt
  congr 1
  funext x
  apply Fin.ext
  match x with
  | 0 => simp [LoadRect.idx, Rect.toLoadRect, Rect.unit, ix2]
  | 1 => simp [LoadRect.idx, Rect.toLoadRect, Rect.unit, ix2]

theorem whole_load {sig : RefSig} {κ : Kind} {sp : Space} {m n : ℕ} (v : Memref sig κ sp ⟨2, ![m, n]⟩ .f32) (hv : v.IsWhole)
    (X : (⟨2, ![m, n]⟩ : Shape).Idx → Elt Ideal .f32) (inb) (a : Fin m) (b : Fin n) :
    View.readAt (Elt Ideal) v.view (Rect.unit (s := ⟨2, ![m, n]⟩) ![0, 0] ![m, n] inb).toLoadRect (hv.unread X) (ix2 a b) = X (ix2 a b) := by
  rw [rect_load v hv X 0 inb a b (by omega) b.isLt]
  simp

/-- The block of the gate input's gradient that a point stores (case B). -/
theorem dvout_B (B : Blocks i x0 x1 x2 x3 x4 DC V W t) (hc0) (p : Fin 128) (l : Fin 2048) :
    out0_B_5 c i arg1 harg1 arg2 harg2 arg3 harg3 arg4 harg4 arg5 harg5 arg6 harg6 arg7 harg7 arg8 harg8 arg9 harg9 hc0 x0 x1 x2 x3 x4 xo6 xo7 xo8 (ix2 p l) = dvN DC V W l (128 * t + p.val) := by
  unfold out0_B_5 kernelRun0_B; dsimp only
  refine (whole_read VO0_5 _ _ _ _ p l).trans ?_
  pointwise [k0_pay76]
  exact dv_apply c arg1 harg1 arg2 harg2 arg3 harg3 arg5 harg5 B p l

/-- The sum of the output gradient's rows so far (case B). -/
theorem db_B (B : Blocks i x0 x1 x2 x3 x4 DC V W t) (hc0) (l : Fin 1024) :
    out0_B_7 c i arg1 harg1 arg2 harg2 arg3 harg3 arg4 harg4 arg5 harg5 arg6 harg6 arg7 harg7 arg8 harg8 arg9 harg9 hc0 x0 x1 x2 x3 x4 xo6 xo7 xo8 (ix2 0 l) = xo7 (ix2 0 l) + ∑ p : Fin 128, dcN DC l (128 * t + p.val) := by
  unfold out0_B_7 kernelRun0_B; dsimp only
  refine (whole_read VO0_7 _ _ _ _ 0 l).trans ?_
  pointwise [k0_pay11, kernelRun0_B.sl.r]
  simp only [whole_load, B.dc_cur]

/-- The sum of the rows of the gate input's gradient so far (case B). -/
theorem dvb_B (B : Blocks i x0 x1 x2 x3 x4 DC V W t) (hc0) (l : Fin 2048) :
    out0_B_8 c i arg1 harg1 arg2 harg2 arg3 harg3 arg4 harg4 arg5 harg5 arg6 harg6 arg7 harg7 arg8 harg8 arg9 harg9 hc0 x0 x1 x2 x3 x4 xo6 xo7 xo8 (ix2 0 l) = xo8 (ix2 0 l) + ∑ p : Fin 128, dvN DC V W l (128 * t + p.val) := by
  have hd : ∀ p : Fin 128, kernelRun0_B.sl.r_37 c i arg1 harg1 arg2 harg2 arg3 harg3 arg5 harg5 x0 x1 x2 x4 (ix2 p l) = dvN DC V W l (128 * t + p.val) :=
    fun p => dv_apply c arg1 harg1 arg2 harg2 arg3 harg3 arg5 harg5 B p l
  unfold out0_B_8 kernelRun0_B; dsimp only
  refine (whole_read VO0_8 _ _ _ _ 0 l).trans ?_
  generalize kernelRun0_B.sl.r_37 c i arg1 harg1 arg2 harg2 arg3 harg3 arg5 harg5 x0 x1 x2 x4 = D at hd ⊢
  pointwise [k0_pay1, k0_pay77, kernelRun0_B.sl.r_38]
  simp only [whole_load, hd]

/-- The block of the gate input's gradient that a point stores (case A). -/
theorem dvout_A (B : Blocks i x0 x1 x2 x3 x4 DC V W t) (hc0) (p : Fin 128) (l : Fin 2048) :
    out0_A_5 c i arg1 harg1 arg2 harg2 arg3 harg3 arg4 harg4 arg5 harg5 arg6 harg6 arg7 harg7 arg8 harg8 arg9 harg9 hc0 x0 x1 x2 x3 x4 (ix2 p l) = dvN DC V W l (128 * t + p.val) := by
  unfold out0_A_5 kernelRun0_A; dsimp only
  refine (whole_read VO0_5 _ _ _ _ p l).trans ?_
  pointwise [k0_pay76]
  exact dv_apply c arg1 harg1 arg2 harg2 arg3 harg3 arg5 harg5 B p l

/-- The sum of the output gradient's rows so far (case A). -/
theorem db_A (B : Blocks i x0 x1 x2 x3 x4 DC V W t) (hc0) (l : Fin 1024) :
    out0_A_7 c i arg1 harg1 arg2 harg2 arg3 harg3 arg4 harg4 arg5 harg5 arg6 harg6 arg7 harg7 arg8 harg8 arg9 harg9 hc0 x0 x1 x2 x3 x4 (ix2 0 l) = 0 + ∑ p : Fin 128, dcN DC l (128 * t + p.val) := by
  unfold out0_A_7 kernelRun0_A; dsimp only
  refine (whole_read VO0_7 _ _ _ _ 0 l).trans ?_
  pointwise [k0_pay11, kernelRun0_A.sl.r, kernelRun0_A.sl.v58, kernelRun0_A.sl.H7_1, k0_pay3, k0_pay4]
  simp only [cov_whole, whole_load, B.dc_cur]
  pointwise [k0_pay3]

/-- The sum of the rows of the gate input's gradient so far (case A). -/
theorem dvb_A (B : Blocks i x0 x1 x2 x3 x4 DC V W t) (hc0) (l : Fin 2048) :
    out0_A_8 c i arg1 harg1 arg2 harg2 arg3 harg3 arg4 harg4 arg5 harg5 arg6 harg6 arg7 harg7 arg8 harg8 arg9 harg9 hc0 x0 x1 x2 x3 x4 (ix2 0 l) = 0 + ∑ p : Fin 128, dvN DC V W l (128 * t + p.val) := by
  have hd : ∀ p : Fin 128, kernelRun0_A.sl.r_37 c i arg1 harg1 arg2 harg2 arg3 harg3 arg5 harg5 x0 x1 x2 x4 (ix2 p l) = dvN DC V W l (128 * t + p.val) :=
    fun p => dv_apply c arg1 harg1 arg2 harg2 arg3 harg3 arg5 harg5 B p l
  unfold out0_A_8 kernelRun0_A; dsimp only
  refine (whole_read VO0_8 _ _ _ _ 0 l).trans ?_
  generalize kernelRun0_A.sl.r_37 c i arg1 harg1 arg2 harg2 arg3 harg3 arg5 harg5 x0 x1 x2 x4 = D at hd ⊢
  pointwise [k0_pay1, k0_pay77, kernelRun0_A.sl.r_38, kernelRun0_A.sl.v530, kernelRun0_A.sl.H8_1]
  simp only [cov_whole, hd]
  pointwise [k0_pay4]
-- ==== Proof.ConvOut.lean ====
/- What one grid point of the convolution's gradient kernel leaves in the block of tap gradients. -/
module
public import proofs.«01_k».proof.Proof.ConvRest
@[expose] public section
set_option maxRecDepth 16384
noncomputable section
namespace Cert.KernelIdeal.Gen
open Idealize.ShloMosaic Idealize.ShloMosaic.TcCoe Idealize.SL.Sem Idealize.ShloMosaic.WordCmp Idealize.ShloMosaic.View ConvBwd

variable (c : Dev nD) (i : grid0.Coords) (arg1 : Memref sig .tc .vmem S128x1024 .f32) (harg1 : arg1.IsWhole)
  (arg2 : Memref sig .tc .vmem S128x1024 .f32) (harg2 : arg2.IsWhole) (arg3 : Memref sig .tc .vmem S128x2048 .f32) (harg3 : arg3.IsWhole)
  (arg4 : Memref sig .tc .vmem S128x2048 .f32) (harg4 : arg4.IsWhole) (arg5 : Memref sig .tc .vmem S32x1024 .f32) (harg5 : arg5.IsWhole)
  (arg6 : Memref sig .tc .vmem S128x2048 .bf16) (harg6 : arg6.IsWhole) (arg7 : Memref sig .tc .vmem S32x1024 .f32) (harg7 : arg7.IsWhole)
  (arg8 : Memref sig .tc .vmem S1x1024 .f32) (harg8 : arg8.IsWhole) (arg9 : Memref sig .tc .vmem S1x2048 .f32) (harg9 : arg9.IsWhole)
  (x0 : Vec Ideal S128x1024 .f32) (x1 : Vec Ideal S128x1024 .f32) (x2 : Vec Ideal S128x2048 .f32) (x3 : Vec Ideal S128x2048 .f32) (x4 : Vec Ideal S32x1024 .f32)
  (xo6 : Vec Ideal S32x1024 .f32) (xo7 : Vec Ideal S1x1024 .f32) (xo8 : Vec Ideal S1x2048 .f32)
  (DC : (⟨2, ![8320, 1024]⟩ : Shape).Idx → EReal) (V : (⟨2, ![8320, 2048]⟩ : Shape).Idx → EReal) (W : (⟨2, ![31, 1024]⟩ : Shape).Idx → EReal)
  (t : ℕ)

variable {i x0 x1 x2 x3 x4 DC V W t}

/-- Reading row `r` after a list of stores whose newest is row `o`: that store's value if `r = o`, else what the others left. -/
theorem row_cons {sig : RefSig} {κ : Kind} {sp : Space} {m n : ℕ} (v : View sig κ sp ⟨2, ![m, n]⟩ .f32) (f : v.ty.Contents (Elt Ideal)) (o : ℕ)
    (inb : ∀ a : Fin 2, (![o, 0] : Fin 2 → ℕ) a + (![1, n] : Fin 2 → ℕ) a ≤ (![m, n] : Fin 2 → ℕ) a)
    (w : (⟨2, ![1, n]⟩ : Shape).Idx → Elt Ideal .f32) (L : List (Piece (Elt Ideal) (⟨2, ![m, n]⟩ : Shape) .f32)) (r : ℕ) (hr : r < m) (l : Fin n)
    (P : EReal) (hit : r = o → w (ix2 0 l) = P) (miss : r ≠ o → v.read (Elt Ideal) (v.writes (Elt Ideal) f L) (ix2 ⟨r, hr⟩ l) = P) :
    v.read (Elt Ideal) (v.writes (Elt Ideal) f ((⟨Rect.unit (s := ⟨2, ![m, n]⟩) ![o, 0] ![1, n] inb, w⟩ : Piece (Elt Ideal) (⟨2, ![m, n]⟩ : Shape) .f32) :: L)) (ix2 ⟨r, hr⟩ l) = P := by
  by_cases h : r = o
  · rw [← hit h]
    exact View.read_writes_cons_rows_of_mem v f inb w L (ix2 ⟨r, hr⟩ l) (ix2 (0 : Fin 1) l) rfl (by subst h; rfl) rfl
  · rw [← miss h]
    exact View.read_writes_cons_rows_of_not_mem (o := o) (W := 1) v f inb w L (ix2 ⟨r, hr⟩ l) rfl rfl (by
      change r < o ∨ o + 1 ≤ r
      omega)

/-- A row that the newer stores miss and the oldest store clears holds zero. -/
theorem zero_cons {sig : RefSig} {κ : Kind} {sp : Space} {m n : ℕ} (v : View sig κ sp ⟨2, ![m, n]⟩ .f32) (f : v.ty.Contents (Elt Ideal)) (o : ℕ)
    (inb : ∀ a : Fin 2, (![o, 0] : Fin 2 → ℕ) a + (![1, n] : Fin 2 → ℕ) a ≤ (![m, n] : Fin 2 → ℕ) a)
    (w : (⟨2, ![1, n]⟩ : Shape).Idx → Elt Ideal .f32) (L : List (Piece (Elt Ideal) (⟨2, ![m, n]⟩ : Shape) .f32)) (r : ℕ) (hr : r < m) (l : Fin n)
    (ne : r ≠ o) (miss : v.read (Elt Ideal) (v.writes (Elt Ideal) f L) (ix2 ⟨r, hr⟩ l) = (0 : EReal)) :
    v.read (Elt Ideal) (v.writes (Elt Ideal) f ((⟨Rect.unit (s := ⟨2, ![m, n]⟩) ![o, 0] ![1, n] inb, w⟩ : Piece (Elt Ideal) (⟨2, ![m, n]⟩ : Shape) .f32) :: L)) (ix2 ⟨r, hr⟩ l) = (0 : EReal) :=
  row_cons v f o inb w L r hr l 0 (fun h => absurd h ne) fun _ => miss

/-- A load of one row of what a list of stores leaves is a read of that row. -/
theorem cov_row {sig : RefSig} {κ : Kind} {sp : Space} {m n : ℕ} (v : View sig κ sp ⟨2, ![m, n]⟩ .f32) (L : List (Piece (Elt Ideal) (⟨2, ![m, n]⟩ : Shape) .f32))
    (o : ℕ) (ho : o < m) (inb) (l : Fin n) :
    v.readCov L (Rect.unit (s := ⟨2, ![m, n]⟩) ![o, 0] ![1, n] inb).toLoadRect (ix2 (0 : Fin 1) l)
      = v.read (Elt Ideal) (v.writes (Elt Ideal) v.junk L) (ix2 ⟨o, ho⟩ l) := by
  unfold View.readCov View.readAt
  congr 1
  funext x
  apply Fin.ext
  match x with
  | 0 => simp [LoadRect.idx, Rect.toLoadRect, Rect.unit, ix2]; rfl
  | 1 => simp [LoadRect.idx, Rect.toLoadRect, Rect.unit, ix2]; rfl

/-- Two ways to write one tap's sum over a block. -/
theorem tap_eq {DC : (⟨2, ![8320, 1024]⟩ : Shape).Idx → EReal} {V : (⟨2, ![8320, 2048]⟩ : Shape).Idx → EReal} {l : Fin 1024} {P Q : EReal}
    {f g f' g' : Fin 128 → ℕ} (hP : P = Q) (hf : ∀ p, f p = f' p) (hg : ∀ p, g p = g' p) :
    P + ∑ p, dcN DC l (f p) * gN V l (g p) = Q + ∑ p, dcN DC l (f' p) * gN V l (g' p) := by
  simp only [hP, hf, hg]

/-- The same after a first summand that is zero. -/
theorem tap_zero {DC : (⟨2, ![8320, 1024]⟩ : Shape).Idx → EReal} {V : (⟨2, ![8320, 2048]⟩ : Shape).Idx → EReal} {l : Fin 1024} {P : EReal}
    {f g f' g' : Fin 128 → ℕ} (hP : P = 0) (hf : ∀ p, f p = f' p) (hg : ∀ p, g p = g' p) :
    P + ∑ p, dcN DC l (f p) * gN V l (g p) = ∑ p, dcN DC l (f' p) * gN V l (g' p) := by
  simp only [hP, hf, hg, zero_add]

/-- After the first point, the taps' gradient is what the points before left plus the block's sums. -/
theorem dw_B (B : Blocks i x0 x1 x2 x3 x4 DC V W t) (hc0) (r : ℕ) (hr : r < 32) (l : Fin 1024) :
    out0_B_6 c i arg1 harg1 arg2 harg2 arg3 harg3 arg4 harg4 arg5 harg5 arg6 harg6 arg7 harg7 arg8 harg8 arg9 harg9 hc0 x0 x1 x2 x3 x4 xo6 xo7 xo8 (ix2 ⟨r, hr⟩ l)
      = xo6 (ix2 ⟨r, hr⟩ l) + if r < 31 then ∑ p : Fin 128, dwN DC V r l (128 * t + p.val) else 0 := by
  have hld : ∀ (o : ℕ) (ho : o < 32) (inb), View.readAt (Elt Ideal) arg7.view (Rect.unit (s := S32x1024) ![o, 0] ![1, 1024] inb).toLoadRect
      (harg7.unread xo6) (ix2 (0 : Fin 1) l) = xo6 (ix2 ⟨o, ho⟩ l) := fun o ho inb => by
    rw [rect_load arg7 harg7 xo6 o inb 0 l (by simp; omega) l.isLt]
    rfl
  have hx : ∀ p : Fin 128, View.readAt (Elt Ideal) arg1.view (Rect.unit (s := S128x1024) ![0, 0] ![128, 1024] inb_S128x1024_S128x1024_0_0).toLoadRect
      (harg1.unread x0) (ix2 p l) = dcN DC l (128 * t + p.val) := fun p => by
    rw [rect_load arg1 harg1 x0 0 _ p l (by omega) l.isLt, ← B.dc_cur]
    simp
  have hG : ∀ n h, kernelRun0_B.sl.r_6 c i arg3 harg3 arg4 harg4 x2 x3 (ix2 ⟨n, h⟩ l) = gN V l (128 * t + n) := fun n h =>
    sg_apply c arg3 harg3 arg4 harg4 B ⟨n, h⟩ l
  have e : ∀ (p : Fin 128) (a s : ℕ), a ≤ 32 → 152 < s → s ≤ 160 → a + 160 - s < 33 → (a + p.val + 160 - s) % 160 = p.val + (a + 160 - s) := fun p a s _ _ _ _ => by omega
  have e0 : ∀ (p : Fin 128) (s : ℕ), 152 < s → s ≤ 160 → (p.val + 160 - s) % 160 = p.val + (160 - s) := fun p s _ _ => by omega
  unfold out0_B_6 kernelRun0_B; dsimp only
  iterate 31
    refine row_cons arg7.view _ _ _ _ _ r hr l _ (fun h => ?_) (fun h => ?_)
    · subst h
      pointwise [kernelRun0_B.sl.r, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.v267, kernelRun0_B.sl.v275, kernelRun0_B.sl.v283, kernelRun0_B.sl.v292, kernelRun0_B.sl.v300, kernelRun0_B.sl.v308, kernelRun0_B.sl.v317, kernelRun0_B.sl.v325, kernelRun0_B.sl.v333, kernelRun0_B.sl.v341, kernelRun0_B.sl.v350, kernelRun0_B.sl.v358, kernelRun0_B.sl.v366, kernelRun0_B.sl.v374, kernelRun0_B.sl.v383, kernelRun0_B.sl.v391, kernelRun0_B.sl.v399, kernelRun0_B.sl.v407, kernelRun0_B.sl.v416, kernelRun0_B.sl.v424, kernelRun0_B.sl.v432, kernelRun0_B.sl.v440, kernelRun0_B.sl.v449, kernelRun0_B.sl.v457, kernelRun0_B.sl.v465, kernelRun0_B.sl.v473, kernelRun0_B.sl.v482, kernelRun0_B.sl.v490, kernelRun0_B.sl.v498, kernelRun0_B.sl.v506, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
      simp (disch := decide) only [hld, hx, hG, e, e0, Nat.reduceLT, ↓reduceIte, Nat.reduceSub, Nat.reduceAdd, dwN]
      exact tap_eq rfl (fun p => rfl) (fun p => by omega)
  rw [if_neg (by omega), add_zero]
  exact congrFun (harg7.read_unread xo6) _

set_option maxHeartbeats 4000000 in
/-- After the first point, the taps' gradient is the block's sums. -/
theorem dw_A (B : Blocks i x0 x1 x2 x3 x4 DC V W t) (hc0) (r : ℕ) (hr : r < 32) (l : Fin 1024) :
    out0_A_6 c i arg1 harg1 arg2 harg2 arg3 harg3 arg4 harg4 arg5 harg5 arg6 harg6 arg7 harg7 arg8 harg8 arg9 harg9 hc0 x0 x1 x2 x3 x4 (ix2 ⟨r, hr⟩ l)
      = 0 + if r < 31 then ∑ p : Fin 128, dwN DC V r l (128 * t + p.val) else 0 := by
  have hx : ∀ p : Fin 128, View.readAt (Elt Ideal) arg1.view (Rect.unit (s := S128x1024) ![0, 0] ![128, 1024] inb_S128x1024_S128x1024_0_0).toLoadRect
      (harg1.unread x0) (ix2 p l) = dcN DC l (128 * t + p.val) := fun p => by
    rw [rect_load arg1 harg1 x0 0 _ p l (by omega) l.isLt, ← B.dc_cur]
    simp
  have hG : ∀ n h, kernelRun0_A.sl.r_6 c i arg3 harg3 arg4 harg4 x2 x3 (ix2 ⟨n, h⟩ l) = gN V l (128 * t + n) := fun n h =>
    sg_apply c arg3 harg3 arg4 harg4 B ⟨n, h⟩ l
  have e : ∀ (p : Fin 128) (a s : ℕ), a ≤ 32 → 152 < s → s ≤ 160 → a + 160 - s < 33 → (a + p.val + 160 - s) % 160 = p.val + (a + 160 - s) := fun p a s _ _ _ _ => by omega
  have e0 : ∀ (p : Fin 128) (s : ℕ), 152 < s → s ≤ 160 → (p.val + 160 - s) % 160 = p.val + (160 - s) := fun p s _ _ => by omega
  unfold out0_A_6 kernelRun0_A; dsimp only
  iterate 31
    refine row_cons VO0_6 _ _ _ _ _ r hr l _ (fun h => ?_) (fun h => ?_)
    · subst h
      pointwise [kernelRun0_A.sl.r, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.v259, kernelRun0_A.sl.v267, kernelRun0_A.sl.v275, kernelRun0_A.sl.v283, kernelRun0_A.sl.v292, kernelRun0_A.sl.v300, kernelRun0_A.sl.v308, kernelRun0_A.sl.v317, kernelRun0_A.sl.v325, kernelRun0_A.sl.v333, kernelRun0_A.sl.v341, kernelRun0_A.sl.v350, kernelRun0_A.sl.v358, kernelRun0_A.sl.v366, kernelRun0_A.sl.v374, kernelRun0_A.sl.v383, kernelRun0_A.sl.v391, kernelRun0_A.sl.v399, kernelRun0_A.sl.v407, kernelRun0_A.sl.v416, kernelRun0_A.sl.v424, kernelRun0_A.sl.v432, kernelRun0_A.sl.v440, kernelRun0_A.sl.v449, kernelRun0_A.sl.v457, kernelRun0_A.sl.v465, kernelRun0_A.sl.v473, kernelRun0_A.sl.v482, kernelRun0_A.sl.v490, kernelRun0_A.sl.v498, kernelRun0_A.sl.v506, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
      simp (disch := decide) only [cov_row, hx, hG, e, e0, Nat.reduceLT, ↓reduceIte, Nat.reduceSub, Nat.reduceAdd, dwN]
      refine tap_zero ?_ (fun p => rfl) (fun p => by omega)
      repeat refine zero_cons arg7.view _ _ _ _ _ _ hr l (by decide) ?_
      refine (whole_read arg7.view _ _ _ _ ⟨_, hr⟩ l).trans ?_
      pointwise [k0_pay2]
  rw [if_neg (by omega), add_zero]
  refine (whole_read VO0_6 _ _ _ _ ⟨r, hr⟩ l).trans ?_
  pointwise [k0_pay2]
-- ==== Proof.ConvArr.lean ====
/- What the convolution's gradient kernel leaves in its four result arrays. -/
module
public import proofs.«01_k».proof.Proof.ConvOut
public import Idealize.ShloMosaic.Lib.Pipeline.ValueKit
@[expose] public section
set_option maxRecDepth 16384
noncomputable section
namespace Cert.KernelIdeal.Gen
open Idealize.ShloMosaic Idealize.ShloMosaic.TcCoe Idealize.SL.Sem ConvBwd

variable (m : (ℓ : Loc nD τ sig) → Buf (Elt Ideal) ℓ) (c : Dev nD)

/-- The arguments, as the kernel finds them. -/
abbrev DCm : (⟨2, ![8320, 1024]⟩ : Shape).Idx → EReal := m ((c : Thread nD τ).loc main_arg0)
abbrev Vm : (⟨2, ![8320, 2048]⟩ : Shape).Idx → EReal := m ((c : Thread nD τ).loc main_arg1)
abbrev Wm : (⟨2, ![31, 1024]⟩ : Shape).Idx → EReal := m ((c : Thread nD τ).loc main_arg2)

theorem coord0 : ∀ t : Fin cfg0.N, ((grid0.coords t) 0).val = t.val := by decide +kernel
theorem idx_0 : ∀ t : Fin cfg0.N, win0_0.index t = ![t.val, 0] := by decide +kernel
theorem idx_1 : ∀ t : Fin cfg0.N, win0_1.index t = ![min (t.val + 1) 64, 0] := by decide +kernel
theorem idx_2 : ∀ t : Fin cfg0.N, win0_2.index t = ![t.val, 0] := by decide +kernel
theorem idx_3 : ∀ t : Fin cfg0.N, win0_3.index t = ![t.val - 1, 0] := by decide +kernel
theorem idx_4 : ∀ t : Fin cfg0.N, win0_4.index t = ![0, 0] := by decide +kernel
theorem idx_5 : ∀ t : Fin cfg0.N, win0_5.index t = ![t.val, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel

theorem lt65 (t : Fin cfg0.N) : t.val < 65 := by
  have := t.isLt
  have h : cfg0.N = 65 := N_0
  omega

theorem blk0 (t : Fin cfg0.N) (p : Fin 128) (l : Fin 1024) : iblk m c 0 t (ix2 p l) = dcN (DCm m c) l (128 * t.val + p.val) := by
  have h := lt65 t
  rw [dcN, dif_pos (by omega)]
  blk_ext [iblk, V_main_arg0, idx_0 t]

theorem blk1 (t : Fin cfg0.N) (h : t.val < 64) (p : Fin 128) (l : Fin 1024) : iblk m c 1 t (ix2 p l) = dcN (DCm m c) l (128 * (t.val + 1) + p.val) := by
  rw [dcN, dif_pos (by omega)]
  blk_ext [iblk, V_main_arg0, idx_1 t]

theorem blk2 (t : Fin cfg0.N) (p : Fin 128) (l : Fin 2048) :
    iblk m c 2 t (ix2 p l) = Vm m c (ix2 ⟨128 * t.val + p.val, by have := lt65 t; omega⟩ l) := by
  have h := lt65 t
  blk_ext [iblk, V_main_arg1, idx_2 t]

theorem blk3 (t : Fin cfg0.N) (p : Fin 128) (l : Fin 2048) :
    iblk m c 3 t (ix2 p l) = Vm m c (ix2 ⟨128 * (t.val - 1) + p.val, by have := lt65 t; omega⟩ l) := by
  have h := lt65 t
  blk_ext [iblk, V_main_arg1, idx_3 t]

/-- The padded taps, as the host lines before the kernel leave them. -/
theorem padw (x : (⟨2, ![32, 1024]⟩ : Shape).Idx) : (V m c main_v0 : (⟨2, ![32, 1024]⟩ : Shape).Idx → EReal) x =
    pad S32x1024 ![0, 0] ![1, 0] ![0, 0] (Wm m c) (sitofp (F := Ideal) FTy.f32 (constantI S_ 32 0#32)) pads_S31x1024_S32x1024_010_000 h_S_ x := by
  refine congrFun ?_ x
  unfold V
  simp only [hostOps0, hostOps0_1, List.flatten_cons, List.flatten_nil, List.append_nil, List.cons_append, List.nil_append]
  after_results
  rfl

theorem blk4 (t : Fin cfg0.N) (j : Fin 31) (l : Fin 1024) :
    iblk m c 4 t (ix2 ⟨j.val, by omega⟩ l) = Wm m c (ix2 j l) := by
  have e : iblk m c 4 t (ix2 ⟨j.val, by omega⟩ l) = (V m c main_v0 : (⟨2, ![32, 1024]⟩ : Shape).Idx → EReal) (ix2 ⟨j.val, by omega⟩ l) := by
    blk_ext [iblk, idx_4 t]
  refine e.trans ((padw m c _).trans ?_)
  pointwise

/-- At grid point `t` the input blocks are the rows that `Blocks` names. -/
theorem blocks (t : Fin cfg0.N) : Blocks (grid0.coords t) (iblk m c 0 t) (iblk m c 1 t) (iblk m c 2 t) (iblk m c 3 t) (iblk m c 4 t)
    (DCm m c) (Vm m c) (Wm m c) t.val where
  point := coord0 t
  dc_cur := blk0 m c t
  dc_next := blk1 m c t
  a_cur p l := by rw [aN, dif_pos (by have := lt65 t; omega)]; exact blk2 m c t p (lo l)
  s_cur p l := by rw [sN, dif_pos (by have := lt65 t; omega)]; exact congrArg sg (blk2 m c t p (hi l))
  a_prev _ p l := by rw [aN, dif_pos (by have := lt65 t; omega)]; exact blk3 m c t p (lo l)
  s_prev _ p l := by rw [sN, dif_pos (by have := lt65 t; omega)]; exact congrArg sg (blk3 m c t p (hi l))
  taps := blk4 m c t

/-- What the first result's block holds after point `t`. -/
theorem dv_at (t : Fin cfg0.N) (p : Fin 128) (l : Fin 2048) :
    (outsAt0 m c t.val t.isLt).1 (ix2 p l) = dvN (DCm m c) (Vm m c) (Wm m c) l (128 * t.val + p.val) := by
  by_cases h : t.val % 65 = 0
  · rw [outsAt0_A m c t h]
    dsimp only
    apply dvout_A
    exact blocks m c t
  · rw [outsAt0_B m c t h]
    dsimp only
    apply dvout_B
    exact blocks m c t

/-- A sum over the first 65 blocks of 128 rows is the sum over all 8320 rows. -/
theorem rows_sum (f : ℕ → EReal) : 0 + ∑ t ∈ Finset.range (64 + 1), ∑ p : Fin 128, f (128 * t + p.val) = ∑ r ∈ Finset.range 8320, f r := by
  rw [zero_add, show 8320 = 65 * 128 from rfl, Finset.sum_range_mul_split 65 128 f]
  refine Finset.sum_congr rfl fun t _ => ?_
  rw [Finset.sum_range]
  exact Finset.sum_congr rfl fun p _ => by rw [Nat.mul_comm]

/-- What the block of tap gradients holds after the last point. -/
theorem dw_last (t : Fin cfg0.N) (h : t.val % 65 = 64) (r : Fin 32) (l : Fin 1024) :
    (outsAt0 m c t.val t.isLt).2.1 (ix2 r l)
      = if r.val < 31 then ∑ n ∈ Finset.range 8320, dwN (DCm m c) (Vm m c) r.val l n else 0 := by
  rw [Pipeline.eq_sum_of_reset_step_apply_single_of_mod (fun n h => (outsAt0 m c n h).2.1) 65 (fun _ => (0 : EReal))
    (fun t x => if (x 0).val < 31 then ∑ p : Fin 128, dwN (DCm m c) (Vm m c) (x 0).val (x 1) (128 * t + p.val) else 0) ?_ ?_ (le_of_eq N_0) t h (ix2 r l)]
  · by_cases hr : r.val < 31
    · simp only [ix2_0, ix2_1, hr, ↓reduceIte]
      exact rows_sum _
    · simp [hr]
  · intro t h x
    obtain ⟨r, l, rfl⟩ : ∃ (r : Fin 32) (l : Fin 1024), x = ix2 r l := ⟨x 0, x 1, by funext a; match a with | 0 => rfl | 1 => rfl⟩
    rw [outsAt0_A m c t h]
    dsimp only
    refine (dw_A c _ _ _ _ _ _ _ _ _ _ _ _ _ _ _ _ _ _ (blocks m c t) _ r.val r.isLt l).trans rfl
  · intro t h x
    obtain ⟨r, l, rfl⟩ : ∃ (r : Fin 32) (l : Fin 1024), x = ix2 r l := ⟨x 0, x 1, by funext a; match a with | 0 => rfl | 1 => rfl⟩
    rw [outsAt0_B m c t h]
    dsimp only
    refine (dw_B c _ _ _ _ _ _ _ _ _ _ _ _ _ _ _ _ _ _ _ _ _ (blocks m c t) _ r.val r.isLt l).trans rfl

/-- What the block of the output gradient's row sums holds after the last point. -/
theorem db_last (t : Fin cfg0.N) (h : t.val % 65 = 64) (r : Fin 1) (l : Fin 1024) :
    (outsAt0 m c t.val t.isLt).2.2.1 (ix2 r l) = ∑ n ∈ Finset.range 8320, dcN (DCm m c) l n := by
  rw [Pipeline.eq_sum_of_reset_step_apply_single_of_mod (fun n h => (outsAt0 m c n h).2.2.1) 65 (fun _ => (0 : EReal))
    (fun t x => ∑ p : Fin 128, dcN (DCm m c) (x 1) (128 * t + p.val)) ?_ ?_ (le_of_eq N_0) t h (ix2 r l)]
  · exact rows_sum _
  · intro t h x
    obtain ⟨l, rfl⟩ : ∃ (l : Fin 1024), x = ix2 0 l := ⟨x 1, by funext a; match a with | 0 => exact Fin.ext (by have : (x 0).val < 1 := (x 0).isLt; show (x 0).val = 0; omega) | 1 => rfl⟩
    rw [outsAt0_A m c t h]
    dsimp only
    apply db_A
    exact blocks m c t
  · intro t h x
    obtain ⟨l, rfl⟩ : ∃ (l : Fin 1024), x = ix2 0 l := ⟨x 1, by funext a; match a with | 0 => exact Fin.ext (by have : (x 0).val < 1 := (x 0).isLt; show (x 0).val = 0; omega) | 1 => rfl⟩
    rw [outsAt0_B m c t h]
    dsimp only
    apply db_B
    exact blocks m c t

/-- What the block of the gate input gradient's row sums holds after the last point. -/
theorem dvb_last (t : Fin cfg0.N) (h : t.val % 65 = 64) (r : Fin 1) (l : Fin 2048) :
    (outsAt0 m c t.val t.isLt).2.2.2 (ix2 r l) = ∑ n ∈ Finset.range 8320, dvN (DCm m c) (Vm m c) (Wm m c) l n := by
  rw [Pipeline.eq_sum_of_reset_step_apply_single_of_mod (fun n h => (outsAt0 m c n h).2.2.2) 65 (fun _ => (0 : EReal))
    (fun t x => ∑ p : Fin 128, dvN (DCm m c) (Vm m c) (Wm m c) (x 1) (128 * t + p.val)) ?_ ?_ (le_of_eq N_0) t h (ix2 r l)]
  · exact rows_sum _
  · intro t h x
    obtain ⟨l, rfl⟩ : ∃ (l : Fin 2048), x = ix2 0 l := ⟨x 1, by funext a; match a with | 0 => exact Fin.ext (by have : (x 0).val < 1 := (x 0).isLt; show (x 0).val = 0; omega) | 1 => rfl⟩
    rw [outsAt0_A m c t h]
    dsimp only
    apply dvb_A
    exact blocks m c t
  · intro t h x
    obtain ⟨l, rfl⟩ : ∃ (l : Fin 2048), x = ix2 0 l := ⟨x 1, by funext a; match a with | 0 => exact Fin.ext (by have : (x 0).val < 1 := (x 0).isLt; show (x 0).val = 0; omega) | 1 => rfl⟩
    rw [outsAt0_B m c t h]
    dsimp only
    apply dvb_B
    exact blocks m c t

/-- The gradient of the gate's input, as the kernel leaves it. -/
theorem arr5 : (dats m 0 c).arrAt 5 cfg0.N = (fun x => dvN (DCm m c) (Vm m c) (Wm m c) (x 1) (x 0).val : S8320x2048.Idx → EReal) := by
  refine (dats m 0 c).arrAt_eq_of_covers 5 _ (by decide +kernel) fun t hf y => ?_
  have e : ((cfg0.win 5).blk t).view.emb y = ix2 (⟨128 * t.val + (y 0).val, by have := lt65 t; have : (y 0).val < 128 := (y 0).isLt; omega⟩ : Fin 8320) (⟨(y 1).val, (y 1).isLt⟩ : Fin 2048) := by
    blk_ext [idx_5 t]
  rw [e]
  blk_simp
  rw [after0_5]
  have hy : y = ix2 (⟨(y 0).val, (y 0).isLt⟩ : Fin 128) (⟨(y 1).val, (y 1).isLt⟩ : Fin 2048) := by funext a; match a with | 0 => rfl | 1 => rfl
  exact (congrArg (outsAt0 m c t.val t.isLt).1 hy).trans (dv_at m c t ⟨(y 0).val, (y 0).isLt⟩ ⟨(y 1).val, (y 1).isLt⟩)

/-- The gradient of the taps, with a row of zeros below it. -/
theorem arr6 : (dats m 0 c).arrAt 6 cfg0.N
    = (fun x => if (x 0).val < 31 then ∑ n ∈ Finset.range 8320, dwN (DCm m c) (Vm m c) (x 0).val (x 1) n else 0 : S32x1024.Idx → EReal) := by
  refine (dats m 0 c).arrAt_eq_of_covers 6 _ (by decide +kernel) fun t hf y => ?_
  have e : ((cfg0.win 6).blk t).view.emb y = ix2 (⟨(y 0).val, (y 0).isLt⟩ : Fin 32) (⟨(y 1).val, (y 1).isLt⟩ : Fin 1024) := by
    blk_ext [idx_6 t]
  rw [e]
  blk_simp
  rw [after0_6]
  have hy : y = ix2 (⟨(y 0).val, (y 0).isLt⟩ : Fin 32) (⟨(y 1).val, (y 1).isLt⟩ : Fin 1024) := by funext a; match a with | 0 => rfl | 1 => rfl
  exact (congrArg (outsAt0 m c t.val t.isLt).2.1 hy).trans (dw_last m c t ((flush0_6 t).mp hf) ⟨(y 0).val, (y 0).isLt⟩ ⟨(y 1).val, (y 1).isLt⟩)

/-- The gradient of the convolution's bias. -/
theorem arr7 : (dats m 0 c).arrAt 7 cfg0.N
    = (fun x => ∑ n ∈ Finset.range 8320, dcN (DCm m c) (x 1) n : S1x1024.Idx → EReal) := by
  refine (dats m 0 c).arrAt_eq_of_covers 7 _ (by decide +kernel) fun t hf y => ?_
  have e : ((cfg0.win 7).blk t).view.emb y = ix2 (⟨(y 0).val, (y 0).isLt⟩ : Fin 1) (⟨(y 1).val, (y 1).isLt⟩ : Fin 1024) := by
    blk_ext [idx_7 t]
  rw [e]
  blk_simp
  rw [after0_7]
  have hy : y = ix2 (⟨(y 0).val, (y 0).isLt⟩ : Fin 1) (⟨(y 1).val, (y 1).isLt⟩ : Fin 1024) := by funext a; match a with | 0 => rfl | 1 => rfl
  exact (congrArg (outsAt0 m c t.val t.isLt).2.2.1 hy).trans (db_last m c t ((flush0_7 t).mp hf) ⟨(y 0).val, (y 0).isLt⟩ ⟨(y 1).val, (y 1).isLt⟩)

/-- The gradient of the shift of the gate's input. -/
theorem arr8 : (dats m 0 c).arrAt 8 cfg0.N
    = (fun x => ∑ n ∈ Finset.range 8320, dvN (DCm m c) (Vm m c) (Wm m c) (x 1) n : S1x2048.Idx → EReal) := by
  refine (dats m 0 c).arrAt_eq_of_covers 8 _ (by decide +kernel) fun t hf y => ?_
  have e : ((cfg0.win 8).blk t).view.emb y = ix2 (⟨(y 0).val, (y 0).isLt⟩ : Fin 1) (⟨(y 1).val, (y 1).isLt⟩ : Fin 2048) := by
    blk_ext [idx_8 t]
  rw [e]
  blk_simp
  rw [after0_8]
  have hy : y = ix2 (⟨(y 0).val, (y 0).isLt⟩ : Fin 1) (⟨(y 1).val, (y 1).isLt⟩ : Fin 2048) := by funext a; match a with | 0 => rfl | 1 => rfl
  exact (congrArg (outsAt0 m c t.val t.isLt).2.2.2 hy).trans (dvb_last m c t ((flush0_8 t).mp hf) ⟨(y 0).val, (y 0).isLt⟩ ⟨(y 1).val, (y 1).isLt⟩)

end Cert.KernelIdeal.Gen
-- ==== Proof.ConvRef.lean ====
/- What the reference of the convolution's gradient computes, at an index. -/
module
public import proofs.«01_k».proof.Proof.Gen.ReferenceIdeal.Read
public import proofs.«01_k».proof.Proof.ConvSpec
public import Idealize.ShloMosaic.Lib.Pointwise
@[expose] public section
set_option maxRecDepth 16384
noncomputable section
namespace Cert.ReferenceIdeal.Read
open Idealize.ShloMosaic Idealize.ShloMosaic.TcCoe Idealize.SL.Sem Cert.ReferenceIdeal ConvBwd

variable (DC : (⟨2, ![8320, 1024]⟩ : Shape).Idx → EReal) (V : (⟨2, ![8320, 2048]⟩ : Shape).Idx → EReal)
  (W : (⟨2, ![31, 1024]⟩ : Shape).Idx → EReal)

/-- The gated half, from row 112 on. -/
theorem a_ref (r : Fin 8208) (l : Fin 1024) : val_main_v6 (F := Ideal) V (ix2 r l) = aN V l (r.val + 112) := by
  rw [aN, dif_pos (by omega)]
  pointwise [val_main_v6, val_main_v5, val_main_v4, val_main_v3, val_main_v2, val_main_v0, val_main_cst]
  exact congrArg V (by congr 1; exact Fin.ext (Nat.add_comm _ _))

/-- The gate, from row 112 on. -/
theorem s_ref (r : Fin 8208) (l : Fin 1024) : val_main_v13 (F := Ideal) V (ix2 r l) = sN V l (r.val + 112) := by
  rw [sN, dif_pos (by omega)]
  pointwise [val_main_v13, val_main_v12, val_main_cst_2, val_main_v11, val_main_v10, val_main_cst_1, val_main_v9, val_main_v8, val_main_v7, val_main_v5, val_main_v4, val_main_v3, val_main_v2, val_main_v0, val_main_cst]
  rw [sg, zero_sub]
  have e : (⟨112 + r.val, by omega⟩ : Fin 8320) = ⟨r.val + 112, by omega⟩ := Fin.ext (Nat.add_comm _ _)
  rw [e]

/-- The padded sequence that the taps run over. -/
theorem xp_ref (n : Fin 8350) (l : Fin 1024) : val_main_v22 (F := Ideal) V (ix2 n l) = gN V l (n.val + 2) := by
  unfold val_main_v22 val_main_v19 val_main_v21 val_main_v18 val_main_cst_6 val_main_cst_4
  pointwise [val_main_v17, a_ref, s_ref]
  unfold gN
  split
  · rw [if_neg (by omega)]
  · split
    · rw [if_neg (by omega)]
    · rw [if_pos (by omega), show n.val - 30 - 112 + 112 = n.val + 2 - 32 by omega]

/-- The output gradient, as the taps read it. -/
theorem ct_ref (r : Fin 8320) (l : Fin 1024) : val_main_v181 (F := Ideal) DC (ix2 r l) = DC (ix2 r l) := by
  pointwise [val_main_v181]

/-- Tap 30's part of the taps' gradient. -/
theorem dw_ref_30 (r : Fin 31) (l : Fin 1024) : val_main_v191 (F := Ideal) DC V (ix2 r l)
    = if r.val = 30 then ∑ n : Fin 8320, DC (ix2 n l) * gN V l (n.val + 32) else 0 := by
  pointwise [val_main_v191, val_main_v189, val_main_v188, val_main_v187, val_main_v174, val_main_cst_10, val_main_cst_12, xp_ref, ct_ref]
  by_cases h : r.val = 30
  · rw [if_pos h, dif_pos (by omega)]
    all_goals exact Finset.sum_congr rfl fun n _ => congrArg (fun k => DC (ix2 n l) * gN V l k) (by omega)
  · rw [if_neg h, dif_neg (by omega)]

/-- Tap 30's part of the sequence's gradient. -/
theorem dx_ref_30 (r : Fin 8320) (l : Fin 1024) : val_main_v190 (F := Ideal) DC W (ix2 (⟨30 + r.val, by omega⟩ : Fin 8350) l)
    = W (ix2 ⟨30, by decide⟩ l) * dcN DC l (r.val + 0) := by
  pointwise [val_main_v190, val_main_v186, val_main_v185, val_main_v173, val_main_cst_11, ct_ref]
  unfold dcN
  rw [dif_pos r.isLt]

/-- Tap 29's part of the taps' gradient. -/
theorem dw_ref_29 (r : Fin 31) (l : Fin 1024) : val_main_v199 (F := Ideal) DC V (ix2 r l)
    = if r.val = 29 then ∑ n : Fin 8320, DC (ix2 n l) * gN V l (n.val + 31) else 0 := by
  pointwise [val_main_v199, val_main_v196, val_main_v195, val_main_v194, val_main_v169, val_main_cst_13, val_main_cst_15, xp_ref, ct_ref]
  by_cases h : r.val = 29
  · rw [if_pos h, dif_pos (by omega)]
    all_goals exact Finset.sum_congr rfl fun n _ => congrArg (fun k => DC (ix2 n l) * gN V l k) (by omega)
  · rw [if_neg h, dif_neg (by omega)]

/-- Tap 29's part of the sequence's gradient. -/
theorem dx_ref_29 (r : Fin 8320) (l : Fin 1024) : val_main_v197 (F := Ideal) DC W (ix2 (⟨30 + r.val, by omega⟩ : Fin 8350) l)
    = W (ix2 ⟨29, by decide⟩ l) * dcN DC l (r.val + 1) := by
  pointwise [val_main_v197, val_main_v193, val_main_v192, val_main_v168, val_main_cst_14, ct_ref]
  unfold dcN
  by_cases h : r.val + 1 < 8320
  · rw [dif_pos h, dif_pos (by omega)]
    exact congrArg (fun x => W _ * DC (ix2 x l)) (Fin.ext (by dsimp only; omega))
  · rw [dif_neg h, dif_neg (by omega), mul_zero]

/-- Tap 28's part of the taps' gradient. -/
theorem dw_ref_28 (r : Fin 31) (l : Fin 1024) : val_main_v208 (F := Ideal) DC V (ix2 r l)
    = if r.val = 28 then ∑ n : Fin 8320, DC (ix2 n l) * gN V l (n.val + 30) else 0 := by
  pointwise [val_main_v208, val_main_v205, val_main_v204, val_main_v203, val_main_v164, val_main_cst_16, val_main_cst_18, xp_ref, ct_ref]
  by_cases h : r.val = 28
  · rw [if_pos h, dif_pos (by omega)]
    all_goals exact Finset.sum_congr rfl fun n _ => congrArg (fun k => DC (ix2 n l) * gN V l k) (by omega)
  · rw [if_neg h, dif_neg (by omega)]

/-- Tap 28's part of the sequence's gradient. -/
theorem dx_ref_28 (r : Fin 8320) (l : Fin 1024) : val_main_v206 (F := Ideal) DC W (ix2 (⟨30 + r.val, by omega⟩ : Fin 8350) l)
    = W (ix2 ⟨28, by decide⟩ l) * dcN DC l (r.val + 2) := by
  pointwise [val_main_v206, val_main_v202, val_main_v201, val_main_v163, val_main_cst_17, ct_ref]
  unfold dcN
  by_cases h : r.val + 2 < 8320
  · rw [dif_pos h, dif_pos (by omega)]
    exact congrArg (fun x => W _ * DC (ix2 x l)) (Fin.ext (by dsimp only; omega))
  · rw [dif_neg h, dif_neg (by omega), mul_zero]

/-- Tap 27's part of the taps' gradient. -/
theorem dw_ref_27 (r : Fin 31) (l : Fin 1024) : val_main_v217 (F := Ideal) DC V (ix2 r l)
    = if r.val = 27 then ∑ n : Fin 8320, DC (ix2 n l) * gN V l (n.val + 29) else 0 := by
  pointwise [val_main_v217, val_main_v214, val_main_v213, val_main_v212, val_main_v159, val_main_cst_19, val_main_cst_21, xp_ref, ct_ref]
  by_cases h : r.val = 27
  · rw [if_pos h, dif_pos (by omega)]
    all_goals exact Finset.sum_congr rfl fun n _ => congrArg (fun k => DC (ix2 n l) * gN V l k) (by omega)
  · rw [if_neg h, dif_neg (by omega)]

/-- Tap 27's part of the sequence's gradient. -/
theorem dx_ref_27 (r : Fin 8320) (l : Fin 1024) : val_main_v215 (F := Ideal) DC W (ix2 (⟨30 + r.val, by omega⟩ : Fin 8350) l)
    = W (ix2 ⟨27, by decide⟩ l) * dcN DC l (r.val + 3) := by
  pointwise [val_main_v215, val_main_v211, val_main_v210, val_main_v158, val_main_cst_20, ct_ref]
  unfold dcN
  by_cases h : r.val + 3 < 8320
  · rw [dif_pos h, dif_pos (by omega)]
    exact congrArg (fun x => W _ * DC (ix2 x l)) (Fin.ext (by dsimp only; omega))
  · rw [dif_neg h, dif_neg (by omega), mul_zero]

/-- Tap 26's part of the taps' gradient. -/
theorem dw_ref_26 (r : Fin 31) (l : Fin 1024) : val_main_v226 (F := Ideal) DC V (ix2 r l)
    = if r.val = 26 then ∑ n : Fin 8320, DC (ix2 n l) * gN V l (n.val + 28) else 0 := by
  pointwise [val_main_v226, val_main_v223, val_main_v222, val_main_v221, val_main_v154, val_main_cst_22, val_main_cst_24, xp_ref, ct_ref]
  by_cases h : r.val = 26
  · rw [if_pos h, dif_pos (by omega)]
    all_goals exact Finset.sum_congr rfl fun n _ => congrArg (fun k => DC (ix2 n l) * gN V l k) (by omega)
  · rw [if_neg h, dif_neg (by omega)]

/-- Tap 26's part of the sequence's gradient. -/
theorem dx_ref_26 (r : Fin 8320) (l : Fin 1024) : val_main_v224 (F := Ideal) DC W (ix2 (⟨30 + r.val, by omega⟩ : Fin 8350) l)
    = W (ix2 ⟨26, by decide⟩ l) * dcN DC l (r.val + 4) := by
  pointwise [val_main_v224, val_main_v220, val_main_v219, val_main_v153, val_main_cst_23, ct_ref]
  unfold dcN
  by_cases h : r.val + 4 < 8320
  · rw [dif_pos h, dif_pos (by omega)]
    exact congrArg (fun x => W _ * DC (ix2 x l)) (Fin.ext (by dsimp only; omega))
  · rw [dif_neg h, dif_neg (by omega), mul_zero]

/-- Tap 25's part of the taps' gradient. -/
theorem dw_ref_25 (r : Fin 31) (l : Fin 1024) : val_main_v235 (F := Ideal) DC V (ix2 r l)
    = if r.val = 25 then ∑ n : Fin 8320, DC (ix2 n l) * gN V l (n.val + 27) else 0 := by
  pointwise [val_main_v235, val_main_v232, val_main_v231, val_main_v230, val_main_v149, val_main_cst_25, val_main_cst_27, xp_ref, ct_ref]
  by_cases h : r.val = 25
  · rw [if_pos h, dif_pos (by omega)]
    all_goals exact Finset.sum_congr rfl fun n _ => congrArg (fun k => DC (ix2 n l) * gN V l k) (by omega)
  · rw [if_neg h, dif_neg (by omega)]

/-- Tap 25's part of the sequence's gradient. -/
theorem dx_ref_25 (r : Fin 8320) (l : Fin 1024) : val_main_v233 (F := Ideal) DC W (ix2 (⟨30 + r.val, by omega⟩ : Fin 8350) l)
    = W (ix2 ⟨25, by decide⟩ l) * dcN DC l (r.val + 5) := by
  pointwise [val_main_v233, val_main_v229, val_main_v228, val_main_v148, val_main_cst_26, ct_ref]
  unfold dcN
  by_cases h : r.val + 5 < 8320
  · rw [dif_pos h, dif_pos (by omega)]
    exact congrArg (fun x => W _ * DC (ix2 x l)) (Fin.ext (by dsimp only; omega))
  · rw [dif_neg h, dif_neg (by omega), mul_zero]

/-- Tap 24's part of the taps' gradient. -/
theorem dw_ref_24 (r : Fin 31) (l : Fin 1024) : val_main_v244 (F := Ideal) DC V (ix2 r l)
    = if r.val = 24 then ∑ n : Fin 8320, DC (ix2 n l) * gN V l (n.val + 26) else 0 := by
  pointwise [val_main_v244, val_main_v241, val_main_v240, val_main_v239, val_main_v144, val_main_cst_28, val_main_cst_30, xp_ref, ct_ref]
  by_cases h : r.val = 24
  · rw [if_pos h, dif_pos (by omega)]
    all_goals exact Finset.sum_congr rfl fun n _ => congrArg (fun k => DC (ix2 n l) * gN V l k) (by omega)
  · rw [if_neg h, dif_neg (by omega)]

/-- Tap 24's part of the sequence's gradient. -/
theorem dx_ref_24 (r : Fin 8320) (l : Fin 1024) : val_main_v242 (F := Ideal) DC W (ix2 (⟨30 + r.val, by omega⟩ : Fin 8350) l)
    = W (ix2 ⟨24, by decide⟩ l) * dcN DC l (r.val + 6) := by
  pointwise [val_main_v242, val_main_v238, val_main_v237, val_main_v143, val_main_cst_29, ct_ref]
  unfold dcN
  by_cases h : r.val + 6 < 8320
  · rw [dif_pos h, dif_pos (by omega)]
    exact congrArg (fun x => W _ * DC (ix2 x l)) (Fin.ext (by dsimp only; omega))
  · rw [dif_neg h, dif_neg (by omega), mul_zero]

/-- Tap 23's part of the taps' gradient. -/
theorem dw_ref_23 (r : Fin 31) (l : Fin 1024) : val_main_v253 (F := Ideal) DC V (ix2 r l)
    = if r.val = 23 then ∑ n : Fin 8320, DC (ix2 n l) * gN V l (n.val + 25) else 0 := by
  pointwise [val_main_v253, val_main_v250, val_main_v249, val_main_v248, val_main_v139, val_main_cst_31, val_main_cst_33, xp_ref, ct_ref]
  by_cases h : r.val = 23
  · rw [if_pos h, dif_pos (by omega)]
    all_goals exact Finset.sum_congr rfl fun n _ => congrArg (fun k => DC (ix2 n l) * gN V l k) (by omega)
  · rw [if_neg h, dif_neg (by omega)]

/-- Tap 23's part of the sequence's gradient. -/
theorem dx_ref_23 (r : Fin 8320) (l : Fin 1024) : val_main_v251 (F := Ideal) DC W (ix2 (⟨30 + r.val, by omega⟩ : Fin 8350) l)
    = W (ix2 ⟨23, by decide⟩ l) * dcN DC l (r.val + 7) := by
  pointwise [val_main_v251, val_main_v247, val_main_v246, val_main_v138, val_main_cst_32, ct_ref]
  unfold dcN
  by_cases h : r.val + 7 < 8320
  · rw [dif_pos h, dif_pos (by omega)]
    exact congrArg (fun x => W _ * DC (ix2 x l)) (Fin.ext (by dsimp only; omega))
  · rw [dif_neg h, dif_neg (by omega), mul_zero]

/-- Tap 22's part of the taps' gradient. -/
theorem dw_ref_22 (r : Fin 31) (l : Fin 1024) : val_main_v262 (F := Ideal) DC V (ix2 r l)
    = if r.val = 22 then ∑ n : Fin 8320, DC (ix2 n l) * gN V l (n.val + 24) else 0 := by
  pointwise [val_main_v262, val_main_v259, val_main_v258, val_main_v257, val_main_v134, val_main_cst_34, val_main_cst_36, xp_ref, ct_ref]
  by_cases h : r.val = 22
  · rw [if_pos h, dif_pos (by omega)]
    all_goals exact Finset.sum_congr rfl fun n _ => congrArg (fun k => DC (ix2 n l) * gN V l k) (by omega)
  · rw [if_neg h, dif_neg (by omega)]

/-- Tap 22's part of the sequence's gradient. -/
theorem dx_ref_22 (r : Fin 8320) (l : Fin 1024) : val_main_v260 (F := Ideal) DC W (ix2 (⟨30 + r.val, by omega⟩ : Fin 8350) l)
    = W (ix2 ⟨22, by decide⟩ l) * dcN DC l (r.val + 8) := by
  pointwise [val_main_v260, val_main_v256, val_main_v255, val_main_v133, val_main_cst_35, ct_ref]
  unfold dcN
  by_cases h : r.val + 8 < 8320
  · rw [dif_pos h, dif_pos (by omega)]
    exact congrArg (fun x => W _ * DC (ix2 x l)) (Fin.ext (by dsimp only; omega))
  · rw [dif_neg h, dif_neg (by omega), mul_zero]

/-- Tap 21's part of the taps' gradient. -/
theorem dw_ref_21 (r : Fin 31) (l : Fin 1024) : val_main_v271 (F := Ideal) DC V (ix2 r l)
    = if r.val = 21 then ∑ n : Fin 8320, DC (ix2 n l) * gN V l (n.val + 23) else 0 := by
  pointwise [val_main_v271, val_main_v268, val_main_v267, val_main_v266, val_main_v129, val_main_cst_37, val_main_cst_39, xp_ref, ct_ref]
  by_cases h : r.val = 21
  · rw [if_pos h, dif_pos (by omega)]
    all_goals exact Finset.sum_congr rfl fun n _ => congrArg (fun k => DC (ix2 n l) * gN V l k) (by omega)
  · rw [if_neg h, dif_neg (by omega)]

/-- Tap 21's part of the sequence's gradient. -/
theorem dx_ref_21 (r : Fin 8320) (l : Fin 1024) : val_main_v269 (F := Ideal) DC W (ix2 (⟨30 + r.val, by omega⟩ : Fin 8350) l)
    = W (ix2 ⟨21, by decide⟩ l) * dcN DC l (r.val + 9) := by
  pointwise [val_main_v269, val_main_v265, val_main_v264, val_main_v128, val_main_cst_38, ct_ref]
  unfold dcN
  by_cases h : r.val + 9 < 8320
  · rw [dif_pos h, dif_pos (by omega)]
    exact congrArg (fun x => W _ * DC (ix2 x l)) (Fin.ext (by dsimp only; omega))
  · rw [dif_neg h, dif_neg (by omega), mul_zero]

/-- Tap 20's part of the taps' gradient. -/
theorem dw_ref_20 (r : Fin 31) (l : Fin 1024) : val_main_v280 (F := Ideal) DC V (ix2 r l)
    = if r.val = 20 then ∑ n : Fin 8320, DC (ix2 n l) * gN V l (n.val + 22) else 0 := by
  pointwise [val_main_v280, val_main_v277, val_main_v276, val_main_v275, val_main_v124, val_main_cst_40, val_main_cst_42, xp_ref, ct_ref]
  by_cases h : r.val = 20
  · rw [if_pos h, dif_pos (by omega)]
    all_goals exact Finset.sum_congr rfl fun n _ => congrArg (fun k => DC (ix2 n l) * gN V l k) (by omega)
  · rw [if_neg h, dif_neg (by omega)]

/-- Tap 20's part of the sequence's gradient. -/
theorem dx_ref_20 (r : Fin 8320) (l : Fin 1024) : val_main_v278 (F := Ideal) DC W (ix2 (⟨30 + r.val, by omega⟩ : Fin 8350) l)
    = W (ix2 ⟨20, by decide⟩ l) * dcN DC l (r.val + 10) := by
  pointwise [val_main_v278, val_main_v274, val_main_v273, val_main_v123, val_main_cst_41, ct_ref]
  unfold dcN
  by_cases h : r.val + 10 < 8320
  · rw [dif_pos h, dif_pos (by omega)]
    exact congrArg (fun x => W _ * DC (ix2 x l)) (Fin.ext (by dsimp only; omega))
  · rw [dif_neg h, dif_neg (by omega), mul_zero]

/-- Tap 19's part of the taps' gradient. -/
theorem dw_ref_19 (r : Fin 31) (l : Fin 1024) : val_main_v289 (F := Ideal) DC V (ix2 r l)
    = if r.val = 19 then ∑ n : Fin 8320, DC (ix2 n l) * gN V l (n.val + 21) else 0 := by
  pointwise [val_main_v289, val_main_v286, val_main_v285, val_main_v284, val_main_v119, val_main_cst_43, val_main_cst_45, xp_ref, ct_ref]
  by_cases h : r.val = 19
  · rw [if_pos h, dif_pos (by omega)]
    all_goals exact Finset.sum_congr rfl fun n _ => congrArg (fun k => DC (ix2 n l) * gN V l k) (by omega)
  · rw [if_neg h, dif_neg (by omega)]

/-- Tap 19's part of the sequence's gradient. -/
theorem dx_ref_19 (r : Fin 8320) (l : Fin 1024) : val_main_v287 (F := Ideal) DC W (ix2 (⟨30 + r.val, by omega⟩ : Fin 8350) l)
    = W (ix2 ⟨19, by decide⟩ l) * dcN DC l (r.val + 11) := by
  pointwise [val_main_v287, val_main_v283, val_main_v282, val_main_v118, val_main_cst_44, ct_ref]
  unfold dcN
  by_cases h : r.val + 11 < 8320
  · rw [dif_pos h, dif_pos (by omega)]
    exact congrArg (fun x => W _ * DC (ix2 x l)) (Fin.ext (by dsimp only; omega))
  · rw [dif_neg h, dif_neg (by omega), mul_zero]

/-- Tap 18's part of the taps' gradient. -/
theorem dw_ref_18 (r : Fin 31) (l : Fin 1024) : val_main_v298 (F := Ideal) DC V (ix2 r l)
    = if r.val = 18 then ∑ n : Fin 8320, DC (ix2 n l) * gN V l (n.val + 20) else 0 := by
  pointwise [val_main_v298, val_main_v295, val_main_v294, val_main_v293, val_main_v114, val_main_cst_46, val_main_cst_48, xp_ref, ct_ref]
  by_cases h : r.val = 18
  · rw [if_pos h, dif_pos (by omega)]
    all_goals exact Finset.sum_congr rfl fun n _ => congrArg (fun k => DC (ix2 n l) * gN V l k) (by omega)
  · rw [if_neg h, dif_neg (by omega)]

/-- Tap 18's part of the sequence's gradient. -/
theorem dx_ref_18 (r : Fin 8320) (l : Fin 1024) : val_main_v296 (F := Ideal) DC W (ix2 (⟨30 + r.val, by omega⟩ : Fin 8350) l)
    = W (ix2 ⟨18, by decide⟩ l) * dcN DC l (r.val + 12) := by
  pointwise [val_main_v296, val_main_v292, val_main_v291, val_main_v113, val_main_cst_47, ct_ref]
  unfold dcN
  by_cases h : r.val + 12 < 8320
  · rw [dif_pos h, dif_pos (by omega)]
    exact congrArg (fun x => W _ * DC (ix2 x l)) (Fin.ext (by dsimp only; omega))
  · rw [dif_neg h, dif_neg (by omega), mul_zero]

/-- Tap 17's part of the taps' gradient. -/
theorem dw_ref_17 (r : Fin 31) (l : Fin 1024) : val_main_v307 (F := Ideal) DC V (ix2 r l)
    = if r.val = 17 then ∑ n : Fin 8320, DC (ix2 n l) * gN V l (n.val + 19) else 0 := by
  pointwise [val_main_v307, val_main_v304, val_main_v303, val_main_v302, val_main_v109, val_main_cst_49, val_main_cst_51, xp_ref, ct_ref]
  by_cases h : r.val = 17
  · rw [if_pos h, dif_pos (by omega)]
    all_goals exact Finset.sum_congr rfl fun n _ => congrArg (fun k => DC (ix2 n l) * gN V l k) (by omega)
  · rw [if_neg h, dif_neg (by omega)]

/-- Tap 17's part of the sequence's gradient. -/
theorem dx_ref_17 (r : Fin 8320) (l : Fin 1024) : val_main_v305 (F := Ideal) DC W (ix2 (⟨30 + r.val, by omega⟩ : Fin 8350) l)
    = W (ix2 ⟨17, by decide⟩ l) * dcN DC l (r.val + 13) := by
  pointwise [val_main_v305, val_main_v301, val_main_v300, val_main_v108, val_main_cst_50, ct_ref]
  unfold dcN
  by_cases h : r.val + 13 < 8320
  · rw [dif_pos h, dif_pos (by omega)]
    exact congrArg (fun x => W _ * DC (ix2 x l)) (Fin.ext (by dsimp only; omega))
  · rw [dif_neg h, dif_neg (by omega), mul_zero]

/-- Tap 16's part of the taps' gradient. -/
theorem dw_ref_16 (r : Fin 31) (l : Fin 1024) : val_main_v316 (F := Ideal) DC V (ix2 r l)
    = if r.val = 16 then ∑ n : Fin 8320, DC (ix2 n l) * gN V l (n.val + 18) else 0 := by
  pointwise [val_main_v316, val_main_v313, val_main_v312, val_main_v311, val_main_v104, val_main_cst_52, val_main_cst_54, xp_ref, ct_ref]
  by_cases h : r.val = 16
  · rw [if_pos h, dif_pos (by omega)]
    all_goals exact Finset.sum_congr rfl fun n _ => congrArg (fun k => DC (ix2 n l) * gN V l k) (by omega)
  · rw [if_neg h, dif_neg (by omega)]

/-- Tap 16's part of the sequence's gradient. -/
theorem dx_ref_16 (r : Fin 8320) (l : Fin 1024) : val_main_v314 (F := Ideal) DC W (ix2 (⟨30 + r.val, by omega⟩ : Fin 8350) l)
    = W (ix2 ⟨16, by decide⟩ l) * dcN DC l (r.val + 14) := by
  pointwise [val_main_v314, val_main_v310, val_main_v309, val_main_v103, val_main_cst_53, ct_ref]
  unfold dcN
  by_cases h : r.val + 14 < 8320
  · rw [dif_pos h, dif_pos (by omega)]
    exact congrArg (fun x => W _ * DC (ix2 x l)) (Fin.ext (by dsimp only; omega))
  · rw [dif_neg h, dif_neg (by omega), mul_zero]

/-- Tap 15's part of the taps' gradient. -/
theorem dw_ref_15 (r : Fin 31) (l : Fin 1024) : val_main_v325 (F := Ideal) DC V (ix2 r l)
    = if r.val = 15 then ∑ n : Fin 8320, DC (ix2 n l) * gN V l (n.val + 17) else 0 := by
  pointwise [val_main_v325, val_main_v322, val_main_v321, val_main_v320, val_main_v99, val_main_cst_55, val_main_cst_57, xp_ref, ct_ref]
  by_cases h : r.val = 15
  · rw [if_pos h, dif_pos (by omega)]
    all_goals exact Finset.sum_congr rfl fun n _ => congrArg (fun k => DC (ix2 n l) * gN V l k) (by omega)
  · rw [if_neg h, dif_neg (by omega)]

/-- Tap 15's part of the sequence's gradient. -/
theorem dx_ref_15 (r : Fin 8320) (l : Fin 1024) : val_main_v323 (F := Ideal) DC W (ix2 (⟨30 + r.val, by omega⟩ : Fin 8350) l)
    = W (ix2 ⟨15, by decide⟩ l) * dcN DC l (r.val + 15) := by
  pointwise [val_main_v323, val_main_v319, val_main_v318, val_main_v98, val_main_cst_56, ct_ref]
  unfold dcN
  by_cases h : r.val + 15 < 8320
  · rw [dif_pos h, dif_pos (by omega)]
    exact congrArg (fun x => W _ * DC (ix2 x l)) (Fin.ext (by dsimp only; omega))
  · rw [dif_neg h, dif_neg (by omega), mul_zero]

/-- Tap 14's part of the taps' gradient. -/
theorem dw_ref_14 (r : Fin 31) (l : Fin 1024) : val_main_v334 (F := Ideal) DC V (ix2 r l)
    = if r.val = 14 then ∑ n : Fin 8320, DC (ix2 n l) * gN V l (n.val + 16) else 0 := by
  pointwise [val_main_v334, val_main_v331, val_main_v330, val_main_v329, val_main_v94, val_main_cst_58, val_main_cst_60, xp_ref, ct_ref]
  by_cases h : r.val = 14
  · rw [if_pos h, dif_pos (by omega)]
    all_goals exact Finset.sum_congr rfl fun n _ => congrArg (fun k => DC (ix2 n l) * gN V l k) (by omega)
  · rw [if_neg h, dif_neg (by omega)]

/-- Tap 14's part of the sequence's gradient. -/
theorem dx_ref_14 (r : Fin 8320) (l : Fin 1024) : val_main_v332 (F := Ideal) DC W (ix2 (⟨30 + r.val, by omega⟩ : Fin 8350) l)
    = W (ix2 ⟨14, by decide⟩ l) * dcN DC l (r.val + 16) := by
  pointwise [val_main_v332, val_main_v328, val_main_v327, val_main_v93, val_main_cst_59, ct_ref]
  unfold dcN
  by_cases h : r.val + 16 < 8320
  · rw [dif_pos h, dif_pos (by omega)]
    exact congrArg (fun x => W _ * DC (ix2 x l)) (Fin.ext (by dsimp only; omega))
  · rw [dif_neg h, dif_neg (by omega), mul_zero]

/-- Tap 13's part of the taps' gradient. -/
theorem dw_ref_13 (r : Fin 31) (l : Fin 1024) : val_main_v343 (F := Ideal) DC V (ix2 r l)
    = if r.val = 13 then ∑ n : Fin 8320, DC (ix2 n l) * gN V l (n.val + 15) else 0 := by
  pointwise [val_main_v343, val_main_v340, val_main_v339, val_main_v338, val_main_v89, val_main_cst_61, val_main_cst_63, xp_ref, ct_ref]
  by_cases h : r.val = 13
  · rw [if_pos h, dif_pos (by omega)]
    all_goals exact Finset.sum_congr rfl fun n _ => congrArg (fun k => DC (ix2 n l) * gN V l k) (by omega)
  · rw [if_neg h, dif_neg (by omega)]

/-- Tap 13's part of the sequence's gradient. -/
theorem dx_ref_13 (r : Fin 8320) (l : Fin 1024) : val_main_v341 (F := Ideal) DC W (ix2 (⟨30 + r.val, by omega⟩ : Fin 8350) l)
    = W (ix2 ⟨13, by decide⟩ l) * dcN DC l (r.val + 17) := by
  pointwise [val_main_v341, val_main_v337, val_main_v336, val_main_v88, val_main_cst_62, ct_ref]
  unfold dcN
  by_cases h : r.val + 17 < 8320
  · rw [dif_pos h, dif_pos (by omega)]
    exact congrArg (fun x => W _ * DC (ix2 x l)) (Fin.ext (by dsimp only; omega))
  · rw [dif_neg h, dif_neg (by omega), mul_zero]

/-- Tap 12's part of the taps' gradient. -/
theorem dw_ref_12 (r : Fin 31) (l : Fin 1024) : val_main_v352 (F := Ideal) DC V (ix2 r l)
    = if r.val = 12 then ∑ n : Fin 8320, DC (ix2 n l) * gN V l (n.val + 14) else 0 := by
  pointwise [val_main_v352, val_main_v349, val_main_v348, val_main_v347, val_main_v84, val_main_cst_64, val_main_cst_66, xp_ref, ct_ref]
  by_cases h : r.val = 12
  · rw [if_pos h, dif_pos (by omega)]
    all_goals exact Finset.sum_congr rfl fun n _ => congrArg (fun k => DC (ix2 n l) * gN V l k) (by omega)
  · rw [if_neg h, dif_neg (by omega)]

/-- Tap 12's part of the sequence's gradient. -/
theorem dx_ref_12 (r : Fin 8320) (l : Fin 1024) : val_main_v350 (F := Ideal) DC W (ix2 (⟨30 + r.val, by omega⟩ : Fin 8350) l)
    = W (ix2 ⟨12, by decide⟩ l) * dcN DC l (r.val + 18) := by
  pointwise [val_main_v350, val_main_v346, val_main_v345, val_main_v83, val_main_cst_65, ct_ref]
  unfold dcN
  by_cases h : r.val + 18 < 8320
  · rw [dif_pos h, dif_pos (by omega)]
    exact congrArg (fun x => W _ * DC (ix2 x l)) (Fin.ext (by dsimp only; omega))
  · rw [dif_neg h, dif_neg (by omega), mul_zero]

/-- Tap 11's part of the taps' gradient. -/
theorem dw_ref_11 (r : Fin 31) (l : Fin 1024) : val_main_v361 (F := Ideal) DC V (ix2 r l)
    = if r.val = 11 then ∑ n : Fin 8320, DC (ix2 n l) * gN V l (n.val + 13) else 0 := by
  pointwise [val_main_v361, val_main_v358, val_main_v357, val_main_v356, val_main_v79, val_main_cst_67, val_main_cst_69, xp_ref, ct_ref]
  by_cases h : r.val = 11
  · rw [if_pos h, dif_pos (by omega)]
    all_goals exact Finset.sum_congr rfl fun n _ => congrArg (fun k => DC (ix2 n l) * gN V l k) (by omega)
  · rw [if_neg h, dif_neg (by omega)]

/-- Tap 11's part of the sequence's gradient. -/
theorem dx_ref_11 (r : Fin 8320) (l : Fin 1024) : val_main_v359 (F := Ideal) DC W (ix2 (⟨30 + r.val, by omega⟩ : Fin 8350) l)
    = W (ix2 ⟨11, by decide⟩ l) * dcN DC l (r.val + 19) := by
  pointwise [val_main_v359, val_main_v355, val_main_v354, val_main_v78, val_main_cst_68, ct_ref]
  unfold dcN
  by_cases h : r.val + 19 < 8320
  · rw [dif_pos h, dif_pos (by omega)]
    exact congrArg (fun x => W _ * DC (ix2 x l)) (Fin.ext (by dsimp only; omega))
  · rw [dif_neg h, dif_neg (by omega), mul_zero]

/-- Tap 10's part of the taps' gradient. -/
theorem dw_ref_10 (r : Fin 31) (l : Fin 1024) : val_main_v370 (F := Ideal) DC V (ix2 r l)
    = if r.val = 10 then ∑ n : Fin 8320, DC (ix2 n l) * gN V l (n.val + 12) else 0 := by
  pointwise [val_main_v370, val_main_v367, val_main_v366, val_main_v365, val_main_v74, val_main_cst_70, val_main_cst_72, xp_ref, ct_ref]
  by_cases h : r.val = 10
  · rw [if_pos h, dif_pos (by omega)]
    all_goals exact Finset.sum_congr rfl fun n _ => congrArg (fun k => DC (ix2 n l) * gN V l k) (by omega)
  · rw [if_neg h, dif_neg (by omega)]

/-- Tap 10's part of the sequence's gradient. -/
theorem dx_ref_10 (r : Fin 8320) (l : Fin 1024) : val_main_v368 (F := Ideal) DC W (ix2 (⟨30 + r.val, by omega⟩ : Fin 8350) l)
    = W (ix2 ⟨10, by decide⟩ l) * dcN DC l (r.val + 20) := by
  pointwise [val_main_v368, val_main_v364, val_main_v363, val_main_v73, val_main_cst_71, ct_ref]
  unfold dcN
  by_cases h : r.val + 20 < 8320
  · rw [dif_pos h, dif_pos (by omega)]
    exact congrArg (fun x => W _ * DC (ix2 x l)) (Fin.ext (by dsimp only; omega))
  · rw [dif_neg h, dif_neg (by omega), mul_zero]

/-- Tap 9's part of the taps' gradient. -/
theorem dw_ref_9 (r : Fin 31) (l : Fin 1024) : val_main_v379 (F := Ideal) DC V (ix2 r l)
    = if r.val = 9 then ∑ n : Fin 8320, DC (ix2 n l) * gN V l (n.val + 11) else 0 := by
  pointwise [val_main_v379, val_main_v376, val_main_v375, val_main_v374, val_main_v69, val_main_cst_73, val_main_cst_75, xp_ref, ct_ref]
  by_cases h : r.val = 9
  · rw [if_pos h, dif_pos (by omega)]
    all_goals exact Finset.sum_congr rfl fun n _ => congrArg (fun k => DC (ix2 n l) * gN V l k) (by omega)
  · rw [if_neg h, dif_neg (by omega)]

/-- Tap 9's part of the sequence's gradient. -/
theorem dx_ref_9 (r : Fin 8320) (l : Fin 1024) : val_main_v377 (F := Ideal) DC W (ix2 (⟨30 + r.val, by omega⟩ : Fin 8350) l)
    = W (ix2 ⟨9, by decide⟩ l) * dcN DC l (r.val + 21) := by
  pointwise [val_main_v377, val_main_v373, val_main_v372, val_main_v68, val_main_cst_74, ct_ref]
  unfold dcN
  by_cases h : r.val + 21 < 8320
  · rw [dif_pos h, dif_pos (by omega)]
    exact congrArg (fun x => W _ * DC (ix2 x l)) (Fin.ext (by dsimp only; omega))
  · rw [dif_neg h, dif_neg (by omega), mul_zero]

/-- Tap 8's part of the taps' gradient. -/
theorem dw_ref_8 (r : Fin 31) (l : Fin 1024) : val_main_v388 (F := Ideal) DC V (ix2 r l)
    = if r.val = 8 then ∑ n : Fin 8320, DC (ix2 n l) * gN V l (n.val + 10) else 0 := by
  pointwise [val_main_v388, val_main_v385, val_main_v384, val_main_v383, val_main_v64, val_main_cst_76, val_main_cst_78, xp_ref, ct_ref]
  by_cases h : r.val = 8
  · rw [if_pos h, dif_pos (by omega)]
    all_goals exact Finset.sum_congr rfl fun n _ => congrArg (fun k => DC (ix2 n l) * gN V l k) (by omega)
  · rw [if_neg h, dif_neg (by omega)]

/-- Tap 8's part of the sequence's gradient. -/
theorem dx_ref_8 (r : Fin 8320) (l : Fin 1024) : val_main_v386 (F := Ideal) DC W (ix2 (⟨30 + r.val, by omega⟩ : Fin 8350) l)
    = W (ix2 ⟨8, by decide⟩ l) * dcN DC l (r.val + 22) := by
  pointwise [val_main_v386, val_main_v382, val_main_v381, val_main_v63, val_main_cst_77, ct_ref]
  unfold dcN
  by_cases h : r.val + 22 < 8320
  · rw [dif_pos h, dif_pos (by omega)]
    exact congrArg (fun x => W _ * DC (ix2 x l)) (Fin.ext (by dsimp only; omega))
  · rw [dif_neg h, dif_neg (by omega), mul_zero]

/-- Tap 7's part of the taps' gradient. -/
theorem dw_ref_7 (r : Fin 31) (l : Fin 1024) : val_main_v397 (F := Ideal) DC V (ix2 r l)
    = if r.val = 7 then ∑ n : Fin 8320, DC (ix2 n l) * gN V l (n.val + 9) else 0 := by
  pointwise [val_main_v397, val_main_v394, val_main_v393, val_main_v392, val_main_v59, val_main_cst_79, val_main_cst_81, xp_ref, ct_ref]
  by_cases h : r.val = 7
  · rw [if_pos h, dif_pos (by omega)]
    all_goals exact Finset.sum_congr rfl fun n _ => congrArg (fun k => DC (ix2 n l) * gN V l k) (by omega)
  · rw [if_neg h, dif_neg (by omega)]

/-- Tap 7's part of the sequence's gradient. -/
theorem dx_ref_7 (r : Fin 8320) (l : Fin 1024) : val_main_v395 (F := Ideal) DC W (ix2 (⟨30 + r.val, by omega⟩ : Fin 8350) l)
    = W (ix2 ⟨7, by decide⟩ l) * dcN DC l (r.val + 23) := by
  pointwise [val_main_v395, val_main_v391, val_main_v390, val_main_v58, val_main_cst_80, ct_ref]
  unfold dcN
  by_cases h : r.val + 23 < 8320
  · rw [dif_pos h, dif_pos (by omega)]
    exact congrArg (fun x => W _ * DC (ix2 x l)) (Fin.ext (by dsimp only; omega))
  · rw [dif_neg h, dif_neg (by omega), mul_zero]

/-- Tap 6's part of the taps' gradient. -/
theorem dw_ref_6 (r : Fin 31) (l : Fin 1024) : val_main_v406 (F := Ideal) DC V (ix2 r l)
    = if r.val = 6 then ∑ n : Fin 8320, DC (ix2 n l) * gN V l (n.val + 8) else 0 := by
  pointwise [val_main_v406, val_main_v403, val_main_v402, val_main_v401, val_main_v54, val_main_cst_82, val_main_cst_84, xp_ref, ct_ref]
  by_cases h : r.val = 6
  · rw [if_pos h, dif_pos (by omega)]
    all_goals exact Finset.sum_congr rfl fun n _ => congrArg (fun k => DC (ix2 n l) * gN V l k) (by omega)
  · rw [if_neg h, dif_neg (by omega)]

/-- Tap 6's part of the sequence's gradient. -/
theorem dx_ref_6 (r : Fin 8320) (l : Fin 1024) : val_main_v404 (F := Ideal) DC W (ix2 (⟨30 + r.val, by omega⟩ : Fin 8350) l)
    = W (ix2 ⟨6, by decide⟩ l) * dcN DC l (r.val + 24) := by
  pointwise [val_main_v404, val_main_v400, val_main_v399, val_main_v53, val_main_cst_83, ct_ref]
  unfold dcN
  by_cases h : r.val + 24 < 8320
  · rw [dif_pos h, dif_pos (by omega)]
    exact congrArg (fun x => W _ * DC (ix2 x l)) (Fin.ext (by dsimp only; omega))
  · rw [dif_neg h, dif_neg (by omega), mul_zero]

/-- Tap 5's part of the taps' gradient. -/
theorem dw_ref_5 (r : Fin 31) (l : Fin 1024) : val_main_v415 (F := Ideal) DC V (ix2 r l)
    = if r.val = 5 then ∑ n : Fin 8320, DC (ix2 n l) * gN V l (n.val + 7) else 0 := by
  pointwise [val_main_v415, val_main_v412, val_main_v411, val_main_v410, val_main_v49, val_main_cst_85, val_main_cst_87, xp_ref, ct_ref]
  by_cases h : r.val = 5
  · rw [if_pos h, dif_pos (by omega)]
    all_goals exact Finset.sum_congr rfl fun n _ => congrArg (fun k => DC (ix2 n l) * gN V l k) (by omega)
  · rw [if_neg h, dif_neg (by omega)]

/-- Tap 5's part of the sequence's gradient. -/
theorem dx_ref_5 (r : Fin 8320) (l : Fin 1024) : val_main_v413 (F := Ideal) DC W (ix2 (⟨30 + r.val, by omega⟩ : Fin 8350) l)
    = W (ix2 ⟨5, by decide⟩ l) * dcN DC l (r.val + 25) := by
  pointwise [val_main_v413, val_main_v409, val_main_v408, val_main_v48, val_main_cst_86, ct_ref]
  unfold dcN
  by_cases h : r.val + 25 < 8320
  · rw [dif_pos h, dif_pos (by omega)]
    exact congrArg (fun x => W _ * DC (ix2 x l)) (Fin.ext (by dsimp only; omega))
  · rw [dif_neg h, dif_neg (by omega), mul_zero]

/-- Tap 4's part of the taps' gradient. -/
theorem dw_ref_4 (r : Fin 31) (l : Fin 1024) : val_main_v424 (F := Ideal) DC V (ix2 r l)
    = if r.val = 4 then ∑ n : Fin 8320, DC (ix2 n l) * gN V l (n.val + 6) else 0 := by
  pointwise [val_main_v424, val_main_v421, val_main_v420, val_main_v419, val_main_v44, val_main_cst_88, val_main_cst_90, xp_ref, ct_ref]
  by_cases h : r.val = 4
  · rw [if_pos h, dif_pos (by omega)]
    all_goals exact Finset.sum_congr rfl fun n _ => congrArg (fun k => DC (ix2 n l) * gN V l k) (by omega)
  · rw [if_neg h, dif_neg (by omega)]

/-- Tap 4's part of the sequence's gradient. -/
theorem dx_ref_4 (r : Fin 8320) (l : Fin 1024) : val_main_v422 (F := Ideal) DC W (ix2 (⟨30 + r.val, by omega⟩ : Fin 8350) l)
    = W (ix2 ⟨4, by decide⟩ l) * dcN DC l (r.val + 26) := by
  pointwise [val_main_v422, val_main_v418, val_main_v417, val_main_v43, val_main_cst_89, ct_ref]
  unfold dcN
  by_cases h : r.val + 26 < 8320
  · rw [dif_pos h, dif_pos (by omega)]
    exact congrArg (fun x => W _ * DC (ix2 x l)) (Fin.ext (by dsimp only; omega))
  · rw [dif_neg h, dif_neg (by omega), mul_zero]

/-- Tap 3's part of the taps' gradient. -/
theorem dw_ref_3 (r : Fin 31) (l : Fin 1024) : val_main_v433 (F := Ideal) DC V (ix2 r l)
    = if r.val = 3 then ∑ n : Fin 8320, DC (ix2 n l) * gN V l (n.val + 5) else 0 := by
  pointwise [val_main_v433, val_main_v430, val_main_v429, val_main_v428, val_main_v39, val_main_cst_91, val_main_cst_93, xp_ref, ct_ref]
  by_cases h : r.val = 3
  · rw [if_pos h, dif_pos (by omega)]
    all_goals exact Finset.sum_congr rfl fun n _ => congrArg (fun k => DC (ix2 n l) * gN V l k) (by omega)
  · rw [if_neg h, dif_neg (by omega)]

/-- Tap 3's part of the sequence's gradient. -/
theorem dx_ref_3 (r : Fin 8320) (l : Fin 1024) : val_main_v431 (F := Ideal) DC W (ix2 (⟨30 + r.val, by omega⟩ : Fin 8350) l)
    = W (ix2 ⟨3, by decide⟩ l) * dcN DC l (r.val + 27) := by
  pointwise [val_main_v431, val_main_v427, val_main_v426, val_main_v38, val_main_cst_92, ct_ref]
  unfold dcN
  by_cases h : r.val + 27 < 8320
  · rw [dif_pos h, dif_pos (by omega)]
    exact congrArg (fun x => W _ * DC (ix2 x l)) (Fin.ext (by dsimp only; omega))
  · rw [dif_neg h, dif_neg (by omega), mul_zero]

/-- Tap 2's part of the taps' gradient. -/
theorem dw_ref_2 (r : Fin 31) (l : Fin 1024) : val_main_v442 (F := Ideal) DC V (ix2 r l)
    = if r.val = 2 then ∑ n : Fin 8320, DC (ix2 n l) * gN V l (n.val + 4) else 0 := by
  pointwise [val_main_v442, val_main_v439, val_main_v438, val_main_v437, val_main_v34, val_main_cst_94, val_main_cst_96, xp_ref, ct_ref]
  by_cases h : r.val = 2
  · rw [if_pos h, dif_pos (by omega)]
    all_goals exact Finset.sum_congr rfl fun n _ => congrArg (fun k => DC (ix2 n l) * gN V l k) (by omega)
  · rw [if_neg h, dif_neg (by omega)]

/-- Tap 2's part of the sequence's gradient. -/
theorem dx_ref_2 (r : Fin 8320) (l : Fin 1024) : val_main_v440 (F := Ideal) DC W (ix2 (⟨30 + r.val, by omega⟩ : Fin 8350) l)
    = W (ix2 ⟨2, by decide⟩ l) * dcN DC l (r.val + 28) := by
  pointwise [val_main_v440, val_main_v436, val_main_v435, val_main_v33, val_main_cst_95, ct_ref]
  unfold dcN
  by_cases h : r.val + 28 < 8320
  · rw [dif_pos h, dif_pos (by omega)]
    exact congrArg (fun x => W _ * DC (ix2 x l)) (Fin.ext (by dsimp only; omega))
  · rw [dif_neg h, dif_neg (by omega), mul_zero]

/-- Tap 1's part of the taps' gradient. -/
theorem dw_ref_1 (r : Fin 31) (l : Fin 1024) : val_main_v451 (F := Ideal) DC V (ix2 r l)
    = if r.val = 1 then ∑ n : Fin 8320, DC (ix2 n l) * gN V l (n.val + 3) else 0 := by
  pointwise [val_main_v451, val_main_v448, val_main_v447, val_main_v446, val_main_v29, val_main_cst_97, val_main_cst_99, xp_ref, ct_ref]
  by_cases h : r.val = 1
  · rw [if_pos h, dif_pos (by omega)]
    all_goals exact Finset.sum_congr rfl fun n _ => congrArg (fun k => DC (ix2 n l) * gN V l k) (by omega)
  · rw [if_neg h, dif_neg (by omega)]

/-- Tap 1's part of the sequence's gradient. -/
theorem dx_ref_1 (r : Fin 8320) (l : Fin 1024) : val_main_v449 (F := Ideal) DC W (ix2 (⟨30 + r.val, by omega⟩ : Fin 8350) l)
    = W (ix2 ⟨1, by decide⟩ l) * dcN DC l (r.val + 29) := by
  pointwise [val_main_v449, val_main_v445, val_main_v444, val_main_v28, val_main_cst_98, ct_ref]
  unfold dcN
  by_cases h : r.val + 29 < 8320
  · rw [dif_pos h, dif_pos (by omega)]
    exact congrArg (fun x => W _ * DC (ix2 x l)) (Fin.ext (by dsimp only; omega))
  · rw [dif_neg h, dif_neg (by omega), mul_zero]

/-- Tap 0's part of the taps' gradient. -/
theorem dw_ref_0 (r : Fin 31) (l : Fin 1024) : val_main_v460 (F := Ideal) DC V (ix2 r l)
    = if r.val = 0 then ∑ n : Fin 8320, DC (ix2 n l) * gN V l (n.val + 2) else 0 := by
  pointwise [val_main_v460, val_main_v457, val_main_v456, val_main_v455, val_main_v25, val_main_cst_100, val_main_cst_102, xp_ref, ct_ref]
  by_cases h : r.val = 0
  · rw [if_pos h, dif_pos (by omega)]
    all_goals exact Finset.sum_congr rfl fun n _ => congrArg (fun k => DC (ix2 n l) * gN V l k) (by omega)
  · rw [if_neg h, dif_neg (by omega)]

/-- Tap 0's part of the sequence's gradient. -/
theorem dx_ref_0 (r : Fin 8320) (l : Fin 1024) : val_main_v458 (F := Ideal) DC W (ix2 (⟨30 + r.val, by omega⟩ : Fin 8350) l)
    = W (ix2 ⟨0, by decide⟩ l) * dcN DC l (r.val + 30) := by
  pointwise [val_main_v458, val_main_v454, val_main_v453, val_main_v24, val_main_cst_101, ct_ref]
  unfold dcN
  by_cases h : r.val + 30 < 8320
  · rw [dif_pos h, dif_pos (by omega)]
    exact congrArg (fun x => W _ * DC (ix2 x l)) (Fin.ext (by dsimp only; omega))
  · rw [dif_neg h, dif_neg (by omega), mul_zero]

/-- A sum with one term for each tap picks the term of its own tap. -/
theorem dw_ref (r : Fin 31) (l : Fin 1024) : val_main_v461 (F := Ideal) DC V (ix2 r l) = ∑ n ∈ Finset.range 8320, dwN DC V r.val l n := by
  have e : ∑ n ∈ Finset.range 8320, dwN DC V r.val l n = ∑ n : Fin 8320, DC (ix2 n l) * gN V l (n.val + (r.val + 2)) := by
    rw [Finset.sum_range]
    exact Finset.sum_congr rfl fun n _ => by rw [dwN, dcN, dif_pos n.isLt]
  rw [e]
  pointwise [val_main_v200, val_main_v209, val_main_v218, val_main_v227, val_main_v236, val_main_v245, val_main_v254, val_main_v263, val_main_v272, val_main_v281, val_main_v290, val_main_v299, val_main_v308, val_main_v317, val_main_v326, val_main_v335, val_main_v344, val_main_v353, val_main_v362, val_main_v371, val_main_v380, val_main_v389, val_main_v398, val_main_v407, val_main_v416, val_main_v425, val_main_v434, val_main_v443, val_main_v452, val_main_v461, dw_ref_30, dw_ref_29, dw_ref_28, dw_ref_27, dw_ref_26, dw_ref_25, dw_ref_24, dw_ref_23, dw_ref_22, dw_ref_21, dw_ref_20, dw_ref_19, dw_ref_18, dw_ref_17, dw_ref_16, dw_ref_15, dw_ref_14, dw_ref_13, dw_ref_12, dw_ref_11, dw_ref_10, dw_ref_9, dw_ref_8, dw_ref_7, dw_ref_6, dw_ref_5, dw_ref_4, dw_ref_3, dw_ref_2, dw_ref_1, dw_ref_0]
  obtain ⟨r, hr⟩ := r
  interval_cases r <;> simp

/-- The gradient of the padded sequence, from its row 30 on. -/
theorem dx_ref (r : Fin 8320) (l : Fin 1024) : val_main_v459 (F := Ideal) DC W (ix2 (⟨30 + r.val, by omega⟩ : Fin 8350) l)
    = ∑ k : Fin 31, W (ix2 ⟨30 - k.val, by omega⟩ l) * dcN DC l (r.val + k.val) := by
  pointwise [val_main_v198, val_main_v207, val_main_v216, val_main_v225, val_main_v234, val_main_v243, val_main_v252, val_main_v261, val_main_v270, val_main_v279, val_main_v288, val_main_v297, val_main_v306, val_main_v315, val_main_v324, val_main_v333, val_main_v342, val_main_v351, val_main_v360, val_main_v369, val_main_v378, val_main_v387, val_main_v396, val_main_v405, val_main_v414, val_main_v423, val_main_v432, val_main_v441, val_main_v450, val_main_v459, dx_ref_30, dx_ref_29, dx_ref_28, dx_ref_27, dx_ref_26, dx_ref_25, dx_ref_24, dx_ref_23, dx_ref_22, dx_ref_21, dx_ref_20, dx_ref_19, dx_ref_18, dx_ref_17, dx_ref_16, dx_ref_15, dx_ref_14, dx_ref_13, dx_ref_12, dx_ref_11, dx_ref_10, dx_ref_9, dx_ref_8, dx_ref_7, dx_ref_6, dx_ref_5, dx_ref_4, dx_ref_3, dx_ref_2, dx_ref_1, dx_ref_0]
  simp only [Fin.sum_univ_castSucc, Fin.sum_univ_zero, zero_add]
  rfl

/-- The gradient of the gate's input, from row 112 on. -/
theorem dv_ref (r : Fin 8208) (l : Fin 2048) : val_main_v471 (F := Ideal) DC V W (ix2 r l) = dvN DC V W l (r.val + 112) := by
  have hd : ∀ l : Fin 1024, val_main_v465 (F := Ideal) DC W (ix2 r l) = dgN DC W l (r.val + 112) := fun l => by
    rw [dgN, if_pos (by omega), ← dx_ref DC W ⟨r.val + 112, by omega⟩ l]
    pointwise [val_main_v465, val_main_v463]
    exact congrArg (fun x => val_main_v459 (F := Ideal) DC W (ix2 x l)) (Fin.ext (by dsimp only; omega))
  pointwise [val_main_v471, val_main_v469, val_main_v470, val_main_v468, val_main_v467, val_main_v466, val_main_v16, val_main_v15, val_main_v14, val_main_cst_3, val_main_cst_103, val_main_cst_104, a_ref, s_ref, hd]
  unfold dvN
  by_cases h : l.val < 1024
  · rw [dif_neg (by omega), dif_pos h, dif_pos h, zero_add]
  · rw [dif_pos (by omega), dif_neg h, dif_neg h, add_zero, mul_comm (aN _ _ _)]

/-- Rows above 112 carry no gradient. -/
theorem dv_top (l : Fin 2048) (r : ℕ) (h : r < 112) : dvN DC V W l r = 0 := by
  unfold dvN dgN
  split <;> simp [show ¬112 ≤ r by omega]

/-- The first result. -/
theorem out0_ref (r : Fin 8320) (l : Fin 2048) : val_main_v476 (F := Ideal) DC V W (ix2 r l) = dvN DC V W l r.val := by
  pointwise [val_main_v476, val_main_v475, val_main_cst_107, dv_ref]
  split
  · rename_i h
    rw [show r.val - 112 + 112 = r.val by omega]
  · rename_i h
    rw [dv_top DC V W l r.val (by omega)]

/-- The second result. -/
theorem out1_ref (r : Fin 32) (l : Fin 1024) : val_main_v477 (F := Ideal) DC V (ix2 r l)
    = if r.val < 31 then ∑ n ∈ Finset.range 8320, dwN DC V r.val l n else 0 := by
  pointwise [val_main_v477, val_main_call0_v0, val_main_c, dw_ref]
  split
  · rfl
  · exact (show (((0#32).toInt : ℝ) : EReal) = 0 by simp)

/-- The third result. -/
theorem out2_ref (l : Fin 1024) : val_main_v478 (F := Ideal) DC (ix2 0 l) = ∑ n ∈ Finset.range 8320, dcN DC l n := by
  pointwise [val_main_v478, val_main_v184, val_main_v183, val_main_v182, val_main_cst_8, val_main_cst_9]
  rw [Finset.sum_range]
  simp only [Finset.univ_unique, Finset.sum_singleton]
  exact Finset.sum_congr rfl fun n _ => by rw [dcN, dif_pos n.isLt]

/-- The fourth result. -/
theorem out3_ref (l : Fin 2048) : val_main_v479 (F := Ideal) DC V W (ix2 0 l) = ∑ n ∈ Finset.range 8320, dvN DC V W l n := by
  pointwise [val_main_v479, val_main_v474, val_main_v473, val_main_v472, val_main_cst_105, val_main_cst_106, dv_ref]
  rw [show 8320 = 112 + 8208 from rfl, Finset.sum_range_add, Finset.sum_eq_zero (fun n hn => dv_top DC V W l n (Finset.mem_range.mp hn)), zero_add,
    Finset.sum_range]
  simp only [Finset.univ_unique, Finset.sum_singleton]
  exact Finset.sum_congr rfl fun n _ => by rw [Nat.add_comm]

end Cert.ReferenceIdeal.Read
-- ==== Proof.ConvClaim.lean ====
/- The convolution's gradient kernel computes the derivative of the plain forward lines. -/
module
public import proofs.«01_k».proof.Defs
public import proofs.«01_k».proof.Proof.ConvArr
public import proofs.«01_k».proof.Proof.ConvRef
public import proofs.«01_k».proof.Proof.Gen.KernelIdeal
public import proofs.«01_k».proof.Proof.Gen.ReferenceIdeal
public import Idealize.ShloMosaic.Lib.Quiescent
@[expose] public section
set_option maxRecDepth 16384
noncomputable section
namespace Cert.Proof
open Idealize.ShloMosaic Idealize.ShloMosaic.TcCoe Idealize.SL.Sem ConvBwd

/-- The four results as functions of the arguments. -/
def dvOut (DC : (⟨2, ![8320, 1024]⟩ : Shape).Idx → EReal) (V : (⟨2, ![8320, 2048]⟩ : Shape).Idx → EReal) (W : (⟨2, ![31, 1024]⟩ : Shape).Idx → EReal) :
    (⟨2, ![8320, 2048]⟩ : Shape).Idx → EReal := fun x => dvN DC V W (x 1) (x 0).val
def dwOut (DC : (⟨2, ![8320, 1024]⟩ : Shape).Idx → EReal) (V : (⟨2, ![8320, 2048]⟩ : Shape).Idx → EReal) :
    (⟨2, ![32, 1024]⟩ : Shape).Idx → EReal := fun x => if (x 0).val < 31 then ∑ n ∈ Finset.range 8320, dwN DC V (x 0).val (x 1) n else 0
def dbOut (DC : (⟨2, ![8320, 1024]⟩ : Shape).Idx → EReal) :
    (⟨2, ![1, 1024]⟩ : Shape).Idx → EReal := fun x => ∑ n ∈ Finset.range 8320, dcN DC (x 1) n
def dshiftOut (DC : (⟨2, ![8320, 1024]⟩ : Shape).Idx → EReal) (V : (⟨2, ![8320, 2048]⟩ : Shape).Idx → EReal) (W : (⟨2, ![31, 1024]⟩ : Shape).Idx → EReal) :
    (⟨2, ![1, 2048]⟩ : Shape).Idx → EReal := fun x => ∑ n ∈ Finset.range 8320, dvN DC V W (x 1) n

theorem ix2_eta {a b : ℕ} (x : (⟨2, ![a, b]⟩ : Shape).Idx) : x = ix2 (⟨(x 0).val, (x 0).isLt⟩ : Fin a) (⟨(x 1).val, (x 1).isLt⟩ : Fin b) := by
  funext i
  match i with
  | 0 => rfl
  | 1 => rfl

theorem ix2_row {b : ℕ} (x : (⟨2, ![1, b]⟩ : Shape).Idx) : x = ix2 (0 : Fin 1) (⟨(x 1).val, (x 1).isLt⟩ : Fin b) := by
  funext i
  match i with
  | 0 => exact Fin.ext (by have : (x 0).val < 1 := (x 0).isLt; show (x 0).val = 0; omega)
  | 1 => rfl

section
variable (DC : (⟨2, ![8320, 1024]⟩ : Shape).Idx → EReal) (V : (⟨2, ![8320, 2048]⟩ : Shape).Idx → EReal) (W : (⟨2, ![31, 1024]⟩ : Shape).Idx → EReal)
open Cert.ReferenceIdeal Cert.ReferenceIdeal.Read

theorem ref0 : val_main_v476 (F := Ideal) DC V W = dvOut DC V W := by
  funext x; rw [ix2_eta x]; exact out0_ref DC V W _ _
theorem ref1 : val_main_v477 (F := Ideal) DC V = dwOut DC V := by
  funext x; rw [ix2_eta x]; exact out1_ref DC V _ _
theorem ref2 : val_main_v478 (F := Ideal) DC = dbOut DC := by
  funext x; rw [ix2_row x]; exact out2_ref DC _
theorem ref3 : val_main_v479 (F := Ideal) DC V W = dshiftOut DC V W := by
  funext x; rw [ix2_row x]; exact out3_ref DC V W _
end

/-- The reference's run, its results named. -/
theorem conv_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread _ _).loc Cert.ReferenceIdeal.main_v476) = dvOut (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread _ _).loc Cert.ReferenceIdeal.main_v477) = dwOut (m ((c.tc : Thread _ _).loc Cert.ReferenceIdeal.main_arg0)) (m ((c.tc : Thread _ _).loc Cert.ReferenceIdeal.main_arg1))
      ∧ r.2.mem ((c.tc : Thread _ _).loc Cert.ReferenceIdeal.main_v478) = dbOut (m ((c.tc : Thread _ _).loc Cert.ReferenceIdeal.main_arg0))
      ∧ r.2.mem ((c.tc : Thread _ _).loc Cert.ReferenceIdeal.main_v479) = dshiftOut (m ((c.tc : Thread _ _).loc Cert.ReferenceIdeal.main_arg0)) (m ((c.tc : Thread _ _).loc Cert.ReferenceIdeal.main_arg1)) (m ((c.tc : Thread _ _).loc Cert.ReferenceIdeal.main_arg2))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1)
      ∧ r.2.mem ((c.tc : Thread _ _).loc Cert.ReferenceIdeal.main_arg2) = m ((c.tc : Thread _ _).loc Cert.ReferenceIdeal.main_arg2)) :=
  (θ_run Cert.ReferenceIdeal.defs _ _).mono (fun _ h c =>
    ⟨((h c).1.trans (Cert.ReferenceIdeal.Read.val_main_v476_eq _)).trans (ref0 _ _ _),
     ((h c).2.1.trans (Cert.ReferenceIdeal.Read.val_main_v477_eq _)).trans (ref1 _ _),
     ((h c).2.2.1.trans (Cert.ReferenceIdeal.Read.val_main_v478_eq _)).trans (ref2 _),
     ((h c).2.2.2.1.trans (Cert.ReferenceIdeal.Read.val_main_v479_eq _)).trans (ref3 _ _ _),
     (h c).2.2.2.2⟩) (Cert.ReferenceIdeal.Value.run (F := Ideal) m g)

/-- The reference's frame: it declares no semaphore. -/
theorem conv_reference_frame : Cert.quiescent_ReferenceIdeal := fun m g _ =>
  (θ_run Cert.ReferenceIdeal.defs _ _).mono (fun r h => ⟨fun c => (h c).2.2.2.2, sem_eq_zero_of_no_sems (by decide) r.2⟩)
    (conv_reference m g)

/-- The kernel's results are the reference's. -/
theorem conv_algebraic : Cert.algebraic_KernelIdeal_ReferenceIdeal := by
  intro m g m' g' _ hagree
  refine ⟨fun c => dvOut (m ((c.tc : Thread _ _).loc Cert.KernelIdeal.main_arg0)) (m ((c.tc : Thread _ _).loc Cert.KernelIdeal.main_arg1)) (m ((c.tc : Thread _ _).loc Cert.KernelIdeal.main_arg2)),
    fun c => dwOut (m ((c.tc : Thread _ _).loc Cert.KernelIdeal.main_arg0)) (m ((c.tc : Thread _ _).loc Cert.KernelIdeal.main_arg1)),
    fun c => dbOut (m ((c.tc : Thread _ _).loc Cert.KernelIdeal.main_arg0)),
    fun c => dshiftOut (m ((c.tc : Thread _ _).loc Cert.KernelIdeal.main_arg0)) (m ((c.tc : Thread _ _).loc Cert.KernelIdeal.main_arg1)) (m ((c.tc : Thread _ _).loc Cert.KernelIdeal.main_arg2)), ?_, ?_⟩
  · exact (θ_run Cert.KernelIdeal.defs _ _).mono (fun _ h c =>
      ⟨(h c).1.trans (Cert.KernelIdeal.Gen.arr5 m c), (h c).2.1.trans (Cert.KernelIdeal.Gen.arr6 m c),
       (h c).2.2.1.trans (Cert.KernelIdeal.Gen.arr7 m c), (h c).2.2.2.1.trans (Cert.KernelIdeal.Gen.arr8 m c), (h c).2.2.2.2⟩)
      (Cert.KernelIdeal.Value.run_blocks (F := Ideal) m g)
  · refine (θ_run Cert.ReferenceIdeal.defs _ _).mono (fun _ h c => ?_) (conv_reference m' g')
    obtain ⟨h0, h1, h2, h3, hk⟩ := h c
    obtain ⟨e0, e1, e2⟩ := hagree c
    rw [e0, e1, e2] at h0
    rw [e0, e1] at h1
    rw [e0] at h2
    rw [e0, e1, e2] at h3
    exact ⟨h0, h1, h2, h3, hk⟩

end Cert.Proof
-- ==== Proof.MlpSpec.lean ====
/- The quantities of the multilayer perceptron that its calls share, at indices. -/
module
public import Idealize.ShloMosaic.Lib.Pointwise
@[expose] public section
noncomputable section
namespace Mlp
open Idealize.ShloMosaic

/-- The squared positive part. -/
def psq (a : EReal) : EReal := max a 0 * max a 0

/-- The square root of an activation as the call takes it: the activation times its reciprocal square root, floored. -/
def root (p : EReal) : EReal := p * Ideal.rsqrt (max p (Ideal.ofBits .f32 0x00800000#32))

/-- The mean of a row's squares, plus the small constant. -/
def ms (H : (⟨2, ![8320, 1024]⟩ : Shape).Idx → EReal) (n : Fin 8320) : EReal :=
  Ideal.div (∑ k : Fin 1024, H (ix2 n k) * H (ix2 n k)) (Ideal.ofBits .f32 0x44800000#32) + Ideal.ofBits .f32 0x358637BD#32

/-- A row's normalisation by its root mean square, times the gain. -/
def rms (H : (⟨2, ![8320, 1024]⟩ : Shape).Idx → EReal) (G : (⟨2, ![1, 1024]⟩ : Shape).Idx → EReal) (n : Fin 8320) (k : Fin 1024) : EReal :=
  H (ix2 n k) * Ideal.rsqrt (ms H n) * G (ix2 0 k)

/-- The same of one row. -/
def rmsRow (x g : Fin 1024 → EReal) (k : Fin 1024) : EReal :=
  x k * Ideal.rsqrt (Ideal.div (∑ j : Fin 1024, x j * x j) (Ideal.ofBits .f32 0x44800000#32) + Ideal.ofBits .f32 0x358637BD#32) * g k

/-- The reciprocal root mean square of a row. -/
def rinv (x : Fin 1024 → EReal) : EReal :=
  Ideal.rsqrt (Ideal.div (∑ j : Fin 1024, x j * x j) (Ideal.ofBits .f32 0x44800000#32) + Ideal.ofBits .f32 0x358637BD#32)

/-- A row of the gradient at the normalisation's input as the call takes it: the row of the residual's gradient `o`, and the
    normalisation's derivative at `x`, with gain `g`, of the row `D` of the gradient at its output. -/
def bwdRow (x g D o : Fin 1024 → EReal) (k : Fin 1024) : EReal :=
  o k + (rinv x * (D k * g k) - x k * (rinv x * rinv x * rinv x * Ideal.div (∑ j : Fin 1024, x j * (D j * g j)) (Ideal.ofBits .f32 0x44800000#32)))

end Mlp
-- ==== Proof.Dact.lean ====
/- What the call that computes the gradient before the activation leaves in its result. -/
module
public import proofs.«01_k».proof.Proof.Gen.Kernel2Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel2Ideal.Gen
open Idealize.ShloMosaic Idealize.ShloMosaic.TcCoe Idealize.SL.Sem Mlp

variable (m : (ℓ : Loc nD τ sig) → Buf (Elt Ideal) ℓ) (c : Dev nD)

abbrev DHm : (⟨2, ![8320, 1024]⟩ : Shape).Idx → EReal := m ((c.tc : Thread nD τ).loc main_arg0)
abbrev Wm : (⟨2, ![4096, 1024]⟩ : Shape).Idx → EReal := m ((c.tc : Thread nD τ).loc main_arg1)
abbrev Rm : (⟨2, ![8320, 4096]⟩ : Shape).Idx → EReal := m ((c.tc : Thread nD τ).loc main_arg2)

theorem lt13 (t : Fin cfg0.N) : t.val < 13 := by
  have := t.isLt
  have h : cfg0.N = 13 := N_0
  omega

/-- The weights as the call takes them, by the devices' rows. -/
theorem w_at : (V m c main_v1 : (⟨4, ![8, 1, 512, 1024]⟩ : Shape).Idx → EReal) = shapeCast S8x1x512x1024 (Wm m c) shapeCasts_S4096x1024_S8x1x512x1024 := by
  unfold V
  simp only [hostOps0, hostOps0_1, hostOps0_2, List.flatten_cons, List.flatten_nil, List.append_nil, List.cons_append, List.nil_append]
  after_results
  rfl

/-- The activations, as the host lines before the call leave them. -/
theorem act_at (x : (⟨2, ![8320, 4096]⟩ : Shape).Idx) : (V m c main_v4 : (⟨2, ![8320, 4096]⟩ : Shape).Idx → EReal) x = psq (Rm m c x) := by
  refine (congrFun (?_ : (V m c main_v4 : (⟨2, ![8320, 4096]⟩ : Shape).Idx → EReal) =
    (mulf (F := Ideal) (φ := .f32) (maximumf (F := Ideal) (φ := .f32) (Rm m c) (broadcastInDim S8320x4096 ![] bcast_S_S8320x4096 (constant (F := Ideal) S_ FTy.f32 0#32)))
      (maximumf (F := Ideal) (φ := .f32) (Rm m c) (broadcastInDim S8320x4096 ![] bcast_S_S8320x4096 (constant (F := Ideal) S_ FTy.f32 0#32))))) x).trans ?_
  · unfold V
    simp only [hostOps0, hostOps0_1, hostOps0_2, List.flatten_cons, List.flatten_nil, List.append_nil, List.cons_append, List.nil_append]
    after_results
    rfl
  · unfold psq
    pointwise

/-- What the body leaves at a place of its block. -/
theorem out_at (x0 : (⟨2, ![640, 1024]⟩ : Shape).Idx → EReal) (x1 : (⟨4, ![8, 1, 512, 1024]⟩ : Shape).Idx → EReal) (x2 : (⟨2, ![640, 4096]⟩ : Shape).Idx → EReal) (d : Fin 8) (p : Fin 640) (l : Fin 512) :
    out0_3 (F := Ideal) x0 x1 x2 (ix2 p ⟨512 * d.val + l.val, by omega⟩)
      = (∑ k : Fin 1024, x0 (ix2 p k) * x1 (ix4 d 0 l k)) * (Ideal.ofBits .f32 0x40000000#32 * root (x2 (ix2 p ⟨512 * d.val + l.val, by omega⟩))) := by
  unfold root
  frame_out
  canon_tiles x hx
  all_goals pointwise [k0_pay1, k0_pay2, k0_pay3, k0_pay4, k0_pay5, k0_pay6, k0_pay7, k0_pay8, k0_pay9, k0_pay10, k0_pay11]
  all_goals
    change p.val = _ at hx0
    change 512 * d.val + l.val = _ at hx1
    have hl := l.isLt
    obtain rfl : p = x 0 := Fin.ext hx0
    obtain rfl : l = x 1 := Fin.ext (by omega)
  · obtain rfl : d = (7 : Fin 8) := Fin.ext (by show d.val = 7; omega)
    rfl
  · obtain rfl : d = (6 : Fin 8) := Fin.ext (by show d.val = 6; omega)
    rfl
  · obtain rfl : d = (5 : Fin 8) := Fin.ext (by show d.val = 5; omega)
    rfl
  · obtain rfl : d = (4 : Fin 8) := Fin.ext (by show d.val = 4; omega)
    rfl
  · obtain rfl : d = (3 : Fin 8) := Fin.ext (by show d.val = 3; omega)
    rfl
  · obtain rfl : d = (2 : Fin 8) := Fin.ext (by show d.val = 2; omega)
    rfl
  · obtain rfl : d = (1 : Fin 8) := Fin.ext (by show d.val = 1; omega)
    rfl
  · obtain rfl : d = (0 : Fin 8) := Fin.ext (by show d.val = 0; omega)
    simp only [Fin.val_zero, Nat.mul_zero, Nat.zero_add]

abbrev X0 (t : Fin cfg0.N) : (⟨2, ![640, 1024]⟩ : Shape).Idx → EReal := iblk m c 0 t
abbrev X1 (t : Fin cfg0.N) : (⟨4, ![8, 1, 512, 1024]⟩ : Shape).Idx → EReal := iblk m c 1 t
abbrev X2 (t : Fin cfg0.N) : (⟨2, ![640, 4096]⟩ : Shape).Idx → EReal := iblk m c 2 t

theorem idx_0 (t : Fin cfg0.N) : win0_0.index t = ![t.val, 0] :=
  (by decide +kernel : ∀ t : Fin grid0.N, win0_0.index t = ![t.val, 0]) t
theorem idx_1 (t : Fin cfg0.N) : win0_1.index t = ![0, 0, 0, 0] :=
  (by decide +kernel : ∀ t : Fin grid0.N, win0_1.index t = ![0, 0, 0, 0]) t
theorem idx_2 (t : Fin cfg0.N) : win0_2.index t = ![t.val, 0] :=
  (by decide +kernel : ∀ t : Fin grid0.N, win0_2.index t = ![t.val, 0]) t
theorem idx_3 (t : Fin cfg0.N) : win0_3.index t = ![t.val, 0] :=
  (by decide +kernel : ∀ t : Fin grid0.N, win0_3.index t = ![t.val, 0]) t

theorem blk0 (t : Fin cfg0.N) (p : Fin 640) (k : Fin 1024) : X0 m c t (ix2 p k) = DHm m c (ix2 ⟨640 * t.val + p.val, by have := lt13 t; omega⟩ k) := by
  blk_ext [X0, iblk, V_main_arg0, idx_0 t]

theorem blk1 (t : Fin cfg0.N) (d : Fin 8) (l : Fin 512) (k : Fin 1024) : X1 m c t (ix4 d 0 l k) = Wm m c (ix2 ⟨512 * d.val + l.val, by omega⟩ k) := by
  have h : X1 m c t (ix4 d 0 l k) = shapeCast S8x1x512x1024 (Wm m c) shapeCasts_S4096x1024_S8x1x512x1024 (ix4 d 0 l k) := by
    rw [← w_at m c]
    blk_ext [X1, iblk, idx_1 t]
  rw [h]
  pointwise
  exact congrArg (fun q : Fin 4096 => Wm m c (ix2 q k)) (Fin.ext (by show d.val * 512 + l.val = 512 * d.val + l.val; omega))

theorem blk2 (t : Fin cfg0.N) (p : Fin 640) (j : Fin 4096) : X2 m c t (ix2 p j) = psq (Rm m c (ix2 ⟨640 * t.val + p.val, by have := lt13 t; omega⟩ j)) := by
  have h : X2 m c t (ix2 p j) = (V m c main_v4 : (⟨2, ![8320, 4096]⟩ : Shape).Idx → EReal) (ix2 ⟨640 * t.val + p.val, by have := lt13 t; omega⟩ j) := by
    blk_ext [X2, iblk, idx_2 t]
  rw [h, act_at m c]

/-- The gradient before the activation, as the call leaves it. -/
def outF (D : (⟨2, ![8320, 1024]⟩ : Shape).Idx → EReal) (W : (⟨2, ![4096, 1024]⟩ : Shape).Idx → EReal) (R : (⟨2, ![8320, 4096]⟩ : Shape).Idx → EReal) :
    (⟨2, ![8320, 4096]⟩ : Shape).Idx → EReal :=
  fun x => (∑ k : Fin 1024, D (ix2 ⟨(x 0).val, (x 0).isLt⟩ k) * W (ix2 ⟨(x 1).val, (x 1).isLt⟩ k)) * (Ideal.ofBits .f32 0x40000000#32 * root (psq (R x)))

theorem arr3 : (dats m 0 c).arrAt 3 cfg0.N = outF (DHm m c) (Wm m c) (Rm m c) := by
  refine (dats m 0 c).arrAt_eq_of_covers 3 _ (by decide +kernel) fun t hf y => ?_
  have h13 := lt13 t
  have y0 : (y 0).val < 640 := (y 0).isLt
  have y1 : (y 1).val < 4096 := (y 1).isLt
  have e : ((cfg0.win 3).blk t).view.emb y = ix2 (⟨640 * t.val + (y 0).val, by omega⟩ : Fin 8320) (⟨(y 1).val, y1⟩ : Fin 4096) := by
    blk_ext [idx_3 t]
  rw [e]
  blk_simp
  rw [after0_3]
  have hy : y = ix2 (⟨(y 0).val, y0⟩ : Fin 640) (⟨512 * ((y 1).val / 512) + (y 1).val % 512, by omega⟩ : Fin 4096) := by
    funext a
    match a with
    | 0 => rfl
    | 1 => exact Fin.ext (by show (y 1).val = 512 * ((y 1).val / 512) + (y 1).val % 512; omega)
  have hq : (⟨512 * ((y 1).val / 512) + (y 1).val % 512, by omega⟩ : Fin 4096) = ⟨(y 1).val, y1⟩ := Fin.ext (by show 512 * ((y 1).val / 512) + (y 1).val % 512 = (y 1).val; omega)
  refine (congrArg (out0_3 (F := Ideal) (X0 m c t) (X1 m c t) (X2 m c t)) hy).trans ((out_at (X0 m c t) (X1 m c t) (X2 m c t) ⟨(y 1).val / 512, by omega⟩ ⟨(y 0).val, y0⟩ ⟨(y 1).val % 512, by omega⟩).trans ?_)
  simp only [blk0, blk1, blk2, hq]
  rfl

end Cert.Kernel2Ideal.Gen
-- ==== Proof.DactMath.lean ====
/- The square root of a squared positive part, taken with a floor, is the positive part. -/
module
public import proofs.«01_k».proof.Proof.MlpSpec
public import Idealize.ShloMosaic.Lib.IdealHost
@[expose] public section
noncomputable section
namespace Mlp
open Idealize.ShloMosaic

theorem floor_eq : Ideal.ofBits .f32 0x00800000#32 = (((2 : ℝ) ^ 126)⁻¹ : ℝ) := by
  simp [Ideal.ofBits, Ideal.ieee, -EReal.coe_mul, -EReal.coe_pow]; norm_num

theorem low_eq : Ideal.ofBits .f32 0x20000000#32 = (((2 : ℝ) ^ 63)⁻¹ : ℝ) := by
  simp [Ideal.ofBits, Ideal.ieee, -EReal.coe_mul, -EReal.coe_pow]; norm_num

theorem inf_eq : Ideal.ofBits .f32 0x7F800000#32 = ⊤ := by
  simp [Ideal.ofBits, Ideal.ieee]

/-- The values at which the floor leaves the square root exact. -/
def Fit (r : EReal) : Prop := r ≤ 0 ∨ (Ideal.ofBits .f32 0x20000000#32 ≤ r ∧ r < ⊤)

theorem root_zero : root 0 = 0 := by simp [root]

theorem root_psq_pos (r : ℝ) (h : ((2 : ℝ) ^ 63)⁻¹ ≤ r) : root (psq r) = r := by
  have h0 : 0 < r := lt_of_lt_of_le (by positivity) h
  have hf : ((2 : ℝ) ^ 126)⁻¹ ≤ r * r := by
    have : ((2 : ℝ) ^ 126)⁻¹ = ((2 : ℝ) ^ 63)⁻¹ * ((2 : ℝ) ^ 63)⁻¹ := by norm_num
    rw [this]
    exact mul_le_mul h h (by positivity) h0.le
  have hp : psq (r : EReal) = ((r * r : ℝ) : EReal) := by
    rw [psq, max_eq_left (EReal.coe_nonneg.mpr h0.le), EReal.coe_mul]
  have hrr : 0 < r * r := by positivity
  rw [hp, root, floor_eq, max_eq_left (EReal.coe_le_coe_iff.mpr hf), Ideal.rsqrt_coe, if_neg (by linarith), if_neg (by linarith),
    Real.sqrt_mul_self h0.le, ← EReal.coe_mul, mul_assoc, mul_inv_cancel₀ h0.ne', mul_one]

theorem root_psq (r : EReal) (h : Fit r) : root (psq r) = max r 0 := by
  rcases h with h | ⟨hl, ht⟩
  · rw [psq, max_eq_right h, mul_zero, root_zero]
  · rw [low_eq] at hl
    have hb : r ≠ ⊥ := by rintro rfl; exact absurd hl (by simp)
    lift r to ℝ using ⟨ht.ne, hb⟩
    have hl := EReal.coe_le_coe_iff.mp hl
    rw [root_psq_pos r hl, max_eq_left (EReal.coe_nonneg.mpr (le_trans (by positivity) hl))]

/-- The derivative of the squared positive part, times a factor: twice the positive part, and nothing at or below zero. -/
theorem dact_eq (S r : EReal) (h : Fit r) : S * (Ideal.ofBits .f32 0x40000000#32 * root (psq r))
    = if 0 < r then S * (Ideal.ofBits .f32 0x40000000#32 * max r 0) else 0 := by
  rw [root_psq r h]
  split
  · rfl
  · rename_i hr
    rw [max_eq_right (not_lt.mp hr), mul_zero, mul_zero]

end Mlp
-- ==== Proof.DactClaim.lean ====
/- The gradient before the activation is the derivative of the plain forward lines. -/
module
public import proofs.«01_k».proof.Defs
public import proofs.«01_k».proof.Proof.Dact
public import proofs.«01_k».proof.Proof.DactMath
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import Idealize.ShloMosaic.Lib.Quiescent
public import Idealize.ShloMosaic.Lib.Pointwise
@[expose] public section
set_option maxRecDepth 16384
noncomputable section
namespace Cert.Proof.Dact
open Idealize.ShloMosaic Idealize.ShloMosaic.TcCoe Idealize.SL.Sem

theorem eta (x : (⟨2, ![8320, 4096]⟩ : Shape).Idx) : x = ix2 (⟨(x 0).val, (x 0).isLt⟩ : Fin 8320) (⟨(x 1).val, (x 1).isLt⟩ : Fin 4096) := by
  funext a; match a with | 0 => rfl | 1 => rfl

section
open Cert.Reference2Ideal Cert.Reference2Ideal.Read
/-- The reference's result: the derivative of the product with respect to the values before the activation. -/
def refF (D : (⟨2, ![8320, 1024]⟩ : Shape).Idx → EReal) (W : (⟨2, ![4096, 1024]⟩ : Shape).Idx → EReal) (R : (⟨2, ![8320, 4096]⟩ : Shape).Idx → EReal) :
    (⟨2, ![8320, 4096]⟩ : Shape).Idx → EReal :=
  fun x => if 0 < R x then (∑ k : Fin 1024, D (ix2 ⟨(x 0).val, (x 0).isLt⟩ k) * W (ix2 ⟨(x 1).val, (x 1).isLt⟩ k)) * (Ideal.ofBits .f32 0x40000000#32 * max (R x) 0) else 0

theorem ref (D : (⟨2, ![8320, 1024]⟩ : Shape).Idx → EReal) (W : (⟨2, ![4096, 1024]⟩ : Shape).Idx → EReal) (R : (⟨2, ![8320, 4096]⟩ : Shape).Idx → EReal) :
    val_main_v12 (F := Ideal) D W R = refF D W R := by
  rw [← val_main_v12_eq]
  funext x
  unfold refF
  rw [eta x]
  pointwise [Ideal.cmp, Scalar.select, FloatOps.cmpf]
  by_cases h : 0 < R x <;> simp [h]

/-- The precondition at an index. -/
theorem fit [Cert.Pre_representable.Facts] (D : (⟨2, ![8320, 1024]⟩ : Shape).Idx → EReal) (W : (⟨2, ![4096, 1024]⟩ : Shape).Idx → EReal) (R : (⟨2, ![8320, 4096]⟩ : Shape).Idx → EReal)
    (h : Cert.Pre_representable.fn (F := Ideal) D W R = fun _ => 1#1) (x : (⟨2, ![8320, 4096]⟩ : Shape).Idx) : Mlp.Fit (R x) := by
  have e := congrFun h x
  rw [eta x] at e ⊢
  pointwise [Cert.Pre_representable.fn] at e
  rw [← eta x]
  rw [Mlp.inf_eq] at e
  by_cases h1 : R x ≤ 0
  · exact .inl h1
  · by_cases h2 : Ideal.ofBits .f32 0x20000000#32 ≤ R x
    · by_cases h3 : R x < ⊤
      · exact .inr ⟨h2, h3⟩
      · simp [h1, h2, h3, IntOp.ori, IntOp.andi] at e
    · simp [h1, h2, IntOp.ori, IntOp.andi] at e

/-- Under the precondition the call's result is the derivative. -/
theorem eq_ref [Cert.Pre_representable.Facts] (D : (⟨2, ![8320, 1024]⟩ : Shape).Idx → EReal) (W : (⟨2, ![4096, 1024]⟩ : Shape).Idx → EReal) (R : (⟨2, ![8320, 4096]⟩ : Shape).Idx → EReal)
    (h : Cert.Pre_representable.fn (F := Ideal) D W R = fun _ => 1#1) : Cert.Kernel2Ideal.Gen.outF D W R = refF D W R := by
  funext x
  exact Mlp.dact_eq _ _ (fit D W R h x)
end

open Cert.Reference2Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v12) = refF (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)) :=
  (θ_run defs _ _).mono (fun _ h c =>
    ⟨((h c).1.trans (Read.val_main_v12_eq _ _ _)).trans (ref _ _ _), (h c).2⟩) (Value.run (F := Ideal) m g)

/-- The reference's frame: it declares no semaphore. -/
theorem reference_frame : Cert.quiescent_Reference2Ideal := fun m g _ =>
  (θ_run Cert.Reference2Ideal.defs _ _).mono (fun r h => ⟨fun c => (h c).2, sem_eq_zero_of_no_sems (by decide) r.2⟩) (reference_run m g)

/-- The reference's frame under the precondition. -/
theorem reference_frame_pre [Cert.Pre_representable.Facts] : Cert.quiescent_Reference2Ideal_pre_representable := fun m g _ =>
  reference_frame m g trivial

open Cert.Kernel2Ideal in
/-- The kernel's result is the reference's, under the precondition. -/
theorem algebraic [Cert.Pre_representable.Facts] : Cert.algebraic_Kernel2Ideal_Reference2Ideal_pre_representable := by
  intro m g m' g' hpre hagree
  refine ⟨fun c => refF (m ((c.tc : Thread _ _).loc main_arg0)) (m ((c.tc : Thread _ _).loc main_arg1)) (m ((c.tc : Thread _ _).loc main_arg2)), ?_, ?_⟩
  · exact (θ_run defs _ _).mono (fun _ h c => ⟨((h c).1.trans (Gen.arr3 m c)).trans (eq_ref _ _ _ (hpre c)), (h c).2⟩) (Value.run_blocks (F := Ideal) m g)
  · refine (θ_run Cert.Reference2Ideal.defs _ _).mono (fun _ h c => ?_) (reference_run m' g')
    obtain ⟨h0, hk⟩ := h c
    obtain ⟨e0, e1, e2⟩ := hagree c
    rw [e0, e1, e2] at h0
    exact ⟨h0, hk⟩

end Cert.Proof.Dact
-- ==== Proof.DownW.lean ====
/- What the call that computes the gradient of the down weights leaves in its result. -/
module
public import proofs.«01_k».proof.Proof.Gen.Kernel3Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel3Ideal.Gen
open Idealize.ShloMosaic Idealize.ShloMosaic.TcCoe Idealize.SL.Sem Mlp

variable (m : (ℓ : Loc nD τ sig) → Buf (Elt Ideal) ℓ) (c : Dev nD)

abbrev DHm : (⟨2, ![8320, 1024]⟩ : Shape).Idx → EReal := m ((c : Thread nD τ).loc main_arg0)
abbrev Rm : (⟨2, ![8320, 4096]⟩ : Shape).Idx → EReal := m ((c : Thread nD τ).loc main_arg1)

theorem idx_0 : ∀ t : Fin cfg0.N, win0_0.index t = ![t.val % 5, t.val / 5] := by decide +kernel
theorem idx_1 : ∀ t : Fin cfg0.N, win0_1.index t = ![t.val % 5, 0] := by decide +kernel
theorem idx_2 : ∀ t : Fin cfg0.N, win0_2.index t = ![t.val / 5, 0] := by decide +kernel

/-- The activations, as the host lines before the call leave them. -/
theorem act_at (x : (⟨2, ![8320, 4096]⟩ : Shape).Idx) : (V m c main_v2 : (⟨2, ![8320, 4096]⟩ : Shape).Idx → EReal) x = psq (Rm m c x) := by
  refine (congrFun (?_ : (V m c main_v2 : (⟨2, ![8320, 4096]⟩ : Shape).Idx → EReal) =
    (mulf (F := Ideal) (φ := .f32) (maximumf (F := Ideal) (φ := .f32) (Rm m c) (broadcastInDim S8320x4096 ![] bcast_S_S8320x4096 (constant (F := Ideal) S_ FTy.f32 0#32)))
      (maximumf (F := Ideal) (φ := .f32) (Rm m c) (broadcastInDim S8320x4096 ![] bcast_S_S8320x4096 (constant (F := Ideal) S_ FTy.f32 0#32))))) x).trans ?_
  · unfold V
    simp only [hostOps0, hostOps0_1, List.flatten_cons, List.flatten_nil, List.append_nil, List.cons_append, List.nil_append]
    after_results
    rfl
  · unfold psq
    pointwise

/-- Row `n` of column `k` of the activations, and of column `l` of the output's gradient, zero past the last row. -/
def actN (R : (⟨2, ![8320, 4096]⟩ : Shape).Idx → EReal) (k : Fin 4096) (n : ℕ) : EReal := if h : n < 8320 then psq (R (ix2 ⟨n, h⟩ k)) else 0
def dhN (D : (⟨2, ![8320, 1024]⟩ : Shape).Idx → EReal) (l : Fin 1024) (n : ℕ) : EReal := if h : n < 8320 then D (ix2 ⟨n, h⟩ l) else 0

theorem lt10 (t : Fin cfg0.N) : t.val < 10 := by
  have := t.isLt
  have h : cfg0.N = 10 := N_0
  omega

/-- The column of the activations that grid point `t` has at place `p` of its block. -/
def col (t : ℕ) (p : Fin 2048) : Fin 4096 := ⟨2048 * (t / 5 % 2) + p.val, by omega⟩

theorem blk0 (t : Fin cfg0.N) (p : Fin 1664) (k : Fin 2048) : iblk m c 0 t (ix2 p k) = actN (Rm m c) (col t.val k) (1664 * (t.val % 5) + p.val) := by
  have h := lt10 t
  rw [actN, dif_pos (by omega), ← act_at m c]
  unfold col
  blk_ext [iblk, idx_0 t]

theorem blk1 (t : Fin cfg0.N) (p : Fin 1664) (l : Fin 1024) : iblk m c 1 t (ix2 p l) = dhN (DHm m c) l (1664 * (t.val % 5) + p.val) := by
  have h := lt10 t
  rw [dhN, dif_pos (by omega)]
  blk_ext [iblk, V_main_arg0, idx_1 t]

/-- The two input blocks of grid point `t`. -/
abbrev X0 (t : Fin cfg0.N) : (⟨2, ![1664, 2048]⟩ : Shape).Idx → EReal := iblk m c 0 t
abbrev X1 (t : Fin cfg0.N) : (⟨2, ![1664, 1024]⟩ : Shape).Idx → EReal := iblk m c 1 t

/-- What point `t` adds to the accumulator. -/
def addend (t : ℕ) (y : (⟨2, ![2048, 1024]⟩ : Shape).Idx) : EReal :=
  ∑ p : Fin 1664, actN (Rm m c) (col t ⟨(y 0).val, (y 0).isLt⟩) (1664 * (t % 5) + p.val) * dhN (DHm m c) ⟨(y 1).val, (y 1).isLt⟩ (1664 * (t % 5) + p.val)

theorem eta (y : (⟨2, ![2048, 1024]⟩ : Shape).Idx) : y = ix2 (⟨(y 0).val, (y 0).isLt⟩ : Fin 2048) (⟨(y 1).val, (y 1).isLt⟩ : Fin 1024) := by
  funext a; match a with | 0 => rfl | 1 => rfl

theorem prod_eq (t : Fin cfg0.N) (y : (⟨2, ![2048, 1024]⟩ : Shape).Idx) :
    ∑ p : Fin 1664, X0 m c t (ix2 p ⟨(y 0).val, (y 0).isLt⟩) * X1 m c t (ix2 p ⟨(y 1).val, (y 1).isLt⟩) = addend m c t.val y :=
  Finset.sum_congr rfl fun p _ => congrArg₂ (· * ·) (blk0 m c t p _) (blk1 m c t p _)

theorem step_A (t : Fin cfg0.N) (h0 : t.val % 5 = 0) (y : (⟨2, ![2048, 1024]⟩ : Shape).Idx) :
    (outsAt0 m c t.val t.isLt).2 y = 0 + addend m c t.val y := by
  rw [← prod_eq, outsAt0_A m c t h0 (by omega), eta y]
  dsimp only
  frame_out
  pointwise [k0_pay1, k0_pay2]

theorem step_B (t : Fin cfg0.N) (h0 : ¬ t.val % 5 = 0) (y : (⟨2, ![2048, 1024]⟩ : Shape).Idx) :
    (outsAt0 m c t.val t.isLt).2 y = (outsAt0 m c (t.val - 1) (Nat.lt_of_le_of_lt (Nat.sub_le _ _) t.isLt)).2 y + addend m c t.val y := by
  rw [← prod_eq]
  by_cases h1 : t.val % 5 = 4
  · rw [outsAt0_C m c t h0 h1, eta y]
    dsimp only
    frame_out
    pointwise [k0_pay1, k0_pay2]
    exact congrArg (· + _) (congrFun (Memref.IsWhole.read_unread _ _) _)
  · rw [outsAt0_B m c t h0 h1, eta y]
    dsimp only
    frame_out
    pointwise [k0_pay1, k0_pay2]
    exact congrArg (· + _) (congrFun (Memref.IsWhole.read_unread _ _) _)

/-- The accumulator's last contents are what the point writes back. -/
theorem out_C (t : Fin cfg0.N) (h1 : t.val % 5 = 4) (y : (⟨2, ![2048, 1024]⟩ : Shape).Idx) :
    (outsAt0 m c t.val t.isLt).1 y = (outsAt0 m c t.val t.isLt).2 y := by
  rw [outsAt0_C m c t (by omega) h1, eta y]
  dsimp only
  frame_out
  pointwise [k0_pay1, k0_pay2, k0_pay3]

/-- The accumulator after the last of five points. -/
theorem last (t : Fin cfg0.N) (h : t.val % 5 = 4) (y : (⟨2, ![2048, 1024]⟩ : Shape).Idx) :
    (outsAt0 m c t.val t.isLt).1 y
      = ∑ n ∈ Finset.range 8320, actN (Rm m c) (col t.val ⟨(y 0).val, (y 0).isLt⟩) n * dhN (DHm m c) ⟨(y 1).val, (y 1).isLt⟩ n := by
  rw [out_C m c t h, Pipeline.eq_sum_of_reset_step_apply_of_mod (fun n h => (outsAt0 m c n h).2) 5 (fun _ => (0 : EReal))
    (addend m c) (step_A m c) (step_B m c) t h y, zero_add,
    show 8320 = 5 * 1664 from rfl, Finset.sum_range_mul_split 5 1664]
  refine Finset.sum_congr rfl fun k hk => ?_
  have hk : k < 5 := Finset.mem_range.mp hk
  rw [Finset.sum_range, addend]
  refine Finset.sum_congr rfl fun p _ => ?_
  have e1 : (5 * (t.val / 5) + k) % 5 = k := by omega
  have e2 : col (5 * (t.val / 5) + k) ⟨(y 0).val, (y 0).isLt⟩ = col t.val ⟨(y 0).val, (y 0).isLt⟩ := by
    unfold col
    have : (5 * (t.val / 5) + k) / 5 = t.val / 5 := by omega
    exact Fin.ext (by simp only [this])
  rw [e1, e2, Nat.mul_comm]

/-- The gradient of the down weights, as the call leaves it. -/
def outF (D : (⟨2, ![8320, 1024]⟩ : Shape).Idx → EReal) (R : (⟨2, ![8320, 4096]⟩ : Shape).Idx → EReal) : (⟨2, ![4096, 1024]⟩ : Shape).Idx → EReal :=
  fun x => ∑ n : Fin 8320, psq (R (ix2 n ⟨(x 0).val, (x 0).isLt⟩)) * D (ix2 n ⟨(x 1).val, (x 1).isLt⟩)

theorem arr2 : (dats m 0 c).arrAt 2 cfg0.N = outF (DHm m c) (Rm m c) := by
  refine (dats m 0 c).arrAt_eq_of_covers 2 _ (by decide +kernel) fun t hf y => ?_
  have h10 := lt10 t
  have e : ((cfg0.win 2).blk t).view.emb y = ix2 (⟨2048 * (t.val / 5) + (y 0).val, by have : (y 0).val < 2048 := (y 0).isLt; omega⟩ : Fin 4096) (⟨(y 1).val, (y 1).isLt⟩ : Fin 1024) := by
    blk_ext [idx_2 t]
  rw [e]
  blk_simp
  rw [after0_2]
  refine (last m c t ((flush0_2 t).mp hf) y).trans ?_
  rw [Finset.sum_range]
  refine Finset.sum_congr rfl fun n _ => ?_
  rw [actN, dif_pos n.isLt, dhN, dif_pos n.isLt]
  have e3 : col t.val ⟨(y 0).val, (y 0).isLt⟩ = ⟨2048 * (t.val / 5) + (y 0).val, by have : (y 0).val < 2048 := (y 0).isLt; omega⟩ := by
    unfold col
    apply Fin.ext
    show 2048 * (t.val / 5 % 2) + (y 0).val = _
    have : t.val / 5 % 2 = t.val / 5 := by omega
    rw [this]
  rw [e3]
  rfl

end Cert.Kernel3Ideal.Gen
-- ==== Proof.DownWClaim.lean ====
/- The gradient of the down weights is the derivative of the plain forward lines. -/
module
public import proofs.«01_k».proof.Defs
public import proofs.«01_k».proof.Proof.DownW
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import Idealize.ShloMosaic.Lib.Quiescent
public import Idealize.ShloMosaic.Lib.Pointwise
@[expose] public section
set_option maxRecDepth 16384
noncomputable section
namespace Cert.Proof.DownW
open Idealize.ShloMosaic Idealize.ShloMosaic.TcCoe Idealize.SL.Sem

theorem eta (x : (⟨2, ![4096, 1024]⟩ : Shape).Idx) : x = ix2 (⟨(x 0).val, (x 0).isLt⟩ : Fin 4096) (⟨(x 1).val, (x 1).isLt⟩ : Fin 1024) := by
  funext a; match a with | 0 => rfl | 1 => rfl

section
open Cert.Reference3Ideal Cert.Reference3Ideal.Read
/-- The reference's result: the derivative of the product with respect to its right factor. -/
theorem ref (D : (⟨2, ![8320, 1024]⟩ : Shape).Idx → EReal) (R : (⟨2, ![8320, 4096]⟩ : Shape).Idx → EReal) :
    val_main_v6 (F := Ideal) D R = Cert.Kernel3Ideal.Gen.outF D R := by
  funext x
  rw [eta x]
  unfold Cert.Kernel3Ideal.Gen.outF Mlp.psq
  pointwise [val_main_v6, val_main_v5, val_main_v4, val_main_v2, val_main_v1, val_main_call0_v0, val_main_call0_cst]
  exact Finset.sum_congr rfl fun n _ => mul_comm _ _
end

open Cert.Reference3Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v6) = Cert.Kernel3Ideal.Gen.outF (m ((c.tc : Thread _ _).loc main_arg0)) (m ((c.tc : Thread _ _).loc main_arg1))
      ∧ r.2.mem ((c.tc : Thread _ _).loc main_arg0) = m ((c.tc : Thread _ _).loc main_arg0)
      ∧ r.2.mem ((c.tc : Thread _ _).loc main_arg1) = m ((c.tc : Thread _ _).loc main_arg1)) :=
  (θ_run defs _ _).mono (fun _ h c =>
    ⟨((h c).1.trans (Read.val_main_v6_eq _ _)).trans (ref _ _), (h c).2⟩) (Value.run (F := Ideal) m g)

/-- The reference's frame: it declares no semaphore. -/
theorem reference_frame : Cert.quiescent_Reference3Ideal := fun m g _ =>
  (θ_run Cert.Reference3Ideal.defs _ _).mono (fun r h => ⟨fun c => (h c).2, sem_eq_zero_of_no_sems (by decide) r.2⟩) (reference_run m g)

open Cert.Kernel3Ideal in
/-- The kernel's results are the reference's. -/
theorem algebraic : Cert.algebraic_Kernel3Ideal_Reference3Ideal := by
  intro m g m' g' _ hagree
  refine ⟨fun c => Gen.outF (m ((c.tc : Thread _ _).loc main_arg0)) (m ((c.tc : Thread _ _).loc main_arg1)), ?_, ?_⟩
  · exact (θ_run defs _ _).mono (fun _ h c => ⟨(h c).1.trans (Gen.arr2 m c), (h c).2⟩) (Value.run_blocks (F := Ideal) m g)
  · refine (θ_run Cert.Reference3Ideal.defs _ _).mono (fun _ h c => ?_) (reference_run m' g')
    obtain ⟨h0, hk⟩ := h c
    obtain ⟨e0, e1⟩ := hagree c
    rw [e0, e1] at h0
    exact ⟨h0, hk⟩

end Cert.Proof.DownW
-- ==== Proof.UpW.lean ====
/- What the call that computes the gradient of the up weights leaves in its result. -/
module
public import proofs.«01_k».proof.Proof.Gen.Kernel4Ideal.Value
public import Idealize.ShloMosaic.Lib.Pipeline.ValueKit
public import Idealize.ShloMosaic.Lib.Pipeline.ReadBack
public import Idealize.ShloMosaic.Lib.Pointwise
public import proofs.«01_k».proof.Proof.MlpSpec
@[expose] public section
set_option maxRecDepth 16384
noncomputable section
namespace Cert.Kernel4Ideal.Gen
open Idealize.ShloMosaic Idealize.ShloMosaic.TcCoe Idealize.SL.Sem Mlp

variable (m : (ℓ : Loc nD τ sig) → Buf (Elt Ideal) ℓ) (c : Dev nD)

abbrev DRm : (⟨2, ![8320, 4096]⟩ : Shape).Idx → EReal := m ((c : Thread nD τ).loc main_arg0)
abbrev Hm : (⟨2, ![8320, 1024]⟩ : Shape).Idx → EReal := m ((c : Thread nD τ).loc main_arg1)
abbrev Gm : (⟨2, ![1, 1024]⟩ : Shape).Idx → EReal := m ((c : Thread nD τ).loc main_arg2)

theorem idx_0 : ∀ t : Fin cfg0.N, win0_0.index t = ![t.val % 5, 0] := by decide +kernel
theorem idx_1 : ∀ t : Fin cfg0.N, win0_1.index t = ![t.val % 5, t.val / 5] := by decide +kernel
theorem idx_2 : ∀ t : Fin cfg0.N, win0_2.index t = ![t.val / 5, 0, 0] := by decide +kernel

/-- The lines of the root mean square norm. -/
def rmsLines (H : (⟨2, ![8320, 1024]⟩ : Shape).Idx → EReal) (G : (⟨2, ![1, 1024]⟩ : Shape).Idx → EReal) : (⟨2, ![8320, 1024]⟩ : Shape).Idx → EReal :=
  mulf (F := Ideal) (φ := .f32) (mulf (F := Ideal) (φ := .f32) H (broadcastInDim S8320x1024 ![0, 1] bcast_S8320x1_S8320x1024_0_1 (Host.rsqrt (F := Ideal) (φ := .f32) (addf (F := Ideal) (φ := .f32) (Host.divf (F := Ideal) (φ := .f32) (broadcastInDim S8320x1 ![0] bcast_S8320_S8320x1_0 (Host.reduceAdd (F := Ideal) (φ := .f32) (mulf (F := Ideal) (φ := .f32) H H) (constant (F := Ideal) S_ FTy.f32 0#32) reducesTo_S8320x1024_S8320_d1 h_S_)) (broadcastInDim S8320x1 ![] bcast_S_S8320x1 (constant (F := Ideal) S_ FTy.f32 0x44800000#32))) (broadcastInDim S8320x1 ![] bcast_S_S8320x1 (constant (F := Ideal) S_ FTy.f32 0x358637BD#32)))))) (broadcastInDim S8320x1024 ![0, 1] bcast_S1x1024_S8320x1024_0_1 G)

theorem u_lines : (V m c main_v12 : (⟨2, ![8320, 1024]⟩ : Shape).Idx → EReal) = rmsLines (Hm m c) (Gm m c) := by
  unfold V
  simp only [hostOps0, List.flatten_cons, List.flatten_nil, List.append_nil, List.cons_append, List.nil_append]
  after_results
  rfl

theorem rms_at (H : (⟨2, ![8320, 1024]⟩ : Shape).Idx → EReal) (G : (⟨2, ![1, 1024]⟩ : Shape).Idx → EReal) (n : Fin 8320) (k : Fin 1024) :
    rmsLines H G (ix2 n k) = rms H G n k := by
  unfold rmsLines rms ms
  pointwise

theorem dr_at : (V m c main_v13 : (⟨2, ![8320, 4096]⟩ : Shape).Idx → EReal) = DRm m c := by
  unfold V
  simp only [hostOps0, List.flatten_cons, List.flatten_nil, List.append_nil, List.cons_append, List.nil_append]
  after_results
  rfl

/-- Row `n` of column `k` of the normalised input, and of column `l` of the gradient at the product, zero past the last row. -/
def uN (H : (⟨2, ![8320, 1024]⟩ : Shape).Idx → EReal) (G : (⟨2, ![1, 1024]⟩ : Shape).Idx → EReal) (k : Fin 1024) (n : ℕ) : EReal := if h : n < 8320 then rms H G ⟨n, h⟩ k else 0
def drN (D : (⟨2, ![8320, 4096]⟩ : Shape).Idx → EReal) (l : Fin 4096) (n : ℕ) : EReal := if h : n < 8320 then D (ix2 ⟨n, h⟩ l) else 0

theorem lt10 (t : Fin cfg0.N) : t.val < 10 := by
  have := t.isLt
  have h : cfg0.N = 10 := N_0
  omega

/-- The column of the gradient that grid point `t` has at place `p` of its block. -/
def col (t : ℕ) (p : Fin 2048) : Fin 4096 := ⟨2048 * (t / 5 % 2) + p.val, by omega⟩

/-- The two input blocks of grid point `t`. -/
abbrev X0 (t : Fin cfg0.N) : (⟨2, ![1664, 1024]⟩ : Shape).Idx → EReal := iblk m c 0 t
abbrev X1 (t : Fin cfg0.N) : (⟨2, ![1664, 2048]⟩ : Shape).Idx → EReal := iblk m c 1 t

theorem blk0 (t : Fin cfg0.N) (p : Fin 1664) (k : Fin 1024) : X0 m c t (ix2 p k) = uN (Hm m c) (Gm m c) k (1664 * (t.val % 5) + p.val) := by
  have h := lt10 t
  rw [uN, dif_pos (by omega), ← rms_at, ← u_lines m c]
  blk_ext [X0, iblk, idx_0 t]

theorem blk1 (t : Fin cfg0.N) (p : Fin 1664) (l : Fin 2048) : X1 m c t (ix2 p l) = drN (DRm m c) (col t.val l) (1664 * (t.val % 5) + p.val) := by
  have h := lt10 t
  rw [drN, dif_pos (by omega), ← dr_at m c]
  unfold col
  blk_ext [X1, iblk, idx_1 t]

/-- What point `t` adds to the accumulator. -/
def addend (t : ℕ) (y : (⟨2, ![1024, 2048]⟩ : Shape).Idx) : EReal :=
  ∑ p : Fin 1664, uN (Hm m c) (Gm m c) ⟨(y 0).val, (y 0).isLt⟩ (1664 * (t % 5) + p.val) * drN (DRm m c) (col t ⟨(y 1).val, (y 1).isLt⟩) (1664 * (t % 5) + p.val)

theorem eta (y : (⟨2, ![1024, 2048]⟩ : Shape).Idx) : y = ix2 (⟨(y 0).val, (y 0).isLt⟩ : Fin 1024) (⟨(y 1).val, (y 1).isLt⟩ : Fin 2048) := by
  funext a; match a with | 0 => rfl | 1 => rfl

theorem prod_eq (t : Fin cfg0.N) (y : (⟨2, ![1024, 2048]⟩ : Shape).Idx) :
    ∑ p : Fin 1664, X0 m c t (ix2 p ⟨(y 0).val, (y 0).isLt⟩) * X1 m c t (ix2 p ⟨(y 1).val, (y 1).isLt⟩) = addend m c t.val y :=
  Finset.sum_congr rfl fun p _ => congrArg₂ (· * ·) (blk0 m c t p _) (blk1 m c t p _)

theorem step_A (t : Fin cfg0.N) (h0 : t.val % 5 = 0) (y : (⟨2, ![1024, 2048]⟩ : Shape).Idx) :
    (outsAt0 m c t.val t.isLt).2 y = 0 + addend m c t.val y := by
  rw [← prod_eq, outsAt0_A m c t h0 (by omega), eta y]
  dsimp only
  frame_out
  pointwise [k0_pay1, k0_pay2]

theorem step_B (t : Fin cfg0.N) (h0 : ¬ t.val % 5 = 0) (y : (⟨2, ![1024, 2048]⟩ : Shape).Idx) :
    (outsAt0 m c t.val t.isLt).2 y = (outsAt0 m c (t.val - 1) (Nat.lt_of_le_of_lt (Nat.sub_le _ _) t.isLt)).2 y + addend m c t.val y := by
  rw [← prod_eq]
  by_cases h1 : t.val % 5 = 4
  · rw [outsAt0_C m c t h0 h1, eta y]
    dsimp only
    frame_out
    pointwise [k0_pay1, k0_pay2]
    exact congrArg (· + _) (congrFun (Memref.IsWhole.read_unread _ _) _)
  · rw [outsAt0_B m c t h0 h1, eta y]
    dsimp only
    frame_out
    pointwise [k0_pay1, k0_pay2]
    exact congrArg (· + _) (congrFun (Memref.IsWhole.read_unread _ _) _)

/-- The accumulator's last contents, cut into the devices' columns, are what the point writes back. -/
theorem out_C (t : Fin cfg0.N) (h1 : t.val % 5 = 4) (d : Fin 4) (k : Fin 1024) (l : Fin 512) :
    (outsAt0 m c t.val t.isLt).1 (ix3 d k l) = (outsAt0 m c t.val t.isLt).2 (ix2 k ⟨512 * d.val + l.val, by omega⟩) := by
  rw [outsAt0_C m c t (by omega) h1]
  dsimp only
  frame_out
  have hz : ∀ a : Fin 2, (![0, 0] : Fin 2 → ℕ) a = 0 := by decide
  rw [View.readCov_fill _ _ _ _ _ hz, View.readCov_fill _ _ _ _ _ hz, View.readCov_fill _ _ _ _ _ hz, View.readCov_fill _ _ _ _ _ hz]
  generalize k0_pay2 (F := Ideal) _ _ _ = W
  canon_tiles x hx
  all_goals pointwise [k0_pay3, k0_pay4, k0_pay5, k0_pay6]
  all_goals refine congrArg W ?_
  all_goals
    change d.val = _ at hx0
    change k.val = _ at hx1
    change l.val = _ at hx2
    funext a
    match a with
    | 0 => exact Fin.ext (by show (x 1).val = k.val; omega)
    | 1 => refine Fin.ext ?_; simp only [ix2]; first | (show 1536 + (x 2).val = 512 * d.val + l.val; omega) | (show 1024 + (x 2).val = 512 * d.val + l.val; omega) | (show 512 + (x 2).val = 512 * d.val + l.val; omega) | (show (x 2).val = 512 * d.val + l.val; omega)

/-- The accumulator after the last of five points. -/
theorem last (t : Fin cfg0.N) (h : t.val % 5 = 4) (y : (⟨2, ![1024, 2048]⟩ : Shape).Idx) :
    (outsAt0 m c t.val t.isLt).2 y
      = ∑ n ∈ Finset.range 8320, uN (Hm m c) (Gm m c) ⟨(y 0).val, (y 0).isLt⟩ n * drN (DRm m c) (col t.val ⟨(y 1).val, (y 1).isLt⟩) n := by
  rw [Pipeline.eq_sum_of_reset_step_apply_of_mod (fun n h => (outsAt0 m c n h).2) 5 (fun _ => (0 : EReal))
    (addend m c) (step_A m c) (step_B m c) t h y, zero_add,
    show 8320 = 5 * 1664 from rfl, Finset.sum_range_mul_split 5 1664]
  refine Finset.sum_congr rfl fun k hk => ?_
  have hk : k < 5 := Finset.mem_range.mp hk
  rw [Finset.sum_range, addend]
  refine Finset.sum_congr rfl fun p _ => ?_
  have e1 : (5 * (t.val / 5) + k) % 5 = k := by omega
  have e2 : col (5 * (t.val / 5) + k) ⟨(y 1).val, (y 1).isLt⟩ = col t.val ⟨(y 1).val, (y 1).isLt⟩ := by
    unfold col
    have : (5 * (t.val / 5) + k) / 5 = t.val / 5 := by omega
    exact Fin.ext (by simp only [this])
  rw [e1, e2, Nat.mul_comm]

/-- The gradient of the up weights, cut into the devices' columns, as the call leaves it. -/
def outF (D : (⟨2, ![8320, 4096]⟩ : Shape).Idx → EReal) (H : (⟨2, ![8320, 1024]⟩ : Shape).Idx → EReal) (G : (⟨2, ![1, 1024]⟩ : Shape).Idx → EReal) :
    (⟨3, ![8, 1024, 512]⟩ : Shape).Idx → EReal :=
  fun x => ∑ n : Fin 8320, rms H G n ⟨(x 1).val, (x 1).isLt⟩ * D (ix2 n ⟨512 * (x 0).val + (x 2).val, by have h0 : (x 0).val < 8 := (x 0).isLt; have h2 : (x 2).val < 512 := (x 2).isLt; omega⟩)

theorem arr2 : (dats m 0 c).arrAt 2 cfg0.N = outF (DRm m c) (Hm m c) (Gm m c) := by
  refine (dats m 0 c).arrAt_eq_of_covers 2 _ (by decide +kernel) fun t hf y => ?_
  have h10 := lt10 t
  have y0 : (y 0).val < 4 := (y 0).isLt
  have y2 : (y 2).val < 512 := (y 2).isLt
  have e : ((cfg0.win 2).blk t).view.emb y = ix3 (⟨4 * (t.val / 5) + (y 0).val, by omega⟩ : Fin 8) (⟨(y 1).val, (y 1).isLt⟩ : Fin 1024) (⟨(y 2).val, (y 2).isLt⟩ : Fin 512) := by
    blk_ext [idx_2 t]
  rw [e]
  blk_simp
  rw [after0_2]
  have hy : y = ix3 (⟨(y 0).val, (y 0).isLt⟩ : Fin 4) (⟨(y 1).val, (y 1).isLt⟩ : Fin 1024) (⟨(y 2).val, (y 2).isLt⟩ : Fin 512) := by funext a; match a with | 0 => rfl | 1 => rfl | 2 => rfl
  refine (congrArg (outsAt0 m c t.val t.isLt).1 hy).trans ((out_C m c t ((flush0_2 t).mp hf) _ _ _).trans ((last m c t ((flush0_2 t).mp hf) _).trans ?_))
  rw [Finset.sum_range]
  refine Finset.sum_congr rfl fun n _ => ?_
  rw [uN, dif_pos n.isLt, drN, dif_pos n.isLt]
  refine congrArg (fun q => rms (Hm m c) (Gm m c) n ⟨(y 1).val, (y 1).isLt⟩ * DRm m c (ix2 n q)) (Fin.ext ?_)
  show 2048 * (t.val / 5 % 2) + (512 * (y 0).val + (y 2).val) = 512 * (4 * (t.val / 5) + (y 0).val) + (y 2).val
  omega

end Cert.Kernel4Ideal.Gen
-- ==== Proof.UpWClaim.lean ====
/- The gradient of the up weights is the derivative of the plain forward lines. -/
module
public import proofs.«01_k».proof.Defs
public import proofs.«01_k».proof.Proof.UpW
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import Idealize.ShloMosaic.Lib.Quiescent
public import Idealize.ShloMosaic.Lib.Pointwise
@[expose] public section
set_option maxRecDepth 16384
noncomputable section
namespace Cert.Proof.UpW
open Idealize.ShloMosaic Idealize.ShloMosaic.TcCoe Idealize.SL.Sem

theorem eta (x : (⟨3, ![8, 1024, 512]⟩ : Shape).Idx) : x = ix3 (⟨(x 0).val, (x 0).isLt⟩ : Fin 8) (⟨(x 1).val, (x 1).isLt⟩ : Fin 1024) (⟨(x 2).val, (x 2).isLt⟩ : Fin 512) := by
  funext a; match a with | 0 => rfl | 1 => rfl | 2 => rfl

section
open Cert.Reference4Ideal Cert.Reference4Ideal.Read
/-- The reference's result: the derivative of the product with respect to its right factor, cut into the devices' columns. -/
theorem ref (D : (⟨2, ![8320, 4096]⟩ : Shape).Idx → EReal) (H : (⟨2, ![8320, 1024]⟩ : Shape).Idx → EReal) (G : (⟨2, ![1, 1024]⟩ : Shape).Idx → EReal) :
    val_main_v18 (F := Ideal) D H G = Cert.Kernel4Ideal.Gen.outF D H G := by
  rw [← val_main_v18_eq]
  funext x
  rw [eta x]
  unfold Cert.Kernel4Ideal.Gen.outF Mlp.rms Mlp.ms
  pointwise
  refine Finset.sum_congr rfl fun n _ => (mul_comm _ _).trans ?_
  refine congrArg (fun q : Fin 4096 => _ * D (ix2 n q)) (Fin.ext (by show (x 0).val * 512 + (x 2).val = 512 * (x 0).val + (x 2).val; omega))
end

open Cert.Reference4Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v18) = Cert.Kernel4Ideal.Gen.outF (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)) :=
  (θ_run defs _ _).mono (fun _ h c =>
    ⟨((h c).1.trans (Read.val_main_v18_eq _ _ _)).trans (ref _ _ _), (h c).2⟩) (Value.run (F := Ideal) m g)

/-- The reference's frame: it declares no semaphore. -/
theorem reference_frame : Cert.quiescent_Reference4Ideal := fun m g _ =>
  (θ_run Cert.Reference4Ideal.defs _ _).mono (fun r h => ⟨fun c => (h c).2, sem_eq_zero_of_no_sems (by decide) r.2⟩) (reference_run m g)

open Cert.Kernel4Ideal in
/-- The kernel's results are the reference's. -/
theorem algebraic : Cert.algebraic_Kernel4Ideal_Reference4Ideal := by
  intro m g m' g' _ hagree
  refine ⟨fun c => Gen.outF (m ((c.tc : Thread _ _).loc main_arg0)) (m ((c.tc : Thread _ _).loc main_arg1)) (m ((c.tc : Thread _ _).loc main_arg2)), ?_, ?_⟩
  · exact (θ_run defs _ _).mono (fun _ h c => ⟨(h c).1.trans (Gen.arr2 m c), (h c).2⟩) (Value.run_blocks (F := Ideal) m g)
  · refine (θ_run Cert.Reference4Ideal.defs _ _).mono (fun _ h c => ?_) (reference_run m' g')
    obtain ⟨h0, hk⟩ := h c
    obtain ⟨e0, e1, e2⟩ := hagree c
    rw [e0, e1, e2] at h0
    exact ⟨h0, hk⟩

end Cert.Proof.UpW
-- ==== Proof.Du.lean ====
/- What the call that computes the gradient at the input of the normalisation leaves in its result. -/
module
public import proofs.«01_k».proof.Proof.Gen.Kernel5Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel5Ideal.Gen
open Idealize.ShloMosaic Idealize.ShloMosaic.TcCoe Idealize.SL.Sem Mlp

variable (m : (ℓ : Loc nD τ sig) → Buf (Elt Ideal) ℓ) (c : Dev nD)

abbrev DRm : (⟨2, ![8320, 4096]⟩ : Shape).Idx → EReal := m ((c.tc : Thread nD τ).loc main_arg0)
abbrev Wm : (⟨2, ![1024, 4096]⟩ : Shape).Idx → EReal := m ((c.tc : Thread nD τ).loc main_arg1)
abbrev Hm : (⟨2, ![8320, 1024]⟩ : Shape).Idx → EReal := m ((c.tc : Thread nD τ).loc main_arg2)
abbrev Gm : (⟨2, ![1, 1024]⟩ : Shape).Idx → EReal := m ((c.tc : Thread nD τ).loc main_arg3)
abbrev DOm : (⟨2, ![8320, 1024]⟩ : Shape).Idx → EReal := m ((c.tc : Thread nD τ).loc main_arg4)

theorem lt13 (t : Fin cfg0.N) : t.val < 13 := by
  have := t.isLt
  have h : cfg0.N = 13 := N_0
  omega

/-- The weights as the call takes them, by the devices' columns. -/
abbrev byCols (W : (⟨2, ![1024, 4096]⟩ : Shape).Idx → EReal) : (⟨4, ![8, 1, 1024, 512]⟩ : Shape).Idx → EReal :=
  broadcastInDim S8x1x1024x512 ![0, 2, 3] bcast_S8x1024x512_S8x1x1024x512_0_2_3
    (transpose S8x1024x512 [1, 0, 2] (shapeCast S1024x8x512 W shapeCasts_S1024x4096_S1024x8x512) transposes_S1024x8x512_S8x1024x512_1_0_2)

theorem w_at : (V m c main_v4 : (⟨4, ![8, 1, 1024, 512]⟩ : Shape).Idx → EReal) = byCols (Wm m c) := by
  unfold V
  simp only [hostOps0, List.flatten_cons, List.flatten_nil, List.append_nil, List.cons_append, List.nil_append]
  after_results
  rfl

theorem byCols_at (W : (⟨2, ![1024, 4096]⟩ : Shape).Idx → EReal) (d : Fin 8) (k : Fin 1024) (l : Fin 512) :
    byCols W (ix4 d 0 k l) = W (ix2 k ⟨512 * d.val + l.val, by omega⟩) := by
  pointwise
  exact congrArg (fun q : Fin 4096 => W (ix2 k q)) (Fin.ext (by show d.val * 512 + l.val = 512 * d.val + l.val; omega))

theorem dr_at : (V m c main_v0 : (⟨2, ![8320, 4096]⟩ : Shape).Idx → EReal) = DRm m c := by
  unfold V
  simp only [hostOps0, List.flatten_cons, List.flatten_nil, List.append_nil, List.cons_append, List.nil_append]
  after_results
  rfl

abbrev X0 (t : Fin cfg0.N) : (⟨2, ![640, 4096]⟩ : Shape).Idx → EReal := iblk m c 0 t
abbrev X1 (t : Fin cfg0.N) : (⟨4, ![8, 1, 1024, 512]⟩ : Shape).Idx → EReal := iblk m c 1 t
abbrev X2 (t : Fin cfg0.N) : (⟨2, ![640, 1024]⟩ : Shape).Idx → EReal := iblk m c 2 t
abbrev X3 (t : Fin cfg0.N) : (⟨2, ![1, 1024]⟩ : Shape).Idx → EReal := iblk m c 3 t
abbrev X4 (t : Fin cfg0.N) : (⟨2, ![640, 1024]⟩ : Shape).Idx → EReal := iblk m c 4 t

/-- The product of a block of the gradient with the transposed weights, one device's columns after the other. -/
def duBlk (x0 : (⟨2, ![640, 4096]⟩ : Shape).Idx → EReal) (x1 : (⟨4, ![8, 1, 1024, 512]⟩ : Shape).Idx → EReal) (p : Fin 640) (k : Fin 1024) : EReal :=
  ∑ d : Fin 8, ∑ l : Fin 512, x0 (ix2 p ⟨512 * d.val + l.val, by omega⟩) * x1 (ix4 d 0 k l)

/-- The row that the body leaves in the gradient's block. -/
theorem out5 (t : Fin cfg0.N) (p : Fin 640) (k : Fin 1024) : (outsAt0 m c t.val t.isLt).1 (ix2 p k)
    = bwdRow (fun j => X2 m c t (ix2 p j)) (fun j => X3 m c t (ix2 0 j)) (duBlk (X0 m c t) (X1 m c t) p) (fun j => X4 m c t (ix2 p j)) k := by
  by_cases h : t.val % 13 = 0
  · rw [outsAt0_A m c t h]
    dsimp only
    unfold X0 X1 X2 X3 X4
    generalize iblk m c 0 t = x0
    generalize iblk m c 1 t = x1
    generalize iblk m c 2 t = x2
    generalize iblk m c 3 t = x3
    generalize iblk m c 4 t = x4
    frame_out
    unfold bwdRow rinv duBlk
    simp only [Fin.sum_univ_eight]
    pointwise [k0_pay1, k0_pay2, k0_pay3, k0_pay4, k0_pay5, k0_pay6, k0_pay7]
  · rw [outsAt0_B m c t h]
    dsimp only
    unfold X0 X1 X2 X3 X4
    generalize iblk m c 0 t = x0
    generalize iblk m c 1 t = x1
    generalize iblk m c 2 t = x2
    generalize iblk m c 3 t = x3
    generalize iblk m c 4 t = x4
    frame_out
    unfold bwdRow rinv duBlk
    simp only [Fin.sum_univ_eight]
    pointwise [k0_pay1, k0_pay2, k0_pay3, k0_pay4, k0_pay5, k0_pay6, k0_pay7]

/-- What a point adds to the gradient of the gain. -/
theorem out6_A (t : Fin cfg0.N) (h : t.val % 13 = 0) (k : Fin 1024) : (outsAt0 m c t.val t.isLt).2 (ix2 0 k)
    = 0 + ∑ p : Fin 640, duBlk (X0 m c t) (X1 m c t) p k * (X2 m c t (ix2 p k) * rinv (fun j => X2 m c t (ix2 p j))) := by
  rw [outsAt0_A m c t h]
  dsimp only
  unfold X0 X1 X2
  generalize iblk m c 0 t = x0
  generalize iblk m c 1 t = x1
  generalize iblk m c 2 t = x2
  generalize iblk m c 3 t = x3
  generalize iblk m c 4 t = x4
  frame_out
  unfold rinv duBlk
  simp only [Fin.sum_univ_eight]
  pointwise [k0_pay1, k0_pay2, k0_pay3, k0_pay4, k0_pay5, k0_pay6, k0_pay7]

theorem out6_B (t : Fin cfg0.N) (h : ¬ t.val % 13 = 0) (k : Fin 1024) : (outsAt0 m c t.val t.isLt).2 (ix2 0 k)
    = (outsAt0 m c (t.val - 1) (Nat.lt_of_le_of_lt (Nat.sub_le _ _) t.isLt)).2 (ix2 0 k)
      + ∑ p : Fin 640, duBlk (X0 m c t) (X1 m c t) p k * (X2 m c t (ix2 p k) * rinv (fun j => X2 m c t (ix2 p j))) := by
  rw [outsAt0_B m c t h]
  generalize (outsAt0 m c (t.val - 1) (Nat.lt_of_le_of_lt (Nat.sub_le _ _) t.isLt)).2 = xo
  dsimp only
  unfold X0 X1 X2
  generalize iblk m c 0 t = x0
  generalize iblk m c 1 t = x1
  generalize iblk m c 2 t = x2
  generalize iblk m c 3 t = x3
  generalize iblk m c 4 t = x4
  frame_out
  unfold rinv duBlk
  simp only [Fin.sum_univ_eight]
  pointwise [k0_pay1, k0_pay2, k0_pay3, k0_pay4, k0_pay5, k0_pay6, k0_pay7]
  all_goals exact congrArg (· + _) (congrFun (Memref.IsWhole.read_unread _ _) _)

theorem idx_0 (t : Fin cfg0.N) : win0_0.index t = ![t.val, 0] :=
  (by decide +kernel : ∀ t : Fin grid0.N, win0_0.index t = ![t.val, 0]) t
theorem idx_1 (t : Fin cfg0.N) : win0_1.index t = ![0, 0, 0, 0] :=
  (by decide +kernel : ∀ t : Fin grid0.N, win0_1.index t = ![0, 0, 0, 0]) t
theorem idx_2 (t : Fin cfg0.N) : win0_2.index t = ![t.val, 0] :=
  (by decide +kernel : ∀ t : Fin grid0.N, win0_2.index t = ![t.val, 0]) t
theorem idx_3 (t : Fin cfg0.N) : win0_3.index t = ![0, 0] :=
  (by decide +kernel : ∀ t : Fin grid0.N, win0_3.index t = ![0, 0]) t
theorem idx_4 (t : Fin cfg0.N) : win0_4.index t = ![t.val, 0] :=
  (by decide +kernel : ∀ t : Fin grid0.N, win0_4.index t = ![t.val, 0]) t
theorem idx_5 (t : Fin cfg0.N) : win0_5.index t = ![t.val, 0] :=
  (by decide +kernel : ∀ t : Fin grid0.N, win0_5.index t = ![t.val, 0]) t
theorem idx_6 (t : Fin cfg0.N) : win0_6.index t = ![0, 0] :=
  (by decide +kernel : ∀ t : Fin grid0.N, win0_6.index t = ![0, 0]) t

theorem blk0 (t : Fin cfg0.N) (p : Fin 640) (k : Fin 4096) : X0 m c t (ix2 p k) = DRm m c (ix2 ⟨640 * t.val + p.val, by have := lt13 t; omega⟩ k) := by
  rw [← dr_at m c]
  blk_ext [X0, iblk, idx_0 t]

theorem blk1 (t : Fin cfg0.N) (d : Fin 8) (k : Fin 1024) (l : Fin 512) : X1 m c t (ix4 d 0 k l) = Wm m c (ix2 k ⟨512 * d.val + l.val, by omega⟩) := by
  rw [← byCols_at (Wm m c) d k l, ← w_at m c]
  blk_ext [X1, iblk, idx_1 t]

theorem blk2 (t : Fin cfg0.N) (p : Fin 640) (k : Fin 1024) : X2 m c t (ix2 p k) = Hm m c (ix2 ⟨640 * t.val + p.val, by have := lt13 t; omega⟩ k) := by
  blk_ext [X2, iblk, V_main_arg2, idx_2 t]

theorem blk3 (t : Fin cfg0.N) (k : Fin 1024) : X3 m c t (ix2 0 k) = Gm m c (ix2 0 k) := by
  blk_ext [X3, iblk, V_main_arg3, idx_3 t]

theorem blk4 (t : Fin cfg0.N) (p : Fin 640) (k : Fin 1024) : X4 m c t (ix2 p k) = DOm m c (ix2 ⟨640 * t.val + p.val, by have := lt13 t; omega⟩ k) := by
  blk_ext [X4, iblk, V_main_arg4, idx_4 t]

/-- A sum over the columns, device by device. -/
theorem sum_cols (f : Fin 4096 → EReal) : ∑ d : Fin 8, ∑ l : Fin 512, f ⟨512 * d.val + l.val, by omega⟩ = ∑ j : Fin 4096, f j :=
  (Fintype.sum_prod_type' (fun (d : Fin 8) (l : Fin 512) => f ⟨512 * d.val + l.val, by omega⟩)).symm.trans
    (Fintype.sum_equiv finProdFinEquiv _ (fun j : Fin (8 * 512) => f j) fun q => congrArg f (Fin.ext (by
      show 512 * q.1.val + q.2.val = q.2.val + 512 * q.1.val
      omega)))

/-- The gradient at the normalisation's output. -/
def du (D : (⟨2, ![8320, 4096]⟩ : Shape).Idx → EReal) (W : (⟨2, ![1024, 4096]⟩ : Shape).Idx → EReal) (n : Fin 8320) (k : Fin 1024) : EReal :=
  ∑ j : Fin 4096, D (ix2 n j) * W (ix2 k j)

theorem du_at (t : Fin cfg0.N) (p : Fin 640) (k : Fin 1024) :
    duBlk (X0 m c t) (X1 m c t) p k = du (DRm m c) (Wm m c) ⟨640 * t.val + p.val, by have := lt13 t; omega⟩ k := by
  unfold duBlk du
  simp only [blk0, blk1]
  exact sum_cols fun j => DRm m c (ix2 ⟨640 * t.val + p.val, by have := lt13 t; omega⟩ j) * Wm m c (ix2 k j)

/-- The gradient at the input of the normalisation and the gradient of the gain, as the call leaves them. -/
def outH (D : (⟨2, ![8320, 4096]⟩ : Shape).Idx → EReal) (W : (⟨2, ![1024, 4096]⟩ : Shape).Idx → EReal) (H : (⟨2, ![8320, 1024]⟩ : Shape).Idx → EReal)
    (G : (⟨2, ![1, 1024]⟩ : Shape).Idx → EReal) (O : (⟨2, ![8320, 1024]⟩ : Shape).Idx → EReal) : (⟨2, ![8320, 1024]⟩ : Shape).Idx → EReal :=
  fun x => bwdRow (fun j => H (ix2 ⟨(x 0).val, (x 0).isLt⟩ j)) (fun j => G (ix2 0 j)) (du D W ⟨(x 0).val, (x 0).isLt⟩) (fun j => O (ix2 ⟨(x 0).val, (x 0).isLt⟩ j)) ⟨(x 1).val, (x 1).isLt⟩

def outG (D : (⟨2, ![8320, 4096]⟩ : Shape).Idx → EReal) (W : (⟨2, ![1024, 4096]⟩ : Shape).Idx → EReal) (H : (⟨2, ![8320, 1024]⟩ : Shape).Idx → EReal) :
    (⟨2, ![1, 1024]⟩ : Shape).Idx → EReal :=
  fun x => ∑ n : Fin 8320, du D W n ⟨(x 1).val, (x 1).isLt⟩ * (H (ix2 n ⟨(x 1).val, (x 1).isLt⟩) * rinv (fun j => H (ix2 n j)))

theorem arr5 : (dats m 0 c).arrAt 5 cfg0.N = outH (DRm m c) (Wm m c) (Hm m c) (Gm m c) (DOm m c) := by
  refine (dats m 0 c).arrAt_eq_of_covers 5 _ (by decide +kernel) fun t hf y => ?_
  have h13 := lt13 t
  have y0 : (y 0).val < 640 := (y 0).isLt
  have y1 : (y 1).val < 1024 := (y 1).isLt
  have e : ((cfg0.win 5).blk t).view.emb y = ix2 (⟨640 * t.val + (y 0).val, by omega⟩ : Fin 8320) (⟨(y 1).val, y1⟩ : Fin 1024) := by
    blk_ext [idx_5 t]
  rw [e]
  blk_simp
  rw [after0_5]
  have hy : y = ix2 (⟨(y 0).val, y0⟩ : Fin 640) (⟨(y 1).val, y1⟩ : Fin 1024) := by
    funext a
    match a with
    | 0 => rfl
    | 1 => rfl
  refine (congrArg (outsAt0 m c t.val t.isLt).1 hy).trans ((out5 m c t _ _).trans ?_)
  have hd : duBlk (X0 m c t) (X1 m c t) (⟨(y 0).val, y0⟩ : Fin 640) = du (DRm m c) (Wm m c) ⟨640 * t.val + (y 0).val, by omega⟩ := funext fun k => du_at m c t _ k
  rw [hd]
  simp only [blk2, blk3, blk4]
  rfl

/-- One row's term of the gradient of the gain, zero past the last row. -/
def dgN (k : Fin 1024) (n : ℕ) : EReal :=
  if h : n < 8320 then du (DRm m c) (Wm m c) ⟨n, h⟩ k * (Hm m c (ix2 ⟨n, h⟩ k) * rinv (fun j => Hm m c (ix2 ⟨n, h⟩ j))) else 0

/-- What point `t` adds to the gradient of the gain. -/
def addend (t : ℕ) (y : (⟨2, ![1, 1024]⟩ : Shape).Idx) : EReal := ∑ p : Fin 640, dgN m c ⟨(y 1).val, (y 1).isLt⟩ (640 * t + p.val)

theorem eta (y : (⟨2, ![1, 1024]⟩ : Shape).Idx) : y = ix2 (0 : Fin 1) (⟨(y 1).val, (y 1).isLt⟩ : Fin 1024) := by
  funext a
  match a with
  | 0 => exact Fin.ext (by have h : (y 0).val < 1 := (y 0).isLt; show (y 0).val = 0; omega)
  | 1 => rfl

theorem add_eq (t : Fin cfg0.N) (y : (⟨2, ![1, 1024]⟩ : Shape).Idx) :
    ∑ p : Fin 640, duBlk (X0 m c t) (X1 m c t) p ⟨(y 1).val, (y 1).isLt⟩ * (X2 m c t (ix2 p ⟨(y 1).val, (y 1).isLt⟩) * rinv (fun j => X2 m c t (ix2 p j))) = addend m c t.val y := by
  refine Finset.sum_congr rfl fun p _ => ?_
  have h13 := lt13 t
  rw [dgN, dif_pos (by omega)]
  simp only [du_at, blk2]

theorem step_A (t : Fin cfg0.N) (h0 : t.val % 13 = 0) (y : (⟨2, ![1, 1024]⟩ : Shape).Idx) :
    (outsAt0 m c t.val t.isLt).2 y = 0 + addend m c t.val y := by
  rw [← add_eq]
  exact (congrArg (outsAt0 m c t.val t.isLt).2 (eta y)).trans (out6_A m c t h0 _)

theorem step_B (t : Fin cfg0.N) (h0 : ¬ t.val % 13 = 0) (y : (⟨2, ![1, 1024]⟩ : Shape).Idx) :
    (outsAt0 m c t.val t.isLt).2 y = (outsAt0 m c (t.val - 1) (Nat.lt_of_le_of_lt (Nat.sub_le _ _) t.isLt)).2 y + addend m c t.val y := by
  rw [← add_eq]
  refine (congrArg (outsAt0 m c t.val t.isLt).2 (eta y)).trans ((out6_B m c t h0 _).trans ?_)
  rw [← eta y]

theorem last (t : Fin cfg0.N) (h : t.val % 13 = 12) (y : (⟨2, ![1, 1024]⟩ : Shape).Idx) :
    (outsAt0 m c t.val t.isLt).2 y = ∑ n ∈ Finset.range 8320, dgN m c ⟨(y 1).val, (y 1).isLt⟩ n := by
  have h13 := lt13 t
  rw [Pipeline.eq_sum_of_reset_step_apply_of_mod (fun n h => (outsAt0 m c n h).2) 13 (fun _ => (0 : EReal))
    (addend m c) (step_A m c) (step_B m c) t h y, zero_add,
    show 8320 = 13 * 640 from rfl, Finset.sum_range_mul_split 13 640]
  refine Finset.sum_congr rfl fun k hk => ?_
  rw [Finset.sum_range, addend]
  refine Finset.sum_congr rfl fun p _ => ?_
  rw [show 13 * (t.val / 13) + k = k by omega, Nat.mul_comm]

theorem arr6 : (dats m 0 c).arrAt 6 cfg0.N = outG (DRm m c) (Wm m c) (Hm m c) := by
  refine (dats m 0 c).arrAt_eq_of_covers 6 _ (by decide +kernel) fun t hf y => ?_
  have e : ((cfg0.win 6).blk t).view.emb y = ix2 (⟨(y 0).val, (y 0).isLt⟩ : Fin 1) (⟨(y 1).val, (y 1).isLt⟩ : Fin 1024) := by
    blk_ext [idx_6 t]
  rw [e]
  blk_simp
  rw [after0_6]
  refine (last m c t ((flush0_6 t).mp hf) y).trans ?_
  rw [Finset.sum_range]
  refine Finset.sum_congr rfl fun n _ => ?_
  rw [dgN, dif_pos n.isLt]
  rfl

end Cert.Kernel5Ideal.Gen
-- ==== Proof.DuMath.lean ====
/- One row of the normalisation's derivative, as the call takes it and as the chain rule gives it, over the extended reals. -/
module
public import proofs.«01_k».proof.Proof.MlpSpec
public import Idealize.ShloMosaic.Lib.IdealHost
@[expose] public section
noncomputable section
namespace Mlp
open Idealize.ShloMosaic

theorem n_eq : Ideal.ofBits .f32 0x44800000#32 = ((1024 : ℝ) : EReal) := by
  simp [Ideal.ofBits, Ideal.ieee, -EReal.coe_mul, -EReal.coe_pow]; norm_num

theorem mh_eq : Ideal.ofBits .f32 0xBF000000#32 = ((-(1 / 2) : ℝ) : EReal) := by
  simp [Ideal.ofBits, Ideal.ieee, -EReal.coe_mul, -EReal.coe_pow, -EReal.coe_neg]; norm_num

theorem eps_eq : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul, -EReal.coe_pow]

/-- A number's square is at least zero, and infinite where the number is. -/
theorem self_mul_nonneg (a : EReal) : 0 ≤ a * a := by
  induction a with
  | bot => simp
  | top => simp
  | coe r => exact_mod_cast mul_self_nonneg r

theorem real_of_sq {a : EReal} (h : a * a ≠ ⊤) : ∃ q : ℝ, a = q := by
  induction a with
  | bot => simp at h
  | top => simp at h
  | coe r => exact ⟨r, rfl⟩

/-- Either a row's mean square is infinite, or it is a positive real and the row is real. -/
theorem row_cases (x : Fin 1024 → EReal) :
    (Ideal.div (∑ j : Fin 1024, x j * x j) (Ideal.ofBits .f32 0x44800000#32) + Ideal.ofBits .f32 0x358637BD#32 = ⊤)
    ∨ ((∃ v : ℝ, 0 < v ∧ Ideal.div (∑ j : Fin 1024, x j * x j) (Ideal.ofBits .f32 0x44800000#32) + Ideal.ofBits .f32 0x358637BD#32 = (v : EReal)) ∧ ∀ k, ∃ q : ℝ, x k = q) := by
  obtain ⟨e, he, hee⟩ := eps_eq
  rw [hee, n_eq, Ideal.div_coe (by norm_num)]
  have h0 : 0 ≤ ∑ j : Fin 1024, x j * x j := Finset.sum_nonneg fun j _ => self_mul_nonneg _
  by_cases ht : ∑ j : Fin 1024, x j * x j = ⊤
  · left
    rw [ht, EReal.top_mul_coe_of_pos (by norm_num), EReal.top_add_coe]
  · right
    have hb : ∑ j : Fin 1024, x j * x j ≠ ⊥ := fun h => by rw [h] at h0; exact absurd h0 (by simp)
    refine ⟨?_, fun k => real_of_sq fun h => ht ?_⟩
    · lift ∑ j : Fin 1024, x j * x j to ℝ using ⟨ht, hb⟩ with s hs
      have hs0 : 0 ≤ s := EReal.coe_nonneg.mp h0
      exact ⟨s * (1 / 1024) + e, by positivity, by push_cast; rfl⟩
    · have := Finset.single_le_sum (f := fun j : Fin 1024 => x j * x j) (fun j _ => self_mul_nonneg _) (Finset.mem_univ k)
      exact top_le_iff.mp (h ▸ this)

/-- Half of a product with a real, twice, is the product. -/
theorem half_add (S : EReal) (a : ℝ) : S * ((-a / 2 : ℝ) : EReal) + S * ((-a / 2 : ℝ) : EReal) = -(S * (a : EReal)) := by
  induction S with
  | coe s => exact_mod_cast (by ring : s * (-a / 2) + s * (-a / 2) = -(s * a))
  | top =>
    rcases lt_trichotomy a 0 with h | h | h
    · rw [EReal.top_mul_coe_of_pos (by linarith), EReal.top_mul_coe_of_neg h]; simp
    · subst h; simp
    · rw [EReal.top_mul_coe_of_neg (by linarith), EReal.top_mul_coe_of_pos h]; simp
  | bot =>
    rcases lt_trichotomy a 0 with h | h | h
    · rw [EReal.bot_mul_coe_of_pos (by linarith), EReal.bot_mul_coe_of_neg h]; simp
    · subst h; simp
    · rw [EReal.bot_mul_coe_of_neg (by linarith), EReal.bot_mul_coe_of_pos h]; simp

/-- The two ways to write the derivative's last part agree where the mean square `v` is real. -/
theorem part_eq (q v : ℝ) (hv : 0 < v) (S : EReal) :
    (q : EReal) * Ideal.div (S * (((-(1 / 2) : ℝ) : EReal) * Ideal.div (Ideal.rsqrt (v : EReal)) (v : EReal))) ((1024 : ℝ) : EReal)
      + Ideal.div (S * (((-(1 / 2) : ℝ) : EReal) * Ideal.div (Ideal.rsqrt (v : EReal)) (v : EReal))) ((1024 : ℝ) : EReal) * (q : EReal)
    = -((q : EReal) * (Ideal.rsqrt (v : EReal) * Ideal.rsqrt (v : EReal) * Ideal.rsqrt (v : EReal) * Ideal.div S ((1024 : ℝ) : EReal))) := by
  rw [Ideal.rsqrt_coe, if_neg (by linarith), if_neg (by linarith)]
  have hr : (Real.sqrt v)⁻¹ * (1 / v) = (Real.sqrt v)⁻¹ * (Real.sqrt v)⁻¹ * (Real.sqrt v)⁻¹ := by
    have : v = Real.sqrt v * Real.sqrt v := (Real.mul_self_sqrt hv.le).symm
    have hs : Real.sqrt v ≠ 0 := (Real.sqrt_pos.mpr hv).ne'
    rw [show (1 / v : ℝ) = (Real.sqrt v)⁻¹ * (Real.sqrt v)⁻¹ by rw [← mul_inv, ← this, one_div]]
    ring
  generalize (Real.sqrt v)⁻¹ = r at *
  rw [Ideal.div_coe hv.ne', Ideal.div_coe (by norm_num), Ideal.div_coe (by norm_num)]
  rw [← EReal.coe_mul, hr, ← EReal.coe_mul, ← EReal.coe_mul, ← EReal.coe_mul, mul_assoc S, ← EReal.coe_mul]
  have e1 : (q : EReal) * (S * ((-(1 / 2) * (r * r * r) * (1 / 1024) : ℝ) : EReal)) = S * ((-(q * (r * r * r) * (1 / 1024)) / 2 : ℝ) : EReal) := by
    rw [mul_left_comm, ← EReal.coe_mul]
    congr 2
    ring
  have e2 : (q : EReal) * (((r * r * r : ℝ) : EReal) * (S * ((1 / 1024 : ℝ) : EReal))) = S * ((q * (r * r * r) * (1 / 1024) : ℝ) : EReal) := by
    rw [mul_left_comm _ S, mul_left_comm _ S, ← EReal.coe_mul, ← EReal.coe_mul]
    congr 2
    ring
  rw [mul_comm _ (q : EReal), e1, e2, half_add]

/-- A row of the chain rule's gradient is the row that the call takes. -/
theorem bwdRow_eq (x g D o : Fin 1024 → EReal) (k : Fin 1024) (B : EReal)
    (hB : B = Ideal.div ((∑ j : Fin 1024, x j * (D j * g j)) * (Ideal.ofBits .f32 0xBF000000#32 * Ideal.div (rinv x)
      (Ideal.div (∑ j : Fin 1024, x j * x j) (Ideal.ofBits .f32 0x44800000#32) + Ideal.ofBits .f32 0x358637BD#32))) (Ideal.ofBits .f32 0x44800000#32)) :
    o k + D k * g k * rinv x + x k * B + B * x k = bwdRow x g D o k := by
  unfold bwdRow
  rcases row_cases x with h | ⟨⟨v, hv, h⟩, hx⟩
  · have hr : rinv x = 0 := by rw [rinv, h, Ideal.rsqrt_top]
    rw [hr] at hB ⊢
    have hB0 : B = 0 := by rw [hB, h, n_eq, Ideal.div_coe (by norm_num)]; simp [Ideal.div]
    rw [hB0]
    simp
  · obtain ⟨q, hq⟩ := hx k
    have hr : rinv x = Ideal.rsqrt (v : EReal) := by rw [rinv, h]
    rw [hr, h, n_eq, mh_eq] at hB
    rw [hr, hq, n_eq, sub_eq_add_neg, ← part_eq q v hv, ← hB, mul_comm (Ideal.rsqrt _) (D k * g k), add_assoc, add_assoc]

end Mlp
-- ==== Proof.DuClaim.lean ====
/- The gradients at the normalisation are the derivatives of the plain forward lines. -/
module
public import proofs.«01_k».proof.Defs
public import proofs.«01_k».proof.Proof.Du
public import proofs.«01_k».proof.Proof.DuMath
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import Idealize.ShloMosaic.Lib.Quiescent
public import Idealize.ShloMosaic.Lib.Pointwise
@[expose] public section
set_option maxRecDepth 16384
noncomputable section
namespace Cert.Proof.Du
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference5Ideal Cert.Reference5Ideal.Read
/-- The reference's results: the derivative at the input of the normalisation, and at the gain. -/
theorem refH (D : (⟨2, ![8320, 4096]⟩ : Shape).Idx → EReal) (W : (⟨2, ![1024, 4096]⟩ : Shape).Idx → EReal) (H : (⟨2, ![8320, 1024]⟩ : Shape).Idx → EReal) (G : (⟨2, ![1, 1024]⟩ : Shape).Idx → EReal) (O : (⟨2, ![8320, 1024]⟩ : Shape).Idx → EReal) :
    val_main_v36 (F := Ideal) D W H G O = Cert.Kernel5Ideal.Gen.outH D W H G O := by
  funext x
  unfold Cert.Kernel5Ideal.Gen.outH
  rw [eta x]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6]
  simp only [Finset.univ_unique, Finset.sum_const, Finset.card_singleton, one_smul]
  rw [show O x = O (ix2 (x 0) (x 1)) from congrArg O (eta x), show H x = H (ix2 (x 0) (x 1)) from congrArg H (eta x)]
  exact Mlp.bwdRow_eq (fun j => H (ix2 (x 0) j)) (fun j => G (ix2 0 j)) (Cert.Kernel5Ideal.Gen.du D W (x 0)) (fun j => O (ix2 (x 0) j)) (x 1) _ rfl

theorem refG (D : (⟨2, ![8320, 4096]⟩ : Shape).Idx → EReal) (W : (⟨2, ![1024, 4096]⟩ : Shape).Idx → EReal) (H : (⟨2, ![8320, 1024]⟩ : Shape).Idx → EReal) :
    val_main_v19 (F := Ideal) D W H = Cert.Kernel5Ideal.Gen.outG D W H := by
  rw [← val_main_v19_eq]
  funext x
  unfold Cert.Kernel5Ideal.Gen.outG Mlp.rinv Cert.Kernel5Ideal.Gen.du
  rw [eta x]
  pointwise
  exact Finset.sum_congr rfl fun n _ => mul_comm _ _
end

open Cert.Reference5Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v36) = Cert.Kernel5Ideal.Gen.outH (m ((c.tc : Thread _ _).loc main_arg0)) (m ((c.tc : Thread _ _).loc main_arg1)) (m ((c.tc : Thread _ _).loc main_arg2)) (m ((c.tc : Thread _ _).loc main_arg3)) (m ((c.tc : Thread _ _).loc main_arg4))
      ∧ r.2.mem ((c.tc : Thread _ _).loc main_v19) = Cert.Kernel5Ideal.Gen.outG (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)) :=
  (θ_run defs _ _).mono (fun _ h c =>
    ⟨((h c).1.trans (Read.val_main_v36_eq _ _)).trans (refH _ _ _ _ _),
     ((h c).2.1.trans (Read.val_main_v19_eq _ _ _)).trans (refG _ _ _), (h c).2.2⟩) (Value.run (F := Ideal) m g)

/-- The reference's frame: it declares no semaphore. -/
theorem reference_frame : Cert.quiescent_Reference5Ideal := fun m g _ =>
  (θ_run Cert.Reference5Ideal.defs _ _).mono (fun r h => ⟨fun c => (h c).2.2, sem_eq_zero_of_no_sems (by decide) r.2⟩) (reference_run m g)

open Cert.Kernel5Ideal in
/-- The kernel's results are the reference's. -/
theorem algebraic : Cert.algebraic_Kernel5Ideal_Reference5Ideal := by
  intro m g m' g' _ hagree
  refine ⟨fun c => Gen.outH (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => Gen.outG (m ((c.tc : Thread _ _).loc main_arg0)) (m ((c.tc : Thread _ _).loc main_arg1)) (m ((c.tc : Thread _ _).loc main_arg2)), ?_, ?_⟩
  · exact (θ_run defs _ _).mono (fun _ h c => ⟨(h c).1.trans (Gen.arr5 m c), (h c).2.1.trans (Gen.arr6 m c), (h c).2.2⟩) (Value.run_blocks (F := Ideal) m g)
  · refine (θ_run Cert.Reference5Ideal.defs _ _).mono (fun _ h c => ?_) (reference_run m' g')
    obtain ⟨h0, h1, hk⟩ := h c
    obtain ⟨e0, e1, e2, e3, e4⟩ := hagree c
    rw [e0, e1, e2, e3, e4] at h0
    rw [e0, e1, e2] at h1
    exact ⟨h0, h1, hk⟩

end Cert.Proof.Du
-- ==== Proof.Up.lean ====
/- What the call that computes the up projection and its activation leaves in its result. -/
module
public import proofs.«01_k».proof.Proof.Gen.Kernel6Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel6Ideal.Gen
open Idealize.ShloMosaic Idealize.ShloMosaic.TcCoe Idealize.SL.Sem Mlp

variable (m : (ℓ : Loc nD τ sig) → Buf (Elt Ideal) ℓ) (c : Dev nD)

abbrev Hm : (⟨2, ![8320, 1024]⟩ : Shape).Idx → EReal := m ((c.tc : Thread nD τ).loc main_arg0)
abbrev Gm : (⟨2, ![1, 1024]⟩ : Shape).Idx → EReal := m ((c.tc : Thread nD τ).loc main_arg1)
abbrev Wm : (⟨2, ![1024, 4096]⟩ : Shape).Idx → EReal := m ((c.tc : Thread nD τ).loc main_arg2)

theorem lt13 (t : Fin cfg0.N) : t.val < 13 := by
  have := t.isLt
  have h : cfg0.N = 13 := N_0
  omega

/-- The weights as the call takes them, by the devices' columns. -/
abbrev byCols (W : (⟨2, ![1024, 4096]⟩ : Shape).Idx → EReal) : (⟨4, ![8, 1, 1024, 512]⟩ : Shape).Idx → EReal :=
  broadcastInDim S8x1x1024x512 ![0, 2, 3] bcast_S8x1024x512_S8x1x1024x512_0_2_3
    (transpose S8x1024x512 [1, 0, 2] (shapeCast S1024x8x512 W shapeCasts_S1024x4096_S1024x8x512) transposes_S1024x8x512_S8x1024x512_1_0_2)

theorem w_at : (V m c main_v3 : (⟨4, ![8, 1, 1024, 512]⟩ : Shape).Idx → EReal) = byCols (Wm m c) := by
  unfold V
  simp only [hostOps0, List.flatten_cons, List.flatten_nil, List.append_nil, List.cons_append, List.nil_append]
  after_results
  rfl

theorem byCols_at (W : (⟨2, ![1024, 4096]⟩ : Shape).Idx → EReal) (d : Fin 8) (k : Fin 1024) (l : Fin 512) :
    byCols W (ix4 d 0 k l) = W (ix2 k ⟨512 * d.val + l.val, by omega⟩) := by
  pointwise
  exact congrArg (fun q : Fin 4096 => W (ix2 k q)) (Fin.ext (by show d.val * 512 + l.val = 512 * d.val + l.val; omega))

/-- The normalised rows that the body leaves. -/
theorem u_at (x0 : (⟨2, ![640, 1024]⟩ : Shape).Idx → EReal) (x1 : (⟨2, ![1, 1024]⟩ : Shape).Idx → EReal) (x2 : (⟨4, ![8, 1, 1024, 512]⟩ : Shape).Idx → EReal) (p : Fin 640) (k : Fin 1024) :
    out0_4 (F := Ideal) x0 x1 x2 (ix2 p k) = rmsRow (fun j => x0 (ix2 p j)) (fun j => x1 (ix2 0 j)) k := by
  unfold rmsRow
  frame_out
  pointwise [k0_pay4]

/-- The activations that the body leaves. -/
theorem out_at (x0 : (⟨2, ![640, 1024]⟩ : Shape).Idx → EReal) (x1 : (⟨2, ![1, 1024]⟩ : Shape).Idx → EReal) (x2 : (⟨4, ![8, 1, 1024, 512]⟩ : Shape).Idx → EReal) (d : Fin 8) (p : Fin 640) (l : Fin 512) :
    out0_3 (F := Ideal) x0 x1 x2 (ix2 p ⟨512 * d.val + l.val, by omega⟩)
      = psq (∑ k : Fin 1024, rmsRow (fun j => x0 (ix2 p j)) (fun j => x1 (ix2 0 j)) k * x2 (ix4 d 0 k l)) := by
  unfold psq rmsRow
  frame_out
  canon_tiles x hx
  all_goals pointwise [k0_pay1, k0_pay2, k0_pay3, k0_pay4, k0_pay5, k0_pay6, k0_pay7, k0_pay8, k0_pay9, k0_pay10, k0_pay11]
  all_goals
    change p.val = _ at hx0
    change 512 * d.val + l.val = _ at hx1
    have hl := l.isLt
    obtain rfl : p = x 0 := Fin.ext hx0
    obtain rfl : l = x 1 := Fin.ext (by omega)
  · obtain rfl : d = (7 : Fin 8) := Fin.ext (by show d.val = 7; omega)
    rfl
  · obtain rfl : d = (6 : Fin 8) := Fin.ext (by show d.val = 6; omega)
    rfl
  · obtain rfl : d = (5 : Fin 8) := Fin.ext (by show d.val = 5; omega)
    rfl
  · obtain rfl : d = (4 : Fin 8) := Fin.ext (by show d.val = 4; omega)
    rfl
  · obtain rfl : d = (3 : Fin 8) := Fin.ext (by show d.val = 3; omega)
    rfl
  · obtain rfl : d = (2 : Fin 8) := Fin.ext (by show d.val = 2; omega)
    rfl
  · obtain rfl : d = (1 : Fin 8) := Fin.ext (by show d.val = 1; omega)
    rfl
  · obtain rfl : d = (0 : Fin 8) := Fin.ext (by show d.val = 0; omega)
    rfl

abbrev X0 (t : Fin cfg0.N) : (⟨2, ![640, 1024]⟩ : Shape).Idx → EReal := iblk m c 0 t
abbrev X1 (t : Fin cfg0.N) : (⟨2, ![1, 1024]⟩ : Shape).Idx → EReal := iblk m c 1 t
abbrev X2 (t : Fin cfg0.N) : (⟨4, ![8, 1, 1024, 512]⟩ : Shape).Idx → EReal := iblk m c 2 t

theorem idx_0 (t : Fin cfg0.N) : win0_0.index t = ![t.val, 0] :=
  (by decide +kernel : ∀ t : Fin grid0.N, win0_0.index t = ![t.val, 0]) t
theorem idx_1 (t : Fin cfg0.N) : win0_1.index t = ![0, 0] :=
  (by decide +kernel : ∀ t : Fin grid0.N, win0_1.index t = ![0, 0]) t
theorem idx_2 (t : Fin cfg0.N) : win0_2.index t = ![0, 0, 0, 0] :=
  (by decide +kernel : ∀ t : Fin grid0.N, win0_2.index t = ![0, 0, 0, 0]) t
theorem idx_3 (t : Fin cfg0.N) : win0_3.index t = ![t.val, 0] :=
  (by decide +kernel : ∀ t : Fin grid0.N, win0_3.index t = ![t.val, 0]) t
theorem idx_4 (t : Fin cfg0.N) : win0_4.index t = ![t.val, 0] :=
  (by decide +kernel : ∀ t : Fin grid0.N, win0_4.index t = ![t.val, 0]) t

theorem blk0 (t : Fin cfg0.N) (p : Fin 640) (k : Fin 1024) : X0 m c t (ix2 p k) = Hm m c (ix2 ⟨640 * t.val + p.val, by have := lt13 t; omega⟩ k) := by
  blk_ext [X0, iblk, V_main_arg0, idx_0 t]

theorem blk1 (t : Fin cfg0.N) (k : Fin 1024) : X1 m c t (ix2 0 k) = Gm m c (ix2 0 k) := by
  blk_ext [X1, iblk, V_main_arg1, idx_1 t]

theorem blk2 (t : Fin cfg0.N) (d : Fin 8) (k : Fin 1024) (l : Fin 512) : X2 m c t (ix4 d 0 k l) = Wm m c (ix2 k ⟨512 * d.val + l.val, by omega⟩) := by
  rw [← byCols_at (Wm m c) d k l, ← w_at m c]
  blk_ext [X2, iblk, idx_2 t]

/-- The normalised rows and the activations, as the call leaves them. -/
def outU (H : (⟨2, ![8320, 1024]⟩ : Shape).Idx → EReal) (G : (⟨2, ![1, 1024]⟩ : Shape).Idx → EReal) : (⟨2, ![8320, 1024]⟩ : Shape).Idx → EReal :=
  fun x => rms H G ⟨(x 0).val, (x 0).isLt⟩ ⟨(x 1).val, (x 1).isLt⟩
def outA (H : (⟨2, ![8320, 1024]⟩ : Shape).Idx → EReal) (G : (⟨2, ![1, 1024]⟩ : Shape).Idx → EReal) (W : (⟨2, ![1024, 4096]⟩ : Shape).Idx → EReal) :
    (⟨2, ![8320, 4096]⟩ : Shape).Idx → EReal :=
  fun x => psq (∑ k : Fin 1024, rms H G ⟨(x 0).val, (x 0).isLt⟩ k * W (ix2 k ⟨(x 1).val, (x 1).isLt⟩))

theorem row_eq (t : Fin cfg0.N) (p : Fin 640) (k : Fin 1024) :
    rmsRow (fun j => X0 m c t (ix2 p j)) (fun j => X1 m c t (ix2 0 j)) k = rms (Hm m c) (Gm m c) ⟨640 * t.val + p.val, by have := lt13 t; omega⟩ k := by
  simp only [blk0, blk1]
  rfl

theorem arr4 : (dats m 0 c).arrAt 4 cfg0.N = outU (Hm m c) (Gm m c) := by
  refine (dats m 0 c).arrAt_eq_of_covers 4 _ (by decide +kernel) fun t hf y => ?_
  have h13 := lt13 t
  have y0 : (y 0).val < 640 := (y 0).isLt
  have y1 : (y 1).val < 1024 := (y 1).isLt
  have e : ((cfg0.win 4).blk t).view.emb y = ix2 (⟨640 * t.val + (y 0).val, by omega⟩ : Fin 8320) (⟨(y 1).val, y1⟩ : Fin 1024) := by
    blk_ext [idx_4 t]
  rw [e]
  blk_simp
  rw [after0_4]
  have hy : y = ix2 (⟨(y 0).val, y0⟩ : Fin 640) (⟨(y 1).val, y1⟩ : Fin 1024) := by
    funext a
    match a with
    | 0 => rfl
    | 1 => rfl
  exact (congrArg (out0_4 (F := Ideal) (X0 m c t) (X1 m c t) (X2 m c t)) hy).trans ((u_at (X0 m c t) (X1 m c t) (X2 m c t) _ _).trans (row_eq m c t _ _))

theorem arr3 : (dats m 0 c).arrAt 3 cfg0.N = outA (Hm m c) (Gm m c) (Wm m c) := by
  refine (dats m 0 c).arrAt_eq_of_covers 3 _ (by decide +kernel) fun t hf y => ?_
  have h13 := lt13 t
  have y0 : (y 0).val < 640 := (y 0).isLt
  have y1 : (y 1).val < 4096 := (y 1).isLt
  have e : ((cfg0.win 3).blk t).view.emb y = ix2 (⟨640 * t.val + (y 0).val, by omega⟩ : Fin 8320) (⟨(y 1).val, y1⟩ : Fin 4096) := by
    blk_ext [idx_3 t]
  rw [e]
  blk_simp
  rw [after0_3]
  have hy : y = ix2 (⟨(y 0).val, y0⟩ : Fin 640) (⟨512 * ((y 1).val / 512) + (y 1).val % 512, by omega⟩ : Fin 4096) := by
    funext a
    match a with
    | 0 => rfl
    | 1 => exact Fin.ext (by show (y 1).val = 512 * ((y 1).val / 512) + (y 1).val % 512; omega)
  have hq : (⟨512 * ((y 1).val / 512) + (y 1).val % 512, by omega⟩ : Fin 4096) = ⟨(y 1).val, y1⟩ := Fin.ext (by show 512 * ((y 1).val / 512) + (y 1).val % 512 = (y 1).val; omega)
  refine (congrArg (out0_3 (F := Ideal) (X0 m c t) (X1 m c t) (X2 m c t)) hy).trans ((out_at (X0 m c t) (X1 m c t) (X2 m c t) ⟨(y 1).val / 512, by omega⟩ ⟨(y 0).val, y0⟩ ⟨(y 1).val % 512, by omega⟩).trans ?_)
  simp only [row_eq, blk2, hq]
  rfl

end Cert.Kernel6Ideal.Gen
-- ==== Proof.UpClaim.lean ====
/- The up projection and its activation are the plain forward lines. -/
module
public import proofs.«01_k».proof.Defs
public import proofs.«01_k».proof.Proof.Up
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import Idealize.ShloMosaic.Lib.Quiescent
public import Idealize.ShloMosaic.Lib.Pointwise
@[expose] public section
set_option maxRecDepth 16384
noncomputable section
namespace Cert.Proof.Up
open Idealize.ShloMosaic Idealize.ShloMosaic.TcCoe Idealize.SL.Sem

theorem eta {n : ℕ} (x : (⟨2, ![8320, n]⟩ : Shape).Idx) : x = ix2 (⟨(x 0).val, (x 0).isLt⟩ : Fin 8320) (⟨(x 1).val, (x 1).isLt⟩ : Fin n) := by
  funext a; match a with | 0 => rfl | 1 => rfl

section
open Cert.Reference6Ideal Cert.Reference6Ideal.Read
/-- The reference's results: the activations and the normalised rows. -/
theorem refA (H : (⟨2, ![8320, 1024]⟩ : Shape).Idx → EReal) (G : (⟨2, ![1, 1024]⟩ : Shape).Idx → EReal) (W : (⟨2, ![1024, 4096]⟩ : Shape).Idx → EReal) :
    val_main_v15 (F := Ideal) H G W = Cert.Kernel6Ideal.Gen.outA H G W := by
  rw [← val_main_v15_eq]
  funext x
  unfold Cert.Kernel6Ideal.Gen.outA Mlp.psq Mlp.rms Mlp.ms
  rw [eta x]
  pointwise

theorem refU (H : (⟨2, ![8320, 1024]⟩ : Shape).Idx → EReal) (G : (⟨2, ![1, 1024]⟩ : Shape).Idx → EReal) :
    val_main_v16 (F := Ideal) H G = Cert.Kernel6Ideal.Gen.outU H G := by
  rw [← val_main_v16_eq]
  funext x
  unfold Cert.Kernel6Ideal.Gen.outU Mlp.rms Mlp.ms
  rw [eta x]
  pointwise
end

open Cert.Reference6Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v15) = Cert.Kernel6Ideal.Gen.outA (m ((c.tc : Thread _ _).loc main_arg0)) (m ((c.tc : Thread _ _).loc main_arg1)) (m ((c.tc : Thread _ _).loc main_arg2))
      ∧ r.2.mem ((c.tc : Thread _ _).loc main_v16) = Cert.Kernel6Ideal.Gen.outU (m ((c.tc : Thread _ _).loc main_arg0)) (m ((c.tc : Thread _ _).loc main_arg1))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)) :=
  (θ_run defs _ _).mono (fun _ h c =>
    ⟨((h c).1.trans (Read.val_main_v15_eq _ _ _)).trans (refA _ _ _),
     ((h c).2.1.trans (Read.val_main_v16_eq _ _)).trans (refU _ _), (h c).2.2⟩) (Value.run (F := Ideal) m g)

/-- The reference's frame: it declares no semaphore. -/
theorem reference_frame : Cert.quiescent_Reference6Ideal := fun m g _ =>
  (θ_run Cert.Reference6Ideal.defs _ _).mono (fun r h => ⟨fun c => (h c).2.2, sem_eq_zero_of_no_sems (by decide) r.2⟩) (reference_run m g)

open Cert.Kernel6Ideal in
/-- The kernel's results are the reference's. -/
theorem algebraic : Cert.algebraic_Kernel6Ideal_Reference6Ideal := by
  intro m g m' g' _ hagree
  refine ⟨fun c => Gen.outA (m ((c.tc : Thread _ _).loc main_arg0)) (m ((c.tc : Thread _ _).loc main_arg1)) (m ((c.tc : Thread _ _).loc main_arg2)), fun c => Gen.outU (m ((c.tc : Thread _ _).loc main_arg0)) (m ((c.tc : Thread _ _).loc main_arg1)), ?_, ?_⟩
  · exact (θ_run defs _ _).mono (fun _ h c => ⟨(h c).1.trans (Gen.arr3 m c), (h c).2.1.trans (Gen.arr4 m c), (h c).2.2⟩) (Value.run_blocks (F := Ideal) m g)
  · refine (θ_run Cert.Reference6Ideal.defs _ _).mono (fun _ h c => ?_) (reference_run m' g')
    obtain ⟨h0, h1, hk⟩ := h c
    obtain ⟨e0, e1, e2⟩ := hagree c
    rw [e0, e1, e2] at h0
    rw [e0, e1] at h1
    exact ⟨h0, h1, hk⟩

end Cert.Proof.Up
-- ==== Proof.LnSpec.lean ====
/- The layer norm of a row, its activation, and their derivative as the call takes it. -/
module
public import Idealize.ShloMosaic.Lib.Pointwise
@[expose] public section
noncomputable section
namespace Ln
open Idealize.ShloMosaic

/-- The mean of a row. -/
def mu (c : Fin 1024 → EReal) : EReal := Ideal.div (∑ j : Fin 1024, c j) (Ideal.ofBits .f32 0x44800000#32)

/-- A row less its mean. -/
def xc (c : Fin 1024 → EReal) (k : Fin 1024) : EReal := c k - mu c

/-- The variance of a row plus the small constant. -/
def va (c : Fin 1024 → EReal) : EReal :=
  Ideal.div (∑ j : Fin 1024, xc c j * xc c j) (Ideal.ofBits .f32 0x44800000#32) + Ideal.ofBits .f32 0x3727C5AC#32

/-- The reciprocal standard deviation of a row. -/
def rs (c : Fin 1024 → EReal) : EReal := Ideal.rsqrt (va c)

/-- The normalised row. -/
def hx (c : Fin 1024 → EReal) (k : Fin 1024) : EReal := xc c k * rs c

/-- The normalised row with gain `g` and bias `b`. -/
def nrm (c g b : Fin 1024 → EReal) (k : Fin 1024) : EReal := hx c k * g k + b k

/-- The logistic function, as both programs write it. -/
def sg (x : EReal) : EReal := Ideal.div 1 (1 + Ideal.exp (0 - x))

/-- The activation of the normalised row. -/
def act (c g b : Fin 1024 → EReal) (k : Fin 1024) : EReal := nrm c g b k * sg (nrm c g b k)

/-- The gradient before the activation, from the gradient `s` after it. -/
def dn (c g b s : Fin 1024 → EReal) (k : Fin 1024) : EReal :=
  s k * (sg (nrm c g b k) * (1 + nrm c g b k * (1 - sg (nrm c g b k))))

/-- The gradient at the row. -/
def dc (c g b s : Fin 1024 → EReal) (k : Fin 1024) : EReal :=
  rs c * (dn c g b s k * g k - Ideal.div (∑ j : Fin 1024, dn c g b s j * g j) (Ideal.ofBits .f32 0x44800000#32)
    - hx c k * Ideal.div (∑ j : Fin 1024, dn c g b s j * g j * hx c j) (Ideal.ofBits .f32 0x44800000#32))

end Ln
-- ==== Proof.LnB.lean ====
/- What the call that computes the gradients at the layer norm leaves in its results. -/
module
public import proofs.«01_k».proof.Proof.Gen.Kernel20Ideal.Value
public import Idealize.ShloMosaic.Lib.Pipeline.ValueKit
public import Idealize.ShloMosaic.Lib.Pointwise
public import proofs.«01_k».proof.Proof.MlpSpec
public import proofs.«01_k».proof.Proof.LnSpec
@[expose] public section
set_option maxRecDepth 16384
noncomputable section
namespace Cert.Kernel20Ideal.Gen
open Idealize.ShloMosaic Idealize.ShloMosaic.TcCoe Idealize.SL.Sem Ln

variable (m : (ℓ : Loc nD τ sig) → Buf (Elt Ideal) ℓ) (c : Dev nD)

abbrev Sm : (⟨2, ![8320, 1024]⟩ : Shape).Idx → EReal := m ((c.tc : Thread nD τ).loc main_arg0)
abbrev Cm : (⟨2, ![8320, 1024]⟩ : Shape).Idx → EReal := m ((c.tc : Thread nD τ).loc main_arg1)
abbrev Gm : (⟨2, ![1, 1024]⟩ : Shape).Idx → EReal := m ((c.tc : Thread nD τ).loc main_arg2)
abbrev Bm : (⟨2, ![1, 1024]⟩ : Shape).Idx → EReal := m ((c.tc : Thread nD τ).loc main_arg3)

theorem lt13 (t : Fin cfg0.N) : t.val < 13 := by
  have := t.isLt
  have h : cfg0.N = 13 := N_0
  omega

abbrev X0 (t : Fin cfg0.N) : (⟨2, ![640, 1024]⟩ : Shape).Idx → EReal := iblk m c 0 t
abbrev X1 (t : Fin cfg0.N) : (⟨2, ![640, 1024]⟩ : Shape).Idx → EReal := iblk m c 1 t
abbrev X2 (t : Fin cfg0.N) : (⟨2, ![1, 1024]⟩ : Shape).Idx → EReal := iblk m c 2 t
abbrev X3 (t : Fin cfg0.N) : (⟨2, ![1, 1024]⟩ : Shape).Idx → EReal := iblk m c 3 t

/-- The row that the body leaves in the gradient's block. -/
theorem out4 (t : Fin cfg0.N) (p : Fin 640) (k : Fin 1024) : (outsAt0 m c t.val t.isLt).1 (ix2 p k)
    = dc (fun j => X1 m c t (ix2 p j)) (fun j => X2 m c t (ix2 0 j)) (fun j => X3 m c t (ix2 0 j)) (fun j => X0 m c t (ix2 p j)) k := by
  by_cases h : t.val % 13 = 0
  · rw [outsAt0_A m c t h]
    dsimp only
    unfold X0 X1 X2 X3
    generalize iblk m c 0 t = x0
    generalize iblk m c 1 t = x1
    generalize iblk m c 2 t = x2
    generalize iblk m c 3 t = x3
    frame_out
    unfold dc
    unfold dn nrm hx rs va xc mu sg
    pointwise [k0_pay1, k0_pay2, k0_pay3, k0_pay4, k0_pay5, k0_pay6, k0_pay7, k0_pay8, k0_pay9, k0_pay10, k0_pay11, k0_pay12, k0_pay13]
  · rw [outsAt0_B m c t h]
    dsimp only
    unfold X0 X1 X2 X3
    generalize iblk m c 0 t = x0
    generalize iblk m c 1 t = x1
    generalize iblk m c 2 t = x2
    generalize iblk m c 3 t = x3
    frame_out
    unfold dc
    unfold dn nrm hx rs va xc mu sg
    pointwise [k0_pay1, k0_pay2, k0_pay3, k0_pay4, k0_pay5, k0_pay6, k0_pay7, k0_pay8, k0_pay9, k0_pay10, k0_pay11, k0_pay12, k0_pay13]

theorem out5_A (t : Fin cfg0.N) (h : t.val % 13 = 0) (k : Fin 1024) : (outsAt0 m c t.val t.isLt).2.1 (ix2 0 k)
    = 0 + ∑ p : Fin 640, dn (fun j => X1 m c t (ix2 p j)) (fun j => X2 m c t (ix2 0 j)) (fun j => X3 m c t (ix2 0 j)) (fun j => X0 m c t (ix2 p j)) k * hx (fun j => X1 m c t (ix2 p j)) k := by
  rw [outsAt0_A m c t h]
  dsimp only
  unfold X0 X1 X2 X3
  generalize iblk m c 0 t = x0
  generalize iblk m c 1 t = x1
  generalize iblk m c 2 t = x2
  generalize iblk m c 3 t = x3
  frame_out
  unfold dn nrm hx rs va xc mu sg
  pointwise [k0_pay1, k0_pay2, k0_pay3, k0_pay4, k0_pay5, k0_pay6, k0_pay7, k0_pay8, k0_pay9, k0_pay10, k0_pay11, k0_pay12, k0_pay13]

theorem out5_B (t : Fin cfg0.N) (h : ¬ t.val % 13 = 0) (k : Fin 1024) : (outsAt0 m c t.val t.isLt).2.1 (ix2 0 k)
    = (outsAt0 m c (t.val - 1) (Nat.lt_of_le_of_lt (Nat.sub_le _ _) t.isLt)).2.1 (ix2 0 k) + ∑ p : Fin 640, dn (fun j => X1 m c t (ix2 p j)) (fun j => X2 m c t (ix2 0 j)) (fun j => X3 m c t (ix2 0 j)) (fun j => X0 m c t (ix2 p j)) k * hx (fun j => X1 m c t (ix2 p j)) k := by
  rw [outsAt0_B m c t h]
  generalize (outsAt0 m c (t.val - 1) (Nat.lt_of_le_of_lt (Nat.sub_le _ _) t.isLt)) = xo
  dsimp only
  unfold X0 X1 X2 X3
  generalize iblk m c 0 t = x0
  generalize iblk m c 1 t = x1
  generalize iblk m c 2 t = x2
  generalize iblk m c 3 t = x3
  frame_out
  unfold dn nrm hx rs va xc mu sg
  pointwise [k0_pay1, k0_pay2, k0_pay3, k0_pay4, k0_pay5, k0_pay6, k0_pay7, k0_pay8, k0_pay9, k0_pay10, k0_pay11, k0_pay12, k0_pay13]
  all_goals exact congrArg (· + _) (congrFun (Memref.IsWhole.read_unread _ _) _)

theorem out6_A (t : Fin cfg0.N) (h : t.val % 13 = 0) (k : Fin 1024) : (outsAt0 m c t.val t.isLt).2.2 (ix2 0 k)
    = 0 + ∑ p : Fin 640, dn (fun j => X1 m c t (ix2 p j)) (fun j => X2 m c t (ix2 0 j)) (fun j => X3 m c t (ix2 0 j)) (fun j => X0 m c t (ix2 p j)) k := by
  rw [outsAt0_A m c t h]
  dsimp only
  unfold X0 X1 X2 X3
  generalize iblk m c 0 t = x0
  generalize iblk m c 1 t = x1
  generalize iblk m c 2 t = x2
  generalize iblk m c 3 t = x3
  frame_out
  unfold dn nrm hx rs va xc mu sg
  pointwise [k0_pay1, k0_pay2, k0_pay3, k0_pay4, k0_pay5, k0_pay6, k0_pay7, k0_pay8, k0_pay9, k0_pay10, k0_pay11, k0_pay12, k0_pay13]

theorem out6_B (t : Fin cfg0.N) (h : ¬ t.val % 13 = 0) (k : Fin 1024) : (outsAt0 m c t.val t.isLt).2.2 (ix2 0 k)
    = (outsAt0 m c (t.val - 1) (Nat.lt_of_le_of_lt (Nat.sub_le _ _) t.isLt)).2.2 (ix2 0 k) + ∑ p : Fin 640, dn (fun j => X1 m c t (ix2 p j)) (fun j => X2 m c t (ix2 0 j)) (fun j => X3 m c t (ix2 0 j)) (fun j => X0 m c t (ix2 p j)) k := by
  rw [outsAt0_B m c t h]
  generalize (outsAt0 m c (t.val - 1) (Nat.lt_of_le_of_lt (Nat.sub_le _ _) t.isLt)) = xo
  dsimp only
  unfold X0 X1 X2 X3
  generalize iblk m c 0 t = x0
  generalize iblk m c 1 t = x1
  generalize iblk m c 2 t = x2
  generalize iblk m c 3 t = x3
  frame_out
  unfold dn nrm hx rs va xc mu sg
  pointwise [k0_pay1, k0_pay2, k0_pay3, k0_pay4, k0_pay5, k0_pay6, k0_pay7, k0_pay8, k0_pay9, k0_pay10, k0_pay11, k0_pay12, k0_pay13]
  all_goals exact congrArg (· + _) (congrFun (Memref.IsWhole.read_unread _ _) _)

theorem idx_0 (t : Fin cfg0.N) : win0_0.index t = ![t.val, 0] :=
  (by decide +kernel : ∀ t : Fin grid0.N, win0_0.index t = ![t.val, 0]) t
theorem idx_1 (t : Fin cfg0.N) : win0_1.index t = ![t.val, 0] :=
  (by decide +kernel : ∀ t : Fin grid0.N, win0_1.index t = ![t.val, 0]) t
theorem idx_2 (t : Fin cfg0.N) : win0_2.index t = ![0, 0] :=
  (by decide +kernel : ∀ t : Fin grid0.N, win0_2.index t = ![0, 0]) t
theorem idx_3 (t : Fin cfg0.N) : win0_3.index t = ![0, 0] :=
  (by decide +kernel : ∀ t : Fin grid0.N, win0_3.index t = ![0, 0]) t
theorem idx_4 (t : Fin cfg0.N) : win0_4.index t = ![t.val, 0] :=
  (by decide +kernel : ∀ t : Fin grid0.N, win0_4.index t = ![t.val, 0]) t
theorem idx_5 (t : Fin cfg0.N) : win0_5.index t = ![0, 0] :=
  (by decide +kernel : ∀ t : Fin grid0.N, win0_5.index t = ![0, 0]) t
theorem idx_6 (t : Fin cfg0.N) : win0_6.index t = ![0, 0] :=
  (by decide +kernel : ∀ t : Fin grid0.N, win0_6.index t = ![0, 0]) t

theorem blk0 (t : Fin cfg0.N) (p : Fin 640) (k : Fin 1024) : X0 m c t (ix2 p k) = Sm m c (ix2 ⟨640 * t.val + p.val, by have := lt13 t; omega⟩ k) := by
  blk_ext [X0, iblk, V_main_arg0, idx_0 t]

theorem blk1 (t : Fin cfg0.N) (p : Fin 640) (k : Fin 1024) : X1 m c t (ix2 p k) = Cm m c (ix2 ⟨640 * t.val + p.val, by have := lt13 t; omega⟩ k) := by
  blk_ext [X1, iblk, V_main_arg1, idx_1 t]

theorem blk2 (t : Fin cfg0.N) (k : Fin 1024) : X2 m c t (ix2 0 k) = Gm m c (ix2 0 k) := by
  blk_ext [X2, iblk, V_main_arg2, idx_2 t]

theorem blk3 (t : Fin cfg0.N) (k : Fin 1024) : X3 m c t (ix2 0 k) = Bm m c (ix2 0 k) := by
  blk_ext [X3, iblk, V_main_arg3, idx_3 t]

theorem eta (y : (⟨2, ![1, 1024]⟩ : Shape).Idx) : y = ix2 (0 : Fin 1) (⟨(y 1).val, (y 1).isLt⟩ : Fin 1024) := by
  funext a
  match a with
  | 0 => exact Fin.ext (by have h : (y 0).val < 1 := (y 0).isLt; show (y 0).val = 0; omega)
  | 1 => rfl

/-- The gradients at the layer norm's input, at its gain and at its bias. -/
def outC (S C : (⟨2, ![8320, 1024]⟩ : Shape).Idx → EReal) (G B : (⟨2, ![1, 1024]⟩ : Shape).Idx → EReal) : (⟨2, ![8320, 1024]⟩ : Shape).Idx → EReal :=
  fun x => dc (fun j => C (ix2 ⟨(x 0).val, (x 0).isLt⟩ j)) (fun j => G (ix2 0 j)) (fun j => B (ix2 0 j)) (fun j => S (ix2 ⟨(x 0).val, (x 0).isLt⟩ j)) ⟨(x 1).val, (x 1).isLt⟩

def outG (S C : (⟨2, ![8320, 1024]⟩ : Shape).Idx → EReal) (G B : (⟨2, ![1, 1024]⟩ : Shape).Idx → EReal) : (⟨2, ![1, 1024]⟩ : Shape).Idx → EReal :=
  fun x => ∑ n : Fin 8320, dn (fun j => C (ix2 n j)) (fun j => G (ix2 0 j)) (fun j => B (ix2 0 j)) (fun j => S (ix2 n j)) ⟨(x 1).val, (x 1).isLt⟩ * hx (fun j => C (ix2 n j)) ⟨(x 1).val, (x 1).isLt⟩

def outB (S C : (⟨2, ![8320, 1024]⟩ : Shape).Idx → EReal) (G B : (⟨2, ![1, 1024]⟩ : Shape).Idx → EReal) : (⟨2, ![1, 1024]⟩ : Shape).Idx → EReal :=
  fun x => ∑ n : Fin 8320, dn (fun j => C (ix2 n j)) (fun j => G (ix2 0 j)) (fun j => B (ix2 0 j)) (fun j => S (ix2 n j)) ⟨(x 1).val, (x 1).isLt⟩

theorem arr4 : (dats m 0 c).arrAt 4 cfg0.N = outC (Sm m c) (Cm m c) (Gm m c) (Bm m c) := by
  refine (dats m 0 c).arrAt_eq_of_covers 4 _ (by decide +kernel) fun t hf y => ?_
  have h13 := lt13 t
  have y0 : (y 0).val < 640 := (y 0).isLt
  have y1 : (y 1).val < 1024 := (y 1).isLt
  have e : ((cfg0.win 4).blk t).view.emb y = ix2 (⟨640 * t.val + (y 0).val, by omega⟩ : Fin 8320) (⟨(y 1).val, y1⟩ : Fin 1024) := by
    blk_ext [idx_4 t]
  rw [e]
  blk_simp
  rw [after0_4]
  have hy : y = ix2 (⟨(y 0).val, y0⟩ : Fin 640) (⟨(y 1).val, y1⟩ : Fin 1024) := by
    funext a
    match a with
    | 0 => rfl
    | 1 => rfl
  refine (congrArg (outsAt0 m c t.val t.isLt).1 hy).trans ((out4 m c t _ _).trans ?_)
  simp only [blk0, blk1, blk2, blk3]
  rfl

/-- One row's term, zero past the last row. -/
def gN (k : Fin 1024) (n : ℕ) : EReal := if h : n < 8320 then dn (fun j => Cm m c (ix2 ⟨n, h⟩ j)) (fun j => Gm m c (ix2 0 j)) (fun j => Bm m c (ix2 0 j)) (fun j => Sm m c (ix2 ⟨n, h⟩ j)) k * hx (fun j => Cm m c (ix2 ⟨n, h⟩ j)) k else 0

theorem add5_eq (t : Fin cfg0.N) (y : (⟨2, ![1, 1024]⟩ : Shape).Idx) :
    ∑ p : Fin 640, dn (fun j => X1 m c t (ix2 p j)) (fun j => X2 m c t (ix2 0 j)) (fun j => X3 m c t (ix2 0 j)) (fun j => X0 m c t (ix2 p j)) ⟨(y 1).val, (y 1).isLt⟩ * hx (fun j => X1 m c t (ix2 p j)) ⟨(y 1).val, (y 1).isLt⟩ = ∑ p : Fin 640, gN m c ⟨(y 1).val, (y 1).isLt⟩ (640 * t.val + p.val) := by
  refine Finset.sum_congr rfl fun p _ => ?_
  have h13 := lt13 t
  rw [gN, dif_pos (by omega)]
  simp only [blk0, blk1, blk2, blk3]

/-- What point `t` adds. -/
def addend5 (t : ℕ) (y : (⟨2, ![1, 1024]⟩ : Shape).Idx) : EReal := ∑ p : Fin 640, gN m c ⟨(y 1).val, (y 1).isLt⟩ (640 * t + p.val)

theorem step5_A (t : Fin cfg0.N) (h0 : t.val % 13 = 0) (y : (⟨2, ![1, 1024]⟩ : Shape).Idx) :
    (outsAt0 m c t.val t.isLt).2.1 y = 0 + addend5 m c t.val y := by
  rw [addend5, ← add5_eq]
  exact (congrArg (outsAt0 m c t.val t.isLt).2.1 (eta y)).trans (out5_A m c t h0 _)

theorem step5_B (t : Fin cfg0.N) (h0 : ¬ t.val % 13 = 0) (y : (⟨2, ![1, 1024]⟩ : Shape).Idx) :
    (outsAt0 m c t.val t.isLt).2.1 y = (outsAt0 m c (t.val - 1) (Nat.lt_of_le_of_lt (Nat.sub_le _ _) t.isLt)).2.1 y + addend5 m c t.val y := by
  rw [addend5, ← add5_eq]
  refine (congrArg (outsAt0 m c t.val t.isLt).2.1 (eta y)).trans ((out5_B m c t h0 _).trans ?_)
  rw [← eta y]

theorem last5 (t : Fin cfg0.N) (h : t.val % 13 = 12) (y : (⟨2, ![1, 1024]⟩ : Shape).Idx) :
    (outsAt0 m c t.val t.isLt).2.1 y = ∑ n ∈ Finset.range 8320, gN m c ⟨(y 1).val, (y 1).isLt⟩ n := by
  have h13 := lt13 t
  rw [Pipeline.eq_sum_of_reset_step_apply_of_mod (fun n h => (outsAt0 m c n h).2.1) 13 (fun _ => (0 : EReal))
    (addend5 m c) (step5_A m c) (step5_B m c) t h y, zero_add,
    show 8320 = 13 * 640 from rfl, Finset.sum_range_mul_split 13 640]
  refine Finset.sum_congr rfl fun k hk => ?_
  rw [Finset.sum_range, addend5]
  refine Finset.sum_congr rfl fun p _ => ?_
  rw [show 13 * (t.val / 13) + k = k by omega, Nat.mul_comm]

theorem arr5 : (dats m 0 c).arrAt 5 cfg0.N = outG (Sm m c) (Cm m c) (Gm m c) (Bm m c) := by
  refine (dats m 0 c).arrAt_eq_of_covers 5 _ (by decide +kernel) fun t hf y => ?_
  have e : ((cfg0.win 5).blk t).view.emb y = ix2 (⟨(y 0).val, (y 0).isLt⟩ : Fin 1) (⟨(y 1).val, (y 1).isLt⟩ : Fin 1024) := by
    blk_ext [idx_5 t]
  rw [e]
  blk_simp
  rw [after0_5]
  refine (last5 m c t ((flush0_5 t).mp hf) y).trans ?_
  rw [Finset.sum_range]
  refine Finset.sum_congr rfl fun n _ => ?_
  rw [gN, dif_pos n.isLt]
  rfl

/-- One row's term, zero past the last row. -/
def bN (k : Fin 1024) (n : ℕ) : EReal := if h : n < 8320 then dn (fun j => Cm m c (ix2 ⟨n, h⟩ j)) (fun j => Gm m c (ix2 0 j)) (fun j => Bm m c (ix2 0 j)) (fun j => Sm m c (ix2 ⟨n, h⟩ j)) k else 0

theorem add6_eq (t : Fin cfg0.N) (y : (⟨2, ![1, 1024]⟩ : Shape).Idx) :
    ∑ p : Fin 640, dn (fun j => X1 m c t (ix2 p j)) (fun j => X2 m c t (ix2 0 j)) (fun j => X3 m c t (ix2 0 j)) (fun j => X0 m c t (ix2 p j)) ⟨(y 1).val, (y 1).isLt⟩ = ∑ p : Fin 640, bN m c ⟨(y 1).val, (y 1).isLt⟩ (640 * t.val + p.val) := by
  refine Finset.sum_congr rfl fun p _ => ?_
  have h13 := lt13 t
  rw [bN, dif_pos (by omega)]
  simp only [blk0, blk1, blk2, blk3]

/-- What point `t` adds. -/
def addend6 (t : ℕ) (y : (⟨2, ![1, 1024]⟩ : Shape).Idx) : EReal := ∑ p : Fin 640, bN m c ⟨(y 1).val, (y 1).isLt⟩ (640 * t + p.val)

theorem step6_A (t : Fin cfg0.N) (h0 : t.val % 13 = 0) (y : (⟨2, ![1, 1024]⟩ : Shape).Idx) :
    (outsAt0 m c t.val t.isLt).2.2 y = 0 + addend6 m c t.val y := by
  rw [addend6, ← add6_eq]
  exact (congrArg (outsAt0 m c t.val t.isLt).2.2 (eta y)).trans (out6_A m c t h0 _)

theorem step6_B (t : Fin cfg0.N) (h0 : ¬ t.val % 13 = 0) (y : (⟨2, ![1, 1024]⟩ : Shape).Idx) :
    (outsAt0 m c t.val t.isLt).2.2 y = (outsAt0 m c (t.val - 1) (Nat.lt_of_le_of_lt (Nat.sub_le _ _) t.isLt)).2.2 y + addend6 m c t.val y := by
  rw [addend6, ← add6_eq]
  refine (congrArg (outsAt0 m c t.val t.isLt).2.2 (eta y)).trans ((out6_B m c t h0 _).trans ?_)
  rw [← eta y]

theorem last6 (t : Fin cfg0.N) (h : t.val % 13 = 12) (y : (⟨2, ![1, 1024]⟩ : Shape).Idx) :
    (outsAt0 m c t.val t.isLt).2.2 y = ∑ n ∈ Finset.range 8320, bN m c ⟨(y 1).val, (y 1).isLt⟩ n := by
  have h13 := lt13 t
  rw [Pipeline.eq_sum_of_reset_step_apply_of_mod (fun n h => (outsAt0 m c n h).2.2) 13 (fun _ => (0 : EReal))
    (addend6 m c) (step6_A m c) (step6_B m c) t h y, zero_add,
    show 8320 = 13 * 640 from rfl, Finset.sum_range_mul_split 13 640]
  refine Finset.sum_congr rfl fun k hk => ?_
  rw [Finset.sum_range, addend6]
  refine Finset.sum_congr rfl fun p _ => ?_
  rw [show 13 * (t.val / 13) + k = k by omega, Nat.mul_comm]

theorem arr6 : (dats m 0 c).arrAt 6 cfg0.N = outB (Sm m c) (Cm m c) (Gm m c) (Bm m c) := by
  refine (dats m 0 c).arrAt_eq_of_covers 6 _ (by decide +kernel) fun t hf y => ?_
  have e : ((cfg0.win 6).blk t).view.emb y = ix2 (⟨(y 0).val, (y 0).isLt⟩ : Fin 1) (⟨(y 1).val, (y 1).isLt⟩ : Fin 1024) := by
    blk_ext [idx_6 t]
  rw [e]
  blk_simp
  rw [after0_6]
  refine (last6 m c t ((flush0_6 t).mp hf) y).trans ?_
  rw [Finset.sum_range]
  refine Finset.sum_congr rfl fun n _ => ?_
  rw [bN, dif_pos n.isLt]
  rfl

end Cert.Kernel20Ideal.Gen
-- ==== Proof.LnMath.lean ====
/- One row of the layer norm's derivative, as the call takes it and as the chain rule gives it, over the extended reals. -/
module
public import proofs.«01_k».proof.Proof.LnSpec
public import proofs.«01_k».proof.Proof.DuMath
@[expose] public section
noncomputable section
namespace Ln
open Idealize.ShloMosaic

theorem two_eq : Ideal.ofBits .f32 0x40000000#32 = ((2 : ℝ) : EReal) := by
  simp [Ideal.ofBits, Ideal.ieee, -EReal.coe_mul, -EReal.coe_pow]; norm_num

theorem eps_eq : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul, -EReal.coe_pow]

/-- A difference is real only of reals. -/
theorem real_of_sub {a b : EReal} {q : ℝ} (h : a - b = q) : (∃ x : ℝ, a = x) ∧ ∃ y : ℝ, b = y := by
  induction a with
  | bot => simp at h
  | top =>
    induction b with
    | bot => simp at h
    | top => simp at h
    | coe y => simp at h
  | coe x =>
    induction b with
    | bot => simp at h
    | top => simp at h
    | coe y => exact ⟨⟨x, rfl⟩, y, rfl⟩

/-- A number less itself is zero only if it is real. -/
theorem real_of_self {a : EReal} (h : a - a = 0) : ∃ x : ℝ, a = x :=
  (real_of_sub (q := 0) (h.trans EReal.coe_zero.symm)).1

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Either a row's variance is infinite, or it is a positive real and the row is real. -/
theorem row_cases (c : Fin 1024 → EReal) :
    va c = ⊤ ∨ ((∃ v : ℝ, 0 < v ∧ va c = (v : EReal)) ∧ ∃ x : Fin 1024 → ℝ, (∀ k, xc c k = (x k : EReal)) ∧ ∑ k : Fin 1024, x k = 0) := by
  obtain ⟨e, he, hee⟩ := eps_eq
  unfold va
  rw [hee, Mlp.n_eq, Ideal.div_coe (by norm_num)]
  have h0 : 0 ≤ ∑ j : Fin 1024, xc c j * xc c j := Finset.sum_nonneg fun j _ => Mlp.self_mul_nonneg _
  by_cases ht : ∑ j : Fin 1024, xc c j * xc c j = ⊤
  · left
    rw [ht, EReal.top_mul_coe_of_pos (by norm_num), EReal.top_add_coe]
  · right
    have hb : ∑ j : Fin 1024, xc c j * xc c j ≠ ⊥ := fun h => by rw [h] at h0; exact absurd h0 (by simp)
    have hx : ∀ k, ∃ q : ℝ, xc c k = q := fun k => Mlp.real_of_sq fun h => ht (by
      have := Finset.single_le_sum (f := fun j : Fin 1024 => xc c j * xc c j) (fun j _ => Mlp.self_mul_nonneg _) (Finset.mem_univ k)
      exact top_le_iff.mp (h ▸ this))
    refine ⟨?_, ?_⟩
    · lift ∑ j : Fin 1024, xc c j * xc c j to ℝ using ⟨ht, hb⟩ with s hs
      have hs0 : 0 ≤ s := EReal.coe_nonneg.mp h0
      exact ⟨s * (1 / 1024) + e, by positivity, by push_cast; rfl⟩
    · choose x hx using hx
      refine ⟨x, hx, ?_⟩
      have hc : ∀ k, ∃ q : ℝ, c k = q := fun k => (real_of_sub (hx k)).1
      choose r hr using hc
      have hm : mu c = (((∑ j : Fin 1024, r j) * (1 / 1024) : ℝ) : EReal) := by
        unfold mu
        rw [Mlp.n_eq, Ideal.div_coe (by norm_num), EReal.coe_mul, coe_sum]
        simp only [hr]
      have hxk : ∀ k, x k = r k - (∑ j : Fin 1024, r j) * (1 / 1024) := fun k => by
        have := hx k
        unfold xc at this
        rw [hm, hr, ← EReal.coe_sub] at this
        exact (EReal.coe_injective this).symm
      simp only [hxk, Finset.sum_sub_distrib, Finset.sum_const, Finset.card_univ, Fintype.card_fin, nsmul_eq_mul]
      push_cast
      ring

/-- The activation's derivative times a real, as the call and as the product rule write it: one real number. -/
theorem dn_cases (x : EReal) (s : ℝ) : ∃ d : ℝ, (s : EReal) * (sg x * (1 + x * (1 - sg x))) = d
    ∧ (s : EReal) * sg x + x * s * (sg x * (1 - sg x)) = d := by
  induction x with
  | bot =>
    have h : sg ⊥ = 0 := by
      unfold sg
      simp [Ideal.div, show (1 : EReal) + ⊤ = ⊤ from EReal.coe_add_top 1]
    refine ⟨0, ?_, ?_⟩ <;> simp [h]
  | top =>
    have h : sg ⊤ = 1 := by
      unfold sg
      simp [Ideal.div]
    have h1 : (1 : EReal) - 1 = 0 := by rw [← EReal.coe_one, ← EReal.coe_sub]; simp
    refine ⟨s, ?_, ?_⟩ <;> simp [h, h1]
  | coe x =>
    obtain ⟨q, hq⟩ : ∃ q : ℝ, sg (x : EReal) = q := by
      unfold sg
      rw [← EReal.coe_zero, ← EReal.coe_sub, Ideal.exp_coe, ← EReal.coe_one, ← EReal.coe_add, Ideal.div_coe (by positivity), ← EReal.coe_mul]
      exact ⟨_, rfl⟩
    rw [hq]
    refine ⟨s * (q * (1 + x * (1 - q))), by push_cast; rfl, ?_⟩
    have : s * q + x * s * (q * (1 - q)) = s * (q * (1 + x * (1 - q))) := by ring
    exact_mod_cast this

/-- The same of a row. -/
theorem dn_ref (c g b s : Fin 1024 → EReal) (hs : ∀ k, ∃ q : ℝ, s k = q) (k : Fin 1024) :
    s k * sg (nrm c g b k) + nrm c g b k * s k * (sg (nrm c g b k) * (1 - sg (nrm c g b k))) = dn c g b s k := by
  obtain ⟨q, hq⟩ := hs k
  obtain ⟨d, h1, h2⟩ := dn_cases (nrm c g b k) q
  rw [dn, hq, h1, h2]

theorem dn_real (c g b s : Fin 1024 → EReal) (hs : ∀ k, ∃ q : ℝ, s k = q) (k : Fin 1024) : ∃ d : ℝ, dn c g b s k = d := by
  obtain ⟨q, hq⟩ := hs k
  obtain ⟨d, h1, _⟩ := dn_cases (nrm c g b k) q
  exact ⟨d, by rw [dn, hq, h1]⟩

/-- A row of the chain rule's gradient is the row that the call takes. -/
theorem dc_eq (c g b s : Fin 1024 → EReal) (hs : ∀ k, ∃ q : ℝ, s k = q) (hg : ∀ k, ∃ q : ℝ, g k = q) (k : Fin 1024) (B : EReal)
    (hB : B = Ideal.div ((∑ j : Fin 1024, xc c j * (dn c g b s j * g j)) * (Ideal.ofBits .f32 0xBF000000#32 * Ideal.div (rs c) (va c)))
      (Ideal.ofBits .f32 0x44800000#32)) :
    dn c g b s k * g k * rs c + B * (Ideal.ofBits .f32 0x40000000#32 * xc c k)
      + Ideal.div ((∑ j : Fin 1024, -(dn c g b s j * g j * rs c)) + ∑ j : Fin 1024, -(B * (Ideal.ofBits .f32 0x40000000#32 * xc c j)))
          (Ideal.ofBits .f32 0x44800000#32)
    = dc c g b s k := by
  have hD : ∀ j, ∃ d : ℝ, dn c g b s j * g j = d := fun j => by
    obtain ⟨d, hd⟩ := dn_real c g b s hs j
    obtain ⟨q, hq⟩ := hg j
    exact ⟨d * q, by rw [hd, hq, EReal.coe_mul]⟩
  choose D hD using hD
  unfold dc hx
  simp only [hD] at hB ⊢
  rw [Mlp.n_eq] at *
  rw [two_eq]
  rcases row_cases c with h | ⟨⟨v, hv, h⟩, x, hx, hsum⟩
  · have hr : rs c = 0 := by rw [rs, h, Ideal.rsqrt_top]
    have hB0 : B = 0 := by rw [hB, hr, h]; simp [Ideal.div]
    rw [hr, hB0]
    simp [Ideal.div]
  · have hr : rs c = (((Real.sqrt v)⁻¹ : ℝ) : EReal) := by rw [rs, h, Ideal.rsqrt_coe, if_neg (by linarith), if_neg (by linarith)]
    have hrv : (Real.sqrt v)⁻¹ * (1 / v) = (Real.sqrt v)⁻¹ * (Real.sqrt v)⁻¹ * (Real.sqrt v)⁻¹ := by
      have : v = Real.sqrt v * Real.sqrt v := (Real.mul_self_sqrt hv.le).symm
      rw [show (1 / v : ℝ) = (Real.sqrt v)⁻¹ * (Real.sqrt v)⁻¹ by rw [← mul_inv, ← this, one_div]]
      ring
    generalize (Real.sqrt v)⁻¹ = r at *
    have hB' : B = (((∑ j : Fin 1024, x j * D j) * (-(1 / 2) * (r * r * r)) * (1 / 1024) : ℝ) : EReal) := by
      rw [hB, hr, h, Mlp.mh_eq, Ideal.div_coe hv.ne', Ideal.div_coe (by norm_num), ← EReal.coe_mul r, hrv]
      simp only [hx]
      push_cast [coe_sum]
      rfl
    rw [hB', hr]
    simp only [hx]
    rw [Ideal.div_coe (by norm_num), Ideal.div_coe (by norm_num), Ideal.div_coe (by norm_num)]
    generalize hQ : (∑ j : Fin 1024, x j * D j) * (-(1 / 2) * (r * r * r)) * (1 / 1024) = Q
    have e1 : ∑ j : Fin 1024, -(D j * r) = -((∑ j : Fin 1024, D j) * r) := by rw [Finset.sum_neg_distrib, Finset.sum_mul]
    have e2 : ∑ j : Fin 1024, -(Q * (2 * x j)) = 0 := by
      rw [Finset.sum_neg_distrib, ← Finset.mul_sum, ← Finset.mul_sum, hsum]; ring
    have e3 : ∑ j : Fin 1024, D j * (x j * r) = (∑ j : Fin 1024, x j * D j) * r := by
      rw [Finset.sum_mul]; exact Finset.sum_congr rfl fun j _ => by ring
    have key : D k * r + Q * (2 * x k) + ((∑ j : Fin 1024, -(D j * r)) + ∑ j : Fin 1024, -(Q * (2 * x j))) * (1 / 1024)
        = r * (D k - (∑ j : Fin 1024, D j) * (1 / 1024) - x k * r * ((∑ j : Fin 1024, D j * (x j * r)) * (1 / 1024))) := by
      rw [e1, e2, e3, ← hQ]; ring
    have key' := congrArg (fun q : ℝ => (q : EReal)) key
    push_cast [coe_sum] at key'
    exact_mod_cast key'

end Ln
-- ==== Proof.LnClaim.lean ====
/- The gradients at the layer norm are the derivatives of the plain forward lines. -/
module
public import proofs.«01_k».proof.Defs
public import proofs.«01_k».proof.Proof.LnB
public import proofs.«01_k».proof.Proof.LnMath
public import proofs.«01_k».proof.Proof.Gen.Kernel20Ideal
public import proofs.«01_k».proof.Proof.Gen.Reference20Ideal
public import proofs.«01_k».proof.Proof.Gen.Reference20Ideal.Run
public import proofs.«01_k».proof.Proof.Gen.Reference20Ideal.Read
public import Idealize.ShloMosaic.Lib.Quiescent
public import Idealize.ShloMosaic.Lib.Pointwise
@[expose] public section
set_option maxRecDepth 16384
noncomputable section
namespace Cert.Proof.Ln
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference20Ideal Cert.Reference20Ideal.Read
variable (S C : (⟨2, ![8320, 1024]⟩ : Shape).Idx → EReal) (G B : (⟨2, ![1, 1024]⟩ : Shape).Idx → EReal)

/-- The precondition: the incoming gradient and the gain are real. -/
theorem fit [Cert.Pre_finite.Facts] (h : Cert.Pre_finite.fn (F := Ideal) S C G B = fun _ => 1#1) :
    (∀ n k, ∃ q : ℝ, S (ix2 n k) = q) ∧ ∀ k, ∃ q : ℝ, G (ix2 0 k) = q := by
  have e : ∀ (n : Fin 8320) (k : Fin 1024), S (ix2 n k) - S (ix2 n k) = 0 ∧ G (ix2 0 k) - G (ix2 0 k) = 0 := fun n k => by
    have e := congrFun h (ix2 n k)
    pointwise [Cert.Pre_finite.fn, Ideal.cmp, FloatOps.cmpf] at e
    by_cases h1 : S (ix2 n k) - S (ix2 n k) = 0
    · by_cases h2 : G (ix2 0 k) - G (ix2 0 k) = 0
      · exact ⟨h1, h2⟩
      · simp [h1, h2, IntOp.andi] at e
    · simp [h1, IntOp.andi] at e
  exact ⟨fun n k => Ln.real_of_self (e n k).1, fun k => Ln.real_of_self (e 0 k).2⟩

/-- The reference's values at an index: the centred row, its variance and its reciprocal deviation. -/
theorem v7_at (n : Fin 8320) (k : Fin 1024) : val_main_v7 (F := Ideal) C (ix2 n k) = Ln.xc (fun j => C (ix2 n j)) k := by
  unfold Ln.xc Ln.mu
  pointwise [val_main_v2, val_main_v3, val_main_v4, val_main_v5, val_main_v6, val_main_v7, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]

theorem v16_at (n : Fin 8320) (k : Fin 1024) : val_main_v16 (F := Ideal) C (ix2 n k) = Ln.xc (fun j => C (ix2 n j)) k := by
  unfold Ln.xc Ln.mu
  pointwise [val_main_v2, val_main_v3, val_main_v4, val_main_v5, val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]

theorem v18_at (n : Fin 8320) : val_main_v18 (F := Ideal) C (ix2 n 0) = Ln.va (fun j => C (ix2 n j)) := by
  unfold Ln.va
  pointwise [val_main_v8, val_main_v11, val_main_v12, val_main_v13, val_main_v14, val_main_v17, val_main_v18, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  simp only [v7_at]

theorem v19_at (n : Fin 8320) : val_main_v19 (F := Ideal) C (ix2 n 0) = Ln.rs (fun j => C (ix2 n j)) := by
  unfold Ln.rs
  rw [← v18_at]
  pointwise [val_main_v19]

theorem v24_at (n : Fin 8320) (k : Fin 1024) : val_main_v24 (F := Ideal) C (ix2 n k) = Ln.hx (fun j => C (ix2 n j)) k := by
  unfold Ln.hx
  rw [← v16_at, ← v19_at]
  pointwise [val_main_v23, val_main_v24]

theorem v30_at (n : Fin 8320) (k : Fin 1024) : val_main_v30 (F := Ideal) C G B (ix2 n k) = Ln.nrm (fun j => C (ix2 n j)) (fun j => G (ix2 0 j)) (fun j => B (ix2 0 j)) k := by
  unfold Ln.nrm
  rw [← v24_at]
  pointwise [val_main_v0, val_main_v1, val_main_v25, val_main_v26, val_main_v27, val_main_v28, val_main_v29, val_main_v30]

/-- The gradient before the activation. -/
theorem v44_at (hs : ∀ n k, ∃ q : ℝ, S (ix2 n k) = q) (n : Fin 8320) (k : Fin 1024) :
    val_main_v44 (F := Ideal) S C G B (ix2 n k) = Ln.dn (fun j => C (ix2 n j)) (fun j => G (ix2 0 j)) (fun j => B (ix2 0 j)) (fun j => S (ix2 n j)) k := by
  rw [← Ln.dn_ref _ _ _ _ (hs n)]
  unfold Ln.sg
  rw [← v30_at]
  pointwise [val_main_v31, val_main_v32, val_main_v33, val_main_v34, val_main_v35, val_main_v36, val_main_v37, val_main_v38, val_main_v39, val_main_v40, val_main_v41, val_main_v42, val_main_v43, val_main_v44, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  simp only [zero_sub]

/-- The gradient at the bias. -/
theorem refB [Cert.Pre_finite.Facts] (h : Cert.Pre_finite.fn (F := Ideal) S C G B = fun _ => 1#1) :
    val_main_v79 (F := Ideal) S C G B = Cert.Kernel20Ideal.Gen.outB S C G B := by
  suffices e : ∀ (n : Fin 1) (k : Fin 1024), val_main_v79 (F := Ideal) S C G B (ix2 n k) = Cert.Kernel20Ideal.Gen.outB S C G B (ix2 n k) by
    funext x
    rw [eta x]
    exact e _ _
  intro n k
  unfold Cert.Kernel20Ideal.Gen.outB
  pointwise [val_main_v45, val_main_v46, val_main_v47, val_main_v79, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  have hs := (fit _ _ _ _ h).1
  rw [Fin.sum_univ_one]
  exact Finset.sum_congr rfl fun n _ => v44_at _ _ _ _ hs n k

/-- The gradient at the gain. -/
theorem refG [Cert.Pre_finite.Facts] (h : Cert.Pre_finite.fn (F := Ideal) S C G B = fun _ => 1#1) :
    val_main_v78 (F := Ideal) S C G B = Cert.Kernel20Ideal.Gen.outG S C G B := by
  suffices e : ∀ (n : Fin 1) (k : Fin 1024), val_main_v78 (F := Ideal) S C G B (ix2 n k) = Cert.Kernel20Ideal.Gen.outG S C G B (ix2 n k) by
    funext x
    rw [eta x]
    exact e _ _
  intro n k
  unfold Cert.Kernel20Ideal.Gen.outG
  pointwise [val_main_v45, val_main_v46, val_main_v48, val_main_v49, val_main_v50, val_main_v51, val_main_v52, val_main_v53, val_main_v78, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  have hs := (fit _ _ _ _ h).1
  rw [Fin.sum_univ_one]
  refine Finset.sum_congr rfl fun n _ => ?_
  rw [mul_comm]
  exact congrArg₂ (· * ·) (v44_at _ _ _ _ hs n k) (v24_at _ n k)

/-- The gradient at the layer norm's input. -/
theorem refC [Cert.Pre_finite.Facts] (h : Cert.Pre_finite.fn (F := Ideal) S C G B = fun _ => 1#1) :
    val_main_v77 (F := Ideal) S C G B = Cert.Kernel20Ideal.Gen.outC S C G B := by
  suffices e : ∀ (n : Fin 8320) (k : Fin 1024), val_main_v77 (F := Ideal) S C G B (ix2 n k) = Cert.Kernel20Ideal.Gen.outC S C G B (ix2 n k) by
    funext x
    rw [eta x]
    exact e _ _
  intro n k
  unfold Cert.Kernel20Ideal.Gen.outC
  rw [← Ln.dc_eq _ _ _ _ ((fit _ _ _ _ h).1 _) (fit _ _ _ _ h).2 _ _ rfl]
  pointwise [val_main_v0, val_main_v1, val_main_v9, val_main_v10, val_main_v20, val_main_v21, val_main_v22, val_main_v25, val_main_v48, val_main_v49, val_main_v50, val_main_v51, val_main_v52, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19]
  simp only [Fin.sum_univ_one, v44_at _ _ _ _ (fit _ _ _ _ h).1, v7_at, v16_at, v18_at, v19_at]
end

open Cert.Reference20Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v77) = Read.val_main_v77 (F := Ideal) (m ((c.tc : Thread _ _).loc main_arg0)) (m ((c.tc : Thread _ _).loc main_arg1)) (m ((c.tc : Thread _ _).loc main_arg2)) (m ((c.tc : Thread _ _).loc main_arg3))
      ∧ r.2.mem ((c.tc : Thread _ _).loc main_v78) = Read.val_main_v78 (F := Ideal) (m ((c.tc : Thread _ _).loc main_arg0)) (m ((c.tc : Thread _ _).loc main_arg1)) (m ((c.tc : Thread _ _).loc main_arg2)) (m ((c.tc : Thread _ _).loc main_arg3))
      ∧ r.2.mem ((c.tc : Thread _ _).loc main_v79) = Read.val_main_v79 (F := Ideal) (m ((c.tc : Thread _ _).loc main_arg0)) (m ((c.tc : Thread _ _).loc main_arg1)) (m ((c.tc : Thread _ _).loc main_arg2)) (m ((c.tc : Thread _ _).loc main_arg3))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)) :=
  (θ_run defs _ _).mono (fun _ h c =>
    ⟨((h c).1.trans (Read.val_main_v77_eq _ _)),
     ((h c).2.1.trans (Read.val_main_v78_eq _ _)),
     ((h c).2.2.1.trans (Read.val_main_v79_eq _ _)), (h c).2.2.2⟩) (Value.run (F := Ideal) m g)

/-- The reference's frame: it declares no semaphore. -/
theorem reference_frame : Cert.quiescent_Reference20Ideal := fun m g _ =>
  (θ_run Cert.Reference20Ideal.defs _ _).mono (fun r h => ⟨fun c => (h c).2.2.2, sem_eq_zero_of_no_sems (by decide) r.2⟩) (reference_run m g)

/-- The reference's frame under the precondition. -/
theorem reference_frame_pre [Cert.Pre_finite.Facts] : Cert.quiescent_Reference20Ideal_pre_finite := fun m g _ =>
  reference_frame m g trivial

open Cert.Kernel20Ideal in
/-- The kernel's results are the reference's, under the precondition. -/
theorem algebraic [Cert.Pre_finite.Facts] : Cert.algebraic_Kernel20Ideal_Reference20Ideal_pre_finite := by
  intro m g m' g' hpre hagree
  refine ⟨fun c => Gen.outC (m ((c.tc : Thread _ _).loc main_arg0)) (m ((c.tc : Thread _ _).loc main_arg1)) (m ((c.tc : Thread _ _).loc main_arg2)) (m ((c.tc : Thread _ _).loc main_arg3)), fun c => Gen.outG (m ((c.tc : Thread _ _).loc main_arg0)) (m ((c.tc : Thread _ _).loc main_arg1)) (m ((c.tc : Thread _ _).loc main_arg2)) (m ((c.tc : Thread _ _).loc main_arg3)), fun c => Gen.outB (m ((c.tc : Thread _ _).loc main_arg0)) (m ((c.tc : Thread _ _).loc main_arg1)) (m ((c.tc : Thread _ _).loc main_arg2)) (m ((c.tc : Thread _ _).loc main_arg3)), ?_, ?_⟩
  · exact (θ_run defs _ _).mono (fun _ h c => ⟨(h c).1.trans (Gen.arr4 m c), (h c).2.1.trans (Gen.arr5 m c), (h c).2.2.1.trans (Gen.arr6 m c), (h c).2.2.2⟩) (Value.run_blocks (F := Ideal) m g)
  · refine (θ_run Cert.Reference20Ideal.defs _ _).mono (fun _ h c => ?_) (reference_run m' g')
    obtain ⟨h0, h1, h2, hk⟩ := h c
    obtain ⟨e0, e1, e2, e3⟩ := hagree c
    rw [e0, e1, e2, e3] at h0 h1 h2
    exact ⟨h0.trans (refC _ _ _ _ (hpre c)), h1.trans (refG _ _ _ _ (hpre c)), h2.trans (refB _ _ _ _ (hpre c)), hk⟩

end Cert.Proof.Ln
-- ==== Proof.MidSpec.lean ====
/- The gated depthwise convolution and its normalised activation, as functions of a row number and a channel. -/
module
public import proofs.«01_k».proof.Proof.ConvSpec
public import proofs.«01_k».proof.Proof.LnSpec
@[expose] public section
noncomputable section
namespace Mid
open Idealize.ShloMosaic ConvBwd

variable (V : (⟨2, ![8320, 2048]⟩ : Shape).Idx → EReal) (W : (⟨2, ![31, 1024]⟩ : Shape).Idx → EReal)
  (B G H : (⟨2, ![1, 1024]⟩ : Shape).Idx → EReal)

/-- Row `r` of the convolution: the bias and the gated values of row `r` and the 30 rows above it, each with its tap. -/
def cN (r : ℕ) (l : Fin 1024) : EReal := B (ix2 0 l) + ∑ k : Fin 31, W (ix2 k l) * gN V l (r + (k.val + 2))

/-- The convolution's rows. -/
def outC : (⟨2, ![8320, 1024]⟩ : Shape).Idx → EReal := fun x => cN V W B (x 0).val ⟨(x 1).val, (x 1).isLt⟩

/-- The rows after the layer norm and the activation. -/
def outS : (⟨2, ![8320, 1024]⟩ : Shape).Idx → EReal := fun x =>
  Ln.act (cN V W B (x 0).val) (fun j => G (ix2 0 j)) (fun j => H (ix2 0 j)) ⟨(x 1).val, (x 1).isLt⟩

end Mid
-- ==== Proof.MidBody.lean ====
/- What the conformer's middle call leaves in its result arrays. -/
module
public import proofs.«01_k».proof.Proof.Gen.Kernel21Ideal.Value
public import proofs.«01_k».proof.Proof.ConvBody
public import proofs.«01_k».proof.Proof.MidSpec
public import Idealize.ShloMosaic.Lib.Pipeline.ValueKit
public import Idealize.ShloMosaic.Lib.Pointwise
public import Idealize.ShloMosaic.Lib.WordCmp
@[expose] public section
set_option maxRecDepth 16384
noncomputable section
namespace Cert.Kernel21Ideal.Gen
open Idealize.ShloMosaic Idealize.ShloMosaic.TcCoe Idealize.SL.Sem Idealize.ShloMosaic.WordCmp ConvBwd

section
variable (i : grid0.Coords) (x0 x1 : (⟨2, ![128, 2048]⟩ : Shape).Idx → EReal) (x2 : (⟨2, ![32, 1024]⟩ : Shape).Idx → EReal)
  (x3 x4 x5 : (⟨2, ![1, 1024]⟩ : Shape).Idx → EReal)
  (V : (⟨2, ![8320, 2048]⟩ : Shape).Idx → EReal) (W : (⟨2, ![31, 1024]⟩ : Shape).Idx → EReal) (Bi G H : (⟨2, ![1, 1024]⟩ : Shape).Idx → EReal) (t : ℕ)

/-- The input blocks of grid point `t` are the rows of the arguments that its index maps name. -/
structure Blocks : Prop where
  point : (i 0).val = t
  a_cur : ∀ (p : Fin 128) (l : Fin 1024), x0 (ix2 p (lo l)) = aN V l (128 * t + p.val)
  s_cur : ∀ (p : Fin 128) (l : Fin 1024), sg (x0 (ix2 p (hi l))) = sN V l (128 * t + p.val)
  a_prev : 0 < t → ∀ (p : Fin 128) (l : Fin 1024), x1 (ix2 p (lo l)) = aN V l (128 * (t - 1) + p.val)
  s_prev : 0 < t → ∀ (p : Fin 128) (l : Fin 1024), sg (x1 (ix2 p (hi l))) = sN V l (128 * (t - 1) + p.val)
  taps : ∀ (j : Fin 31) (l : Fin 1024), x2 (ix2 ⟨j.val, by omega⟩ l) = W (ix2 j l)
  bias : ∀ l : Fin 1024, x3 (ix2 0 l) = Bi (ix2 0 l)

variable {i x0 x1 x2 x3 V W Bi t}

theorem Blocks.lt (B : Blocks i x0 x1 x2 x3 V W Bi t) : t < 65 := by
  have h : (i 0).val < 65 := (i 0).isLt
  have := B.point
  omega

/-- The 160 rows of gated value that a point's taps read: the last 32 rows of the block before and its own. -/
theorem win_apply (B : Blocks i x0 x1 x2 x3 V W Bi t) (n : Fin 160) (l : Fin 1024) :
    k0_pay28 (F := Ideal) i x0 x1 x2 x3 x4 x5 (ix2 n l) = gN V l (128 * t + n.val) := by
  have ht := B.lt
  unfold k0_pay28 k0_pay24 k0_pay25 k0_pay26 k0_pay27
  pointwise [k0_pay2, k0_pay3, k0_pay4, k0_pay5, k0_pay6]
  rw [B.point, Cert.KernelIdeal.Gen.gt0 t ht]
  split
  · rename_i h
    by_cases h0 : 0 < t
    · rw [Cert.KernelIdeal.Gen.mask_prev t n ht h0 h, if_pos h0, mul_one, select_ofBool]
      have h1 := B.a_prev h0 ⟨96 + n.val, by omega⟩ l
      have h2 := B.s_prev h0 ⟨96 + n.val, by omega⟩ l
      have e : 128 * (t - 1) + (96 + n.val) = 128 * t + n.val - 32 := by omega
      simp only [e] at h1 h2
      simp only [gN, decide_eq_true_eq, ← h1, ← h2, sg, hi, lo]
    · rw [if_neg h0, mul_zero, gN, if_neg (by omega)]
      unfold Scalar.select
      split <;> rfl
  · rename_i h
    rw [Cert.KernelIdeal.Gen.mask_cur t _ ht (by omega), select_ofBool]
    have h1 := B.a_cur ⟨n.val - 32, by omega⟩ l
    have h2 := B.s_cur ⟨n.val - 32, by omega⟩ l
    have e : 128 * t + (n.val - 32) = 128 * t + n.val - 32 := by omega
    have e' : 112 ≤ 128 * t + n.val - 32 ↔ 144 ≤ 128 * t + n.val := by omega
    simp only [e] at h1 h2
    simp only [gN, decide_eq_true_eq, ← h1, ← h2, sg, hi, lo, Nat.zero_add, e, e']

/-- The tower of 31 taps. -/
theorem taps_apply (B : Blocks i x0 x1 x2 x3 V W Bi t) (p : Fin 128) (l : Fin 1024) :
    k0_pay22 (F := Ideal) (k0_pay28 i x0 x1 x2 x3 x4 x5) (k0_pay29 i x0 x1 x2 x3 x4 x5) (k0_pay30 i x0 x1 x2 x3 x4 x5)
      (View.ld x2 r0_30) (View.ld x2 r0_31) (View.ld x2 r0_32) (View.ld x2 r0_33) (ix2 p l) = Mid.cN V W Bi (128 * t + p.val) l := by
  have hT : ∀ n h, k0_pay28 (F := Ideal) i x0 x1 x2 x3 x4 x5 (ix2 ⟨n, h⟩ l) = gN V l (128 * t + n) := fun n h => win_apply x4 x5 B ⟨n, h⟩ l
  have hW : ∀ (o : ℕ) (ho : o < 31) (h : o < 32), x2 (ix2 ⟨o, h⟩ l) = W (ix2 ⟨o, ho⟩ l) := fun o ho _ => B.taps ⟨o, ho⟩ l
  have e : ∀ a s, a ≤ 24 → 152 < s → s ≤ 160 → (a + p.val + 160 - s) % 160 = p.val + (a + 160 - s) := fun a s _ _ _ => by omega
  have e0 : ∀ s, 152 < s → s ≤ 160 → (p.val + 160 - s) % 160 = p.val + (160 - s) := fun s _ _ => by omega
  have ea : ∀ k, 128 * t + (p.val + k) = 128 * t + p.val + k := fun k => by omega
  have eb : ∀ k, 128 * t + (k + p.val) = 128 * t + p.val + k := fun k => by omega
  unfold k0_pay29 k0_pay30 k0_pay9 k0_pay8 k0_pay7
  generalize hg : k0_pay28 (F := Ideal) i x0 x1 x2 x3 x4 x5 = tg at hT ⊢
  unfold k0_pay28 at hg
  rw [hg]
  pointwise [k0_pay10, k0_pay11, k0_pay12, k0_pay13, k0_pay14, k0_pay15, k0_pay16, k0_pay17, k0_pay18, k0_pay19, k0_pay20, k0_pay21, k0_pay22]
  simp (disch := decide) only [hT, hW, B.bias, e, e0]
  unfold Mid.cN
  simp only [Fin.sum_univ_succ, Fin.val_zero, Fin.val_succ, Finset.univ_eq_empty, Finset.sum_empty, Nat.reduceSub, Nat.reduceAdd, Nat.zero_add, ea, eb, Nat.sub_zero, Nat.add_zero, add_zero]
  simp only [Fin.reduceSucc, Fin.zero_eta, Fin.reduceFinMk, Fin.coe_ofNat_eq_mod, Nat.reduceMod]
  abel

end
end Cert.Kernel21Ideal.Gen
-- ==== Proof.Mid.lean ====
/- The conformer's middle call leaves the convolution's rows and their activation in its result arrays. -/
module
public import proofs.«01_k».proof.Proof.MidBody
@[expose] public section
set_option maxRecDepth 16384
noncomputable section
namespace Cert.Kernel21Ideal.Gen
open Idealize.ShloMosaic Idealize.ShloMosaic.TcCoe Idealize.SL.Sem ConvBwd

section
variable {i : grid0.Coords} {x0 x1 : (⟨2, ![128, 2048]⟩ : Shape).Idx → EReal} {x2 : (⟨2, ![32, 1024]⟩ : Shape).Idx → EReal}
  {x3 : (⟨2, ![1, 1024]⟩ : Shape).Idx → EReal} (x4 x5 : (⟨2, ![1, 1024]⟩ : Shape).Idx → EReal)
  {V : (⟨2, ![8320, 2048]⟩ : Shape).Idx → EReal} {W : (⟨2, ![31, 1024]⟩ : Shape).Idx → EReal} {Bi : (⟨2, ![1, 1024]⟩ : Shape).Idx → EReal} {t : ℕ}

/-- The rows of the convolution that the body leaves. -/
theorem outc_at (B : Blocks i x0 x1 x2 x3 V W Bi t) (p : Fin 128) (l : Fin 1024) :
    out0_6 (F := Ideal) i x0 x1 x2 x3 x4 x5 (ix2 p l) = Mid.cN V W Bi (128 * t + p.val) l := by
  rw [← taps_apply x4 x5 B p l]
  unfold out0_6
  generalize k0_pay22 (F := Ideal) _ _ _ _ _ _ _ = C
  frame_out

/-- The normalised row, before the gain. -/
theorem hx_at (B : Blocks i x0 x1 x2 x3 V W Bi t) (p : Fin 128) (l : Fin 1024) :
    k0_pay23 (F := Ideal) (k0_pay28 i x0 x1 x2 x3 x4 x5) (k0_pay29 i x0 x1 x2 x3 x4 x5) (k0_pay30 i x0 x1 x2 x3 x4 x5)
      (View.ld x2 r0_30) (View.ld x2 r0_31) (View.ld x2 r0_32) (View.ld x2 r0_33) (ix2 p l) = Ln.hx (Mid.cN V W Bi (128 * t + p.val)) l := by
  have hc := taps_apply x4 x5 B p
  unfold k0_pay23
  generalize k0_pay22 (F := Ideal) _ _ _ _ _ _ _ = C at hc ⊢
  unfold Ln.hx Ln.rs Ln.va Ln.xc Ln.mu
  simp only [← hc]
  pointwise

/-- The rows of the activation that the body leaves. -/
theorem outs_at (B : Blocks i x0 x1 x2 x3 V W Bi t) (p : Fin 128) (l : Fin 1024) :
    out0_7 (F := Ideal) i x0 x1 x2 x3 x4 x5 (ix2 p l)
      = Ln.act (Mid.cN V W Bi (128 * t + p.val)) (fun j => x4 (ix2 0 j)) (fun j => x5 (ix2 0 j)) l := by
  unfold Ln.act Ln.nrm Ln.sg
  rw [← hx_at x4 x5 B p l]
  unfold out0_7
  generalize k0_pay23 (F := Ideal) _ _ _ _ _ _ _ = C
  frame_out
  pointwise [k0_pay1]

end

variable (m : (ℓ : Loc nD τ sig) → Buf (Elt Ideal) ℓ) (c : Dev nD)

/-- The arguments, as the kernel finds them. -/
abbrev Vm : (⟨2, ![8320, 2048]⟩ : Shape).Idx → EReal := m ((c.tc : Thread nD τ).loc main_arg0)
abbrev Wm : (⟨2, ![31, 1024]⟩ : Shape).Idx → EReal := m ((c.tc : Thread nD τ).loc main_arg1)
abbrev Bm : (⟨2, ![1, 1024]⟩ : Shape).Idx → EReal := m ((c.tc : Thread nD τ).loc main_arg2)
abbrev Gm : (⟨2, ![1, 1024]⟩ : Shape).Idx → EReal := m ((c.tc : Thread nD τ).loc main_arg3)
abbrev Em : (⟨2, ![1, 1024]⟩ : Shape).Idx → EReal := m ((c.tc : Thread nD τ).loc main_arg4)

abbrev X0 (t : Fin cfg0.N) : (⟨2, ![128, 2048]⟩ : Shape).Idx → EReal := iblk m c 0 t
abbrev X1 (t : Fin cfg0.N) : (⟨2, ![128, 2048]⟩ : Shape).Idx → EReal := iblk m c 1 t
abbrev X2 (t : Fin cfg0.N) : (⟨2, ![32, 1024]⟩ : Shape).Idx → EReal := iblk m c 2 t
abbrev X3 (t : Fin cfg0.N) : (⟨2, ![1, 1024]⟩ : Shape).Idx → EReal := iblk m c 3 t
abbrev X4 (t : Fin cfg0.N) : (⟨2, ![1, 1024]⟩ : Shape).Idx → EReal := iblk m c 4 t
abbrev X5 (t : Fin cfg0.N) : (⟨2, ![1, 1024]⟩ : Shape).Idx → EReal := iblk m c 5 t

theorem coord0 : ∀ t : Fin cfg0.N, ((grid0.coords t) 0).val = t.val := by decide +kernel
theorem idx_0 : ∀ t : Fin cfg0.N, win0_0.index t = ![t.val, 0] := by decide +kernel
theorem idx_1 : ∀ t : Fin cfg0.N, win0_1.index t = ![t.val - 1, 0] := by decide +kernel
theorem idx_2 : ∀ t : Fin cfg0.N, win0_2.index t = ![0, 0] := by decide +kernel
theorem idx_3 : ∀ t : Fin cfg0.N, win0_3.index t = ![0, 0] := by decide +kernel
theorem idx_4 : ∀ t : Fin cfg0.N, win0_4.index t = ![0, 0] := by decide +kernel
theorem idx_5 : ∀ t : Fin cfg0.N, win0_5.index t = ![0, 0] := by decide +kernel
theorem idx_6 : ∀ t : Fin cfg0.N, win0_6.index t = ![t.val, 0] := by decide +kernel
theorem idx_7 : ∀ t : Fin cfg0.N, win0_7.index t = ![t.val, 0] := by decide +kernel

theorem lt65 (t : Fin cfg0.N) : t.val < 65 := by
  have := t.isLt
  have h : cfg0.N = 65 := N_0
  omega

theorem blk0 (t : Fin cfg0.N) (p : Fin 128) (l : Fin 2048) :
    X0 m c t (ix2 p l) = Vm m c (ix2 ⟨128 * t.val + p.val, by have := lt65 t; omega⟩ l) := by
  have h := lt65 t
  blk_ext [X0, iblk, V_main_arg0, idx_0 t]

theorem blk1 (t : Fin cfg0.N) (p : Fin 128) (l : Fin 2048) :
    X1 m c t (ix2 p l) = Vm m c (ix2 ⟨128 * (t.val - 1) + p.val, by have := lt65 t; omega⟩ l) := by
  have h := lt65 t
  blk_ext [X1, iblk, V_main_arg0, idx_1 t]

/-- The padded taps, as the host lines before the kernel leave them. -/
theorem padw (x : (⟨2, ![32, 1024]⟩ : Shape).Idx) : (V m c main_v0 : (⟨2, ![32, 1024]⟩ : Shape).Idx → EReal) x =
    pad S32x1024 ![0, 0] ![1, 0] ![0, 0] (Wm m c) (sitofp (F := Ideal) FTy.f32 (constantI S_ 32 0#32)) pads_S31x1024_S32x1024_010_000 h_S_ x := by
  refine congrFun ?_ x
  unfold V
  simp only [hostOps0, hostOps0_1, List.flatten_cons, List.flatten_nil, List.append_nil, List.cons_append, List.nil_append]
  after_results
  rfl

theorem blk2 (t : Fin cfg0.N) (j : Fin 31) (l : Fin 1024) :
    X2 m c t (ix2 ⟨j.val, by omega⟩ l) = Wm m c (ix2 j l) := by
  have e : X2 m c t (ix2 ⟨j.val, by omega⟩ l) = (V m c main_v0 : (⟨2, ![32, 1024]⟩ : Shape).Idx → EReal) (ix2 ⟨j.val, by omega⟩ l) := by
    blk_ext [X2, iblk, idx_2 t]
  refine e.trans ((padw m c _).trans ?_)
  pointwise

theorem blk3 (t : Fin cfg0.N) (l : Fin 1024) : X3 m c t (ix2 0 l) = Bm m c (ix2 0 l) := by
  blk_ext [X3, iblk, V_main_arg2, idx_3 t]
theorem blk4 (t : Fin cfg0.N) (l : Fin 1024) : X4 m c t (ix2 0 l) = Gm m c (ix2 0 l) := by
  blk_ext [X4, iblk, V_main_arg3, idx_4 t]
theorem blk5 (t : Fin cfg0.N) (l : Fin 1024) : X5 m c t (ix2 0 l) = Em m c (ix2 0 l) := by
  blk_ext [X5, iblk, V_main_arg4, idx_5 t]

/-- At grid point `t` the input blocks are the rows that `Blocks` names. -/
theorem blocks (t : Fin cfg0.N) : Blocks (grid0.coords t) (X0 m c t) (X1 m c t) (X2 m c t) (X3 m c t) (Vm m c) (Wm m c) (Bm m c) t.val where
  point := coord0 t
  a_cur p l := by rw [aN, dif_pos (by have := lt65 t; omega)]; exact blk0 m c t p (lo l)
  s_cur p l := by rw [sN, dif_pos (by have := lt65 t; omega)]; exact congrArg sg (blk0 m c t p (hi l))
  a_prev _ p l := by rw [aN, dif_pos (by have := lt65 t; omega)]; exact blk1 m c t p (lo l)
  s_prev _ p l := by rw [sN, dif_pos (by have := lt65 t; omega)]; exact congrArg sg (blk1 m c t p (hi l))
  taps := blk2 m c t
  bias := blk3 m c t

/-- The convolution's array. -/
theorem arr6 : (dats m 0 c).arrAt 6 cfg0.N = Mid.outC (Vm m c) (Wm m c) (Bm m c) := by
  refine (dats m 0 c).arrAt_eq_of_covers 6 _ (by decide +kernel) fun t hf y => ?_
  have h65 := lt65 t
  have y0 : (y 0).val < 128 := (y 0).isLt
  have y1 : (y 1).val < 1024 := (y 1).isLt
  have e : ((cfg0.win 6).blk t).view.emb y = ix2 (⟨128 * t.val + (y 0).val, by omega⟩ : Fin 8320) (⟨(y 1).val, y1⟩ : Fin 1024) := by
    blk_ext [idx_6 t]
  rw [e]
  blk_simp
  rw [after0_6]
  have hy : y = ix2 (⟨(y 0).val, y0⟩ : Fin 128) (⟨(y 1).val, y1⟩ : Fin 1024) := by
    funext a
    match a with
    | 0 => rfl
    | 1 => rfl
  refine (congrArg (out0_6 (F := Ideal) (grid0.coords t) (X0 m c t) (X1 m c t) (X2 m c t) (X3 m c t) (X4 m c t) (X5 m c t)) hy).trans ((outc_at (X4 m c t) (X5 m c t) (blocks m c t) _ _).trans ?_)
  rfl

/-- The activation's array. -/
theorem arr7 : (dats m 0 c).arrAt 7 cfg0.N = Mid.outS (Vm m c) (Wm m c) (Bm m c) (Gm m c) (Em m c) := by
  refine (dats m 0 c).arrAt_eq_of_covers 7 _ (by decide +kernel) fun t hf y => ?_
  have h65 := lt65 t
  have y0 : (y 0).val < 128 := (y 0).isLt
  have y1 : (y 1).val < 1024 := (y 1).isLt
  have e : ((cfg0.win 7).blk t).view.emb y = ix2 (⟨128 * t.val + (y 0).val, by omega⟩ : Fin 8320) (⟨(y 1).val, y1⟩ : Fin 1024) := by
    blk_ext [idx_7 t]
  rw [e]
  blk_simp
  rw [after0_7]
  have hy : y = ix2 (⟨(y 0).val, y0⟩ : Fin 128) (⟨(y 1).val, y1⟩ : Fin 1024) := by
    funext a
    match a with
    | 0 => rfl
    | 1 => rfl
  refine (congrArg (out0_7 (F := Ideal) (grid0.coords t) (X0 m c t) (X1 m c t) (X2 m c t) (X3 m c t) (X4 m c t) (X5 m c t)) hy).trans ((outs_at (X4 m c t) (X5 m c t) (blocks m c t) _ _).trans ?_)
  simp only [blk4, blk5]
  rfl

end Cert.Kernel21Ideal.Gen
-- ==== Proof.MidRef.lean ====
/- What the reference of the conformer's middle computes, at an index. -/
module
public import proofs.«01_k».proof.Proof.Gen.Reference21Ideal.Read
public import proofs.«01_k».proof.Proof.MidSpec
public import Idealize.ShloMosaic.Lib.Pointwise
@[expose] public section
set_option maxRecDepth 16384
noncomputable section
namespace Cert.Reference21Ideal.Read
open Idealize.ShloMosaic Idealize.ShloMosaic.TcCoe Idealize.SL.Sem Cert.Reference21Ideal ConvBwd

variable (V : (⟨2, ![8320, 2048]⟩ : Shape).Idx → EReal) (W : (⟨2, ![31, 1024]⟩ : Shape).Idx → EReal)
  (B G H : (⟨2, ![1, 1024]⟩ : Shape).Idx → EReal)

/-- The gated value, from row 112 on. -/
theorem g_ref (r : Fin 8208) (l : Fin 1024) : val_main_v9 (F := Ideal) V (ix2 r l) = aN V l (r.val + 112) * sN V l (r.val + 112) := by
  rw [aN, dif_pos (by omega), sN, dif_pos (by omega)]
  pointwise [val_main_v0, val_main_v1, val_main_v2, val_main_v3, val_main_v4, val_main_v5, val_main_v6, val_main_v7, val_main_v8, val_main_v9, val_main_cst, val_main_cst_0]
  rw [sg, zero_sub]
  have e : (⟨112 + r.val, by omega⟩ : Fin 8320) = ⟨r.val + 112, by omega⟩ := Fin.ext (Nat.add_comm _ _)
  rw [e]

/-- The padded sequence that the taps run over. -/
theorem xp_ref (n : Fin 8350) (l : Fin 1024) : val_main_v13 (F := Ideal) V (ix2 n l) = gN V l (n.val + 2) := by
  pointwise [val_main_v10, val_main_v11, val_main_v12, val_main_v13, val_main_cst_1, val_main_cst_2, g_ref]
  unfold gN
  split
  · rw [if_neg (by omega)]
  · split
    · rw [if_neg (by omega)]
    · rw [if_pos (by omega), show n.val - 30 - 112 + 112 = n.val + 2 - 32 by omega]

/-- The convolution. -/
theorem c_ref (r : Fin 8320) (l : Fin 1024) : val_main_v169 (F := Ideal) V W B (ix2 r l) = Mid.cN V W B r.val l := by
  pointwise [val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, xp_ref]
  unfold Mid.cN
  have ea : ∀ k, k + r.val + 2 = r.val + (k + 2) := fun k => by omega
  simp only [Fin.sum_univ_succ, Fin.val_zero, Fin.val_succ, Finset.univ_eq_empty, Finset.sum_empty, ea, Nat.reduceAdd, Nat.zero_add, add_zero]
  simp only [Fin.reduceSucc, Fin.zero_eta]
  abel

/-- The mean of a row of the convolution and the rest of its layer norm. -/
theorem xc_ref (r : Fin 8320) (l : Fin 1024) : val_main_v175 (F := Ideal) V W B (ix2 r l) = Ln.xc (Mid.cN V W B r.val) l := by
  unfold Ln.xc Ln.mu
  simp only [← c_ref]
  pointwise [val_main_v170, val_main_v171, val_main_v172, val_main_v173, val_main_v174, val_main_v175, val_main_cst_3, val_main_cst_4]

theorem xc_ref' (r : Fin 8320) (l : Fin 1024) : val_main_v182 (F := Ideal) V W B (ix2 r l) = Ln.xc (Mid.cN V W B r.val) l := by
  unfold Ln.xc Ln.mu
  simp only [← c_ref]
  pointwise [val_main_v170, val_main_v171, val_main_v172, val_main_v173, val_main_v181, val_main_v182, val_main_cst_3, val_main_cst_4]

theorem n_ref (r : Fin 8320) (l : Fin 1024) : val_main_v191 (F := Ideal) V W B G H (ix2 r l)
    = Ln.nrm (Mid.cN V W B r.val) (fun j => G (ix2 0 j)) (fun j => H (ix2 0 j)) l := by
  unfold Ln.nrm Ln.hx Ln.rs Ln.va
  pointwise [val_main_v176, val_main_v177, val_main_v178, val_main_v179, val_main_v180, val_main_v183, val_main_v184, val_main_v185, val_main_v186, val_main_v187, val_main_v188, val_main_v189, val_main_v190, val_main_v191, val_main_cst_5, val_main_cst_6, val_main_cst_7, xc_ref, xc_ref']

/-- The activation. -/
theorem s_ref (r : Fin 8320) (l : Fin 1024) : val_main_v199 (F := Ideal) V W B G H (ix2 r l)
    = Ln.act (Mid.cN V W B r.val) (fun j => G (ix2 0 j)) (fun j => H (ix2 0 j)) l := by
  unfold Ln.act Ln.sg
  rw [← n_ref]
  pointwise [val_main_v192, val_main_v193, val_main_v194, val_main_v195, val_main_v196, val_main_v197, val_main_v198, val_main_v199, val_main_cst_8, val_main_cst_9]
  rw [zero_sub]

end Cert.Reference21Ideal.Read
-- ==== Proof.MidClaim.lean ====
/- The gated convolution and its normalised activation are the plain forward lines. -/
module
public import proofs.«01_k».proof.Defs
public import proofs.«01_k».proof.Proof.Mid
public import proofs.«01_k».proof.Proof.MidRef
public import proofs.«01_k».proof.Proof.Gen.Kernel21Ideal
public import proofs.«01_k».proof.Proof.Gen.Reference21Ideal
public import proofs.«01_k».proof.Proof.Gen.Reference21Ideal.Run
public import proofs.«01_k».proof.Proof.Gen.Reference21Ideal.Read
public import Idealize.ShloMosaic.Lib.Quiescent
public import Idealize.ShloMosaic.Lib.Pointwise
@[expose] public section
set_option maxRecDepth 16384
noncomputable section
namespace Cert.Proof.Mid
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference21Ideal Cert.Reference21Ideal.Read
variable (V : (⟨2, ![8320, 2048]⟩ : Shape).Idx → EReal) (W : (⟨2, ![31, 1024]⟩ : Shape).Idx → EReal)
  (B G E : (⟨2, ![1, 1024]⟩ : Shape).Idx → EReal)

theorem refC : val_main_v169 (F := Ideal) V W B = Mid.outC V W B := by
  funext x; rw [eta x]; exact c_ref V W B _ _

theorem refS : val_main_v199 (F := Ideal) V W B G E = Mid.outS V W B G E := by
  funext x; rw [eta x]; exact s_ref V W B G E _ _

end

open Cert.Reference21Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v169) = Mid.outC (m ((c.tc : Thread _ _).loc main_arg0)) (m ((c.tc : Thread _ _).loc main_arg1)) (m ((c.tc : Thread _ _).loc main_arg2))
      ∧ r.2.mem ((c.tc : Thread _ _).loc main_v199) = Mid.outS (m ((c.tc : Thread _ _).loc main_arg0)) (m ((c.tc : Thread _ _).loc main_arg1)) (m ((c.tc : Thread _ _).loc main_arg2)) (m ((c.tc : Thread _ _).loc main_arg3)) (m ((c.tc : Thread _ _).loc main_arg4))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)) :=
  (θ_run defs _ _).mono (fun _ h c =>
    ⟨((h c).1.trans (Read.val_main_v169_eq _)).trans (refC _ _ _),
     ((h c).2.1.trans (Read.val_main_v199_eq _)).trans (refS _ _ _ _ _), (h c).2.2⟩) (Value.run (F := Ideal) m g)

/-- The reference's frame: it declares no semaphore. -/
theorem reference_frame : Cert.quiescent_Reference21Ideal := fun m g _ =>
  (θ_run Cert.Reference21Ideal.defs _ _).mono (fun r h => ⟨fun c => (h c).2.2, sem_eq_zero_of_no_sems (by decide) r.2⟩) (reference_run m g)

open Cert.Kernel21Ideal in
/-- The kernel's results are the reference's. -/
theorem algebraic : Cert.algebraic_Kernel21Ideal_Reference21Ideal := by
  intro m g m' g' _ hagree
  refine ⟨fun c => Mid.outC (m ((c.tc : Thread _ _).loc main_arg0)) (m ((c.tc : Thread _ _).loc main_arg1)) (m ((c.tc : Thread _ _).loc main_arg2)), fun c => Mid.outS (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), ?_, ?_⟩
  · exact (θ_run defs _ _).mono (fun _ h c => ⟨(h c).1.trans (Gen.arr6 m c), (h c).2.1.trans (Gen.arr7 m c), (h c).2.2⟩) (Value.run_blocks (F := Ideal) m g)
  · refine (θ_run Cert.Reference21Ideal.defs _ _).mono (fun _ h c => ?_) (reference_run m' g')
    obtain ⟨h0, h1, hk⟩ := h c
    obtain ⟨e0, e1, e2, e3, e4⟩ := hagree c
    rw [e0, e1, e2] at h0
    rw [e0, e1, e2, e3, e4] at h1
    exact ⟨h0, h1, hk⟩

end Cert.Proof.Mid
-- ==== Proof.SsdSpec.lean ====
/- The short convolutions and the step sizes of the state-space branch, as functions of a row number and a channel. -/
module
public import Idealize.ShloMosaic.Lib.Pointwise
@[expose] public section
noncomputable section
namespace Ssd
open Idealize.ShloMosaic

variable (P : (⟨2, ![8320, 3200]⟩ : Shape).Idx → EReal)

/-- Row `n` of the projection after three rows of zeros, at column `k`. -/
def hN (k : Fin 3200) (n : ℕ) : EReal := if h : 3 ≤ n ∧ n < 8323 then P (ix2 ⟨n - 3, by omega⟩ k) else 0

/-- Row `r` of the causal convolution of column `k`, with taps `w` and bias `b`. -/
def cN (w : Fin 4 → EReal) (b : EReal) (k : Fin 3200) (r : ℕ) : EReal :=
  w 0 * hN P k r + w 1 * hN P k (1 + r) + w 2 * hN P k (2 + r) + w 3 * hN P k (3 + r) + b

/-- The convolution of the `C` columns from `o` on. -/
def outC (o C : ℕ) (ho : o + C ≤ 3200) (W : (⟨2, ![4, C]⟩ : Shape).Idx → EReal) (B : (⟨2, ![1, C]⟩ : Shape).Idx → EReal) :
    (⟨2, ![8320, C]⟩ : Shape).Idx → EReal := fun x =>
  have h1 : (x 1).val < C := (x 1).isLt
  cN P (fun j => W (ix2 j ⟨(x 1).val, h1⟩)) (B (ix2 0 ⟨(x 1).val, h1⟩)) ⟨o + (x 1).val, by omega⟩ (x 0).val

/-- The step size of a raw value. -/
def sp (v : EReal) : EReal := max v 0 + Ideal.log1p (Ideal.exp (0 - max v (-v)))

/-- The step sizes: zero on the padding rows and beyond the sixteen heads. -/
def outT (D : (⟨2, ![1, 128]⟩ : Shape).Idx → EReal) : (⟨2, ![8320, 128]⟩ : Shape).Idx → EReal := fun x =>
  have h0 : (x 0).val < 8320 := (x 0).isLt
  have h1 : (x 1).val < 128 := (x 1).isLt
  if 112 ≤ (x 0).val ∧ (x 1).val < 16 then
    sp (P (ix2 ⟨(x 0).val, h0⟩ ⟨3072 + (x 1).val, by omega⟩) + D (ix2 0 ⟨(x 1).val, h1⟩)) else 0

/-- Reading under a mask of two conditions. -/
theorem select_and {a b : Prop} [Decidable a] [Decidable b] (x y : EReal) :
    Scalar.select (IntOp.andi (BitVec.ofBool (decide a)) (BitVec.ofBool (decide b))) x y = if a ∧ b then x else y := by
  by_cases ha : a <;> by_cases hb : b <;> simp [ha, hb, Scalar.select, IntOp.andi]

end Ssd
-- ==== Proof.SsdRows.lean ====
/- Reading rows of a matrix that was written by blocks of consecutive rows. -/
module
public import Idealize.ShloMosaic.Lib.Pipeline.ValueKit
public import Idealize.ShloMosaic.Lib.Pointwise
public import Idealize.ShloMosaic.Lib.WritesUnit
public import proofs.«01_k».proof.Proof.SsdSpec
@[expose] public section
noncomputable section
namespace Ssd
open Idealize.ShloMosaic Idealize.ShloMosaic.TcCoe Idealize.SL.Sem Idealize.ShloMosaic.View

variable {sig : RefSig} {κ : Kind} {sp : Space} {m n : ℕ} (v : View sig κ sp ⟨2, ![m, n]⟩ .f32) (f : v.ty.Contents (Elt Ideal))

/-- A row after a store of `W` rows from row `o` on: the store's row, or what the earlier stores left. -/
theorem row_block (o W : ℕ) (inb : ∀ a : Fin 2, (![o, 0] : Fin 2 → ℕ) a + (![W, n] : Fin 2 → ℕ) a ≤ (![m, n] : Fin 2 → ℕ) a)
    (w : (⟨2, ![W, n]⟩ : Shape).Idx → Elt Ideal .f32) (L : List (Piece (Elt Ideal) (⟨2, ![m, n]⟩ : Shape) .f32)) (r : ℕ) (hr : r < m) (l : Fin n) :
    v.read (Elt Ideal) (v.writes (Elt Ideal) f ((⟨Rect.unit (s := ⟨2, ![m, n]⟩) ![o, 0] ![W, n] inb, w⟩ : Piece (Elt Ideal) (⟨2, ![m, n]⟩ : Shape) .f32) :: L)) (ix2 ⟨r, hr⟩ l)
      = if h : o ≤ r ∧ r < o + W then w (ix2 ⟨r - o, by omega⟩ l) else v.read (Elt Ideal) (v.writes (Elt Ideal) f L) (ix2 ⟨r, hr⟩ l) := by
  split
  · rename_i h
    refine View.read_writes_cons_rows_of_mem v f inb w L (ix2 ⟨r, hr⟩ l) (ix2 (⟨r - o, by omega⟩ : Fin W) l) rfl ?_ rfl
    show r = o + (r - o)
    omega
  · exact View.read_writes_cons_rows_of_not_mem (o := o) (W := W) v f inb w L (ix2 ⟨r, hr⟩ l) rfl rfl (by
      change r < o ∨ o + W ≤ r
      omega)

/-- A load of `h` rows from row `o` on is a read of those rows. -/
theorem rows_load (o h : ℕ) (inb) (a : Fin h) (l : Fin n) (ho : o + a.val < m) :
    v.readAt (Elt Ideal) (Rect.unit (s := ⟨2, ![m, n]⟩) ![o, 0] ![h, n] inb).toLoadRect f (ix2 a l) = v.read (Elt Ideal) f (ix2 ⟨o + a.val, ho⟩ l) := by
  unfold View.readAt
  congr 1
  funext x
  apply Fin.ext
  match x with
  | 0 => simp [LoadRect.idx, Rect.toLoadRect, Rect.unit, ix2]; rfl
  | 1 => simp [LoadRect.idx, Rect.toLoadRect, Rect.unit, ix2]; rfl

/-- The same of what a list of stores leaves. -/
theorem rows_cov (L : List (Piece (Elt Ideal) (⟨2, ![m, n]⟩ : Shape) .f32)) (o h : ℕ) (inb) (a : Fin h) (l : Fin n) (ho : o + a.val < m) :
    v.readCov L (Rect.unit (s := ⟨2, ![m, n]⟩) ![o, 0] ![h, n] inb).toLoadRect (ix2 a l)
      = v.read (Elt Ideal) (v.writes (Elt Ideal) v.junk L) (ix2 ⟨o + a.val, ho⟩ l) :=
  rows_load v _ o h inb a l ho

/-- Row `r` of eight kept rows followed by a block of 128 rows. -/
def win (S : Fin 8 → Fin n → EReal) (X : (⟨2, ![128, n]⟩ : Shape).Idx → EReal) (l : Fin n) (r : ℕ) : EReal :=
  if h : r < 8 then S ⟨r, h⟩ l else if h' : r < 136 then X (ix2 ⟨r - 8, by omega⟩ l) else 0

variable (u : View sig κ sp ⟨2, ![136, n]⟩ .f32) (g : u.ty.Contents (Elt Ideal)) (X : (⟨2, ![128, n]⟩ : Shape).Idx → EReal)

/-- What a store of the block leaves below the rows that were there. -/
theorem win_block (inb) (L : List (Piece (Elt Ideal) (⟨2, ![136, n]⟩ : Shape) .f32)) (r : ℕ) (hr : r < 136) (l : Fin n) :
    u.read (Elt Ideal) (u.writes (Elt Ideal) g ((⟨Rect.unit (s := ⟨2, ![136, n]⟩) ![8, 0] ![128, n] inb, X⟩ : Piece (Elt Ideal) (⟨2, ![136, n]⟩ : Shape) .f32) :: L)) (ix2 ⟨r, hr⟩ l)
      = win (fun s l => u.read (Elt Ideal) (u.writes (Elt Ideal) g L) (ix2 ⟨s.val, by omega⟩ l)) X l r := by
  rw [row_block, win]
  by_cases h : r < 8
  · rw [dif_neg (by omega), dif_pos h]
  · rw [dif_pos (by omega), dif_neg h, dif_pos hr]

/-- A row of the window, by its place in an array. -/
theorem win_eq (S : Fin 8 → Fin n → EReal) (l : Fin n) (H : ℕ → EReal) (t r : ℕ) (h5 : 5 ≤ r) (hr : r < 136)
    (hS : ∀ s : Fin 8, 5 ≤ s.val → S s l = H (t + s.val - 5)) (hX : ∀ p : Fin 128, X (ix2 p l) = H (t + p.val + 3)) :
    win S X l r = H (t + r - 5) := by
  rw [win]
  split
  · exact hS ⟨r, _⟩ h5
  · rw [hX]
    congr 1
    simp only
    omega

/-- A store of the block over what an array held. -/
theorem win_over (f : (⟨2, ![136, n]⟩ : Shape).Idx → EReal) (hg : u.read (Elt Ideal) g = f) (inb) (r : ℕ) (hr : r < 136) (l : Fin n) :
    u.read (Elt Ideal) (u.writes (Elt Ideal) g [(⟨Rect.unit (s := ⟨2, ![136, n]⟩) ![8, 0] ![128, n] inb, X⟩ : Piece (Elt Ideal) (⟨2, ![136, n]⟩ : Shape) .f32)]) (ix2 ⟨r, hr⟩ l)
      = win (fun s l => f (ix2 ⟨s.val, by omega⟩ l)) X l r := by
  rw [win_block]
  exact congrArg (fun S => win S X l r) (funext fun s => funext fun l => congrFun hg _)

/-- A load of 128 rows, after a store of eight rows and one of the block. -/
theorem win_first (Z : (⟨2, ![8, n]⟩ : Shape).Idx → EReal) (inb inb') (o : ℕ) (inb'' : ∀ a : Fin 2, (![o, 0] : Fin 2 → ℕ) a + (![128, n] : Fin 2 → ℕ) a ≤ (![136, n] : Fin 2 → ℕ) a) (p : Fin 128) (l : Fin n) (ho : o + p.val < 136) :
    u.readCov [(⟨Rect.unit (s := ⟨2, ![136, n]⟩) ![8, 0] ![128, n] inb, X⟩ : Piece (Elt Ideal) (⟨2, ![136, n]⟩ : Shape) .f32),
        (⟨Rect.unit (s := ⟨2, ![136, n]⟩) ![0, 0] ![8, n] inb', Z⟩ : Piece (Elt Ideal) (⟨2, ![136, n]⟩ : Shape) .f32)]
        (Rect.unit (s := ⟨2, ![136, n]⟩) ![o, 0] ![128, n] inb'').toLoadRect (ix2 p l)
      = win (fun s l => Z (ix2 s l)) X l (o + p.val) := by
  rw [rows_cov u _ o 128 inb'' p l ho, win_block]
  refine congrArg (fun S => win S X l (o + p.val)) (funext fun s => funext fun l => ?_)
  rw [row_block, dif_pos (by omega)]
  rfl

/-- A load of the block itself. -/
theorem win_last (S : Fin 8 → Fin n → EReal) (inb inb') (p : Fin 128) (l : Fin n) :
    u.readCov [(⟨Rect.unit (s := ⟨2, ![136, n]⟩) ![8, 0] ![128, n] inb, X⟩ : Piece (Elt Ideal) (⟨2, ![136, n]⟩ : Shape) .f32)]
        (Rect.unit (s := ⟨2, ![136, n]⟩) ![8, 0] ![128, n] inb').toLoadRect (ix2 p l) = win S X l (8 + p.val) := by
  rw [rows_cov u _ 8 128 inb' p l (by omega), win_block]
  have h : ¬ 8 + p.val < 8 := by omega
  unfold win
  rw [dif_neg h, dif_neg h]

/-- The eight rows stored last. -/
theorem kept_block (w : (⟨2, ![8, n]⟩ : Shape).Idx → EReal) (inb) (L : List (Piece (Elt Ideal) (⟨2, ![136, n]⟩ : Shape) .f32)) (s : Fin 8) (l : Fin n) :
    View.canon ((⟨Rect.unit (s := ⟨2, ![136, n]⟩) ![0, 0] ![8, n] inb, w⟩ : Piece (Elt Ideal) (⟨2, ![136, n]⟩ : Shape) .f32) :: L) (ix2 ⟨s.val, by omega⟩ l) = w (ix2 s l) := by
  refine Eq.trans (congrArg _ ?_) (View.canon_cons_emb (Rect.unit (s := ⟨2, ![136, n]⟩) ![0, 0] ![8, n] inb) w L (ix2 s l))
  funext x
  apply Fin.ext
  match x with
  | 0 => simp [Rect.emb, Rect.unit, ix2]; rfl
  | 1 => simp [Rect.emb, Rect.unit, ix2]; rfl

/-- The four taps over the window are the convolution's row. -/
theorem conv_win (P : (⟨2, ![8320, 3200]⟩ : Shape).Idx → EReal) (k : Fin 3200) (w : Fin 4 → EReal) (b : EReal) (S : Fin 8 → Fin n → EReal) (l : Fin n) (t : ℕ) (p : Fin 128)
    (hS : ∀ s : Fin 8, 5 ≤ s.val → S s l = hN P k (128 * t + s.val - 5)) (hX : ∀ p : Fin 128, X (ix2 p l) = hN P k (128 * t + p.val + 3)) :
    w 0 * win S X l (5 + p.val) + w 1 * win S X l (6 + p.val) + w 2 * win S X l (7 + p.val) + w 3 * win S X l (8 + p.val) + b
      = cN P w b k (128 * t + p.val) := by
  rw [cN, win_eq X S l _ _ _ (by omega) (by omega) hS hX, win_eq X S l _ _ _ (by omega) (by omega) hS hX,
    win_eq X S l _ _ _ (by omega) (by omega) hS hX, win_eq X S l _ _ _ (by omega) (by omega) hS hX,
    show 128 * t + (5 + p.val) - 5 = 128 * t + p.val by omega, show 128 * t + (6 + p.val) - 5 = 1 + (128 * t + p.val) by omega,
    show 128 * t + (7 + p.val) - 5 = 2 + (128 * t + p.val) by omega, show 128 * t + (8 + p.val) - 5 = 3 + (128 * t + p.val) by omega]

/-- The same taps over equal rows. -/
theorem taps {w0 w1 w2 w3 b a0 a1 a2 a3 b0 b1 b2 b3 : EReal} (h0 : a0 = b0) (h1 : a1 = b1) (h2 : a2 = b2) (h3 : a3 = b3) :
    w0 * a0 + w1 * a1 + w2 * a2 + w3 * a3 + b = w0 * b0 + w1 * b1 + w2 * b2 + w3 * b3 + b := by
  rw [h0, h1, h2, h3]

end Ssd
-- ==== Proof.Ssd.lean ====
/- What the state-space branch's forward call leaves in three of its results: the two short convolutions and the step sizes. -/
module
public import proofs.«01_k».proof.Proof.Gen.Kernel33Ideal.Value
public import proofs.«01_k».proof.Proof.SsdSpec
public import proofs.«01_k».proof.Proof.SsdRows
public import proofs.«01_k».proof.Proof.ConvBody
public import Idealize.ShloMosaic.Lib.Pipeline.ValueKit
public import Idealize.ShloMosaic.Lib.Pointwise
public import Idealize.ShloMosaic.Lib.WordCmp
@[expose] public section
set_option maxRecDepth 16384
noncomputable section
namespace Cert.Kernel33Ideal.Gen
open Idealize.ShloMosaic Idealize.ShloMosaic.TcCoe Idealize.SL.Sem Idealize.ShloMosaic.WordCmp

variable (m : (ℓ : Loc nD τ sig) → Buf (Elt Ideal) ℓ) (c : Dev nD)

theorem lt65 (t : Fin cfg0.N) : t.val < 65 := by
  have := t.isLt
  have h : cfg0.N = 65 := N_0
  omega

/-- The arguments, as the kernel finds them. -/
abbrev Pm : (⟨2, ![8320, 3200]⟩ : Shape).Idx → EReal := m ((c.tc : Thread nD τ).loc main_arg0)
abbrev Wx : (⟨2, ![4, 1024]⟩ : Shape).Idx → EReal := m ((c.tc : Thread nD τ).loc main_arg2)
abbrev Wb : (⟨2, ![4, 256]⟩ : Shape).Idx → EReal := m ((c.tc : Thread nD τ).loc main_arg3)
abbrev Bx : (⟨2, ![1, 1024]⟩ : Shape).Idx → EReal := m ((c.tc : Thread nD τ).loc main_arg4)
abbrev Bb : (⟨2, ![1, 256]⟩ : Shape).Idx → EReal := m ((c.tc : Thread nD τ).loc main_arg5)
abbrev Db : (⟨2, ![1, 128]⟩ : Shape).Idx → EReal := m ((c.tc : Thread nD τ).loc main_arg6)

abbrev X1 (t : Fin cfg0.N) : (⟨2, ![128, 1024]⟩ : Shape).Idx → EReal := X0_1 m c t
abbrev X2 (t : Fin cfg0.N) : (⟨2, ![128, 256]⟩ : Shape).Idx → EReal := X0_2 m c t
abbrev X3 (t : Fin cfg0.N) : (⟨2, ![128, 128]⟩ : Shape).Idx → EReal := iblk m c 3 t
abbrev X5 (t : Fin cfg0.N) : (⟨2, ![4, 1024]⟩ : Shape).Idx → EReal := iblk m c 5 t
abbrev X6 (t : Fin cfg0.N) : (⟨2, ![4, 256]⟩ : Shape).Idx → EReal := iblk m c 6 t
abbrev X7 (t : Fin cfg0.N) : (⟨2, ![1, 1024]⟩ : Shape).Idx → EReal := iblk m c 7 t
abbrev X8 (t : Fin cfg0.N) : (⟨2, ![1, 256]⟩ : Shape).Idx → EReal := iblk m c 8 t
abbrev X9 (t : Fin cfg0.N) : (⟨2, ![1, 128]⟩ : Shape).Idx → EReal := iblk m c 9 t

theorem coord0 : ∀ t : Fin cfg0.N, ((grid0.coords t) 0).val = t.val := by decide +kernel
theorem idx_1 : ∀ t : Fin cfg0.N, win0_1.index t = ![t.val, 1] := by decide +kernel
theorem idx_2 : ∀ t : Fin cfg0.N, win0_2.index t = ![t.val, 10] := by decide +kernel
theorem idx_3 : ∀ t : Fin cfg0.N, win0_3.index t = ![t.val, 24] := by decide +kernel
theorem idx_5 : ∀ t : Fin cfg0.N, win0_5.index t = ![0, 0] := by decide +kernel
theorem idx_6 : ∀ t : Fin cfg0.N, win0_6.index t = ![0, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![0, 0] := by decide +kernel
theorem idx_16 : ∀ t : Fin cfg0.N, win0_16.index t = ![t.val, 0] := by decide +kernel
theorem idx_17 : ∀ t : Fin cfg0.N, win0_17.index t = ![t.val, 0] := by decide +kernel
theorem idx_18 : ∀ t : Fin cfg0.N, win0_18.index t = ![t.val, 0] := by decide +kernel

theorem blk1 (t : Fin cfg0.N) (p : Fin 128) (l : Fin 1024) :
    X1 m c t (ix2 p l) = Ssd.hN (Pm m c) ⟨1024 + l.val, by omega⟩ (128 * t.val + p.val + 3) := by
  have h := lt65 t
  rw [Ssd.hN, dif_pos (by omega)]
  unfold X1 X0_1 Pipeline.Window.fill
  rw [dif_pos (moved0_1 t _)]
  blk_ext [iblk, V_main_arg0, idx_1 t]

theorem blk2 (t : Fin cfg0.N) (p : Fin 128) (l : Fin 256) :
    X2 m c t (ix2 p l) = Ssd.hN (Pm m c) ⟨2560 + l.val, by omega⟩ (128 * t.val + p.val + 3) := by
  have h := lt65 t
  rw [Ssd.hN, dif_pos (by omega)]
  unfold X2 X0_2 Pipeline.Window.fill
  rw [dif_pos (moved0_2 t _)]
  blk_ext [iblk, V_main_arg0, idx_2 t]

theorem blk3 (t : Fin cfg0.N) (p l : Fin 128) :
    X3 m c t (ix2 p l) = Pm m c (ix2 ⟨128 * t.val + p.val, by have := lt65 t; omega⟩ ⟨3072 + l.val, by omega⟩) := by
  have h := lt65 t
  blk_ext [X3, iblk, V_main_arg0, idx_3 t]

theorem blk5 (t : Fin cfg0.N) (j : Fin 4) (l : Fin 1024) : X5 m c t (ix2 j l) = Wx m c (ix2 j l) := by
  blk_ext [X5, iblk, V_main_arg2, idx_5 t]
theorem blk6 (t : Fin cfg0.N) (j : Fin 4) (l : Fin 256) : X6 m c t (ix2 j l) = Wb m c (ix2 j l) := by
  blk_ext [X6, iblk, V_main_arg3, idx_6 t]
theorem blk7 (t : Fin cfg0.N) (l : Fin 1024) : X7 m c t (ix2 0 l) = Bx m c (ix2 0 l) := by
  blk_ext [X7, iblk, V_main_arg4, idx_7 t]
theorem blk8 (t : Fin cfg0.N) (l : Fin 256) : X8 m c t (ix2 0 l) = Bb m c (ix2 0 l) := by
  blk_ext [X8, iblk, V_main_arg5, idx_8 t]
theorem blk9 (t : Fin cfg0.N) (l : Fin 128) : X9 m c t (ix2 0 l) = Db m c (ix2 0 l) := by
  blk_ext [X9, iblk, V_main_arg6, idx_9 t]

/-- The point before. -/
abbrev prv (t : Fin cfg0.N) : Fin cfg0.N := ⟨t.val - 1, Nat.lt_of_le_of_lt (Nat.sub_le _ _) t.isLt⟩

theorem k2 {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

/-- The rows kept between points are the block's last eight. -/
theorem kept0 (t : Fin cfg0.N) (s : Fin 8) (l : Fin 1024) :
    (outsAt0 m c t.val t.isLt).2.2.2.2.2.2.1 (ix2 ⟨s.val, by omega⟩ l) = X1 m c t (ix2 ⟨120 + s.val, by omega⟩ l) := by
  unfold X1
  by_cases h : t.val % 65 = 0
  · rw [outsAt0_A m c t h]
    generalize X0_1 m c t = x
    dsimp only
    frame_out
    refine (Ssd.kept_block _ _ _ s l).trans ?_
    pointwise [k0_pay10]
  · rw [outsAt0_B m c t h]
    generalize (outsAt0 m c (t.val - 1) (Nat.lt_of_le_of_lt (Nat.sub_le _ _) t.isLt)) = xo
    generalize X0_1 m c t = x
    dsimp only
    frame_out
    refine (Ssd.kept_block _ _ _ s l).trans ?_
    pointwise [k0_pay10]

theorem kept1 (t : Fin cfg0.N) (s : Fin 8) (l : Fin 256) :
    (outsAt0 m c t.val t.isLt).2.2.2.2.2.2.2.1 (ix2 ⟨s.val, by omega⟩ l) = X2 m c t (ix2 ⟨120 + s.val, by omega⟩ l) := by
  unfold X2
  by_cases h : t.val % 65 = 0
  · rw [outsAt0_A m c t h]
    generalize X0_2 m c t = x
    dsimp only
    frame_out
    refine (Ssd.kept_block _ _ _ s l).trans ?_
    pointwise [k0_pay11]
  · rw [outsAt0_B m c t h]
    generalize (outsAt0 m c (t.val - 1) (Nat.lt_of_le_of_lt (Nat.sub_le _ _) t.isLt)) = xo
    generalize X0_2 m c t = x
    dsimp only
    frame_out
    refine (Ssd.kept_block _ _ _ s l).trans ?_
    pointwise [k0_pay11]

/-- The wide convolution's block. -/
theorem o16 (t : Fin cfg0.N) (p : Fin 128) (l : Fin 1024) : (outsAt0 m c t.val t.isLt).2.1 (ix2 p l)
    = Ssd.cN (Pm m c) (fun j => Wx m c (ix2 j l)) (Bx m c (ix2 0 l)) ⟨1024 + l.val, by omega⟩ (128 * t.val + p.val) := by
  have ht := lt65 t
  have hX : ∀ p : Fin 128, X1 m c t (ix2 p l) = _ := fun p => blk1 m c t p l
  rw [← blk7 m c t l, show (fun j => Wx m c (ix2 j l)) = fun j => X5 m c t (ix2 j l) from funext fun j => (blk5 m c t j l).symm]
  by_cases h : t.val % 65 = 0
  · have hc := Ssd.conv_win (X1 m c t) (Pm m c) ⟨1024 + l.val, by omega⟩ (fun j => X5 m c t (ix2 j l)) (X7 m c t (ix2 0 l)) (fun _ _ => 0) l t.val p
      (fun s hs => by rw [Ssd.hN, dif_neg (by omega)]) hX
    rw [← hc, outsAt0_A m c t h]
    clear hc hX
    unfold X1 X5 X7
    generalize X0_1 m c t = x
    generalize iblk m c 5 t = w
    generalize iblk m c 7 t = b
    dsimp only
    frame_out
    pointwise [k0_pay7, k0_pay8]
    have hz : (fun (s : Fin 8) (l : Fin 1024) => k0_pay2 (F := Ideal) (ix2 s l)) = fun _ _ => 0 := by funext s l; pointwise [k0_pay2]
    have hx : k0_pay5 x = x := by funext y; rw [k2 y]; pointwise [k0_pay5]
    rw [hx]
    have e := fun o inb h => (Ssd.win_first (View.whole cc0_scratch0) x _ (by decide) (by decide) o inb p l h).trans (congrArg (fun S => Ssd.win S x l (o + p.val)) hz)
    exact Ssd.taps (e 5 _ (by omega)) (e 6 _ (by omega)) (e 7 _ (by omega)) (e 8 _ (by omega))
  · have hc := Ssd.conv_win (X1 m c t) (Pm m c) ⟨1024 + l.val, by omega⟩ (fun j => X5 m c t (ix2 j l)) (X7 m c t (ix2 0 l))
      (fun s l => (outsAt0 m c (prv t).val (prv t).isLt).2.2.2.2.2.2.1 (ix2 ⟨s.val, by omega⟩ l)) l t.val p
      (fun s hs => by
        rw [kept0 m c (prv t) s l, blk1 m c (prv t)]
        congr 1
        show 128 * (t.val - 1) + (120 + s.val) + 3 = 128 * t.val + s.val - 5
        omega) hX
    rw [← hc, outsAt0_B m c t h]
    clear hc hX
    unfold X1 X5 X7 prv
    generalize (outsAt0 m c (t.val - 1) (Nat.lt_of_le_of_lt (Nat.sub_le _ _) t.isLt)) = xo
    generalize X0_1 m c t = x
    generalize iblk m c 5 t = w
    generalize iblk m c 7 t = b
    dsimp only
    frame_out
    pointwise [k0_pay7, k0_pay8]
    have hx : k0_pay5 x = x := by funext y; rw [k2 y]; pointwise [k0_pay5]
    rw [hx]
    have e := fun r hr => Ssd.win_over (View.whole cc0_scratch0) _ x xo.2.2.2.2.2.2.1 ((Memref.isWhole_whole cc0_scratch0).read_unread _) (by decide) r hr l
    exact Ssd.taps (e _ _) (e _ _) (e _ _) (Ssd.win_last (View.whole cc0_scratch0) x (fun s l => xo.2.2.2.2.2.2.1 (ix2 ⟨s.val, by omega⟩ l)) _ _ p l)

/-- The narrow convolution's block. -/
theorem o17 (t : Fin cfg0.N) (p : Fin 128) (l : Fin 256) : (outsAt0 m c t.val t.isLt).2.2.1 (ix2 p l)
    = Ssd.cN (Pm m c) (fun j => Wb m c (ix2 j l)) (Bb m c (ix2 0 l)) ⟨2560 + l.val, by omega⟩ (128 * t.val + p.val) := by
  have ht := lt65 t
  have hX : ∀ p : Fin 128, X2 m c t (ix2 p l) = _ := fun p => blk2 m c t p l
  rw [← blk8 m c t l, show (fun j => Wb m c (ix2 j l)) = fun j => X6 m c t (ix2 j l) from funext fun j => (blk6 m c t j l).symm]
  by_cases h : t.val % 65 = 0
  · have hc := Ssd.conv_win (X2 m c t) (Pm m c) ⟨2560 + l.val, by omega⟩ (fun j => X6 m c t (ix2 j l)) (X8 m c t (ix2 0 l)) (fun _ _ => 0) l t.val p
      (fun s hs => by rw [Ssd.hN, dif_neg (by omega)]) hX
    rw [← hc, outsAt0_A m c t h]
    clear hc hX
    unfold X2 X6 X8
    generalize X0_2 m c t = x
    generalize iblk m c 6 t = w
    generalize iblk m c 8 t = b
    dsimp only
    frame_out
    pointwise [k0_pay9]
    have hz : (fun (s : Fin 8) (l : Fin 256) => k0_pay3 (F := Ideal) (ix2 s l)) = fun _ _ => 0 := by funext s l; pointwise [k0_pay3]
    have hx : k0_pay6 x = x := by funext y; rw [k2 y]; pointwise [k0_pay6]
    rw [hx]
    have e := fun o inb h => (Ssd.win_first (View.whole cc0_scratch1) x _ (by decide) (by decide) o inb p l h).trans (congrArg (fun S => Ssd.win S x l (o + p.val)) hz)
    exact Ssd.taps (e 5 _ (by omega)) (e 6 _ (by omega)) (e 7 _ (by omega)) (e 8 _ (by omega))
  · have hc := Ssd.conv_win (X2 m c t) (Pm m c) ⟨2560 + l.val, by omega⟩ (fun j => X6 m c t (ix2 j l)) (X8 m c t (ix2 0 l))
      (fun s l => (outsAt0 m c (prv t).val (prv t).isLt).2.2.2.2.2.2.2.1 (ix2 ⟨s.val, by omega⟩ l)) l t.val p
      (fun s hs => by
        rw [kept1 m c (prv t) s l, blk2 m c (prv t)]
        congr 1
        show 128 * (t.val - 1) + (120 + s.val) + 3 = 128 * t.val + s.val - 5
        omega) hX
    rw [← hc, outsAt0_B m c t h]
    clear hc hX
    unfold X2 X6 X8 prv
    generalize (outsAt0 m c (t.val - 1) (Nat.lt_of_le_of_lt (Nat.sub_le _ _) t.isLt)) = xo
    generalize X0_2 m c t = x
    generalize iblk m c 6 t = w
    generalize iblk m c 8 t = b
    dsimp only
    frame_out
    pointwise [k0_pay9]
    have hx : k0_pay6 x = x := by funext y; rw [k2 y]; pointwise [k0_pay6]
    rw [hx]
    have e := fun r hr => Ssd.win_over (View.whole cc0_scratch1) _ x xo.2.2.2.2.2.2.2.1 ((Memref.isWhole_whole cc0_scratch1).read_unread _) (by decide) r hr l
    exact Ssd.taps (e _ _) (e _ _) (e _ _) (Ssd.win_last (View.whole cc0_scratch1) x (fun s l => xo.2.2.2.2.2.2.2.1 (ix2 ⟨s.val, by omega⟩ l)) _ _ p l)

/-- The mask's column test. -/
theorem mask_col (l : Fin 128) : IntOp.cmpi .slt (BitVec.ofNat 32 l.val) 16#32 = BitVec.ofBool (decide (l.val < 16)) := by
  revert l; decide +kernel

/-- The step sizes' block. -/
theorem o18 (t : Fin cfg0.N) (p l : Fin 128) : (outsAt0 m c t.val t.isLt).2.2.2.1 (ix2 p l)
    = if 112 ≤ 128 * t.val + p.val ∧ l.val < 16 then Ssd.sp (X3 m c t (ix2 p l) + X9 m c t (ix2 0 l)) else 0 := by
  have ht := lt65 t
  unfold X3 X9
  by_cases h : t.val % 65 = 0
  · rw [outsAt0_A m c t h]
    generalize iblk m c 3 t = x3
    generalize iblk m c 9 t = x9
    dsimp only
    frame_out
    pointwise [k0_pay14, k0_pay15, k0_pay16, k0_pay17, k0_pay18, k0_pay19]
    rw [coord0 t, Cert.KernelIdeal.Gen.mask_cur t.val p.val ht p.isLt, mask_col, Ssd.select_and]
    rfl
  · rw [outsAt0_B m c t h]
    generalize (outsAt0 m c (t.val - 1) (Nat.lt_of_le_of_lt (Nat.sub_le _ _) t.isLt)) = xo
    generalize iblk m c 3 t = x3
    generalize iblk m c 9 t = x9
    dsimp only
    frame_out
    pointwise [k0_pay14, k0_pay15, k0_pay16, k0_pay17, k0_pay18, k0_pay19]
    rw [coord0 t, Cert.KernelIdeal.Gen.mask_cur t.val p.val ht p.isLt, mask_col, Ssd.select_and]
    rfl

/-- The three arrays. -/
theorem arr16 : (dats m 0 c).arrAt 16 cfg0.N = Ssd.outC (Pm m c) 1024 1024 (by omega) (Wx m c) (Bx m c) := by
  refine (dats m 0 c).arrAt_eq_of_covers 16 _ (by decide +kernel) fun t hf y => ?_
  have h65 := lt65 t
  have y0 : (y 0).val < 128 := (y 0).isLt
  have y1 : (y 1).val < 1024 := (y 1).isLt
  have e : ((cfg0.win 16).blk t).view.emb y = ix2 (⟨128 * t.val + (y 0).val, by omega⟩ : Fin 8320) (⟨(y 1).val, y1⟩ : Fin 1024) := by
    blk_ext [idx_16 t]
  rw [e]
  blk_simp
  rw [after0_16]
  exact (congrArg ((outsAt0 m c t.val t.isLt).2.1) (k2 y)).trans (o16 m c t _ _)

theorem arr17 : (dats m 0 c).arrAt 17 cfg0.N = Ssd.outC (Pm m c) 2560 256 (by omega) (Wb m c) (Bb m c) := by
  refine (dats m 0 c).arrAt_eq_of_covers 17 _ (by decide +kernel) fun t hf y => ?_
  have h65 := lt65 t
  have y0 : (y 0).val < 128 := (y 0).isLt
  have y1 : (y 1).val < 256 := (y 1).isLt
  have e : ((cfg0.win 17).blk t).view.emb y = ix2 (⟨128 * t.val + (y 0).val, by omega⟩ : Fin 8320) (⟨(y 1).val, y1⟩ : Fin 256) := by
    blk_ext [idx_17 t]
  rw [e]
  blk_simp
  rw [after0_17]
  exact (congrArg ((outsAt0 m c t.val t.isLt).2.2.1) (k2 y)).trans (o17 m c t _ _)

theorem arr18 : (dats m 0 c).arrAt 18 cfg0.N = Ssd.outT (Pm m c) (Db m c) := by
  refine (dats m 0 c).arrAt_eq_of_covers 18 _ (by decide +kernel) fun t hf y => ?_
  have h65 := lt65 t
  have y0 : (y 0).val < 128 := (y 0).isLt
  have y1 : (y 1).val < 128 := (y 1).isLt
  have e : ((cfg0.win 18).blk t).view.emb y = ix2 (⟨128 * t.val + (y 0).val, by omega⟩ : Fin 8320) (⟨(y 1).val, y1⟩ : Fin 128) := by
    blk_ext [idx_18 t]
  rw [e]
  blk_simp
  rw [after0_18]
  exact (congrArg ((outsAt0 m c t.val t.isLt).2.2.2.1) (k2 y)).trans ((o18 m c t _ _).trans (by rw [blk3, blk9]; rfl))

end Cert.Kernel33Ideal.Gen
-- ==== Proof.SsdRef.lean ====
/- What the reference of the state-space branch's first lines computes, at an index. -/
module
public import proofs.«01_k».proof.Proof.Gen.Reference33Ideal.Read
public import proofs.«01_k».proof.Proof.SsdSpec
public import Idealize.ShloMosaic.Lib.Pointwise
public import Idealize.ShloMosaic.Lib.WordCmp
@[expose] public section
set_option maxRecDepth 16384
noncomputable section
namespace Cert.Reference33Ideal.Read
open Idealize.ShloMosaic Idealize.ShloMosaic.WordCmp Idealize.ShloMosaic.TcCoe Idealize.SL.Sem Cert.Reference33Ideal

variable (P : (⟨2, ![8320, 3200]⟩ : Shape).Idx → EReal)

/-- The padding value. -/
theorem sitofp_zero : (FloatOps.sitofp FTy.f32 (0#32) : Ideal .f32) = 0 := by
  show (((0#32 : BitVec 32).toInt : ℝ) : EReal) = 0
  simp

/-- The padded columns that the taps of the wide part run over. -/
theorem x_pad (n : Fin 8323) (l : Fin 1024) : val_main_v1 (F := Ideal) P (ix2 n l) = Ssd.hN P ⟨1024 + l.val, by omega⟩ n.val := by
  pointwise [val_main_v1, val_main_v0, val_main_c, val_main_call0_v0]
  unfold Ssd.hN
  simp only [show n.val - 3 < 8320 ↔ n.val < 8323 by omega]
  split
  · rfl
  · exact (sitofp_zero)

theorem x_ref (W : (⟨2, ![4, 1024]⟩ : Shape).Idx → EReal) (B : (⟨2, ![1, 1024]⟩ : Shape).Idx → EReal) (r : Fin 8320) (l : Fin 1024) :
    val_main_v30 (F := Ideal) P W B (ix2 r l) = Ssd.outC P 1024 1024 (by omega) W B (ix2 r l) := by
  unfold Ssd.outC Ssd.cN
  pointwise [val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, x_pad]

/-- The padded columns that the taps of the narrow part run over. -/
theorem bc_pad (n : Fin 8323) (l : Fin 256) : val_main_v32 (F := Ideal) P (ix2 n l) = Ssd.hN P ⟨2560 + l.val, by omega⟩ n.val := by
  pointwise [val_main_v32, val_main_v31, val_main_c_0, val_main_call1_v0]
  unfold Ssd.hN
  simp only [show n.val - 3 < 8320 ↔ n.val < 8323 by omega]
  split
  · rfl
  · exact (sitofp_zero)

theorem bc_ref (W : (⟨2, ![4, 256]⟩ : Shape).Idx → EReal) (B : (⟨2, ![1, 256]⟩ : Shape).Idx → EReal) (r : Fin 8320) (l : Fin 256) :
    val_main_v61 (F := Ideal) P W B (ix2 r l) = Ssd.outC P 2560 256 (by omega) W B (ix2 r l) := by
  unfold Ssd.outC Ssd.cN
  pointwise [val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, bc_pad]

/-- The step sizes. -/
theorem dt_ref (D : (⟨2, ![1, 128]⟩ : Shape).Idx → EReal) (r : Fin 8320) (l : Fin 128) : val_main_v83 (F := Ideal) P D (ix2 r l) = Ssd.outT P D (ix2 r l) := by
  have z : val_main_call2_v1 (F := Ideal) (ix2 r l) = 0 := by
    pointwise [val_main_call2_v1]
    rw [val_main_call2_v0_apply, val_main_cst_3_apply]
    pointwise
  unfold Ssd.outT Ssd.sp
  pointwise [val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_cst, val_main_c_1, val_main_c_2]
  rw [show (112#32) = BitVec.ofNat 32 112 from rfl, show (16#32) = BitVec.ofNat 32 16 from rfl, cmpi_sge_ofNat (by omega) (by omega), cmpi_slt_ofNat (by omega) (by omega), Ssd.select_and, zero_sub, z]
  rfl

end Cert.Reference33Ideal.Read
-- ==== Proof.SsdClaim.lean ====
/- The state-space branch's convolutions and step sizes are the plain forward lines. -/
module
public import proofs.«01_k».proof.Defs
public import proofs.«01_k».proof.Proof.Ssd
public import proofs.«01_k».proof.Proof.SsdRef
public import proofs.«01_k».proof.Proof.Gen.Kernel33Ideal
public import proofs.«01_k».proof.Proof.Gen.Reference33Ideal
public import proofs.«01_k».proof.Proof.Gen.Reference33Ideal.Run
public import Idealize.ShloMosaic.Lib.Quiescent
@[expose] public section
set_option maxRecDepth 16384
noncomputable section
namespace Cert.Proof.Ssd
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference33Ideal Cert.Reference33Ideal.Read
variable (P : (⟨2, ![8320, 3200]⟩ : Shape).Idx → EReal)

theorem refX (W : (⟨2, ![4, 1024]⟩ : Shape).Idx → EReal) (B : (⟨2, ![1, 1024]⟩ : Shape).Idx → EReal) :
    val_main_v30 (F := Ideal) P W B = _root_.Ssd.outC P 1024 1024 (by omega) W B := by
  funext x; rw [eta x]; exact x_ref P W B _ _

theorem refB (W : (⟨2, ![4, 256]⟩ : Shape).Idx → EReal) (B : (⟨2, ![1, 256]⟩ : Shape).Idx → EReal) :
    val_main_v61 (F := Ideal) P W B = _root_.Ssd.outC P 2560 256 (by omega) W B := by
  funext x; rw [eta x]; exact bc_ref P W B _ _

theorem refT (D : (⟨2, ![1, 128]⟩ : Shape).Idx → EReal) : val_main_v83 (F := Ideal) P D = _root_.Ssd.outT P D := by
  funext x; rw [eta x]; exact dt_ref P D _ _

end

open Cert.Reference33Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v30) = _root_.Ssd.outC (m ((c.tc : Thread _ _).loc main_arg0)) 1024 1024 (by omega) (m ((c.tc : Thread _ _).loc main_arg2)) (m ((c.tc : Thread _ _).loc main_arg4))
      ∧ r.2.mem ((c.tc : Thread _ _).loc main_v61) = _root_.Ssd.outC (m ((c.tc : Thread _ _).loc main_arg0)) 2560 256 (by omega) (m ((c.tc : Thread _ _).loc main_arg3)) (m ((c.tc : Thread _ _).loc main_arg5))
      ∧ r.2.mem ((c.tc : Thread _ _).loc main_v83) = _root_.Ssd.outT (m ((c.tc : Thread _ _).loc main_arg0)) (m ((c.tc : Thread _ _).loc main_arg6))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)
      ∧ r.2.mem ((c.tc : Thread _ _).loc main_arg5) = m ((c.tc : Thread _ _).loc main_arg5)
      ∧ r.2.mem ((c.tc : Thread _ _).loc main_arg6) = m ((c.tc : Thread _ _).loc main_arg6)
      ∧ r.2.mem ((c.tc : Thread _ _).loc main_arg7) = m ((c.tc : Thread _ _).loc main_arg7)
      ∧ r.2.mem ((c.tc : Thread _ _).loc main_arg8) = m ((c.tc : Thread _ _).loc main_arg8)
      ∧ r.2.mem ((c.tc : Thread _ _).loc main_arg9) = m ((c.tc : Thread _ _).loc main_arg9)) :=
  (θ_run defs _ _).mono (fun _ h c =>
    ⟨((h c).1.trans (Read.val_main_v30_eq _ _ _)).trans (refX _ _ _),
     ((h c).2.1.trans (Read.val_main_v61_eq _ _ _)).trans (refB _ _ _),
     ((h c).2.2.1.trans (Read.val_main_v83_eq _ _)).trans (refT _ _), (h c).2.2.2⟩) (Value.run (F := Ideal) m g)

/-- The reference's frame: it declares no semaphore. -/
theorem reference_frame : Cert.quiescent_Reference33Ideal := fun m g _ =>
  (θ_run Cert.Reference33Ideal.defs _ _).mono (fun r h => ⟨fun c => (h c).2.2.2, sem_eq_zero_of_no_sems (by decide) r.2⟩) (reference_run m g)

open Cert.Kernel33Ideal in
/-- The kernel's results are the reference's. -/
theorem algebraic : Cert.algebraic_Kernel33Ideal_Reference33Ideal := by
  intro m g m' g' _ hagree
  refine ⟨fun c => _root_.Ssd.outC (m ((c.tc : Thread _ _).loc main_arg0)) 1024 1024 (by omega) (m ((c.tc : Thread _ _).loc main_arg2)) (m ((c.tc : Thread _ _).loc main_arg4)), fun c => _root_.Ssd.outC (m ((c.tc : Thread _ _).loc main_arg0)) 2560 256 (by omega) (m ((c.tc : Thread _ _).loc main_arg3)) (m ((c.tc : Thread _ _).loc main_arg5)), fun c => _root_.Ssd.outT (m ((c.tc : Thread _ _).loc main_arg0)) (m ((c.tc : Thread _ _).loc main_arg6)), ?_, ?_⟩
  · exact (θ_run defs _ _).mono (fun _ h c => ⟨(h c).2.1.trans (Gen.arr16 m c), (h c).2.2.1.trans (Gen.arr17 m c),
      (h c).2.2.2.1.trans (Gen.arr18 m c), (h c).2.2.2.2.2.2⟩) (Value.run_blocks (F := Ideal) m g)
  · refine (θ_run Cert.Reference33Ideal.defs _ _).mono (fun _ h c => ?_) (reference_run m' g')
    obtain ⟨h0, h1, h2, hk⟩ := h c
    obtain ⟨e0, _, e2, e3, e4, e5, e6, _⟩ := hagree c
    rw [e0, e2, e4] at h0
    rw [e0, e3, e5] at h1
    rw [e0, e6] at h2
    exact ⟨h0, h1, h2, hk⟩

end Cert.Proof.Ssd
-- ==== Proof.RmsFwd.lean ====
/- What the call that normalises the rows leaves in its result. -/
module
public import proofs.«01_k».proof.Proof.Gen.Kernel22Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel22Ideal.Gen
open Idealize.ShloMosaic Idealize.ShloMosaic.TcCoe Idealize.SL.Sem Mlp

variable (m : (ℓ : Loc nD τ sig) → Buf (Elt Ideal) ℓ) (c : Dev nD)

abbrev Hm : (⟨2, ![8320, 1024]⟩ : Shape).Idx → EReal := m ((c.tc : Thread nD τ).loc main_arg0)
abbrev Gm : (⟨2, ![1, 1024]⟩ : Shape).Idx → EReal := m ((c.tc : Thread nD τ).loc main_arg1)

theorem lt13 (t : Fin cfg0.N) : t.val < 13 := by
  have := t.isLt
  have h : cfg0.N = 13 := N_0
  omega

abbrev X0 (t : Fin cfg0.N) : (⟨2, ![640, 1024]⟩ : Shape).Idx → EReal := iblk m c 0 t
abbrev X1 (t : Fin cfg0.N) : (⟨2, ![1, 1024]⟩ : Shape).Idx → EReal := iblk m c 1 t

/-- The row that the body leaves. -/
theorem out_at (x0 : (⟨2, ![640, 1024]⟩ : Shape).Idx → EReal) (x1 : (⟨2, ![1, 1024]⟩ : Shape).Idx → EReal) (p : Fin 640) (k : Fin 1024) :
    out0_2 (F := Ideal) x0 x1 (ix2 p k) = rmsRow (fun j => x0 (ix2 p j)) (fun j => x1 (ix2 0 j)) k := by
  unfold out0_2
  frame_out
  unfold rmsRow
  pointwise [k0_pay1]

theorem idx_0 (t : Fin cfg0.N) : win0_0.index t = ![t.val, 0] :=
  (by decide +kernel : ∀ t : Fin grid0.N, win0_0.index t = ![t.val, 0]) t
theorem idx_1 (t : Fin cfg0.N) : win0_1.index t = ![0, 0] :=
  (by decide +kernel : ∀ t : Fin grid0.N, win0_1.index t = ![0, 0]) t
theorem idx_2 (t : Fin cfg0.N) : win0_2.index t = ![t.val, 0] :=
  (by decide +kernel : ∀ t : Fin grid0.N, win0_2.index t = ![t.val, 0]) t

theorem blk0 (t : Fin cfg0.N) (p : Fin 640) (k : Fin 1024) : X0 m c t (ix2 p k) = Hm m c (ix2 ⟨640 * t.val + p.val, by have := lt13 t; omega⟩ k) := by
  blk_ext [X0, iblk, V_main_arg0, idx_0 t]

theorem blk1 (t : Fin cfg0.N) (k : Fin 1024) : X1 m c t (ix2 0 k) = Gm m c (ix2 0 k) := by
  blk_ext [X1, iblk, V_main_arg1, idx_1 t]

/-- The rows normalised by their root mean square, times the gain. -/
def outF (H : (⟨2, ![8320, 1024]⟩ : Shape).Idx → EReal) (G : (⟨2, ![1, 1024]⟩ : Shape).Idx → EReal) : (⟨2, ![8320, 1024]⟩ : Shape).Idx → EReal :=
  fun x => rmsRow (fun j => H (ix2 ⟨(x 0).val, (x 0).isLt⟩ j)) (fun j => G (ix2 0 j)) ⟨(x 1).val, (x 1).isLt⟩

theorem arr2 : (dats m 0 c).arrAt 2 cfg0.N = outF (Hm m c) (Gm m c) := by
  refine (dats m 0 c).arrAt_eq_of_covers 2 _ (by decide +kernel) fun t hf y => ?_
  have h13 := lt13 t
  have y0 : (y 0).val < 640 := (y 0).isLt
  have y1 : (y 1).val < 1024 := (y 1).isLt
  have e : ((cfg0.win 2).blk t).view.emb y = ix2 (⟨640 * t.val + (y 0).val, by omega⟩ : Fin 8320) (⟨(y 1).val, y1⟩ : Fin 1024) := by
    blk_ext [idx_2 t]
  rw [e]
  blk_simp
  rw [after0_2]
  have hy : y = ix2 (⟨(y 0).val, y0⟩ : Fin 640) (⟨(y 1).val, y1⟩ : Fin 1024) := by
    funext a
    match a with
    | 0 => rfl
    | 1 => rfl
  refine (congrArg (out0_2 (F := Ideal) (X0 m c t) (X1 m c t)) hy).trans ((out_at (X0 m c t) (X1 m c t) _ _).trans ?_)
  simp only [blk0, blk1]
  rfl

end Cert.Kernel22Ideal.Gen
-- ==== Proof.RmsFwdClaim.lean ====
/- The normalised rows are the plain forward line. -/
module
public import proofs.«01_k».proof.Defs
public import proofs.«01_k».proof.Proof.RmsFwd
public import proofs.«01_k».proof.Proof.Gen.Kernel22Ideal
public import proofs.«01_k».proof.Proof.Gen.Reference22Ideal
public import proofs.«01_k».proof.Proof.Gen.Reference22Ideal.Run
public import proofs.«01_k».proof.Proof.Gen.Reference22Ideal.Read
public import Idealize.ShloMosaic.Lib.Quiescent
public import Idealize.ShloMosaic.Lib.Pointwise
@[expose] public section
set_option maxRecDepth 16384
noncomputable section
namespace Cert.Proof.RmsFwd
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference22Ideal Cert.Reference22Ideal.Read
/-- The reference's result is the normalised rows. -/
theorem ref (H : (⟨2, ![8320, 1024]⟩ : Shape).Idx → EReal) (G : (⟨2, ![1, 1024]⟩ : Shape).Idx → EReal) :
    val_main_v12 (F := Ideal) H G = Cert.Kernel22Ideal.Gen.outF H G := by
  rw [← val_main_v12_eq]
  funext x
  rw [eta x]
  unfold Cert.Kernel22Ideal.Gen.outF Mlp.rmsRow
  pointwise

end

open Cert.Reference22Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v12) = Cert.Kernel22Ideal.Gen.outF (m ((c.tc : Thread _ _).loc main_arg0)) (m ((c.tc : Thread _ _).loc main_arg1))
      ∧ r.2.mem ((c.tc : Thread _ _).loc main_arg0) = m ((c.tc : Thread _ _).loc main_arg0)
      ∧ r.2.mem ((c.tc : Thread _ _).loc main_arg1) = m ((c.tc : Thread _ _).loc main_arg1)) :=
  (θ_run defs _ _).mono (fun _ h c =>
    ⟨((h c).1.trans (Read.val_main_v12_eq _ _)).trans (ref _ _), (h c).2⟩) (Value.run (F := Ideal) m g)

/-- The reference's frame: it declares no semaphore. -/
theorem reference_frame : Cert.quiescent_Reference22Ideal := fun m g _ =>
  (θ_run Cert.Reference22Ideal.defs _ _).mono (fun r h => ⟨fun c => (h c).2, sem_eq_zero_of_no_sems (by decide) r.2⟩) (reference_run m g)

open Cert.Kernel22Ideal in
/-- The kernel's results are the reference's. -/
theorem algebraic : Cert.algebraic_Kernel22Ideal_Reference22Ideal := by
  intro m g m' g' _ hagree
  refine ⟨fun c => Gen.outF (m ((c.tc : Thread _ _).loc main_arg0)) (m ((c.tc : Thread _ _).loc main_arg1)), ?_, ?_⟩
  · exact (θ_run defs _ _).mono (fun _ h c => ⟨(h c).1.trans (Gen.arr2 m c), (h c).2⟩) (Value.run_blocks (F := Ideal) m g)
  · refine (θ_run Cert.Reference22Ideal.defs _ _).mono (fun _ h c => ?_) (reference_run m' g')
    obtain ⟨h0, hk⟩ := h c
    obtain ⟨e0, e1⟩ := hagree c
    rw [e0, e1] at h0
    exact ⟨h0, hk⟩

end Cert.Proof.RmsFwd
-- ==== Proof.Loss.lean ====
/- What the call that computes the loss leaves in its results: the gradient at the last layer and the loss. -/
module
public import proofs.«01_k».proof.Proof.Gen.Kernel23Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel23Ideal.Gen
open Idealize.ShloMosaic Idealize.ShloMosaic.TcCoe Idealize.SL.Sem Mlp

variable (m : (ℓ : Loc nD τ sig) → Buf (Elt Ideal) ℓ) (c : Dev nD)

abbrev Hm : (⟨2, ![8320, 1024]⟩ : Shape).Idx → EReal := m ((c.tc : Thread nD τ).loc main_arg0)
abbrev Tm : (⟨2, ![8192, 1024]⟩ : Shape).Idx → EReal := m ((c.tc : Thread nD τ).loc main_arg1)

theorem lt65 (t : Fin cfg0.N) : t.val < 65 := by
  have := t.isLt
  have h : cfg0.N = 65 := N_0
  omega

abbrev X0 (t : Fin cfg0.N) : (⟨2, ![128, 1024]⟩ : Shape).Idx → EReal := iblk m c 0 t
abbrev X1 (t : Fin cfg0.N) : (⟨2, ![128, 1024]⟩ : Shape).Idx → EReal := iblk m c 1 t

/-- The gradient's block: zero at the first point, a multiple of the difference elsewhere. -/
theorem out2_A (t : Fin cfg0.N) (h : t.val % 65 = 0) (h' : ¬ 1 ≤ t.val) (p : Fin 128) (k : Fin 1024) : (outsAt0 m c t.val t.isLt).1 (ix2 p k) = 0 := by
  rw [outsAt0_A m c t h h']
  dsimp only
  generalize iblk m c 0 t = x0
  generalize iblk m c 1 t = x1
  frame_out
  pointwise [k0_pay1, k0_pay2, k0_pay3, k0_pay4, k0_pay5]

theorem out2_B (t : Fin cfg0.N) (h : ¬ t.val % 65 = 0) (h' : 1 ≤ t.val) (p : Fin 128) (k : Fin 1024) :
    (outsAt0 m c t.val t.isLt).1 (ix2 p k) = (X0 m c t (ix2 p k) - X1 m c t (ix2 p k)) * Ideal.ofBits .f32 0x3A800000#32 := by
  rw [outsAt0_B m c t h h']
  dsimp only
  unfold X0 X1
  generalize iblk m c 0 t = x0
  generalize iblk m c 1 t = x1
  frame_out
  pointwise [k0_pay1, k0_pay2, k0_pay3, k0_pay4, k0_pay5]

/-- The loss's block: zero at the first point; every later point adds its rows' squares. -/
theorem out3_A (t : Fin cfg0.N) (h : t.val % 65 = 0) (h' : ¬ 1 ≤ t.val) (k : Fin 128) : (outsAt0 m c t.val t.isLt).2 (ix2 0 k) = 0 := by
  rw [outsAt0_A m c t h h']
  dsimp only
  generalize iblk m c 0 t = x0
  generalize iblk m c 1 t = x1
  frame_out
  pointwise [k0_pay1, k0_pay2, k0_pay3, k0_pay4, k0_pay5]

theorem out3_B (t : Fin cfg0.N) (h : ¬ t.val % 65 = 0) (h' : 1 ≤ t.val) (k : Fin 128) : (outsAt0 m c t.val t.isLt).2 (ix2 0 k)
    = (outsAt0 m c (t.val - 1) (Nat.lt_of_le_of_lt (Nat.sub_le _ _) t.isLt)).2 (ix2 0 k)
      + (∑ p : Fin 128, ∑ j : Fin 1024, (X0 m c t (ix2 p j) - X1 m c t (ix2 p j)) * (X0 m c t (ix2 p j) - X1 m c t (ix2 p j))) * Ideal.ofBits .f32 0x3A000000#32 := by
  rw [outsAt0_B m c t h h']
  generalize (outsAt0 m c (t.val - 1) (Nat.lt_of_le_of_lt (Nat.sub_le _ _) t.isLt)).2 = xo
  dsimp only
  unfold X0 X1
  generalize iblk m c 0 t = x0
  generalize iblk m c 1 t = x1
  frame_out
  pointwise [k0_pay1, k0_pay2, k0_pay3, k0_pay4, k0_pay5]
  all_goals exact congrArg (· + _) (congrFun (Memref.IsWhole.read_unread _ _) _)

theorem idx_0 (t : Fin cfg0.N) : win0_0.index t = ![t.val, 0] :=
  (by decide +kernel : ∀ t : Fin grid0.N, win0_0.index t = ![t.val, 0]) t
theorem idx_1 (t : Fin cfg0.N) : win0_1.index t = ![t.val - 1, 0] :=
  (by decide +kernel : ∀ t : Fin grid0.N, win0_1.index t = ![t.val - 1, 0]) t
theorem idx_2 (t : Fin cfg0.N) : win0_2.index t = ![t.val, 0] :=
  (by decide +kernel : ∀ t : Fin grid0.N, win0_2.index t = ![t.val, 0]) t
theorem idx_3 (t : Fin cfg0.N) : win0_3.index t = ![0, 0] :=
  (by decide +kernel : ∀ t : Fin grid0.N, win0_3.index t = ![0, 0]) t

theorem blk0 (t : Fin cfg0.N) (p : Fin 128) (k : Fin 1024) : X0 m c t (ix2 p k) = Hm m c (ix2 ⟨128 * t.val + p.val, by have := lt65 t; omega⟩ k) := by
  blk_ext [X0, iblk, V_main_arg0, idx_0 t]

theorem blk1 (t : Fin cfg0.N) (h : 1 ≤ t.val) (p : Fin 128) (k : Fin 1024) : X1 m c t (ix2 p k) = Tm m c (ix2 ⟨128 * (t.val - 1) + p.val, by have := lt65 t; omega⟩ k) := by
  blk_ext [X1, iblk, V_main_arg1, idx_1 t]

/-- The gradient at the last layer's output: zero in the first 128 rows, the scaled difference in the others. -/
def outD (H : (⟨2, ![8320, 1024]⟩ : Shape).Idx → EReal) (T : (⟨2, ![8192, 1024]⟩ : Shape).Idx → EReal) : (⟨2, ![8320, 1024]⟩ : Shape).Idx → EReal :=
  fun x => if h : 128 ≤ (x 0).val then (H (ix2 ⟨(x 0).val, (x 0).isLt⟩ ⟨(x 1).val, (x 1).isLt⟩) - T (ix2 ⟨(x 0).val - 128, by have h0 : (x 0).val < 8320 := (x 0).isLt; omega⟩ ⟨(x 1).val, (x 1).isLt⟩)) * Ideal.ofBits .f32 0x3A800000#32 else 0

/-- A row's sum of squared differences. -/
def rowSq (H : (⟨2, ![8320, 1024]⟩ : Shape).Idx → EReal) (T : (⟨2, ![8192, 1024]⟩ : Shape).Idx → EReal) (n : Fin 8192) : EReal :=
  ∑ j : Fin 1024, (H (ix2 ⟨n.val + 128, by omega⟩ j) - T (ix2 n j)) * (H (ix2 ⟨n.val + 128, by omega⟩ j) - T (ix2 n j))

/-- The loss, repeated along the lanes. -/
def outL (H : (⟨2, ![8320, 1024]⟩ : Shape).Idx → EReal) (T : (⟨2, ![8192, 1024]⟩ : Shape).Idx → EReal) : (⟨2, ![1, 128]⟩ : Shape).Idx → EReal :=
  fun _ => (∑ n : Fin 8192, rowSq H T n) * Ideal.ofBits .f32 0x3A000000#32

theorem arr2 : (dats m 0 c).arrAt 2 cfg0.N = outD (Hm m c) (Tm m c) := by
  refine (dats m 0 c).arrAt_eq_of_covers 2 _ (by decide +kernel) fun t hf y => ?_
  have h13 := lt65 t
  have y0 : (y 0).val < 128 := (y 0).isLt
  have y1 : (y 1).val < 1024 := (y 1).isLt
  have e : ((cfg0.win 2).blk t).view.emb y = ix2 (⟨128 * t.val + (y 0).val, by omega⟩ : Fin 8320) (⟨(y 1).val, y1⟩ : Fin 1024) := by
    blk_ext [idx_2 t]
  rw [e]
  blk_simp
  rw [after0_2]
  have hy : y = ix2 (⟨(y 0).val, y0⟩ : Fin 128) (⟨(y 1).val, y1⟩ : Fin 1024) := by
    funext a
    match a with
    | 0 => rfl
    | 1 => rfl
  refine (congrArg (outsAt0 m c t.val t.isLt).1 hy).trans ?_
  unfold outD
  by_cases h1 : 1 ≤ t.val
  · rw [out2_B m c t (by omega) h1, blk0, blk1 m c t h1]
    refine Eq.trans ?_ (dif_pos (show 128 ≤ 128 * t.val + (y 0).val by omega)).symm
    refine congrArg (fun q : Fin 8192 => (Hm m c _ - Tm m c (ix2 q _)) * _) (Fin.ext ?_)
    show 128 * (t.val - 1) + (y 0).val = 128 * t.val + (y 0).val - 128
    omega
  · rw [out2_A m c t (by omega) h1]
    refine Eq.trans ?_ (dif_neg (show ¬ 128 ≤ 128 * t.val + (y 0).val by omega)).symm
    rfl

/-- The loss's constant is positive and finite. -/
theorem half_eq : Ideal.ofBits .f32 0x3A000000#32 = ((1 / 2048 : ℝ) : EReal) := by
  simp [Ideal.ofBits, Ideal.ieee, -EReal.coe_mul, -EReal.coe_pow]; norm_num

/-- A positive real factor goes into a finite sum. -/
theorem sum_mul_real {ι : Type*} (q : ℝ) (hq : 0 ≤ q) (s : Finset ι) (f : ι → EReal) : (∑ i ∈ s, f i) * (q : EReal) = ∑ i ∈ s, f i * (q : EReal) := by
  classical
  induction s using Finset.induction_on with
  | empty => simp
  | insert a s ha ih =>
    rw [Finset.sum_insert ha, Finset.sum_insert ha, ← ih, EReal.right_distrib_of_nonneg_of_ne_top (EReal.coe_nonneg.mpr hq) (EReal.coe_ne_top q)]

/-- A row's sum of squares, zero past the last row. -/
def sqN (n : ℕ) : EReal := if h : n < 8192 then rowSq (Hm m c) (Tm m c) ⟨n, h⟩ else 0

/-- What point `t` adds to the loss. -/
def addend (t : ℕ) (_ : (⟨2, ![1, 128]⟩ : Shape).Idx) : EReal :=
  if t = 0 then 0 else (∑ p : Fin 128, sqN m c (128 * (t - 1) + p.val)) * Ideal.ofBits .f32 0x3A000000#32

theorem eta (y : (⟨2, ![1, 128]⟩ : Shape).Idx) : y = ix2 (0 : Fin 1) (⟨(y 1).val, (y 1).isLt⟩ : Fin 128) := by
  funext a
  match a with
  | 0 => exact Fin.ext (by have h : (y 0).val < 1 := (y 0).isLt; show (y 0).val = 0; omega)
  | 1 => rfl

theorem step_A (t : Fin cfg0.N) (h0 : t.val % 65 = 0) (y : (⟨2, ![1, 128]⟩ : Shape).Idx) :
    (outsAt0 m c t.val t.isLt).2 y = 0 + addend m c t.val y := by
  have h65 := lt65 t
  rw [addend, if_pos (by omega), zero_add]
  exact (congrArg (outsAt0 m c t.val t.isLt).2 (eta y)).trans (out3_A m c t h0 (by omega) _)

theorem step_B (t : Fin cfg0.N) (h0 : ¬ t.val % 65 = 0) (y : (⟨2, ![1, 128]⟩ : Shape).Idx) :
    (outsAt0 m c t.val t.isLt).2 y = (outsAt0 m c (t.val - 1) (Nat.lt_of_le_of_lt (Nat.sub_le _ _) t.isLt)).2 y + addend m c t.val y := by
  have h65 := lt65 t
  have h1 : 1 ≤ t.val := by omega
  refine (congrArg (outsAt0 m c t.val t.isLt).2 (eta y)).trans ((out3_B m c t h0 h1 _).trans ?_)
  rw [← eta y, addend, if_neg (by omega)]
  congr 2
  refine Finset.sum_congr rfl fun p _ => ?_
  rw [sqN, dif_pos (by omega), rowSq]
  refine Finset.sum_congr rfl fun j _ => ?_
  rw [blk0, blk1 m c t h1]
  have e : (⟨128 * t.val + p.val, by omega⟩ : Fin 8320) = ⟨128 * (t.val - 1) + p.val + 128, by omega⟩ := Fin.ext (by show 128 * t.val + p.val = 128 * (t.val - 1) + p.val + 128; omega)
  rw [e]

theorem last (t : Fin cfg0.N) (h : t.val % 65 = 64) (y : (⟨2, ![1, 128]⟩ : Shape).Idx) :
    (outsAt0 m c t.val t.isLt).2 y = outL (Hm m c) (Tm m c) y := by
  have h65 := lt65 t
  rw [Pipeline.eq_sum_of_reset_step_apply_of_mod (fun n h => (outsAt0 m c n h).2) 65 (fun _ => (0 : EReal))
    (addend m c) (step_A m c) (step_B m c) t h y, zero_add, Finset.sum_range_succ',
    show addend m c (65 * (t.val / 65) + 0) y = 0 from by rw [addend, if_pos (by omega)], add_zero, outL]
  have e : ∑ n : Fin 8192, rowSq (Hm m c) (Tm m c) n = ∑ n ∈ Finset.range 8192, sqN m c n := by
    rw [Finset.sum_range]
    exact Finset.sum_congr rfl fun n _ => by rw [sqN, dif_pos n.isLt]
  rw [e, show 8192 = 64 * 128 from rfl, Finset.sum_range_mul_split 64 128, half_eq, sum_mul_real _ (by norm_num)]
  refine Finset.sum_congr rfl fun k hk => ?_
  rw [addend, if_neg (by omega), half_eq, Finset.sum_range]
  congr 1
  refine Finset.sum_congr rfl fun p _ => ?_
  rw [show 65 * (t.val / 65) + (k + 1) - 1 = k by omega, Nat.mul_comm]

theorem arr3 : (dats m 0 c).arrAt 3 cfg0.N = outL (Hm m c) (Tm m c) := by
  refine (dats m 0 c).arrAt_eq_of_covers 3 _ (by decide +kernel) fun t hf y => ?_
  have e : ((cfg0.win 3).blk t).view.emb y = ix2 (⟨(y 0).val, (y 0).isLt⟩ : Fin 1) (⟨(y 1).val, (y 1).isLt⟩ : Fin 128) := by
    blk_ext [idx_3 t]
  rw [e]
  blk_simp
  rw [after0_3]
  exact last m c t ((flush0_3 t).mp hf) y

end Cert.Kernel23Ideal.Gen
-- ==== Proof.LossClaim.lean ====
/- The loss and its gradient are the plain line and its derivative. -/
module
public import proofs.«01_k».proof.Defs
public import proofs.«01_k».proof.Proof.Loss
public import proofs.«01_k».proof.Proof.Gen.Kernel23Ideal
public import proofs.«01_k».proof.Proof.Gen.Reference23Ideal
public import proofs.«01_k».proof.Proof.Gen.Reference23Ideal.Run
public import proofs.«01_k».proof.Proof.Gen.Reference23Ideal.Read
public import Idealize.ShloMosaic.Lib.Quiescent
public import Idealize.ShloMosaic.Lib.Pointwise
@[expose] public section
set_option maxRecDepth 16384
noncomputable section
namespace Cert.Proof.Loss
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference23Ideal Cert.Reference23Ideal.Read
theorem n_coe : Ideal.ofBits .f32 0x44800000#32 = ((1024 : ℝ) : EReal) := by
  simp [Ideal.ofBits, Ideal.ieee, -EReal.coe_mul, -EReal.coe_pow]; norm_num

theorem h_coe : Ideal.ofBits .f32 0x3F000000#32 = ((1 / 2 : ℝ) : EReal) := by
  simp [Ideal.ofBits, Ideal.ieee, -EReal.coe_mul, -EReal.coe_pow]; norm_num

theorem n_inv : Ideal.ofBits .f32 0x3A800000#32 = ((1 / 1024 : ℝ) : EReal) := by
  simp [Ideal.ofBits, Ideal.ieee, -EReal.coe_mul, -EReal.coe_pow]; norm_num

/-- Half the derivative of a square, over the number of columns. -/
theorem scale_eq (e : EReal) :
    Ideal.div (Ideal.ofBits .f32 0x3F000000#32) (Ideal.ofBits .f32 0x44800000#32) * (Ideal.ofBits .f32 0x40000000#32 * e) = e * ((1 / 1024 : ℝ) : EReal) := by
  have h2 : Ideal.ofBits .f32 0x40000000#32 = ((2 : ℝ) : EReal) := by
    simp [Ideal.ofBits, Ideal.ieee, -EReal.coe_mul, -EReal.coe_pow]; norm_num
  rw [n_coe, h_coe, h2, Ideal.div_coe (by norm_num), ← mul_assoc, ← EReal.coe_mul, ← EReal.coe_mul, mul_comm]
  norm_num

/-- The derivative of the loss. -/
theorem refD (H : (⟨2, ![8320, 1024]⟩ : Shape).Idx → EReal) (T : (⟨2, ![8192, 1024]⟩ : Shape).Idx → EReal) :
    val_main_v16 (F := Ideal) H T = Cert.Kernel23Ideal.Gen.outD H T := by
  rw [← val_main_v16_eq]
  funext x
  rw [eta x]
  unfold Cert.Kernel23Ideal.Gen.outD
  pointwise
  have h8 : (x 0).val < 8320 := (x 0).isLt
  by_cases h : 128 ≤ (x 0).val
  · rw [dif_pos h, dif_pos (⟨h, by omega⟩ : 128 ≤ (x 0).val ∧ (x 0).val - 128 < 8192), n_inv]
    have e : (ix2 (⟨128 + ((x 0).val - 128), by omega⟩ : Fin 8320) (x 1) : (⟨2, ![8320, 1024]⟩ : Shape).Idx) = x := by
      funext a; match a with | 0 => exact Fin.ext (by show 128 + ((x 0).val - 128) = (x 0).val; omega) | 1 => rfl
    rw [e]
    exact scale_eq _
  · rw [dif_neg h, dif_neg (fun h' => h h'.1)]

/-- The loss. -/
theorem refL (H : (⟨2, ![8320, 1024]⟩ : Shape).Idx → EReal) (T : (⟨2, ![8192, 1024]⟩ : Shape).Idx → EReal) :
    val_main_v17 (F := Ideal) H T = Cert.Kernel23Ideal.Gen.outL H T := by
  rw [← val_main_v17_eq]
  funext x
  rw [eta x]
  unfold Cert.Kernel23Ideal.Gen.outL Cert.Kernel23Ideal.Gen.rowSq
  pointwise
  rw [Cert.Kernel23Ideal.Gen.half_eq, Cert.Kernel23Ideal.Gen.sum_mul_real _ (by norm_num), n_coe, h_coe, mul_comm, Cert.Kernel23Ideal.Gen.sum_mul_real _ (by norm_num)]
  refine Finset.sum_congr rfl fun n _ => ?_
  rw [Ideal.div_coe (by norm_num), mul_assoc, ← EReal.coe_mul]
  have e : (⟨128 + n.val, by have := n.isLt; omega⟩ : Fin 8320) = ⟨n.val + 128, by have := n.isLt; omega⟩ := Fin.ext (Nat.add_comm _ _)
  rw [show ((1 : ℝ) / 1024 * (1 / 2)) = 1 / 2048 by norm_num]
  simp only [e]

end

open Cert.Reference23Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v16) = Cert.Kernel23Ideal.Gen.outD (m ((c.tc : Thread _ _).loc main_arg0)) (m ((c.tc : Thread _ _).loc main_arg1))
      ∧ r.2.mem ((c.tc : Thread _ _).loc main_v17) = Cert.Kernel23Ideal.Gen.outL (m ((c.tc : Thread _ _).loc main_arg0)) (m ((c.tc : Thread _ _).loc main_arg1))
      ∧ r.2.mem ((c.tc : Thread _ _).loc main_arg0) = m ((c.tc : Thread _ _).loc main_arg0)
      ∧ r.2.mem ((c.tc : Thread _ _).loc main_arg1) = m ((c.tc : Thread _ _).loc main_arg1)) :=
  (θ_run defs _ _).mono (fun _ h c =>
    ⟨((h c).1.trans (Read.val_main_v16_eq _ _)).trans (refD _ _),
     ((h c).2.1.trans (Read.val_main_v17_eq _ _)).trans (refL _ _), (h c).2.2⟩) (Value.run (F := Ideal) m g)

/-- The reference's frame: it declares no semaphore. -/
theorem reference_frame : Cert.quiescent_Reference23Ideal := fun m g _ =>
  (θ_run Cert.Reference23Ideal.defs _ _).mono (fun r h => ⟨fun c => (h c).2.2, sem_eq_zero_of_no_sems (by decide) r.2⟩) (reference_run m g)

open Cert.Kernel23Ideal in
/-- The kernel's results are the reference's. -/
theorem algebraic : Cert.algebraic_Kernel23Ideal_Reference23Ideal := by
  intro m g m' g' _ hagree
  refine ⟨fun c => Gen.outD (m ((c.tc : Thread _ _).loc main_arg0)) (m ((c.tc : Thread _ _).loc main_arg1)), fun c => Gen.outL (m ((c.tc : Thread _ _).loc main_arg0)) (m ((c.tc : Thread _ _).loc main_arg1)), ?_, ?_⟩
  · exact (θ_run defs _ _).mono (fun _ h c => ⟨(h c).1.trans (Gen.arr2 m c), (h c).2.1.trans (Gen.arr3 m c), (h c).2.2⟩) (Value.run_blocks (F := Ideal) m g)
  · refine (θ_run Cert.Reference23Ideal.defs _ _).mono (fun _ h c => ?_) (reference_run m' g')
    obtain ⟨h0, h1, hk⟩ := h c
    obtain ⟨e0, e1⟩ := hagree c
    rw [e0, e1] at h0
    rw [e0, e1] at h1
    exact ⟨h0, h1, hk⟩

end Cert.Proof.Loss
-- ==== Proof.ColSum.lean ====
/- What the call that sums the rows leaves in its result: the sums of the columns. -/
module
public import proofs.«01_k».proof.Proof.Gen.Kernel24Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel24Ideal.Gen
open Idealize.ShloMosaic Idealize.ShloMosaic.TcCoe Idealize.SL.Sem Mlp

variable (m : (ℓ : Loc nD τ sig) → Buf (Elt Ideal) ℓ) (c : Dev nD)

abbrev DHm : (⟨2, ![8320, 1024]⟩ : Shape).Idx → EReal := m ((c.tc : Thread nD τ).loc main_arg0)

theorem lt13 (t : Fin cfg0.N) : t.val < 13 := by
  have := t.isLt
  have h : cfg0.N = 13 := N_0
  omega

abbrev X0 (t : Fin cfg0.N) : (⟨2, ![640, 1024]⟩ : Shape).Idx → EReal := iblk m c 0 t

theorem out1_A (t : Fin cfg0.N) (h : t.val % 13 = 0) (k : Fin 1024) : (outsAt0 m c t.val t.isLt) (ix2 0 k)
    = 0 + ∑ p : Fin 640, X0 m c t (ix2 p k) := by
  rw [outsAt0_A m c t h]
  unfold X0
  generalize iblk m c 0 t = x0
  frame_out
  pointwise [k0_pay1, k0_pay2]

theorem out1_B (t : Fin cfg0.N) (h : ¬ t.val % 13 = 0) (k : Fin 1024) : (outsAt0 m c t.val t.isLt) (ix2 0 k)
    = (outsAt0 m c (t.val - 1) (Nat.lt_of_le_of_lt (Nat.sub_le _ _) t.isLt)) (ix2 0 k) + ∑ p : Fin 640, X0 m c t (ix2 p k) := by
  rw [outsAt0_B m c t h]
  generalize (outsAt0 m c (t.val - 1) (Nat.lt_of_le_of_lt (Nat.sub_le _ _) t.isLt)) = xo
  unfold X0
  generalize iblk m c 0 t = x0
  frame_out
  pointwise [k0_pay1, k0_pay2]
  all_goals exact congrArg (· + _) (congrFun (Memref.IsWhole.read_unread _ _) _)

theorem idx_0 (t : Fin cfg0.N) : win0_0.index t = ![t.val, 0] :=
  (by decide +kernel : ∀ t : Fin grid0.N, win0_0.index t = ![t.val, 0]) t
theorem idx_1 (t : Fin cfg0.N) : win0_1.index t = ![0, 0] :=
  (by decide +kernel : ∀ t : Fin grid0.N, win0_1.index t = ![0, 0]) t

theorem blk0 (t : Fin cfg0.N) (p : Fin 640) (k : Fin 1024) : X0 m c t (ix2 p k) = DHm m c (ix2 ⟨640 * t.val + p.val, by have := lt13 t; omega⟩ k) := by
  blk_ext [X0, iblk, V_main_arg0, idx_0 t]

theorem eta (y : (⟨2, ![1, 1024]⟩ : Shape).Idx) : y = ix2 (0 : Fin 1) (⟨(y 1).val, (y 1).isLt⟩ : Fin 1024) := by
  funext a
  match a with
  | 0 => exact Fin.ext (by have h : (y 0).val < 1 := (y 0).isLt; show (y 0).val = 0; omega)
  | 1 => rfl

/-- The sums of the columns. -/
def outF (D : (⟨2, ![8320, 1024]⟩ : Shape).Idx → EReal) : (⟨2, ![1, 1024]⟩ : Shape).Idx → EReal :=
  fun x => ∑ n : Fin 8320, D (ix2 n ⟨(x 1).val, (x 1).isLt⟩)

/-- One row's term, zero past the last row. -/
def rowN (k : Fin 1024) (n : ℕ) : EReal := if h : n < 8320 then DHm m c (ix2 ⟨n, h⟩ k) else 0

theorem add1_eq (t : Fin cfg0.N) (y : (⟨2, ![1, 1024]⟩ : Shape).Idx) :
    ∑ p : Fin 640, X0 m c t (ix2 p ⟨(y 1).val, (y 1).isLt⟩) = ∑ p : Fin 640, rowN m c ⟨(y 1).val, (y 1).isLt⟩ (640 * t.val + p.val) := by
  refine Finset.sum_congr rfl fun p _ => ?_
  have h13 := lt13 t
  rw [rowN, dif_pos (by omega)]
  exact blk0 m c t p _

/-- What point `t` adds. -/
def addend1 (t : ℕ) (y : (⟨2, ![1, 1024]⟩ : Shape).Idx) : EReal := ∑ p : Fin 640, rowN m c ⟨(y 1).val, (y 1).isLt⟩ (640 * t + p.val)

theorem step1_A (t : Fin cfg0.N) (h0 : t.val % 13 = 0) (y : (⟨2, ![1, 1024]⟩ : Shape).Idx) :
    (outsAt0 m c t.val t.isLt) y = 0 + addend1 m c t.val y := by
  rw [addend1, ← add1_eq]
  exact (congrArg (outsAt0 m c t.val t.isLt) (eta y)).trans (out1_A m c t h0 _)

theorem step1_B (t : Fin cfg0.N) (h0 : ¬ t.val % 13 = 0) (y : (⟨2, ![1, 1024]⟩ : Shape).Idx) :
    (outsAt0 m c t.val t.isLt) y = (outsAt0 m c (t.val - 1) (Nat.lt_of_le_of_lt (Nat.sub_le _ _) t.isLt)) y + addend1 m c t.val y := by
  rw [addend1, ← add1_eq]
  refine (congrArg (outsAt0 m c t.val t.isLt) (eta y)).trans ((out1_B m c t h0 _).trans ?_)
  rw [← eta y]

theorem last1 (t : Fin cfg0.N) (h : t.val % 13 = 12) (y : (⟨2, ![1, 1024]⟩ : Shape).Idx) :
    (outsAt0 m c t.val t.isLt) y = ∑ n ∈ Finset.range 8320, rowN m c ⟨(y 1).val, (y 1).isLt⟩ n := by
  have h13 := lt13 t
  rw [Pipeline.eq_sum_of_reset_step_apply_of_mod (fun n h => (outsAt0 m c n h)) 13 (fun _ => (0 : EReal))
    (addend1 m c) (step1_A m c) (step1_B m c) t h y, zero_add,
    show 8320 = 13 * 640 from rfl, Finset.sum_range_mul_split 13 640]
  refine Finset.sum_congr rfl fun k hk => ?_
  rw [Finset.sum_range, addend1]
  refine Finset.sum_congr rfl fun p _ => ?_
  rw [show 13 * (t.val / 13) + k = k by omega, Nat.mul_comm]

theorem arr1 : (dats m 0 c).arrAt 1 cfg0.N = outF (DHm m c) := by
  refine (dats m 0 c).arrAt_eq_of_covers 1 _ (by decide +kernel) fun t hf y => ?_
  have e : ((cfg0.win 1).blk t).view.emb y = ix2 (⟨(y 0).val, (y 0).isLt⟩ : Fin 1) (⟨(y 1).val, (y 1).isLt⟩ : Fin 1024) := by
    blk_ext [idx_1 t]
  rw [e]
  blk_simp
  rw [after0_1]
  refine (last1 m c t ((flush0_1 t).mp hf) y).trans ?_
  rw [Finset.sum_range]
  refine Finset.sum_congr rfl fun n _ => ?_
  rw [rowN, dif_pos n.isLt]
  rfl

end Cert.Kernel24Ideal.Gen
-- ==== Proof.ColSumClaim.lean ====
/- The sums of the columns are the gradient of a bias that every row adds. -/
module
public import proofs.«01_k».proof.Defs
public import proofs.«01_k».proof.Proof.ColSum
public import proofs.«01_k».proof.Proof.Gen.Kernel24Ideal
public import proofs.«01_k».proof.Proof.Gen.Reference24Ideal
public import proofs.«01_k».proof.Proof.Gen.Reference24Ideal.Run
public import proofs.«01_k».proof.Proof.Gen.Reference24Ideal.Read
public import Idealize.ShloMosaic.Lib.Quiescent
public import Idealize.ShloMosaic.Lib.Pointwise
@[expose] public section
set_option maxRecDepth 16384
noncomputable section
namespace Cert.Proof.ColSum
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference24Ideal Cert.Reference24Ideal.Read
/-- The reference's result is the sums of the columns. -/
theorem ref (D : (⟨2, ![8320, 1024]⟩ : Shape).Idx → EReal) :
    val_main_v3 (F := Ideal) D = Cert.Kernel24Ideal.Gen.outF D := by
  rw [← val_main_v3_eq]
  funext x
  rw [eta x]
  unfold Cert.Kernel24Ideal.Gen.outF
  pointwise

end

open Cert.Reference24Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v3) = Cert.Kernel24Ideal.Gen.outF (m ((c.tc : Thread _ _).loc main_arg0))
      ∧ r.2.mem ((c.tc : Thread _ _).loc main_arg0) = m ((c.tc : Thread _ _).loc main_arg0)) :=
  (θ_run defs _ _).mono (fun _ h c =>
    ⟨((h c).1.trans (Read.val_main_v3_eq _)).trans (ref _), (h c).2⟩) (Value.run (F := Ideal) m g)

/-- The reference's frame: it declares no semaphore. -/
theorem reference_frame : Cert.quiescent_Reference24Ideal := fun m g _ =>
  (θ_run Cert.Reference24Ideal.defs _ _).mono (fun r h => ⟨fun c => (h c).2, sem_eq_zero_of_no_sems (by decide) r.2⟩) (reference_run m g)

open Cert.Kernel24Ideal in
/-- The kernel's results are the reference's. -/
theorem algebraic : Cert.algebraic_Kernel24Ideal_Reference24Ideal := by
  intro m g m' g' _ hagree
  refine ⟨fun c => Gen.outF (m ((c.tc : Thread _ _).loc main_arg0)), ?_, ?_⟩
  · exact (θ_run defs _ _).mono (fun _ h c => ⟨(h c).1.trans (Gen.arr1 m c), (h c).2⟩) (Value.run_blocks (F := Ideal) m g)
  · refine (θ_run Cert.Reference24Ideal.defs _ _).mono (fun _ h c => ?_) (reference_run m' g')
    obtain ⟨h0, hk⟩ := h c
    have e0 := hagree c
    rw [e0] at h0
    exact ⟨h0, hk⟩

end Cert.Proof.ColSum
-- ==== Proof.AdamSpec.lean ====
/- The optimiser's step, at indices: the sum of the devices' gradients, the moments and the update. -/
module
public import Idealize.ShloMosaic.Lib.Pointwise
@[expose] public section
noncomputable section
namespace Adam
open Idealize.ShloMosaic

/-- The sum of the eight devices' gradients of a weight. -/
def gat {R C : ℕ} (P : (⟨3, ![8, R, C]⟩ : Shape).Idx → EReal) (n : Fin R) (k : Fin C) : EReal := ∑ d : Fin 8, P (ix3 d n k)

/-- The new first moment of a gradient `g`. -/
def nm (g m : EReal) : EReal := Ideal.ofBits .f32 0x3F666666#32 * m + Ideal.ofBits .f32 0x3DCCCCCD#32 * g

/-- The new second moment of a gradient `g`. -/
def nv (g v : EReal) : EReal := Ideal.ofBits .f32 0x3F7FBE77#32 * v + Ideal.ofBits .f32 0x3A83126F#32 * (g * g)

/-- The update of a weight `w` whose new moments are `a` and `b`. -/
def dl (w a b : EReal) : EReal :=
  Ideal.ofBits .f32 0xBA83126F#32 *
    (Ideal.div (Ideal.div a (Ideal.ofBits .f32 0x3F26BD02#32))
        (Ideal.sqrt (Ideal.div b (Ideal.ofBits .f32 0x3C231ACC#32)) + Ideal.ofBits .f32 0x322BCC77#32)
      + Ideal.ofBits .f32 0x3C23D70A#32 * w)

/-- What the body leaves at a point, of its layer's block `P` of the devices' gradients and the blocks of weights and moments:
    the gradient, the update and the new moments. -/
def Step {R C : ℕ} (P : (⟨3, ![8, R, C]⟩ : Shape).Idx → EReal) (W M V : (⟨3, ![1, R, C]⟩ : Shape).Idx → EReal)
    (o : ((⟨3, ![1, R, C]⟩ : Shape).Idx → EReal) × ((⟨3, ![1, R, C]⟩ : Shape).Idx → EReal)
      × ((⟨3, ![1, R, C]⟩ : Shape).Idx → EReal) × ((⟨3, ![1, R, C]⟩ : Shape).Idx → EReal)) : Prop :=
  ∀ (p : Fin R) (k : Fin C),
    o.1 (ix3 0 p k) = gat P p k
    ∧ o.2.1 (ix3 0 p k) = dl (W (ix3 0 p k)) (nm (gat P p k) (M (ix3 0 p k))) (nv (gat P p k) (V (ix3 0 p k)))
    ∧ o.2.2.1 (ix3 0 p k) = nm (gat P p k) (M (ix3 0 p k))
    ∧ o.2.2.2 (ix3 0 p k) = nv (gat P p k) (V (ix3 0 p k))

/-- The gradients of a stack of layers. -/
def outG {L R C : ℕ} (P : Fin L → (⟨3, ![8, R, C]⟩ : Shape).Idx → EReal) : (⟨3, ![L, R, C]⟩ : Shape).Idx → EReal :=
  fun x => gat (P ⟨(x 0).val, (x 0).isLt⟩) ⟨(x 1).val, (x 1).isLt⟩ ⟨(x 2).val, (x 2).isLt⟩

/-- The new first moments. -/
def outM {L R C : ℕ} (P : Fin L → (⟨3, ![8, R, C]⟩ : Shape).Idx → EReal) (M : (⟨3, ![L, R, C]⟩ : Shape).Idx → EReal) :
    (⟨3, ![L, R, C]⟩ : Shape).Idx → EReal := fun x => nm (outG P x) (M x)

/-- The new second moments. -/
def outV {L R C : ℕ} (P : Fin L → (⟨3, ![8, R, C]⟩ : Shape).Idx → EReal) (V : (⟨3, ![L, R, C]⟩ : Shape).Idx → EReal) :
    (⟨3, ![L, R, C]⟩ : Shape).Idx → EReal := fun x => nv (outG P x) (V x)

/-- The updates. -/
def outD {L R C : ℕ} (P : Fin L → (⟨3, ![8, R, C]⟩ : Shape).Idx → EReal) (W M V : (⟨3, ![L, R, C]⟩ : Shape).Idx → EReal) :
    (⟨3, ![L, R, C]⟩ : Shape).Idx → EReal := fun x => dl (W x) (outM P M x) (outV P V x)

/-- What the four results hold at an index. -/
def Outs {L R C : ℕ} (P : Fin L → (⟨3, ![8, R, C]⟩ : Shape).Idx → EReal) (W M V : (⟨3, ![L, R, C]⟩ : Shape).Idx → EReal)
    (x : (⟨3, ![L, R, C]⟩ : Shape).Idx) (g d a b : EReal) : Prop :=
  g = outG P x ∧ d = outD P W M V x ∧ a = outM P M x ∧ b = outV P V x

/-- A point leaves the results of its layer `l` and rows `r`, when its blocks are those of the arguments there. -/
theorem Step.outs {L R R' C : ℕ} {X : (⟨3, ![8, R, C]⟩ : Shape).Idx → EReal} {W M V : (⟨3, ![1, R, C]⟩ : Shape).Idx → EReal}
    {o : ((⟨3, ![1, R, C]⟩ : Shape).Idx → EReal) × ((⟨3, ![1, R, C]⟩ : Shape).Idx → EReal)
      × ((⟨3, ![1, R, C]⟩ : Shape).Idx → EReal) × ((⟨3, ![1, R, C]⟩ : Shape).Idx → EReal)}
    (s : Step X W M V o) {P : Fin L → (⟨3, ![8, R', C]⟩ : Shape).Idx → EReal} {A B D : (⟨3, ![L, R', C]⟩ : Shape).Idx → EReal}
    {l : Fin L} {r : Fin R → Fin R'} (hP : ∀ d p k, X (ix3 d p k) = P l (ix3 d (r p) k))
    (hW : ∀ p k, W (ix3 0 p k) = A (ix3 l (r p) k)) (hM : ∀ p k, M (ix3 0 p k) = B (ix3 l (r p) k))
    (hV : ∀ p k, V (ix3 0 p k) = D (ix3 l (r p) k)) (p : Fin R) (k : Fin C) :
    Outs P A B D (ix3 l (r p) k) (o.1 (ix3 0 p k)) (o.2.1 (ix3 0 p k)) (o.2.2.1 (ix3 0 p k)) (o.2.2.2 (ix3 0 p k)) := by
  have hg : gat X p k = outG P (ix3 l (r p) k) := Finset.sum_congr rfl fun d _ => hP d p k
  have h := s p k
  rw [hg, hW, hM, hV] at h
  exact h

/-- An index of a block of one layer, by its row and column, and their bounds. -/
theorem blkIdx {R C : ℕ} (y : (⟨3, ![1, R, C]⟩ : Shape).Idx) :
    y = ix3 (0 : Fin 1) (⟨(y 1).val, (y 1).isLt⟩ : Fin R) (⟨(y 2).val, (y 2).isLt⟩ : Fin C) ∧ (y 0).val < 1 ∧ (y 1).val < R ∧ (y 2).val < C := by
  have y0 : (y 0).val < 1 := (y 0).isLt
  refine ⟨?_, y0, (y 1).isLt, (y 2).isLt⟩
  funext a
  match a with
  | 0 => exact Fin.ext (by show (y 0).val = 0; omega)
  | 1 => rfl
  | 2 => rfl

/-- Two arrays are equal that are equal at every index. -/
theorem ext3 {L R C : ℕ} {f g : (⟨3, ![L, R, C]⟩ : Shape).Idx → EReal} (h : ∀ (l : Fin L) (n : Fin R) (k : Fin C), f (ix3 l n k) = g (ix3 l n k)) :
    f = g := by
  funext x
  have e : x = ix3 (⟨(x 0).val, (x 0).isLt⟩ : Fin L) (⟨(x 1).val, (x 1).isLt⟩ : Fin R) (⟨(x 2).val, (x 2).isLt⟩ : Fin C) := by
    funext a
    match a with
    | 0 => rfl
    | 1 => rfl
    | 2 => rfl
  rw [e]
  exact h _ _ _

end Adam
-- ==== Proof.AdamIn.lean ====
/- What the optimiser's call for the attention input weights leaves in its results. -/
module
public import proofs.«01_k».proof.Proof.Gen.Kernel25Ideal.Value
public import Idealize.ShloMosaic.Lib.Pipeline.ValueKit
public import Idealize.ShloMosaic.Lib.Pointwise
public import proofs.«01_k».proof.Proof.AdamSpec
@[expose] public section
set_option maxRecDepth 16384
noncomputable section
namespace Cert.Kernel25Ideal.Gen
open Idealize.ShloMosaic Idealize.ShloMosaic.TcCoe Idealize.SL.Sem Adam

variable (m : (ℓ : Loc nD τ sig) → Buf (Elt Ideal) ℓ) (c : Dev nD)

/-- The arguments: each layer's gradients on the devices, the weights and the two moments. -/
abbrev P0m : (⟨3, ![8, 1024, 386]⟩ : Shape).Idx → EReal := m ((c.tc : Thread nD τ).loc main_arg0)
abbrev P1m : (⟨3, ![8, 1024, 386]⟩ : Shape).Idx → EReal := m ((c.tc : Thread nD τ).loc main_arg1)
abbrev Wm : (⟨3, ![2, 1024, 386]⟩ : Shape).Idx → EReal := m ((c.tc : Thread nD τ).loc main_arg2)
abbrev Mm : (⟨3, ![2, 1024, 386]⟩ : Shape).Idx → EReal := m ((c.tc : Thread nD τ).loc main_arg3)
abbrev Vm : (⟨3, ![2, 1024, 386]⟩ : Shape).Idx → EReal := m ((c.tc : Thread nD τ).loc main_arg4)
abbrev Pm : Fin 2 → (⟨3, ![8, 1024, 386]⟩ : Shape).Idx → EReal := ![P0m m c, P1m m c]

theorem ltT (t : Fin cfg0.N) : t.val < 8 := by
  have := t.isLt
  have h : cfg0.N = 8 := N_0
  omega

abbrev X0 (t : Fin cfg0.N) : (⟨3, ![8, 256, 386]⟩ : Shape).Idx → EReal := iblk m c 0 t
abbrev X1 (t : Fin cfg0.N) : (⟨3, ![8, 256, 386]⟩ : Shape).Idx → EReal := iblk m c 1 t
abbrev X2 (t : Fin cfg0.N) : (⟨3, ![1, 256, 386]⟩ : Shape).Idx → EReal := iblk m c 2 t
abbrev X3 (t : Fin cfg0.N) : (⟨3, ![1, 256, 386]⟩ : Shape).Idx → EReal := iblk m c 3 t
abbrev X4 (t : Fin cfg0.N) : (⟨3, ![1, 256, 386]⟩ : Shape).Idx → EReal := iblk m c 4 t

theorem part_0 : (V m c main_v0 : (⟨3, ![8, 1024, 386]⟩ : Shape).Idx → EReal) = P0m m c := by
  unfold V
  simp only [hostOps0, List.flatten_cons, List.flatten_nil, List.append_nil, List.cons_append, List.nil_append]
  after_results
  rfl

theorem part_1 : (V m c main_v1 : (⟨3, ![8, 1024, 386]⟩ : Shape).Idx → EReal) = P1m m c := by
  unfold V
  simp only [hostOps0, List.flatten_cons, List.flatten_nil, List.append_nil, List.cons_append, List.nil_append]
  after_results
  rfl

/-- The block that the body leaves at a point of layer 0. -/
theorem step_A (t : Fin cfg0.N) (h0 : t.val < 4) (h1 : ¬4 ≤ t.val) : Step (X0 m c t) (X2 m c t) (X3 m c t) (X4 m c t) (outsAt0 m c t.val t.isLt) := by
  intro p k
  rw [outsAt0_A m c t h0 h1]
  dsimp only
  unfold X0 X2 X3 X4
  generalize iblk m c 0 t = x0
  generalize iblk m c 1 t = x1
  generalize iblk m c 2 t = x2
  generalize iblk m c 3 t = x3
  generalize iblk m c 4 t = x4
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8]

/-- The block that the body leaves at a point of layer 1. -/
theorem step_B (t : Fin cfg0.N) (h0 : ¬t.val < 4) (h1 : 4 ≤ t.val) : Step (X1 m c t) (X2 m c t) (X3 m c t) (X4 m c t) (outsAt0 m c t.val t.isLt) := by
  intro p k
  rw [outsAt0_B m c t h0 h1]
  dsimp only
  unfold X1 X2 X3 X4
  generalize iblk m c 0 t = x0
  generalize iblk m c 1 t = x1
  generalize iblk m c 2 t = x2
  generalize iblk m c 3 t = x3
  generalize iblk m c 4 t = x4
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8]

theorem idx_0 (t : Fin cfg0.N) (h : t.val / 4 = 0) : win0_0.index t = ![0, t.val % 4, 0] :=
  (by decide +kernel : ∀ t : Fin grid0.N, t.val / 4 = 0 → win0_0.index t = ![0, t.val % 4, 0]) t h
theorem idx_1 (t : Fin cfg0.N) (h : t.val / 4 = 1) : win0_1.index t = ![0, t.val % 4, 0] :=
  (by decide +kernel : ∀ t : Fin grid0.N, t.val / 4 = 1 → win0_1.index t = ![0, t.val % 4, 0]) t h
theorem idx_2 (t : Fin cfg0.N) : win0_2.index t = ![t.val / 4, t.val % 4, 0] :=
  (by decide +kernel : ∀ t : Fin grid0.N, win0_2.index t = ![t.val / 4, t.val % 4, 0]) t
theorem idx_3 (t : Fin cfg0.N) : win0_3.index t = ![t.val / 4, t.val % 4, 0] :=
  (by decide +kernel : ∀ t : Fin grid0.N, win0_3.index t = ![t.val / 4, t.val % 4, 0]) t
theorem idx_4 (t : Fin cfg0.N) : win0_4.index t = ![t.val / 4, t.val % 4, 0] :=
  (by decide +kernel : ∀ t : Fin grid0.N, win0_4.index t = ![t.val / 4, t.val % 4, 0]) t
theorem idx_5 (t : Fin cfg0.N) : win0_5.index t = ![t.val / 4, t.val % 4, 0] :=
  (by decide +kernel : ∀ t : Fin grid0.N, win0_5.index t = ![t.val / 4, t.val % 4, 0]) t
theorem idx_6 (t : Fin cfg0.N) : win0_6.index t = ![t.val / 4, t.val % 4, 0] :=
  (by decide +kernel : ∀ t : Fin grid0.N, win0_6.index t = ![t.val / 4, t.val % 4, 0]) t
theorem idx_7 (t : Fin cfg0.N) : win0_7.index t = ![t.val / 4, t.val % 4, 0] :=
  (by decide +kernel : ∀ t : Fin grid0.N, win0_7.index t = ![t.val / 4, t.val % 4, 0]) t
theorem idx_8 (t : Fin cfg0.N) : win0_8.index t = ![t.val / 4, t.val % 4, 0] :=
  (by decide +kernel : ∀ t : Fin grid0.N, win0_8.index t = ![t.val / 4, t.val % 4, 0]) t

/-- A point's layer. -/
def lay (t : Fin cfg0.N) : Fin 2 := ⟨t.val / 4, by have := ltT t; omega⟩
/-- A point's row `p` in its layer. -/
def row (t : Fin cfg0.N) (p : Fin 256) : Fin 1024 := ⟨256 * (t.val % 4) + p.val, by omega⟩

theorem blk0 (t : Fin cfg0.N) (h : t.val / 4 = 0) (d : Fin 8) (p : Fin 256) (k : Fin 386) :
    X0 m c t (ix3 d p k) = Pm m c (lay t) (ix3 d (row t p) k) := by
  rw [show lay t = 0 from Fin.ext h]
  show _ = P0m m c _
  unfold row
  blk_ext [X0, iblk, part_0, idx_0 t h]

theorem blk1 (t : Fin cfg0.N) (h : t.val / 4 = 1) (d : Fin 8) (p : Fin 256) (k : Fin 386) :
    X1 m c t (ix3 d p k) = Pm m c (lay t) (ix3 d (row t p) k) := by
  rw [show lay t = 1 from Fin.ext h]
  show _ = P1m m c _
  unfold row
  blk_ext [X1, iblk, part_1, idx_1 t h]

theorem blk2 (t : Fin cfg0.N) (p : Fin 256) (k : Fin 386) :
    X2 m c t (ix3 0 p k) = Wm m c (ix3 (lay t) (row t p) k) := by
  unfold row lay
  blk_ext [X2, iblk, V_main_arg2, idx_2 t]

theorem blk3 (t : Fin cfg0.N) (p : Fin 256) (k : Fin 386) :
    X3 m c t (ix3 0 p k) = Mm m c (ix3 (lay t) (row t p) k) := by
  unfold row lay
  blk_ext [X3, iblk, V_main_arg3, idx_3 t]

theorem blk4 (t : Fin cfg0.N) (p : Fin 256) (k : Fin 386) :
    X4 m c t (ix3 0 p k) = Vm m c (ix3 (lay t) (row t p) k) := by
  unfold row lay
  blk_ext [X4, iblk, V_main_arg4, idx_4 t]

/-- What a point leaves, of the arguments. -/
theorem outs_at (t : Fin cfg0.N) (p : Fin 256) (k : Fin 386) :
    Outs (Pm m c) (Wm m c) (Mm m c) (Vm m c) (ix3 (lay t) (row t p) k)
      ((outsAt0 m c t.val t.isLt).1 (ix3 0 p k)) ((outsAt0 m c t.val t.isLt).2.1 (ix3 0 p k)) ((outsAt0 m c t.val t.isLt).2.2.1 (ix3 0 p k)) ((outsAt0 m c t.val t.isLt).2.2.2 (ix3 0 p k)) := by
  have hT := ltT t
  by_cases h0 : t.val / 4 = 0
  · exact (step_A m c t (by omega) (by omega)).outs (blk0 m c t h0) (blk2 m c t) (blk3 m c t) (blk4 m c t) p k
  have h1 : t.val / 4 = 1 := by omega
  exact (step_B m c t (by omega) (by omega)).outs (blk1 m c t h1) (blk2 m c t) (blk3 m c t) (blk4 m c t) p k

theorem arr5 : (dats m 0 c).arrAt 5 cfg0.N = outG (Pm m c) := by
  refine (dats m 0 c).arrAt_eq_of_covers 5 _ (by decide +kernel) fun t hf y => ?_
  have hT := ltT t
  obtain ⟨hy, y0, y1, y2⟩ := blkIdx y
  have e : ((cfg0.win 5).blk t).view.emb y = ix3 (lay t) (row t ⟨(y 1).val, y1⟩) (⟨(y 2).val, y2⟩ : Fin 386) := by
    unfold lay row
    blk_ext [idx_5 t]
  rw [e]
  blk_simp
  rw [after0_5]
  exact (congrArg (outsAt0 m c t.val t.isLt).1 hy).trans (outs_at m c t _ _).1

theorem arr6 : (dats m 0 c).arrAt 6 cfg0.N = outD (Pm m c) (Wm m c) (Mm m c) (Vm m c) := by
  refine (dats m 0 c).arrAt_eq_of_covers 6 _ (by decide +kernel) fun t hf y => ?_
  have hT := ltT t
  obtain ⟨hy, y0, y1, y2⟩ := blkIdx y
  have e : ((cfg0.win 6).blk t).view.emb y = ix3 (lay t) (row t ⟨(y 1).val, y1⟩) (⟨(y 2).val, y2⟩ : Fin 386) := by
    unfold lay row
    blk_ext [idx_6 t]
  rw [e]
  blk_simp
  rw [after0_6]
  exact (congrArg (outsAt0 m c t.val t.isLt).2.1 hy).trans (outs_at m c t _ _).2.1

theorem arr7 : (dats m 0 c).arrAt 7 cfg0.N = outM (Pm m c) (Mm m c) := by
  refine (dats m 0 c).arrAt_eq_of_covers 7 _ (by decide +kernel) fun t hf y => ?_
  have hT := ltT t
  obtain ⟨hy, y0, y1, y2⟩ := blkIdx y
  have e : ((cfg0.win 7).blk t).view.emb y = ix3 (lay t) (row t ⟨(y 1).val, y1⟩) (⟨(y 2).val, y2⟩ : Fin 386) := by
    unfold lay row
    blk_ext [idx_7 t]
  rw [e]
  blk_simp
  rw [after0_7]
  exact (congrArg (outsAt0 m c t.val t.isLt).2.2.1 hy).trans (outs_at m c t _ _).2.2.1

theorem arr8 : (dats m 0 c).arrAt 8 cfg0.N = outV (Pm m c) (Vm m c) := by
  refine (dats m 0 c).arrAt_eq_of_covers 8 _ (by decide +kernel) fun t hf y => ?_
  have hT := ltT t
  obtain ⟨hy, y0, y1, y2⟩ := blkIdx y
  have e : ((cfg0.win 8).blk t).view.emb y = ix3 (lay t) (row t ⟨(y 1).val, y1⟩) (⟨(y 2).val, y2⟩ : Fin 386) := by
    unfold lay row
    blk_ext [idx_8 t]
  rw [e]
  blk_simp
  rw [after0_8]
  exact (congrArg (outsAt0 m c t.val t.isLt).2.2.2 hy).trans (outs_at m c t _ _).2.2.2

/-- The results, as functions of the arguments. -/
def fG (P0 P1 : (⟨3, ![8, 1024, 386]⟩ : Shape).Idx → EReal) : (⟨3, ![2, 1024, 386]⟩ : Shape).Idx → EReal := outG ![P0, P1]
def fD (P0 P1 : (⟨3, ![8, 1024, 386]⟩ : Shape).Idx → EReal) (W M V : (⟨3, ![2, 1024, 386]⟩ : Shape).Idx → EReal) : (⟨3, ![2, 1024, 386]⟩ : Shape).Idx → EReal := outD ![P0, P1] W M V
def fM (P0 P1 : (⟨3, ![8, 1024, 386]⟩ : Shape).Idx → EReal) (M : (⟨3, ![2, 1024, 386]⟩ : Shape).Idx → EReal) : (⟨3, ![2, 1024, 386]⟩ : Shape).Idx → EReal := outM ![P0, P1] M
def fV (P0 P1 : (⟨3, ![8, 1024, 386]⟩ : Shape).Idx → EReal) (V : (⟨3, ![2, 1024, 386]⟩ : Shape).Idx → EReal) : (⟨3, ![2, 1024, 386]⟩ : Shape).Idx → EReal := outV ![P0, P1] V

end Cert.Kernel25Ideal.Gen
-- ==== Proof.AdamInClaim.lean ====
/- The optimiser's call for the attention input weights computes the reference. -/
module
public import proofs.«01_k».proof.Defs
public import proofs.«01_k».proof.Proof.AdamIn
public import proofs.«01_k».proof.Proof.Gen.Kernel25Ideal
public import proofs.«01_k».proof.Proof.Gen.Reference25Ideal
public import proofs.«01_k».proof.Proof.Gen.Reference25Ideal.Run
public import proofs.«01_k».proof.Proof.Gen.Reference25Ideal.Read
public import Idealize.ShloMosaic.Lib.Quiescent
public import Idealize.ShloMosaic.Lib.Pointwise
@[expose] public section
set_option maxRecDepth 16384
noncomputable section
namespace Cert.Proof.AdamIn
open Idealize.ShloMosaic Idealize.ShloMosaic.TcCoe Idealize.SL.Sem

open Cert.Reference25Ideal.Read Cert.Kernel25Ideal.Gen Adam

theorem ref_g (x0 x1 : (⟨3, ![8, 1024, 386]⟩ : Shape).Idx → EReal) : val_main_v8 (F := Ideal) x0 x1 = fG x0 x1 := by
  unfold fG
  have e0 : ∀ (n : Fin 1024) (k : Fin 386), val_main_v8 (F := Ideal) x0 x1 (ix3 0 n k) = gat x0 n k := by
    intro n k
    unfold gat
    pointwise [val_main_v0, val_main_v1, val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9]
  have e1 : ∀ (n : Fin 1024) (k : Fin 386), val_main_v8 (F := Ideal) x0 x1 (ix3 1 n k) = gat x1 n k := by
    intro n k
    unfold gat
    pointwise [val_main_v0, val_main_v1, val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9]
  refine ext3 fun l n k => ?_
  match l with
  | 0 => exact e0 n k
  | 1 => exact e1 n k

theorem ref_m (x0 x1 : (⟨3, ![8, 1024, 386]⟩ : Shape).Idx → EReal) (x3 : (⟨3, ![2, 1024, 386]⟩ : Shape).Idx → EReal) : val_main_v13 (F := Ideal) x0 x1 x3 = fM x0 x1 x3 := by
  refine ext3 fun l n k => ?_
  rw [show fM x0 x1 x3 (ix3 l n k) = nm (fG x0 x1 (ix3 l n k)) (x3 (ix3 l n k)) from rfl, ← ref_g]
  unfold nm
  pointwise [val_main_v9, val_main_v10, val_main_v11, val_main_v12, val_main_v13, val_main_cst, val_main_cst_0, val_main_cst_1, val_main_cst_2, val_main_cst_3, val_main_cst_4, val_main_cst_5, val_main_cst_6, val_main_cst_7, val_main_cst_8, val_main_cst_9]

theorem ref_v (x0 x1 : (⟨3, ![8, 1024, 386]⟩ : Shape).Idx → EReal) (x4 : (⟨3, ![2, 1024, 386]⟩ : Shape).Idx → EReal) : val_main_v19 (F := Ideal) x0 x1 x4 = fV x0 x1 x4 := by
  refine ext3 fun l n k => ?_
  rw [show fV x0 x1 x4 (ix3 l n k) = nv (fG x0 x1 (ix3 l n k)) (x4 (ix3 l n k)) from rfl, ← ref_g]
  unfold nv
  pointwise [val_main_v14, val_main_v15, val_main_v16, val_main_v17, val_main_v18, val_main_v19, val_main_cst, val_main_cst_0, val_main_cst_1, val_main_cst_2, val_main_cst_3, val_main_cst_4, val_main_cst_5, val_main_cst_6, val_main_cst_7, val_main_cst_8, val_main_cst_9]

theorem ref_d (x0 x1 : (⟨3, ![8, 1024, 386]⟩ : Shape).Idx → EReal) (x2 x3 x4 : (⟨3, ![2, 1024, 386]⟩ : Shape).Idx → EReal) : val_main_v32 (F := Ideal) x0 x1 x2 x3 x4 = fD x0 x1 x2 x3 x4 := by
  refine ext3 fun l n k => ?_
  rw [show fD x0 x1 x2 x3 x4 (ix3 l n k) = dl (x2 (ix3 l n k)) (fM x0 x1 x3 (ix3 l n k)) (fV x0 x1 x4 (ix3 l n k)) from rfl, ← ref_m, ← ref_v]
  unfold dl
  pointwise [val_main_v20, val_main_v21, val_main_v22, val_main_v23, val_main_v24, val_main_v25, val_main_v26, val_main_v27, val_main_v28, val_main_v29, val_main_v30, val_main_v31, val_main_v32, val_main_cst, val_main_cst_0, val_main_cst_1, val_main_cst_2, val_main_cst_3, val_main_cst_4, val_main_cst_5, val_main_cst_6, val_main_cst_7, val_main_cst_8, val_main_cst_9]

open Cert.Reference25Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v8) = Cert.Kernel25Ideal.Gen.fG (m ((c.tc : Thread _ _).loc main_arg0)) (m ((c.tc : Thread _ _).loc main_arg1))
      ∧ r.2.mem ((c.tc : Thread _ _).loc main_v32) = Cert.Kernel25Ideal.Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4))
      ∧ r.2.mem ((c.tc : Thread _ _).loc main_v13) = Cert.Kernel25Ideal.Gen.fM (m ((c.tc : Thread _ _).loc main_arg0)) (m ((c.tc : Thread _ _).loc main_arg1)) (m ((c.tc : Thread _ _).loc main_arg3))
      ∧ r.2.mem ((c.tc : Thread _ _).loc main_v19) = Cert.Kernel25Ideal.Gen.fV (m ((c.tc : Thread _ _).loc main_arg0)) (m ((c.tc : Thread _ _).loc main_arg1)) (m ((c.tc : Thread _ _).loc main_arg4))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)) :=
  (θ_run defs _ _).mono (fun _ h c =>
    ⟨((h c).1.trans (Read.val_main_v8_eq _ _)).trans (ref_g _ _),
     ((h c).2.1.trans (Read.val_main_v32_eq _ _ _ _ _)).trans (ref_d _ _ _ _ _),
     ((h c).2.2.1.trans (Read.val_main_v13_eq _ _ _)).trans (ref_m _ _ _),
     ((h c).2.2.2.1.trans (Read.val_main_v19_eq _ _ _)).trans (ref_v _ _ _), (h c).2.2.2.2⟩) (Value.run (F := Ideal) m g)

/-- The reference's frame: it declares no semaphore. -/
theorem reference_frame : Cert.quiescent_Reference25Ideal := fun m g _ =>
  (θ_run Cert.Reference25Ideal.defs _ _).mono (fun r h => ⟨fun c => (h c).2.2.2.2, sem_eq_zero_of_no_sems (by decide) r.2⟩) (reference_run m g)

open Cert.Kernel25Ideal in
/-- The kernel's results are the reference's. -/
theorem algebraic : Cert.algebraic_Kernel25Ideal_Reference25Ideal := by
  intro m g m' g' _ hagree
  refine ⟨fun c => Gen.fG (m ((c.tc : Thread _ _).loc main_arg0)) (m ((c.tc : Thread _ _).loc main_arg1)), fun c => Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => Gen.fM (m ((c.tc : Thread _ _).loc main_arg0)) (m ((c.tc : Thread _ _).loc main_arg1)) (m ((c.tc : Thread _ _).loc main_arg3)), fun c => Gen.fV (m ((c.tc : Thread _ _).loc main_arg0)) (m ((c.tc : Thread _ _).loc main_arg1)) (m ((c.tc : Thread _ _).loc main_arg4)), ?_, ?_⟩
  · exact (θ_run defs _ _).mono (fun _ h c => ⟨(h c).1.trans (Gen.arr5 m c), (h c).2.1.trans (Gen.arr6 m c), (h c).2.2.1.trans (Gen.arr7 m c), (h c).2.2.2.1.trans (Gen.arr8 m c), (h c).2.2.2.2⟩) (Value.run_blocks (F := Ideal) m g)
  · refine (θ_run Cert.Reference25Ideal.defs _ _).mono (fun _ h c => ?_) (reference_run m' g')
    obtain ⟨h0, h1, h2, h3, hk⟩ := h c
    obtain ⟨e0, e1, e2, e3, e4⟩ := hagree c
    rw [e0, e1] at h0
    rw [e0, e1, e2, e3, e4] at h1
    rw [e0, e1, e3] at h2
    rw [e0, e1, e4] at h3
    exact ⟨h0, h1, h2, h3, hk⟩

end Cert.Proof.AdamIn
-- ==== Proof.AdamOut.lean ====
/- What the optimiser's call for the attention output weights leaves in its results. -/
module
public import proofs.«01_k».proof.Proof.Gen.Kernel26Ideal.Value
public import Idealize.ShloMosaic.Lib.Pipeline.ValueKit
public import Idealize.ShloMosaic.Lib.Pointwise
public import proofs.«01_k».proof.Proof.AdamSpec
@[expose] public section
set_option maxRecDepth 16384
noncomputable section
namespace Cert.Kernel26Ideal.Gen
open Idealize.ShloMosaic Idealize.ShloMosaic.TcCoe Idealize.SL.Sem Adam

variable (m : (ℓ : Loc nD τ sig) → Buf (Elt Ideal) ℓ) (c : Dev nD)

/-- The arguments: each layer's gradients on the devices, the weights and the two moments. -/
abbrev P0m : (⟨3, ![8, 192, 1024]⟩ : Shape).Idx → EReal := m ((c.tc : Thread nD τ).loc main_arg0)
abbrev P1m : (⟨3, ![8, 192, 1024]⟩ : Shape).Idx → EReal := m ((c.tc : Thread nD τ).loc main_arg1)
abbrev Wm : (⟨3, ![2, 192, 1024]⟩ : Shape).Idx → EReal := m ((c.tc : Thread nD τ).loc main_arg2)
abbrev Mm : (⟨3, ![2, 192, 1024]⟩ : Shape).Idx → EReal := m ((c.tc : Thread nD τ).loc main_arg3)
abbrev Vm : (⟨3, ![2, 192, 1024]⟩ : Shape).Idx → EReal := m ((c.tc : Thread nD τ).loc main_arg4)
abbrev Pm : Fin 2 → (⟨3, ![8, 192, 1024]⟩ : Shape).Idx → EReal := ![P0m m c, P1m m c]

theorem ltT (t : Fin cfg0.N) : t.val < 4 := by
  have := t.isLt
  have h : cfg0.N = 4 := N_0
  omega

abbrev X0 (t : Fin cfg0.N) : (⟨3, ![8, 96, 1024]⟩ : Shape).Idx → EReal := iblk m c 0 t
abbrev X1 (t : Fin cfg0.N) : (⟨3, ![8, 96, 1024]⟩ : Shape).Idx → EReal := iblk m c 1 t
abbrev X2 (t : Fin cfg0.N) : (⟨3, ![1, 96, 1024]⟩ : Shape).Idx → EReal := iblk m c 2 t
abbrev X3 (t : Fin cfg0.N) : (⟨3, ![1, 96, 1024]⟩ : Shape).Idx → EReal := iblk m c 3 t
abbrev X4 (t : Fin cfg0.N) : (⟨3, ![1, 96, 1024]⟩ : Shape).Idx → EReal := iblk m c 4 t

theorem part_0 : (V m c main_v0 : (⟨3, ![8, 192, 1024]⟩ : Shape).Idx → EReal) = P0m m c := by
  unfold V
  simp only [hostOps0, List.flatten_cons, List.flatten_nil, List.append_nil, List.cons_append, List.nil_append]
  after_results
  rfl

theorem part_1 : (V m c main_v1 : (⟨3, ![8, 192, 1024]⟩ : Shape).Idx → EReal) = P1m m c := by
  unfold V
  simp only [hostOps0, List.flatten_cons, List.flatten_nil, List.append_nil, List.cons_append, List.nil_append]
  after_results
  rfl

/-- The block that the body leaves at a point of layer 0. -/
theorem step_A (t : Fin cfg0.N) (h0 : t.val < 2) (h1 : ¬2 ≤ t.val) : Step (X0 m c t) (X2 m c t) (X3 m c t) (X4 m c t) (outsAt0 m c t.val t.isLt) := by
  intro p k
  rw [outsAt0_A m c t h0 h1]
  dsimp only
  unfold X0 X2 X3 X4
  generalize iblk m c 0 t = x0
  generalize iblk m c 1 t = x1
  generalize iblk m c 2 t = x2
  generalize iblk m c 3 t = x3
  generalize iblk m c 4 t = x4
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8]

/-- The block that the body leaves at a point of layer 1. -/
theorem step_B (t : Fin cfg0.N) (h0 : ¬t.val < 2) (h1 : 2 ≤ t.val) : Step (X1 m c t) (X2 m c t) (X3 m c t) (X4 m c t) (outsAt0 m c t.val t.isLt) := by
  intro p k
  rw [outsAt0_B m c t h0 h1]
  dsimp only
  unfold X1 X2 X3 X4
  generalize iblk m c 0 t = x0
  generalize iblk m c 1 t = x1
  generalize iblk m c 2 t = x2
  generalize iblk m c 3 t = x3
  generalize iblk m c 4 t = x4
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8]

theorem idx_0 (t : Fin cfg0.N) (h : t.val / 2 = 0) : win0_0.index t = ![0, t.val % 2, 0] :=
  (by decide +kernel : ∀ t : Fin grid0.N, t.val / 2 = 0 → win0_0.index t = ![0, t.val % 2, 0]) t h
theorem idx_1 (t : Fin cfg0.N) (h : t.val / 2 = 1) : win0_1.index t = ![0, t.val % 2, 0] :=
  (by decide +kernel : ∀ t : Fin grid0.N, t.val / 2 = 1 → win0_1.index t = ![0, t.val % 2, 0]) t h
theorem idx_2 (t : Fin cfg0.N) : win0_2.index t = ![t.val / 2, t.val % 2, 0] :=
  (by decide +kernel : ∀ t : Fin grid0.N, win0_2.index t = ![t.val / 2, t.val % 2, 0]) t
theorem idx_3 (t : Fin cfg0.N) : win0_3.index t = ![t.val / 2, t.val % 2, 0] :=
  (by decide +kernel : ∀ t : Fin grid0.N, win0_3.index t = ![t.val / 2, t.val % 2, 0]) t
theorem idx_4 (t : Fin cfg0.N) : win0_4.index t = ![t.val / 2, t.val % 2, 0] :=
  (by decide +kernel : ∀ t : Fin grid0.N, win0_4.index t = ![t.val / 2, t.val % 2, 0]) t
theorem idx_5 (t : Fin cfg0.N) : win0_5.index t = ![t.val / 2, t.val % 2, 0] :=
  (by decide +kernel : ∀ t : Fin grid0.N, win0_5.index t = ![t.val / 2, t.val % 2, 0]) t
theorem idx_6 (t : Fin cfg0.N) : win0_6.index t = ![t.val / 2, t.val % 2, 0] :=
  (by decide +kernel : ∀ t : Fin grid0.N, win0_6.index t = ![t.val / 2, t.val % 2, 0]) t
theorem idx_7 (t : Fin cfg0.N) : win0_7.index t = ![t.val / 2, t.val % 2, 0] :=
  (by decide +kernel : ∀ t : Fin grid0.N, win0_7.index t = ![t.val / 2, t.val % 2, 0]) t
theorem idx_8 (t : Fin cfg0.N) : win0_8.index t = ![t.val / 2, t.val % 2, 0] :=
  (by decide +kernel : ∀ t : Fin grid0.N, win0_8.index t = ![t.val / 2, t.val % 2, 0]) t

/-- A point's layer. -/
def lay (t : Fin cfg0.N) : Fin 2 := ⟨t.val / 2, by have := ltT t; omega⟩
/-- A point's row `p` in its layer. -/
def row (t : Fin cfg0.N) (p : Fin 96) : Fin 192 := ⟨96 * (t.val % 2) + p.val, by omega⟩

theorem blk0 (t : Fin cfg0.N) (h : t.val / 2 = 0) (d : Fin 8) (p : Fin 96) (k : Fin 1024) :
    X0 m c t (ix3 d p k) = Pm m c (lay t) (ix3 d (row t p) k) := by
  rw [show lay t = 0 from Fin.ext h]
  show _ = P0m m c _
  unfold row
  blk_ext [X0, iblk, part_0, idx_0 t h]

theorem blk1 (t : Fin cfg0.N) (h : t.val / 2 = 1) (d : Fin 8) (p : Fin 96) (k : Fin 1024) :
    X1 m c t (ix3 d p k) = Pm m c (lay t) (ix3 d (row t p) k) := by
  rw [show lay t = 1 from Fin.ext h]
  show _ = P1m m c _
  unfold row
  blk_ext [X1, iblk, part_1, idx_1 t h]

theorem blk2 (t : Fin cfg0.N) (p : Fin 96) (k : Fin 1024) :
    X2 m c t (ix3 0 p k) = Wm m c (ix3 (lay t) (row t p) k) := by
  unfold row lay
  blk_ext [X2, iblk, V_main_arg2, idx_2 t]

theorem blk3 (t : Fin cfg0.N) (p : Fin 96) (k : Fin 1024) :
    X3 m c t (ix3 0 p k) = Mm m c (ix3 (lay t) (row t p) k) := by
  unfold row lay
  blk_ext [X3, iblk, V_main_arg3, idx_3 t]

theorem blk4 (t : Fin cfg0.N) (p : Fin 96) (k : Fin 1024) :
    X4 m c t (ix3 0 p k) = Vm m c (ix3 (lay t) (row t p) k) := by
  unfold row lay
  blk_ext [X4, iblk, V_main_arg4, idx_4 t]

/-- What a point leaves, of the arguments. -/
theorem outs_at (t : Fin cfg0.N) (p : Fin 96) (k : Fin 1024) :
    Outs (Pm m c) (Wm m c) (Mm m c) (Vm m c) (ix3 (lay t) (row t p) k)
      ((outsAt0 m c t.val t.isLt).1 (ix3 0 p k)) ((outsAt0 m c t.val t.isLt).2.1 (ix3 0 p k)) ((outsAt0 m c t.val t.isLt).2.2.1 (ix3 0 p k)) ((outsAt0 m c t.val t.isLt).2.2.2 (ix3 0 p k)) := by
  have hT := ltT t
  by_cases h0 : t.val / 2 = 0
  · exact (step_A m c t (by omega) (by omega)).outs (blk0 m c t h0) (blk2 m c t) (blk3 m c t) (blk4 m c t) p k
  have h1 : t.val / 2 = 1 := by omega
  exact (step_B m c t (by omega) (by omega)).outs (blk1 m c t h1) (blk2 m c t) (blk3 m c t) (blk4 m c t) p k

theorem arr5 : (dats m 0 c).arrAt 5 cfg0.N = outG (Pm m c) := by
  refine (dats m 0 c).arrAt_eq_of_covers 5 _ (by decide +kernel) fun t hf y => ?_
  have hT := ltT t
  obtain ⟨hy, y0, y1, y2⟩ := blkIdx y
  have e : ((cfg0.win 5).blk t).view.emb y = ix3 (lay t) (row t ⟨(y 1).val, y1⟩) (⟨(y 2).val, y2⟩ : Fin 1024) := by
    unfold lay row
    blk_ext [idx_5 t]
  rw [e]
  blk_simp
  rw [after0_5]
  exact (congrArg (outsAt0 m c t.val t.isLt).1 hy).trans (outs_at m c t _ _).1

theorem arr6 : (dats m 0 c).arrAt 6 cfg0.N = outD (Pm m c) (Wm m c) (Mm m c) (Vm m c) := by
  refine (dats m 0 c).arrAt_eq_of_covers 6 _ (by decide +kernel) fun t hf y => ?_
  have hT := ltT t
  obtain ⟨hy, y0, y1, y2⟩ := blkIdx y
  have e : ((cfg0.win 6).blk t).view.emb y = ix3 (lay t) (row t ⟨(y 1).val, y1⟩) (⟨(y 2).val, y2⟩ : Fin 1024) := by
    unfold lay row
    blk_ext [idx_6 t]
  rw [e]
  blk_simp
  rw [after0_6]
  exact (congrArg (outsAt0 m c t.val t.isLt).2.1 hy).trans (outs_at m c t _ _).2.1

theorem arr7 : (dats m 0 c).arrAt 7 cfg0.N = outM (Pm m c) (Mm m c) := by
  refine (dats m 0 c).arrAt_eq_of_covers 7 _ (by decide +kernel) fun t hf y => ?_
  have hT := ltT t
  obtain ⟨hy, y0, y1, y2⟩ := blkIdx y
  have e : ((cfg0.win 7).blk t).view.emb y = ix3 (lay t) (row t ⟨(y 1).val, y1⟩) (⟨(y 2).val, y2⟩ : Fin 1024) := by
    unfold lay row
    blk_ext [idx_7 t]
  rw [e]
  blk_simp
  rw [after0_7]
  exact (congrArg (outsAt0 m c t.val t.isLt).2.2.1 hy).trans (outs_at m c t _ _).2.2.1

theorem arr8 : (dats m 0 c).arrAt 8 cfg0.N = outV (Pm m c) (Vm m c) := by
  refine (dats m 0 c).arrAt_eq_of_covers 8 _ (by decide +kernel) fun t hf y => ?_
  have hT := ltT t
  obtain ⟨hy, y0, y1, y2⟩ := blkIdx y
  have e : ((cfg0.win 8).blk t).view.emb y = ix3 (lay t) (row t ⟨(y 1).val, y1⟩) (⟨(y 2).val, y2⟩ : Fin 1024) := by
    unfold lay row
    blk_ext [idx_8 t]
  rw [e]
  blk_simp
  rw [after0_8]
  exact (congrArg (outsAt0 m c t.val t.isLt).2.2.2 hy).trans (outs_at m c t _ _).2.2.2

/-- The results, as functions of the arguments. -/
def fG (P0 P1 : (⟨3, ![8, 192, 1024]⟩ : Shape).Idx → EReal) : (⟨3, ![2, 192, 1024]⟩ : Shape).Idx → EReal := outG ![P0, P1]
def fD (P0 P1 : (⟨3, ![8, 192, 1024]⟩ : Shape).Idx → EReal) (W M V : (⟨3, ![2, 192, 1024]⟩ : Shape).Idx → EReal) : (⟨3, ![2, 192, 1024]⟩ : Shape).Idx → EReal := outD ![P0, P1] W M V
def fM (P0 P1 : (⟨3, ![8, 192, 1024]⟩ : Shape).Idx → EReal) (M : (⟨3, ![2, 192, 1024]⟩ : Shape).Idx → EReal) : (⟨3, ![2, 192, 1024]⟩ : Shape).Idx → EReal := outM ![P0, P1] M
def fV (P0 P1 : (⟨3, ![8, 192, 1024]⟩ : Shape).Idx → EReal) (V : (⟨3, ![2, 192, 1024]⟩ : Shape).Idx → EReal) : (⟨3, ![2, 192, 1024]⟩ : Shape).Idx → EReal := outV ![P0, P1] V

end Cert.Kernel26Ideal.Gen
-- ==== Proof.AdamOutClaim.lean ====
/- The optimiser's call for the attention output weights computes the reference. -/
module
public import proofs.«01_k».proof.Defs
public import proofs.«01_k».proof.Proof.AdamOut
public import proofs.«01_k».proof.Proof.Gen.Kernel26Ideal
public import proofs.«01_k».proof.Proof.Gen.Reference26Ideal
public import proofs.«01_k».proof.Proof.Gen.Reference26Ideal.Run
public import proofs.«01_k».proof.Proof.Gen.Reference26Ideal.Read
public import Idealize.ShloMosaic.Lib.Quiescent
public import Idealize.ShloMosaic.Lib.Pointwise
@[expose] public section
set_option maxRecDepth 16384
noncomputable section
namespace Cert.Proof.AdamOut
open Idealize.ShloMosaic Idealize.ShloMosaic.TcCoe Idealize.SL.Sem

open Cert.Reference26Ideal.Read Cert.Kernel26Ideal.Gen Adam

theorem ref_g (x0 x1 : (⟨3, ![8, 192, 1024]⟩ : Shape).Idx → EReal) : val_main_v8 (F := Ideal) x0 x1 = fG x0 x1 := by
  unfold fG
  have e0 : ∀ (n : Fin 192) (k : Fin 1024), val_main_v8 (F := Ideal) x0 x1 (ix3 0 n k) = gat x0 n k := by
    intro n k
    unfold gat
    pointwise [val_main_v0, val_main_v1, val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9]
  have e1 : ∀ (n : Fin 192) (k : Fin 1024), val_main_v8 (F := Ideal) x0 x1 (ix3 1 n k) = gat x1 n k := by
    intro n k
    unfold gat
    pointwise [val_main_v0, val_main_v1, val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9]
  refine ext3 fun l n k => ?_
  match l with
  | 0 => exact e0 n k
  | 1 => exact e1 n k

theorem ref_m (x0 x1 : (⟨3, ![8, 192, 1024]⟩ : Shape).Idx → EReal) (x3 : (⟨3, ![2, 192, 1024]⟩ : Shape).Idx → EReal) : val_main_v13 (F := Ideal) x0 x1 x3 = fM x0 x1 x3 := by
  refine ext3 fun l n k => ?_
  rw [show fM x0 x1 x3 (ix3 l n k) = nm (fG x0 x1 (ix3 l n k)) (x3 (ix3 l n k)) from rfl, ← ref_g]
  unfold nm
  pointwise [val_main_v9, val_main_v10, val_main_v11, val_main_v12, val_main_v13, val_main_cst, val_main_cst_0, val_main_cst_1, val_main_cst_2, val_main_cst_3, val_main_cst_4, val_main_cst_5, val_main_cst_6, val_main_cst_7, val_main_cst_8, val_main_cst_9]

theorem ref_v (x0 x1 : (⟨3, ![8, 192, 1024]⟩ : Shape).Idx → EReal) (x4 : (⟨3, ![2, 192, 1024]⟩ : Shape).Idx → EReal) : val_main_v19 (F := Ideal) x0 x1 x4 = fV x0 x1 x4 := by
  refine ext3 fun l n k => ?_
  rw [show fV x0 x1 x4 (ix3 l n k) = nv (fG x0 x1 (ix3 l n k)) (x4 (ix3 l n k)) from rfl, ← ref_g]
  unfold nv
  pointwise [val_main_v14, val_main_v15, val_main_v16, val_main_v17, val_main_v18, val_main_v19, val_main_cst, val_main_cst_0, val_main_cst_1, val_main_cst_2, val_main_cst_3, val_main_cst_4, val_main_cst_5, val_main_cst_6, val_main_cst_7, val_main_cst_8, val_main_cst_9]

theorem ref_d (x0 x1 : (⟨3, ![8, 192, 1024]⟩ : Shape).Idx → EReal) (x2 x3 x4 : (⟨3, ![2, 192, 1024]⟩ : Shape).Idx → EReal) : val_main_v32 (F := Ideal) x0 x1 x2 x3 x4 = fD x0 x1 x2 x3 x4 := by
  refine ext3 fun l n k => ?_
  rw [show fD x0 x1 x2 x3 x4 (ix3 l n k) = dl (x2 (ix3 l n k)) (fM x0 x1 x3 (ix3 l n k)) (fV x0 x1 x4 (ix3 l n k)) from rfl, ← ref_m, ← ref_v]
  unfold dl
  pointwise [val_main_v20, val_main_v21, val_main_v22, val_main_v23, val_main_v24, val_main_v25, val_main_v26, val_main_v27, val_main_v28, val_main_v29, val_main_v30, val_main_v31, val_main_v32, val_main_cst, val_main_cst_0, val_main_cst_1, val_main_cst_2, val_main_cst_3, val_main_cst_4, val_main_cst_5, val_main_cst_6, val_main_cst_7, val_main_cst_8, val_main_cst_9]

open Cert.Reference26Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v8) = Cert.Kernel26Ideal.Gen.fG (m ((c.tc : Thread _ _).loc main_arg0)) (m ((c.tc : Thread _ _).loc main_arg1))
      ∧ r.2.mem ((c.tc : Thread _ _).loc main_v32) = Cert.Kernel26Ideal.Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4))
      ∧ r.2.mem ((c.tc : Thread _ _).loc main_v13) = Cert.Kernel26Ideal.Gen.fM (m ((c.tc : Thread _ _).loc main_arg0)) (m ((c.tc : Thread _ _).loc main_arg1)) (m ((c.tc : Thread _ _).loc main_arg3))
      ∧ r.2.mem ((c.tc : Thread _ _).loc main_v19) = Cert.Kernel26Ideal.Gen.fV (m ((c.tc : Thread _ _).loc main_arg0)) (m ((c.tc : Thread _ _).loc main_arg1)) (m ((c.tc : Thread _ _).loc main_arg4))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)) :=
  (θ_run defs _ _).mono (fun _ h c =>
    ⟨((h c).1.trans (Read.val_main_v8_eq _ _)).trans (ref_g _ _),
     ((h c).2.1.trans (Read.val_main_v32_eq _ _ _ _ _)).trans (ref_d _ _ _ _ _),
     ((h c).2.2.1.trans (Read.val_main_v13_eq _ _ _)).trans (ref_m _ _ _),
     ((h c).2.2.2.1.trans (Read.val_main_v19_eq _ _ _)).trans (ref_v _ _ _), (h c).2.2.2.2⟩) (Value.run (F := Ideal) m g)

/-- The reference's frame: it declares no semaphore. -/
theorem reference_frame : Cert.quiescent_Reference26Ideal := fun m g _ =>
  (θ_run Cert.Reference26Ideal.defs _ _).mono (fun r h => ⟨fun c => (h c).2.2.2.2, sem_eq_zero_of_no_sems (by decide) r.2⟩) (reference_run m g)

open Cert.Kernel26Ideal in
/-- The kernel's results are the reference's. -/
theorem algebraic : Cert.algebraic_Kernel26Ideal_Reference26Ideal := by
  intro m g m' g' _ hagree
  refine ⟨fun c => Gen.fG (m ((c.tc : Thread _ _).loc main_arg0)) (m ((c.tc : Thread _ _).loc main_arg1)), fun c => Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => Gen.fM (m ((c.tc : Thread _ _).loc main_arg0)) (m ((c.tc : Thread _ _).loc main_arg1)) (m ((c.tc : Thread _ _).loc main_arg3)), fun c => Gen.fV (m ((c.tc : Thread _ _).loc main_arg0)) (m ((c.tc : Thread _ _).loc main_arg1)) (m ((c.tc : Thread _ _).loc main_arg4)), ?_, ?_⟩
  · exact (θ_run defs _ _).mono (fun _ h c => ⟨(h c).1.trans (Gen.arr5 m c), (h c).2.1.trans (Gen.arr6 m c), (h c).2.2.1.trans (Gen.arr7 m c), (h c).2.2.2.1.trans (Gen.arr8 m c), (h c).2.2.2.2⟩) (Value.run_blocks (F := Ideal) m g)
  · refine (θ_run Cert.Reference26Ideal.defs _ _).mono (fun _ h c => ?_) (reference_run m' g')
    obtain ⟨h0, h1, h2, h3, hk⟩ := h c
    obtain ⟨e0, e1, e2, e3, e4⟩ := hagree c
    rw [e0, e1] at h0
    rw [e0, e1, e2, e3, e4] at h1
    rw [e0, e1, e3] at h2
    rw [e0, e1, e4] at h3
    exact ⟨h0, h1, h2, h3, hk⟩

end Cert.Proof.AdamOut
-- ==== Proof.AdamPw1.lean ====
/- What the optimiser's call for the first pointwise weights leaves in its results. -/
module
public import proofs.«01_k».proof.Proof.Gen.Kernel27Ideal.Value
public import Idealize.ShloMosaic.Lib.Pipeline.ValueKit
public import Idealize.ShloMosaic.Lib.Pointwise
public import proofs.«01_k».proof.Proof.AdamSpec
@[expose] public section
set_option maxRecDepth 16384
noncomputable section
namespace Cert.Kernel27Ideal.Gen
open Idealize.ShloMosaic Idealize.ShloMosaic.TcCoe Idealize.SL.Sem Adam

variable (m : (ℓ : Loc nD τ sig) → Buf (Elt Ideal) ℓ) (c : Dev nD)

/-- The arguments: each layer's gradients on the devices, the weights and the two moments. -/
abbrev P0m : (⟨3, ![8, 1024, 256]⟩ : Shape).Idx → EReal := m ((c.tc : Thread nD τ).loc main_arg0)
abbrev P1m : (⟨3, ![8, 1024, 256]⟩ : Shape).Idx → EReal := m ((c.tc : Thread nD τ).loc main_arg1)
abbrev Wm : (⟨3, ![2, 1024, 256]⟩ : Shape).Idx → EReal := m ((c.tc : Thread nD τ).loc main_arg2)
abbrev Mm : (⟨3, ![2, 1024, 256]⟩ : Shape).Idx → EReal := m ((c.tc : Thread nD τ).loc main_arg3)
abbrev Vm : (⟨3, ![2, 1024, 256]⟩ : Shape).Idx → EReal := m ((c.tc : Thread nD τ).loc main_arg4)
abbrev Pm : Fin 2 → (⟨3, ![8, 1024, 256]⟩ : Shape).Idx → EReal := ![P0m m c, P1m m c]

theorem ltT (t : Fin cfg0.N) : t.val < 4 := by
  have := t.isLt
  have h : cfg0.N = 4 := N_0
  omega

abbrev X0 (t : Fin cfg0.N) : (⟨3, ![8, 512, 256]⟩ : Shape).Idx → EReal := iblk m c 0 t
abbrev X1 (t : Fin cfg0.N) : (⟨3, ![8, 512, 256]⟩ : Shape).Idx → EReal := iblk m c 1 t
abbrev X2 (t : Fin cfg0.N) : (⟨3, ![1, 512, 256]⟩ : Shape).Idx → EReal := iblk m c 2 t
abbrev X3 (t : Fin cfg0.N) : (⟨3, ![1, 512, 256]⟩ : Shape).Idx → EReal := iblk m c 3 t
abbrev X4 (t : Fin cfg0.N) : (⟨3, ![1, 512, 256]⟩ : Shape).Idx → EReal := iblk m c 4 t

theorem part_0 : (V m c main_v0 : (⟨3, ![8, 1024, 256]⟩ : Shape).Idx → EReal) = P0m m c := by
  unfold V
  simp only [hostOps0, List.flatten_cons, List.flatten_nil, List.append_nil, List.cons_append, List.nil_append]
  after_results
  rfl

theorem part_1 : (V m c main_v1 : (⟨3, ![8, 1024, 256]⟩ : Shape).Idx → EReal) = P1m m c := by
  unfold V
  simp only [hostOps0, List.flatten_cons, List.flatten_nil, List.append_nil, List.cons_append, List.nil_append]
  after_results
  rfl

/-- The block that the body leaves at a point of layer 0. -/
theorem step_A (t : Fin cfg0.N) (h0 : t.val < 2) (h1 : ¬2 ≤ t.val) : Step (X0 m c t) (X2 m c t) (X3 m c t) (X4 m c t) (outsAt0 m c t.val t.isLt) := by
  intro p k
  rw [outsAt0_A m c t h0 h1]
  dsimp only
  unfold X0 X2 X3 X4
  generalize iblk m c 0 t = x0
  generalize iblk m c 1 t = x1
  generalize iblk m c 2 t = x2
  generalize iblk m c 3 t = x3
  generalize iblk m c 4 t = x4
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8]

/-- The block that the body leaves at a point of layer 1. -/
theorem step_B (t : Fin cfg0.N) (h0 : ¬t.val < 2) (h1 : 2 ≤ t.val) : Step (X1 m c t) (X2 m c t) (X3 m c t) (X4 m c t) (outsAt0 m c t.val t.isLt) := by
  intro p k
  rw [outsAt0_B m c t h0 h1]
  dsimp only
  unfold X1 X2 X3 X4
  generalize iblk m c 0 t = x0
  generalize iblk m c 1 t = x1
  generalize iblk m c 2 t = x2
  generalize iblk m c 3 t = x3
  generalize iblk m c 4 t = x4
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8]

theorem idx_0 (t : Fin cfg0.N) (h : t.val / 2 = 0) : win0_0.index t = ![0, t.val % 2, 0] :=
  (by decide +kernel : ∀ t : Fin grid0.N, t.val / 2 = 0 → win0_0.index t = ![0, t.val % 2, 0]) t h
theorem idx_1 (t : Fin cfg0.N) (h : t.val / 2 = 1) : win0_1.index t = ![0, t.val % 2, 0] :=
  (by decide +kernel : ∀ t : Fin grid0.N, t.val / 2 = 1 → win0_1.index t = ![0, t.val % 2, 0]) t h
theorem idx_2 (t : Fin cfg0.N) : win0_2.index t = ![t.val / 2, t.val % 2, 0] :=
  (by decide +kernel : ∀ t : Fin grid0.N, win0_2.index t = ![t.val / 2, t.val % 2, 0]) t
theorem idx_3 (t : Fin cfg0.N) : win0_3.index t = ![t.val / 2, t.val % 2, 0] :=
  (by decide +kernel : ∀ t : Fin grid0.N, win0_3.index t = ![t.val / 2, t.val % 2, 0]) t
theorem idx_4 (t : Fin cfg0.N) : win0_4.index t = ![t.val / 2, t.val % 2, 0] :=
  (by decide +kernel : ∀ t : Fin grid0.N, win0_4.index t = ![t.val / 2, t.val % 2, 0]) t
theorem idx_5 (t : Fin cfg0.N) : win0_5.index t = ![t.val / 2, t.val % 2, 0] :=
  (by decide +kernel : ∀ t : Fin grid0.N, win0_5.index t = ![t.val / 2, t.val % 2, 0]) t
theorem idx_6 (t : Fin cfg0.N) : win0_6.index t = ![t.val / 2, t.val % 2, 0] :=
  (by decide +kernel : ∀ t : Fin grid0.N, win0_6.index t = ![t.val / 2, t.val % 2, 0]) t
theorem idx_7 (t : Fin cfg0.N) : win0_7.index t = ![t.val / 2, t.val % 2, 0] :=
  (by decide +kernel : ∀ t : Fin grid0.N, win0_7.index t = ![t.val / 2, t.val % 2, 0]) t
theorem idx_8 (t : Fin cfg0.N) : win0_8.index t = ![t.val / 2, t.val % 2, 0] :=
  (by decide +kernel : ∀ t : Fin grid0.N, win0_8.index t = ![t.val / 2, t.val % 2, 0]) t

/-- A point's layer. -/
def lay (t : Fin cfg0.N) : Fin 2 := ⟨t.val / 2, by have := ltT t; omega⟩
/-- A point's row `p` in its layer. -/
def row (t : Fin cfg0.N) (p : Fin 512) : Fin 1024 := ⟨512 * (t.val % 2) + p.val, by omega⟩

theorem blk0 (t : Fin cfg0.N) (h : t.val / 2 = 0) (d : Fin 8) (p : Fin 512) (k : Fin 256) :
    X0 m c t (ix3 d p k) = Pm m c (lay t) (ix3 d (row t p) k) := by
  rw [show lay t = 0 from Fin.ext h]
  show _ = P0m m c _
  unfold row
  blk_ext [X0, iblk, part_0, idx_0 t h]

theorem blk1 (t : Fin cfg0.N) (h : t.val / 2 = 1) (d : Fin 8) (p : Fin 512) (k : Fin 256) :
    X1 m c t (ix3 d p k) = Pm m c (lay t) (ix3 d (row t p) k) := by
  rw [show lay t = 1 from Fin.ext h]
  show _ = P1m m c _
  unfold row
  blk_ext [X1, iblk, part_1, idx_1 t h]

theorem blk2 (t : Fin cfg0.N) (p : Fin 512) (k : Fin 256) :
    X2 m c t (ix3 0 p k) = Wm m c (ix3 (lay t) (row t p) k) := by
  unfold row lay
  blk_ext [X2, iblk, V_main_arg2, idx_2 t]

theorem blk3 (t : Fin cfg0.N) (p : Fin 512) (k : Fin 256) :
    X3 m c t (ix3 0 p k) = Mm m c (ix3 (lay t) (row t p) k) := by
  unfold row lay
  blk_ext [X3, iblk, V_main_arg3, idx_3 t]

theorem blk4 (t : Fin cfg0.N) (p : Fin 512) (k : Fin 256) :
    X4 m c t (ix3 0 p k) = Vm m c (ix3 (lay t) (row t p) k) := by
  unfold row lay
  blk_ext [X4, iblk, V_main_arg4, idx_4 t]

/-- What a point leaves, of the arguments. -/
theorem outs_at (t : Fin cfg0.N) (p : Fin 512) (k : Fin 256) :
    Outs (Pm m c) (Wm m c) (Mm m c) (Vm m c) (ix3 (lay t) (row t p) k)
      ((outsAt0 m c t.val t.isLt).1 (ix3 0 p k)) ((outsAt0 m c t.val t.isLt).2.1 (ix3 0 p k)) ((outsAt0 m c t.val t.isLt).2.2.1 (ix3 0 p k)) ((outsAt0 m c t.val t.isLt).2.2.2 (ix3 0 p k)) := by
  have hT := ltT t
  by_cases h0 : t.val / 2 = 0
  · exact (step_A m c t (by omega) (by omega)).outs (blk0 m c t h0) (blk2 m c t) (blk3 m c t) (blk4 m c t) p k
  have h1 : t.val / 2 = 1 := by omega
  exact (step_B m c t (by omega) (by omega)).outs (blk1 m c t h1) (blk2 m c t) (blk3 m c t) (blk4 m c t) p k

theorem arr5 : (dats m 0 c).arrAt 5 cfg0.N = outG (Pm m c) := by
  refine (dats m 0 c).arrAt_eq_of_covers 5 _ (by decide +kernel) fun t hf y => ?_
  have hT := ltT t
  obtain ⟨hy, y0, y1, y2⟩ := blkIdx y
  have e : ((cfg0.win 5).blk t).view.emb y = ix3 (lay t) (row t ⟨(y 1).val, y1⟩) (⟨(y 2).val, y2⟩ : Fin 256) := by
    unfold lay row
    blk_ext [idx_5 t]
  rw [e]
  blk_simp
  rw [after0_5]
  exact (congrArg (outsAt0 m c t.val t.isLt).1 hy).trans (outs_at m c t _ _).1

theorem arr6 : (dats m 0 c).arrAt 6 cfg0.N = outD (Pm m c) (Wm m c) (Mm m c) (Vm m c) := by
  refine (dats m 0 c).arrAt_eq_of_covers 6 _ (by decide +kernel) fun t hf y => ?_
  have hT := ltT t
  obtain ⟨hy, y0, y1, y2⟩ := blkIdx y
  have e : ((cfg0.win 6).blk t).view.emb y = ix3 (lay t) (row t ⟨(y 1).val, y1⟩) (⟨(y 2).val, y2⟩ : Fin 256) := by
    unfold lay row
    blk_ext [idx_6 t]
  rw [e]
  blk_simp
  rw [after0_6]
  exact (congrArg (outsAt0 m c t.val t.isLt).2.1 hy).trans (outs_at m c t _ _).2.1

theorem arr7 : (dats m 0 c).arrAt 7 cfg0.N = outM (Pm m c) (Mm m c) := by
  refine (dats m 0 c).arrAt_eq_of_covers 7 _ (by decide +kernel) fun t hf y => ?_
  have hT := ltT t
  obtain ⟨hy, y0, y1, y2⟩ := blkIdx y
  have e : ((cfg0.win 7).blk t).view.emb y = ix3 (lay t) (row t ⟨(y 1).val, y1⟩) (⟨(y 2).val, y2⟩ : Fin 256) := by
    unfold lay row
    blk_ext [idx_7 t]
  rw [e]
  blk_simp
  rw [after0_7]
  exact (congrArg (outsAt0 m c t.val t.isLt).2.2.1 hy).trans (outs_at m c t _ _).2.2.1

theorem arr8 : (dats m 0 c).arrAt 8 cfg0.N = outV (Pm m c) (Vm m c) := by
  refine (dats m 0 c).arrAt_eq_of_covers 8 _ (by decide +kernel) fun t hf y => ?_
  have hT := ltT t
  obtain ⟨hy, y0, y1, y2⟩ := blkIdx y
  have e : ((cfg0.win 8).blk t).view.emb y = ix3 (lay t) (row t ⟨(y 1).val, y1⟩) (⟨(y 2).val, y2⟩ : Fin 256) := by
    unfold lay row
    blk_ext [idx_8 t]
  rw [e]
  blk_simp
  rw [after0_8]
  exact (congrArg (outsAt0 m c t.val t.isLt).2.2.2 hy).trans (outs_at m c t _ _).2.2.2

/-- The results, as functions of the arguments. -/
def fG (P0 P1 : (⟨3, ![8, 1024, 256]⟩ : Shape).Idx → EReal) : (⟨3, ![2, 1024, 256]⟩ : Shape).Idx → EReal := outG ![P0, P1]
def fD (P0 P1 : (⟨3, ![8, 1024, 256]⟩ : Shape).Idx → EReal) (W M V : (⟨3, ![2, 1024, 256]⟩ : Shape).Idx → EReal) : (⟨3, ![2, 1024, 256]⟩ : Shape).Idx → EReal := outD ![P0, P1] W M V
def fM (P0 P1 : (⟨3, ![8, 1024, 256]⟩ : Shape).Idx → EReal) (M : (⟨3, ![2, 1024, 256]⟩ : Shape).Idx → EReal) : (⟨3, ![2, 1024, 256]⟩ : Shape).Idx → EReal := outM ![P0, P1] M
def fV (P0 P1 : (⟨3, ![8, 1024, 256]⟩ : Shape).Idx → EReal) (V : (⟨3, ![2, 1024, 256]⟩ : Shape).Idx → EReal) : (⟨3, ![2, 1024, 256]⟩ : Shape).Idx → EReal := outV ![P0, P1] V

end Cert.Kernel27Ideal.Gen
-- ==== Proof.AdamPw1Claim.lean ====
/- The optimiser's call for the first pointwise weights computes the reference. -/
module
public import proofs.«01_k».proof.Defs
public import proofs.«01_k».proof.Proof.AdamPw1
public import proofs.«01_k».proof.Proof.Gen.Kernel27Ideal
public import proofs.«01_k».proof.Proof.Gen.Reference27Ideal
public import proofs.«01_k».proof.Proof.Gen.Reference27Ideal.Run
public import proofs.«01_k».proof.Proof.Gen.Reference27Ideal.Read
public import Idealize.ShloMosaic.Lib.Quiescent
public import Idealize.ShloMosaic.Lib.Pointwise
@[expose] public section
set_option maxRecDepth 16384
noncomputable section
namespace Cert.Proof.AdamPw1
open Idealize.ShloMosaic Idealize.ShloMosaic.TcCoe Idealize.SL.Sem

open Cert.Reference27Ideal.Read Cert.Kernel27Ideal.Gen Adam

theorem ref_g (x0 x1 : (⟨3, ![8, 1024, 256]⟩ : Shape).Idx → EReal) : val_main_v8 (F := Ideal) x0 x1 = fG x0 x1 := by
  unfold fG
  have e0 : ∀ (n : Fin 1024) (k : Fin 256), val_main_v8 (F := Ideal) x0 x1 (ix3 0 n k) = gat x0 n k := by
    intro n k
    unfold gat
    pointwise [val_main_v0, val_main_v1, val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9]
  have e1 : ∀ (n : Fin 1024) (k : Fin 256), val_main_v8 (F := Ideal) x0 x1 (ix3 1 n k) = gat x1 n k := by
    intro n k
    unfold gat
    pointwise [val_main_v0, val_main_v1, val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9]
  refine ext3 fun l n k => ?_
  match l with
  | 0 => exact e0 n k
  | 1 => exact e1 n k

theorem ref_m (x0 x1 : (⟨3, ![8, 1024, 256]⟩ : Shape).Idx → EReal) (x3 : (⟨3, ![2, 1024, 256]⟩ : Shape).Idx → EReal) : val_main_v13 (F := Ideal) x0 x1 x3 = fM x0 x1 x3 := by
  refine ext3 fun l n k => ?_
  rw [show fM x0 x1 x3 (ix3 l n k) = nm (fG x0 x1 (ix3 l n k)) (x3 (ix3 l n k)) from rfl, ← ref_g]
  unfold nm
  pointwise [val_main_v9, val_main_v10, val_main_v11, val_main_v12, val_main_v13, val_main_cst, val_main_cst_0, val_main_cst_1, val_main_cst_2, val_main_cst_3, val_main_cst_4, val_main_cst_5, val_main_cst_6, val_main_cst_7, val_main_cst_8, val_main_cst_9]

theorem ref_v (x0 x1 : (⟨3, ![8, 1024, 256]⟩ : Shape).Idx → EReal) (x4 : (⟨3, ![2, 1024, 256]⟩ : Shape).Idx → EReal) : val_main_v19 (F := Ideal) x0 x1 x4 = fV x0 x1 x4 := by
  refine ext3 fun l n k => ?_
  rw [show fV x0 x1 x4 (ix3 l n k) = nv (fG x0 x1 (ix3 l n k)) (x4 (ix3 l n k)) from rfl, ← ref_g]
  unfold nv
  pointwise [val_main_v14, val_main_v15, val_main_v16, val_main_v17, val_main_v18, val_main_v19, val_main_cst, val_main_cst_0, val_main_cst_1, val_main_cst_2, val_main_cst_3, val_main_cst_4, val_main_cst_5, val_main_cst_6, val_main_cst_7, val_main_cst_8, val_main_cst_9]

theorem ref_d (x0 x1 : (⟨3, ![8, 1024, 256]⟩ : Shape).Idx → EReal) (x2 x3 x4 : (⟨3, ![2, 1024, 256]⟩ : Shape).Idx → EReal) : val_main_v32 (F := Ideal) x0 x1 x2 x3 x4 = fD x0 x1 x2 x3 x4 := by
  refine ext3 fun l n k => ?_
  rw [show fD x0 x1 x2 x3 x4 (ix3 l n k) = dl (x2 (ix3 l n k)) (fM x0 x1 x3 (ix3 l n k)) (fV x0 x1 x4 (ix3 l n k)) from rfl, ← ref_m, ← ref_v]
  unfold dl
  pointwise [val_main_v20, val_main_v21, val_main_v22, val_main_v23, val_main_v24, val_main_v25, val_main_v26, val_main_v27, val_main_v28, val_main_v29, val_main_v30, val_main_v31, val_main_v32, val_main_cst, val_main_cst_0, val_main_cst_1, val_main_cst_2, val_main_cst_3, val_main_cst_4, val_main_cst_5, val_main_cst_6, val_main_cst_7, val_main_cst_8, val_main_cst_9]

open Cert.Reference27Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v8) = Cert.Kernel27Ideal.Gen.fG (m ((c.tc : Thread _ _).loc main_arg0)) (m ((c.tc : Thread _ _).loc main_arg1))
      ∧ r.2.mem ((c.tc : Thread _ _).loc main_v32) = Cert.Kernel27Ideal.Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4))
      ∧ r.2.mem ((c.tc : Thread _ _).loc main_v13) = Cert.Kernel27Ideal.Gen.fM (m ((c.tc : Thread _ _).loc main_arg0)) (m ((c.tc : Thread _ _).loc main_arg1)) (m ((c.tc : Thread _ _).loc main_arg3))
      ∧ r.2.mem ((c.tc : Thread _ _).loc main_v19) = Cert.Kernel27Ideal.Gen.fV (m ((c.tc : Thread _ _).loc main_arg0)) (m ((c.tc : Thread _ _).loc main_arg1)) (m ((c.tc : Thread _ _).loc main_arg4))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)) :=
  (θ_run defs _ _).mono (fun _ h c =>
    ⟨((h c).1.trans (Read.val_main_v8_eq _ _)).trans (ref_g _ _),
     ((h c).2.1.trans (Read.val_main_v32_eq _ _ _ _ _)).trans (ref_d _ _ _ _ _),
     ((h c).2.2.1.trans (Read.val_main_v13_eq _ _ _)).trans (ref_m _ _ _),
     ((h c).2.2.2.1.trans (Read.val_main_v19_eq _ _ _)).trans (ref_v _ _ _), (h c).2.2.2.2⟩) (Value.run (F := Ideal) m g)

/-- The reference's frame: it declares no semaphore. -/
theorem reference_frame : Cert.quiescent_Reference27Ideal := fun m g _ =>
  (θ_run Cert.Reference27Ideal.defs _ _).mono (fun r h => ⟨fun c => (h c).2.2.2.2, sem_eq_zero_of_no_sems (by decide) r.2⟩) (reference_run m g)

open Cert.Kernel27Ideal in
/-- The kernel's results are the reference's. -/
theorem algebraic : Cert.algebraic_Kernel27Ideal_Reference27Ideal := by
  intro m g m' g' _ hagree
  refine ⟨fun c => Gen.fG (m ((c.tc : Thread _ _).loc main_arg0)) (m ((c.tc : Thread _ _).loc main_arg1)), fun c => Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => Gen.fM (m ((c.tc : Thread _ _).loc main_arg0)) (m ((c.tc : Thread _ _).loc main_arg1)) (m ((c.tc : Thread _ _).loc main_arg3)), fun c => Gen.fV (m ((c.tc : Thread _ _).loc main_arg0)) (m ((c.tc : Thread _ _).loc main_arg1)) (m ((c.tc : Thread _ _).loc main_arg4)), ?_, ?_⟩
  · exact (θ_run defs _ _).mono (fun _ h c => ⟨(h c).1.trans (Gen.arr5 m c), (h c).2.1.trans (Gen.arr6 m c), (h c).2.2.1.trans (Gen.arr7 m c), (h c).2.2.2.1.trans (Gen.arr8 m c), (h c).2.2.2.2⟩) (Value.run_blocks (F := Ideal) m g)
  · refine (θ_run Cert.Reference27Ideal.defs _ _).mono (fun _ h c => ?_) (reference_run m' g')
    obtain ⟨h0, h1, h2, h3, hk⟩ := h c
    obtain ⟨e0, e1, e2, e3, e4⟩ := hagree c
    rw [e0, e1] at h0
    rw [e0, e1, e2, e3, e4] at h1
    rw [e0, e1, e3] at h2
    rw [e0, e1, e4] at h3
    exact ⟨h0, h1, h2, h3, hk⟩

end Cert.Proof.AdamPw1
-- ==== Proof.AdamPw2.lean ====
/- What the optimiser's call for the second pointwise weights leaves in its results. -/
module
public import proofs.«01_k».proof.Proof.Gen.Kernel28Ideal.Value
public import Idealize.ShloMosaic.Lib.Pipeline.ValueKit
public import Idealize.ShloMosaic.Lib.Pointwise
public import proofs.«01_k».proof.Proof.AdamSpec
@[expose] public section
set_option maxRecDepth 16384
noncomputable section
namespace Cert.Kernel28Ideal.Gen
open Idealize.ShloMosaic Idealize.ShloMosaic.TcCoe Idealize.SL.Sem Adam

variable (m : (ℓ : Loc nD τ sig) → Buf (Elt Ideal) ℓ) (c : Dev nD)

/-- The arguments: each layer's gradients on the devices, the weights and the two moments. -/
abbrev P0m : (⟨3, ![8, 128, 1024]⟩ : Shape).Idx → EReal := m ((c.tc : Thread nD τ).loc main_arg0)
abbrev P1m : (⟨3, ![8, 128, 1024]⟩ : Shape).Idx → EReal := m ((c.tc : Thread nD τ).loc main_arg1)
abbrev Wm : (⟨3, ![2, 128, 1024]⟩ : Shape).Idx → EReal := m ((c.tc : Thread nD τ).loc main_arg2)
abbrev Mm : (⟨3, ![2, 128, 1024]⟩ : Shape).Idx → EReal := m ((c.tc : Thread nD τ).loc main_arg3)
abbrev Vm : (⟨3, ![2, 128, 1024]⟩ : Shape).Idx → EReal := m ((c.tc : Thread nD τ).loc main_arg4)
abbrev Pm : Fin 2 → (⟨3, ![8, 128, 1024]⟩ : Shape).Idx → EReal := ![P0m m c, P1m m c]

theorem ltT (t : Fin cfg0.N) : t.val < 2 := by
  have := t.isLt
  have h : cfg0.N = 2 := N_0
  omega

abbrev X0 (t : Fin cfg0.N) : (⟨3, ![8, 128, 1024]⟩ : Shape).Idx → EReal := iblk m c 0 t
abbrev X1 (t : Fin cfg0.N) : (⟨3, ![8, 128, 1024]⟩ : Shape).Idx → EReal := iblk m c 1 t
abbrev X2 (t : Fin cfg0.N) : (⟨3, ![1, 128, 1024]⟩ : Shape).Idx → EReal := iblk m c 2 t
abbrev X3 (t : Fin cfg0.N) : (⟨3, ![1, 128, 1024]⟩ : Shape).Idx → EReal := iblk m c 3 t
abbrev X4 (t : Fin cfg0.N) : (⟨3, ![1, 128, 1024]⟩ : Shape).Idx → EReal := iblk m c 4 t

theorem part_0 : (V m c main_v0 : (⟨3, ![8, 128, 1024]⟩ : Shape).Idx → EReal) = P0m m c := by
  unfold V
  simp only [hostOps0, List.flatten_cons, List.flatten_nil, List.append_nil, List.cons_append, List.nil_append]
  after_results
  rfl

theorem part_1 : (V m c main_v1 : (⟨3, ![8, 128, 1024]⟩ : Shape).Idx → EReal) = P1m m c := by
  unfold V
  simp only [hostOps0, List.flatten_cons, List.flatten_nil, List.append_nil, List.cons_append, List.nil_append]
  after_results
  rfl

/-- The block that the body leaves at a point of layer 0. -/
theorem step_A (t : Fin cfg0.N) (h0 : t.val % 2 = 0) (h1 : ¬t.val % 2 = 1) : Step (X0 m c t) (X2 m c t) (X3 m c t) (X4 m c t) (outsAt0 m c t.val t.isLt) := by
  intro p k
  rw [outsAt0_A m c t h0 h1]
  dsimp only
  unfold X0 X2 X3 X4
  generalize iblk m c 0 t = x0
  generalize iblk m c 1 t = x1
  generalize iblk m c 2 t = x2
  generalize iblk m c 3 t = x3
  generalize iblk m c 4 t = x4
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8]

/-- The block that the body leaves at a point of layer 1. -/
theorem step_B (t : Fin cfg0.N) (h0 : ¬t.val % 2 = 0) (h1 : t.val % 2 = 1) : Step (X1 m c t) (X2 m c t) (X3 m c t) (X4 m c t) (outsAt0 m c t.val t.isLt) := by
  intro p k
  rw [outsAt0_B m c t h0 h1]
  dsimp only
  unfold X1 X2 X3 X4
  generalize iblk m c 0 t = x0
  generalize iblk m c 1 t = x1
  generalize iblk m c 2 t = x2
  generalize iblk m c 3 t = x3
  generalize iblk m c 4 t = x4
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8]

theorem idx_0 (t : Fin cfg0.N) (h : t.val / 1 = 0) : win0_0.index t = ![0, t.val % 1, 0] :=
  (by decide +kernel : ∀ t : Fin grid0.N, t.val / 1 = 0 → win0_0.index t = ![0, t.val % 1, 0]) t h
theorem idx_1 (t : Fin cfg0.N) (h : t.val / 1 = 1) : win0_1.index t = ![0, t.val % 1, 0] :=
  (by decide +kernel : ∀ t : Fin grid0.N, t.val / 1 = 1 → win0_1.index t = ![0, t.val % 1, 0]) t h
theorem idx_2 (t : Fin cfg0.N) : win0_2.index t = ![t.val / 1, t.val % 1, 0] :=
  (by decide +kernel : ∀ t : Fin grid0.N, win0_2.index t = ![t.val / 1, t.val % 1, 0]) t
theorem idx_3 (t : Fin cfg0.N) : win0_3.index t = ![t.val / 1, t.val % 1, 0] :=
  (by decide +kernel : ∀ t : Fin grid0.N, win0_3.index t = ![t.val / 1, t.val % 1, 0]) t
theorem idx_4 (t : Fin cfg0.N) : win0_4.index t = ![t.val / 1, t.val % 1, 0] :=
  (by decide +kernel : ∀ t : Fin grid0.N, win0_4.index t = ![t.val / 1, t.val % 1, 0]) t
theorem idx_5 (t : Fin cfg0.N) : win0_5.index t = ![t.val / 1, t.val % 1, 0] :=
  (by decide +kernel : ∀ t : Fin grid0.N, win0_5.index t = ![t.val / 1, t.val % 1, 0]) t
theorem idx_6 (t : Fin cfg0.N) : win0_6.index t = ![t.val / 1, t.val % 1, 0] :=
  (by decide +kernel : ∀ t : Fin grid0.N, win0_6.index t = ![t.val / 1, t.val % 1, 0]) t
theorem idx_7 (t : Fin cfg0.N) : win0_7.index t = ![t.val / 1, t.val % 1, 0] :=
  (by decide +kernel : ∀ t : Fin grid0.N, win0_7.index t = ![t.val / 1, t.val % 1, 0]) t
theorem idx_8 (t : Fin cfg0.N) : win0_8.index t = ![t.val / 1, t.val % 1, 0] :=
  (by decide +kernel : ∀ t : Fin grid0.N, win0_8.index t = ![t.val / 1, t.val % 1, 0]) t

/-- A point's layer. -/
def lay (t : Fin cfg0.N) : Fin 2 := ⟨t.val / 1, by have := ltT t; omega⟩
/-- A point's row `p` in its layer. -/
def row (t : Fin cfg0.N) (p : Fin 128) : Fin 128 := ⟨128 * (t.val % 1) + p.val, by omega⟩

theorem blk0 (t : Fin cfg0.N) (h : t.val / 1 = 0) (d : Fin 8) (p : Fin 128) (k : Fin 1024) :
    X0 m c t (ix3 d p k) = Pm m c (lay t) (ix3 d (row t p) k) := by
  rw [show lay t = 0 from Fin.ext h]
  show _ = P0m m c _
  unfold row
  blk_ext [X0, iblk, part_0, idx_0 t h]

theorem blk1 (t : Fin cfg0.N) (h : t.val / 1 = 1) (d : Fin 8) (p : Fin 128) (k : Fin 1024) :
    X1 m c t (ix3 d p k) = Pm m c (lay t) (ix3 d (row t p) k) := by
  rw [show lay t = 1 from Fin.ext h]
  show _ = P1m m c _
  unfold row
  blk_ext [X1, iblk, part_1, idx_1 t h]

theorem blk2 (t : Fin cfg0.N) (p : Fin 128) (k : Fin 1024) :
    X2 m c t (ix3 0 p k) = Wm m c (ix3 (lay t) (row t p) k) := by
  unfold row lay
  blk_ext [X2, iblk, V_main_arg2, idx_2 t]

theorem blk3 (t : Fin cfg0.N) (p : Fin 128) (k : Fin 1024) :
    X3 m c t (ix3 0 p k) = Mm m c (ix3 (lay t) (row t p) k) := by
  unfold row lay
  blk_ext [X3, iblk, V_main_arg3, idx_3 t]

theorem blk4 (t : Fin cfg0.N) (p : Fin 128) (k : Fin 1024) :
    X4 m c t (ix3 0 p k) = Vm m c (ix3 (lay t) (row t p) k) := by
  unfold row lay
  blk_ext [X4, iblk, V_main_arg4, idx_4 t]

/-- What a point leaves, of the arguments. -/
theorem outs_at (t : Fin cfg0.N) (p : Fin 128) (k : Fin 1024) :
    Outs (Pm m c) (Wm m c) (Mm m c) (Vm m c) (ix3 (lay t) (row t p) k)
      ((outsAt0 m c t.val t.isLt).1 (ix3 0 p k)) ((outsAt0 m c t.val t.isLt).2.1 (ix3 0 p k)) ((outsAt0 m c t.val t.isLt).2.2.1 (ix3 0 p k)) ((outsAt0 m c t.val t.isLt).2.2.2 (ix3 0 p k)) := by
  have hT := ltT t
  by_cases h0 : t.val / 1 = 0
  · exact (step_A m c t (by omega) (by omega)).outs (blk0 m c t h0) (blk2 m c t) (blk3 m c t) (blk4 m c t) p k
  have h1 : t.val / 1 = 1 := by omega
  exact (step_B m c t (by omega) (by omega)).outs (blk1 m c t h1) (blk2 m c t) (blk3 m c t) (blk4 m c t) p k

theorem arr5 : (dats m 0 c).arrAt 5 cfg0.N = outG (Pm m c) := by
  refine (dats m 0 c).arrAt_eq_of_covers 5 _ (by decide +kernel) fun t hf y => ?_
  have hT := ltT t
  obtain ⟨hy, y0, y1, y2⟩ := blkIdx y
  have e : ((cfg0.win 5).blk t).view.emb y = ix3 (lay t) (row t ⟨(y 1).val, y1⟩) (⟨(y 2).val, y2⟩ : Fin 1024) := by
    unfold lay row
    blk_ext [idx_5 t]
  rw [e]
  blk_simp
  rw [after0_5]
  exact (congrArg (outsAt0 m c t.val t.isLt).1 hy).trans (outs_at m c t _ _).1

theorem arr6 : (dats m 0 c).arrAt 6 cfg0.N = outD (Pm m c) (Wm m c) (Mm m c) (Vm m c) := by
  refine (dats m 0 c).arrAt_eq_of_covers 6 _ (by decide +kernel) fun t hf y => ?_
  have hT := ltT t
  obtain ⟨hy, y0, y1, y2⟩ := blkIdx y
  have e : ((cfg0.win 6).blk t).view.emb y = ix3 (lay t) (row t ⟨(y 1).val, y1⟩) (⟨(y 2).val, y2⟩ : Fin 1024) := by
    unfold lay row
    blk_ext [idx_6 t]
  rw [e]
  blk_simp
  rw [after0_6]
  exact (congrArg (outsAt0 m c t.val t.isLt).2.1 hy).trans (outs_at m c t _ _).2.1

theorem arr7 : (dats m 0 c).arrAt 7 cfg0.N = outM (Pm m c) (Mm m c) := by
  refine (dats m 0 c).arrAt_eq_of_covers 7 _ (by decide +kernel) fun t hf y => ?_
  have hT := ltT t
  obtain ⟨hy, y0, y1, y2⟩ := blkIdx y
  have e : ((cfg0.win 7).blk t).view.emb y = ix3 (lay t) (row t ⟨(y 1).val, y1⟩) (⟨(y 2).val, y2⟩ : Fin 1024) := by
    unfold lay row
    blk_ext [idx_7 t]
  rw [e]
  blk_simp
  rw [after0_7]
  exact (congrArg (outsAt0 m c t.val t.isLt).2.2.1 hy).trans (outs_at m c t _ _).2.2.1

theorem arr8 : (dats m 0 c).arrAt 8 cfg0.N = outV (Pm m c) (Vm m c) := by
  refine (dats m 0 c).arrAt_eq_of_covers 8 _ (by decide +kernel) fun t hf y => ?_
  have hT := ltT t
  obtain ⟨hy, y0, y1, y2⟩ := blkIdx y
  have e : ((cfg0.win 8).blk t).view.emb y = ix3 (lay t) (row t ⟨(y 1).val, y1⟩) (⟨(y 2).val, y2⟩ : Fin 1024) := by
    unfold lay row
    blk_ext [idx_8 t]
  rw [e]
  blk_simp
  rw [after0_8]
  exact (congrArg (outsAt0 m c t.val t.isLt).2.2.2 hy).trans (outs_at m c t _ _).2.2.2

/-- The results, as functions of the arguments. -/
def fG (P0 P1 : (⟨3, ![8, 128, 1024]⟩ : Shape).Idx → EReal) : (⟨3, ![2, 128, 1024]⟩ : Shape).Idx → EReal := outG ![P0, P1]
def fD (P0 P1 : (⟨3, ![8, 128, 1024]⟩ : Shape).Idx → EReal) (W M V : (⟨3, ![2, 128, 1024]⟩ : Shape).Idx → EReal) : (⟨3, ![2, 128, 1024]⟩ : Shape).Idx → EReal := outD ![P0, P1] W M V
def fM (P0 P1 : (⟨3, ![8, 128, 1024]⟩ : Shape).Idx → EReal) (M : (⟨3, ![2, 128, 1024]⟩ : Shape).Idx → EReal) : (⟨3, ![2, 128, 1024]⟩ : Shape).Idx → EReal := outM ![P0, P1] M
def fV (P0 P1 : (⟨3, ![8, 128, 1024]⟩ : Shape).Idx → EReal) (V : (⟨3, ![2, 128, 1024]⟩ : Shape).Idx → EReal) : (⟨3, ![2, 128, 1024]⟩ : Shape).Idx → EReal := outV ![P0, P1] V

end Cert.Kernel28Ideal.Gen
-- ==== Proof.AdamPw2Claim.lean ====
/- The optimiser's call for the second pointwise weights computes the reference. -/
module
public import proofs.«01_k».proof.Defs
public import proofs.«01_k».proof.Proof.AdamPw2
public import proofs.«01_k».proof.Proof.Gen.Kernel28Ideal
public import proofs.«01_k».proof.Proof.Gen.Reference28Ideal
public import proofs.«01_k».proof.Proof.Gen.Reference28Ideal.Run
public import proofs.«01_k».proof.Proof.Gen.Reference28Ideal.Read
public import Idealize.ShloMosaic.Lib.Quiescent
public import Idealize.ShloMosaic.Lib.Pointwise
@[expose] public section
set_option maxRecDepth 16384
noncomputable section
namespace Cert.Proof.AdamPw2
open Idealize.ShloMosaic Idealize.ShloMosaic.TcCoe Idealize.SL.Sem

open Cert.Reference28Ideal.Read Cert.Kernel28Ideal.Gen Adam

theorem ref_g (x0 x1 : (⟨3, ![8, 128, 1024]⟩ : Shape).Idx → EReal) : val_main_v8 (F := Ideal) x0 x1 = fG x0 x1 := by
  unfold fG
  have e0 : ∀ (n : Fin 128) (k : Fin 1024), val_main_v8 (F := Ideal) x0 x1 (ix3 0 n k) = gat x0 n k := by
    intro n k
    unfold gat
    pointwise [val_main_v0, val_main_v1, val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9]
  have e1 : ∀ (n : Fin 128) (k : Fin 1024), val_main_v8 (F := Ideal) x0 x1 (ix3 1 n k) = gat x1 n k := by
    intro n k
    unfold gat
    pointwise [val_main_v0, val_main_v1, val_main_v2, val_main_v3, val_main_v4, val_main_v5, val_main_v6, val_main_v7, val_main_v8, val_main_cst, val_main_cst_0, val_main_cst_1, val_main_cst_2, val_main_cst_3, val_main_cst_4, val_main_cst_5, val_main_cst_6, val_main_cst_7, val_main_cst_8, val_main_cst_9]
  refine ext3 fun l n k => ?_
  match l with
  | 0 => exact e0 n k
  | 1 => exact e1 n k

theorem ref_m (x0 x1 : (⟨3, ![8, 128, 1024]⟩ : Shape).Idx → EReal) (x3 : (⟨3, ![2, 128, 1024]⟩ : Shape).Idx → EReal) : val_main_v13 (F := Ideal) x0 x1 x3 = fM x0 x1 x3 := by
  refine ext3 fun l n k => ?_
  rw [show fM x0 x1 x3 (ix3 l n k) = nm (fG x0 x1 (ix3 l n k)) (x3 (ix3 l n k)) from rfl, ← ref_g]
  unfold nm
  pointwise [val_main_v9, val_main_v10, val_main_v11, val_main_v12, val_main_v13, val_main_cst, val_main_cst_0, val_main_cst_1, val_main_cst_2, val_main_cst_3, val_main_cst_4, val_main_cst_5, val_main_cst_6, val_main_cst_7, val_main_cst_8, val_main_cst_9]

theorem ref_v (x0 x1 : (⟨3, ![8, 128, 1024]⟩ : Shape).Idx → EReal) (x4 : (⟨3, ![2, 128, 1024]⟩ : Shape).Idx → EReal) : val_main_v19 (F := Ideal) x0 x1 x4 = fV x0 x1 x4 := by
  refine ext3 fun l n k => ?_
  rw [show fV x0 x1 x4 (ix3 l n k) = nv (fG x0 x1 (ix3 l n k)) (x4 (ix3 l n k)) from rfl, ← ref_g]
  unfold nv
  pointwise [val_main_v14, val_main_v15, val_main_v16, val_main_v17, val_main_v18, val_main_v19, val_main_cst, val_main_cst_0, val_main_cst_1, val_main_cst_2, val_main_cst_3, val_main_cst_4, val_main_cst_5, val_main_cst_6, val_main_cst_7, val_main_cst_8, val_main_cst_9]

theorem ref_d (x0 x1 : (⟨3, ![8, 128, 1024]⟩ : Shape).Idx → EReal) (x2 x3 x4 : (⟨3, ![2, 128, 1024]⟩ : Shape).Idx → EReal) : val_main_v32 (F := Ideal) x0 x1 x2 x3 x4 = fD x0 x1 x2 x3 x4 := by
  refine ext3 fun l n k => ?_
  rw [show fD x0 x1 x2 x3 x4 (ix3 l n k) = dl (x2 (ix3 l n k)) (fM x0 x1 x3 (ix3 l n k)) (fV x0 x1 x4 (ix3 l n k)) from rfl, ← ref_m, ← ref_v]
  unfold dl
  pointwise [val_main_v20, val_main_v21, val_main_v22, val_main_v23, val_main_v24, val_main_v25, val_main_v26, val_main_v27, val_main_v28, val_main_v29, val_main_v30, val_main_v31, val_main_v32, val_main_cst, val_main_cst_0, val_main_cst_1, val_main_cst_2, val_main_cst_3, val_main_cst_4, val_main_cst_5, val_main_cst_6, val_main_cst_7, val_main_cst_8, val_main_cst_9]

open Cert.Reference28Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v8) = Cert.Kernel28Ideal.Gen.fG (m ((c.tc : Thread _ _).loc main_arg0)) (m ((c.tc : Thread _ _).loc main_arg1))
      ∧ r.2.mem ((c.tc : Thread _ _).loc main_v32) = Cert.Kernel28Ideal.Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4))
      ∧ r.2.mem ((c.tc : Thread _ _).loc main_v13) = Cert.Kernel28Ideal.Gen.fM (m ((c.tc : Thread _ _).loc main_arg0)) (m ((c.tc : Thread _ _).loc main_arg1)) (m ((c.tc : Thread _ _).loc main_arg3))
      ∧ r.2.mem ((c.tc : Thread _ _).loc main_v19) = Cert.Kernel28Ideal.Gen.fV (m ((c.tc : Thread _ _).loc main_arg0)) (m ((c.tc : Thread _ _).loc main_arg1)) (m ((c.tc : Thread _ _).loc main_arg4))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)) :=
  (θ_run defs _ _).mono (fun _ h c =>
    ⟨((h c).1.trans (Read.val_main_v8_eq _ _)).trans (ref_g _ _),
     ((h c).2.1.trans (Read.val_main_v32_eq _ _ _ _ _)).trans (ref_d _ _ _ _ _),
     ((h c).2.2.1.trans (Read.val_main_v13_eq _ _ _)).trans (ref_m _ _ _),
     ((h c).2.2.2.1.trans (Read.val_main_v19_eq _ _ _)).trans (ref_v _ _ _), (h c).2.2.2.2⟩) (Value.run (F := Ideal) m g)

/-- The reference's frame: it declares no semaphore. -/
theorem reference_frame : Cert.quiescent_Reference28Ideal := fun m g _ =>
  (θ_run Cert.Reference28Ideal.defs _ _).mono (fun r h => ⟨fun c => (h c).2.2.2.2, sem_eq_zero_of_no_sems (by decide) r.2⟩) (reference_run m g)

open Cert.Kernel28Ideal in
/-- The kernel's results are the reference's. -/
theorem algebraic : Cert.algebraic_Kernel28Ideal_Reference28Ideal := by
  intro m g m' g' _ hagree
  refine ⟨fun c => Gen.fG (m ((c.tc : Thread _ _).loc main_arg0)) (m ((c.tc : Thread _ _).loc main_arg1)), fun c => Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => Gen.fM (m ((c.tc : Thread _ _).loc main_arg0)) (m ((c.tc : Thread _ _).loc main_arg1)) (m ((c.tc : Thread _ _).loc main_arg3)), fun c => Gen.fV (m ((c.tc : Thread _ _).loc main_arg0)) (m ((c.tc : Thread _ _).loc main_arg1)) (m ((c.tc : Thread _ _).loc main_arg4)), ?_, ?_⟩
  · exact (θ_run defs _ _).mono (fun _ h c => ⟨(h c).1.trans (Gen.arr5 m c), (h c).2.1.trans (Gen.arr6 m c), (h c).2.2.1.trans (Gen.arr7 m c), (h c).2.2.2.1.trans (Gen.arr8 m c), (h c).2.2.2.2⟩) (Value.run_blocks (F := Ideal) m g)
  · refine (θ_run Cert.Reference28Ideal.defs _ _).mono (fun _ h c => ?_) (reference_run m' g')
    obtain ⟨h0, h1, h2, h3, hk⟩ := h c
    obtain ⟨e0, e1, e2, e3, e4⟩ := hagree c
    rw [e0, e1] at h0
    rw [e0, e1, e2, e3, e4] at h1
    rw [e0, e1, e3] at h2
    rw [e0, e1, e4] at h3
    exact ⟨h0, h1, h2, h3, hk⟩

end Cert.Proof.AdamPw2
-- ==== Proof.AdamUp.lean ====
/- What the optimiser's call for the perceptrons' first weights leaves in its results. -/
module
public import proofs.«01_k».proof.Proof.Gen.Kernel29Ideal.Value
public import Idealize.ShloMosaic.Lib.Pipeline.ValueKit
public import Idealize.ShloMosaic.Lib.Pointwise
public import proofs.«01_k».proof.Proof.AdamSpec
@[expose] public section
set_option maxRecDepth 16384
noncomputable section
namespace Cert.Kernel29Ideal.Gen
open Idealize.ShloMosaic Idealize.ShloMosaic.TcCoe Idealize.SL.Sem Adam

variable (m : (ℓ : Loc nD τ sig) → Buf (Elt Ideal) ℓ) (c : Dev nD)

/-- The arguments: each layer's gradients on the devices, the weights and the two moments. -/
abbrev P0m : (⟨3, ![8, 1024, 512]⟩ : Shape).Idx → EReal := m ((c.tc : Thread nD τ).loc main_arg0)
abbrev P1m : (⟨3, ![8, 1024, 512]⟩ : Shape).Idx → EReal := m ((c.tc : Thread nD τ).loc main_arg1)
abbrev P2m : (⟨3, ![8, 1024, 512]⟩ : Shape).Idx → EReal := m ((c.tc : Thread nD τ).loc main_arg2)
abbrev P3m : (⟨3, ![8, 1024, 512]⟩ : Shape).Idx → EReal := m ((c.tc : Thread nD τ).loc main_arg3)
abbrev Wm : (⟨3, ![4, 1024, 512]⟩ : Shape).Idx → EReal := m ((c.tc : Thread nD τ).loc main_arg4)
abbrev Mm : (⟨3, ![4, 1024, 512]⟩ : Shape).Idx → EReal := m ((c.tc : Thread nD τ).loc main_arg5)
abbrev Vm : (⟨3, ![4, 1024, 512]⟩ : Shape).Idx → EReal := m ((c.tc : Thread nD τ).loc main_arg6)
abbrev Pm : Fin 4 → (⟨3, ![8, 1024, 512]⟩ : Shape).Idx → EReal := ![P0m m c, P1m m c, P2m m c, P3m m c]

theorem ltT (t : Fin cfg0.N) : t.val < 16 := by
  have := t.isLt
  have h : cfg0.N = 16 := N_0
  omega

abbrev X0 (t : Fin cfg0.N) : (⟨3, ![8, 256, 512]⟩ : Shape).Idx → EReal := iblk m c 0 t
abbrev X1 (t : Fin cfg0.N) : (⟨3, ![8, 256, 512]⟩ : Shape).Idx → EReal := iblk m c 1 t
abbrev X2 (t : Fin cfg0.N) : (⟨3, ![8, 256, 512]⟩ : Shape).Idx → EReal := iblk m c 2 t
abbrev X3 (t : Fin cfg0.N) : (⟨3, ![8, 256, 512]⟩ : Shape).Idx → EReal := iblk m c 3 t
abbrev X4 (t : Fin cfg0.N) : (⟨3, ![1, 256, 512]⟩ : Shape).Idx → EReal := iblk m c 4 t
abbrev X5 (t : Fin cfg0.N) : (⟨3, ![1, 256, 512]⟩ : Shape).Idx → EReal := iblk m c 5 t
abbrev X6 (t : Fin cfg0.N) : (⟨3, ![1, 256, 512]⟩ : Shape).Idx → EReal := iblk m c 6 t

theorem part_0 : (V m c main_v0 : (⟨3, ![8, 1024, 512]⟩ : Shape).Idx → EReal) = P0m m c := by
  unfold V
  simp only [hostOps0, List.flatten_cons, List.flatten_nil, List.append_nil, List.cons_append, List.nil_append]
  after_results
  rfl

theorem part_1 : (V m c main_v1 : (⟨3, ![8, 1024, 512]⟩ : Shape).Idx → EReal) = P1m m c := by
  unfold V
  simp only [hostOps0, List.flatten_cons, List.flatten_nil, List.append_nil, List.cons_append, List.nil_append]
  after_results
  rfl

theorem part_2 : (V m c main_v2 : (⟨3, ![8, 1024, 512]⟩ : Shape).Idx → EReal) = P2m m c := by
  unfold V
  simp only [hostOps0, List.flatten_cons, List.flatten_nil, List.append_nil, List.cons_append, List.nil_append]
  after_results
  rfl

theorem part_3 : (V m c main_v3 : (⟨3, ![8, 1024, 512]⟩ : Shape).Idx → EReal) = P3m m c := by
  unfold V
  simp only [hostOps0, List.flatten_cons, List.flatten_nil, List.append_nil, List.cons_append, List.nil_append]
  after_results
  rfl

/-- The block that the body leaves at a point of layer 0. -/
theorem step_A (t : Fin cfg0.N) (h0 : t.val < 4) (h1 : ¬t.val / 4 % 4 = 1) (h2 : ¬t.val / 4 % 4 = 2) (h3 : ¬12 ≤ t.val) : Step (X0 m c t) (X4 m c t) (X5 m c t) (X6 m c t) (outsAt0 m c t.val t.isLt) := by
  intro p k
  rw [outsAt0_A m c t h0 h1 h2 h3]
  dsimp only
  unfold X0 X4 X5 X6
  generalize iblk m c 0 t = x0
  generalize iblk m c 1 t = x1
  generalize iblk m c 2 t = x2
  generalize iblk m c 3 t = x3
  generalize iblk m c 4 t = x4
  generalize iblk m c 5 t = x5
  generalize iblk m c 6 t = x6
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8, k0_pay9, k0_pay10, k0_pay11, k0_pay12]

/-- The block that the body leaves at a point of layer 1. -/
theorem step_B (t : Fin cfg0.N) (h0 : ¬t.val < 4) (h1 : t.val / 4 % 4 = 1) (h2 : ¬t.val / 4 % 4 = 2) (h3 : ¬12 ≤ t.val) : Step (X1 m c t) (X4 m c t) (X5 m c t) (X6 m c t) (outsAt0 m c t.val t.isLt) := by
  intro p k
  rw [outsAt0_B m c t h0 h1 h2 h3]
  dsimp only
  unfold X1 X4 X5 X6
  generalize iblk m c 0 t = x0
  generalize iblk m c 1 t = x1
  generalize iblk m c 2 t = x2
  generalize iblk m c 3 t = x3
  generalize iblk m c 4 t = x4
  generalize iblk m c 5 t = x5
  generalize iblk m c 6 t = x6
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8, k0_pay9, k0_pay10, k0_pay11, k0_pay12]

/-- The block that the body leaves at a point of layer 2. -/
theorem step_C (t : Fin cfg0.N) (h0 : ¬t.val < 4) (h1 : ¬t.val / 4 % 4 = 1) (h2 : t.val / 4 % 4 = 2) (h3 : ¬12 ≤ t.val) : Step (X2 m c t) (X4 m c t) (X5 m c t) (X6 m c t) (outsAt0 m c t.val t.isLt) := by
  intro p k
  rw [outsAt0_C m c t h0 h1 h2 h3]
  dsimp only
  unfold X2 X4 X5 X6
  generalize iblk m c 0 t = x0
  generalize iblk m c 1 t = x1
  generalize iblk m c 2 t = x2
  generalize iblk m c 3 t = x3
  generalize iblk m c 4 t = x4
  generalize iblk m c 5 t = x5
  generalize iblk m c 6 t = x6
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8, k0_pay9, k0_pay10, k0_pay11, k0_pay12]

/-- The block that the body leaves at a point of layer 3. -/
theorem step_D (t : Fin cfg0.N) (h0 : ¬t.val < 4) (h1 : ¬t.val / 4 % 4 = 1) (h2 : ¬t.val / 4 % 4 = 2) (h3 : 12 ≤ t.val) : Step (X3 m c t) (X4 m c t) (X5 m c t) (X6 m c t) (outsAt0 m c t.val t.isLt) := by
  intro p k
  rw [outsAt0_D m c t h0 h1 h2 h3]
  dsimp only
  unfold X3 X4 X5 X6
  generalize iblk m c 0 t = x0
  generalize iblk m c 1 t = x1
  generalize iblk m c 2 t = x2
  generalize iblk m c 3 t = x3
  generalize iblk m c 4 t = x4
  generalize iblk m c 5 t = x5
  generalize iblk m c 6 t = x6
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8, k0_pay9, k0_pay10, k0_pay11, k0_pay12]

theorem idx_0 (t : Fin cfg0.N) (h : t.val / 4 = 0) : win0_0.index t = ![0, t.val % 4, 0] :=
  (by decide +kernel : ∀ t : Fin grid0.N, t.val / 4 = 0 → win0_0.index t = ![0, t.val % 4, 0]) t h
theorem idx_1 (t : Fin cfg0.N) (h : t.val / 4 = 1) : win0_1.index t = ![0, t.val % 4, 0] :=
  (by decide +kernel : ∀ t : Fin grid0.N, t.val / 4 = 1 → win0_1.index t = ![0, t.val % 4, 0]) t h
theorem idx_2 (t : Fin cfg0.N) (h : t.val / 4 = 2) : win0_2.index t = ![0, t.val % 4, 0] :=
  (by decide +kernel : ∀ t : Fin grid0.N, t.val / 4 = 2 → win0_2.index t = ![0, t.val % 4, 0]) t h
theorem idx_3 (t : Fin cfg0.N) (h : t.val / 4 = 3) : win0_3.index t = ![0, t.val % 4, 0] :=
  (by decide +kernel : ∀ t : Fin grid0.N, t.val / 4 = 3 → win0_3.index t = ![0, t.val % 4, 0]) t h
theorem idx_4 (t : Fin cfg0.N) : win0_4.index t = ![t.val / 4, t.val % 4, 0] :=
  (by decide +kernel : ∀ t : Fin grid0.N, win0_4.index t = ![t.val / 4, t.val % 4, 0]) t
theorem idx_5 (t : Fin cfg0.N) : win0_5.index t = ![t.val / 4, t.val % 4, 0] :=
  (by decide +kernel : ∀ t : Fin grid0.N, win0_5.index t = ![t.val / 4, t.val % 4, 0]) t
theorem idx_6 (t : Fin cfg0.N) : win0_6.index t = ![t.val / 4, t.val % 4, 0] :=
  (by decide +kernel : ∀ t : Fin grid0.N, win0_6.index t = ![t.val / 4, t.val % 4, 0]) t
theorem idx_7 (t : Fin cfg0.N) : win0_7.index t = ![t.val / 4, t.val % 4, 0] :=
  (by decide +kernel : ∀ t : Fin grid0.N, win0_7.index t = ![t.val / 4, t.val % 4, 0]) t
theorem idx_8 (t : Fin cfg0.N) : win0_8.index t = ![t.val / 4, t.val % 4, 0] :=
  (by decide +kernel : ∀ t : Fin grid0.N, win0_8.index t = ![t.val / 4, t.val % 4, 0]) t
theorem idx_9 (t : Fin cfg0.N) : win0_9.index t = ![t.val / 4, t.val % 4, 0] :=
  (by decide +kernel : ∀ t : Fin grid0.N, win0_9.index t = ![t.val / 4, t.val % 4, 0]) t
theorem idx_10 (t : Fin cfg0.N) : win0_10.index t = ![t.val / 4, t.val % 4, 0] :=
  (by decide +kernel : ∀ t : Fin grid0.N, win0_10.index t = ![t.val / 4, t.val % 4, 0]) t

/-- A point's layer. -/
def lay (t : Fin cfg0.N) : Fin 4 := ⟨t.val / 4, by have := ltT t; omega⟩
/-- A point's row `p` in its layer. -/
def row (t : Fin cfg0.N) (p : Fin 256) : Fin 1024 := ⟨256 * (t.val % 4) + p.val, by omega⟩

theorem blk0 (t : Fin cfg0.N) (h : t.val / 4 = 0) (d : Fin 8) (p : Fin 256) (k : Fin 512) :
    X0 m c t (ix3 d p k) = Pm m c (lay t) (ix3 d (row t p) k) := by
  rw [show lay t = 0 from Fin.ext h]
  show _ = P0m m c _
  unfold row
  blk_ext [X0, iblk, part_0, idx_0 t h]

theorem blk1 (t : Fin cfg0.N) (h : t.val / 4 = 1) (d : Fin 8) (p : Fin 256) (k : Fin 512) :
    X1 m c t (ix3 d p k) = Pm m c (lay t) (ix3 d (row t p) k) := by
  rw [show lay t = 1 from Fin.ext h]
  show _ = P1m m c _
  unfold row
  blk_ext [X1, iblk, part_1, idx_1 t h]

theorem blk2 (t : Fin cfg0.N) (h : t.val / 4 = 2) (d : Fin 8) (p : Fin 256) (k : Fin 512) :
    X2 m c t (ix3 d p k) = Pm m c (lay t) (ix3 d (row t p) k) := by
  rw [show lay t = 2 from Fin.ext h]
  show _ = P2m m c _
  unfold row
  blk_ext [X2, iblk, part_2, idx_2 t h]

theorem blk3 (t : Fin cfg0.N) (h : t.val / 4 = 3) (d : Fin 8) (p : Fin 256) (k : Fin 512) :
    X3 m c t (ix3 d p k) = Pm m c (lay t) (ix3 d (row t p) k) := by
  rw [show lay t = 3 from Fin.ext h]
  show _ = P3m m c _
  unfold row
  blk_ext [X3, iblk, part_3, idx_3 t h]

theorem blk4 (t : Fin cfg0.N) (p : Fin 256) (k : Fin 512) :
    X4 m c t (ix3 0 p k) = Wm m c (ix3 (lay t) (row t p) k) := by
  unfold row lay
  blk_ext [X4, iblk, V_main_arg4, idx_4 t]

theorem blk5 (t : Fin cfg0.N) (p : Fin 256) (k : Fin 512) :
    X5 m c t (ix3 0 p k) = Mm m c (ix3 (lay t) (row t p) k) := by
  unfold row lay
  blk_ext [X5, iblk, V_main_arg5, idx_5 t]

theorem blk6 (t : Fin cfg0.N) (p : Fin 256) (k : Fin 512) :
    X6 m c t (ix3 0 p k) = Vm m c (ix3 (lay t) (row t p) k) := by
  unfold row lay
  blk_ext [X6, iblk, V_main_arg6, idx_6 t]

/-- What a point leaves, of the arguments. -/
theorem outs_at (t : Fin cfg0.N) (p : Fin 256) (k : Fin 512) :
    Outs (Pm m c) (Wm m c) (Mm m c) (Vm m c) (ix3 (lay t) (row t p) k)
      ((outsAt0 m c t.val t.isLt).1 (ix3 0 p k)) ((outsAt0 m c t.val t.isLt).2.1 (ix3 0 p k)) ((outsAt0 m c t.val t.isLt).2.2.1 (ix3 0 p k)) ((outsAt0 m c t.val t.isLt).2.2.2 (ix3 0 p k)) := by
  have hT := ltT t
  by_cases h0 : t.val / 4 = 0
  · exact (step_A m c t (by omega) (by omega) (by omega) (by omega)).outs (blk0 m c t h0) (blk4 m c t) (blk5 m c t) (blk6 m c t) p k
  by_cases h1 : t.val / 4 = 1
  · exact (step_B m c t (by omega) (by omega) (by omega) (by omega)).outs (blk1 m c t h1) (blk4 m c t) (blk5 m c t) (blk6 m c t) p k
  by_cases h2 : t.val / 4 = 2
  · exact (step_C m c t (by omega) (by omega) (by omega) (by omega)).outs (blk2 m c t h2) (blk4 m c t) (blk5 m c t) (blk6 m c t) p k
  have h3 : t.val / 4 = 3 := by omega
  exact (step_D m c t (by omega) (by omega) (by omega) (by omega)).outs (blk3 m c t h3) (blk4 m c t) (blk5 m c t) (blk6 m c t) p k

theorem arr7 : (dats m 0 c).arrAt 7 cfg0.N = outG (Pm m c) := by
  refine (dats m 0 c).arrAt_eq_of_covers 7 _ (by decide +kernel) fun t hf y => ?_
  have hT := ltT t
  obtain ⟨hy, y0, y1, y2⟩ := blkIdx y
  have e : ((cfg0.win 7).blk t).view.emb y = ix3 (lay t) (row t ⟨(y 1).val, y1⟩) (⟨(y 2).val, y2⟩ : Fin 512) := by
    unfold lay row
    blk_ext [idx_7 t]
  rw [e]
  blk_simp
  rw [after0_7]
  exact (congrArg (outsAt0 m c t.val t.isLt).1 hy).trans (outs_at m c t _ _).1

theorem arr8 : (dats m 0 c).arrAt 8 cfg0.N = outD (Pm m c) (Wm m c) (Mm m c) (Vm m c) := by
  refine (dats m 0 c).arrAt_eq_of_covers 8 _ (by decide +kernel) fun t hf y => ?_
  have hT := ltT t
  obtain ⟨hy, y0, y1, y2⟩ := blkIdx y
  have e : ((cfg0.win 8).blk t).view.emb y = ix3 (lay t) (row t ⟨(y 1).val, y1⟩) (⟨(y 2).val, y2⟩ : Fin 512) := by
    unfold lay row
    blk_ext [idx_8 t]
  rw [e]
  blk_simp
  rw [after0_8]
  exact (congrArg (outsAt0 m c t.val t.isLt).2.1 hy).trans (outs_at m c t _ _).2.1

theorem arr9 : (dats m 0 c).arrAt 9 cfg0.N = outM (Pm m c) (Mm m c) := by
  refine (dats m 0 c).arrAt_eq_of_covers 9 _ (by decide +kernel) fun t hf y => ?_
  have hT := ltT t
  obtain ⟨hy, y0, y1, y2⟩ := blkIdx y
  have e : ((cfg0.win 9).blk t).view.emb y = ix3 (lay t) (row t ⟨(y 1).val, y1⟩) (⟨(y 2).val, y2⟩ : Fin 512) := by
    unfold lay row
    blk_ext [idx_9 t]
  rw [e]
  blk_simp
  rw [after0_9]
  exact (congrArg (outsAt0 m c t.val t.isLt).2.2.1 hy).trans (outs_at m c t _ _).2.2.1

theorem arr10 : (dats m 0 c).arrAt 10 cfg0.N = outV (Pm m c) (Vm m c) := by
  refine (dats m 0 c).arrAt_eq_of_covers 10 _ (by decide +kernel) fun t hf y => ?_
  have hT := ltT t
  obtain ⟨hy, y0, y1, y2⟩ := blkIdx y
  have e : ((cfg0.win 10).blk t).view.emb y = ix3 (lay t) (row t ⟨(y 1).val, y1⟩) (⟨(y 2).val, y2⟩ : Fin 512) := by
    unfold lay row
    blk_ext [idx_10 t]
  rw [e]
  blk_simp
  rw [after0_10]
  exact (congrArg (outsAt0 m c t.val t.isLt).2.2.2 hy).trans (outs_at m c t _ _).2.2.2

/-- The results, as functions of the arguments. -/
def fG (P0 P1 P2 P3 : (⟨3, ![8, 1024, 512]⟩ : Shape).Idx → EReal) : (⟨3, ![4, 1024, 512]⟩ : Shape).Idx → EReal := outG ![P0, P1, P2, P3]
def fD (P0 P1 P2 P3 : (⟨3, ![8, 1024, 512]⟩ : Shape).Idx → EReal) (W M V : (⟨3, ![4, 1024, 512]⟩ : Shape).Idx → EReal) : (⟨3, ![4, 1024, 512]⟩ : Shape).Idx → EReal := outD ![P0, P1, P2, P3] W M V
def fM (P0 P1 P2 P3 : (⟨3, ![8, 1024, 512]⟩ : Shape).Idx → EReal) (M : (⟨3, ![4, 1024, 512]⟩ : Shape).Idx → EReal) : (⟨3, ![4, 1024, 512]⟩ : Shape).Idx → EReal := outM ![P0, P1, P2, P3] M
def fV (P0 P1 P2 P3 : (⟨3, ![8, 1024, 512]⟩ : Shape).Idx → EReal) (V : (⟨3, ![4, 1024, 512]⟩ : Shape).Idx → EReal) : (⟨3, ![4, 1024, 512]⟩ : Shape).Idx → EReal := outV ![P0, P1, P2, P3] V

end Cert.Kernel29Ideal.Gen
-- ==== Proof.AdamUpClaim.lean ====
/- The optimiser's call for the perceptrons' first weights computes the reference. -/
module
public import proofs.«01_k».proof.Defs
public import proofs.«01_k».proof.Proof.AdamUp
public import proofs.«01_k».proof.Proof.Gen.Kernel29Ideal
public import proofs.«01_k».proof.Proof.Gen.Reference29Ideal
public import proofs.«01_k».proof.Proof.Gen.Reference29Ideal.Run
public import proofs.«01_k».proof.Proof.Gen.Reference29Ideal.Read
public import Idealize.ShloMosaic.Lib.Quiescent
public import Idealize.ShloMosaic.Lib.Pointwise
@[expose] public section
set_option maxRecDepth 16384
noncomputable section
namespace Cert.Proof.AdamUp
open Idealize.ShloMosaic Idealize.ShloMosaic.TcCoe Idealize.SL.Sem

open Cert.Reference29Ideal.Read Cert.Kernel29Ideal.Gen Adam

theorem ref_g (x0 x1 x2 x3 : (⟨3, ![8, 1024, 512]⟩ : Shape).Idx → EReal) : val_main_v16 (F := Ideal) x0 x1 x2 x3 = fG x0 x1 x2 x3 := by
  unfold fG
  have e0 : ∀ (n : Fin 1024) (k : Fin 512), val_main_v16 (F := Ideal) x0 x1 x2 x3 (ix3 0 n k) = gat x0 n k := by
    intro n k
    unfold gat
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11]
  have e1 : ∀ (n : Fin 1024) (k : Fin 512), val_main_v16 (F := Ideal) x0 x1 x2 x3 (ix3 1 n k) = gat x1 n k := by
    intro n k
    unfold gat
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11]
  have e2 : ∀ (n : Fin 1024) (k : Fin 512), val_main_v16 (F := Ideal) x0 x1 x2 x3 (ix3 2 n k) = gat x2 n k := by
    intro n k
    unfold gat
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11]
  have e3 : ∀ (n : Fin 1024) (k : Fin 512), val_main_v16 (F := Ideal) x0 x1 x2 x3 (ix3 3 n k) = gat x3 n k := by
    intro n k
    unfold gat
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11]
  refine ext3 fun l n k => ?_
  match l with
  | 0 => exact e0 n k
  | 1 => exact e1 n k
  | 2 => exact e2 n k
  | 3 => exact e3 n k

theorem ref_m (x0 x1 x2 x3 : (⟨3, ![8, 1024, 512]⟩ : Shape).Idx → EReal) (x5 : (⟨3, ![4, 1024, 512]⟩ : Shape).Idx → EReal) : val_main_v21 (F := Ideal) x0 x1 x2 x3 x5 = fM x0 x1 x2 x3 x5 := by
  refine ext3 fun l n k => ?_
  rw [show fM x0 x1 x2 x3 x5 (ix3 l n k) = nm (fG x0 x1 x2 x3 (ix3 l n k)) (x5 (ix3 l n k)) from rfl, ← ref_g]
  unfold nm
  pointwise [val_main_v17, val_main_v18, val_main_v19, val_main_v20, val_main_v21, val_main_cst, val_main_cst_0, val_main_cst_1, val_main_cst_2, val_main_cst_3, val_main_cst_4, val_main_cst_5, val_main_cst_6, val_main_cst_7, val_main_cst_8, val_main_cst_9, val_main_cst_10, val_main_cst_11]

theorem ref_v (x0 x1 x2 x3 : (⟨3, ![8, 1024, 512]⟩ : Shape).Idx → EReal) (x6 : (⟨3, ![4, 1024, 512]⟩ : Shape).Idx → EReal) : val_main_v27 (F := Ideal) x0 x1 x2 x3 x6 = fV x0 x1 x2 x3 x6 := by
  refine ext3 fun l n k => ?_
  rw [show fV x0 x1 x2 x3 x6 (ix3 l n k) = nv (fG x0 x1 x2 x3 (ix3 l n k)) (x6 (ix3 l n k)) from rfl, ← ref_g]
  unfold nv
  pointwise [val_main_v22, val_main_v23, val_main_v24, val_main_v25, val_main_v26, val_main_v27, val_main_cst, val_main_cst_0, val_main_cst_1, val_main_cst_2, val_main_cst_3, val_main_cst_4, val_main_cst_5, val_main_cst_6, val_main_cst_7, val_main_cst_8, val_main_cst_9, val_main_cst_10, val_main_cst_11]

theorem ref_d (x0 x1 x2 x3 : (⟨3, ![8, 1024, 512]⟩ : Shape).Idx → EReal) (x4 x5 x6 : (⟨3, ![4, 1024, 512]⟩ : Shape).Idx → EReal) : val_main_v40 (F := Ideal) x0 x1 x2 x3 x4 x5 x6 = fD x0 x1 x2 x3 x4 x5 x6 := by
  refine ext3 fun l n k => ?_
  rw [show fD x0 x1 x2 x3 x4 x5 x6 (ix3 l n k) = dl (x4 (ix3 l n k)) (fM x0 x1 x2 x3 x5 (ix3 l n k)) (fV x0 x1 x2 x3 x6 (ix3 l n k)) from rfl, ← ref_m, ← ref_v]
  unfold dl
  pointwise [val_main_v28, val_main_v29, val_main_v30, val_main_v31, val_main_v32, val_main_v33, val_main_v34, val_main_v35, val_main_v36, val_main_v37, val_main_v38, val_main_v39, val_main_v40, val_main_cst, val_main_cst_0, val_main_cst_1, val_main_cst_2, val_main_cst_3, val_main_cst_4, val_main_cst_5, val_main_cst_6, val_main_cst_7, val_main_cst_8, val_main_cst_9, val_main_cst_10, val_main_cst_11]

open Cert.Reference29Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v16) = Cert.Kernel29Ideal.Gen.fG (m ((c.tc : Thread _ _).loc main_arg0)) (m ((c.tc : Thread _ _).loc main_arg1)) (m ((c.tc : Thread _ _).loc main_arg2)) (m ((c.tc : Thread _ _).loc main_arg3))
      ∧ r.2.mem ((c.tc : Thread _ _).loc main_v40) = Cert.Kernel29Ideal.Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6))
      ∧ r.2.mem ((c.tc : Thread _ _).loc main_v21) = Cert.Kernel29Ideal.Gen.fM (m ((c.tc : Thread _ _).loc main_arg0)) (m ((c.tc : Thread _ _).loc main_arg1)) (m ((c.tc : Thread _ _).loc main_arg2)) (m ((c.tc : Thread _ _).loc main_arg3)) (m ((c.tc : Thread _ _).loc main_arg5))
      ∧ r.2.mem ((c.tc : Thread _ _).loc main_v27) = Cert.Kernel29Ideal.Gen.fV (m ((c.tc : Thread _ _).loc main_arg0)) (m ((c.tc : Thread _ _).loc main_arg1)) (m ((c.tc : Thread _ _).loc main_arg2)) (m ((c.tc : Thread _ _).loc main_arg3)) (m ((c.tc : Thread _ _).loc main_arg6))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)
      ∧ r.2.mem ((c.tc : Thread _ _).loc main_arg5) = m ((c.tc : Thread _ _).loc main_arg5)
      ∧ r.2.mem ((c.tc : Thread _ _).loc main_arg6) = m ((c.tc : Thread _ _).loc main_arg6)) :=
  (θ_run defs _ _).mono (fun _ h c =>
    ⟨((h c).1.trans (Read.val_main_v16_eq _ _ _ _)).trans (ref_g _ _ _ _),
     ((h c).2.1.trans (Read.val_main_v40_eq _ _)).trans (ref_d _ _ _ _ _ _ _),
     ((h c).2.2.1.trans (Read.val_main_v21_eq _ _ _ _ _)).trans (ref_m _ _ _ _ _),
     ((h c).2.2.2.1.trans (Read.val_main_v27_eq _ _ _ _ _)).trans (ref_v _ _ _ _ _), (h c).2.2.2.2⟩) (Value.run (F := Ideal) m g)

/-- The reference's frame: it declares no semaphore. -/
theorem reference_frame : Cert.quiescent_Reference29Ideal := fun m g _ =>
  (θ_run Cert.Reference29Ideal.defs _ _).mono (fun r h => ⟨fun c => (h c).2.2.2.2, sem_eq_zero_of_no_sems (by decide) r.2⟩) (reference_run m g)

open Cert.Kernel29Ideal in
/-- The kernel's results are the reference's. -/
theorem algebraic : Cert.algebraic_Kernel29Ideal_Reference29Ideal := by
  intro m g m' g' _ hagree
  refine ⟨fun c => Gen.fG (m ((c.tc : Thread _ _).loc main_arg0)) (m ((c.tc : Thread _ _).loc main_arg1)) (m ((c.tc : Thread _ _).loc main_arg2)) (m ((c.tc : Thread _ _).loc main_arg3)), fun c => Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)), fun c => Gen.fM (m ((c.tc : Thread _ _).loc main_arg0)) (m ((c.tc : Thread _ _).loc main_arg1)) (m ((c.tc : Thread _ _).loc main_arg2)) (m ((c.tc : Thread _ _).loc main_arg3)) (m ((c.tc : Thread _ _).loc main_arg5)), fun c => Gen.fV (m ((c.tc : Thread _ _).loc main_arg0)) (m ((c.tc : Thread _ _).loc main_arg1)) (m ((c.tc : Thread _ _).loc main_arg2)) (m ((c.tc : Thread _ _).loc main_arg3)) (m ((c.tc : Thread _ _).loc main_arg6)), ?_, ?_⟩
  · exact (θ_run defs _ _).mono (fun _ h c => ⟨(h c).1.trans (Gen.arr7 m c), (h c).2.1.trans (Gen.arr8 m c), (h c).2.2.1.trans (Gen.arr9 m c), (h c).2.2.2.1.trans (Gen.arr10 m c), (h c).2.2.2.2⟩) (Value.run_blocks (F := Ideal) m g)
  · refine (θ_run Cert.Reference29Ideal.defs _ _).mono (fun _ h c => ?_) (reference_run m' g')
    obtain ⟨h0, h1, h2, h3, hk⟩ := h c
    obtain ⟨e0, e1, e2, e3, e4, e5, e6⟩ := hagree c
    rw [e0, e1, e2, e3] at h0
    rw [e0, e1, e2, e3, e4, e5, e6] at h1
    rw [e0, e1, e2, e3, e5] at h2
    rw [e0, e1, e2, e3, e6] at h3
    exact ⟨h0, h1, h2, h3, hk⟩

end Cert.Proof.AdamUp
-- ==== Proof.AdamDown.lean ====
/- What the optimiser's call for the perceptrons' second weights leaves in its results. -/
module
public import proofs.«01_k».proof.Proof.Gen.Kernel30Ideal.Value
public import Idealize.ShloMosaic.Lib.Pipeline.ValueKit
public import Idealize.ShloMosaic.Lib.Pointwise
public import proofs.«01_k».proof.Proof.AdamSpec
@[expose] public section
set_option maxRecDepth 16384
noncomputable section
namespace Cert.Kernel30Ideal.Gen
open Idealize.ShloMosaic Idealize.ShloMosaic.TcCoe Idealize.SL.Sem Adam

variable (m : (ℓ : Loc nD τ sig) → Buf (Elt Ideal) ℓ) (c : Dev nD)

/-- The arguments: each layer's gradients on the devices, the weights and the two moments. -/
abbrev P0m : (⟨3, ![8, 512, 1024]⟩ : Shape).Idx → EReal := m ((c.tc : Thread nD τ).loc main_arg0)
abbrev P1m : (⟨3, ![8, 512, 1024]⟩ : Shape).Idx → EReal := m ((c.tc : Thread nD τ).loc main_arg1)
abbrev P2m : (⟨3, ![8, 512, 1024]⟩ : Shape).Idx → EReal := m ((c.tc : Thread nD τ).loc main_arg2)
abbrev P3m : (⟨3, ![8, 512, 1024]⟩ : Shape).Idx → EReal := m ((c.tc : Thread nD τ).loc main_arg3)
abbrev Wm : (⟨3, ![4, 512, 1024]⟩ : Shape).Idx → EReal := m ((c.tc : Thread nD τ).loc main_arg4)
abbrev Mm : (⟨3, ![4, 512, 1024]⟩ : Shape).Idx → EReal := m ((c.tc : Thread nD τ).loc main_arg5)
abbrev Vm : (⟨3, ![4, 512, 1024]⟩ : Shape).Idx → EReal := m ((c.tc : Thread nD τ).loc main_arg6)
abbrev Pm : Fin 4 → (⟨3, ![8, 512, 1024]⟩ : Shape).Idx → EReal := ![P0m m c, P1m m c, P2m m c, P3m m c]

theorem ltT (t : Fin cfg0.N) : t.val < 16 := by
  have := t.isLt
  have h : cfg0.N = 16 := N_0
  omega

abbrev X0 (t : Fin cfg0.N) : (⟨3, ![8, 128, 1024]⟩ : Shape).Idx → EReal := iblk m c 0 t
abbrev X1 (t : Fin cfg0.N) : (⟨3, ![8, 128, 1024]⟩ : Shape).Idx → EReal := iblk m c 1 t
abbrev X2 (t : Fin cfg0.N) : (⟨3, ![8, 128, 1024]⟩ : Shape).Idx → EReal := iblk m c 2 t
abbrev X3 (t : Fin cfg0.N) : (⟨3, ![8, 128, 1024]⟩ : Shape).Idx → EReal := iblk m c 3 t
abbrev X4 (t : Fin cfg0.N) : (⟨3, ![1, 128, 1024]⟩ : Shape).Idx → EReal := iblk m c 4 t
abbrev X5 (t : Fin cfg0.N) : (⟨3, ![1, 128, 1024]⟩ : Shape).Idx → EReal := iblk m c 5 t
abbrev X6 (t : Fin cfg0.N) : (⟨3, ![1, 128, 1024]⟩ : Shape).Idx → EReal := iblk m c 6 t

theorem part_0 : (V m c main_v0 : (⟨3, ![8, 512, 1024]⟩ : Shape).Idx → EReal) = P0m m c := by
  unfold V
  simp only [hostOps0, List.flatten_cons, List.flatten_nil, List.append_nil, List.cons_append, List.nil_append]
  after_results
  rfl

theorem part_1 : (V m c main_v1 : (⟨3, ![8, 512, 1024]⟩ : Shape).Idx → EReal) = P1m m c := by
  unfold V
  simp only [hostOps0, List.flatten_cons, List.flatten_nil, List.append_nil, List.cons_append, List.nil_append]
  after_results
  rfl

theorem part_2 : (V m c main_v2 : (⟨3, ![8, 512, 1024]⟩ : Shape).Idx → EReal) = P2m m c := by
  unfold V
  simp only [hostOps0, List.flatten_cons, List.flatten_nil, List.append_nil, List.cons_append, List.nil_append]
  after_results
  rfl

theorem part_3 : (V m c main_v3 : (⟨3, ![8, 512, 1024]⟩ : Shape).Idx → EReal) = P3m m c := by
  unfold V
  simp only [hostOps0, List.flatten_cons, List.flatten_nil, List.append_nil, List.cons_append, List.nil_append]
  after_results
  rfl

/-- The block that the body leaves at a point of layer 0. -/
theorem step_A (t : Fin cfg0.N) (h0 : t.val < 4) (h1 : ¬t.val / 4 % 4 = 1) (h2 : ¬t.val / 4 % 4 = 2) (h3 : ¬12 ≤ t.val) : Step (X0 m c t) (X4 m c t) (X5 m c t) (X6 m c t) (outsAt0 m c t.val t.isLt) := by
  intro p k
  rw [outsAt0_A m c t h0 h1 h2 h3]
  dsimp only
  unfold X0 X4 X5 X6
  generalize iblk m c 0 t = x0
  generalize iblk m c 1 t = x1
  generalize iblk m c 2 t = x2
  generalize iblk m c 3 t = x3
  generalize iblk m c 4 t = x4
  generalize iblk m c 5 t = x5
  generalize iblk m c 6 t = x6
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8, k0_pay9, k0_pay10, k0_pay11, k0_pay12]

/-- The block that the body leaves at a point of layer 1. -/
theorem step_B (t : Fin cfg0.N) (h0 : ¬t.val < 4) (h1 : t.val / 4 % 4 = 1) (h2 : ¬t.val / 4 % 4 = 2) (h3 : ¬12 ≤ t.val) : Step (X1 m c t) (X4 m c t) (X5 m c t) (X6 m c t) (outsAt0 m c t.val t.isLt) := by
  intro p k
  rw [outsAt0_B m c t h0 h1 h2 h3]
  dsimp only
  unfold X1 X4 X5 X6
  generalize iblk m c 0 t = x0
  generalize iblk m c 1 t = x1
  generalize iblk m c 2 t = x2
  generalize iblk m c 3 t = x3
  generalize iblk m c 4 t = x4
  generalize iblk m c 5 t = x5
  generalize iblk m c 6 t = x6
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8, k0_pay9, k0_pay10, k0_pay11, k0_pay12]

/-- The block that the body leaves at a point of layer 2. -/
theorem step_C (t : Fin cfg0.N) (h0 : ¬t.val < 4) (h1 : ¬t.val / 4 % 4 = 1) (h2 : t.val / 4 % 4 = 2) (h3 : ¬12 ≤ t.val) : Step (X2 m c t) (X4 m c t) (X5 m c t) (X6 m c t) (outsAt0 m c t.val t.isLt) := by
  intro p k
  rw [outsAt0_C m c t h0 h1 h2 h3]
  dsimp only
  unfold X2 X4 X5 X6
  generalize iblk m c 0 t = x0
  generalize iblk m c 1 t = x1
  generalize iblk m c 2 t = x2
  generalize iblk m c 3 t = x3
  generalize iblk m c 4 t = x4
  generalize iblk m c 5 t = x5
  generalize iblk m c 6 t = x6
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8, k0_pay9, k0_pay10, k0_pay11, k0_pay12]

/-- The block that the body leaves at a point of layer 3. -/
theorem step_D (t : Fin cfg0.N) (h0 : ¬t.val < 4) (h1 : ¬t.val / 4 % 4 = 1) (h2 : ¬t.val / 4 % 4 = 2) (h3 : 12 ≤ t.val) : Step (X3 m c t) (X4 m c t) (X5 m c t) (X6 m c t) (outsAt0 m c t.val t.isLt) := by
  intro p k
  rw [outsAt0_D m c t h0 h1 h2 h3]
  dsimp only
  unfold X3 X4 X5 X6
  generalize iblk m c 0 t = x0
  generalize iblk m c 1 t = x1
  generalize iblk m c 2 t = x2
  generalize iblk m c 3 t = x3
  generalize iblk m c 4 t = x4
  generalize iblk m c 5 t = x5
  generalize iblk m c 6 t = x6
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8, k0_pay9, k0_pay10, k0_pay11, k0_pay12]

theorem idx_0 (t : Fin cfg0.N) (h : t.val / 4 = 0) : win0_0.index t = ![0, t.val % 4, 0] :=
  (by decide +kernel : ∀ t : Fin grid0.N, t.val / 4 = 0 → win0_0.index t = ![0, t.val % 4, 0]) t h
theorem idx_1 (t : Fin cfg0.N) (h : t.val / 4 = 1) : win0_1.index t = ![0, t.val % 4, 0] :=
  (by decide +kernel : ∀ t : Fin grid0.N, t.val / 4 = 1 → win0_1.index t = ![0, t.val % 4, 0]) t h
theorem idx_2 (t : Fin cfg0.N) (h : t.val / 4 = 2) : win0_2.index t = ![0, t.val % 4, 0] :=
  (by decide +kernel : ∀ t : Fin grid0.N, t.val / 4 = 2 → win0_2.index t = ![0, t.val % 4, 0]) t h
theorem idx_3 (t : Fin cfg0.N) (h : t.val / 4 = 3) : win0_3.index t = ![0, t.val % 4, 0] :=
  (by decide +kernel : ∀ t : Fin grid0.N, t.val / 4 = 3 → win0_3.index t = ![0, t.val % 4, 0]) t h
theorem idx_4 (t : Fin cfg0.N) : win0_4.index t = ![t.val / 4, t.val % 4, 0] :=
  (by decide +kernel : ∀ t : Fin grid0.N, win0_4.index t = ![t.val / 4, t.val % 4, 0]) t
theorem idx_5 (t : Fin cfg0.N) : win0_5.index t = ![t.val / 4, t.val % 4, 0] :=
  (by decide +kernel : ∀ t : Fin grid0.N, win0_5.index t = ![t.val / 4, t.val % 4, 0]) t
theorem idx_6 (t : Fin cfg0.N) : win0_6.index t = ![t.val / 4, t.val % 4, 0] :=
  (by decide +kernel : ∀ t : Fin grid0.N, win0_6.index t = ![t.val / 4, t.val % 4, 0]) t
theorem idx_7 (t : Fin cfg0.N) : win0_7.index t = ![t.val / 4, t.val % 4, 0] :=
  (by decide +kernel : ∀ t : Fin grid0.N, win0_7.index t = ![t.val / 4, t.val % 4, 0]) t
theorem idx_8 (t : Fin cfg0.N) : win0_8.index t = ![t.val / 4, t.val % 4, 0] :=
  (by decide +kernel : ∀ t : Fin grid0.N, win0_8.index t = ![t.val / 4, t.val % 4, 0]) t
theorem idx_9 (t : Fin cfg0.N) : win0_9.index t = ![t.val / 4, t.val % 4, 0] :=
  (by decide +kernel : ∀ t : Fin grid0.N, win0_9.index t = ![t.val / 4, t.val % 4, 0]) t
theorem idx_10 (t : Fin cfg0.N) : win0_10.index t = ![t.val / 4, t.val % 4, 0] :=
  (by decide +kernel : ∀ t : Fin grid0.N, win0_10.index t = ![t.val / 4, t.val % 4, 0]) t

/-- A point's layer. -/
def lay (t : Fin cfg0.N) : Fin 4 := ⟨t.val / 4, by have := ltT t; omega⟩
/-- A point's row `p` in its layer. -/
def row (t : Fin cfg0.N) (p : Fin 128) : Fin 512 := ⟨128 * (t.val % 4) + p.val, by omega⟩

theorem blk0 (t : Fin cfg0.N) (h : t.val / 4 = 0) (d : Fin 8) (p : Fin 128) (k : Fin 1024) :
    X0 m c t (ix3 d p k) = Pm m c (lay t) (ix3 d (row t p) k) := by
  rw [show lay t = 0 from Fin.ext h]
  show _ = P0m m c _
  unfold row
  blk_ext [X0, iblk, part_0, idx_0 t h]

theorem blk1 (t : Fin cfg0.N) (h : t.val / 4 = 1) (d : Fin 8) (p : Fin 128) (k : Fin 1024) :
    X1 m c t (ix3 d p k) = Pm m c (lay t) (ix3 d (row t p) k) := by
  rw [show lay t = 1 from Fin.ext h]
  show _ = P1m m c _
  unfold row
  blk_ext [X1, iblk, part_1, idx_1 t h]

theorem blk2 (t : Fin cfg0.N) (h : t.val / 4 = 2) (d : Fin 8) (p : Fin 128) (k : Fin 1024) :
    X2 m c t (ix3 d p k) = Pm m c (lay t) (ix3 d (row t p) k) := by
  rw [show lay t = 2 from Fin.ext h]
  show _ = P2m m c _
  unfold row
  blk_ext [X2, iblk, part_2, idx_2 t h]

theorem blk3 (t : Fin cfg0.N) (h : t.val / 4 = 3) (d : Fin 8) (p : Fin 128) (k : Fin 1024) :
    X3 m c t (ix3 d p k) = Pm m c (lay t) (ix3 d (row t p) k) := by
  rw [show lay t = 3 from Fin.ext h]
  show _ = P3m m c _
  unfold row
  blk_ext [X3, iblk, part_3, idx_3 t h]

theorem blk4 (t : Fin cfg0.N) (p : Fin 128) (k : Fin 1024) :
    X4 m c t (ix3 0 p k) = Wm m c (ix3 (lay t) (row t p) k) := by
  unfold row lay
  blk_ext [X4, iblk, V_main_arg4, idx_4 t]

theorem blk5 (t : Fin cfg0.N) (p : Fin 128) (k : Fin 1024) :
    X5 m c t (ix3 0 p k) = Mm m c (ix3 (lay t) (row t p) k) := by
  unfold row lay
  blk_ext [X5, iblk, V_main_arg5, idx_5 t]

theorem blk6 (t : Fin cfg0.N) (p : Fin 128) (k : Fin 1024) :
    X6 m c t (ix3 0 p k) = Vm m c (ix3 (lay t) (row t p) k) := by
  unfold row lay
  blk_ext [X6, iblk, V_main_arg6, idx_6 t]

/-- What a point leaves, of the arguments. -/
theorem outs_at (t : Fin cfg0.N) (p : Fin 128) (k : Fin 1024) :
    Outs (Pm m c) (Wm m c) (Mm m c) (Vm m c) (ix3 (lay t) (row t p) k)
      ((outsAt0 m c t.val t.isLt).1 (ix3 0 p k)) ((outsAt0 m c t.val t.isLt).2.1 (ix3 0 p k)) ((outsAt0 m c t.val t.isLt).2.2.1 (ix3 0 p k)) ((outsAt0 m c t.val t.isLt).2.2.2 (ix3 0 p k)) := by
  have hT := ltT t
  by_cases h0 : t.val / 4 = 0
  · exact (step_A m c t (by omega) (by omega) (by omega) (by omega)).outs (blk0 m c t h0) (blk4 m c t) (blk5 m c t) (blk6 m c t) p k
  by_cases h1 : t.val / 4 = 1
  · exact (step_B m c t (by omega) (by omega) (by omega) (by omega)).outs (blk1 m c t h1) (blk4 m c t) (blk5 m c t) (blk6 m c t) p k
  by_cases h2 : t.val / 4 = 2
  · exact (step_C m c t (by omega) (by omega) (by omega) (by omega)).outs (blk2 m c t h2) (blk4 m c t) (blk5 m c t) (blk6 m c t) p k
  have h3 : t.val / 4 = 3 := by omega
  exact (step_D m c t (by omega) (by omega) (by omega) (by omega)).outs (blk3 m c t h3) (blk4 m c t) (blk5 m c t) (blk6 m c t) p k

theorem arr7 : (dats m 0 c).arrAt 7 cfg0.N = outG (Pm m c) := by
  refine (dats m 0 c).arrAt_eq_of_covers 7 _ (by decide +kernel) fun t hf y => ?_
  have hT := ltT t
  obtain ⟨hy, y0, y1, y2⟩ := blkIdx y
  have e : ((cfg0.win 7).blk t).view.emb y = ix3 (lay t) (row t ⟨(y 1).val, y1⟩) (⟨(y 2).val, y2⟩ : Fin 1024) := by
    unfold lay row
    blk_ext [idx_7 t]
  rw [e]
  blk_simp
  rw [after0_7]
  exact (congrArg (outsAt0 m c t.val t.isLt).1 hy).trans (outs_at m c t _ _).1

theorem arr8 : (dats m 0 c).arrAt 8 cfg0.N = outD (Pm m c) (Wm m c) (Mm m c) (Vm m c) := by
  refine (dats m 0 c).arrAt_eq_of_covers 8 _ (by decide +kernel) fun t hf y => ?_
  have hT := ltT t
  obtain ⟨hy, y0, y1, y2⟩ := blkIdx y
  have e : ((cfg0.win 8).blk t).view.emb y = ix3 (lay t) (row t ⟨(y 1).val, y1⟩) (⟨(y 2).val, y2⟩ : Fin 1024) := by
    unfold lay row
    blk_ext [idx_8 t]
  rw [e]
  blk_simp
  rw [after0_8]
  exact (congrArg (outsAt0 m c t.val t.isLt).2.1 hy).trans (outs_at m c t _ _).2.1

theorem arr9 : (dats m 0 c).arrAt 9 cfg0.N = outM (Pm m c) (Mm m c) := by
  refine (dats m 0 c).arrAt_eq_of_covers 9 _ (by decide +kernel) fun t hf y => ?_
  have hT := ltT t
  obtain ⟨hy, y0, y1, y2⟩ := blkIdx y
  have e : ((cfg0.win 9).blk t).view.emb y = ix3 (lay t) (row t ⟨(y 1).val, y1⟩) (⟨(y 2).val, y2⟩ : Fin 1024) := by
    unfold lay row
    blk_ext [idx_9 t]
  rw [e]
  blk_simp
  rw [after0_9]
  exact (congrArg (outsAt0 m c t.val t.isLt).2.2.1 hy).trans (outs_at m c t _ _).2.2.1

theorem arr10 : (dats m 0 c).arrAt 10 cfg0.N = outV (Pm m c) (Vm m c) := by
  refine (dats m 0 c).arrAt_eq_of_covers 10 _ (by decide +kernel) fun t hf y => ?_
  have hT := ltT t
  obtain ⟨hy, y0, y1, y2⟩ := blkIdx y
  have e : ((cfg0.win 10).blk t).view.emb y = ix3 (lay t) (row t ⟨(y 1).val, y1⟩) (⟨(y 2).val, y2⟩ : Fin 1024) := by
    unfold lay row
    blk_ext [idx_10 t]
  rw [e]
  blk_simp
  rw [after0_10]
  exact (congrArg (outsAt0 m c t.val t.isLt).2.2.2 hy).trans (outs_at m c t _ _).2.2.2

/-- The results, as functions of the arguments. -/
def fG (P0 P1 P2 P3 : (⟨3, ![8, 512, 1024]⟩ : Shape).Idx → EReal) : (⟨3, ![4, 512, 1024]⟩ : Shape).Idx → EReal := outG ![P0, P1, P2, P3]
def fD (P0 P1 P2 P3 : (⟨3, ![8, 512, 1024]⟩ : Shape).Idx → EReal) (W M V : (⟨3, ![4, 512, 1024]⟩ : Shape).Idx → EReal) : (⟨3, ![4, 512, 1024]⟩ : Shape).Idx → EReal := outD ![P0, P1, P2, P3] W M V
def fM (P0 P1 P2 P3 : (⟨3, ![8, 512, 1024]⟩ : Shape).Idx → EReal) (M : (⟨3, ![4, 512, 1024]⟩ : Shape).Idx → EReal) : (⟨3, ![4, 512, 1024]⟩ : Shape).Idx → EReal := outM ![P0, P1, P2, P3] M
def fV (P0 P1 P2 P3 : (⟨3, ![8, 512, 1024]⟩ : Shape).Idx → EReal) (V : (⟨3, ![4, 512, 1024]⟩ : Shape).Idx → EReal) : (⟨3, ![4, 512, 1024]⟩ : Shape).Idx → EReal := outV ![P0, P1, P2, P3] V

end Cert.Kernel30Ideal.Gen
-- ==== Proof.AdamDownClaim.lean ====
/- The optimiser's call for the perceptrons' second weights computes the reference. -/
module
public import proofs.«01_k».proof.Defs
public import proofs.«01_k».proof.Proof.AdamDown
public import proofs.«01_k».proof.Proof.Gen.Kernel30Ideal
public import proofs.«01_k».proof.Proof.Gen.Reference30Ideal
public import proofs.«01_k».proof.Proof.Gen.Reference30Ideal.Run
public import proofs.«01_k».proof.Proof.Gen.Reference30Ideal.Read
public import Idealize.ShloMosaic.Lib.Quiescent
public import Idealize.ShloMosaic.Lib.Pointwise
@[expose] public section
set_option maxRecDepth 16384
noncomputable section
namespace Cert.Proof.AdamDown
open Idealize.ShloMosaic Idealize.ShloMosaic.TcCoe Idealize.SL.Sem

open Cert.Reference30Ideal.Read Cert.Kernel30Ideal.Gen Adam

theorem ref_g (x0 x1 x2 x3 : (⟨3, ![8, 512, 1024]⟩ : Shape).Idx → EReal) : val_main_v16 (F := Ideal) x0 x1 x2 x3 = fG x0 x1 x2 x3 := by
  unfold fG
  have e0 : ∀ (n : Fin 512) (k : Fin 1024), val_main_v16 (F := Ideal) x0 x1 x2 x3 (ix3 0 n k) = gat x0 n k := by
    intro n k
    unfold gat
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11]
  have e1 : ∀ (n : Fin 512) (k : Fin 1024), val_main_v16 (F := Ideal) x0 x1 x2 x3 (ix3 1 n k) = gat x1 n k := by
    intro n k
    unfold gat
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11]
  have e2 : ∀ (n : Fin 512) (k : Fin 1024), val_main_v16 (F := Ideal) x0 x1 x2 x3 (ix3 2 n k) = gat x2 n k := by
    intro n k
    unfold gat
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11]
  have e3 : ∀ (n : Fin 512) (k : Fin 1024), val_main_v16 (F := Ideal) x0 x1 x2 x3 (ix3 3 n k) = gat x3 n k := by
    intro n k
    unfold gat
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1, val_main_cst_2, val_main_cst_3, val_main_cst_4, val_main_cst_5, val_main_cst_6, val_main_cst_7, val_main_cst_8, val_main_cst_9, val_main_cst_10, val_main_cst_11]
  refine ext3 fun l n k => ?_
  match l with
  | 0 => exact e0 n k
  | 1 => exact e1 n k
  | 2 => exact e2 n k
  | 3 => exact e3 n k

theorem ref_m (x0 x1 x2 x3 : (⟨3, ![8, 512, 1024]⟩ : Shape).Idx → EReal) (x5 : (⟨3, ![4, 512, 1024]⟩ : Shape).Idx → EReal) : val_main_v21 (F := Ideal) x0 x1 x2 x3 x5 = fM x0 x1 x2 x3 x5 := by
  refine ext3 fun l n k => ?_
  rw [show fM x0 x1 x2 x3 x5 (ix3 l n k) = nm (fG x0 x1 x2 x3 (ix3 l n k)) (x5 (ix3 l n k)) from rfl, ← ref_g]
  unfold nm
  pointwise [val_main_v17, val_main_v18, val_main_v19, val_main_v20, val_main_v21, val_main_cst, val_main_cst_0, val_main_cst_1, val_main_cst_2, val_main_cst_3, val_main_cst_4, val_main_cst_5, val_main_cst_6, val_main_cst_7, val_main_cst_8, val_main_cst_9, val_main_cst_10, val_main_cst_11]

theorem ref_v (x0 x1 x2 x3 : (⟨3, ![8, 512, 1024]⟩ : Shape).Idx → EReal) (x6 : (⟨3, ![4, 512, 1024]⟩ : Shape).Idx → EReal) : val_main_v27 (F := Ideal) x0 x1 x2 x3 x6 = fV x0 x1 x2 x3 x6 := by
  refine ext3 fun l n k => ?_
  rw [show fV x0 x1 x2 x3 x6 (ix3 l n k) = nv (fG x0 x1 x2 x3 (ix3 l n k)) (x6 (ix3 l n k)) from rfl, ← ref_g]
  unfold nv
  pointwise [val_main_v22, val_main_v23, val_main_v24, val_main_v25, val_main_v26, val_main_v27, val_main_cst, val_main_cst_0, val_main_cst_1, val_main_cst_2, val_main_cst_3, val_main_cst_4, val_main_cst_5, val_main_cst_6, val_main_cst_7, val_main_cst_8, val_main_cst_9, val_main_cst_10, val_main_cst_11]

theorem ref_d (x0 x1 x2 x3 : (⟨3, ![8, 512, 1024]⟩ : Shape).Idx → EReal) (x4 x5 x6 : (⟨3, ![4, 512, 1024]⟩ : Shape).Idx → EReal) : val_main_v40 (F := Ideal) x0 x1 x2 x3 x4 x5 x6 = fD x0 x1 x2 x3 x4 x5 x6 := by
  refine ext3 fun l n k => ?_
  rw [show fD x0 x1 x2 x3 x4 x5 x6 (ix3 l n k) = dl (x4 (ix3 l n k)) (fM x0 x1 x2 x3 x5 (ix3 l n k)) (fV x0 x1 x2 x3 x6 (ix3 l n k)) from rfl, ← ref_m, ← ref_v]
  unfold dl
  pointwise [val_main_v28, val_main_v29, val_main_v30, val_main_v31, val_main_v32, val_main_v33, val_main_v34, val_main_v35, val_main_v36, val_main_v37, val_main_v38, val_main_v39, val_main_v40, val_main_cst, val_main_cst_0, val_main_cst_1, val_main_cst_2, val_main_cst_3, val_main_cst_4, val_main_cst_5, val_main_cst_6, val_main_cst_7, val_main_cst_8, val_main_cst_9, val_main_cst_10, val_main_cst_11]

open Cert.Reference30Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v16) = Cert.Kernel30Ideal.Gen.fG (m ((c.tc : Thread _ _).loc main_arg0)) (m ((c.tc : Thread _ _).loc main_arg1)) (m ((c.tc : Thread _ _).loc main_arg2)) (m ((c.tc : Thread _ _).loc main_arg3))
      ∧ r.2.mem ((c.tc : Thread _ _).loc main_v40) = Cert.Kernel30Ideal.Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6))
      ∧ r.2.mem ((c.tc : Thread _ _).loc main_v21) = Cert.Kernel30Ideal.Gen.fM (m ((c.tc : Thread _ _).loc main_arg0)) (m ((c.tc : Thread _ _).loc main_arg1)) (m ((c.tc : Thread _ _).loc main_arg2)) (m ((c.tc : Thread _ _).loc main_arg3)) (m ((c.tc : Thread _ _).loc main_arg5))
      ∧ r.2.mem ((c.tc : Thread _ _).loc main_v27) = Cert.Kernel30Ideal.Gen.fV (m ((c.tc : Thread _ _).loc main_arg0)) (m ((c.tc : Thread _ _).loc main_arg1)) (m ((c.tc : Thread _ _).loc main_arg2)) (m ((c.tc : Thread _ _).loc main_arg3)) (m ((c.tc : Thread _ _).loc main_arg6))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)
      ∧ r.2.mem ((c.tc : Thread _ _).loc main_arg5) = m ((c.tc : Thread _ _).loc main_arg5)
      ∧ r.2.mem ((c.tc : Thread _ _).loc main_arg6) = m ((c.tc : Thread _ _).loc main_arg6)) :=
  (θ_run defs _ _).mono (fun _ h c =>
    ⟨((h c).1.trans (Read.val_main_v16_eq _ _ _ _)).trans (ref_g _ _ _ _),
     ((h c).2.1.trans (Read.val_main_v40_eq _ _)).trans (ref_d _ _ _ _ _ _ _),
     ((h c).2.2.1.trans (Read.val_main_v21_eq _ _ _ _ _)).trans (ref_m _ _ _ _ _),
     ((h c).2.2.2.1.trans (Read.val_main_v27_eq _ _ _ _ _)).trans (ref_v _ _ _ _ _), (h c).2.2.2.2⟩) (Value.run (F := Ideal) m g)

/-- The reference's frame: it declares no semaphore. -/
theorem reference_frame : Cert.quiescent_Reference30Ideal := fun m g _ =>
  (θ_run Cert.Reference30Ideal.defs _ _).mono (fun r h => ⟨fun c => (h c).2.2.2.2, sem_eq_zero_of_no_sems (by decide) r.2⟩) (reference_run m g)

open Cert.Kernel30Ideal in
/-- The kernel's results are the reference's. -/
theorem algebraic : Cert.algebraic_Kernel30Ideal_Reference30Ideal := by
  intro m g m' g' _ hagree
  refine ⟨fun c => Gen.fG (m ((c.tc : Thread _ _).loc main_arg0)) (m ((c.tc : Thread _ _).loc main_arg1)) (m ((c.tc : Thread _ _).loc main_arg2)) (m ((c.tc : Thread _ _).loc main_arg3)), fun c => Gen.fD (m ((c.tc : Thread _ _).loc main_arg0)) (m ((c.tc : Thread _ _).loc main_arg1)) (m ((c.tc : Thread _ _).loc main_arg2)) (m ((c.tc : Thread _ _).loc main_arg3)) (m ((c.tc : Thread _ _).loc main_arg4)) (m ((c.tc : Thread _ _).loc main_arg5)) (m ((c.tc : Thread _ _).loc main_arg6)), fun c => Gen.fM (m ((c.tc : Thread _ _).loc main_arg0)) (m ((c.tc : Thread _ _).loc main_arg1)) (m ((c.tc : Thread _ _).loc main_arg2)) (m ((c.tc : Thread _ _).loc main_arg3)) (m ((c.tc : Thread _ _).loc main_arg5)), fun c => Gen.fV (m ((c.tc : Thread _ _).loc main_arg0)) (m ((c.tc : Thread _ _).loc main_arg1)) (m ((c.tc : Thread _ _).loc main_arg2)) (m ((c.tc : Thread _ _).loc main_arg3)) (m ((c.tc : Thread _ _).loc main_arg6)), ?_, ?_⟩
  · exact (θ_run defs _ _).mono (fun _ h c => ⟨(h c).1.trans (Gen.arr7 m c), (h c).2.1.trans (Gen.arr8 m c), (h c).2.2.1.trans (Gen.arr9 m c), (h c).2.2.2.1.trans (Gen.arr10 m c), (h c).2.2.2.2⟩) (Value.run_blocks (F := Ideal) m g)
  · refine (θ_run Cert.Reference30Ideal.defs _ _).mono (fun _ h c => ?_) (reference_run m' g')
    obtain ⟨h0, h1, h2, h3, hk⟩ := h c
    obtain ⟨e0, e1, e2, e3, e4, e5, e6⟩ := hagree c
    rw [e0, e1, e2, e3] at h0
    rw [e0, e1, e2, e3, e4, e5, e6] at h1
    rw [e0, e1, e2, e3, e5] at h2
    rw [e0, e1, e2, e3, e6] at h3
    exact ⟨h0, h1, h2, h3, hk⟩

end Cert.Proof.AdamDown
-- ==== Proof.AdamSmall.lean ====
/- What the optimiser's call for the pack of small weights leaves in its results. -/
module
public import proofs.«01_k».proof.Proof.Gen.Kernel31Ideal.Value
public import Idealize.ShloMosaic.Lib.Pipeline.ValueKit
public import Idealize.ShloMosaic.Lib.Pointwise
public import proofs.«01_k».proof.Proof.AdamSpec
@[expose] public section
set_option maxRecDepth 16384
noncomputable section
namespace Cert.Kernel31Ideal.Gen
open Idealize.ShloMosaic Idealize.ShloMosaic.TcCoe Idealize.SL.Sem Adam

variable (m : (ℓ : Loc nD τ sig) → Buf (Elt Ideal) ℓ) (c : Dev nD)

/-- The arguments: each layer's gradients on the devices, the weights and the two moments. -/
abbrev P0m : (⟨3, ![8, 32, 1024]⟩ : Shape).Idx → EReal := m ((c.tc : Thread nD τ).loc main_arg0)
abbrev Wm : (⟨3, ![1, 32, 1024]⟩ : Shape).Idx → EReal := m ((c.tc : Thread nD τ).loc main_arg1)
abbrev Mm : (⟨3, ![1, 32, 1024]⟩ : Shape).Idx → EReal := m ((c.tc : Thread nD τ).loc main_arg2)
abbrev Vm : (⟨3, ![1, 32, 1024]⟩ : Shape).Idx → EReal := m ((c.tc : Thread nD τ).loc main_arg3)
abbrev Pm : Fin 1 → (⟨3, ![8, 32, 1024]⟩ : Shape).Idx → EReal := ![P0m m c]

theorem ltT (t : Fin cfg0.N) : t.val < 1 := by
  have := t.isLt
  have h : cfg0.N = 1 := N_0
  omega

abbrev X0 (t : Fin cfg0.N) : (⟨3, ![8, 32, 1024]⟩ : Shape).Idx → EReal := iblk m c 0 t
abbrev X1 (t : Fin cfg0.N) : (⟨3, ![1, 32, 1024]⟩ : Shape).Idx → EReal := iblk m c 1 t
abbrev X2 (t : Fin cfg0.N) : (⟨3, ![1, 32, 1024]⟩ : Shape).Idx → EReal := iblk m c 2 t
abbrev X3 (t : Fin cfg0.N) : (⟨3, ![1, 32, 1024]⟩ : Shape).Idx → EReal := iblk m c 3 t

/-- The block that the body leaves at a point of layer 0. -/
theorem step_A (t : Fin cfg0.N)  : Step (X0 m c t) (X1 m c t) (X2 m c t) (X3 m c t) (outsAt0 m c t) := by
  intro p k
  unfold outsAt0
  dsimp only
  unfold X0 X1 X2 X3
  generalize iblk m c 0 t = x0
  generalize iblk m c 1 t = x1
  generalize iblk m c 2 t = x2
  generalize iblk m c 3 t = x3
  unfold dl nm nv gat
  simp only [Fin.sum_univ_eight]
  refine ⟨?_, ?_, ?_, ?_⟩ <;>
  · frame_out
    pointwise [k0_pay1, k0_pay2, k0_pay3, k0_pay4, k0_pay5, k0_pay6, k0_pay7, k0_pay8]

theorem idx_0 (t : Fin cfg0.N) : win0_0.index t = ![0, t.val % 1, 0] :=
  (by decide +kernel : ∀ t : Fin grid0.N, win0_0.index t = ![0, t.val % 1, 0]) t
theorem idx_1 (t : Fin cfg0.N) : win0_1.index t = ![t.val / 1, t.val % 1, 0] :=
  (by decide +kernel : ∀ t : Fin grid0.N, win0_1.index t = ![t.val / 1, t.val % 1, 0]) t
theorem idx_2 (t : Fin cfg0.N) : win0_2.index t = ![t.val / 1, t.val % 1, 0] :=
  (by decide +kernel : ∀ t : Fin grid0.N, win0_2.index t = ![t.val / 1, t.val % 1, 0]) t
theorem idx_3 (t : Fin cfg0.N) : win0_3.index t = ![t.val / 1, t.val % 1, 0] :=
  (by decide +kernel : ∀ t : Fin grid0.N, win0_3.index t = ![t.val / 1, t.val % 1, 0]) t
theorem idx_4 (t : Fin cfg0.N) : win0_4.index t = ![t.val / 1, t.val % 1, 0] :=
  (by decide +kernel : ∀ t : Fin grid0.N, win0_4.index t = ![t.val / 1, t.val % 1, 0]) t
theorem idx_5 (t : Fin cfg0.N) : win0_5.index t = ![t.val / 1, t.val % 1, 0] :=
  (by decide +kernel : ∀ t : Fin grid0.N, win0_5.index t = ![t.val / 1, t.val % 1, 0]) t
theorem idx_6 (t : Fin cfg0.N) : win0_6.index t = ![t.val / 1, t.val % 1, 0] :=
  (by decide +kernel : ∀ t : Fin grid0.N, win0_6.index t = ![t.val / 1, t.val % 1, 0]) t
theorem idx_7 (t : Fin cfg0.N) : win0_7.index t = ![t.val / 1, t.val % 1, 0] :=
  (by decide +kernel : ∀ t : Fin grid0.N, win0_7.index t = ![t.val / 1, t.val % 1, 0]) t

/-- A point's layer. -/
def lay (t : Fin cfg0.N) : Fin 1 := ⟨t.val / 1, by have := ltT t; omega⟩
/-- A point's row `p` in its layer. -/
def row (t : Fin cfg0.N) (p : Fin 32) : Fin 32 := ⟨32 * (t.val % 1) + p.val, by omega⟩

theorem blk0 (t : Fin cfg0.N) (d : Fin 8) (p : Fin 32) (k : Fin 1024) :
    X0 m c t (ix3 d p k) = Pm m c (lay t) (ix3 d (row t p) k) := by
  rw [show lay t = 0 from Fin.ext (by show t.val / 1 = 0; have := ltT t; omega)]
  show _ = P0m m c _
  unfold row
  blk_ext [X0, iblk, V_main_arg0, idx_0 t]

theorem blk1 (t : Fin cfg0.N) (p : Fin 32) (k : Fin 1024) :
    X1 m c t (ix3 0 p k) = Wm m c (ix3 (lay t) (row t p) k) := by
  unfold row lay
  blk_ext [X1, iblk, V_main_arg1, idx_1 t]

theorem blk2 (t : Fin cfg0.N) (p : Fin 32) (k : Fin 1024) :
    X2 m c t (ix3 0 p k) = Mm m c (ix3 (lay t) (row t p) k) := by
  unfold row lay
  blk_ext [X2, iblk, V_main_arg2, idx_2 t]

theorem blk3 (t : Fin cfg0.N) (p : Fin 32) (k : Fin 1024) :
    X3 m c t (ix3 0 p k) = Vm m c (ix3 (lay t) (row t p) k) := by
  unfold row lay
  blk_ext [X3, iblk, V_main_arg3, idx_3 t]

/-- What a point leaves, of the arguments. -/
theorem outs_at (t : Fin cfg0.N) (p : Fin 32) (k : Fin 1024) :
    Outs (Pm m c) (Wm m c) (Mm m c) (Vm m c) (ix3 (lay t) (row t p) k)
      ((outsAt0 m c t).1 (ix3 0 p k)) ((outsAt0 m c t).2.1 (ix3 0 p k)) ((outsAt0 m c t).2.2.1 (ix3 0 p k)) ((outsAt0 m c t).2.2.2 (ix3 0 p k)) := by
  have hT := ltT t
  exact (step_A m c t).outs (blk0 m c t) (blk1 m c t) (blk2 m c t) (blk3 m c t) p k

theorem arr4 : (dats m 0 c).arrAt 4 cfg0.N = outG (Pm m c) := by
  refine (dats m 0 c).arrAt_eq_of_covers 4 _ (by decide +kernel) fun t hf y => ?_
  have hT := ltT t
  obtain ⟨hy, y0, y1, y2⟩ := blkIdx y
  have e : ((cfg0.win 4).blk t).view.emb y = ix3 (lay t) (row t ⟨(y 1).val, y1⟩) (⟨(y 2).val, y2⟩ : Fin 1024) := by
    unfold lay row
    blk_ext [idx_4 t]
  rw [e]
  blk_simp
  rw [after0_4]
  exact (congrArg (outsAt0 m c t).1 hy).trans (outs_at m c t _ _).1

theorem arr5 : (dats m 0 c).arrAt 5 cfg0.N = outD (Pm m c) (Wm m c) (Mm m c) (Vm m c) := by
  refine (dats m 0 c).arrAt_eq_of_covers 5 _ (by decide +kernel) fun t hf y => ?_
  have hT := ltT t
  obtain ⟨hy, y0, y1, y2⟩ := blkIdx y
  have e : ((cfg0.win 5).blk t).view.emb y = ix3 (lay t) (row t ⟨(y 1).val, y1⟩) (⟨(y 2).val, y2⟩ : Fin 1024) := by
    unfold lay row
    blk_ext [idx_5 t]
  rw [e]
  blk_simp
  rw [after0_5]
  exact (congrArg (outsAt0 m c t).2.1 hy).trans (outs_at m c t _ _).2.1

theorem arr6 : (dats m 0 c).arrAt 6 cfg0.N = outM (Pm m c) (Mm m c) := by
  refine (dats m 0 c).arrAt_eq_of_covers 6 _ (by decide +kernel) fun t hf y => ?_
  have hT := ltT t
  obtain ⟨hy, y0, y1, y2⟩ := blkIdx y
  have e : ((cfg0.win 6).blk t).view.emb y = ix3 (lay t) (row t ⟨(y 1).val, y1⟩) (⟨(y 2).val, y2⟩ : Fin 1024) := by
    unfold lay row
    blk_ext [idx_6 t]
  rw [e]
  blk_simp
  rw [after0_6]
  exact (congrArg (outsAt0 m c t).2.2.1 hy).trans (outs_at m c t _ _).2.2.1

theorem arr7 : (dats m 0 c).arrAt 7 cfg0.N = outV (Pm m c) (Vm m c) := by
  refine (dats m 0 c).arrAt_eq_of_covers 7 _ (by decide +kernel) fun t hf y => ?_
  have hT := ltT t
  obtain ⟨hy, y0, y1, y2⟩ := blkIdx y
  have e : ((cfg0.win 7).blk t).view.emb y = ix3 (lay t) (row t ⟨(y 1).val, y1⟩) (⟨(y 2).val, y2⟩ : Fin 1024) := by
    unfold lay row
    blk_ext [idx_7 t]
  rw [e]
  blk_simp
  rw [after0_7]
  exact (congrArg (outsAt0 m c t).2.2.2 hy).trans (outs_at m c t _ _).2.2.2

/-- The results, as functions of the arguments. -/
def fG (P0 : (⟨3, ![8, 32, 1024]⟩ : Shape).Idx → EReal) : (⟨3, ![1, 32, 1024]⟩ : Shape).Idx → EReal := outG ![P0]
def fD (P0 : (⟨3, ![8, 32, 1024]⟩ : Shape).Idx → EReal) (W M V : (⟨3, ![1, 32, 1024]⟩ : Shape).Idx → EReal) : (⟨3, ![1, 32, 1024]⟩ : Shape).Idx → EReal := outD ![P0] W M V
def fM (P0 : (⟨3, ![8, 32, 1024]⟩ : Shape).Idx → EReal) (M : (⟨3, ![1, 32, 1024]⟩ : Shape).Idx → EReal) : (⟨3, ![1, 32, 1024]⟩ : Shape).Idx → EReal := outM ![P0] M
def fV (P0 : (⟨3, ![8, 32, 1024]⟩ : Shape).Idx → EReal) (V : (⟨3, ![1, 32, 1024]⟩ : Shape).Idx → EReal) : (⟨3, ![1, 32, 1024]⟩ : Shape).Idx → EReal := outV ![P0] V

end Cert.Kernel31Ideal.Gen
-- ==== Proof.AdamSmallClaim.lean ====
/- The optimiser's call for the pack of small weights computes the reference. -/
module
public import proofs.«01_k».proof.Defs
public import proofs.«01_k».proof.Proof.AdamSmall
public import proofs.«01_k».proof.Proof.Gen.Kernel31Ideal
public import proofs.«01_k».proof.Proof.Gen.Reference31Ideal
public import proofs.«01_k».proof.Proof.Gen.Reference31Ideal.Run
public import proofs.«01_k».proof.Proof.Gen.Reference31Ideal.Read
public import Idealize.ShloMosaic.Lib.Quiescent
public import Idealize.ShloMosaic.Lib.Pointwise
@[expose] public section
set_option maxRecDepth 16384
noncomputable section
namespace Cert.Proof.AdamSmall
open Idealize.ShloMosaic Idealize.ShloMosaic.TcCoe Idealize.SL.Sem

open Cert.Reference31Ideal.Read Cert.Kernel31Ideal.Gen Adam

theorem ref_g (x0 : (⟨3, ![8, 32, 1024]⟩ : Shape).Idx → EReal) : val_main_v1 (F := Ideal) x0 = fG x0 := by
  unfold fG
  have e0 : ∀ (n : Fin 32) (k : Fin 1024), val_main_v1 (F := Ideal) x0 (ix3 0 n k) = gat x0 n k := by
    intro n k
    unfold gat
    pointwise [val_main_v0, val_main_v1, val_main_cst, val_main_cst_0, val_main_cst_1, val_main_cst_2, val_main_cst_3, val_main_cst_4, val_main_cst_5, val_main_cst_6, val_main_cst_7, val_main_cst_8]
  refine ext3 fun l n k => ?_
  match l with
  | 0 => exact e0 n k

theorem ref_m (x0 : (⟨3, ![8, 32, 1024]⟩ : Shape).Idx → EReal) (x2 : (⟨3, ![1, 32, 1024]⟩ : Shape).Idx → EReal) : val_main_v6 (F := Ideal) x0 x2 = fM x0 x2 := by
  refine ext3 fun l n k => ?_
  rw [show fM x0 x2 (ix3 l n k) = nm (fG x0 (ix3 l n k)) (x2 (ix3 l n k)) from rfl, ← ref_g]
  unfold nm
  pointwise [val_main_v2, val_main_v3, val_main_v4, val_main_v5, val_main_v6, val_main_cst, val_main_cst_0, val_main_cst_1, val_main_cst_2, val_main_cst_3, val_main_cst_4, val_main_cst_5, val_main_cst_6, val_main_cst_7, val_main_cst_8]

theorem ref_v (x0 : (⟨3, ![8, 32, 1024]⟩ : Shape).Idx → EReal) (x3 : (⟨3, ![1, 32, 1024]⟩ : Shape).Idx → EReal) : val_main_v12 (F := Ideal) x0 x3 = fV x0 x3 := by
  refine ext3 fun l n k => ?_
  rw [show fV x0 x3 (ix3 l n k) = nv (fG x0 (ix3 l n k)) (x3 (ix3 l n k)) from rfl, ← ref_g]
  unfold nv
  pointwise [val_main_v7, val_main_v8, val_main_v9, val_main_v10, val_main_v11, val_main_v12, val_main_cst, val_main_cst_0, val_main_cst_1, val_main_cst_2, val_main_cst_3, val_main_cst_4, val_main_cst_5, val_main_cst_6, val_main_cst_7, val_main_cst_8]

theorem ref_d (x0 : (⟨3, ![8, 32, 1024]⟩ : Shape).Idx → EReal) (x1 x2 x3 : (⟨3, ![1, 32, 1024]⟩ : Shape).Idx → EReal) : val_main_v25 (F := Ideal) x0 x1 x2 x3 = fD x0 x1 x2 x3 := by
  refine ext3 fun l n k => ?_
  rw [show fD x0 x1 x2 x3 (ix3 l n k) = dl (x1 (ix3 l n k)) (fM x0 x2 (ix3 l n k)) (fV x0 x3 (ix3 l n k)) from rfl, ← ref_m, ← ref_v]
  unfold dl
  pointwise [val_main_v13, val_main_v14, val_main_v15, val_main_v16, val_main_v17, val_main_v18, val_main_v19, val_main_v20, val_main_v21, val_main_v22, val_main_v23, val_main_v24, val_main_v25, val_main_cst, val_main_cst_0, val_main_cst_1, val_main_cst_2, val_main_cst_3, val_main_cst_4, val_main_cst_5, val_main_cst_6, val_main_cst_7, val_main_cst_8]

open Cert.Reference31Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v1) = Cert.Kernel31Ideal.Gen.fG (m ((c.tc : Thread _ _).loc main_arg0))
      ∧ r.2.mem ((c.tc : Thread _ _).loc main_v25) = Cert.Kernel31Ideal.Gen.fD (m ((c.tc : Thread _ _).loc main_arg0)) (m ((c.tc : Thread _ _).loc main_arg1)) (m ((c.tc : Thread _ _).loc main_arg2)) (m ((c.tc : Thread _ _).loc main_arg3))
      ∧ r.2.mem ((c.tc : Thread _ _).loc main_v6) = Cert.Kernel31Ideal.Gen.fM (m ((c.tc : Thread _ _).loc main_arg0)) (m ((c.tc : Thread _ _).loc main_arg2))
      ∧ r.2.mem ((c.tc : Thread _ _).loc main_v12) = Cert.Kernel31Ideal.Gen.fV (m ((c.tc : Thread _ _).loc main_arg0)) (m ((c.tc : Thread _ _).loc main_arg3))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)) :=
  (θ_run defs _ _).mono (fun _ h c =>
    ⟨((h c).1.trans (Read.val_main_v1_eq _)).trans (ref_g _),
     ((h c).2.1.trans (Read.val_main_v25_eq _ _ _ _)).trans (ref_d _ _ _ _),
     ((h c).2.2.1.trans (Read.val_main_v6_eq _ _)).trans (ref_m _ _),
     ((h c).2.2.2.1.trans (Read.val_main_v12_eq _ _)).trans (ref_v _ _), (h c).2.2.2.2⟩) (Value.run (F := Ideal) m g)

/-- The reference's frame: it declares no semaphore. -/
theorem reference_frame : Cert.quiescent_Reference31Ideal := fun m g _ =>
  (θ_run Cert.Reference31Ideal.defs _ _).mono (fun r h => ⟨fun c => (h c).2.2.2.2, sem_eq_zero_of_no_sems (by decide) r.2⟩) (reference_run m g)

open Cert.Kernel31Ideal in
/-- The kernel's results are the reference's. -/
theorem algebraic : Cert.algebraic_Kernel31Ideal_Reference31Ideal := by
  intro m g m' g' _ hagree
  refine ⟨fun c => Gen.fG (m ((c.tc : Thread _ _).loc main_arg0)), fun c => Gen.fD (m ((c.tc : Thread _ _).loc main_arg0)) (m ((c.tc : Thread _ _).loc main_arg1)) (m ((c.tc : Thread _ _).loc main_arg2)) (m ((c.tc : Thread _ _).loc main_arg3)), fun c => Gen.fM (m ((c.tc : Thread _ _).loc main_arg0)) (m ((c.tc : Thread _ _).loc main_arg2)), fun c => Gen.fV (m ((c.tc : Thread _ _).loc main_arg0)) (m ((c.tc : Thread _ _).loc main_arg3)), ?_, ?_⟩
  · exact (θ_run defs _ _).mono (fun _ h c => ⟨(h c).1.trans (Gen.arr4 m c), (h c).2.1.trans (Gen.arr5 m c), (h c).2.2.1.trans (Gen.arr6 m c), (h c).2.2.2.1.trans (Gen.arr7 m c), (h c).2.2.2.2⟩) (Value.run_blocks (F := Ideal) m g)
  · refine (θ_run Cert.Reference31Ideal.defs _ _).mono (fun _ h c => ?_) (reference_run m' g')
    obtain ⟨h0, h1, h2, h3, hk⟩ := h c
    obtain ⟨e0, e1, e2, e3⟩ := hagree c
    rw [e0] at h0
    rw [e0, e1, e2, e3] at h1
    rw [e0, e2] at h2
    rw [e0, e3] at h3
    exact ⟨h0, h1, h2, h3, hk⟩

end Cert.Proof.AdamSmall
-- ==== Proof.ProjSpec.lean ====
/- Plain words for the products of the projections: a product, a product added to rows past the padding. -/
module
public import Idealize.ShloMosaic.Lib.Pointwise
public import Idealize.ShloMosaic.Lib.WordCmp
@[expose] public section
noncomputable section
namespace Mlp
open Idealize.ShloMosaic Idealize.ShloMosaic.WordCmp

/-- The mask of the rows at or after the padding, inside block `t` of 640 rows. -/
theorem mask_row (t n : ℕ) (ht : t < 13) (hn : n < 640) :
    IntOp.cmpi .sge (IntOp.addi (Scalar.muli (BitVec.ofNat 32 t) 640#32) (BitVec.ofNat 32 n)) 112#32 = BitVec.ofBool (decide (112 ≤ 640 * t + n)) := by
  have e : IntOp.addi (Scalar.muli (BitVec.ofNat 32 t) 640#32) (BitVec.ofNat 32 n) = BitVec.ofNat 32 (640 * t + n) := by
    apply BitVec.eq_of_toNat_eq
    simp only [IntOp.addi, Scalar.muli, IntOp.muli, BitVec.toNat_add, BitVec.toNat_mul, BitVec.toNat_ofNat]
    omega
  rw [e]
  exact cmpi_sge_ofNat (by omega) (by omega)

/-- The mask of the rows at or after the padding, of the whole array. -/
theorem mask_all (n : ℕ) (hn : n < 8320) : IntOp.cmpi .sge (BitVec.ofNat 32 n) 112#32 = BitVec.ofBool (decide (112 ≤ n)) :=
  cmpi_sge_ofNat (by omega) (by omega)

/-- A row plus a value that the padding rows do not get. -/
def past (n : ℕ) (h v : EReal) : EReal := h + if 112 ≤ n then v else 0

/-- A choice by a decided bit. -/
theorem pick (p : Prop) [Decidable p] (a b : EReal) : Scalar.select (BitVec.ofBool (decide p)) a b = if p then a else b := by
  rw [select_ofBool]; simp only [decide_eq_true_eq]

end Mlp
-- ==== Proof.Down.lean ====
/- What the call of the down projection, with its residual, leaves in its result. -/
module
public import proofs.«01_k».proof.Proof.Gen.Kernel7Ideal.Value
public import Idealize.ShloMosaic.Lib.Pipeline.ValueKit
public import Idealize.ShloMosaic.Lib.Pointwise
public import proofs.«01_k».proof.Proof.MlpSpec
public import proofs.«01_k».proof.Proof.ProjSpec
@[expose] public section
set_option maxRecDepth 16384
noncomputable section
namespace Cert.Kernel7Ideal.Gen
open Idealize.ShloMosaic Idealize.ShloMosaic.TcCoe Idealize.SL.Sem Mlp

variable (m : (ℓ : Loc nD τ sig) → Buf (Elt Ideal) ℓ) (c : Dev nD)

abbrev Rm : (⟨2, ![8320, 4096]⟩ : Shape).Idx → EReal := m ((c.tc : Thread nD τ).loc main_arg0)
abbrev Wm : (⟨2, ![4096, 1024]⟩ : Shape).Idx → EReal := m ((c.tc : Thread nD τ).loc main_arg1)
abbrev Hm : (⟨2, ![8320, 1024]⟩ : Shape).Idx → EReal := m ((c.tc : Thread nD τ).loc main_arg2)

theorem lt13 (t : Fin cfg0.N) : t.val < 13 := by
  have := t.isLt
  have h : cfg0.N = 13 := N_0
  omega

/-- The activations, as the host lines before the call leave them. -/
theorem act_at : (V m c main_v2 : (⟨2, ![8320, 4096]⟩ : Shape).Idx → EReal) = fun x => psq (Rm m c x) := by
  refine (?_ : (V m c main_v2 : (⟨2, ![8320, 4096]⟩ : Shape).Idx → EReal) = (mulf (F := Ideal) (φ := .f32) (maximumf (F := Ideal) (φ := .f32) (Rm m c) (broadcastInDim S8320x4096 ![] bcast_S_S8320x4096 (constant (F := Ideal) S_ FTy.f32 0#32))) (maximumf (F := Ideal) (φ := .f32) (Rm m c) (broadcastInDim S8320x4096 ![] bcast_S_S8320x4096 (constant (F := Ideal) S_ FTy.f32 0#32))))).trans (funext fun x => ?_)
  · unfold V
    simp only [hostOps0, hostOps0_1, List.flatten_cons, List.flatten_nil, List.append_nil, List.cons_append, List.nil_append]
    after_results
    rfl
  · unfold psq
    pointwise

/-- The weights as the call takes them, by the devices' rows. -/
theorem w_at : (V m c main_v4 : (⟨4, ![8, 1, 512, 1024]⟩ : Shape).Idx → EReal) = shapeCast S8x1x512x1024 (Wm m c) shapeCasts_S4096x1024_S8x1x512x1024 := by
  unfold V
  simp only [hostOps0, hostOps0_1, List.flatten_cons, List.flatten_nil, List.append_nil, List.cons_append, List.nil_append]
  after_results
  rfl

/-- What the body leaves at a place of its block. -/
theorem out_at (i : grid0.Coords) (x0 : (⟨2, ![640, 4096]⟩ : Shape).Idx → EReal) (x1 : (⟨4, ![8, 1, 512, 1024]⟩ : Shape).Idx → EReal) (x2 : (⟨2, ![640, 1024]⟩ : Shape).Idx → EReal) (p : Fin 640) (l : Fin 1024) :
    out0_3 (F := Ideal) i x0 x1 x2 (ix2 p l) = past (640 * (i 0).val + p.val) (x2 (ix2 p l)) (∑ k : Fin 4096, x0 (ix2 p k) * x1 (ix4 (⟨k.val / 512, by omega⟩ : Fin 8) 0 (⟨k.val % 512, by omega⟩ : Fin 512) l)) := by
  unfold past
  frame_out
  pointwise [k0_pay1]
  rw [mask_row _ _ (i 0).isLt p.isLt, pick]

abbrev X0 (t : Fin cfg0.N) : (⟨2, ![640, 4096]⟩ : Shape).Idx → EReal := iblk m c 0 t
abbrev X1 (t : Fin cfg0.N) : (⟨4, ![8, 1, 512, 1024]⟩ : Shape).Idx → EReal := iblk m c 1 t
abbrev X2 (t : Fin cfg0.N) : (⟨2, ![640, 1024]⟩ : Shape).Idx → EReal := iblk m c 2 t

theorem idx_0 (t : Fin cfg0.N) : win0_0.index t = ![t.val, 0] :=
  (by decide +kernel : ∀ t : Fin grid0.N, win0_0.index t = ![t.val, 0]) t
theorem idx_1 (t : Fin cfg0.N) : win0_1.index t = ![0, 0, 0, 0] :=
  (by decide +kernel : ∀ t : Fin grid0.N, win0_1.index t = ![0, 0, 0, 0]) t
theorem idx_2 (t : Fin cfg0.N) : win0_2.index t = ![t.val, 0] :=
  (by decide +kernel : ∀ t : Fin grid0.N, win0_2.index t = ![t.val, 0]) t
theorem idx_3 (t : Fin cfg0.N) : win0_3.index t = ![t.val, 0] :=
  (by decide +kernel : ∀ t : Fin grid0.N, win0_3.index t = ![t.val, 0]) t

theorem coord_0 (t : Fin cfg0.N) : (grid0.coords t 0).val = t.val :=
  (by decide +kernel : ∀ t : Fin grid0.N, (grid0.coords t 0).val = t.val) t

/-- The residual plus the product of the activations with the weights, which the padding rows do not get. -/
def val (R : (⟨2, ![8320, 4096]⟩ : Shape).Idx → EReal) (W : (⟨2, ![4096, 1024]⟩ : Shape).Idx → EReal) (H : (⟨2, ![8320, 1024]⟩ : Shape).Idx → EReal) (n : Fin 8320) (l : Fin 1024) : EReal := past n.val (H (ix2 n l)) (∑ k : Fin 4096, psq (R (ix2 n k)) * W (ix2 k l))

theorem blk0 (t : Fin cfg0.N) (p : Fin 640) (k : Fin 4096) : X0 m c t (ix2 p k) = psq ((Rm m c) (ix2 (⟨640 * t.val + p.val, by have := lt13 t; omega⟩ : Fin 8320) k)) := by
  refine Eq.trans ?_ (congrFun (act_at m c) (ix2 (⟨640 * t.val + p.val, by have := lt13 t; omega⟩ : Fin 8320) k))
  blk_ext [X0, iblk, idx_0 t]

theorem rows_at (W : (⟨2, ![4096, 1024]⟩ : Shape).Idx → EReal) (d : Fin 8) (l : Fin 512) (k : Fin 1024) :
    shapeCast S8x1x512x1024 W shapeCasts_S4096x1024_S8x1x512x1024 (ix4 d 0 l k) = W (ix2 ⟨512 * d.val + l.val, by omega⟩ k) := by
  pointwise
  exact congrArg (fun q : Fin 4096 => W (ix2 q k)) (Fin.ext (by show d.val * 512 + l.val = 512 * d.val + l.val; omega))

theorem blk1 (t : Fin cfg0.N) (q : Fin 4096) (k : Fin 1024) : X1 m c t (ix4 (⟨q.val / 512, by omega⟩ : Fin 8) 0 (⟨q.val % 512, by omega⟩ : Fin 512) k) = (Wm m c) (ix2 q k) := by
  have hq : (⟨512 * (q.val / 512) + q.val % 512, by omega⟩ : Fin 4096) = q := Fin.ext (Nat.div_add_mod _ _)
  have h := rows_at (Wm m c) (⟨q.val / 512, by omega⟩ : Fin 8) (⟨q.val % 512, by omega⟩ : Fin 512) k
  rw [hq, ← w_at m c] at h
  rw [← h]
  blk_ext [X1, iblk, idx_1 t]

theorem blkH (t : Fin cfg0.N) (p : Fin 640) (l : Fin 1024) : X2 m c t (ix2 p l) = (Hm m c) (ix2 (⟨640 * t.val + p.val, by have := lt13 t; omega⟩ : Fin 8320) l) := by
  blk_ext [X2, iblk, V_main_arg2, idx_2 t]

/-- The result, as the call leaves it. -/
def outF (R : (⟨2, ![8320, 4096]⟩ : Shape).Idx → EReal) (W : (⟨2, ![4096, 1024]⟩ : Shape).Idx → EReal) (H : (⟨2, ![8320, 1024]⟩ : Shape).Idx → EReal) : (⟨2, ![8320, 1024]⟩ : Shape).Idx → EReal := fun x => val R W H ⟨(x 0).val, (x 0).isLt⟩ ⟨(x 1).val, (x 1).isLt⟩

theorem arr3 : (dats m 0 c).arrAt 3 cfg0.N = outF (Rm m c) (Wm m c) (Hm m c) := by
  refine (dats m 0 c).arrAt_eq_of_covers 3 _ (by decide +kernel) fun t hf y => ?_
  have h13 := lt13 t
  have y0 : (y 0).val < 640 := (y 0).isLt
  have y1 : (y 1).val < 1024 := (y 1).isLt
  have e : ((cfg0.win 3).blk t).view.emb y = ix2 (⟨640 * t.val + (y 0).val, by omega⟩ : Fin 8320) (⟨(y 1).val, y1⟩ : Fin 1024) := by
    blk_ext [idx_3 t]
  rw [e]
  blk_simp
  rw [after0_3]
  have hy : y = ix2 (⟨(y 0).val, y0⟩ : Fin 640) (⟨(y 1).val, y1⟩ : Fin 1024) := by
    funext a
    match a with
    | 0 => rfl
    | 1 => rfl
  refine (congrArg (out0_3 (F := Ideal) (grid0.coords t) (X0 m c t) (X1 m c t) (X2 m c t)) hy).trans ((out_at (grid0.coords t) (X0 m c t) (X1 m c t) (X2 m c t) _ _).trans ?_)
  simp only [blk0, blk1, blkH, coord_0]
  rfl

end Cert.Kernel7Ideal.Gen
-- ==== Proof.DownClaim.lean ====
/- The down projection with its residual is the plain forward lines. -/
module
public import proofs.«01_k».proof.Defs
public import proofs.«01_k».proof.Proof.Down
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import Idealize.ShloMosaic.Lib.Quiescent
public import Idealize.ShloMosaic.Lib.Pointwise
@[expose] public section
set_option maxRecDepth 16384
noncomputable section
namespace Cert.Proof.Down
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference7Ideal Cert.Reference7Ideal.Read
/-- The reference's result: the residual and the product, past the padding. -/
theorem ref (R : (⟨2, ![8320, 4096]⟩ : Shape).Idx → EReal) (W : (⟨2, ![4096, 1024]⟩ : Shape).Idx → EReal) (H : (⟨2, ![8320, 1024]⟩ : Shape).Idx → EReal) :
    val_main_v8 (F := Ideal) R W H = Cert.Kernel7Ideal.Gen.outF R W H := by
  rw [← val_main_v8_eq]
  funext x
  rw [eta x]
  unfold Cert.Kernel7Ideal.Gen.outF Cert.Kernel7Ideal.Gen.val Mlp.psq Mlp.past
  pointwise
  rw [Mlp.mask_all _ (x 0).isLt, Mlp.pick, show (id (constant (F := Ideal) S_ FTy.f32 0#32) ix0 : EReal) = 0 from by rw [id]; pointwise]
end

open Cert.Reference7Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v8) = Cert.Kernel7Ideal.Gen.outF (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)) :=
  (θ_run defs _ _).mono (fun _ h c =>
    ⟨((h c).1.trans (Read.val_main_v8_eq _ _ _)).trans (ref _ _ _), (h c).2⟩) (Value.run (F := Ideal) m g)

/-- The reference's frame: it declares no semaphore. -/
theorem reference_frame : Cert.quiescent_Reference7Ideal := fun m g _ =>
  (θ_run Cert.Reference7Ideal.defs _ _).mono (fun r h => ⟨fun c => (h c).2, sem_eq_zero_of_no_sems (by decide) r.2⟩) (reference_run m g)

open Cert.Kernel7Ideal in
/-- The kernel's results are the reference's. -/
theorem algebraic : Cert.algebraic_Kernel7Ideal_Reference7Ideal := by
  intro m g m' g' _ hagree
  refine ⟨fun c => Gen.outF (m ((c.tc : Thread _ _).loc main_arg0)) (m ((c.tc : Thread _ _).loc main_arg1)) (m ((c.tc : Thread _ _).loc main_arg2)), ?_, ?_⟩
  · exact (θ_run defs _ _).mono (fun _ h c => ⟨(h c).1.trans (Gen.arr3 m c), (h c).2⟩) (Value.run_blocks (F := Ideal) m g)
  · refine (θ_run Cert.Reference7Ideal.defs _ _).mono (fun _ h c => ?_) (reference_run m' g')
    obtain ⟨h0, hk⟩ := h c
    obtain ⟨e0, e1, e2⟩ := hagree c
    rw [e0, e1, e2] at h0
    exact ⟨h0, hk⟩

end Cert.Proof.Down
-- ==== Proof.MixIn.lean ====
/- What the call that computes the gradient at the input of the mixer's normalisation leaves in its result. -/
module
public import proofs.«01_k».proof.Proof.Gen.Kernel8Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel8Ideal.Gen
open Idealize.ShloMosaic Idealize.ShloMosaic.TcCoe Idealize.SL.Sem Mlp

variable (m : (ℓ : Loc nD τ sig) → Buf (Elt Ideal) ℓ) (c : Dev nD)

abbrev DRm : (⟨2, ![8320, 3200]⟩ : Shape).Idx → EReal := m ((c.tc : Thread nD τ).loc main_arg0)
abbrev Wm : (⟨2, ![1024, 3200]⟩ : Shape).Idx → EReal := m ((c.tc : Thread nD τ).loc main_arg1)
abbrev Hm : (⟨2, ![8320, 1024]⟩ : Shape).Idx → EReal := m ((c.tc : Thread nD τ).loc main_arg2)
abbrev Gm : (⟨2, ![1, 1024]⟩ : Shape).Idx → EReal := m ((c.tc : Thread nD τ).loc main_arg3)
abbrev DOm : (⟨2, ![8320, 1024]⟩ : Shape).Idx → EReal := m ((c.tc : Thread nD τ).loc main_arg4)

theorem lt13 (t : Fin cfg0.N) : t.val < 13 := by
  have := t.isLt
  have h : cfg0.N = 13 := N_0
  omega

theorem w_at : (V m c main_v1 : (⟨2, ![1024, 3200]⟩ : Shape).Idx → EReal) = Wm m c := by
  unfold V
  simp only [hostOps0, List.flatten_cons, List.flatten_nil, List.append_nil, List.cons_append, List.nil_append]
  after_results
  rfl

theorem dr_at : (V m c main_v0 : (⟨2, ![8320, 3200]⟩ : Shape).Idx → EReal) = DRm m c := by
  unfold V
  simp only [hostOps0, List.flatten_cons, List.flatten_nil, List.append_nil, List.cons_append, List.nil_append]
  after_results
  rfl

abbrev X0 (t : Fin cfg0.N) : (⟨2, ![640, 3200]⟩ : Shape).Idx → EReal := iblk m c 0 t
abbrev X1 (t : Fin cfg0.N) : (⟨2, ![1024, 3200]⟩ : Shape).Idx → EReal := iblk m c 1 t
abbrev X3 (t : Fin cfg0.N) : (⟨2, ![640, 1024]⟩ : Shape).Idx → EReal := iblk m c 3 t
abbrev X2 (t : Fin cfg0.N) : (⟨2, ![1, 1024]⟩ : Shape).Idx → EReal := iblk m c 2 t
abbrev X4 (t : Fin cfg0.N) : (⟨2, ![640, 1024]⟩ : Shape).Idx → EReal := iblk m c 4 t

/-- The product of a block of the gradient with the transposed weights. -/
def duBlk (x0 : (⟨2, ![640, 3200]⟩ : Shape).Idx → EReal) (x1 : (⟨2, ![1024, 3200]⟩ : Shape).Idx → EReal) (p : Fin 640) (k : Fin 1024) : EReal :=
  ∑ l : Fin 3200, x0 (ix2 p l) * x1 (ix2 k l)

/-- The row that the body leaves in the gradient's block. -/
theorem out5 (t : Fin cfg0.N) (p : Fin 640) (k : Fin 1024) : (outsAt0 m c t.val t.isLt).1 (ix2 p k)
    = bwdRow (fun j => X3 m c t (ix2 p j)) (fun j => X2 m c t (ix2 0 j)) (duBlk (X0 m c t) (X1 m c t) p) (fun j => X4 m c t (ix2 p j)) k := by
  by_cases h : t.val % 13 = 0
  · rw [outsAt0_A m c t h]
    dsimp only
    unfold X0 X1 X2 X3 X4
    generalize iblk m c 0 t = x0
    generalize iblk m c 1 t = x1
    generalize iblk m c 2 t = x2
    generalize iblk m c 3 t = x3
    generalize iblk m c 4 t = x4
    frame_out
    unfold bwdRow rinv duBlk
    pointwise [k0_pay1, k0_pay2, k0_pay3, k0_pay4, k0_pay5]
    exact add_sub_assoc _ _ _
  · rw [outsAt0_B m c t h]
    dsimp only
    unfold X0 X1 X2 X3 X4
    generalize iblk m c 0 t = x0
    generalize iblk m c 1 t = x1
    generalize iblk m c 2 t = x2
    generalize iblk m c 3 t = x3
    generalize iblk m c 4 t = x4
    frame_out
    unfold bwdRow rinv duBlk
    pointwise [k0_pay1, k0_pay2, k0_pay3, k0_pay4, k0_pay5]
    exact add_sub_assoc _ _ _

/-- What a point adds to the gradient of the gain. -/
theorem out6_A (t : Fin cfg0.N) (h : t.val % 13 = 0) (k : Fin 1024) : (outsAt0 m c t.val t.isLt).2 (ix2 0 k)
    = 0 + ∑ p : Fin 640, duBlk (X0 m c t) (X1 m c t) p k * (X3 m c t (ix2 p k) * rinv (fun j => X3 m c t (ix2 p j))) := by
  rw [outsAt0_A m c t h]
  dsimp only
  unfold X0 X1 X3
  generalize iblk m c 0 t = x0
  generalize iblk m c 1 t = x1
  generalize iblk m c 2 t = x2
  generalize iblk m c 3 t = x3
  generalize iblk m c 4 t = x4
  frame_out
  unfold rinv duBlk
  pointwise [k0_pay1, k0_pay2, k0_pay3, k0_pay4, k0_pay5]

theorem out6_B (t : Fin cfg0.N) (h : ¬ t.val % 13 = 0) (k : Fin 1024) : (outsAt0 m c t.val t.isLt).2 (ix2 0 k)
    = (outsAt0 m c (t.val - 1) (Nat.lt_of_le_of_lt (Nat.sub_le _ _) t.isLt)).2 (ix2 0 k)
      + ∑ p : Fin 640, duBlk (X0 m c t) (X1 m c t) p k * (X3 m c t (ix2 p k) * rinv (fun j => X3 m c t (ix2 p j))) := by
  rw [outsAt0_B m c t h]
  generalize (outsAt0 m c (t.val - 1) (Nat.lt_of_le_of_lt (Nat.sub_le _ _) t.isLt)).2 = xo
  dsimp only
  unfold X0 X1 X3
  generalize iblk m c 0 t = x0
  generalize iblk m c 1 t = x1
  generalize iblk m c 2 t = x2
  generalize iblk m c 3 t = x3
  generalize iblk m c 4 t = x4
  frame_out
  unfold rinv duBlk
  pointwise [k0_pay1, k0_pay2, k0_pay3, k0_pay4, k0_pay5]
  all_goals exact congrArg (· + _) (congrFun (Memref.IsWhole.read_unread _ _) _)

theorem idx_0 (t : Fin cfg0.N) : win0_0.index t = ![t.val, 0] :=
  (by decide +kernel : ∀ t : Fin grid0.N, win0_0.index t = ![t.val, 0]) t
theorem idx_1 (t : Fin cfg0.N) : win0_1.index t = ![0, 0] :=
  (by decide +kernel : ∀ t : Fin grid0.N, win0_1.index t = ![0, 0]) t
theorem idx_2 (t : Fin cfg0.N) : win0_2.index t = ![0, 0] :=
  (by decide +kernel : ∀ t : Fin grid0.N, win0_2.index t = ![0, 0]) t
theorem idx_3 (t : Fin cfg0.N) : win0_3.index t = ![t.val, 0] :=
  (by decide +kernel : ∀ t : Fin grid0.N, win0_3.index t = ![t.val, 0]) t
theorem idx_4 (t : Fin cfg0.N) : win0_4.index t = ![t.val, 0] :=
  (by decide +kernel : ∀ t : Fin grid0.N, win0_4.index t = ![t.val, 0]) t
theorem idx_5 (t : Fin cfg0.N) : win0_5.index t = ![t.val, 0] :=
  (by decide +kernel : ∀ t : Fin grid0.N, win0_5.index t = ![t.val, 0]) t
theorem idx_6 (t : Fin cfg0.N) : win0_6.index t = ![0, 0] :=
  (by decide +kernel : ∀ t : Fin grid0.N, win0_6.index t = ![0, 0]) t

theorem blk0 (t : Fin cfg0.N) (p : Fin 640) (k : Fin 3200) : X0 m c t (ix2 p k) = DRm m c (ix2 ⟨640 * t.val + p.val, by have := lt13 t; omega⟩ k) := by
  rw [← dr_at m c]
  blk_ext [X0, iblk, idx_0 t]

theorem blk1 (t : Fin cfg0.N) (k : Fin 1024) (l : Fin 3200) : X1 m c t (ix2 k l) = Wm m c (ix2 k l) := by
  rw [← w_at m c]
  blk_ext [X1, iblk, idx_1 t]

theorem blk2 (t : Fin cfg0.N) (k : Fin 1024) : X2 m c t (ix2 0 k) = Gm m c (ix2 0 k) := by
  blk_ext [X2, iblk, V_main_arg3, idx_2 t]

theorem blk3 (t : Fin cfg0.N) (p : Fin 640) (k : Fin 1024) : X3 m c t (ix2 p k) = Hm m c (ix2 ⟨640 * t.val + p.val, by have := lt13 t; omega⟩ k) := by
  blk_ext [X3, iblk, V_main_arg2, idx_3 t]

theorem blk4 (t : Fin cfg0.N) (p : Fin 640) (k : Fin 1024) : X4 m c t (ix2 p k) = DOm m c (ix2 ⟨640 * t.val + p.val, by have := lt13 t; omega⟩ k) := by
  blk_ext [X4, iblk, V_main_arg4, idx_4 t]

/-- The gradient at the normalisation's output. -/
def du (D : (⟨2, ![8320, 3200]⟩ : Shape).Idx → EReal) (W : (⟨2, ![1024, 3200]⟩ : Shape).Idx → EReal) (n : Fin 8320) (k : Fin 1024) : EReal :=
  ∑ j : Fin 3200, D (ix2 n j) * W (ix2 k j)

theorem du_at (t : Fin cfg0.N) (p : Fin 640) (k : Fin 1024) :
    duBlk (X0 m c t) (X1 m c t) p k = du (DRm m c) (Wm m c) ⟨640 * t.val + p.val, by have := lt13 t; omega⟩ k := by
  unfold duBlk du
  simp only [blk0, blk1]

/-- The gradient at the input of the normalisation and the gradient of the gain, as the call leaves them. -/
def outH (D : (⟨2, ![8320, 3200]⟩ : Shape).Idx → EReal) (W : (⟨2, ![1024, 3200]⟩ : Shape).Idx → EReal) (H : (⟨2, ![8320, 1024]⟩ : Shape).Idx → EReal)
    (G : (⟨2, ![1, 1024]⟩ : Shape).Idx → EReal) (O : (⟨2, ![8320, 1024]⟩ : Shape).Idx → EReal) : (⟨2, ![8320, 1024]⟩ : Shape).Idx → EReal :=
  fun x => bwdRow (fun j => H (ix2 ⟨(x 0).val, (x 0).isLt⟩ j)) (fun j => G (ix2 0 j)) (du D W ⟨(x 0).val, (x 0).isLt⟩) (fun j => O (ix2 ⟨(x 0).val, (x 0).isLt⟩ j)) ⟨(x 1).val, (x 1).isLt⟩

def outG (D : (⟨2, ![8320, 3200]⟩ : Shape).Idx → EReal) (W : (⟨2, ![1024, 3200]⟩ : Shape).Idx → EReal) (H : (⟨2, ![8320, 1024]⟩ : Shape).Idx → EReal) :
    (⟨2, ![1, 1024]⟩ : Shape).Idx → EReal :=
  fun x => ∑ n : Fin 8320, du D W n ⟨(x 1).val, (x 1).isLt⟩ * (H (ix2 n ⟨(x 1).val, (x 1).isLt⟩) * rinv (fun j => H (ix2 n j)))

theorem arr5 : (dats m 0 c).arrAt 5 cfg0.N = outH (DRm m c) (Wm m c) (Hm m c) (Gm m c) (DOm m c) := by
  refine (dats m 0 c).arrAt_eq_of_covers 5 _ (by decide +kernel) fun t hf y => ?_
  have h13 := lt13 t
  have y0 : (y 0).val < 640 := (y 0).isLt
  have y1 : (y 1).val < 1024 := (y 1).isLt
  have e : ((cfg0.win 5).blk t).view.emb y = ix2 (⟨640 * t.val + (y 0).val, by omega⟩ : Fin 8320) (⟨(y 1).val, y1⟩ : Fin 1024) := by
    blk_ext [idx_5 t]
  rw [e]
  blk_simp
  rw [after0_5]
  have hy : y = ix2 (⟨(y 0).val, y0⟩ : Fin 640) (⟨(y 1).val, y1⟩ : Fin 1024) := by
    funext a
    match a with
    | 0 => rfl
    | 1 => rfl
  refine (congrArg (outsAt0 m c t.val t.isLt).1 hy).trans ((out5 m c t _ _).trans ?_)
  have hd : duBlk (X0 m c t) (X1 m c t) (⟨(y 0).val, y0⟩ : Fin 640) = du (DRm m c) (Wm m c) ⟨640 * t.val + (y 0).val, by omega⟩ := funext fun k => du_at m c t _ k
  rw [hd]
  simp only [blk2, blk3, blk4]
  rfl

/-- One row's term of the gradient of the gain, zero past the last row. -/
def dgN (k : Fin 1024) (n : ℕ) : EReal :=
  if h : n < 8320 then du (DRm m c) (Wm m c) ⟨n, h⟩ k * (Hm m c (ix2 ⟨n, h⟩ k) * rinv (fun j => Hm m c (ix2 ⟨n, h⟩ j))) else 0

/-- What point `t` adds to the gradient of the gain. -/
def addend (t : ℕ) (y : (⟨2, ![1, 1024]⟩ : Shape).Idx) : EReal := ∑ p : Fin 640, dgN m c ⟨(y 1).val, (y 1).isLt⟩ (640 * t + p.val)

theorem eta (y : (⟨2, ![1, 1024]⟩ : Shape).Idx) : y = ix2 (0 : Fin 1) (⟨(y 1).val, (y 1).isLt⟩ : Fin 1024) := by
  funext a
  match a with
  | 0 => exact Fin.ext (by have h : (y 0).val < 1 := (y 0).isLt; show (y 0).val = 0; omega)
  | 1 => rfl

theorem add_eq (t : Fin cfg0.N) (y : (⟨2, ![1, 1024]⟩ : Shape).Idx) :
    ∑ p : Fin 640, duBlk (X0 m c t) (X1 m c t) p ⟨(y 1).val, (y 1).isLt⟩ * (X3 m c t (ix2 p ⟨(y 1).val, (y 1).isLt⟩) * rinv (fun j => X3 m c t (ix2 p j))) = addend m c t.val y := by
  refine Finset.sum_congr rfl fun p _ => ?_
  have h13 := lt13 t
  rw [dgN, dif_pos (by omega)]
  simp only [du_at, blk3]

theorem step_A (t : Fin cfg0.N) (h0 : t.val % 13 = 0) (y : (⟨2, ![1, 1024]⟩ : Shape).Idx) :
    (outsAt0 m c t.val t.isLt).2 y = 0 + addend m c t.val y := by
  rw [← add_eq]
  exact (congrArg (outsAt0 m c t.val t.isLt).2 (eta y)).trans (out6_A m c t h0 _)

theorem step_B (t : Fin cfg0.N) (h0 : ¬ t.val % 13 = 0) (y : (⟨2, ![1, 1024]⟩ : Shape).Idx) :
    (outsAt0 m c t.val t.isLt).2 y = (outsAt0 m c (t.val - 1) (Nat.lt_of_le_of_lt (Nat.sub_le _ _) t.isLt)).2 y + addend m c t.val y := by
  rw [← add_eq]
  refine (congrArg (outsAt0 m c t.val t.isLt).2 (eta y)).trans ((out6_B m c t h0 _).trans ?_)
  rw [← eta y]

theorem last (t : Fin cfg0.N) (h : t.val % 13 = 12) (y : (⟨2, ![1, 1024]⟩ : Shape).Idx) :
    (outsAt0 m c t.val t.isLt).2 y = ∑ n ∈ Finset.range 8320, dgN m c ⟨(y 1).val, (y 1).isLt⟩ n := by
  have h13 := lt13 t
  rw [Pipeline.eq_sum_of_reset_step_apply_of_mod (fun n h => (outsAt0 m c n h).2) 13 (fun _ => (0 : EReal))
    (addend m c) (step_A m c) (step_B m c) t h y, zero_add,
    show 8320 = 13 * 640 from rfl, Finset.sum_range_mul_split 13 640]
  refine Finset.sum_congr rfl fun k hk => ?_
  rw [Finset.sum_range, addend]
  refine Finset.sum_congr rfl fun p _ => ?_
  rw [show 13 * (t.val / 13) + k = k by omega, Nat.mul_comm]

theorem arr6 : (dats m 0 c).arrAt 6 cfg0.N = outG (DRm m c) (Wm m c) (Hm m c) := by
  refine (dats m 0 c).arrAt_eq_of_covers 6 _ (by decide +kernel) fun t hf y => ?_
  have e : ((cfg0.win 6).blk t).view.emb y = ix2 (⟨(y 0).val, (y 0).isLt⟩ : Fin 1) (⟨(y 1).val, (y 1).isLt⟩ : Fin 1024) := by
    blk_ext [idx_6 t]
  rw [e]
  blk_simp
  rw [after0_6]
  refine (last m c t ((flush0_6 t).mp hf) y).trans ?_
  rw [Finset.sum_range]
  refine Finset.sum_congr rfl fun n _ => ?_
  rw [dgN, dif_pos n.isLt]
  rfl

end Cert.Kernel8Ideal.Gen
-- ==== Proof.MixInClaim.lean ====
/- The gradients at the normalisation are the derivatives of the plain forward lines. -/
module
public import proofs.«01_k».proof.Defs
public import proofs.«01_k».proof.Proof.MixIn
public import proofs.«01_k».proof.Proof.DuMath
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import Idealize.ShloMosaic.Lib.Quiescent
public import Idealize.ShloMosaic.Lib.Pointwise
@[expose] public section
set_option maxRecDepth 16384
noncomputable section
namespace Cert.Proof.MixIn
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference8Ideal Cert.Reference8Ideal.Read
/-- The reference's results: the derivative at the input of the normalisation, and at the gain. -/
theorem refH (D : (⟨2, ![8320, 3200]⟩ : Shape).Idx → EReal) (W : (⟨2, ![1024, 3200]⟩ : Shape).Idx → EReal) (H : (⟨2, ![8320, 1024]⟩ : Shape).Idx → EReal) (G : (⟨2, ![1, 1024]⟩ : Shape).Idx → EReal) (O : (⟨2, ![8320, 1024]⟩ : Shape).Idx → EReal) :
    val_main_v36 (F := Ideal) D W H G O = Cert.Kernel8Ideal.Gen.outH D W H G O := by
  funext x
  unfold Cert.Kernel8Ideal.Gen.outH
  rw [eta x]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6]
  simp only [Finset.univ_unique, Finset.sum_const, Finset.card_singleton, one_smul]
  rw [show O x = O (ix2 (x 0) (x 1)) from congrArg O (eta x), show H x = H (ix2 (x 0) (x 1)) from congrArg H (eta x)]
  exact Mlp.bwdRow_eq (fun j => H (ix2 (x 0) j)) (fun j => G (ix2 0 j)) (Cert.Kernel8Ideal.Gen.du D W (x 0)) (fun j => O (ix2 (x 0) j)) (x 1) _ rfl

theorem refG (D : (⟨2, ![8320, 3200]⟩ : Shape).Idx → EReal) (W : (⟨2, ![1024, 3200]⟩ : Shape).Idx → EReal) (H : (⟨2, ![8320, 1024]⟩ : Shape).Idx → EReal) :
    val_main_v19 (F := Ideal) D W H = Cert.Kernel8Ideal.Gen.outG D W H := by
  rw [← val_main_v19_eq]
  funext x
  unfold Cert.Kernel8Ideal.Gen.outG Mlp.rinv Cert.Kernel8Ideal.Gen.du
  rw [eta x]
  pointwise
  exact Finset.sum_congr rfl fun n _ => mul_comm _ _
end

open Cert.Reference8Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v36) = Cert.Kernel8Ideal.Gen.outH (m ((c.tc : Thread _ _).loc main_arg0)) (m ((c.tc : Thread _ _).loc main_arg1)) (m ((c.tc : Thread _ _).loc main_arg2)) (m ((c.tc : Thread _ _).loc main_arg3)) (m ((c.tc : Thread _ _).loc main_arg4))
      ∧ r.2.mem ((c.tc : Thread _ _).loc main_v19) = Cert.Kernel8Ideal.Gen.outG (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)) :=
  (θ_run defs _ _).mono (fun _ h c =>
    ⟨((h c).1.trans (Read.val_main_v36_eq _ _)).trans (refH _ _ _ _ _),
     ((h c).2.1.trans (Read.val_main_v19_eq _ _ _)).trans (refG _ _ _), (h c).2.2⟩) (Value.run (F := Ideal) m g)

/-- The reference's frame: it declares no semaphore. -/
theorem reference_frame : Cert.quiescent_Reference8Ideal := fun m g _ =>
  (θ_run Cert.Reference8Ideal.defs _ _).mono (fun r h => ⟨fun c => (h c).2.2, sem_eq_zero_of_no_sems (by decide) r.2⟩) (reference_run m g)

open Cert.Kernel8Ideal in
/-- The kernel's results are the reference's. -/
theorem algebraic : Cert.algebraic_Kernel8Ideal_Reference8Ideal := by
  intro m g m' g' _ hagree
  refine ⟨fun c => Gen.outH (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => Gen.outG (m ((c.tc : Thread _ _).loc main_arg0)) (m ((c.tc : Thread _ _).loc main_arg1)) (m ((c.tc : Thread _ _).loc main_arg2)), ?_, ?_⟩
  · exact (θ_run defs _ _).mono (fun _ h c => ⟨(h c).1.trans (Gen.arr5 m c), (h c).2.1.trans (Gen.arr6 m c), (h c).2.2⟩) (Value.run_blocks (F := Ideal) m g)
  · refine (θ_run Cert.Reference8Ideal.defs _ _).mono (fun _ h c => ?_) (reference_run m' g')
    obtain ⟨h0, h1, hk⟩ := h c
    obtain ⟨e0, e1, e2, e3, e4⟩ := hagree c
    rw [e0, e1, e2, e3, e4] at h0
    rw [e0, e1, e2] at h1
    exact ⟨h0, h1, hk⟩

end Cert.Proof.MixIn
-- ==== Proof.InW.lean ====
/- What the call that computes the gradient of the input projection's weights leaves in its result. -/
module
public import proofs.«01_k».proof.Proof.Gen.Kernel9Ideal.Value
public import Idealize.ShloMosaic.Lib.Pipeline.ValueKit
public import Idealize.ShloMosaic.Lib.Pointwise
public import proofs.«01_k».proof.Proof.MlpSpec
public import proofs.«01_k».proof.Proof.ProjSpec
@[expose] public section
set_option maxRecDepth 16384
noncomputable section
namespace Cert.Kernel9Ideal.Gen
open Idealize.ShloMosaic Idealize.ShloMosaic.TcCoe Idealize.SL.Sem Mlp

variable (m : (ℓ : Loc nD τ sig) → Buf (Elt Ideal) ℓ) (c : Dev nD)

abbrev Dm : (⟨2, ![8320, 3200]⟩ : Shape).Idx → EReal := m ((c.tc : Thread nD τ).loc main_arg0)
abbrev Hm : (⟨2, ![8320, 1024]⟩ : Shape).Idx → EReal := m ((c.tc : Thread nD τ).loc main_arg1)
abbrev Gm : (⟨2, ![1, 1024]⟩ : Shape).Idx → EReal := m ((c.tc : Thread nD τ).loc main_arg2)

/-- The lines of the root mean square norm. -/
def rmsLines (H : (⟨2, ![8320, 1024]⟩ : Shape).Idx → EReal) (G : (⟨2, ![1, 1024]⟩ : Shape).Idx → EReal) : (⟨2, ![8320, 1024]⟩ : Shape).Idx → EReal :=
  mulf (F := Ideal) (φ := .f32) (mulf (F := Ideal) (φ := .f32) H (broadcastInDim S8320x1024 ![0, 1] bcast_S8320x1_S8320x1024_0_1 (Host.rsqrt (F := Ideal) (φ := .f32) (addf (F := Ideal) (φ := .f32) (Host.divf (F := Ideal) (φ := .f32) (broadcastInDim S8320x1 ![0] bcast_S8320_S8320x1_0 (Host.reduceAdd (F := Ideal) (φ := .f32) (mulf (F := Ideal) (φ := .f32) H H) (constant (F := Ideal) S_ FTy.f32 0#32) reducesTo_S8320x1024_S8320_d1 h_S_)) (broadcastInDim S8320x1 ![] bcast_S_S8320x1 (constant (F := Ideal) S_ FTy.f32 0x44800000#32))) (broadcastInDim S8320x1 ![] bcast_S_S8320x1 (constant (F := Ideal) S_ FTy.f32 0x358637BD#32)))))) (broadcastInDim S8320x1024 ![0, 1] bcast_S1x1024_S8320x1024_0_1 G)

theorem u_lines : (V m c main_v12 : (⟨2, ![8320, 1024]⟩ : Shape).Idx → EReal) = rmsLines (Hm m c) (Gm m c) := by
  unfold V
  simp only [hostOps0, List.flatten_cons, List.flatten_nil, List.append_nil, List.cons_append, List.nil_append]
  after_results
  rfl

theorem rms_at (H : (⟨2, ![8320, 1024]⟩ : Shape).Idx → EReal) (G : (⟨2, ![1, 1024]⟩ : Shape).Idx → EReal) (n : Fin 8320) (k : Fin 1024) :
    rmsLines H G (ix2 n k) = rms H G n k := by
  unfold rmsLines rms ms
  pointwise

/-- The normalised rows, as the host lines before the call leave them. -/
theorem u_at : (V m c main_v12 : (⟨2, ![8320, 1024]⟩ : Shape).Idx → EReal) = fun x => rms (Hm m c) (Gm m c) ⟨(x 0).val, (x 0).isLt⟩ ⟨(x 1).val, (x 1).isLt⟩ := by
  rw [u_lines]
  funext x
  have hx : x = ix2 (⟨(x 0).val, (x 0).isLt⟩ : Fin 8320) (⟨(x 1).val, (x 1).isLt⟩ : Fin 1024) := by
    funext a
    match a with
    | 0 => rfl
    | 1 => rfl
  exact (congrArg _ hx).trans (rms_at _ _ _ _)

/-- The gradient, as the host line before the call leaves it. -/
theorem d_at : (V m c main_v13 : (⟨2, ![8320, 3200]⟩ : Shape).Idx → EReal) = Dm m c := by
  unfold V
  simp only [hostOps0, List.flatten_cons, List.flatten_nil, List.append_nil, List.cons_append, List.nil_append]
  after_results
  rfl

theorem idx_0 : ∀ t : Fin cfg0.N, win0_0.index t = ![t.val % 5, t.val / 5] := by decide +kernel
theorem idx_1 : ∀ t : Fin cfg0.N, win0_1.index t = ![t.val % 5, 0] := by decide +kernel
theorem idx_2 : ∀ t : Fin cfg0.N, win0_2.index t = ![t.val / 5, 0] := by decide +kernel

/-- Row `n` of column `k` of the left factor, and of column `l` of the gradient, zero past the last row. -/
def aN (H : (⟨2, ![8320, 1024]⟩ : Shape).Idx → EReal) (G : (⟨2, ![1, 1024]⟩ : Shape).Idx → EReal) (k : Fin 1024) (n : ℕ) : EReal := if h : n < 8320 then rms H G ⟨n, h⟩ k else 0
def dN (D : (⟨2, ![8320, 3200]⟩ : Shape).Idx → EReal) (l : Fin 3200) (n : ℕ) : EReal := if h : n < 8320 then D (ix2 ⟨n, h⟩ l) else 0

theorem ltN (t : Fin cfg0.N) : t.val < 10 := by
  have := t.isLt
  have h : cfg0.N = 10 := N_0
  omega

/-- The column of the left factor that grid point `t` has at place `p` of its block. -/
def col (t : ℕ) (p : Fin 512) : Fin 1024 := ⟨512 * (t / 5 % 2) + p.val, by omega⟩

theorem blk0 (t : Fin cfg0.N) (p : Fin 1664) (k : Fin 512) : iblk m c 0 t (ix2 p k) = aN (Hm m c) (Gm m c) (col t.val k) (1664 * (t.val % 5) + p.val) := by
  have h := ltN t
  rw [aN, dif_pos (by omega)]
  refine Eq.trans ?_ (congrFun (u_at m c) (ix2 (⟨1664 * (t.val % 5) + p.val, by omega⟩ : Fin 8320) (col t.val k)))
  unfold col
  blk_ext [iblk, idx_0 t]

theorem blk1 (t : Fin cfg0.N) (p : Fin 1664) (l : Fin 3200) : iblk m c 1 t (ix2 p l) = dN (Dm m c) l (1664 * (t.val % 5) + p.val) := by
  have h := ltN t
  rw [dN, dif_pos (by omega)]
  rw [← d_at m c]
  blk_ext [iblk, idx_1 t]

/-- The two input blocks of grid point `t`. -/
abbrev X0 (t : Fin cfg0.N) : (⟨2, ![1664, 512]⟩ : Shape).Idx → EReal := iblk m c 0 t
abbrev X1 (t : Fin cfg0.N) : (⟨2, ![1664, 3200]⟩ : Shape).Idx → EReal := iblk m c 1 t

/-- What point `t` adds to the accumulator. -/
def addend (t : ℕ) (y : (⟨2, ![512, 3200]⟩ : Shape).Idx) : EReal :=
  ∑ p : Fin 1664, aN (Hm m c) (Gm m c) (col t ⟨(y 0).val, (y 0).isLt⟩) (1664 * (t % 5) + p.val) * dN (Dm m c) ⟨(y 1).val, (y 1).isLt⟩ (1664 * (t % 5) + p.val)

theorem eta (y : (⟨2, ![512, 3200]⟩ : Shape).Idx) : y = ix2 (⟨(y 0).val, (y 0).isLt⟩ : Fin 512) (⟨(y 1).val, (y 1).isLt⟩ : Fin 3200) := by
  funext a; match a with | 0 => rfl | 1 => rfl

theorem prod_eq (t : Fin cfg0.N) (y : (⟨2, ![512, 3200]⟩ : Shape).Idx) :
    ∑ p : Fin 1664, X0 m c t (ix2 p ⟨(y 0).val, (y 0).isLt⟩) * X1 m c t (ix2 p ⟨(y 1).val, (y 1).isLt⟩) = addend m c t.val y :=
  Finset.sum_congr rfl fun p _ => congrArg₂ (· * ·) (blk0 m c t p _) (blk1 m c t p _)

theorem step_A (t : Fin cfg0.N) (h0 : t.val % 5 = 0) (y : (⟨2, ![512, 3200]⟩ : Shape).Idx) :
    (outsAt0 m c t.val t.isLt).2 y = 0 + addend m c t.val y := by
  rw [← prod_eq, outsAt0_A m c t h0 (by omega), eta y]
  dsimp only
  frame_out
  pointwise [k0_pay1, k0_pay2]

theorem step_B (t : Fin cfg0.N) (h0 : ¬ t.val % 5 = 0) (y : (⟨2, ![512, 3200]⟩ : Shape).Idx) :
    (outsAt0 m c t.val t.isLt).2 y = (outsAt0 m c (t.val - 1) (Nat.lt_of_le_of_lt (Nat.sub_le _ _) t.isLt)).2 y + addend m c t.val y := by
  rw [← prod_eq]
  by_cases h1 : t.val % 5 = 4
  · rw [outsAt0_C m c t h0 h1, eta y]
    dsimp only
    frame_out
    pointwise [k0_pay1, k0_pay2]
    exact congrArg (· + _) (congrFun (Memref.IsWhole.read_unread _ _) _)
  · rw [outsAt0_B m c t h0 h1, eta y]
    dsimp only
    frame_out
    pointwise [k0_pay1, k0_pay2]
    exact congrArg (· + _) (congrFun (Memref.IsWhole.read_unread _ _) _)

/-- The accumulator's last contents are what the point writes back. -/
theorem out_C (t : Fin cfg0.N) (h1 : t.val % 5 = 4) (y : (⟨2, ![512, 3200]⟩ : Shape).Idx) :
    (outsAt0 m c t.val t.isLt).1 y = (outsAt0 m c t.val t.isLt).2 y := by
  rw [outsAt0_C m c t (by omega) h1, eta y]
  dsimp only
  frame_out

/-- The accumulator after the last of five points. -/
theorem last (t : Fin cfg0.N) (h : t.val % 5 = 4) (y : (⟨2, ![512, 3200]⟩ : Shape).Idx) :
    (outsAt0 m c t.val t.isLt).1 y
      = ∑ n ∈ Finset.range 8320, aN (Hm m c) (Gm m c) (col t.val ⟨(y 0).val, (y 0).isLt⟩) n * dN (Dm m c) ⟨(y 1).val, (y 1).isLt⟩ n := by
  rw [out_C m c t h, Pipeline.eq_sum_of_reset_step_apply_of_mod (fun n h => (outsAt0 m c n h).2) 5 (fun _ => (0 : EReal))
    (addend m c) (step_A m c) (step_B m c) t h y, zero_add,
    show 8320 = 5 * 1664 from rfl, Finset.sum_range_mul_split 5 1664]
  refine Finset.sum_congr rfl fun k hk => ?_
  have hk : k < 5 := Finset.mem_range.mp hk
  rw [Finset.sum_range, addend]
  refine Finset.sum_congr rfl fun p _ => ?_
  have e1 : (5 * (t.val / 5) + k) % 5 = k := by omega
  have e2 : col (5 * (t.val / 5) + k) ⟨(y 0).val, (y 0).isLt⟩ = col t.val ⟨(y 0).val, (y 0).isLt⟩ := by
    unfold col
    have : (5 * (t.val / 5) + k) / 5 = t.val / 5 := by omega
    exact Fin.ext (by simp only [this])
  rw [e1, e2, Nat.mul_comm]

/-- The gradient of the weights, as the call leaves it. -/
def outF (D : (⟨2, ![8320, 3200]⟩ : Shape).Idx → EReal) (H : (⟨2, ![8320, 1024]⟩ : Shape).Idx → EReal) (G : (⟨2, ![1, 1024]⟩ : Shape).Idx → EReal) : (⟨2, ![1024, 3200]⟩ : Shape).Idx → EReal :=
  fun x => ∑ n : Fin 8320, rms H G n ⟨(x 0).val, (x 0).isLt⟩ * D (ix2 n ⟨(x 1).val, (x 1).isLt⟩)

theorem arr2 : (dats m 0 c).arrAt 2 cfg0.N = outF (Dm m c) (Hm m c) (Gm m c) := by
  refine (dats m 0 c).arrAt_eq_of_covers 2 _ (by decide +kernel) fun t hf y => ?_
  have hN := ltN t
  have e : ((cfg0.win 2).blk t).view.emb y = ix2 (⟨512 * (t.val / 5) + (y 0).val, by have : (y 0).val < 512 := (y 0).isLt; omega⟩ : Fin 1024) (⟨(y 1).val, (y 1).isLt⟩ : Fin 3200) := by
    blk_ext [idx_2 t]
  rw [e]
  blk_simp
  rw [after0_2]
  refine (last m c t ((flush0_2 t).mp hf) y).trans ?_
  rw [Finset.sum_range]
  refine Finset.sum_congr rfl fun n _ => ?_
  rw [aN, dif_pos n.isLt, dN, dif_pos n.isLt]
  have e3 : col t.val ⟨(y 0).val, (y 0).isLt⟩ = ⟨512 * (t.val / 5) + (y 0).val, by have : (y 0).val < 512 := (y 0).isLt; omega⟩ := by
    unfold col
    apply Fin.ext
    show 512 * (t.val / 5 % 2) + (y 0).val = _
    have : t.val / 5 % 2 = t.val / 5 := by omega
    rw [this]
  rw [e3]
  rfl

end Cert.Kernel9Ideal.Gen
-- ==== Proof.InWClaim.lean ====
/- The gradient of the input projection's weights is the derivative of the plain forward lines. -/
module
public import proofs.«01_k».proof.Defs
public import proofs.«01_k».proof.Proof.InW
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import Idealize.ShloMosaic.Lib.Quiescent
public import Idealize.ShloMosaic.Lib.Pointwise
@[expose] public section
set_option maxRecDepth 16384
noncomputable section
namespace Cert.Proof.InW
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference9Ideal Cert.Reference9Ideal.Read
/-- The reference's result: the derivative of the product with respect to its right factor. -/
theorem ref (D : (⟨2, ![8320, 3200]⟩ : Shape).Idx → EReal) (H : (⟨2, ![8320, 1024]⟩ : Shape).Idx → EReal) (G : (⟨2, ![1, 1024]⟩ : Shape).Idx → EReal) :
    val_main_v15 (F := Ideal) D H G = Cert.Kernel9Ideal.Gen.outF D H G := by
  rw [← val_main_v15_eq]
  funext x
  rw [eta x]
  unfold Cert.Kernel9Ideal.Gen.outF Mlp.rms Mlp.ms
  pointwise
  exact Finset.sum_congr rfl fun n _ => mul_comm _ _
end

open Cert.Reference9Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v15) = Cert.Kernel9Ideal.Gen.outF (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)) :=
  (θ_run defs _ _).mono (fun _ h c =>
    ⟨((h c).1.trans (Read.val_main_v15_eq _ _ _)).trans (ref _ _ _), (h c).2⟩) (Value.run (F := Ideal) m g)

/-- The reference's frame: it declares no semaphore. -/
theorem reference_frame : Cert.quiescent_Reference9Ideal := fun m g _ =>
  (θ_run Cert.Reference9Ideal.defs _ _).mono (fun r h => ⟨fun c => (h c).2, sem_eq_zero_of_no_sems (by decide) r.2⟩) (reference_run m g)

open Cert.Kernel9Ideal in
/-- The kernel's results are the reference's. -/
theorem algebraic : Cert.algebraic_Kernel9Ideal_Reference9Ideal := by
  intro m g m' g' _ hagree
  refine ⟨fun c => Gen.outF (m ((c.tc : Thread _ _).loc main_arg0)) (m ((c.tc : Thread _ _).loc main_arg1)) (m ((c.tc : Thread _ _).loc main_arg2)), ?_, ?_⟩
  · exact (θ_run defs _ _).mono (fun _ h c => ⟨(h c).1.trans (Gen.arr2 m c), (h c).2⟩) (Value.run_blocks (F := Ideal) m g)
  · refine (θ_run Cert.Reference9Ideal.defs _ _).mono (fun _ h c => ?_) (reference_run m' g')
    obtain ⟨h0, hk⟩ := h c
    obtain ⟨e0, e1, e2⟩ := hagree c
    rw [e0, e1, e2] at h0
    exact ⟨h0, hk⟩

end Cert.Proof.InW
-- ==== Proof.Proj.lean ====
/- What the call of the input projection leaves in its result. -/
module
public import proofs.«01_k».proof.Proof.Gen.Kernel10Ideal.Value
public import Idealize.ShloMosaic.Lib.Pipeline.ValueKit
public import Idealize.ShloMosaic.Lib.Pointwise
public import proofs.«01_k».proof.Proof.MlpSpec
public import proofs.«01_k».proof.Proof.ProjSpec
@[expose] public section
set_option maxRecDepth 16384
noncomputable section
namespace Cert.Kernel10Ideal.Gen
open Idealize.ShloMosaic Idealize.ShloMosaic.TcCoe Idealize.SL.Sem Mlp

variable (m : (ℓ : Loc nD τ sig) → Buf (Elt Ideal) ℓ) (c : Dev nD)

abbrev Hm : (⟨2, ![8320, 1024]⟩ : Shape).Idx → EReal := m ((c.tc : Thread nD τ).loc main_arg0)
abbrev Gm : (⟨2, ![1, 1024]⟩ : Shape).Idx → EReal := m ((c.tc : Thread nD τ).loc main_arg1)
abbrev Wm : (⟨2, ![1024, 3200]⟩ : Shape).Idx → EReal := m ((c.tc : Thread nD τ).loc main_arg2)

theorem lt13 (t : Fin cfg0.N) : t.val < 13 := by
  have := t.isLt
  have h : cfg0.N = 13 := N_0
  omega

/-- The lines of the root mean square norm. -/
def rmsLines (H : (⟨2, ![8320, 1024]⟩ : Shape).Idx → EReal) (G : (⟨2, ![1, 1024]⟩ : Shape).Idx → EReal) : (⟨2, ![8320, 1024]⟩ : Shape).Idx → EReal :=
  mulf (F := Ideal) (φ := .f32) (mulf (F := Ideal) (φ := .f32) H (broadcastInDim S8320x1024 ![0, 1] bcast_S8320x1_S8320x1024_0_1 (Host.rsqrt (F := Ideal) (φ := .f32) (addf (F := Ideal) (φ := .f32) (Host.divf (F := Ideal) (φ := .f32) (broadcastInDim S8320x1 ![0] bcast_S8320_S8320x1_0 (Host.reduceAdd (F := Ideal) (φ := .f32) (mulf (F := Ideal) (φ := .f32) H H) (constant (F := Ideal) S_ FTy.f32 0#32) reducesTo_S8320x1024_S8320_d1 h_S_)) (broadcastInDim S8320x1 ![] bcast_S_S8320x1 (constant (F := Ideal) S_ FTy.f32 0x44800000#32))) (broadcastInDim S8320x1 ![] bcast_S_S8320x1 (constant (F := Ideal) S_ FTy.f32 0x358637BD#32)))))) (broadcastInDim S8320x1024 ![0, 1] bcast_S1x1024_S8320x1024_0_1 G)

theorem u_lines : (V m c main_v12 : (⟨2, ![8320, 1024]⟩ : Shape).Idx → EReal) = rmsLines (Hm m c) (Gm m c) := by
  unfold V
  simp only [hostOps0, List.flatten_cons, List.flatten_nil, List.append_nil, List.cons_append, List.nil_append]
  after_results
  rfl

theorem rms_at (H : (⟨2, ![8320, 1024]⟩ : Shape).Idx → EReal) (G : (⟨2, ![1, 1024]⟩ : Shape).Idx → EReal) (n : Fin 8320) (k : Fin 1024) :
    rmsLines H G (ix2 n k) = rms H G n k := by
  unfold rmsLines rms ms
  pointwise

/-- The normalised rows, as the host lines before the call leave them. -/
theorem u_at : (V m c main_v12 : (⟨2, ![8320, 1024]⟩ : Shape).Idx → EReal) = fun x => rms (Hm m c) (Gm m c) ⟨(x 0).val, (x 0).isLt⟩ ⟨(x 1).val, (x 1).isLt⟩ := by
  rw [u_lines]
  funext x
  have hx : x = ix2 (⟨(x 0).val, (x 0).isLt⟩ : Fin 8320) (⟨(x 1).val, (x 1).isLt⟩ : Fin 1024) := by
    funext a
    match a with
    | 0 => rfl
    | 1 => rfl
  exact (congrArg _ hx).trans (rms_at _ _ _ _)

/-- The weights, as the host line before the call leaves them. -/
theorem w_at : (V m c main_v13 : (⟨2, ![1024, 3200]⟩ : Shape).Idx → EReal) = Wm m c := by
  unfold V
  simp only [hostOps0, List.flatten_cons, List.flatten_nil, List.append_nil, List.cons_append, List.nil_append]
  after_results
  rfl

/-- What the body leaves at a place of its block. -/
theorem out_at (x0 : (⟨2, ![640, 1024]⟩ : Shape).Idx → EReal) (x1 : (⟨2, ![1024, 3200]⟩ : Shape).Idx → EReal) (p : Fin 640) (l : Fin 3200) :
    out0_2 (F := Ideal) x0 x1 (ix2 p l) = ∑ k : Fin 1024, x0 (ix2 p k) * x1 (ix2 k l) := by
  frame_out
  pointwise [k0_pay1]

abbrev X0 (t : Fin cfg0.N) : (⟨2, ![640, 1024]⟩ : Shape).Idx → EReal := iblk m c 0 t
abbrev X1 (t : Fin cfg0.N) : (⟨2, ![1024, 3200]⟩ : Shape).Idx → EReal := iblk m c 1 t

theorem idx_0 (t : Fin cfg0.N) : win0_0.index t = ![t.val, 0] :=
  (by decide +kernel : ∀ t : Fin grid0.N, win0_0.index t = ![t.val, 0]) t
theorem idx_1 (t : Fin cfg0.N) : win0_1.index t = ![0, 0] :=
  (by decide +kernel : ∀ t : Fin grid0.N, win0_1.index t = ![0, 0]) t
theorem idx_2 (t : Fin cfg0.N) : win0_2.index t = ![t.val, 0] :=
  (by decide +kernel : ∀ t : Fin grid0.N, win0_2.index t = ![t.val, 0]) t

/-- The product of the normalised rows with the weights. -/
def val (H : (⟨2, ![8320, 1024]⟩ : Shape).Idx → EReal) (G : (⟨2, ![1, 1024]⟩ : Shape).Idx → EReal) (W : (⟨2, ![1024, 3200]⟩ : Shape).Idx → EReal) (n : Fin 8320) (l : Fin 3200) : EReal := ∑ k : Fin 1024, rms H G n k * W (ix2 k l)

theorem blk0 (t : Fin cfg0.N) (p : Fin 640) (k : Fin 1024) : X0 m c t (ix2 p k) = rms (Hm m c) (Gm m c) (⟨640 * t.val + p.val, by have := lt13 t; omega⟩ : Fin 8320) k := by
  refine Eq.trans ?_ (congrFun (u_at m c) (ix2 (⟨640 * t.val + p.val, by have := lt13 t; omega⟩ : Fin 8320) k))
  blk_ext [X0, iblk, idx_0 t]

theorem blk1 (t : Fin cfg0.N) (k : Fin 1024) (l : Fin 3200) : X1 m c t (ix2 k l) = (Wm m c) (ix2 k l) := by
  rw [← w_at m c]
  blk_ext [X1, iblk, idx_1 t]

/-- The result, as the call leaves it. -/
def outF (H : (⟨2, ![8320, 1024]⟩ : Shape).Idx → EReal) (G : (⟨2, ![1, 1024]⟩ : Shape).Idx → EReal) (W : (⟨2, ![1024, 3200]⟩ : Shape).Idx → EReal) : (⟨2, ![8320, 3200]⟩ : Shape).Idx → EReal := fun x => val H G W ⟨(x 0).val, (x 0).isLt⟩ ⟨(x 1).val, (x 1).isLt⟩

theorem arr2 : (dats m 0 c).arrAt 2 cfg0.N = outF (Hm m c) (Gm m c) (Wm m c) := by
  refine (dats m 0 c).arrAt_eq_of_covers 2 _ (by decide +kernel) fun t hf y => ?_
  have h13 := lt13 t
  have y0 : (y 0).val < 640 := (y 0).isLt
  have y1 : (y 1).val < 3200 := (y 1).isLt
  have e : ((cfg0.win 2).blk t).view.emb y = ix2 (⟨640 * t.val + (y 0).val, by omega⟩ : Fin 8320) (⟨(y 1).val, y1⟩ : Fin 3200) := by
    blk_ext [idx_2 t]
  rw [e]
  blk_simp
  rw [after0_2]
  have hy : y = ix2 (⟨(y 0).val, y0⟩ : Fin 640) (⟨(y 1).val, y1⟩ : Fin 3200) := by
    funext a
    match a with
    | 0 => rfl
    | 1 => rfl
  refine (congrArg (out0_2 (F := Ideal) (X0 m c t) (X1 m c t)) hy).trans ((out_at (X0 m c t) (X1 m c t) _ _).trans ?_)
  simp only [blk0, blk1]
  rfl

end Cert.Kernel10Ideal.Gen
-- ==== Proof.ProjClaim.lean ====
/- The input projection is the plain forward lines. -/
module
public import proofs.«01_k».proof.Defs
public import proofs.«01_k».proof.Proof.Proj
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import Idealize.ShloMosaic.Lib.Quiescent
public import Idealize.ShloMosaic.Lib.Pointwise
@[expose] public section
set_option maxRecDepth 16384
noncomputable section
namespace Cert.Proof.Proj
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference10Ideal Cert.Reference10Ideal.Read
/-- The reference's result: the product of the normalised rows with the weights. -/
theorem ref (H : (⟨2, ![8320, 1024]⟩ : Shape).Idx → EReal) (G : (⟨2, ![1, 1024]⟩ : Shape).Idx → EReal) (W : (⟨2, ![1024, 3200]⟩ : Shape).Idx → EReal) :
    val_main_v12 (F := Ideal) H G W = Cert.Kernel10Ideal.Gen.outF H G W := by
  rw [← val_main_v12_eq]
  funext x
  rw [eta x]
  unfold Cert.Kernel10Ideal.Gen.outF Cert.Kernel10Ideal.Gen.val Mlp.rms Mlp.ms
  pointwise
end

open Cert.Reference10Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v12) = Cert.Kernel10Ideal.Gen.outF (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)) :=
  (θ_run defs _ _).mono (fun _ h c =>
    ⟨((h c).1.trans (Read.val_main_v12_eq _ _ _)).trans (ref _ _ _), (h c).2⟩) (Value.run (F := Ideal) m g)

/-- The reference's frame: it declares no semaphore. -/
theorem reference_frame : Cert.quiescent_Reference10Ideal := fun m g _ =>
  (θ_run Cert.Reference10Ideal.defs _ _).mono (fun r h => ⟨fun c => (h c).2, sem_eq_zero_of_no_sems (by decide) r.2⟩) (reference_run m g)

open Cert.Kernel10Ideal in
/-- The kernel's results are the reference's. -/
theorem algebraic : Cert.algebraic_Kernel10Ideal_Reference10Ideal := by
  intro m g m' g' _ hagree
  refine ⟨fun c => Gen.outF (m ((c.tc : Thread _ _).loc main_arg0)) (m ((c.tc : Thread _ _).loc main_arg1)) (m ((c.tc : Thread _ _).loc main_arg2)), ?_, ?_⟩
  · exact (θ_run defs _ _).mono (fun _ h c => ⟨(h c).1.trans (Gen.arr2 m c), (h c).2⟩) (Value.run_blocks (F := Ideal) m g)
  · refine (θ_run Cert.Reference10Ideal.defs _ _).mono (fun _ h c => ?_) (reference_run m' g')
    obtain ⟨h0, hk⟩ := h c
    obtain ⟨e0, e1, e2⟩ := hagree c
    rw [e0, e1, e2] at h0
    exact ⟨h0, hk⟩

end Cert.Proof.Proj
-- ==== Proof.Pw1In.lean ====
/- What the call that computes the gradient at the input of the conformer's normalisation leaves in its result. -/
module
public import proofs.«01_k».proof.Proof.Gen.Kernel11Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel11Ideal.Gen
open Idealize.ShloMosaic Idealize.ShloMosaic.TcCoe Idealize.SL.Sem Mlp

variable (m : (ℓ : Loc nD τ sig) → Buf (Elt Ideal) ℓ) (c : Dev nD)

abbrev DRm : (⟨2, ![8320, 2048]⟩ : Shape).Idx → EReal := m ((c.tc : Thread nD τ).loc main_arg0)
abbrev Wm : (⟨2, ![1024, 2048]⟩ : Shape).Idx → EReal := m ((c.tc : Thread nD τ).loc main_arg1)
abbrev Hm : (⟨2, ![8320, 1024]⟩ : Shape).Idx → EReal := m ((c.tc : Thread nD τ).loc main_arg2)
abbrev Gm : (⟨2, ![1, 1024]⟩ : Shape).Idx → EReal := m ((c.tc : Thread nD τ).loc main_arg3)
abbrev DOm : (⟨2, ![8320, 1024]⟩ : Shape).Idx → EReal := m ((c.tc : Thread nD τ).loc main_arg4)

theorem lt13 (t : Fin cfg0.N) : t.val < 13 := by
  have := t.isLt
  have h : cfg0.N = 13 := N_0
  omega

/-- The weights as the call takes them, by the devices' columns. -/
abbrev byCols (W : (⟨2, ![1024, 2048]⟩ : Shape).Idx → EReal) : (⟨4, ![8, 1, 1024, 256]⟩ : Shape).Idx → EReal :=
  broadcastInDim S8x1x1024x256 ![0, 2, 3] bcast_S8x1024x256_S8x1x1024x256_0_2_3
    (transpose S8x1024x256 [1, 0, 2] (shapeCast S1024x8x256 W shapeCasts_S1024x2048_S1024x8x256) transposes_S1024x8x256_S8x1024x256_1_0_2)

theorem w_at : (V m c main_v4 : (⟨4, ![8, 1, 1024, 256]⟩ : Shape).Idx → EReal) = byCols (Wm m c) := by
  unfold V
  simp only [hostOps0, List.flatten_cons, List.flatten_nil, List.append_nil, List.cons_append, List.nil_append]
  after_results
  rfl

theorem byCols_at (W : (⟨2, ![1024, 2048]⟩ : Shape).Idx → EReal) (d : Fin 8) (k : Fin 1024) (l : Fin 256) :
    byCols W (ix4 d 0 k l) = W (ix2 k ⟨256 * d.val + l.val, by omega⟩) := by
  pointwise
  exact congrArg (fun q : Fin 2048 => W (ix2 k q)) (Fin.ext (by show d.val * 256 + l.val = 256 * d.val + l.val; omega))

theorem dr_at : (V m c main_v0 : (⟨2, ![8320, 2048]⟩ : Shape).Idx → EReal) = DRm m c := by
  unfold V
  simp only [hostOps0, List.flatten_cons, List.flatten_nil, List.append_nil, List.cons_append, List.nil_append]
  after_results
  rfl

abbrev X0 (t : Fin cfg0.N) : (⟨2, ![640, 2048]⟩ : Shape).Idx → EReal := iblk m c 0 t
abbrev X1 (t : Fin cfg0.N) : (⟨4, ![8, 1, 1024, 256]⟩ : Shape).Idx → EReal := iblk m c 1 t
abbrev X2 (t : Fin cfg0.N) : (⟨2, ![640, 1024]⟩ : Shape).Idx → EReal := iblk m c 2 t
abbrev X3 (t : Fin cfg0.N) : (⟨2, ![1, 1024]⟩ : Shape).Idx → EReal := iblk m c 3 t
abbrev X4 (t : Fin cfg0.N) : (⟨2, ![640, 1024]⟩ : Shape).Idx → EReal := iblk m c 4 t

/-- The product of a block of the gradient with the transposed weights, one device's columns after the other. -/
def duBlk (x0 : (⟨2, ![640, 2048]⟩ : Shape).Idx → EReal) (x1 : (⟨4, ![8, 1, 1024, 256]⟩ : Shape).Idx → EReal) (p : Fin 640) (k : Fin 1024) : EReal :=
  ∑ d : Fin 8, ∑ l : Fin 256, x0 (ix2 p ⟨256 * d.val + l.val, by omega⟩) * x1 (ix4 d 0 k l)

/-- The row that the body leaves in the gradient's block. -/
theorem out5 (t : Fin cfg0.N) (p : Fin 640) (k : Fin 1024) : (outsAt0 m c t.val t.isLt).1 (ix2 p k)
    = bwdRow (fun j => X2 m c t (ix2 p j)) (fun j => X3 m c t (ix2 0 j)) (duBlk (X0 m c t) (X1 m c t) p) (fun j => X4 m c t (ix2 p j)) k := by
  by_cases h : t.val % 13 = 0
  · rw [outsAt0_A m c t h]
    dsimp only
    unfold X0 X1 X2 X3 X4
    generalize iblk m c 0 t = x0
    generalize iblk m c 1 t = x1
    generalize iblk m c 2 t = x2
    generalize iblk m c 3 t = x3
    generalize iblk m c 4 t = x4
    frame_out
    unfold bwdRow rinv duBlk
    simp only [Fin.sum_univ_eight]
    pointwise [k0_pay1, k0_pay2, k0_pay3, k0_pay4, k0_pay5, k0_pay6, k0_pay7]
  · rw [outsAt0_B m c t h]
    dsimp only
    unfold X0 X1 X2 X3 X4
    generalize iblk m c 0 t = x0
    generalize iblk m c 1 t = x1
    generalize iblk m c 2 t = x2
    generalize iblk m c 3 t = x3
    generalize iblk m c 4 t = x4
    frame_out
    unfold bwdRow rinv duBlk
    simp only [Fin.sum_univ_eight]
    pointwise [k0_pay1, k0_pay2, k0_pay3, k0_pay4, k0_pay5, k0_pay6, k0_pay7]

/-- What a point adds to the gradient of the gain. -/
theorem out6_A (t : Fin cfg0.N) (h : t.val % 13 = 0) (k : Fin 1024) : (outsAt0 m c t.val t.isLt).2 (ix2 0 k)
    = 0 + ∑ p : Fin 640, duBlk (X0 m c t) (X1 m c t) p k * (X2 m c t (ix2 p k) * rinv (fun j => X2 m c t (ix2 p j))) := by
  rw [outsAt0_A m c t h]
  dsimp only
  unfold X0 X1 X2
  generalize iblk m c 0 t = x0
  generalize iblk m c 1 t = x1
  generalize iblk m c 2 t = x2
  generalize iblk m c 3 t = x3
  generalize iblk m c 4 t = x4
  frame_out
  unfold rinv duBlk
  simp only [Fin.sum_univ_eight]
  pointwise [k0_pay1, k0_pay2, k0_pay3, k0_pay4, k0_pay5, k0_pay6, k0_pay7]

theorem out6_B (t : Fin cfg0.N) (h : ¬ t.val % 13 = 0) (k : Fin 1024) : (outsAt0 m c t.val t.isLt).2 (ix2 0 k)
    = (outsAt0 m c (t.val - 1) (Nat.lt_of_le_of_lt (Nat.sub_le _ _) t.isLt)).2 (ix2 0 k)
      + ∑ p : Fin 640, duBlk (X0 m c t) (X1 m c t) p k * (X2 m c t (ix2 p k) * rinv (fun j => X2 m c t (ix2 p j))) := by
  rw [outsAt0_B m c t h]
  generalize (outsAt0 m c (t.val - 1) (Nat.lt_of_le_of_lt (Nat.sub_le _ _) t.isLt)).2 = xo
  dsimp only
  unfold X0 X1 X2
  generalize iblk m c 0 t = x0
  generalize iblk m c 1 t = x1
  generalize iblk m c 2 t = x2
  generalize iblk m c 3 t = x3
  generalize iblk m c 4 t = x4
  frame_out
  unfold rinv duBlk
  simp only [Fin.sum_univ_eight]
  pointwise [k0_pay1, k0_pay2, k0_pay3, k0_pay4, k0_pay5, k0_pay6, k0_pay7]
  all_goals exact congrArg (· + _) (congrFun (Memref.IsWhole.read_unread _ _) _)

theorem idx_0 (t : Fin cfg0.N) : win0_0.index t = ![t.val, 0] :=
  (by decide +kernel : ∀ t : Fin grid0.N, win0_0.index t = ![t.val, 0]) t
theorem idx_1 (t : Fin cfg0.N) : win0_1.index t = ![0, 0, 0, 0] :=
  (by decide +kernel : ∀ t : Fin grid0.N, win0_1.index t = ![0, 0, 0, 0]) t
theorem idx_2 (t : Fin cfg0.N) : win0_2.index t = ![t.val, 0] :=
  (by decide +kernel : ∀ t : Fin grid0.N, win0_2.index t = ![t.val, 0]) t
theorem idx_3 (t : Fin cfg0.N) : win0_3.index t = ![0, 0] :=
  (by decide +kernel : ∀ t : Fin grid0.N, win0_3.index t = ![0, 0]) t
theorem idx_4 (t : Fin cfg0.N) : win0_4.index t = ![t.val, 0] :=
  (by decide +kernel : ∀ t : Fin grid0.N, win0_4.index t = ![t.val, 0]) t
theorem idx_5 (t : Fin cfg0.N) : win0_5.index t = ![t.val, 0] :=
  (by decide +kernel : ∀ t : Fin grid0.N, win0_5.index t = ![t.val, 0]) t
theorem idx_6 (t : Fin cfg0.N) : win0_6.index t = ![0, 0] :=
  (by decide +kernel : ∀ t : Fin grid0.N, win0_6.index t = ![0, 0]) t

theorem blk0 (t : Fin cfg0.N) (p : Fin 640) (k : Fin 2048) : X0 m c t (ix2 p k) = DRm m c (ix2 ⟨640 * t.val + p.val, by have := lt13 t; omega⟩ k) := by
  rw [← dr_at m c]
  blk_ext [X0, iblk, idx_0 t]

theorem blk1 (t : Fin cfg0.N) (d : Fin 8) (k : Fin 1024) (l : Fin 256) : X1 m c t (ix4 d 0 k l) = Wm m c (ix2 k ⟨256 * d.val + l.val, by omega⟩) := by
  rw [← byCols_at (Wm m c) d k l, ← w_at m c]
  blk_ext [X1, iblk, idx_1 t]

theorem blk2 (t : Fin cfg0.N) (p : Fin 640) (k : Fin 1024) : X2 m c t (ix2 p k) = Hm m c (ix2 ⟨640 * t.val + p.val, by have := lt13 t; omega⟩ k) := by
  blk_ext [X2, iblk, V_main_arg2, idx_2 t]

theorem blk3 (t : Fin cfg0.N) (k : Fin 1024) : X3 m c t (ix2 0 k) = Gm m c (ix2 0 k) := by
  blk_ext [X3, iblk, V_main_arg3, idx_3 t]

theorem blk4 (t : Fin cfg0.N) (p : Fin 640) (k : Fin 1024) : X4 m c t (ix2 p k) = DOm m c (ix2 ⟨640 * t.val + p.val, by have := lt13 t; omega⟩ k) := by
  blk_ext [X4, iblk, V_main_arg4, idx_4 t]

/-- A sum over the columns, device by device. -/
theorem sum_cols (f : Fin 2048 → EReal) : ∑ d : Fin 8, ∑ l : Fin 256, f ⟨256 * d.val + l.val, by omega⟩ = ∑ j : Fin 2048, f j :=
  (Fintype.sum_prod_type' (fun (d : Fin 8) (l : Fin 256) => f ⟨256 * d.val + l.val, by omega⟩)).symm.trans
    (Fintype.sum_equiv finProdFinEquiv _ (fun j : Fin (8 * 256) => f j) fun q => congrArg f (Fin.ext (by
      show 256 * q.1.val + q.2.val = q.2.val + 256 * q.1.val
      omega)))

/-- The gradient at the normalisation's output. -/
def du (D : (⟨2, ![8320, 2048]⟩ : Shape).Idx → EReal) (W : (⟨2, ![1024, 2048]⟩ : Shape).Idx → EReal) (n : Fin 8320) (k : Fin 1024) : EReal :=
  ∑ j : Fin 2048, D (ix2 n j) * W (ix2 k j)

theorem du_at (t : Fin cfg0.N) (p : Fin 640) (k : Fin 1024) :
    duBlk (X0 m c t) (X1 m c t) p k = du (DRm m c) (Wm m c) ⟨640 * t.val + p.val, by have := lt13 t; omega⟩ k := by
  unfold duBlk du
  simp only [blk0, blk1]
  exact sum_cols fun j => DRm m c (ix2 ⟨640 * t.val + p.val, by have := lt13 t; omega⟩ j) * Wm m c (ix2 k j)

/-- The gradient at the input of the normalisation and the gradient of the gain, as the call leaves them. -/
def outH (D : (⟨2, ![8320, 2048]⟩ : Shape).Idx → EReal) (W : (⟨2, ![1024, 2048]⟩ : Shape).Idx → EReal) (H : (⟨2, ![8320, 1024]⟩ : Shape).Idx → EReal)
    (G : (⟨2, ![1, 1024]⟩ : Shape).Idx → EReal) (O : (⟨2, ![8320, 1024]⟩ : Shape).Idx → EReal) : (⟨2, ![8320, 1024]⟩ : Shape).Idx → EReal :=
  fun x => bwdRow (fun j => H (ix2 ⟨(x 0).val, (x 0).isLt⟩ j)) (fun j => G (ix2 0 j)) (du D W ⟨(x 0).val, (x 0).isLt⟩) (fun j => O (ix2 ⟨(x 0).val, (x 0).isLt⟩ j)) ⟨(x 1).val, (x 1).isLt⟩

def outG (D : (⟨2, ![8320, 2048]⟩ : Shape).Idx → EReal) (W : (⟨2, ![1024, 2048]⟩ : Shape).Idx → EReal) (H : (⟨2, ![8320, 1024]⟩ : Shape).Idx → EReal) :
    (⟨2, ![1, 1024]⟩ : Shape).Idx → EReal :=
  fun x => ∑ n : Fin 8320, du D W n ⟨(x 1).val, (x 1).isLt⟩ * (H (ix2 n ⟨(x 1).val, (x 1).isLt⟩) * rinv (fun j => H (ix2 n j)))

theorem arr5 : (dats m 0 c).arrAt 5 cfg0.N = outH (DRm m c) (Wm m c) (Hm m c) (Gm m c) (DOm m c) := by
  refine (dats m 0 c).arrAt_eq_of_covers 5 _ (by decide +kernel) fun t hf y => ?_
  have h13 := lt13 t
  have y0 : (y 0).val < 640 := (y 0).isLt
  have y1 : (y 1).val < 1024 := (y 1).isLt
  have e : ((cfg0.win 5).blk t).view.emb y = ix2 (⟨640 * t.val + (y 0).val, by omega⟩ : Fin 8320) (⟨(y 1).val, y1⟩ : Fin 1024) := by
    blk_ext [idx_5 t]
  rw [e]
  blk_simp
  rw [after0_5]
  have hy : y = ix2 (⟨(y 0).val, y0⟩ : Fin 640) (⟨(y 1).val, y1⟩ : Fin 1024) := by
    funext a
    match a with
    | 0 => rfl
    | 1 => rfl
  refine (congrArg (outsAt0 m c t.val t.isLt).1 hy).trans ((out5 m c t _ _).trans ?_)
  have hd : duBlk (X0 m c t) (X1 m c t) (⟨(y 0).val, y0⟩ : Fin 640) = du (DRm m c) (Wm m c) ⟨640 * t.val + (y 0).val, by omega⟩ := funext fun k => du_at m c t _ k
  rw [hd]
  simp only [blk2, blk3, blk4]
  rfl

/-- One row's term of the gradient of the gain, zero past the last row. -/
def dgN (k : Fin 1024) (n : ℕ) : EReal :=
  if h : n < 8320 then du (DRm m c) (Wm m c) ⟨n, h⟩ k * (Hm m c (ix2 ⟨n, h⟩ k) * rinv (fun j => Hm m c (ix2 ⟨n, h⟩ j))) else 0

/-- What point `t` adds to the gradient of the gain. -/
def addend (t : ℕ) (y : (⟨2, ![1, 1024]⟩ : Shape).Idx) : EReal := ∑ p : Fin 640, dgN m c ⟨(y 1).val, (y 1).isLt⟩ (640 * t + p.val)

theorem eta (y : (⟨2, ![1, 1024]⟩ : Shape).Idx) : y = ix2 (0 : Fin 1) (⟨(y 1).val, (y 1).isLt⟩ : Fin 1024) := by
  funext a
  match a with
  | 0 => exact Fin.ext (by have h : (y 0).val < 1 := (y 0).isLt; show (y 0).val = 0; omega)
  | 1 => rfl

theorem add_eq (t : Fin cfg0.N) (y : (⟨2, ![1, 1024]⟩ : Shape).Idx) :
    ∑ p : Fin 640, duBlk (X0 m c t) (X1 m c t) p ⟨(y 1).val, (y 1).isLt⟩ * (X2 m c t (ix2 p ⟨(y 1).val, (y 1).isLt⟩) * rinv (fun j => X2 m c t (ix2 p j))) = addend m c t.val y := by
  refine Finset.sum_congr rfl fun p _ => ?_
  have h13 := lt13 t
  rw [dgN, dif_pos (by omega)]
  simp only [du_at, blk2]

theorem step_A (t : Fin cfg0.N) (h0 : t.val % 13 = 0) (y : (⟨2, ![1, 1024]⟩ : Shape).Idx) :
    (outsAt0 m c t.val t.isLt).2 y = 0 + addend m c t.val y := by
  rw [← add_eq]
  exact (congrArg (outsAt0 m c t.val t.isLt).2 (eta y)).trans (out6_A m c t h0 _)

theorem step_B (t : Fin cfg0.N) (h0 : ¬ t.val % 13 = 0) (y : (⟨2, ![1, 1024]⟩ : Shape).Idx) :
    (outsAt0 m c t.val t.isLt).2 y = (outsAt0 m c (t.val - 1) (Nat.lt_of_le_of_lt (Nat.sub_le _ _) t.isLt)).2 y + addend m c t.val y := by
  rw [← add_eq]
  refine (congrArg (outsAt0 m c t.val t.isLt).2 (eta y)).trans ((out6_B m c t h0 _).trans ?_)
  rw [← eta y]

theorem last (t : Fin cfg0.N) (h : t.val % 13 = 12) (y : (⟨2, ![1, 1024]⟩ : Shape).Idx) :
    (outsAt0 m c t.val t.isLt).2 y = ∑ n ∈ Finset.range 8320, dgN m c ⟨(y 1).val, (y 1).isLt⟩ n := by
  have h13 := lt13 t
  rw [Pipeline.eq_sum_of_reset_step_apply_of_mod (fun n h => (outsAt0 m c n h).2) 13 (fun _ => (0 : EReal))
    (addend m c) (step_A m c) (step_B m c) t h y, zero_add,
    show 8320 = 13 * 640 from rfl, Finset.sum_range_mul_split 13 640]
  refine Finset.sum_congr rfl fun k hk => ?_
  rw [Finset.sum_range, addend]
  refine Finset.sum_congr rfl fun p _ => ?_
  rw [show 13 * (t.val / 13) + k = k by omega, Nat.mul_comm]

theorem arr6 : (dats m 0 c).arrAt 6 cfg0.N = outG (DRm m c) (Wm m c) (Hm m c) := by
  refine (dats m 0 c).arrAt_eq_of_covers 6 _ (by decide +kernel) fun t hf y => ?_
  have e : ((cfg0.win 6).blk t).view.emb y = ix2 (⟨(y 0).val, (y 0).isLt⟩ : Fin 1) (⟨(y 1).val, (y 1).isLt⟩ : Fin 1024) := by
    blk_ext [idx_6 t]
  rw [e]
  blk_simp
  rw [after0_6]
  refine (last m c t ((flush0_6 t).mp hf) y).trans ?_
  rw [Finset.sum_range]
  refine Finset.sum_congr rfl fun n _ => ?_
  rw [dgN, dif_pos n.isLt]
  rfl

end Cert.Kernel11Ideal.Gen
-- ==== Proof.Pw1InClaim.lean ====
/- The gradients at the normalisation are the derivatives of the plain forward lines. -/
module
public import proofs.«01_k».proof.Defs
public import proofs.«01_k».proof.Proof.Pw1In
public import proofs.«01_k».proof.Proof.DuMath
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import Idealize.ShloMosaic.Lib.Quiescent
public import Idealize.ShloMosaic.Lib.Pointwise
@[expose] public section
set_option maxRecDepth 16384
noncomputable section
namespace Cert.Proof.Pw1In
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference11Ideal Cert.Reference11Ideal.Read
/-- The reference's results: the derivative at the input of the normalisation, and at the gain. -/
theorem refH (D : (⟨2, ![8320, 2048]⟩ : Shape).Idx → EReal) (W : (⟨2, ![1024, 2048]⟩ : Shape).Idx → EReal) (H : (⟨2, ![8320, 1024]⟩ : Shape).Idx → EReal) (G : (⟨2, ![1, 1024]⟩ : Shape).Idx → EReal) (O : (⟨2, ![8320, 1024]⟩ : Shape).Idx → EReal) :
    val_main_v36 (F := Ideal) D W H G O = Cert.Kernel11Ideal.Gen.outH D W H G O := by
  funext x
  unfold Cert.Kernel11Ideal.Gen.outH
  rw [eta x]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_cst_0, val_main_cst_1, val_main_cst_2, val_main_cst_3, val_main_cst_4, val_main_cst_5, val_main_cst_6]
  simp only [Finset.univ_unique, Finset.sum_const, Finset.card_singleton, one_smul]
  rw [show O x = O (ix2 (x 0) (x 1)) from congrArg O (eta x), show H x = H (ix2 (x 0) (x 1)) from congrArg H (eta x)]
  exact Mlp.bwdRow_eq (fun j => H (ix2 (x 0) j)) (fun j => G (ix2 0 j)) (Cert.Kernel11Ideal.Gen.du D W (x 0)) (fun j => O (ix2 (x 0) j)) (x 1) _ rfl

theorem refG (D : (⟨2, ![8320, 2048]⟩ : Shape).Idx → EReal) (W : (⟨2, ![1024, 2048]⟩ : Shape).Idx → EReal) (H : (⟨2, ![8320, 1024]⟩ : Shape).Idx → EReal) :
    val_main_v19 (F := Ideal) D W H = Cert.Kernel11Ideal.Gen.outG D W H := by
  rw [← val_main_v19_eq]
  funext x
  unfold Cert.Kernel11Ideal.Gen.outG Mlp.rinv Cert.Kernel11Ideal.Gen.du
  rw [eta x]
  pointwise
  exact Finset.sum_congr rfl fun n _ => mul_comm _ _
end

open Cert.Reference11Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v36) = Cert.Kernel11Ideal.Gen.outH (m ((c.tc : Thread _ _).loc main_arg0)) (m ((c.tc : Thread _ _).loc main_arg1)) (m ((c.tc : Thread _ _).loc main_arg2)) (m ((c.tc : Thread _ _).loc main_arg3)) (m ((c.tc : Thread _ _).loc main_arg4))
      ∧ r.2.mem ((c.tc : Thread _ _).loc main_v19) = Cert.Kernel11Ideal.Gen.outG (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)
      ∧ r.2.mem ((c.tc : Thread _ _).loc main_arg4) = m ((c.tc : Thread _ _).loc main_arg4)) :=
  (θ_run defs _ _).mono (fun _ h c =>
    ⟨((h c).1.trans (Read.val_main_v36_eq _ _)).trans (refH _ _ _ _ _),
     ((h c).2.1.trans (Read.val_main_v19_eq _ _ _)).trans (refG _ _ _), (h c).2.2⟩) (Value.run (F := Ideal) m g)

/-- The reference's frame: it declares no semaphore. -/
theorem reference_frame : Cert.quiescent_Reference11Ideal := fun m g _ =>
  (θ_run Cert.Reference11Ideal.defs _ _).mono (fun r h => ⟨fun c => (h c).2.2, sem_eq_zero_of_no_sems (by decide) r.2⟩) (reference_run m g)

open Cert.Kernel11Ideal in
/-- The kernel's results are the reference's. -/
theorem algebraic : Cert.algebraic_Kernel11Ideal_Reference11Ideal := by
  intro m g m' g' _ hagree
  refine ⟨fun c => Gen.outH (m ((c.tc : Thread _ _).loc main_arg0)) (m ((c.tc : Thread _ _).loc main_arg1)) (m ((c.tc : Thread _ _).loc main_arg2)) (m ((c.tc : Thread _ _).loc main_arg3)) (m ((c.tc : Thread _ _).loc main_arg4)), fun c => Gen.outG (m ((c.tc : Thread _ _).loc main_arg0)) (m ((c.tc : Thread _ _).loc main_arg1)) (m ((c.tc : Thread _ _).loc main_arg2)), ?_, ?_⟩
  · exact (θ_run defs _ _).mono (fun _ h c => ⟨(h c).1.trans (Gen.arr5 m c), (h c).2.1.trans (Gen.arr6 m c), (h c).2.2⟩) (Value.run_blocks (F := Ideal) m g)
  · refine (θ_run Cert.Reference11Ideal.defs _ _).mono (fun _ h c => ?_) (reference_run m' g')
    obtain ⟨h0, h1, hk⟩ := h c
    obtain ⟨e0, e1, e2, e3, e4⟩ := hagree c
    rw [e0, e1, e2, e3, e4] at h0
    rw [e0, e1, e2] at h1
    exact ⟨h0, h1, hk⟩

end Cert.Proof.Pw1In
-- ==== Proof.Pw1W.lean ====
/- What the call that computes the gradient of the first pointwise weights leaves in its result. -/
module
public import proofs.«01_k».proof.Proof.Gen.Kernel12Ideal.Value
public import Idealize.ShloMosaic.Lib.Pipeline.ValueKit
public import Idealize.ShloMosaic.Lib.Pipeline.ReadBack
public import Idealize.ShloMosaic.Lib.Pointwise
public import proofs.«01_k».proof.Proof.MlpSpec
@[expose] public section
set_option maxRecDepth 16384
noncomputable section
namespace Cert.Kernel12Ideal.Gen
open Idealize.ShloMosaic Idealize.ShloMosaic.TcCoe Idealize.SL.Sem Mlp

variable (m : (ℓ : Loc nD τ sig) → Buf (Elt Ideal) ℓ) (c : Dev nD)

abbrev DRm : (⟨2, ![8320, 2048]⟩ : Shape).Idx → EReal := m ((c : Thread nD τ).loc main_arg0)
abbrev Hm : (⟨2, ![8320, 1024]⟩ : Shape).Idx → EReal := m ((c : Thread nD τ).loc main_arg1)
abbrev Gm : (⟨2, ![1, 1024]⟩ : Shape).Idx → EReal := m ((c : Thread nD τ).loc main_arg2)

theorem idx_0 : ∀ t : Fin cfg0.N, win0_0.index t = ![t.val % 5, 0] := by decide +kernel
theorem idx_1 : ∀ t : Fin cfg0.N, win0_1.index t = ![t.val % 5, 0] := by decide +kernel
theorem idx_2 : ∀ t : Fin cfg0.N, win0_2.index t = ![0, 0, 0] := by decide +kernel

/-- The lines of the root mean square norm. -/
def rmsLines (H : (⟨2, ![8320, 1024]⟩ : Shape).Idx → EReal) (G : (⟨2, ![1, 1024]⟩ : Shape).Idx → EReal) : (⟨2, ![8320, 1024]⟩ : Shape).Idx → EReal :=
  mulf (F := Ideal) (φ := .f32) (mulf (F := Ideal) (φ := .f32) H (broadcastInDim S8320x1024 ![0, 1] bcast_S8320x1_S8320x1024_0_1 (Host.rsqrt (F := Ideal) (φ := .f32) (addf (F := Ideal) (φ := .f32) (Host.divf (F := Ideal) (φ := .f32) (broadcastInDim S8320x1 ![0] bcast_S8320_S8320x1_0 (Host.reduceAdd (F := Ideal) (φ := .f32) (mulf (F := Ideal) (φ := .f32) H H) (constant (F := Ideal) S_ FTy.f32 0#32) reducesTo_S8320x1024_S8320_d1 h_S_)) (broadcastInDim S8320x1 ![] bcast_S_S8320x1 (constant (F := Ideal) S_ FTy.f32 0x44800000#32))) (broadcastInDim S8320x1 ![] bcast_S_S8320x1 (constant (F := Ideal) S_ FTy.f32 0x358637BD#32)))))) (broadcastInDim S8320x1024 ![0, 1] bcast_S1x1024_S8320x1024_0_1 G)

theorem u_lines : (V m c main_v12 : (⟨2, ![8320, 1024]⟩ : Shape).Idx → EReal) = rmsLines (Hm m c) (Gm m c) := by
  unfold V
  simp only [hostOps0, List.flatten_cons, List.flatten_nil, List.append_nil, List.cons_append, List.nil_append]
  after_results
  rfl

theorem rms_at (H : (⟨2, ![8320, 1024]⟩ : Shape).Idx → EReal) (G : (⟨2, ![1, 1024]⟩ : Shape).Idx → EReal) (n : Fin 8320) (k : Fin 1024) :
    rmsLines H G (ix2 n k) = rms H G n k := by
  unfold rmsLines rms ms
  pointwise

theorem dr_at : (V m c main_v13 : (⟨2, ![8320, 2048]⟩ : Shape).Idx → EReal) = DRm m c := by
  unfold V
  simp only [hostOps0, List.flatten_cons, List.flatten_nil, List.append_nil, List.cons_append, List.nil_append]
  after_results
  rfl

/-- Row `n` of column `k` of the normalised input, and of column `l` of the gradient at the product, zero past the last row. -/
def uN (H : (⟨2, ![8320, 1024]⟩ : Shape).Idx → EReal) (G : (⟨2, ![1, 1024]⟩ : Shape).Idx → EReal) (k : Fin 1024) (n : ℕ) : EReal := if h : n < 8320 then rms H G ⟨n, h⟩ k else 0
def drN (D : (⟨2, ![8320, 2048]⟩ : Shape).Idx → EReal) (l : Fin 2048) (n : ℕ) : EReal := if h : n < 8320 then D (ix2 ⟨n, h⟩ l) else 0

theorem lt5 (t : Fin cfg0.N) : t.val < 5 := by
  have := t.isLt
  have h : cfg0.N = 5 := N_0
  omega

/-- The two input blocks of grid point `t`. -/
abbrev X0 (t : Fin cfg0.N) : (⟨2, ![1664, 1024]⟩ : Shape).Idx → EReal := iblk m c 0 t
abbrev X1 (t : Fin cfg0.N) : (⟨2, ![1664, 2048]⟩ : Shape).Idx → EReal := iblk m c 1 t

theorem blk0 (t : Fin cfg0.N) (p : Fin 1664) (k : Fin 1024) : X0 m c t (ix2 p k) = uN (Hm m c) (Gm m c) k (1664 * (t.val % 5) + p.val) := by
  have h := lt5 t
  rw [uN, dif_pos (by omega), ← rms_at, ← u_lines m c]
  blk_ext [X0, iblk, idx_0 t]

theorem blk1 (t : Fin cfg0.N) (p : Fin 1664) (l : Fin 2048) : X1 m c t (ix2 p l) = drN (DRm m c) l (1664 * (t.val % 5) + p.val) := by
  have h := lt5 t
  rw [drN, dif_pos (by omega), ← dr_at m c]
  blk_ext [X1, iblk, idx_1 t]

/-- What point `t` adds to the accumulator. -/
def addend (t : ℕ) (y : (⟨2, ![1024, 2048]⟩ : Shape).Idx) : EReal :=
  ∑ p : Fin 1664, uN (Hm m c) (Gm m c) ⟨(y 0).val, (y 0).isLt⟩ (1664 * (t % 5) + p.val) * drN (DRm m c) ⟨(y 1).val, (y 1).isLt⟩ (1664 * (t % 5) + p.val)

theorem eta (y : (⟨2, ![1024, 2048]⟩ : Shape).Idx) : y = ix2 (⟨(y 0).val, (y 0).isLt⟩ : Fin 1024) (⟨(y 1).val, (y 1).isLt⟩ : Fin 2048) := by
  funext a; match a with | 0 => rfl | 1 => rfl

theorem prod_eq (t : Fin cfg0.N) (y : (⟨2, ![1024, 2048]⟩ : Shape).Idx) :
    ∑ p : Fin 1664, X0 m c t (ix2 p ⟨(y 0).val, (y 0).isLt⟩) * X1 m c t (ix2 p ⟨(y 1).val, (y 1).isLt⟩) = addend m c t.val y :=
  Finset.sum_congr rfl fun p _ => congrArg₂ (· * ·) (blk0 m c t p _) (blk1 m c t p _)

theorem step_A (t : Fin cfg0.N) (h0 : t.val % 5 = 0) (y : (⟨2, ![1024, 2048]⟩ : Shape).Idx) :
    (outsAt0 m c t.val t.isLt).2 y = 0 + addend m c t.val y := by
  rw [← prod_eq, outsAt0_A m c t h0 (by omega), eta y]
  dsimp only
  frame_out
  pointwise [k0_pay1, k0_pay2]

theorem step_B (t : Fin cfg0.N) (h0 : ¬ t.val % 5 = 0) (y : (⟨2, ![1024, 2048]⟩ : Shape).Idx) :
    (outsAt0 m c t.val t.isLt).2 y = (outsAt0 m c (t.val - 1) (Nat.lt_of_le_of_lt (Nat.sub_le _ _) t.isLt)).2 y + addend m c t.val y := by
  rw [← prod_eq]
  by_cases h1 : t.val % 5 = 4
  · rw [outsAt0_C m c t h0 h1, eta y]
    dsimp only
    frame_out
    pointwise [k0_pay1, k0_pay2]
    exact congrArg (· + _) (congrFun (Memref.IsWhole.read_unread _ _) _)
  · rw [outsAt0_B m c t h0 h1, eta y]
    dsimp only
    frame_out
    pointwise [k0_pay1, k0_pay2]
    exact congrArg (· + _) (congrFun (Memref.IsWhole.read_unread _ _) _)

/-- The accumulator's last contents, cut into the devices' columns, are what the point writes back. -/
theorem out_C (t : Fin cfg0.N) (h1 : t.val % 5 = 4) (d : Fin 8) (k : Fin 1024) (l : Fin 256) :
    (outsAt0 m c t.val t.isLt).1 (ix3 d k l) = (outsAt0 m c t.val t.isLt).2 (ix2 k ⟨256 * d.val + l.val, by omega⟩) := by
  rw [outsAt0_C m c t (by omega) h1]
  dsimp only
  frame_out
  have hz : ∀ a : Fin 2, (![0, 0] : Fin 2 → ℕ) a = 0 := by decide
  rw [View.readCov_fill _ _ _ _ _ hz, View.readCov_fill _ _ _ _ _ hz, View.readCov_fill _ _ _ _ _ hz, View.readCov_fill _ _ _ _ _ hz, View.readCov_fill _ _ _ _ _ hz, View.readCov_fill _ _ _ _ _ hz, View.readCov_fill _ _ _ _ _ hz, View.readCov_fill _ _ _ _ _ hz]
  generalize k0_pay2 (F := Ideal) _ _ _ = W
  canon_tiles x hx
  all_goals pointwise [k0_pay3, k0_pay4, k0_pay5, k0_pay6, k0_pay7, k0_pay8, k0_pay9, k0_pay10, k0_pay11]
  all_goals
    change d.val = _ at hx0
    change k.val = _ at hx1
    change l.val = _ at hx2
    have hl := l.isLt
    refine congrArg W (funext fun a => ?_)
  · match a with
    | 0 => exact Fin.ext (by show (x 1).val = k.val; omega)
    | 1 => exact Fin.ext (by show 1792 + (x 2).val = 256 * d.val + l.val; omega)
  · match a with
    | 0 => exact Fin.ext (by show (x 1).val = k.val; omega)
    | 1 => exact Fin.ext (by show 1536 + (x 2).val = 256 * d.val + l.val; omega)
  · match a with
    | 0 => exact Fin.ext (by show (x 1).val = k.val; omega)
    | 1 => exact Fin.ext (by show 1280 + (x 2).val = 256 * d.val + l.val; omega)
  · match a with
    | 0 => exact Fin.ext (by show (x 1).val = k.val; omega)
    | 1 => exact Fin.ext (by show 1024 + (x 2).val = 256 * d.val + l.val; omega)
  · match a with
    | 0 => exact Fin.ext (by show (x 1).val = k.val; omega)
    | 1 => exact Fin.ext (by show 768 + (x 2).val = 256 * d.val + l.val; omega)
  · match a with
    | 0 => exact Fin.ext (by show (x 1).val = k.val; omega)
    | 1 => exact Fin.ext (by show 512 + (x 2).val = 256 * d.val + l.val; omega)
  · match a with
    | 0 => exact Fin.ext (by show (x 1).val = k.val; omega)
    | 1 => exact Fin.ext (by show 256 + (x 2).val = 256 * d.val + l.val; omega)
  · match a with
    | 0 => exact Fin.ext (by show (x 1).val = k.val; omega)
    | 1 => exact Fin.ext (by show (x 2).val = 256 * d.val + l.val; omega)

/-- The accumulator after the last of five points. -/
theorem last (t : Fin cfg0.N) (h : t.val % 5 = 4) (y : (⟨2, ![1024, 2048]⟩ : Shape).Idx) :
    (outsAt0 m c t.val t.isLt).2 y
      = ∑ n ∈ Finset.range 8320, uN (Hm m c) (Gm m c) ⟨(y 0).val, (y 0).isLt⟩ n * drN (DRm m c) ⟨(y 1).val, (y 1).isLt⟩ n := by
  rw [Pipeline.eq_sum_of_reset_step_apply_of_mod (fun n h => (outsAt0 m c n h).2) 5 (fun _ => (0 : EReal))
    (addend m c) (step_A m c) (step_B m c) t h y, zero_add,
    show 8320 = 5 * 1664 from rfl, Finset.sum_range_mul_split 5 1664]
  refine Finset.sum_congr rfl fun k hk => ?_
  have hk : k < 5 := Finset.mem_range.mp hk
  rw [Finset.sum_range, addend]
  refine Finset.sum_congr rfl fun p _ => ?_
  have e1 : (5 * (t.val / 5) + k) % 5 = k := by omega
  rw [e1, Nat.mul_comm]

/-- The gradient of the first pointwise weights, cut into the devices' columns, as the call leaves it. -/
def outF (D : (⟨2, ![8320, 2048]⟩ : Shape).Idx → EReal) (H : (⟨2, ![8320, 1024]⟩ : Shape).Idx → EReal) (G : (⟨2, ![1, 1024]⟩ : Shape).Idx → EReal) :
    (⟨3, ![8, 1024, 256]⟩ : Shape).Idx → EReal :=
  fun x => ∑ n : Fin 8320, rms H G n ⟨(x 1).val, (x 1).isLt⟩ * D (ix2 n ⟨256 * (x 0).val + (x 2).val, by have h0 : (x 0).val < 8 := (x 0).isLt; have h2 : (x 2).val < 256 := (x 2).isLt; omega⟩)

theorem arr2 : (dats m 0 c).arrAt 2 cfg0.N = outF (DRm m c) (Hm m c) (Gm m c) := by
  refine (dats m 0 c).arrAt_eq_of_covers 2 _ (by decide +kernel) fun t hf y => ?_
  have h5 := lt5 t
  have y0 : (y 0).val < 8 := (y 0).isLt
  have y2 : (y 2).val < 256 := (y 2).isLt
  have e : ((cfg0.win 2).blk t).view.emb y = ix3 (⟨(y 0).val, y0⟩ : Fin 8) (⟨(y 1).val, (y 1).isLt⟩ : Fin 1024) (⟨(y 2).val, (y 2).isLt⟩ : Fin 256) := by
    blk_ext [idx_2 t]
  rw [e]
  blk_simp
  rw [after0_2]
  have hy : y = ix3 (⟨(y 0).val, (y 0).isLt⟩ : Fin 8) (⟨(y 1).val, (y 1).isLt⟩ : Fin 1024) (⟨(y 2).val, (y 2).isLt⟩ : Fin 256) := by funext a; match a with | 0 => rfl | 1 => rfl | 2 => rfl
  refine (congrArg (outsAt0 m c t.val t.isLt).1 hy).trans ((out_C m c t ((flush0_2 t).mp hf) _ _ _).trans ((last m c t ((flush0_2 t).mp hf) _).trans ?_))
  rw [Finset.sum_range]
  refine Finset.sum_congr rfl fun n _ => ?_
  rw [uN, dif_pos n.isLt, drN, dif_pos n.isLt]
  rfl

end Cert.Kernel12Ideal.Gen
-- ==== Proof.Pw1WClaim.lean ====
/- The gradient of the first pointwise weights is the derivative of the plain forward lines. -/
module
public import proofs.«01_k».proof.Defs
public import proofs.«01_k».proof.Proof.Pw1W
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import Idealize.ShloMosaic.Lib.Quiescent
public import Idealize.ShloMosaic.Lib.Pointwise
@[expose] public section
set_option maxRecDepth 16384
noncomputable section
namespace Cert.Proof.Pw1W
open Idealize.ShloMosaic Idealize.ShloMosaic.TcCoe Idealize.SL.Sem

theorem eta (x : (⟨3, ![8, 1024, 256]⟩ : Shape).Idx) : x = ix3 (⟨(x 0).val, (x 0).isLt⟩ : Fin 8) (⟨(x 1).val, (x 1).isLt⟩ : Fin 1024) (⟨(x 2).val, (x 2).isLt⟩ : Fin 256) := by
  funext a; match a with | 0 => rfl | 1 => rfl | 2 => rfl

section
open Cert.Reference12Ideal Cert.Reference12Ideal.Read
/-- The reference's result: the derivative of the product with respect to its right factor, cut into the devices' columns. -/
theorem ref (D : (⟨2, ![8320, 2048]⟩ : Shape).Idx → EReal) (H : (⟨2, ![8320, 1024]⟩ : Shape).Idx → EReal) (G : (⟨2, ![1, 1024]⟩ : Shape).Idx → EReal) :
    val_main_v18 (F := Ideal) D H G = Cert.Kernel12Ideal.Gen.outF D H G := by
  rw [← val_main_v18_eq]
  funext x
  rw [eta x]
  unfold Cert.Kernel12Ideal.Gen.outF Mlp.rms Mlp.ms
  pointwise
  refine Finset.sum_congr rfl fun n _ => (mul_comm _ _).trans ?_
  refine congrArg (fun q : Fin 2048 => _ * D (ix2 n q)) (Fin.ext (by show (x 0).val * 256 + (x 2).val = 256 * (x 0).val + (x 2).val; omega))
end

open Cert.Reference12Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v18) = Cert.Kernel12Ideal.Gen.outF (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)) :=
  (θ_run defs _ _).mono (fun _ h c =>
    ⟨((h c).1.trans (Read.val_main_v18_eq _ _ _)).trans (ref _ _ _), (h c).2⟩) (Value.run (F := Ideal) m g)

/-- The reference's frame: it declares no semaphore. -/
theorem reference_frame : Cert.quiescent_Reference12Ideal := fun m g _ =>
  (θ_run Cert.Reference12Ideal.defs _ _).mono (fun r h => ⟨fun c => (h c).2, sem_eq_zero_of_no_sems (by decide) r.2⟩) (reference_run m g)

open Cert.Kernel12Ideal in
/-- The kernel's results are the reference's. -/
theorem algebraic : Cert.algebraic_Kernel12Ideal_Reference12Ideal := by
  intro m g m' g' _ hagree
  refine ⟨fun c => Gen.outF (m ((c.tc : Thread _ _).loc main_arg0)) (m ((c.tc : Thread _ _).loc main_arg1)) (m ((c.tc : Thread _ _).loc main_arg2)), ?_, ?_⟩
  · exact (θ_run defs _ _).mono (fun _ h c => ⟨(h c).1.trans (Gen.arr2 m c), (h c).2⟩) (Value.run_blocks (F := Ideal) m g)
  · refine (θ_run Cert.Reference12Ideal.defs _ _).mono (fun _ h c => ?_) (reference_run m' g')
    obtain ⟨h0, hk⟩ := h c
    obtain ⟨e0, e1, e2⟩ := hagree c
    rw [e0, e1, e2] at h0
    exact ⟨h0, hk⟩

end Cert.Proof.Pw1W
-- ==== Proof.Pw1.lean ====
/- What the call that computes the first pointwise product with its bias leaves in its result. -/
module
public import proofs.«01_k».proof.Proof.Gen.Kernel13Ideal.Value
public import Idealize.ShloMosaic.Lib.Pipeline.ValueKit
public import Idealize.ShloMosaic.Lib.Pointwise
public import proofs.«01_k».proof.Proof.MlpSpec
@[expose] public section
set_option maxRecDepth 16384
noncomputable section
namespace Cert.Kernel13Ideal.Gen
open Idealize.ShloMosaic Idealize.ShloMosaic.TcCoe Idealize.SL.Sem Mlp

variable (m : (ℓ : Loc nD τ sig) → Buf (Elt Ideal) ℓ) (c : Dev nD)

abbrev Hm : (⟨2, ![8320, 1024]⟩ : Shape).Idx → EReal := m ((c.tc : Thread nD τ).loc main_arg0)
abbrev Gm : (⟨2, ![1, 1024]⟩ : Shape).Idx → EReal := m ((c.tc : Thread nD τ).loc main_arg1)
abbrev Wm : (⟨2, ![1024, 2048]⟩ : Shape).Idx → EReal := m ((c.tc : Thread nD τ).loc main_arg2)
abbrev Bm : (⟨2, ![1, 2048]⟩ : Shape).Idx → EReal := m ((c.tc : Thread nD τ).loc main_arg3)

theorem lt13 (t : Fin cfg0.N) : t.val < 13 := by
  have := t.isLt
  have h : cfg0.N = 13 := N_0
  omega

/-- The weights as the call takes them, by the devices' columns. -/
abbrev byCols (W : (⟨2, ![1024, 2048]⟩ : Shape).Idx → EReal) : (⟨4, ![8, 1, 1024, 256]⟩ : Shape).Idx → EReal :=
  broadcastInDim S8x1x1024x256 ![0, 2, 3] bcast_S8x1024x256_S8x1x1024x256_0_2_3
    (transpose S8x1024x256 [1, 0, 2] (shapeCast S1024x8x256 W shapeCasts_S1024x2048_S1024x8x256) transposes_S1024x8x256_S8x1024x256_1_0_2)

theorem w_at : (V m c main_v3 : (⟨4, ![8, 1, 1024, 256]⟩ : Shape).Idx → EReal) = byCols (Wm m c) := by
  unfold V
  simp only [hostOps0, List.flatten_cons, List.flatten_nil, List.append_nil, List.cons_append, List.nil_append]
  after_results
  rfl

theorem byCols_at (W : (⟨2, ![1024, 2048]⟩ : Shape).Idx → EReal) (d : Fin 8) (k : Fin 1024) (l : Fin 256) :
    byCols W (ix4 d 0 k l) = W (ix2 k ⟨256 * d.val + l.val, by omega⟩) := by
  pointwise
  exact congrArg (fun q : Fin 2048 => W (ix2 k q)) (Fin.ext (by show d.val * 256 + l.val = 256 * d.val + l.val; omega))

/-- The normalised rows that the body leaves. -/
theorem u_at (x0 : (⟨2, ![640, 1024]⟩ : Shape).Idx → EReal) (x1 : (⟨2, ![1, 1024]⟩ : Shape).Idx → EReal) (x2 : (⟨4, ![8, 1, 1024, 256]⟩ : Shape).Idx → EReal) (x3 : (⟨2, ![1, 2048]⟩ : Shape).Idx → EReal) (p : Fin 640) (k : Fin 1024) :
    out0_5 (F := Ideal) x0 x1 x2 x3 (ix2 p k) = rmsRow (fun j => x0 (ix2 p j)) (fun j => x1 (ix2 0 j)) k := by
  unfold rmsRow
  frame_out
  pointwise [k0_pay1, k0_pay2, k0_pay3, k0_pay4, k0_pay5, k0_pay6, k0_pay7, k0_pay8, k0_pay9, k0_pay10]

/-- The biased product that the body leaves. -/
theorem out_at (x0 : (⟨2, ![640, 1024]⟩ : Shape).Idx → EReal) (x1 : (⟨2, ![1, 1024]⟩ : Shape).Idx → EReal) (x2 : (⟨4, ![8, 1, 1024, 256]⟩ : Shape).Idx → EReal) (x3 : (⟨2, ![1, 2048]⟩ : Shape).Idx → EReal) (d : Fin 8) (p : Fin 640) (l : Fin 256) :
    out0_4 (F := Ideal) x0 x1 x2 x3 (ix2 p ⟨256 * d.val + l.val, by omega⟩)
      = (∑ k : Fin 1024, rmsRow (fun j => x0 (ix2 p j)) (fun j => x1 (ix2 0 j)) k * x2 (ix4 d 0 k l)) + x3 (ix2 0 ⟨256 * d.val + l.val, by omega⟩) := by
  unfold rmsRow
  frame_out
  canon_tiles x hx
  all_goals pointwise [k0_pay1, k0_pay2, k0_pay3, k0_pay4, k0_pay5, k0_pay6, k0_pay7, k0_pay8, k0_pay9, k0_pay10]
  all_goals
    change p.val = _ at hx0
    change 256 * d.val + l.val = _ at hx1
    have hl := l.isLt
    obtain rfl : p = x 0 := Fin.ext hx0
    obtain rfl : l = x 1 := Fin.ext (by omega)
  · obtain rfl : d = (7 : Fin 8) := Fin.ext (by show d.val = 7; omega)
    refine congrArg₂ (· + ·) ?_ (congrArg (fun q : Fin 2048 => x3 (ix2 0 q)) (Fin.ext (by show 1792 + (x 1).val = 256 * 7 + (x 1).val; omega)))
    unfold k0_pay11
    frame_out
    pointwise [k0_pay4]
  · obtain rfl : d = (6 : Fin 8) := Fin.ext (by show d.val = 6; omega)
    refine congrArg₂ (· + ·) ?_ (congrArg (fun q : Fin 2048 => x3 (ix2 0 q)) (Fin.ext (by show 1536 + (x 1).val = 256 * 6 + (x 1).val; omega)))
    unfold k0_pay11
    frame_out
    pointwise [k0_pay4]
  · obtain rfl : d = (5 : Fin 8) := Fin.ext (by show d.val = 5; omega)
    refine congrArg₂ (· + ·) ?_ (congrArg (fun q : Fin 2048 => x3 (ix2 0 q)) (Fin.ext (by show 1280 + (x 1).val = 256 * 5 + (x 1).val; omega)))
    unfold k0_pay11
    frame_out
    pointwise [k0_pay4]
  · obtain rfl : d = (4 : Fin 8) := Fin.ext (by show d.val = 4; omega)
    refine congrArg₂ (· + ·) ?_ (congrArg (fun q : Fin 2048 => x3 (ix2 0 q)) (Fin.ext (by show 1024 + (x 1).val = 256 * 4 + (x 1).val; omega)))
    unfold k0_pay11
    frame_out
    pointwise [k0_pay4]
  · obtain rfl : d = (3 : Fin 8) := Fin.ext (by show d.val = 3; omega)
    refine congrArg₂ (· + ·) ?_ (congrArg (fun q : Fin 2048 => x3 (ix2 0 q)) (Fin.ext (by show 768 + (x 1).val = 256 * 3 + (x 1).val; omega)))
    unfold k0_pay11
    frame_out
    pointwise [k0_pay4]
  · obtain rfl : d = (2 : Fin 8) := Fin.ext (by show d.val = 2; omega)
    refine congrArg₂ (· + ·) ?_ (congrArg (fun q : Fin 2048 => x3 (ix2 0 q)) (Fin.ext (by show 512 + (x 1).val = 256 * 2 + (x 1).val; omega)))
    unfold k0_pay11
    frame_out
    pointwise [k0_pay4]
  · obtain rfl : d = (1 : Fin 8) := Fin.ext (by show d.val = 1; omega)
    refine congrArg₂ (· + ·) ?_ (congrArg (fun q : Fin 2048 => x3 (ix2 0 q)) (Fin.ext (by show 256 + (x 1).val = 256 * 1 + (x 1).val; omega)))
    rfl
  · obtain rfl : d = (0 : Fin 8) := Fin.ext (by show d.val = 0; omega)
    refine congrArg₂ (· + ·) ?_ (congrArg (fun q : Fin 2048 => x3 (ix2 0 q)) (Fin.ext (by show (x 1).val = 256 * 0 + (x 1).val; omega)))
    rfl

abbrev X0 (t : Fin cfg0.N) : (⟨2, ![640, 1024]⟩ : Shape).Idx → EReal := iblk m c 0 t
abbrev X1 (t : Fin cfg0.N) : (⟨2, ![1, 1024]⟩ : Shape).Idx → EReal := iblk m c 1 t
abbrev X2 (t : Fin cfg0.N) : (⟨4, ![8, 1, 1024, 256]⟩ : Shape).Idx → EReal := iblk m c 2 t

abbrev X3 (t : Fin cfg0.N) : (⟨2, ![1, 2048]⟩ : Shape).Idx → EReal := iblk m c 3 t

theorem idx_0 (t : Fin cfg0.N) : win0_0.index t = ![t.val, 0] :=
  (by decide +kernel : ∀ t : Fin grid0.N, win0_0.index t = ![t.val, 0]) t
theorem idx_1 (t : Fin cfg0.N) : win0_1.index t = ![0, 0] :=
  (by decide +kernel : ∀ t : Fin grid0.N, win0_1.index t = ![0, 0]) t
theorem idx_2 (t : Fin cfg0.N) : win0_2.index t = ![0, 0, 0, 0] :=
  (by decide +kernel : ∀ t : Fin grid0.N, win0_2.index t = ![0, 0, 0, 0]) t
theorem idx_3 (t : Fin cfg0.N) : win0_3.index t = ![0, 0] :=
  (by decide +kernel : ∀ t : Fin grid0.N, win0_3.index t = ![0, 0]) t
theorem idx_4 (t : Fin cfg0.N) : win0_4.index t = ![t.val, 0] :=
  (by decide +kernel : ∀ t : Fin grid0.N, win0_4.index t = ![t.val, 0]) t
theorem idx_5 (t : Fin cfg0.N) : win0_5.index t = ![t.val, 0] :=
  (by decide +kernel : ∀ t : Fin grid0.N, win0_5.index t = ![t.val, 0]) t

theorem blk0 (t : Fin cfg0.N) (p : Fin 640) (k : Fin 1024) : X0 m c t (ix2 p k) = Hm m c (ix2 ⟨640 * t.val + p.val, by have := lt13 t; omega⟩ k) := by
  blk_ext [X0, iblk, V_main_arg0, idx_0 t]

theorem blk1 (t : Fin cfg0.N) (k : Fin 1024) : X1 m c t (ix2 0 k) = Gm m c (ix2 0 k) := by
  blk_ext [X1, iblk, V_main_arg1, idx_1 t]

theorem blk2 (t : Fin cfg0.N) (d : Fin 8) (k : Fin 1024) (l : Fin 256) : X2 m c t (ix4 d 0 k l) = Wm m c (ix2 k ⟨256 * d.val + l.val, by omega⟩) := by
  rw [← byCols_at (Wm m c) d k l, ← w_at m c]
  blk_ext [X2, iblk, idx_2 t]

theorem blk3 (t : Fin cfg0.N) (k : Fin 2048) : X3 m c t (ix2 0 k) = Bm m c (ix2 0 k) := by
  blk_ext [X3, iblk, V_main_arg3, idx_3 t]

/-- The normalised rows and the product, as the call leaves them. -/
def outU (H : (⟨2, ![8320, 1024]⟩ : Shape).Idx → EReal) (G : (⟨2, ![1, 1024]⟩ : Shape).Idx → EReal) : (⟨2, ![8320, 1024]⟩ : Shape).Idx → EReal :=
  fun x => rms H G ⟨(x 0).val, (x 0).isLt⟩ ⟨(x 1).val, (x 1).isLt⟩
def outA (H : (⟨2, ![8320, 1024]⟩ : Shape).Idx → EReal) (G : (⟨2, ![1, 1024]⟩ : Shape).Idx → EReal) (W : (⟨2, ![1024, 2048]⟩ : Shape).Idx → EReal) (B : (⟨2, ![1, 2048]⟩ : Shape).Idx → EReal) :
    (⟨2, ![8320, 2048]⟩ : Shape).Idx → EReal :=
  fun x => (∑ k : Fin 1024, rms H G ⟨(x 0).val, (x 0).isLt⟩ k * W (ix2 k ⟨(x 1).val, (x 1).isLt⟩)) + B (ix2 0 ⟨(x 1).val, (x 1).isLt⟩)

theorem row_eq (t : Fin cfg0.N) (p : Fin 640) (k : Fin 1024) :
    rmsRow (fun j => X0 m c t (ix2 p j)) (fun j => X1 m c t (ix2 0 j)) k = rms (Hm m c) (Gm m c) ⟨640 * t.val + p.val, by have := lt13 t; omega⟩ k := by
  simp only [blk0, blk1]
  rfl

theorem arr5 : (dats m 0 c).arrAt 5 cfg0.N = outU (Hm m c) (Gm m c) := by
  refine (dats m 0 c).arrAt_eq_of_covers 5 _ (by decide +kernel) fun t hf y => ?_
  have h13 := lt13 t
  have y0 : (y 0).val < 640 := (y 0).isLt
  have y1 : (y 1).val < 1024 := (y 1).isLt
  have e : ((cfg0.win 5).blk t).view.emb y = ix2 (⟨640 * t.val + (y 0).val, by omega⟩ : Fin 8320) (⟨(y 1).val, y1⟩ : Fin 1024) := by
    blk_ext [idx_5 t]
  rw [e]
  blk_simp
  rw [after0_5]
  have hy : y = ix2 (⟨(y 0).val, y0⟩ : Fin 640) (⟨(y 1).val, y1⟩ : Fin 1024) := by
    funext a
    match a with
    | 0 => rfl
    | 1 => rfl
  exact (congrArg (out0_5 (F := Ideal) (X0 m c t) (X1 m c t) (X2 m c t) (X3 m c t)) hy).trans ((u_at (X0 m c t) (X1 m c t) (X2 m c t) (X3 m c t) _ _).trans (row_eq m c t _ _))

theorem arr4 : (dats m 0 c).arrAt 4 cfg0.N = outA (Hm m c) (Gm m c) (Wm m c) (Bm m c) := by
  refine (dats m 0 c).arrAt_eq_of_covers 4 _ (by decide +kernel) fun t hf y => ?_
  have h13 := lt13 t
  have y0 : (y 0).val < 640 := (y 0).isLt
  have y1 : (y 1).val < 2048 := (y 1).isLt
  have e : ((cfg0.win 4).blk t).view.emb y = ix2 (⟨640 * t.val + (y 0).val, by omega⟩ : Fin 8320) (⟨(y 1).val, y1⟩ : Fin 2048) := by
    blk_ext [idx_4 t]
  rw [e]
  blk_simp
  rw [after0_4]
  have hy : y = ix2 (⟨(y 0).val, y0⟩ : Fin 640) (⟨256 * ((y 1).val / 256) + (y 1).val % 256, by omega⟩ : Fin 2048) := by
    funext a
    match a with
    | 0 => rfl
    | 1 => exact Fin.ext (by show (y 1).val = 256 * ((y 1).val / 256) + (y 1).val % 256; omega)
  have hq : (⟨256 * ((y 1).val / 256) + (y 1).val % 256, by omega⟩ : Fin 2048) = ⟨(y 1).val, y1⟩ := Fin.ext (by show 256 * ((y 1).val / 256) + (y 1).val % 256 = (y 1).val; omega)
  refine (congrArg (out0_4 (F := Ideal) (X0 m c t) (X1 m c t) (X2 m c t) (X3 m c t)) hy).trans ((out_at (X0 m c t) (X1 m c t) (X2 m c t) (X3 m c t) ⟨(y 1).val / 256, by omega⟩ ⟨(y 0).val, y0⟩ ⟨(y 1).val % 256, by omega⟩).trans ?_)
  simp only [row_eq, blk2, blk3, hq]
  rfl

end Cert.Kernel13Ideal.Gen
-- ==== Proof.Pw1Claim.lean ====
/- The first pointwise product with its bias, and the normalised rows, are the plain forward lines. -/
module
public import proofs.«01_k».proof.Defs
public import proofs.«01_k».proof.Proof.Pw1
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import Idealize.ShloMosaic.Lib.Quiescent
public import Idealize.ShloMosaic.Lib.Pointwise
@[expose] public section
set_option maxRecDepth 16384
noncomputable section
namespace Cert.Proof.Pw1
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference13Ideal Cert.Reference13Ideal.Read
/-- The reference's results: the biased product and the normalised rows. -/
theorem refA (H : (⟨2, ![8320, 1024]⟩ : Shape).Idx → EReal) (G : (⟨2, ![1, 1024]⟩ : Shape).Idx → EReal) (W : (⟨2, ![1024, 2048]⟩ : Shape).Idx → EReal) (B : (⟨2, ![1, 2048]⟩ : Shape).Idx → EReal) :
    val_main_v14 (F := Ideal) H G W B = Cert.Kernel13Ideal.Gen.outA H G W B := by
  rw [← val_main_v14_eq]
  funext x
  unfold Cert.Kernel13Ideal.Gen.outA Mlp.rms Mlp.ms
  rw [eta x]
  pointwise

theorem refU (H : (⟨2, ![8320, 1024]⟩ : Shape).Idx → EReal) (G : (⟨2, ![1, 1024]⟩ : Shape).Idx → EReal) :
    val_main_v15 (F := Ideal) H G = Cert.Kernel13Ideal.Gen.outU H G := by
  rw [← val_main_v15_eq]
  funext x
  unfold Cert.Kernel13Ideal.Gen.outU Mlp.rms Mlp.ms
  rw [eta x]
  pointwise
end

open Cert.Reference13Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v14) = Cert.Kernel13Ideal.Gen.outA (m ((c.tc : Thread _ _).loc main_arg0)) (m ((c.tc : Thread _ _).loc main_arg1)) (m ((c.tc : Thread _ _).loc main_arg2)) (m ((c.tc : Thread _ _).loc main_arg3))
      ∧ r.2.mem ((c.tc : Thread _ _).loc main_v15) = Cert.Kernel13Ideal.Gen.outU (m ((c.tc : Thread _ _).loc main_arg0)) (m ((c.tc : Thread _ _).loc main_arg1))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)) :=
  (θ_run defs _ _).mono (fun _ h c =>
    ⟨((h c).1.trans (Read.val_main_v14_eq _ _ _ _)).trans (refA _ _ _ _),
     ((h c).2.1.trans (Read.val_main_v15_eq _ _)).trans (refU _ _), (h c).2.2⟩) (Value.run (F := Ideal) m g)

/-- The reference's frame: it declares no semaphore. -/
theorem reference_frame : Cert.quiescent_Reference13Ideal := fun m g _ =>
  (θ_run Cert.Reference13Ideal.defs _ _).mono (fun r h => ⟨fun c => (h c).2.2, sem_eq_zero_of_no_sems (by decide) r.2⟩) (reference_run m g)

open Cert.Kernel13Ideal in
/-- The kernel's results are the reference's. -/
theorem algebraic : Cert.algebraic_Kernel13Ideal_Reference13Ideal := by
  intro m g m' g' _ hagree
  refine ⟨fun c => Gen.outA (m ((c.tc : Thread _ _).loc main_arg0)) (m ((c.tc : Thread _ _).loc main_arg1)) (m ((c.tc : Thread _ _).loc main_arg2)) (m ((c.tc : Thread _ _).loc main_arg3)), fun c => Gen.outU (m ((c.tc : Thread _ _).loc main_arg0)) (m ((c.tc : Thread _ _).loc main_arg1)), ?_, ?_⟩
  · exact (θ_run defs _ _).mono (fun _ h c => ⟨(h c).1.trans (Gen.arr4 m c), (h c).2.1.trans (Gen.arr5 m c), (h c).2.2⟩) (Value.run_blocks (F := Ideal) m g)
  · refine (θ_run Cert.Reference13Ideal.defs _ _).mono (fun _ h c => ?_) (reference_run m' g')
    obtain ⟨h0, h1, hk⟩ := h c
    obtain ⟨e0, e1, e2, e3⟩ := hagree c
    rw [e0, e1, e2, e3] at h0
    rw [e0, e1] at h1
    exact ⟨h0, h1, hk⟩

end Cert.Proof.Pw1
-- ==== Proof.DMix.lean ====
/- What the call of the gradient through the output projection leaves in its result. -/
module
public import proofs.«01_k».proof.Proof.Gen.Kernel14Ideal.Value
public import Idealize.ShloMosaic.Lib.Pipeline.ValueKit
public import Idealize.ShloMosaic.Lib.Pointwise
public import proofs.«01_k».proof.Proof.MlpSpec
public import proofs.«01_k».proof.Proof.ProjSpec
@[expose] public section
set_option maxRecDepth 16384
noncomputable section
namespace Cert.Kernel14Ideal.Gen
open Idealize.ShloMosaic Idealize.ShloMosaic.TcCoe Idealize.SL.Sem Mlp

variable (m : (ℓ : Loc nD τ sig) → Buf (Elt Ideal) ℓ) (c : Dev nD)

abbrev Dm : (⟨2, ![8320, 1024]⟩ : Shape).Idx → EReal := m ((c.tc : Thread nD τ).loc main_arg0)
abbrev Wm : (⟨2, ![1536, 1024]⟩ : Shape).Idx → EReal := m ((c.tc : Thread nD τ).loc main_arg1)

theorem lt13 (t : Fin cfg0.N) : t.val < 13 := by
  have := t.isLt
  have h : cfg0.N = 13 := N_0
  omega

/-- The weights as the call takes them, by the devices' rows. -/
theorem w_at : (V m c main_v1 : (⟨4, ![8, 1, 192, 1024]⟩ : Shape).Idx → EReal) = shapeCast S8x1x192x1024 (Wm m c) shapeCasts_S1536x1024_S8x1x192x1024 := by
  unfold V
  simp only [hostOps0, List.flatten_cons, List.flatten_nil, List.append_nil, List.cons_append, List.nil_append]
  after_results
  rfl

/-- What the body leaves at a place of its block. -/
theorem out_at (x0 : (⟨2, ![640, 1024]⟩ : Shape).Idx → EReal) (x1 : (⟨4, ![8, 1, 192, 1024]⟩ : Shape).Idx → EReal) (p : Fin 640) (l : Fin 1536) :
    out0_2 (F := Ideal) x0 x1 (ix2 p l) = ∑ k : Fin 1024, x0 (ix2 p k) * x1 (ix4 (⟨l.val / 192, by omega⟩ : Fin 8) 0 (⟨l.val % 192, by omega⟩ : Fin 192) k) := by
  frame_out
  pointwise [k0_pay1]

abbrev X0 (t : Fin cfg0.N) : (⟨2, ![640, 1024]⟩ : Shape).Idx → EReal := iblk m c 0 t
abbrev X1 (t : Fin cfg0.N) : (⟨4, ![8, 1, 192, 1024]⟩ : Shape).Idx → EReal := iblk m c 1 t

theorem idx_0 (t : Fin cfg0.N) : win0_0.index t = ![t.val, 0] :=
  (by decide +kernel : ∀ t : Fin grid0.N, win0_0.index t = ![t.val, 0]) t
theorem idx_1 (t : Fin cfg0.N) : win0_1.index t = ![0, 0, 0, 0] :=
  (by decide +kernel : ∀ t : Fin grid0.N, win0_1.index t = ![0, 0, 0, 0]) t
theorem idx_2 (t : Fin cfg0.N) : win0_2.index t = ![t.val, 0] :=
  (by decide +kernel : ∀ t : Fin grid0.N, win0_2.index t = ![t.val, 0]) t

/-- The product of the gradient with the transposed weights. -/
def val (D : (⟨2, ![8320, 1024]⟩ : Shape).Idx → EReal) (W : (⟨2, ![1536, 1024]⟩ : Shape).Idx → EReal) (n : Fin 8320) (l : Fin 1536) : EReal := ∑ k : Fin 1024, D (ix2 n k) * W (ix2 l k)

theorem blk0 (t : Fin cfg0.N) (p : Fin 640) (k : Fin 1024) : X0 m c t (ix2 p k) = (Dm m c) (ix2 (⟨640 * t.val + p.val, by have := lt13 t; omega⟩ : Fin 8320) k) := by
  blk_ext [X0, iblk, V_main_arg0, idx_0 t]

theorem rows_at (W : (⟨2, ![1536, 1024]⟩ : Shape).Idx → EReal) (d : Fin 8) (l : Fin 192) (k : Fin 1024) :
    shapeCast S8x1x192x1024 W shapeCasts_S1536x1024_S8x1x192x1024 (ix4 d 0 l k) = W (ix2 ⟨192 * d.val + l.val, by omega⟩ k) := by
  pointwise
  exact congrArg (fun q : Fin 1536 => W (ix2 q k)) (Fin.ext (by show d.val * 192 + l.val = 192 * d.val + l.val; omega))

theorem blk1 (t : Fin cfg0.N) (q : Fin 1536) (k : Fin 1024) : X1 m c t (ix4 (⟨q.val / 192, by omega⟩ : Fin 8) 0 (⟨q.val % 192, by omega⟩ : Fin 192) k) = (Wm m c) (ix2 q k) := by
  have hq : (⟨192 * (q.val / 192) + q.val % 192, by omega⟩ : Fin 1536) = q := Fin.ext (Nat.div_add_mod _ _)
  have h := rows_at (Wm m c) (⟨q.val / 192, by omega⟩ : Fin 8) (⟨q.val % 192, by omega⟩ : Fin 192) k
  rw [hq, ← w_at m c] at h
  rw [← h]
  blk_ext [X1, iblk, idx_1 t]

/-- The result, as the call leaves it. -/
def outF (D : (⟨2, ![8320, 1024]⟩ : Shape).Idx → EReal) (W : (⟨2, ![1536, 1024]⟩ : Shape).Idx → EReal) : (⟨2, ![8320, 1536]⟩ : Shape).Idx → EReal := fun x => val D W ⟨(x 0).val, (x 0).isLt⟩ ⟨(x 1).val, (x 1).isLt⟩

theorem arr2 : (dats m 0 c).arrAt 2 cfg0.N = outF (Dm m c) (Wm m c) := by
  refine (dats m 0 c).arrAt_eq_of_covers 2 _ (by decide +kernel) fun t hf y => ?_
  have h13 := lt13 t
  have y0 : (y 0).val < 640 := (y 0).isLt
  have y1 : (y 1).val < 1536 := (y 1).isLt
  have e : ((cfg0.win 2).blk t).view.emb y = ix2 (⟨640 * t.val + (y 0).val, by omega⟩ : Fin 8320) (⟨(y 1).val, y1⟩ : Fin 1536) := by
    blk_ext [idx_2 t]
  rw [e]
  blk_simp
  rw [after0_2]
  have hy : y = ix2 (⟨(y 0).val, y0⟩ : Fin 640) (⟨(y 1).val, y1⟩ : Fin 1536) := by
    funext a
    match a with
    | 0 => rfl
    | 1 => rfl
  refine (congrArg (out0_2 (F := Ideal) (X0 m c t) (X1 m c t)) hy).trans ((out_at (X0 m c t) (X1 m c t) _ _).trans ?_)
  simp only [blk0]
  exact Finset.sum_congr rfl fun k _ => congrArg (_ * ·) (blk1 m c t ⟨(y 1).val, y1⟩ k)

end Cert.Kernel14Ideal.Gen
-- ==== Proof.DMixClaim.lean ====
/- The gradient through the output projection is the derivative of the plain forward lines. -/
module
public import proofs.«01_k».proof.Defs
public import proofs.«01_k».proof.Proof.DMix
public import proofs.«01_k».proof.Proof.Gen.Kernel14Ideal
public import proofs.«01_k».proof.Proof.Gen.Reference14Ideal
public import proofs.«01_k».proof.Proof.Gen.Reference14Ideal.Run
public import proofs.«01_k».proof.Proof.Gen.Reference14Ideal.Read
public import Idealize.ShloMosaic.Lib.Quiescent
public import Idealize.ShloMosaic.Lib.Pointwise
@[expose] public section
set_option maxRecDepth 16384
noncomputable section
namespace Cert.Proof.DMix
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference14Ideal Cert.Reference14Ideal.Read
/-- The reference's result: the derivative of the product with respect to its left factor. -/
theorem ref (D : (⟨2, ![8320, 1024]⟩ : Shape).Idx → EReal) (W : (⟨2, ![1536, 1024]⟩ : Shape).Idx → EReal) :
    val_main_v2 (F := Ideal) D W = Cert.Kernel14Ideal.Gen.outF D W := by
  rw [← val_main_v2_eq]
  funext x
  rw [eta x]
  unfold Cert.Kernel14Ideal.Gen.outF Cert.Kernel14Ideal.Gen.val
  pointwise
end

open Cert.Reference14Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v2) = Cert.Kernel14Ideal.Gen.outF (m ((c.tc : Thread _ _).loc main_arg0)) (m ((c.tc : Thread _ _).loc main_arg1))
      ∧ r.2.mem ((c.tc : Thread _ _).loc main_arg0) = m ((c.tc : Thread _ _).loc main_arg0)
      ∧ r.2.mem ((c.tc : Thread _ _).loc main_arg1) = m ((c.tc : Thread _ _).loc main_arg1)) :=
  (θ_run defs _ _).mono (fun _ h c =>
    ⟨((h c).1.trans (Read.val_main_v2_eq _ _)).trans (ref _ _), (h c).2⟩) (Value.run (F := Ideal) m g)

/-- The reference's frame: it declares no semaphore. -/
theorem reference_frame : Cert.quiescent_Reference14Ideal := fun m g _ =>
  (θ_run Cert.Reference14Ideal.defs _ _).mono (fun r h => ⟨fun c => (h c).2, sem_eq_zero_of_no_sems (by decide) r.2⟩) (reference_run m g)

open Cert.Kernel14Ideal in
/-- The kernel's results are the reference's. -/
theorem algebraic : Cert.algebraic_Kernel14Ideal_Reference14Ideal := by
  intro m g m' g' _ hagree
  refine ⟨fun c => Gen.outF (m ((c.tc : Thread _ _).loc main_arg0)) (m ((c.tc : Thread _ _).loc main_arg1)), ?_, ?_⟩
  · exact (θ_run defs _ _).mono (fun _ h c => ⟨(h c).1.trans (Gen.arr2 m c), (h c).2⟩) (Value.run_blocks (F := Ideal) m g)
  · refine (θ_run Cert.Reference14Ideal.defs _ _).mono (fun _ h c => ?_) (reference_run m' g')
    obtain ⟨h0, hk⟩ := h c
    obtain ⟨e0, e1⟩ := hagree c
    rw [e0, e1] at h0
    exact ⟨h0, hk⟩

end Cert.Proof.DMix
-- ==== Proof.OutW.lean ====
/- What the call that computes the gradient of the output projection's weights leaves in its result. -/
module
public import proofs.«01_k».proof.Proof.Gen.Kernel15Ideal.Value
public import Idealize.ShloMosaic.Lib.Pipeline.ValueKit
public import Idealize.ShloMosaic.Lib.Pointwise
public import proofs.«01_k».proof.Proof.MlpSpec
public import proofs.«01_k».proof.Proof.ProjSpec
@[expose] public section
set_option maxRecDepth 16384
noncomputable section
namespace Cert.Kernel15Ideal.Gen
open Idealize.ShloMosaic Idealize.ShloMosaic.TcCoe Idealize.SL.Sem Mlp

variable (m : (ℓ : Loc nD τ sig) → Buf (Elt Ideal) ℓ) (c : Dev nD)

abbrev Am : (⟨2, ![8320, 1536]⟩ : Shape).Idx → EReal := m ((c.tc : Thread nD τ).loc main_arg0)
abbrev Dm : (⟨2, ![8320, 1024]⟩ : Shape).Idx → EReal := m ((c.tc : Thread nD τ).loc main_arg1)

/-- The mixed rows, as the host line before the call leaves them. -/
theorem a_at : (V m c main_v0 : (⟨2, ![8320, 1536]⟩ : Shape).Idx → EReal) = Am m c := by
  unfold V
  simp only [hostOps0, List.flatten_cons, List.flatten_nil, List.append_nil, List.cons_append, List.nil_append]
  after_results
  rfl

theorem idx_0 : ∀ t : Fin cfg0.N, win0_0.index t = ![t.val % 5, t.val / 5] := by decide +kernel
theorem idx_1 : ∀ t : Fin cfg0.N, win0_1.index t = ![t.val % 5, 0] := by decide +kernel
theorem idx_2 : ∀ t : Fin cfg0.N, win0_2.index t = ![t.val / 5, 0] := by decide +kernel

/-- Row `n` of column `k` of the left factor, and of column `l` of the gradient, zero past the last row. -/
def aN (A : (⟨2, ![8320, 1536]⟩ : Shape).Idx → EReal) (k : Fin 1536) (n : ℕ) : EReal := if h : n < 8320 then A (ix2 ⟨n, h⟩ k) else 0
def dN (D : (⟨2, ![8320, 1024]⟩ : Shape).Idx → EReal) (l : Fin 1024) (n : ℕ) : EReal := if h : n < 8320 then D (ix2 ⟨n, h⟩ l) else 0

theorem ltN (t : Fin cfg0.N) : t.val < 15 := by
  have := t.isLt
  have h : cfg0.N = 15 := N_0
  omega

/-- The column of the left factor that grid point `t` has at place `p` of its block. -/
def col (t : ℕ) (p : Fin 512) : Fin 1536 := ⟨512 * (t / 5 % 3) + p.val, by omega⟩

theorem blk0 (t : Fin cfg0.N) (p : Fin 1664) (k : Fin 512) : iblk m c 0 t (ix2 p k) = aN (Am m c) (col t.val k) (1664 * (t.val % 5) + p.val) := by
  have h := ltN t
  rw [aN, dif_pos (by omega)]
  refine Eq.trans ?_ (congrFun (a_at m c) (ix2 (⟨1664 * (t.val % 5) + p.val, by omega⟩ : Fin 8320) (col t.val k)))
  unfold col
  blk_ext [iblk, idx_0 t]

theorem blk1 (t : Fin cfg0.N) (p : Fin 1664) (l : Fin 1024) : iblk m c 1 t (ix2 p l) = dN (Dm m c) l (1664 * (t.val % 5) + p.val) := by
  have h := ltN t
  rw [dN, dif_pos (by omega)]
  blk_ext [iblk, V_main_arg1, idx_1 t]

/-- The two input blocks of grid point `t`. -/
abbrev X0 (t : Fin cfg0.N) : (⟨2, ![1664, 512]⟩ : Shape).Idx → EReal := iblk m c 0 t
abbrev X1 (t : Fin cfg0.N) : (⟨2, ![1664, 1024]⟩ : Shape).Idx → EReal := iblk m c 1 t

/-- What point `t` adds to the accumulator. -/
def addend (t : ℕ) (y : (⟨2, ![512, 1024]⟩ : Shape).Idx) : EReal :=
  ∑ p : Fin 1664, aN (Am m c) (col t ⟨(y 0).val, (y 0).isLt⟩) (1664 * (t % 5) + p.val) * dN (Dm m c) ⟨(y 1).val, (y 1).isLt⟩ (1664 * (t % 5) + p.val)

theorem eta (y : (⟨2, ![512, 1024]⟩ : Shape).Idx) : y = ix2 (⟨(y 0).val, (y 0).isLt⟩ : Fin 512) (⟨(y 1).val, (y 1).isLt⟩ : Fin 1024) := by
  funext a; match a with | 0 => rfl | 1 => rfl

theorem prod_eq (t : Fin cfg0.N) (y : (⟨2, ![512, 1024]⟩ : Shape).Idx) :
    ∑ p : Fin 1664, X0 m c t (ix2 p ⟨(y 0).val, (y 0).isLt⟩) * X1 m c t (ix2 p ⟨(y 1).val, (y 1).isLt⟩) = addend m c t.val y :=
  Finset.sum_congr rfl fun p _ => congrArg₂ (· * ·) (blk0 m c t p _) (blk1 m c t p _)

theorem step_A (t : Fin cfg0.N) (h0 : t.val % 5 = 0) (y : (⟨2, ![512, 1024]⟩ : Shape).Idx) :
    (outsAt0 m c t.val t.isLt).2 y = 0 + addend m c t.val y := by
  rw [← prod_eq, outsAt0_A m c t h0 (by omega), eta y]
  dsimp only
  frame_out
  pointwise [k0_pay1, k0_pay2, k0_pay3]

theorem step_B (t : Fin cfg0.N) (h0 : ¬ t.val % 5 = 0) (y : (⟨2, ![512, 1024]⟩ : Shape).Idx) :
    (outsAt0 m c t.val t.isLt).2 y = (outsAt0 m c (t.val - 1) (Nat.lt_of_le_of_lt (Nat.sub_le _ _) t.isLt)).2 y + addend m c t.val y := by
  rw [← prod_eq]
  by_cases h1 : t.val % 5 = 4
  · rw [outsAt0_C m c t h0 h1, eta y]
    dsimp only
    frame_out
    pointwise [k0_pay1, k0_pay2, k0_pay3]
    exact congrArg (· + _) (congrFun (Memref.IsWhole.read_unread _ _) _)
  · rw [outsAt0_B m c t h0 h1, eta y]
    dsimp only
    frame_out
    pointwise [k0_pay1, k0_pay2, k0_pay3]
    exact congrArg (· + _) (congrFun (Memref.IsWhole.read_unread _ _) _)

/-- The accumulator's last contents are what the point writes back. -/
theorem out_C (t : Fin cfg0.N) (h1 : t.val % 5 = 4) (y : (⟨2, ![512, 1024]⟩ : Shape).Idx) :
    (outsAt0 m c t.val t.isLt).1 y = (outsAt0 m c t.val t.isLt).2 y := by
  rw [outsAt0_C m c t (by omega) h1, eta y]
  dsimp only
  frame_out
  pointwise [k0_pay1, k0_pay2, k0_pay3]

/-- The accumulator after the last of five points. -/
theorem last (t : Fin cfg0.N) (h : t.val % 5 = 4) (y : (⟨2, ![512, 1024]⟩ : Shape).Idx) :
    (outsAt0 m c t.val t.isLt).1 y
      = ∑ n ∈ Finset.range 8320, aN (Am m c) (col t.val ⟨(y 0).val, (y 0).isLt⟩) n * dN (Dm m c) ⟨(y 1).val, (y 1).isLt⟩ n := by
  rw [out_C m c t h, Pipeline.eq_sum_of_reset_step_apply_of_mod (fun n h => (outsAt0 m c n h).2) 5 (fun _ => (0 : EReal))
    (addend m c) (step_A m c) (step_B m c) t h y, zero_add,
    show 8320 = 5 * 1664 from rfl, Finset.sum_range_mul_split 5 1664]
  refine Finset.sum_congr rfl fun k hk => ?_
  have hk : k < 5 := Finset.mem_range.mp hk
  rw [Finset.sum_range, addend]
  refine Finset.sum_congr rfl fun p _ => ?_
  have e1 : (5 * (t.val / 5) + k) % 5 = k := by omega
  have e2 : col (5 * (t.val / 5) + k) ⟨(y 0).val, (y 0).isLt⟩ = col t.val ⟨(y 0).val, (y 0).isLt⟩ := by
    unfold col
    have : (5 * (t.val / 5) + k) / 5 = t.val / 5 := by omega
    exact Fin.ext (by simp only [this])
  rw [e1, e2, Nat.mul_comm]

/-- The gradient of the weights, as the call leaves it. -/
def outF (A : (⟨2, ![8320, 1536]⟩ : Shape).Idx → EReal) (D : (⟨2, ![8320, 1024]⟩ : Shape).Idx → EReal) : (⟨2, ![1536, 1024]⟩ : Shape).Idx → EReal :=
  fun x => ∑ n : Fin 8320, A (ix2 n ⟨(x 0).val, (x 0).isLt⟩) * D (ix2 n ⟨(x 1).val, (x 1).isLt⟩)

theorem arr2 : (dats m 0 c).arrAt 2 cfg0.N = outF (Am m c) (Dm m c) := by
  refine (dats m 0 c).arrAt_eq_of_covers 2 _ (by decide +kernel) fun t hf y => ?_
  have hN := ltN t
  have e : ((cfg0.win 2).blk t).view.emb y = ix2 (⟨512 * (t.val / 5) + (y 0).val, by have : (y 0).val < 512 := (y 0).isLt; omega⟩ : Fin 1536) (⟨(y 1).val, (y 1).isLt⟩ : Fin 1024) := by
    blk_ext [idx_2 t]
  rw [e]
  blk_simp
  rw [after0_2]
  refine (last m c t ((flush0_2 t).mp hf) y).trans ?_
  rw [Finset.sum_range]
  refine Finset.sum_congr rfl fun n _ => ?_
  rw [aN, dif_pos n.isLt, dN, dif_pos n.isLt]
  have e3 : col t.val ⟨(y 0).val, (y 0).isLt⟩ = ⟨512 * (t.val / 5) + (y 0).val, by have : (y 0).val < 512 := (y 0).isLt; omega⟩ := by
    unfold col
    apply Fin.ext
    show 512 * (t.val / 5 % 3) + (y 0).val = _
    have : t.val / 5 % 3 = t.val / 5 := by omega
    rw [this]
  rw [e3]
  rfl

end Cert.Kernel15Ideal.Gen
-- ==== Proof.OutWClaim.lean ====
/- The gradient of the output projection's weights is the derivative of the plain forward lines. -/
module
public import proofs.«01_k».proof.Defs
public import proofs.«01_k».proof.Proof.OutW
public import proofs.«01_k».proof.Proof.Gen.Kernel15Ideal
public import proofs.«01_k».proof.Proof.Gen.Reference15Ideal
public import proofs.«01_k».proof.Proof.Gen.Reference15Ideal.Run
public import proofs.«01_k».proof.Proof.Gen.Reference15Ideal.Read
public import Idealize.ShloMosaic.Lib.Quiescent
public import Idealize.ShloMosaic.Lib.Pointwise
@[expose] public section
set_option maxRecDepth 16384
noncomputable section
namespace Cert.Proof.OutW
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference15Ideal Cert.Reference15Ideal.Read
/-- The reference's result: the derivative of the product with respect to its right factor. -/
theorem ref (A : (⟨2, ![8320, 1536]⟩ : Shape).Idx → EReal) (D : (⟨2, ![8320, 1024]⟩ : Shape).Idx → EReal) :
    val_main_v4 (F := Ideal) A D = Cert.Kernel15Ideal.Gen.outF A D := by
  rw [← val_main_v4_eq]
  funext x
  rw [eta x]
  unfold Cert.Kernel15Ideal.Gen.outF
  pointwise
  exact Finset.sum_congr rfl fun n _ => mul_comm _ _
end

open Cert.Reference15Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v4) = Cert.Kernel15Ideal.Gen.outF (m ((c.tc : Thread _ _).loc main_arg0)) (m ((c.tc : Thread _ _).loc main_arg1))
      ∧ r.2.mem ((c.tc : Thread _ _).loc main_arg0) = m ((c.tc : Thread _ _).loc main_arg0)
      ∧ r.2.mem ((c.tc : Thread _ _).loc main_arg1) = m ((c.tc : Thread _ _).loc main_arg1)) :=
  (θ_run defs _ _).mono (fun _ h c =>
    ⟨((h c).1.trans (Read.val_main_v4_eq _ _)).trans (ref _ _), (h c).2⟩) (Value.run (F := Ideal) m g)

/-- The reference's frame: it declares no semaphore. -/
theorem reference_frame : Cert.quiescent_Reference15Ideal := fun m g _ =>
  (θ_run Cert.Reference15Ideal.defs _ _).mono (fun r h => ⟨fun c => (h c).2, sem_eq_zero_of_no_sems (by decide) r.2⟩) (reference_run m g)

open Cert.Kernel15Ideal in
/-- The kernel's results are the reference's. -/
theorem algebraic : Cert.algebraic_Kernel15Ideal_Reference15Ideal := by
  intro m g m' g' _ hagree
  refine ⟨fun c => Gen.outF (m ((c.tc : Thread _ _).loc main_arg0)) (m ((c.tc : Thread _ _).loc main_arg1)), ?_, ?_⟩
  · exact (θ_run defs _ _).mono (fun _ h c => ⟨(h c).1.trans (Gen.arr2 m c), (h c).2⟩) (Value.run_blocks (F := Ideal) m g)
  · refine (θ_run Cert.Reference15Ideal.defs _ _).mono (fun _ h c => ?_) (reference_run m' g')
    obtain ⟨h0, hk⟩ := h c
    obtain ⟨e0, e1⟩ := hagree c
    rw [e0, e1] at h0
    exact ⟨h0, hk⟩

end Cert.Proof.OutW
-- ==== Proof.MixOut.lean ====
/- What the call of the output projection, with its residual, leaves in its result. -/
module
public import proofs.«01_k».proof.Proof.Gen.Kernel16Ideal.Value
public import Idealize.ShloMosaic.Lib.Pipeline.ValueKit
public import Idealize.ShloMosaic.Lib.Pointwise
public import proofs.«01_k».proof.Proof.MlpSpec
public import proofs.«01_k».proof.Proof.ProjSpec
@[expose] public section
set_option maxRecDepth 16384
noncomputable section
namespace Cert.Kernel16Ideal.Gen
open Idealize.ShloMosaic Idealize.ShloMosaic.TcCoe Idealize.SL.Sem Mlp

variable (m : (ℓ : Loc nD τ sig) → Buf (Elt Ideal) ℓ) (c : Dev nD)

abbrev Am : (⟨2, ![8320, 1536]⟩ : Shape).Idx → EReal := m ((c.tc : Thread nD τ).loc main_arg0)
abbrev Wm : (⟨2, ![1536, 1024]⟩ : Shape).Idx → EReal := m ((c.tc : Thread nD τ).loc main_arg1)
abbrev Hm : (⟨2, ![8320, 1024]⟩ : Shape).Idx → EReal := m ((c.tc : Thread nD τ).loc main_arg2)

theorem lt13 (t : Fin cfg0.N) : t.val < 13 := by
  have := t.isLt
  have h : cfg0.N = 13 := N_0
  omega

/-- The mixed rows, as the host line before the call leaves them. -/
theorem a_at : (V m c main_v0 : (⟨2, ![8320, 1536]⟩ : Shape).Idx → EReal) = Am m c := by
  unfold V
  simp only [hostOps0, List.flatten_cons, List.flatten_nil, List.append_nil, List.cons_append, List.nil_append]
  after_results
  rfl

/-- The weights as the call takes them, by the devices' rows. -/
theorem w_at : (V m c main_v2 : (⟨4, ![8, 1, 192, 1024]⟩ : Shape).Idx → EReal) = shapeCast S8x1x192x1024 (Wm m c) shapeCasts_S1536x1024_S8x1x192x1024 := by
  unfold V
  simp only [hostOps0, List.flatten_cons, List.flatten_nil, List.append_nil, List.cons_append, List.nil_append]
  after_results
  rfl

/-- What the body leaves at a place of its block. -/
theorem out_at (i : grid0.Coords) (x0 : (⟨2, ![640, 1536]⟩ : Shape).Idx → EReal) (x1 : (⟨4, ![8, 1, 192, 1024]⟩ : Shape).Idx → EReal) (x2 : (⟨2, ![640, 1024]⟩ : Shape).Idx → EReal) (p : Fin 640) (l : Fin 1024) :
    out0_3 (F := Ideal) i x0 x1 x2 (ix2 p l) = past (640 * (i 0).val + p.val) (x2 (ix2 p l)) (∑ k : Fin 1536, x0 (ix2 p k) * x1 (ix4 (⟨k.val / 192, by omega⟩ : Fin 8) 0 (⟨k.val % 192, by omega⟩ : Fin 192) l)) := by
  unfold past
  frame_out
  pointwise [k0_pay1]
  rw [mask_row _ _ (i 0).isLt p.isLt, pick]

abbrev X0 (t : Fin cfg0.N) : (⟨2, ![640, 1536]⟩ : Shape).Idx → EReal := iblk m c 0 t
abbrev X1 (t : Fin cfg0.N) : (⟨4, ![8, 1, 192, 1024]⟩ : Shape).Idx → EReal := iblk m c 1 t
abbrev X2 (t : Fin cfg0.N) : (⟨2, ![640, 1024]⟩ : Shape).Idx → EReal := iblk m c 2 t

theorem idx_0 (t : Fin cfg0.N) : win0_0.index t = ![t.val, 0] :=
  (by decide +kernel : ∀ t : Fin grid0.N, win0_0.index t = ![t.val, 0]) t
theorem idx_1 (t : Fin cfg0.N) : win0_1.index t = ![0, 0, 0, 0] :=
  (by decide +kernel : ∀ t : Fin grid0.N, win0_1.index t = ![0, 0, 0, 0]) t
theorem idx_2 (t : Fin cfg0.N) : win0_2.index t = ![t.val, 0] :=
  (by decide +kernel : ∀ t : Fin grid0.N, win0_2.index t = ![t.val, 0]) t
theorem idx_3 (t : Fin cfg0.N) : win0_3.index t = ![t.val, 0] :=
  (by decide +kernel : ∀ t : Fin grid0.N, win0_3.index t = ![t.val, 0]) t

theorem coord_0 (t : Fin cfg0.N) : (grid0.coords t 0).val = t.val :=
  (by decide +kernel : ∀ t : Fin grid0.N, (grid0.coords t 0).val = t.val) t

/-- The residual plus the product of the mixed rows with the weights, which the padding rows do not get. -/
def val (A : (⟨2, ![8320, 1536]⟩ : Shape).Idx → EReal) (W : (⟨2, ![1536, 1024]⟩ : Shape).Idx → EReal) (H : (⟨2, ![8320, 1024]⟩ : Shape).Idx → EReal) (n : Fin 8320) (l : Fin 1024) : EReal := past n.val (H (ix2 n l)) (∑ k : Fin 1536, A (ix2 n k) * W (ix2 k l))

theorem blk0 (t : Fin cfg0.N) (p : Fin 640) (k : Fin 1536) : X0 m c t (ix2 p k) = (Am m c) (ix2 (⟨640 * t.val + p.val, by have := lt13 t; omega⟩ : Fin 8320) k) := by
  refine Eq.trans ?_ (congrFun (a_at m c) (ix2 (⟨640 * t.val + p.val, by have := lt13 t; omega⟩ : Fin 8320) k))
  blk_ext [X0, iblk, idx_0 t]

theorem rows_at (W : (⟨2, ![1536, 1024]⟩ : Shape).Idx → EReal) (d : Fin 8) (l : Fin 192) (k : Fin 1024) :
    shapeCast S8x1x192x1024 W shapeCasts_S1536x1024_S8x1x192x1024 (ix4 d 0 l k) = W (ix2 ⟨192 * d.val + l.val, by omega⟩ k) := by
  pointwise
  exact congrArg (fun q : Fin 1536 => W (ix2 q k)) (Fin.ext (by show d.val * 192 + l.val = 192 * d.val + l.val; omega))

theorem blk1 (t : Fin cfg0.N) (q : Fin 1536) (k : Fin 1024) : X1 m c t (ix4 (⟨q.val / 192, by omega⟩ : Fin 8) 0 (⟨q.val % 192, by omega⟩ : Fin 192) k) = (Wm m c) (ix2 q k) := by
  have hq : (⟨192 * (q.val / 192) + q.val % 192, by omega⟩ : Fin 1536) = q := Fin.ext (Nat.div_add_mod _ _)
  have h := rows_at (Wm m c) (⟨q.val / 192, by omega⟩ : Fin 8) (⟨q.val % 192, by omega⟩ : Fin 192) k
  rw [hq, ← w_at m c] at h
  rw [← h]
  blk_ext [X1, iblk, idx_1 t]

theorem blkH (t : Fin cfg0.N) (p : Fin 640) (l : Fin 1024) : X2 m c t (ix2 p l) = (Hm m c) (ix2 (⟨640 * t.val + p.val, by have := lt13 t; omega⟩ : Fin 8320) l) := by
  blk_ext [X2, iblk, V_main_arg2, idx_2 t]

/-- The result, as the call leaves it. -/
def outF (A : (⟨2, ![8320, 1536]⟩ : Shape).Idx → EReal) (W : (⟨2, ![1536, 1024]⟩ : Shape).Idx → EReal) (H : (⟨2, ![8320, 1024]⟩ : Shape).Idx → EReal) : (⟨2, ![8320, 1024]⟩ : Shape).Idx → EReal := fun x => val A W H ⟨(x 0).val, (x 0).isLt⟩ ⟨(x 1).val, (x 1).isLt⟩

theorem arr3 : (dats m 0 c).arrAt 3 cfg0.N = outF (Am m c) (Wm m c) (Hm m c) := by
  refine (dats m 0 c).arrAt_eq_of_covers 3 _ (by decide +kernel) fun t hf y => ?_
  have h13 := lt13 t
  have y0 : (y 0).val < 640 := (y 0).isLt
  have y1 : (y 1).val < 1024 := (y 1).isLt
  have e : ((cfg0.win 3).blk t).view.emb y = ix2 (⟨640 * t.val + (y 0).val, by omega⟩ : Fin 8320) (⟨(y 1).val, y1⟩ : Fin 1024) := by
    blk_ext [idx_3 t]
  rw [e]
  blk_simp
  rw [after0_3]
  have hy : y = ix2 (⟨(y 0).val, y0⟩ : Fin 640) (⟨(y 1).val, y1⟩ : Fin 1024) := by
    funext a
    match a with
    | 0 => rfl
    | 1 => rfl
  refine (congrArg (out0_3 (F := Ideal) (grid0.coords t) (X0 m c t) (X1 m c t) (X2 m c t)) hy).trans ((out_at (grid0.coords t) (X0 m c t) (X1 m c t) (X2 m c t) _ _).trans ?_)
  simp only [blk0, blk1, blkH, coord_0]
  rfl

end Cert.Kernel16Ideal.Gen
-- ==== Proof.MixOutClaim.lean ====
/- The output projection with its residual is the plain forward lines. -/
module
public import proofs.«01_k».proof.Defs
public import proofs.«01_k».proof.Proof.MixOut
public import proofs.«01_k».proof.Proof.Gen.Kernel16Ideal
public import proofs.«01_k».proof.Proof.Gen.Reference16Ideal
public import proofs.«01_k».proof.Proof.Gen.Reference16Ideal.Run
public import proofs.«01_k».proof.Proof.Gen.Reference16Ideal.Read
public import Idealize.ShloMosaic.Lib.Quiescent
public import Idealize.ShloMosaic.Lib.Pointwise
@[expose] public section
set_option maxRecDepth 16384
noncomputable section
namespace Cert.Proof.MixOut
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference16Ideal Cert.Reference16Ideal.Read
/-- The reference's result: the residual and the product, past the padding. -/
theorem ref (A : (⟨2, ![8320, 1536]⟩ : Shape).Idx → EReal) (W : (⟨2, ![1536, 1024]⟩ : Shape).Idx → EReal) (H : (⟨2, ![8320, 1024]⟩ : Shape).Idx → EReal) :
    val_main_v6 (F := Ideal) A W H = Cert.Kernel16Ideal.Gen.outF A W H := by
  rw [← val_main_v6_eq]
  funext x
  rw [eta x]
  unfold Cert.Kernel16Ideal.Gen.outF Cert.Kernel16Ideal.Gen.val Mlp.past
  pointwise
  rw [Mlp.mask_all _ (x 0).isLt, Mlp.pick, show (id (constant (F := Ideal) S_ FTy.f32 0#32) ix0 : EReal) = 0 from by rw [id]; pointwise]
end

open Cert.Reference16Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v6) = Cert.Kernel16Ideal.Gen.outF (m ((c.tc : Thread _ _).loc main_arg0)) (m ((c.tc : Thread _ _).loc main_arg1)) (m ((c.tc : Thread _ _).loc main_arg2))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)) :=
  (θ_run defs _ _).mono (fun _ h c =>
    ⟨((h c).1.trans (Read.val_main_v6_eq _ _ _)).trans (ref _ _ _), (h c).2⟩) (Value.run (F := Ideal) m g)

/-- The reference's frame: it declares no semaphore. -/
theorem reference_frame : Cert.quiescent_Reference16Ideal := fun m g _ =>
  (θ_run Cert.Reference16Ideal.defs _ _).mono (fun r h => ⟨fun c => (h c).2, sem_eq_zero_of_no_sems (by decide) r.2⟩) (reference_run m g)

open Cert.Kernel16Ideal in
/-- The kernel's results are the reference's. -/
theorem algebraic : Cert.algebraic_Kernel16Ideal_Reference16Ideal := by
  intro m g m' g' _ hagree
  refine ⟨fun c => Gen.outF (m ((c.tc : Thread _ _).loc main_arg0)) (m ((c.tc : Thread _ _).loc main_arg1)) (m ((c.tc : Thread _ _).loc main_arg2)), ?_, ?_⟩
  · exact (θ_run defs _ _).mono (fun _ h c => ⟨(h c).1.trans (Gen.arr3 m c), (h c).2⟩) (Value.run_blocks (F := Ideal) m g)
  · refine (θ_run Cert.Reference16Ideal.defs _ _).mono (fun _ h c => ?_) (reference_run m' g')
    obtain ⟨h0, hk⟩ := h c
    obtain ⟨e0, e1, e2⟩ := hagree c
    rw [e0, e1, e2] at h0
    exact ⟨h0, hk⟩

end Cert.Proof.MixOut
-- ==== Proof.DS.lean ====
/- What the call of the gradient through the second pointwise product leaves in its result. -/
module
public import proofs.«01_k».proof.Proof.Gen.Kernel17Ideal.Value
public import Idealize.ShloMosaic.Lib.Pipeline.ValueKit
public import Idealize.ShloMosaic.Lib.Pointwise
public import proofs.«01_k».proof.Proof.MlpSpec
public import proofs.«01_k».proof.Proof.ProjSpec
@[expose] public section
set_option maxRecDepth 16384
noncomputable section
namespace Cert.Kernel17Ideal.Gen
open Idealize.ShloMosaic Idealize.ShloMosaic.TcCoe Idealize.SL.Sem Mlp

variable (m : (ℓ : Loc nD τ sig) → Buf (Elt Ideal) ℓ) (c : Dev nD)

abbrev Dm : (⟨2, ![8320, 1024]⟩ : Shape).Idx → EReal := m ((c.tc : Thread nD τ).loc main_arg0)
abbrev Wm : (⟨2, ![1024, 1024]⟩ : Shape).Idx → EReal := m ((c.tc : Thread nD τ).loc main_arg1)

theorem lt13 (t : Fin cfg0.N) : t.val < 13 := by
  have := t.isLt
  have h : cfg0.N = 13 := N_0
  omega

/-- The weights as the call takes them, by the devices' rows. -/
theorem w_at : (V m c main_v1 : (⟨4, ![8, 1, 128, 1024]⟩ : Shape).Idx → EReal) = shapeCast S8x1x128x1024 (Wm m c) shapeCasts_S1024x1024_S8x1x128x1024 := by
  unfold V
  simp only [hostOps0, List.flatten_cons, List.flatten_nil, List.append_nil, List.cons_append, List.nil_append]
  after_results
  rfl

/-- What the body leaves at a place of its block. -/
theorem out_at (x0 : (⟨2, ![640, 1024]⟩ : Shape).Idx → EReal) (x1 : (⟨4, ![8, 1, 128, 1024]⟩ : Shape).Idx → EReal) (p : Fin 640) (l : Fin 1024) :
    out0_2 (F := Ideal) x0 x1 (ix2 p l) = ∑ k : Fin 1024, x0 (ix2 p k) * x1 (ix4 (⟨l.val / 128, by omega⟩ : Fin 8) 0 (⟨l.val % 128, by omega⟩ : Fin 128) k) := by
  frame_out
  pointwise [k0_pay1]

abbrev X0 (t : Fin cfg0.N) : (⟨2, ![640, 1024]⟩ : Shape).Idx → EReal := iblk m c 0 t
abbrev X1 (t : Fin cfg0.N) : (⟨4, ![8, 1, 128, 1024]⟩ : Shape).Idx → EReal := iblk m c 1 t

theorem idx_0 (t : Fin cfg0.N) : win0_0.index t = ![t.val, 0] :=
  (by decide +kernel : ∀ t : Fin grid0.N, win0_0.index t = ![t.val, 0]) t
theorem idx_1 (t : Fin cfg0.N) : win0_1.index t = ![0, 0, 0, 0] :=
  (by decide +kernel : ∀ t : Fin grid0.N, win0_1.index t = ![0, 0, 0, 0]) t
theorem idx_2 (t : Fin cfg0.N) : win0_2.index t = ![t.val, 0] :=
  (by decide +kernel : ∀ t : Fin grid0.N, win0_2.index t = ![t.val, 0]) t

/-- The product of the gradient with the transposed weights. -/
def val (D : (⟨2, ![8320, 1024]⟩ : Shape).Idx → EReal) (W : (⟨2, ![1024, 1024]⟩ : Shape).Idx → EReal) (n : Fin 8320) (l : Fin 1024) : EReal := ∑ k : Fin 1024, D (ix2 n k) * W (ix2 l k)

theorem blk0 (t : Fin cfg0.N) (p : Fin 640) (k : Fin 1024) : X0 m c t (ix2 p k) = (Dm m c) (ix2 (⟨640 * t.val + p.val, by have := lt13 t; omega⟩ : Fin 8320) k) := by
  blk_ext [X0, iblk, V_main_arg0, idx_0 t]

theorem rows_at (W : (⟨2, ![1024, 1024]⟩ : Shape).Idx → EReal) (d : Fin 8) (l : Fin 128) (k : Fin 1024) :
    shapeCast S8x1x128x1024 W shapeCasts_S1024x1024_S8x1x128x1024 (ix4 d 0 l k) = W (ix2 ⟨128 * d.val + l.val, by omega⟩ k) := by
  pointwise
  exact congrArg (fun q : Fin 1024 => W (ix2 q k)) (Fin.ext (by show d.val * 128 + l.val = 128 * d.val + l.val; omega))

theorem blk1 (t : Fin cfg0.N) (q : Fin 1024) (k : Fin 1024) : X1 m c t (ix4 (⟨q.val / 128, by omega⟩ : Fin 8) 0 (⟨q.val % 128, by omega⟩ : Fin 128) k) = (Wm m c) (ix2 q k) := by
  have hq : (⟨128 * (q.val / 128) + q.val % 128, by omega⟩ : Fin 1024) = q := Fin.ext (Nat.div_add_mod _ _)
  have h := rows_at (Wm m c) (⟨q.val / 128, by omega⟩ : Fin 8) (⟨q.val % 128, by omega⟩ : Fin 128) k
  rw [hq, ← w_at m c] at h
  rw [← h]
  blk_ext [X1, iblk, idx_1 t]

/-- The result, as the call leaves it. -/
def outF (D : (⟨2, ![8320, 1024]⟩ : Shape).Idx → EReal) (W : (⟨2, ![1024, 1024]⟩ : Shape).Idx → EReal) : (⟨2, ![8320, 1024]⟩ : Shape).Idx → EReal := fun x => val D W ⟨(x 0).val, (x 0).isLt⟩ ⟨(x 1).val, (x 1).isLt⟩

theorem arr2 : (dats m 0 c).arrAt 2 cfg0.N = outF (Dm m c) (Wm m c) := by
  refine (dats m 0 c).arrAt_eq_of_covers 2 _ (by decide +kernel) fun t hf y => ?_
  have h13 := lt13 t
  have y0 : (y 0).val < 640 := (y 0).isLt
  have y1 : (y 1).val < 1024 := (y 1).isLt
  have e : ((cfg0.win 2).blk t).view.emb y = ix2 (⟨640 * t.val + (y 0).val, by omega⟩ : Fin 8320) (⟨(y 1).val, y1⟩ : Fin 1024) := by
    blk_ext [idx_2 t]
  rw [e]
  blk_simp
  rw [after0_2]
  have hy : y = ix2 (⟨(y 0).val, y0⟩ : Fin 640) (⟨(y 1).val, y1⟩ : Fin 1024) := by
    funext a
    match a with
    | 0 => rfl
    | 1 => rfl
  refine (congrArg (out0_2 (F := Ideal) (X0 m c t) (X1 m c t)) hy).trans ((out_at (X0 m c t) (X1 m c t) _ _).trans ?_)
  simp only [blk0]
  exact Finset.sum_congr rfl fun k _ => congrArg (_ * ·) (blk1 m c t ⟨(y 1).val, y1⟩ k)

end Cert.Kernel17Ideal.Gen
-- ==== Proof.DSClaim.lean ====
/- The gradient through the second pointwise product is the derivative of the plain forward lines. -/
module
public import proofs.«01_k».proof.Defs
public import proofs.«01_k».proof.Proof.DS
public import proofs.«01_k».proof.Proof.Gen.Kernel17Ideal
public import proofs.«01_k».proof.Proof.Gen.Reference17Ideal
public import proofs.«01_k».proof.Proof.Gen.Reference17Ideal.Run
public import proofs.«01_k».proof.Proof.Gen.Reference17Ideal.Read
public import Idealize.ShloMosaic.Lib.Quiescent
public import Idealize.ShloMosaic.Lib.Pointwise
@[expose] public section
set_option maxRecDepth 16384
noncomputable section
namespace Cert.Proof.DS
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference17Ideal Cert.Reference17Ideal.Read
/-- The reference's result: the derivative of the product with respect to its left factor. -/
theorem ref (D : (⟨2, ![8320, 1024]⟩ : Shape).Idx → EReal) (W : (⟨2, ![1024, 1024]⟩ : Shape).Idx → EReal) :
    val_main_v2 (F := Ideal) D W = Cert.Kernel17Ideal.Gen.outF D W := by
  rw [← val_main_v2_eq]
  funext x
  rw [eta x]
  unfold Cert.Kernel17Ideal.Gen.outF Cert.Kernel17Ideal.Gen.val
  pointwise
end

open Cert.Reference17Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v2) = Cert.Kernel17Ideal.Gen.outF (m ((c.tc : Thread _ _).loc main_arg0)) (m ((c.tc : Thread _ _).loc main_arg1))
      ∧ r.2.mem ((c.tc : Thread _ _).loc main_arg0) = m ((c.tc : Thread _ _).loc main_arg0)
      ∧ r.2.mem ((c.tc : Thread _ _).loc main_arg1) = m ((c.tc : Thread _ _).loc main_arg1)) :=
  (θ_run defs _ _).mono (fun _ h c =>
    ⟨((h c).1.trans (Read.val_main_v2_eq _ _)).trans (ref _ _), (h c).2⟩) (Value.run (F := Ideal) m g)

/-- The reference's frame: it declares no semaphore. -/
theorem reference_frame : Cert.quiescent_Reference17Ideal := fun m g _ =>
  (θ_run Cert.Reference17Ideal.defs _ _).mono (fun r h => ⟨fun c => (h c).2, sem_eq_zero_of_no_sems (by decide) r.2⟩) (reference_run m g)

open Cert.Kernel17Ideal in
/-- The kernel's results are the reference's. -/
theorem algebraic : Cert.algebraic_Kernel17Ideal_Reference17Ideal := by
  intro m g m' g' _ hagree
  refine ⟨fun c => Gen.outF (m ((c.tc : Thread _ _).loc main_arg0)) (m ((c.tc : Thread _ _).loc main_arg1)), ?_, ?_⟩
  · exact (θ_run defs _ _).mono (fun _ h c => ⟨(h c).1.trans (Gen.arr2 m c), (h c).2⟩) (Value.run_blocks (F := Ideal) m g)
  · refine (θ_run Cert.Reference17Ideal.defs _ _).mono (fun _ h c => ?_) (reference_run m' g')
    obtain ⟨h0, hk⟩ := h c
    obtain ⟨e0, e1⟩ := hagree c
    rw [e0, e1] at h0
    exact ⟨h0, hk⟩

end Cert.Proof.DS
-- ==== Proof.Pw2W.lean ====
/- What the call that computes the gradient of the second pointwise weights leaves in its result. -/
module
public import proofs.«01_k».proof.Proof.Gen.Kernel18Ideal.Value
public import Idealize.ShloMosaic.Lib.Pipeline.ValueKit
public import Idealize.ShloMosaic.Lib.Pointwise
public import proofs.«01_k».proof.Proof.MlpSpec
public import proofs.«01_k».proof.Proof.ProjSpec
@[expose] public section
set_option maxRecDepth 16384
noncomputable section
namespace Cert.Kernel18Ideal.Gen
open Idealize.ShloMosaic Idealize.ShloMosaic.TcCoe Idealize.SL.Sem Mlp

variable (m : (ℓ : Loc nD τ sig) → Buf (Elt Ideal) ℓ) (c : Dev nD)

abbrev Am : (⟨2, ![8320, 1024]⟩ : Shape).Idx → EReal := m ((c.tc : Thread nD τ).loc main_arg0)
abbrev Dm : (⟨2, ![8320, 1024]⟩ : Shape).Idx → EReal := m ((c.tc : Thread nD τ).loc main_arg1)

/-- The rows, as the host line before the call leaves them. -/
theorem a_at : (V m c main_v0 : (⟨2, ![8320, 1024]⟩ : Shape).Idx → EReal) = Am m c := by
  unfold V
  simp only [hostOps0, List.flatten_cons, List.flatten_nil, List.append_nil, List.cons_append, List.nil_append]
  after_results
  rfl

theorem idx_0 : ∀ t : Fin cfg0.N, win0_0.index t = ![t.val % 5, 0] := by decide +kernel
theorem idx_1 : ∀ t : Fin cfg0.N, win0_1.index t = ![t.val % 5, 0] := by decide +kernel
theorem idx_2 : ∀ t : Fin cfg0.N, win0_2.index t = ![0, 0] := by decide +kernel

/-- Row `n` of column `k` of the left factor, and of column `l` of the gradient, zero past the last row. -/
def aN (A : (⟨2, ![8320, 1024]⟩ : Shape).Idx → EReal) (k : Fin 1024) (n : ℕ) : EReal := if h : n < 8320 then A (ix2 ⟨n, h⟩ k) else 0
def dN (D : (⟨2, ![8320, 1024]⟩ : Shape).Idx → EReal) (l : Fin 1024) (n : ℕ) : EReal := if h : n < 8320 then D (ix2 ⟨n, h⟩ l) else 0

theorem ltN (t : Fin cfg0.N) : t.val < 5 := by
  have := t.isLt
  have h : cfg0.N = 5 := N_0
  omega

/-- The column of the left factor that grid point `t` has at place `p` of its block. -/
def col (t : ℕ) (p : Fin 1024) : Fin 1024 := ⟨1024 * (t / 5 % 1) + p.val, by omega⟩

theorem blk0 (t : Fin cfg0.N) (p : Fin 1664) (k : Fin 1024) : iblk m c 0 t (ix2 p k) = aN (Am m c) (col t.val k) (1664 * (t.val % 5) + p.val) := by
  have h := ltN t
  rw [aN, dif_pos (by omega)]
  refine Eq.trans ?_ (congrFun (a_at m c) (ix2 (⟨1664 * (t.val % 5) + p.val, by omega⟩ : Fin 8320) (col t.val k)))
  unfold col
  blk_ext [iblk, idx_0 t]

theorem blk1 (t : Fin cfg0.N) (p : Fin 1664) (l : Fin 1024) : iblk m c 1 t (ix2 p l) = dN (Dm m c) l (1664 * (t.val % 5) + p.val) := by
  have h := ltN t
  rw [dN, dif_pos (by omega)]
  blk_ext [iblk, V_main_arg1, idx_1 t]

/-- The two input blocks of grid point `t`. -/
abbrev X0 (t : Fin cfg0.N) : (⟨2, ![1664, 1024]⟩ : Shape).Idx → EReal := iblk m c 0 t
abbrev X1 (t : Fin cfg0.N) : (⟨2, ![1664, 1024]⟩ : Shape).Idx → EReal := iblk m c 1 t

/-- What point `t` adds to the accumulator. -/
def addend (t : ℕ) (y : (⟨2, ![1024, 1024]⟩ : Shape).Idx) : EReal :=
  ∑ p : Fin 1664, aN (Am m c) (col t ⟨(y 0).val, (y 0).isLt⟩) (1664 * (t % 5) + p.val) * dN (Dm m c) ⟨(y 1).val, (y 1).isLt⟩ (1664 * (t % 5) + p.val)

theorem eta (y : (⟨2, ![1024, 1024]⟩ : Shape).Idx) : y = ix2 (⟨(y 0).val, (y 0).isLt⟩ : Fin 1024) (⟨(y 1).val, (y 1).isLt⟩ : Fin 1024) := by
  funext a; match a with | 0 => rfl | 1 => rfl

theorem prod_eq (t : Fin cfg0.N) (y : (⟨2, ![1024, 1024]⟩ : Shape).Idx) :
    ∑ p : Fin 1664, X0 m c t (ix2 p ⟨(y 0).val, (y 0).isLt⟩) * X1 m c t (ix2 p ⟨(y 1).val, (y 1).isLt⟩) = addend m c t.val y :=
  Finset.sum_congr rfl fun p _ => congrArg₂ (· * ·) (blk0 m c t p _) (blk1 m c t p _)

theorem step_A (t : Fin cfg0.N) (h0 : t.val % 5 = 0) (y : (⟨2, ![1024, 1024]⟩ : Shape).Idx) :
    (outsAt0 m c t.val t.isLt).2 y = 0 + addend m c t.val y := by
  rw [← prod_eq, outsAt0_A m c t h0 (by omega), eta y]
  dsimp only
  frame_out
  pointwise [k0_pay1, k0_pay2, k0_pay3]

theorem step_B (t : Fin cfg0.N) (h0 : ¬ t.val % 5 = 0) (y : (⟨2, ![1024, 1024]⟩ : Shape).Idx) :
    (outsAt0 m c t.val t.isLt).2 y = (outsAt0 m c (t.val - 1) (Nat.lt_of_le_of_lt (Nat.sub_le _ _) t.isLt)).2 y + addend m c t.val y := by
  rw [← prod_eq]
  by_cases h1 : t.val % 5 = 4
  · rw [outsAt0_C m c t h0 h1, eta y]
    dsimp only
    frame_out
    pointwise [k0_pay1, k0_pay2, k0_pay3]
    exact congrArg (· + _) (congrFun (Memref.IsWhole.read_unread _ _) _)
  · rw [outsAt0_B m c t h0 h1, eta y]
    dsimp only
    frame_out
    pointwise [k0_pay1, k0_pay2, k0_pay3]
    exact congrArg (· + _) (congrFun (Memref.IsWhole.read_unread _ _) _)

/-- The accumulator's last contents are what the point writes back. -/
theorem out_C (t : Fin cfg0.N) (h1 : t.val % 5 = 4) (y : (⟨2, ![1024, 1024]⟩ : Shape).Idx) :
    (outsAt0 m c t.val t.isLt).1 y = (outsAt0 m c t.val t.isLt).2 y := by
  rw [outsAt0_C m c t (by omega) h1, eta y]
  dsimp only
  frame_out
  pointwise [k0_pay1, k0_pay2, k0_pay3]

/-- The accumulator after the last of five points. -/
theorem last (t : Fin cfg0.N) (h : t.val % 5 = 4) (y : (⟨2, ![1024, 1024]⟩ : Shape).Idx) :
    (outsAt0 m c t.val t.isLt).1 y
      = ∑ n ∈ Finset.range 8320, aN (Am m c) (col t.val ⟨(y 0).val, (y 0).isLt⟩) n * dN (Dm m c) ⟨(y 1).val, (y 1).isLt⟩ n := by
  rw [out_C m c t h, Pipeline.eq_sum_of_reset_step_apply_of_mod (fun n h => (outsAt0 m c n h).2) 5 (fun _ => (0 : EReal))
    (addend m c) (step_A m c) (step_B m c) t h y, zero_add,
    show 8320 = 5 * 1664 from rfl, Finset.sum_range_mul_split 5 1664]
  refine Finset.sum_congr rfl fun k hk => ?_
  have hk : k < 5 := Finset.mem_range.mp hk
  rw [Finset.sum_range, addend]
  refine Finset.sum_congr rfl fun p _ => ?_
  have e1 : (5 * (t.val / 5) + k) % 5 = k := by omega
  have e2 : col (5 * (t.val / 5) + k) ⟨(y 0).val, (y 0).isLt⟩ = col t.val ⟨(y 0).val, (y 0).isLt⟩ := by
    unfold col
    have : (5 * (t.val / 5) + k) / 5 = t.val / 5 := by omega
    exact Fin.ext (by simp only [this])
  rw [e1, e2, Nat.mul_comm]

/-- The gradient of the weights, as the call leaves it. -/
def outF (A : (⟨2, ![8320, 1024]⟩ : Shape).Idx → EReal) (D : (⟨2, ![8320, 1024]⟩ : Shape).Idx → EReal) : (⟨2, ![1024, 1024]⟩ : Shape).Idx → EReal :=
  fun x => ∑ n : Fin 8320, A (ix2 n ⟨(x 0).val, (x 0).isLt⟩) * D (ix2 n ⟨(x 1).val, (x 1).isLt⟩)

theorem arr2 : (dats m 0 c).arrAt 2 cfg0.N = outF (Am m c) (Dm m c) := by
  refine (dats m 0 c).arrAt_eq_of_covers 2 _ (by decide +kernel) fun t hf y => ?_
  have hN := ltN t
  have e : ((cfg0.win 2).blk t).view.emb y = ix2 (⟨1024 * (t.val / 5) + (y 0).val, by have : (y 0).val < 1024 := (y 0).isLt; omega⟩ : Fin 1024) (⟨(y 1).val, (y 1).isLt⟩ : Fin 1024) := by
    have h0 : t.val / 5 = 0 := by omega
    simp only [h0, Nat.mul_zero, Nat.zero_add]
    blk_ext [idx_2 t]
  rw [e]
  blk_simp
  rw [after0_2]
  refine (last m c t ((flush0_2 t).mp hf) y).trans ?_
  rw [Finset.sum_range]
  refine Finset.sum_congr rfl fun n _ => ?_
  rw [aN, dif_pos n.isLt, dN, dif_pos n.isLt]
  have e3 : col t.val ⟨(y 0).val, (y 0).isLt⟩ = ⟨1024 * (t.val / 5) + (y 0).val, by have : (y 0).val < 1024 := (y 0).isLt; omega⟩ := by
    unfold col
    apply Fin.ext
    show 1024 * (t.val / 5 % 1) + (y 0).val = _
    have : t.val / 5 % 1 = t.val / 5 := by omega
    rw [this]
  rw [e3]
  rfl

end Cert.Kernel18Ideal.Gen
-- ==== Proof.Pw2WClaim.lean ====
/- The gradient of the second pointwise weights is the derivative of the plain forward lines. -/
module
public import proofs.«01_k».proof.Defs
public import proofs.«01_k».proof.Proof.Pw2W
public import proofs.«01_k».proof.Proof.Gen.Kernel18Ideal
public import proofs.«01_k».proof.Proof.Gen.Reference18Ideal
public import proofs.«01_k».proof.Proof.Gen.Reference18Ideal.Run
public import proofs.«01_k».proof.Proof.Gen.Reference18Ideal.Read
public import Idealize.ShloMosaic.Lib.Quiescent
public import Idealize.ShloMosaic.Lib.Pointwise
@[expose] public section
set_option maxRecDepth 16384
noncomputable section
namespace Cert.Proof.Pw2W
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference18Ideal Cert.Reference18Ideal.Read
/-- The reference's result: the derivative of the product with respect to its right factor. -/
theorem ref (A : (⟨2, ![8320, 1024]⟩ : Shape).Idx → EReal) (D : (⟨2, ![8320, 1024]⟩ : Shape).Idx → EReal) :
    val_main_v4 (F := Ideal) A D = Cert.Kernel18Ideal.Gen.outF A D := by
  rw [← val_main_v4_eq]
  funext x
  rw [eta x]
  unfold Cert.Kernel18Ideal.Gen.outF
  pointwise
  exact Finset.sum_congr rfl fun n _ => mul_comm _ _
end

open Cert.Reference18Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v4) = Cert.Kernel18Ideal.Gen.outF (m ((c.tc : Thread _ _).loc main_arg0)) (m ((c.tc : Thread _ _).loc main_arg1))
      ∧ r.2.mem ((c.tc : Thread _ _).loc main_arg0) = m ((c.tc : Thread _ _).loc main_arg0)
      ∧ r.2.mem ((c.tc : Thread _ _).loc main_arg1) = m ((c.tc : Thread _ _).loc main_arg1)) :=
  (θ_run defs _ _).mono (fun _ h c =>
    ⟨((h c).1.trans (Read.val_main_v4_eq _ _)).trans (ref _ _), (h c).2⟩) (Value.run (F := Ideal) m g)

/-- The reference's frame: it declares no semaphore. -/
theorem reference_frame : Cert.quiescent_Reference18Ideal := fun m g _ =>
  (θ_run Cert.Reference18Ideal.defs _ _).mono (fun r h => ⟨fun c => (h c).2, sem_eq_zero_of_no_sems (by decide) r.2⟩) (reference_run m g)

open Cert.Kernel18Ideal in
/-- The kernel's results are the reference's. -/
theorem algebraic : Cert.algebraic_Kernel18Ideal_Reference18Ideal := by
  intro m g m' g' _ hagree
  refine ⟨fun c => Gen.outF (m ((c.tc : Thread _ _).loc main_arg0)) (m ((c.tc : Thread _ _).loc main_arg1)), ?_, ?_⟩
  · exact (θ_run defs _ _).mono (fun _ h c => ⟨(h c).1.trans (Gen.arr2 m c), (h c).2⟩) (Value.run_blocks (F := Ideal) m g)
  · refine (θ_run Cert.Reference18Ideal.defs _ _).mono (fun _ h c => ?_) (reference_run m' g')
    obtain ⟨h0, hk⟩ := h c
    obtain ⟨e0, e1⟩ := hagree c
    rw [e0, e1] at h0
    exact ⟨h0, hk⟩

end Cert.Proof.Pw2W
-- ==== Proof.Pw2.lean ====
/- What the call of the second pointwise product, with its bias and residual, leaves in its result. -/
module
public import proofs.«01_k».proof.Proof.Gen.Kernel19Ideal.Value
public import Idealize.ShloMosaic.Lib.Pipeline.ValueKit
public import Idealize.ShloMosaic.Lib.Pointwise
public import proofs.«01_k».proof.Proof.MlpSpec
public import proofs.«01_k».proof.Proof.ProjSpec
@[expose] public section
set_option maxRecDepth 16384
noncomputable section
namespace Cert.Kernel19Ideal.Gen
open Idealize.ShloMosaic Idealize.ShloMosaic.TcCoe Idealize.SL.Sem Mlp

variable (m : (ℓ : Loc nD τ sig) → Buf (Elt Ideal) ℓ) (c : Dev nD)

abbrev Am : (⟨2, ![8320, 1024]⟩ : Shape).Idx → EReal := m ((c.tc : Thread nD τ).loc main_arg0)
abbrev Wm : (⟨2, ![1024, 1024]⟩ : Shape).Idx → EReal := m ((c.tc : Thread nD τ).loc main_arg1)
abbrev Bm : (⟨2, ![1, 1024]⟩ : Shape).Idx → EReal := m ((c.tc : Thread nD τ).loc main_arg2)
abbrev Hm : (⟨2, ![8320, 1024]⟩ : Shape).Idx → EReal := m ((c.tc : Thread nD τ).loc main_arg3)

theorem lt13 (t : Fin cfg0.N) : t.val < 13 := by
  have := t.isLt
  have h : cfg0.N = 13 := N_0
  omega

/-- The rows, as the host line before the call leaves them. -/
theorem a_at : (V m c main_v0 : (⟨2, ![8320, 1024]⟩ : Shape).Idx → EReal) = Am m c := by
  unfold V
  simp only [hostOps0, List.flatten_cons, List.flatten_nil, List.append_nil, List.cons_append, List.nil_append]
  after_results
  rfl

/-- The weights as the call takes them, by the devices' rows. -/
theorem w_at : (V m c main_v2 : (⟨4, ![8, 1, 128, 1024]⟩ : Shape).Idx → EReal) = shapeCast S8x1x128x1024 (Wm m c) shapeCasts_S1024x1024_S8x1x128x1024 := by
  unfold V
  simp only [hostOps0, List.flatten_cons, List.flatten_nil, List.append_nil, List.cons_append, List.nil_append]
  after_results
  rfl

/-- What the body leaves at a place of its block. -/
theorem out_at (i : grid0.Coords) (x0 : (⟨2, ![640, 1024]⟩ : Shape).Idx → EReal) (x1 : (⟨4, ![8, 1, 128, 1024]⟩ : Shape).Idx → EReal) (x2 : (⟨2, ![1, 1024]⟩ : Shape).Idx → EReal) (x3 : (⟨2, ![640, 1024]⟩ : Shape).Idx → EReal) (p : Fin 640) (l : Fin 1024) :
    out0_4 (F := Ideal) i x0 x1 x2 x3 (ix2 p l) = past (640 * (i 0).val + p.val) (x3 (ix2 p l)) (((∑ k : Fin 1024, x0 (ix2 p k) * x1 (ix4 (⟨k.val / 128, by omega⟩ : Fin 8) 0 (⟨k.val % 128, by omega⟩ : Fin 128) l)) + x2 (ix2 0 l))) := by
  unfold past
  frame_out
  pointwise [k0_pay1]
  rw [mask_row _ _ (i 0).isLt p.isLt, pick]

abbrev X0 (t : Fin cfg0.N) : (⟨2, ![640, 1024]⟩ : Shape).Idx → EReal := iblk m c 0 t
abbrev X1 (t : Fin cfg0.N) : (⟨4, ![8, 1, 128, 1024]⟩ : Shape).Idx → EReal := iblk m c 1 t
abbrev X2 (t : Fin cfg0.N) : (⟨2, ![1, 1024]⟩ : Shape).Idx → EReal := iblk m c 2 t
abbrev X3 (t : Fin cfg0.N) : (⟨2, ![640, 1024]⟩ : Shape).Idx → EReal := iblk m c 3 t

theorem idx_0 (t : Fin cfg0.N) : win0_0.index t = ![t.val, 0] :=
  (by decide +kernel : ∀ t : Fin grid0.N, win0_0.index t = ![t.val, 0]) t
theorem idx_1 (t : Fin cfg0.N) : win0_1.index t = ![0, 0, 0, 0] :=
  (by decide +kernel : ∀ t : Fin grid0.N, win0_1.index t = ![0, 0, 0, 0]) t
theorem idx_2 (t : Fin cfg0.N) : win0_2.index t = ![0, 0] :=
  (by decide +kernel : ∀ t : Fin grid0.N, win0_2.index t = ![0, 0]) t
theorem idx_3 (t : Fin cfg0.N) : win0_3.index t = ![t.val, 0] :=
  (by decide +kernel : ∀ t : Fin grid0.N, win0_3.index t = ![t.val, 0]) t
theorem idx_4 (t : Fin cfg0.N) : win0_4.index t = ![t.val, 0] :=
  (by decide +kernel : ∀ t : Fin grid0.N, win0_4.index t = ![t.val, 0]) t

theorem coord_0 (t : Fin cfg0.N) : (grid0.coords t 0).val = t.val :=
  (by decide +kernel : ∀ t : Fin grid0.N, (grid0.coords t 0).val = t.val) t

/-- The residual plus the product of the rows with the weights and the bias, which the padding rows do not get. -/
def val (A : (⟨2, ![8320, 1024]⟩ : Shape).Idx → EReal) (W : (⟨2, ![1024, 1024]⟩ : Shape).Idx → EReal) (B : (⟨2, ![1, 1024]⟩ : Shape).Idx → EReal) (H : (⟨2, ![8320, 1024]⟩ : Shape).Idx → EReal) (n : Fin 8320) (l : Fin 1024) : EReal := past n.val (H (ix2 n l)) (((∑ k : Fin 1024, A (ix2 n k) * W (ix2 k l)) + B (ix2 0 l)))

theorem blk0 (t : Fin cfg0.N) (p : Fin 640) (k : Fin 1024) : X0 m c t (ix2 p k) = (Am m c) (ix2 (⟨640 * t.val + p.val, by have := lt13 t; omega⟩ : Fin 8320) k) := by
  refine Eq.trans ?_ (congrFun (a_at m c) (ix2 (⟨640 * t.val + p.val, by have := lt13 t; omega⟩ : Fin 8320) k))
  blk_ext [X0, iblk, idx_0 t]

theorem rows_at (W : (⟨2, ![1024, 1024]⟩ : Shape).Idx → EReal) (d : Fin 8) (l : Fin 128) (k : Fin 1024) :
    shapeCast S8x1x128x1024 W shapeCasts_S1024x1024_S8x1x128x1024 (ix4 d 0 l k) = W (ix2 ⟨128 * d.val + l.val, by omega⟩ k) := by
  pointwise
  exact congrArg (fun q : Fin 1024 => W (ix2 q k)) (Fin.ext (by show d.val * 128 + l.val = 128 * d.val + l.val; omega))

theorem blk1 (t : Fin cfg0.N) (q : Fin 1024) (k : Fin 1024) : X1 m c t (ix4 (⟨q.val / 128, by omega⟩ : Fin 8) 0 (⟨q.val % 128, by omega⟩ : Fin 128) k) = (Wm m c) (ix2 q k) := by
  have hq : (⟨128 * (q.val / 128) + q.val % 128, by omega⟩ : Fin 1024) = q := Fin.ext (Nat.div_add_mod _ _)
  have h := rows_at (Wm m c) (⟨q.val / 128, by omega⟩ : Fin 8) (⟨q.val % 128, by omega⟩ : Fin 128) k
  rw [hq, ← w_at m c] at h
  rw [← h]
  blk_ext [X1, iblk, idx_1 t]

theorem blk2 (t : Fin cfg0.N) (l : Fin 1024) : X2 m c t (ix2 0 l) = (Bm m c) (ix2 0 l) := by
  blk_ext [X2, iblk, V_main_arg2, idx_2 t]

theorem blkH (t : Fin cfg0.N) (p : Fin 640) (l : Fin 1024) : X3 m c t (ix2 p l) = (Hm m c) (ix2 (⟨640 * t.val + p.val, by have := lt13 t; omega⟩ : Fin 8320) l) := by
  blk_ext [X3, iblk, V_main_arg3, idx_3 t]

/-- The result, as the call leaves it. -/
def outF (A : (⟨2, ![8320, 1024]⟩ : Shape).Idx → EReal) (W : (⟨2, ![1024, 1024]⟩ : Shape).Idx → EReal) (B : (⟨2, ![1, 1024]⟩ : Shape).Idx → EReal) (H : (⟨2, ![8320, 1024]⟩ : Shape).Idx → EReal) : (⟨2, ![8320, 1024]⟩ : Shape).Idx → EReal := fun x => val A W B H ⟨(x 0).val, (x 0).isLt⟩ ⟨(x 1).val, (x 1).isLt⟩

theorem arr4 : (dats m 0 c).arrAt 4 cfg0.N = outF (Am m c) (Wm m c) (Bm m c) (Hm m c) := by
  refine (dats m 0 c).arrAt_eq_of_covers 4 _ (by decide +kernel) fun t hf y => ?_
  have h13 := lt13 t
  have y0 : (y 0).val < 640 := (y 0).isLt
  have y1 : (y 1).val < 1024 := (y 1).isLt
  have e : ((cfg0.win 4).blk t).view.emb y = ix2 (⟨640 * t.val + (y 0).val, by omega⟩ : Fin 8320) (⟨(y 1).val, y1⟩ : Fin 1024) := by
    blk_ext [idx_4 t]
  rw [e]
  blk_simp
  rw [after0_4]
  have hy : y = ix2 (⟨(y 0).val, y0⟩ : Fin 640) (⟨(y 1).val, y1⟩ : Fin 1024) := by
    funext a
    match a with
    | 0 => rfl
    | 1 => rfl
  refine (congrArg (out0_4 (F := Ideal) (grid0.coords t) (X0 m c t) (X1 m c t) (X2 m c t) (X3 m c t)) hy).trans ((out_at (grid0.coords t) (X0 m c t) (X1 m c t) (X2 m c t) (X3 m c t) _ _).trans ?_)
  simp only [blk0, blk1, blk2, blkH, coord_0]
  rfl

end Cert.Kernel19Ideal.Gen
-- ==== Proof.Pw2Claim.lean ====
/- The second pointwise product with its bias and residual is the plain forward lines. -/
module
public import proofs.«01_k».proof.Defs
public import proofs.«01_k».proof.Proof.Pw2
public import proofs.«01_k».proof.Proof.Gen.Kernel19Ideal
public import proofs.«01_k».proof.Proof.Gen.Reference19Ideal
public import proofs.«01_k».proof.Proof.Gen.Reference19Ideal.Run
public import proofs.«01_k».proof.Proof.Gen.Reference19Ideal.Read
public import Idealize.ShloMosaic.Lib.Quiescent
public import Idealize.ShloMosaic.Lib.Pointwise
@[expose] public section
set_option maxRecDepth 16384
noncomputable section
namespace Cert.Proof.Pw2
open Idealize.ShloMosaic Idealize.ShloMosaic.TcCoe Idealize.SL.Sem

theorem eta {n k : ℕ} (x : (⟨2, ![n, k]⟩ : Shape).Idx) : x = ix2 (⟨(x 0).val, (x 0).isLt⟩ : Fin n) (⟨(x 1).val, (x 1).isLt⟩ : Fin k) := by
  funext a; match a with | 0 => rfl | 1 => rfl

section
open Cert.Reference19Ideal Cert.Reference19Ideal.Read
/-- The reference's result: the residual and the biased product, past the padding. -/
theorem ref (A : (⟨2, ![8320, 1024]⟩ : Shape).Idx → EReal) (W : (⟨2, ![1024, 1024]⟩ : Shape).Idx → EReal) (B : (⟨2, ![1, 1024]⟩ : Shape).Idx → EReal) (H : (⟨2, ![8320, 1024]⟩ : Shape).Idx → EReal) :
    val_main_v8 (F := Ideal) A W B H = Cert.Kernel19Ideal.Gen.outF A W B H := by
  rw [← val_main_v8_eq]
  funext x
  rw [eta x]
  unfold Cert.Kernel19Ideal.Gen.outF Cert.Kernel19Ideal.Gen.val Mlp.past
  pointwise
  rw [Mlp.mask_all _ (x 0).isLt, Mlp.pick, show (id (constant (F := Ideal) S_ FTy.f32 0#32) ix0 : EReal) = 0 from by rw [id]; pointwise]
end

open Cert.Reference19Ideal in
/-- The reference's run, its results named. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread _ _).loc main_v8) = Cert.Kernel19Ideal.Gen.outF (m ((c.tc : Thread _ _).loc main_arg0)) (m ((c.tc : Thread _ _).loc main_arg1)) (m ((c.tc : Thread _ _).loc main_arg2)) (m ((c.tc : Thread _ _).loc main_arg3))
      ∧ r.2.mem ((c.tc : Thread _ _).loc main_arg0) = m ((c.tc : Thread _ _).loc main_arg0)
      ∧ r.2.mem ((c.tc : Thread _ _).loc main_arg1) = m ((c.tc : Thread _ _).loc main_arg1)
      ∧ r.2.mem ((c.tc : Thread _ _).loc main_arg2) = m ((c.tc : Thread _ _).loc main_arg2)
      ∧ r.2.mem ((c.tc : Thread _ _).loc main_arg3) = m ((c.tc : Thread _ _).loc main_arg3)) :=
  (θ_run defs _ _).mono (fun _ h c =>
    ⟨((h c).1.trans (Read.val_main_v8_eq _ _ _ _)).trans (ref _ _ _ _), (h c).2⟩) (Value.run (F := Ideal) m g)

/-- The reference's frame: it declares no semaphore. -/
theorem reference_frame : Cert.quiescent_Reference19Ideal := fun m g _ =>
  (θ_run Cert.Reference19Ideal.defs _ _).mono (fun r h => ⟨fun c => (h c).2, sem_eq_zero_of_no_sems (by decide) r.2⟩) (reference_run m g)

open Cert.Kernel19Ideal in
/-- The kernel's results are the reference's. -/
theorem algebraic : Cert.algebraic_Kernel19Ideal_Reference19Ideal := by
  intro m g m' g' _ hagree
  refine ⟨fun c => Gen.outF (m ((c.tc : Thread _ _).loc main_arg0)) (m ((c.tc : Thread _ _).loc main_arg1)) (m ((c.tc : Thread _ _).loc main_arg2)) (m ((c.tc : Thread _ _).loc main_arg3)), ?_, ?_⟩
  · exact (θ_run defs _ _).mono (fun _ h c => ⟨(h c).1.trans (Gen.arr4 m c), (h c).2⟩) (Value.run_blocks (F := Ideal) m g)
  · refine (θ_run Cert.Reference19Ideal.defs _ _).mono (fun _ h c => ?_) (reference_run m' g')
    obtain ⟨h0, hk⟩ := h c
    obtain ⟨e0, e1, e2, e3⟩ := hagree c
    rw [e0, e1, e2, e3] at h0
    exact ⟨h0, hk⟩

end Cert.Proof.Pw2
-- ==== Proof.lean ====
module

public import proofs.«01_k».proof.Defs
public import proofs.«01_k».proof.Proof.ConvClaim
public import proofs.«01_k».proof.Proof.DactClaim
public import proofs.«01_k».proof.Proof.DownWClaim
public import proofs.«01_k».proof.Proof.UpWClaim
public import proofs.«01_k».proof.Proof.DuClaim
public import proofs.«01_k».proof.Proof.UpClaim
public import proofs.«01_k».proof.Proof.LnClaim
public import proofs.«01_k».proof.Proof.MidClaim
public import proofs.«01_k».proof.Proof.SsdClaim
public import proofs.«01_k».proof.Proof.RmsFwdClaim
public import proofs.«01_k».proof.Proof.LossClaim
public import proofs.«01_k».proof.Proof.ColSumClaim
public import proofs.«01_k».proof.Proof.AdamInClaim
public import proofs.«01_k».proof.Proof.AdamOutClaim
public import proofs.«01_k».proof.Proof.AdamPw1Claim
public import proofs.«01_k».proof.Proof.AdamPw2Claim
public import proofs.«01_k».proof.Proof.AdamUpClaim
public import proofs.«01_k».proof.Proof.AdamDownClaim
public import proofs.«01_k».proof.Proof.AdamSmallClaim
public import proofs.«01_k».proof.Proof.DownClaim
public import proofs.«01_k».proof.Proof.MixInClaim
public import proofs.«01_k».proof.Proof.InWClaim
public import proofs.«01_k».proof.Proof.ProjClaim
public import proofs.«01_k».proof.Proof.Pw1InClaim
public import proofs.«01_k».proof.Proof.Pw1WClaim
public import proofs.«01_k».proof.Proof.Pw1Claim
public import proofs.«01_k».proof.Proof.DMixClaim
public import proofs.«01_k».proof.Proof.OutWClaim
public import proofs.«01_k».proof.Proof.MixOutClaim
public import proofs.«01_k».proof.Proof.DSClaim
public import proofs.«01_k».proof.Proof.Pw2WClaim
public import proofs.«01_k».proof.Proof.Pw2Claim
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Adequacy
public import Idealize.ShloMosaic.Init
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read

@[expose] public section

noncomputable section

namespace Cert.Proof

open Idealize.ShloMosaic Idealize.SL.Sem Cert.Kernel

/-- The side condition of the precondition's one broadcast. -/
theorem preFacts : Cert.Pre_representable.Facts := ⟨Cert.Kernel2Ideal.Gen.facts.bcast_S_S8320x4096⟩

instance : Cert.Pre_representable.Facts := preFacts

/-- The side conditions of the other precondition's broadcasts. -/
theorem preFiniteFacts : Cert.Pre_finite.Facts := ⟨by decide, by decide, by decide⟩

instance : Cert.Pre_finite.Facts := preFiniteFacts

/-- Every claim: for each call the two generated frames of the kernel, the reference's frame, and the equality of the results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts,
  Cert.Kernel33.Gen.facts, Cert.Kernel33Ideal.Gen.facts, Cert.Reference33Ideal.Gen.facts,
  preFacts, preFiniteFacts,
  fun m g _ => Cert.Kernel.Gen.frame m g, fun m g _ => Cert.KernelIdeal.Gen.frame m g, conv_reference_frame,
  fun m g _ => Cert.Kernel2.Gen.frame m g, fun m g _ => Cert.Kernel2Ideal.Gen.frame m g, fun m g _ => Cert.Kernel2Ideal.Gen.frame m g, Dact.reference_frame, Dact.reference_frame_pre,
  fun m g _ => Cert.Kernel3.Gen.frame m g, fun m g _ => Cert.Kernel3Ideal.Gen.frame m g, DownW.reference_frame,
  fun m g _ => Cert.Kernel4.Gen.frame m g, fun m g _ => Cert.Kernel4Ideal.Gen.frame m g, UpW.reference_frame,
  fun m g _ => Cert.Kernel5.Gen.frame m g, fun m g _ => Cert.Kernel5Ideal.Gen.frame m g, Du.reference_frame,
  fun m g _ => Cert.Kernel6.Gen.frame m g, fun m g _ => Cert.Kernel6Ideal.Gen.frame m g, Up.reference_frame,
  fun m g _ => Cert.Kernel7.Gen.frame m g, fun m g _ => Cert.Kernel7Ideal.Gen.frame m g, Down.reference_frame,
  fun m g _ => Cert.Kernel8.Gen.frame m g, fun m g _ => Cert.Kernel8Ideal.Gen.frame m g, MixIn.reference_frame,
  fun m g _ => Cert.Kernel9.Gen.frame m g, fun m g _ => Cert.Kernel9Ideal.Gen.frame m g, InW.reference_frame,
  fun m g _ => Cert.Kernel10.Gen.frame m g, fun m g _ => Cert.Kernel10Ideal.Gen.frame m g, Proj.reference_frame,
  fun m g _ => Cert.Kernel11.Gen.frame m g, fun m g _ => Cert.Kernel11Ideal.Gen.frame m g, Pw1In.reference_frame,
  fun m g _ => Cert.Kernel12.Gen.frame m g, fun m g _ => Cert.Kernel12Ideal.Gen.frame m g, Pw1W.reference_frame,
  fun m g _ => Cert.Kernel13.Gen.frame m g, fun m g _ => Cert.Kernel13Ideal.Gen.frame m g, Pw1.reference_frame,
  fun m g _ => Cert.Kernel14.Gen.frame m g, fun m g _ => Cert.Kernel14Ideal.Gen.frame m g, DMix.reference_frame,
  fun m g _ => Cert.Kernel15.Gen.frame m g, fun m g _ => Cert.Kernel15Ideal.Gen.frame m g, OutW.reference_frame,
  fun m g _ => Cert.Kernel16.Gen.frame m g, fun m g _ => Cert.Kernel16Ideal.Gen.frame m g, MixOut.reference_frame,
  fun m g _ => Cert.Kernel17.Gen.frame m g, fun m g _ => Cert.Kernel17Ideal.Gen.frame m g, DS.reference_frame,
  fun m g _ => Cert.Kernel18.Gen.frame m g, fun m g _ => Cert.Kernel18Ideal.Gen.frame m g, Pw2W.reference_frame,
  fun m g _ => Cert.Kernel19.Gen.frame m g, fun m g _ => Cert.Kernel19Ideal.Gen.frame m g, Pw2.reference_frame,
  fun m g _ => Cert.Kernel20.Gen.frame m g, fun m g _ => Cert.Kernel20Ideal.Gen.frame m g, fun m g _ => Cert.Kernel20Ideal.Gen.frame m g, Ln.reference_frame, Ln.reference_frame_pre,
  fun m g _ => Cert.Kernel21.Gen.frame m g, fun m g _ => Cert.Kernel21Ideal.Gen.frame m g, Mid.reference_frame,
  fun m g _ => Cert.Kernel22.Gen.frame m g, fun m g _ => Cert.Kernel22Ideal.Gen.frame m g, RmsFwd.reference_frame,
  fun m g _ => Cert.Kernel23.Gen.frame m g, fun m g _ => Cert.Kernel23Ideal.Gen.frame m g, Loss.reference_frame,
  fun m g _ => Cert.Kernel24.Gen.frame m g, fun m g _ => Cert.Kernel24Ideal.Gen.frame m g, ColSum.reference_frame,
  fun m g _ => Cert.Kernel25.Gen.frame m g, fun m g _ => Cert.Kernel25Ideal.Gen.frame m g, AdamIn.reference_frame,
  fun m g _ => Cert.Kernel26.Gen.frame m g, fun m g _ => Cert.Kernel26Ideal.Gen.frame m g, AdamOut.reference_frame,
  fun m g _ => Cert.Kernel27.Gen.frame m g, fun m g _ => Cert.Kernel27Ideal.Gen.frame m g, AdamPw1.reference_frame,
  fun m g _ => Cert.Kernel28.Gen.frame m g, fun m g _ => Cert.Kernel28Ideal.Gen.frame m g, AdamPw2.reference_frame,
  fun m g _ => Cert.Kernel29.Gen.frame m g, fun m g _ => Cert.Kernel29Ideal.Gen.frame m g, AdamUp.reference_frame,
  fun m g _ => Cert.Kernel30.Gen.frame m g, fun m g _ => Cert.Kernel30Ideal.Gen.frame m g, AdamDown.reference_frame,
  fun m g _ => Cert.Kernel31.Gen.frame m g, fun m g _ => Cert.Kernel31Ideal.Gen.frame m g, AdamSmall.reference_frame,
  fun m g _ => Cert.Kernel32.Gen.frame m g, fun m g _ => Cert.Kernel32Ideal.Gen.frame m g,
  fun m g _ => Cert.Kernel33.Gen.frame m g, fun m g _ => Cert.Kernel33Ideal.Gen.frame m g, Ssd.reference_frame,
  trivial, conv_algebraic, trivial, Dact.algebraic, trivial, DownW.algebraic, trivial, UpW.algebraic, trivial, Du.algebraic, trivial, Up.algebraic,
  trivial, Down.algebraic, trivial, MixIn.algebraic, trivial, InW.algebraic, trivial, Proj.algebraic, trivial, Pw1In.algebraic, trivial, Pw1W.algebraic, trivial, Pw1.algebraic, trivial, DMix.algebraic, trivial, OutW.algebraic, trivial, MixOut.algebraic, trivial, DS.algebraic, trivial, Pw2W.algebraic, trivial, Pw2.algebraic,
  trivial, Ln.algebraic, trivial, Mid.algebraic, trivial, RmsFwd.algebraic, trivial, Loss.algebraic, trivial, ColSum.algebraic,
  trivial, AdamIn.algebraic, trivial, AdamOut.algebraic, trivial, AdamPw1.algebraic, trivial, AdamPw2.algebraic, trivial, AdamUp.algebraic, trivial, AdamDown.algebraic, trivial, AdamSmall.algebraic,
  trivial, trivial, Ssd.algebraic⟩

end Cert.Proof

end
